-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_Ici (m : (ℓ : Loc Cert.Ici.nD Cert.Ici.τ Cert.Ici.sig) → Buf (Elt Bits) ℓ) : Prop :=
  True

def Pre_IciIdeal (m : (ℓ : Loc Cert.IciIdeal.nD Cert.IciIdeal.τ Cert.IciIdeal.sig) → Buf (Elt Ideal) ℓ) : Prop :=
  True

def Pre_IciRefIdeal (m : (ℓ : Loc Cert.IciRefIdeal.nD Cert.IciRefIdeal.τ Cert.IciRefIdeal.sig) → Buf (Elt Ideal) ℓ) : Prop :=
  True

def Pre_IciRef (m : (ℓ : Loc Cert.IciRef.nD Cert.IciRef.τ Cert.IciRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOutConv (m : (ℓ : Loc Cert.DwOutConv.nD Cert.DwOutConv.τ Cert.DwOutConv.sig) → Buf (Elt Bits) ℓ) : Prop :=
  True

def Pre_DwOutConvIdeal (m : (ℓ : Loc Cert.DwOutConvIdeal.nD Cert.DwOutConvIdeal.τ Cert.DwOutConvIdeal.sig) → Buf (Elt Ideal) ℓ) : Prop :=
  True

def Pre_DwOutConvRefIdeal (m : (ℓ : Loc Cert.DwOutConvRefIdeal.nD Cert.DwOutConvRefIdeal.τ Cert.DwOutConvRefIdeal.sig) → Buf (Elt Ideal) ℓ) : Prop :=
  True

def Pre_DwOutFox (m : (ℓ : Loc Cert.DwOutFox.nD Cert.DwOutFox.τ Cert.DwOutFox.sig) → Buf (Elt Bits) ℓ) : Prop :=
  True

def Pre_DwOutFoxIdeal (m : (ℓ : Loc Cert.DwOutFoxIdeal.nD Cert.DwOutFoxIdeal.τ Cert.DwOutFoxIdeal.sig) → Buf (Elt Ideal) ℓ) : Prop :=
  True

def Pre_DwOutFoxRefIdeal (m : (ℓ : Loc Cert.DwOutFoxRefIdeal.nD Cert.DwOutFoxRefIdeal.τ Cert.DwOutFoxRefIdeal.sig) → Buf (Elt Ideal) ℓ) : Prop :=
  True

def Pre_DwMq (m : (ℓ : Loc Cert.DwMq.nD Cert.DwMq.τ Cert.DwMq.sig) → Buf (Elt Bits) ℓ) : Prop :=
  True

def Pre_DwMqIdeal (m : (ℓ : Loc Cert.DwMqIdeal.nD Cert.DwMqIdeal.τ Cert.DwMqIdeal.sig) → Buf (Elt Ideal) ℓ) : Prop :=
  True

def Pre_DwMqRefIdeal (m : (ℓ : Loc Cert.DwMqRefIdeal.nD Cert.DwMqRefIdeal.τ Cert.DwMqRefIdeal.sig) → Buf (Elt Ideal) ℓ) : Prop :=
  True

def Pre_DwMkv (m : (ℓ : Loc Cert.DwMkv.nD Cert.DwMkv.τ Cert.DwMkv.sig) → Buf (Elt Bits) ℓ) : Prop :=
  True

def Pre_DwMkvIdeal (m : (ℓ : Loc Cert.DwMkvIdeal.nD Cert.DwMkvIdeal.τ Cert.DwMkvIdeal.sig) → Buf (Elt Ideal) ℓ) : Prop :=
  True

def Pre_DwMkvRefIdeal (m : (ℓ : Loc Cert.DwMkvRefIdeal.nD Cert.DwMkvRefIdeal.τ Cert.DwMkvRefIdeal.sig) → Buf (Elt Ideal) ℓ) : Prop :=
  True

def Pre_DwMo (m : (ℓ : Loc Cert.DwMo.nD Cert.DwMo.τ Cert.DwMo.sig) → Buf (Elt Bits) ℓ) : Prop :=
  True

def Pre_DwMoIdeal (m : (ℓ : Loc Cert.DwMoIdeal.nD Cert.DwMoIdeal.τ Cert.DwMoIdeal.sig) → Buf (Elt Ideal) ℓ) : Prop :=
  True

def Pre_DwMoRefIdeal (m : (ℓ : Loc Cert.DwMoRefIdeal.nD Cert.DwMoRefIdeal.τ Cert.DwMoRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_BwdMem (m : (ℓ : Loc Cert.BwdMem.nD Cert.BwdMem.τ Cert.BwdMem.sig) → Buf (Elt Bits) ℓ) : Prop :=
  True

def Pre_BwdMemIdeal (m : (ℓ : Loc Cert.BwdMemIdeal.nD Cert.BwdMemIdeal.τ Cert.BwdMemIdeal.sig) → Buf (Elt Ideal) ℓ) : Prop :=
  True

def Pre_BwdMemRefIdeal (m : (ℓ : Loc Cert.BwdMemRefIdeal.nD Cert.BwdMemRefIdeal.τ Cert.BwdMemRefIdeal.sig) → Buf (Elt Ideal) ℓ) : Prop :=
  True

def Pre_FwdFfn (m : (ℓ : Loc Cert.FwdFfn.nD Cert.FwdFfn.τ Cert.FwdFfn.sig) → Buf (Elt Bits) ℓ) : Prop :=
  True

def Pre_FwdFfnIdeal (m : (ℓ : Loc Cert.FwdFfnIdeal.nD Cert.FwdFfnIdeal.τ Cert.FwdFfnIdeal.sig) → Buf (Elt Ideal) ℓ) : Prop :=
  True

def Pre_FwdFfnRefIdeal (m : (ℓ : Loc Cert.FwdFfnRefIdeal.nD Cert.FwdFfnRefIdeal.τ Cert.FwdFfnRefIdeal.sig) → Buf (Elt Ideal) ℓ) : Prop :=
  True

def Pre_BwdFfn (m : (ℓ : Loc Cert.BwdFfn.nD Cert.BwdFfn.τ Cert.BwdFfn.sig) → Buf (Elt Bits) ℓ) : Prop :=
  True

def Pre_BwdFfnIdeal (m : (ℓ : Loc Cert.BwdFfnIdeal.nD Cert.BwdFfnIdeal.τ Cert.BwdFfnIdeal.sig) → Buf (Elt Ideal) ℓ) : Prop :=
  True

def Pre_BwdFfnRefIdeal (m : (ℓ : Loc Cert.BwdFfnRefIdeal.nD Cert.BwdFfnRefIdeal.τ Cert.BwdFfnRefIdeal.sig) → Buf (Elt Ideal) ℓ) : Prop :=
  True

def Pre_FgateBwd (m : (ℓ : Loc Cert.FgateBwd.nD Cert.FgateBwd.τ Cert.FgateBwd.sig) → Buf (Elt Bits) ℓ) : Prop :=
  True

def Pre_FgateBwdIdeal (m : (ℓ : Loc Cert.FgateBwdIdeal.nD Cert.FgateBwdIdeal.τ Cert.FgateBwdIdeal.sig) → Buf (Elt Ideal) ℓ) : Prop :=
  True

def Pre_FgateBwdRefIdeal (m : (ℓ : Loc Cert.FgateBwdRefIdeal.nD Cert.FgateBwdRefIdeal.τ Cert.FgateBwdRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_BwdMid (m : (ℓ : Loc Cert.BwdMid.nD Cert.BwdMid.τ Cert.BwdMid.sig) → Buf (Elt Bits) ℓ) : Prop :=
  True

def Pre_BwdMidIdeal (m : (ℓ : Loc Cert.BwdMidIdeal.nD Cert.BwdMidIdeal.τ Cert.BwdMidIdeal.sig) → Buf (Elt Ideal) ℓ) : Prop :=
  True

def Pre_BwdMidIdeal_finite [hPre_finite : Cert.Pre_finite.Facts] (m : (ℓ : Loc Cert.BwdMidIdeal.nD Cert.BwdMidIdeal.τ Cert.BwdMidIdeal.sig) → Buf (Elt Ideal) ℓ) : Prop :=
  ∀ c : Dev Cert.BwdMidIdeal.nD,
    (Cert.Pre_finite.fn (F := Ideal) (m ((c.tc : Thread Cert.BwdMidIdeal.nD Cert.BwdMidIdeal.τ).loc Cert.BwdMidIdeal.main_arg0)) (m ((c.tc : Thread Cert.BwdMidIdeal.nD Cert.BwdMidIdeal.τ).loc Cert.BwdMidIdeal.main_arg1)) (m ((c.tc : Thread Cert.BwdMidIdeal.nD Cert.BwdMidIdeal.τ).loc Cert.BwdMidIdeal.main_arg2)) (m ((c.tc : Thread Cert.BwdMidIdeal.nD Cert.BwdMidIdeal.τ).loc Cert.BwdMidIdeal.main_arg3)) (m ((c.tc : Thread Cert.BwdMidIdeal.nD Cert.BwdMidIdeal.τ).loc Cert.BwdMidIdeal.main_arg4)) (m ((c.tc : Thread Cert.BwdMidIdeal.nD Cert.BwdMidIdeal.τ).loc Cert.BwdMidIdeal.main_arg5)) (m ((c.tc : Thread Cert.BwdMidIdeal.nD Cert.BwdMidIdeal.τ).loc Cert.BwdMidIdeal.main_arg6)) (m ((c.tc : Thread Cert.BwdMidIdeal.nD Cert.BwdMidIdeal.τ).loc Cert.BwdMidIdeal.main_arg7)) (m ((c.tc : Thread Cert.BwdMidIdeal.nD Cert.BwdMidIdeal.τ).loc Cert.BwdMidIdeal.main_arg8)) (m ((c.tc : Thread Cert.BwdMidIdeal.nD Cert.BwdMidIdeal.τ).loc Cert.BwdMidIdeal.main_arg9))).1 = (fun _ => 1#1)
    ∧ (Cert.Pre_finite.fn (F := Ideal) (m ((c.tc : Thread Cert.BwdMidIdeal.nD Cert.BwdMidIdeal.τ).loc Cert.BwdMidIdeal.main_arg0)) (m ((c.tc : Thread Cert.BwdMidIdeal.nD Cert.BwdMidIdeal.τ).loc Cert.BwdMidIdeal.main_arg1)) (m ((c.tc : Thread Cert.BwdMidIdeal.nD Cert.BwdMidIdeal.τ).loc Cert.BwdMidIdeal.main_arg2)) (m ((c.tc : Thread Cert.BwdMidIdeal.nD Cert.BwdMidIdeal.τ).loc Cert.BwdMidIdeal.main_arg3)) (m ((c.tc : Thread Cert.BwdMidIdeal.nD Cert.BwdMidIdeal.τ).loc Cert.BwdMidIdeal.main_arg4)) (m ((c.tc : Thread Cert.BwdMidIdeal.nD Cert.BwdMidIdeal.τ).loc Cert.BwdMidIdeal.main_arg5)) (m ((c.tc : Thread Cert.BwdMidIdeal.nD Cert.BwdMidIdeal.τ).loc Cert.BwdMidIdeal.main_arg6)) (m ((c.tc : Thread Cert.BwdMidIdeal.nD Cert.BwdMidIdeal.τ).loc Cert.BwdMidIdeal.main_arg7)) (m ((c.tc : Thread Cert.BwdMidIdeal.nD Cert.BwdMidIdeal.τ).loc Cert.BwdMidIdeal.main_arg8)) (m ((c.tc : Thread Cert.BwdMidIdeal.nD Cert.BwdMidIdeal.τ).loc Cert.BwdMidIdeal.main_arg9))).2 = (fun _ => 1#1)

def Pre_BwdMidRefIdeal (m : (ℓ : Loc Cert.BwdMidRefIdeal.nD Cert.BwdMidRefIdeal.τ Cert.BwdMidRefIdeal.sig) → Buf (Elt Ideal) ℓ) : Prop :=
  True

def Pre_BwdMidRefIdeal_finite [hPre_finite : Cert.Pre_finite.Facts] (m : (ℓ : Loc Cert.BwdMidRefIdeal.nD Cert.BwdMidRefIdeal.τ Cert.BwdMidRefIdeal.sig) → Buf (Elt Ideal) ℓ) : Prop :=
  ∀ c : Dev Cert.BwdMidRefIdeal.nD,
    (Cert.Pre_finite.fn (F := Ideal) (m ((c.tc : Thread Cert.BwdMidRefIdeal.nD Cert.BwdMidRefIdeal.τ).loc Cert.BwdMidRefIdeal.main_arg0)) (m ((c.tc : Thread Cert.BwdMidRefIdeal.nD Cert.BwdMidRefIdeal.τ).loc Cert.BwdMidRefIdeal.main_arg1)) (m ((c.tc : Thread Cert.BwdMidRefIdeal.nD Cert.BwdMidRefIdeal.τ).loc Cert.BwdMidRefIdeal.main_arg2)) (m ((c.tc : Thread Cert.BwdMidRefIdeal.nD Cert.BwdMidRefIdeal.τ).loc Cert.BwdMidRefIdeal.main_arg3)) (m ((c.tc : Thread Cert.BwdMidRefIdeal.nD Cert.BwdMidRefIdeal.τ).loc Cert.BwdMidRefIdeal.main_arg4)) (m ((c.tc : Thread Cert.BwdMidRefIdeal.nD Cert.BwdMidRefIdeal.τ).loc Cert.BwdMidRefIdeal.main_arg5)) (m ((c.tc : Thread Cert.BwdMidRefIdeal.nD Cert.BwdMidRefIdeal.τ).loc Cert.BwdMidRefIdeal.main_arg6)) (m ((c.tc : Thread Cert.BwdMidRefIdeal.nD Cert.BwdMidRefIdeal.τ).loc Cert.BwdMidRefIdeal.main_arg7)) (m ((c.tc : Thread Cert.BwdMidRefIdeal.nD Cert.BwdMidRefIdeal.τ).loc Cert.BwdMidRefIdeal.main_arg8)) (m ((c.tc : Thread Cert.BwdMidRefIdeal.nD Cert.BwdMidRefIdeal.τ).loc Cert.BwdMidRefIdeal.main_arg9))).1 = (fun _ => 1#1)
    ∧ (Cert.Pre_finite.fn (F := Ideal) (m ((c.tc : Thread Cert.BwdMidRefIdeal.nD Cert.BwdMidRefIdeal.τ).loc Cert.BwdMidRefIdeal.main_arg0)) (m ((c.tc : Thread Cert.BwdMidRefIdeal.nD Cert.BwdMidRefIdeal.τ).loc Cert.BwdMidRefIdeal.main_arg1)) (m ((c.tc : Thread Cert.BwdMidRefIdeal.nD Cert.BwdMidRefIdeal.τ).loc Cert.BwdMidRefIdeal.main_arg2)) (m ((c.tc : Thread Cert.BwdMidRefIdeal.nD Cert.BwdMidRefIdeal.τ).loc Cert.BwdMidRefIdeal.main_arg3)) (m ((c.tc : Thread Cert.BwdMidRefIdeal.nD Cert.BwdMidRefIdeal.τ).loc Cert.BwdMidRefIdeal.main_arg4)) (m ((c.tc : Thread Cert.BwdMidRefIdeal.nD Cert.BwdMidRefIdeal.τ).loc Cert.BwdMidRefIdeal.main_arg5)) (m ((c.tc : Thread Cert.BwdMidRefIdeal.nD Cert.BwdMidRefIdeal.τ).loc Cert.BwdMidRefIdeal.main_arg6)) (m ((c.tc : Thread Cert.BwdMidRefIdeal.nD Cert.BwdMidRefIdeal.τ).loc Cert.BwdMidRefIdeal.main_arg7)) (m ((c.tc : Thread Cert.BwdMidRefIdeal.nD Cert.BwdMidRefIdeal.τ).loc Cert.BwdMidRefIdeal.main_arg8)) (m ((c.tc : Thread Cert.BwdMidRefIdeal.nD Cert.BwdMidRefIdeal.τ).loc Cert.BwdMidRefIdeal.main_arg9))).2 = (fun _ => 1#1)

def Pre_FwdMid (m : (ℓ : Loc Cert.FwdMid.nD Cert.FwdMid.τ Cert.FwdMid.sig) → Buf (Elt Bits) ℓ) : Prop :=
  True

def Pre_FwdMidIdeal (m : (ℓ : Loc Cert.FwdMidIdeal.nD Cert.FwdMidIdeal.τ Cert.FwdMidIdeal.sig) → Buf (Elt Ideal) ℓ) : Prop :=
  True

def Pre_FwdMidRefIdeal (m : (ℓ : Loc Cert.FwdMidRefIdeal.nD Cert.FwdMidRefIdeal.τ Cert.FwdMidRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0))
      ∧ r.2.sem = fun _ => 0)

def quiescent_Ici [hIci : Cert.Ici.Facts] : Prop :=
  ∀ (m : (ℓ : Loc Cert.Ici.nD Cert.Ici.τ Cert.Ici.sig) → Buf (Elt Bits) ℓ) (g : Dev Cert.Ici.nD → PrngReg), Pre_Ici m →
    θ_run (Cert.Ici.defs (F := Bits)) (onTc (τ := Cert.Ici.τ) (Cert.Ici.main (F := Bits))) ⟨m, fun _ => 0, g⟩ (fun r => (∀ c : Dev Cert.Ici.nD,
      r.2.mem ((c.tc : Thread Cert.Ici.nD Cert.Ici.τ).loc Cert.Ici.main_arg0) = m ((c.tc : Thread Cert.Ici.nD Cert.Ici.τ).loc Cert.Ici.main_arg0))
      ∧ r.2.sem = fun _ => 0)

def quiescent_IciIdeal [hIciIdeal : Cert.IciIdeal.Facts] : Prop :=
  ∀ (m : (ℓ : Loc Cert.IciIdeal.nD Cert.IciIdeal.τ Cert.IciIdeal.sig) → Buf (Elt Ideal) ℓ) (g : Dev Cert.IciIdeal.nD → PrngReg), Pre_IciIdeal m →
    θ_run (Cert.IciIdeal.defs (F := Ideal)) (onTc (τ := Cert.IciIdeal.τ) (Cert.IciIdeal.main (F := Ideal))) ⟨m, fun _ => 0, g⟩ (fun r => (∀ c : Dev Cert.IciIdeal.nD,
      r.2.mem ((c.tc : Thread Cert.IciIdeal.nD Cert.IciIdeal.τ).loc Cert.IciIdeal.main_arg0) = m ((c.tc : Thread Cert.IciIdeal.nD Cert.IciIdeal.τ).loc Cert.IciIdeal.main_arg0))
      ∧ r.2.sem = fun _ => 0)

def quiescent_IciRefIdeal [hIciRefIdeal : Cert.IciRefIdeal.Facts] : Prop :=
  ∀ (m : (ℓ : Loc Cert.IciRefIdeal.nD Cert.IciRefIdeal.τ Cert.IciRefIdeal.sig) → Buf (Elt Ideal) ℓ) (g : Dev Cert.IciRefIdeal.nD → PrngReg), Pre_IciRefIdeal m →
    θ_run (Cert.IciRefIdeal.defs (F := Ideal)) (onTc (τ := Cert.IciRefIdeal.τ) (Cert.IciRefIdeal.main (F := Ideal))) ⟨m, fun _ => 0, g⟩ (fun r => (∀ c : Dev Cert.IciRefIdeal.nD,
      r.2.mem ((c.tc : Thread Cert.IciRefIdeal.nD Cert.IciRefIdeal.τ).loc Cert.IciRefIdeal.main_arg0) = m ((c.tc : Thread Cert.IciRefIdeal.nD Cert.IciRefIdeal.τ).loc Cert.IciRefIdeal.main_arg0))
      ∧ r.2.sem = fun _ => 0)

def quiescent_IciRef [hIciRef : Cert.IciRef.Facts] : Prop :=
  ∀ (m : (ℓ : Loc Cert.IciRef.nD Cert.IciRef.τ Cert.IciRef.sig) → Buf (Elt Bits) ℓ) (g : Dev Cert.IciRef.nD → PrngReg), Pre_IciRef m →
    θ_run (Cert.IciRef.defs (F := Bits)) (onTc (τ := Cert.IciRef.τ) (Cert.IciRef.main (F := Bits))) ⟨m, fun _ => 0, g⟩ (fun r => (∀ c : Dev Cert.IciRef.nD,
      r.2.mem ((c.tc : Thread Cert.IciRef.nD Cert.IciRef.τ).loc Cert.IciRef.main_arg0) = m ((c.tc : Thread Cert.IciRef.nD Cert.IciRef.τ).loc Cert.IciRef.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOutConv [hDwOutConv : Cert.DwOutConv.Facts] : Prop :=
  ∀ (m : (ℓ : Loc Cert.DwOutConv.nD Cert.DwOutConv.τ Cert.DwOutConv.sig) → Buf (Elt Bits) ℓ) (g : Dev Cert.DwOutConv.nD → PrngReg), Pre_DwOutConv m →
    θ_run (Cert.DwOutConv.defs (F := Bits)) (onTc (τ := Cert.DwOutConv.τ) (Cert.DwOutConv.main (F := Bits))) ⟨m, fun _ => 0, g⟩ (fun r => (∀ c : Dev Cert.DwOutConv.nD,
      r.2.mem ((c.tc : Thread Cert.DwOutConv.nD Cert.DwOutConv.τ).loc Cert.DwOutConv.main_arg0) = m ((c.tc : Thread Cert.DwOutConv.nD Cert.DwOutConv.τ).loc Cert.DwOutConv.main_arg0)
      ∧ r.2.mem ((c.tc : Thread Cert.DwOutConv.nD Cert.DwOutConv.τ).loc Cert.DwOutConv.main_arg1) = m ((c.tc : Thread Cert.DwOutConv.nD Cert.DwOutConv.τ).loc Cert.DwOutConv.main_arg1))
      ∧ r.2.sem = fun _ => 0)

def quiescent_DwOutConvIdeal [hDwOutConvIdeal : Cert.DwOutConvIdeal.Facts] : Prop :=
  ∀ (m : (ℓ : Loc Cert.DwOutConvIdeal.nD Cert.DwOutConvIdeal.τ Cert.DwOutConvIdeal.sig) → Buf (Elt Ideal) ℓ) (g : Dev Cert.DwOutConvIdeal.nD → PrngReg), Pre_DwOutConvIdeal m →
    θ_run (Cert.DwOutConvIdeal.defs (F := Ideal)) (onTc (τ := Cert.DwOutConvIdeal.τ) (Cert.DwOutConvIdeal.main (F := Ideal))) ⟨m, fun _ => 0, g⟩ (fun r => (∀ c : Dev Cert.DwOutConvIdeal.nD,
      r.2.mem ((c.tc : Thread Cert.DwOutConvIdeal.nD Cert.DwOutConvIdeal.τ).loc Cert.DwOutConvIdeal.main_arg0) = m ((c.tc : Thread Cert.DwOutConvIdeal.nD Cert.DwOutConvIdeal.τ).loc Cert.DwOutConvIdeal.main_arg0)
      ∧ r.2.mem ((c.tc : Thread Cert.DwOutConvIdeal.nD Cert.DwOutConvIdeal.τ).loc Cert.DwOutConvIdeal.main_arg1) = m ((c.tc : Thread Cert.DwOutConvIdeal.nD Cert.DwOutConvIdeal.τ).loc Cert.DwOutConvIdeal.main_arg1))
      ∧ r.2.sem = fun _ => 0)

def quiescent_DwOutConvRefIdeal [hDwOutConvRefIdeal : Cert.DwOutConvRefIdeal.Facts] : Prop :=
  ∀ (m : (ℓ : Loc Cert.DwOutConvRefIdeal.nD Cert.DwOutConvRefIdeal.τ Cert.DwOutConvRefIdeal.sig) → Buf (Elt Ideal) ℓ) (g : Dev Cert.DwOutConvRefIdeal.nD → PrngReg), Pre_DwOutConvRefIdeal m →
    θ_run (Cert.DwOutConvRefIdeal.defs (F := Ideal)) (onTc (τ := Cert.DwOutConvRefIdeal.τ) (Cert.DwOutConvRefIdeal.main (F := Ideal))) ⟨m, fun _ => 0, g⟩ (fun r => (∀ c : Dev Cert.DwOutConvRefIdeal.nD,
      r.2.mem ((c.tc : Thread Cert.DwOutConvRefIdeal.nD Cert.DwOutConvRefIdeal.τ).loc Cert.DwOutConvRefIdeal.main_arg0) = m ((c.tc : Thread Cert.DwOutConvRefIdeal.nD Cert.DwOutConvRefIdeal.τ).loc Cert.DwOutConvRefIdeal.main_arg0)
      ∧ r.2.mem ((c.tc : Thread Cert.DwOutConvRefIdeal.nD Cert.DwOutConvRefIdeal.τ).loc Cert.DwOutConvRefIdeal.main_arg1) = m ((c.tc : Thread Cert.DwOutConvRefIdeal.nD Cert.DwOutConvRefIdeal.τ).loc Cert.DwOutConvRefIdeal.main_arg1))
      ∧ r.2.sem = fun _ => 0)

def quiescent_DwOutFox [hDwOutFox : Cert.DwOutFox.Facts] : Prop :=
  ∀ (m : (ℓ : Loc Cert.DwOutFox.nD Cert.DwOutFox.τ Cert.DwOutFox.sig) → Buf (Elt Bits) ℓ) (g : Dev Cert.DwOutFox.nD → PrngReg), Pre_DwOutFox m →
    θ_run (Cert.DwOutFox.defs (F := Bits)) (onTc (τ := Cert.DwOutFox.τ) (Cert.DwOutFox.main (F := Bits))) ⟨m, fun _ => 0, g⟩ (fun r => (∀ c : Dev Cert.DwOutFox.nD,
      r.2.mem ((c.tc : Thread Cert.DwOutFox.nD Cert.DwOutFox.τ).loc Cert.DwOutFox.main_arg0) = m ((c.tc : Thread Cert.DwOutFox.nD Cert.DwOutFox.τ).loc Cert.DwOutFox.main_arg0)
      ∧ r.2.mem ((c.tc : Thread Cert.DwOutFox.nD Cert.DwOutFox.τ).loc Cert.DwOutFox.main_arg1) = m ((c.tc : Thread Cert.DwOutFox.nD Cert.DwOutFox.τ).loc Cert.DwOutFox.main_arg1))
      ∧ r.2.sem = fun _ => 0)

def quiescent_DwOutFoxIdeal [hDwOutFoxIdeal : Cert.DwOutFoxIdeal.Facts] : Prop :=
  ∀ (m : (ℓ : Loc Cert.DwOutFoxIdeal.nD Cert.DwOutFoxIdeal.τ Cert.DwOutFoxIdeal.sig) → Buf (Elt Ideal) ℓ) (g : Dev Cert.DwOutFoxIdeal.nD → PrngReg), Pre_DwOutFoxIdeal m →
    θ_run (Cert.DwOutFoxIdeal.defs (F := Ideal)) (onTc (τ := Cert.DwOutFoxIdeal.τ) (Cert.DwOutFoxIdeal.main (F := Ideal))) ⟨m, fun _ => 0, g⟩ (fun r => (∀ c : Dev Cert.DwOutFoxIdeal.nD,
      r.2.mem ((c.tc : Thread Cert.DwOutFoxIdeal.nD Cert.DwOutFoxIdeal.τ).loc Cert.DwOutFoxIdeal.main_arg0) = m ((c.tc : Thread Cert.DwOutFoxIdeal.nD Cert.DwOutFoxIdeal.τ).loc Cert.DwOutFoxIdeal.main_arg0)
      ∧ r.2.mem ((c.tc : Thread Cert.DwOutFoxIdeal.nD Cert.DwOutFoxIdeal.τ).loc Cert.DwOutFoxIdeal.main_arg1) = m ((c.tc : Thread Cert.DwOutFoxIdeal.nD Cert.DwOutFoxIdeal.τ).loc Cert.DwOutFoxIdeal.main_arg1))
      ∧ r.2.sem = fun _ => 0)

def quiescent_DwOutFoxRefIdeal [hDwOutFoxRefIdeal : Cert.DwOutFoxRefIdeal.Facts] : Prop :=
  ∀ (m : (ℓ : Loc Cert.DwOutFoxRefIdeal.nD Cert.DwOutFoxRefIdeal.τ Cert.DwOutFoxRefIdeal.sig) → Buf (Elt Ideal) ℓ) (g : Dev Cert.DwOutFoxRefIdeal.nD → PrngReg), Pre_DwOutFoxRefIdeal m →
    θ_run (Cert.DwOutFoxRefIdeal.defs (F := Ideal)) (onTc (τ := Cert.DwOutFoxRefIdeal.τ) (Cert.DwOutFoxRefIdeal.main (F := Ideal))) ⟨m, fun _ => 0, g⟩ (fun r => (∀ c : Dev Cert.DwOutFoxRefIdeal.nD,
      r.2.mem ((c.tc : Thread Cert.DwOutFoxRefIdeal.nD Cert.DwOutFoxRefIdeal.τ).loc Cert.DwOutFoxRefIdeal.main_arg0) = m ((c.tc : Thread Cert.DwOutFoxRefIdeal.nD Cert.DwOutFoxRefIdeal.τ).loc Cert.DwOutFoxRefIdeal.main_arg0)
      ∧ r.2.mem ((c.tc : Thread Cert.DwOutFoxRefIdeal.nD Cert.DwOutFoxRefIdeal.τ).loc Cert.DwOutFoxRefIdeal.main_arg1) = m ((c.tc : Thread Cert.DwOutFoxRefIdeal.nD Cert.DwOutFoxRefIdeal.τ).loc Cert.DwOutFoxRefIdeal.main_arg1))
      ∧ r.2.sem = fun _ => 0)

def quiescent_DwMq [hDwMq : Cert.DwMq.Facts] : Prop :=
  ∀ (m : (ℓ : Loc Cert.DwMq.nD Cert.DwMq.τ Cert.DwMq.sig) → Buf (Elt Bits) ℓ) (g : Dev Cert.DwMq.nD → PrngReg), Pre_DwMq m →
    θ_run (Cert.DwMq.defs (F := Bits)) (onTc (τ := Cert.DwMq.τ) (Cert.DwMq.main (F := Bits))) ⟨m, fun _ => 0, g⟩ (fun r => (∀ c : Dev Cert.DwMq.nD,
      r.2.mem ((c.tc : Thread Cert.DwMq.nD Cert.DwMq.τ).loc Cert.DwMq.main_arg0) = m ((c.tc : Thread Cert.DwMq.nD Cert.DwMq.τ).loc Cert.DwMq.main_arg0)
      ∧ r.2.mem ((c.tc : Thread Cert.DwMq.nD Cert.DwMq.τ).loc Cert.DwMq.main_arg1) = m ((c.tc : Thread Cert.DwMq.nD Cert.DwMq.τ).loc Cert.DwMq.main_arg1))
      ∧ r.2.sem = fun _ => 0)

def quiescent_DwMqIdeal [hDwMqIdeal : Cert.DwMqIdeal.Facts] : Prop :=
  ∀ (m : (ℓ : Loc Cert.DwMqIdeal.nD Cert.DwMqIdeal.τ Cert.DwMqIdeal.sig) → Buf (Elt Ideal) ℓ) (g : Dev Cert.DwMqIdeal.nD → PrngReg), Pre_DwMqIdeal m →
    θ_run (Cert.DwMqIdeal.defs (F := Ideal)) (onTc (τ := Cert.DwMqIdeal.τ) (Cert.DwMqIdeal.main (F := Ideal))) ⟨m, fun _ => 0, g⟩ (fun r => (∀ c : Dev Cert.DwMqIdeal.nD,
      r.2.mem ((c.tc : Thread Cert.DwMqIdeal.nD Cert.DwMqIdeal.τ).loc Cert.DwMqIdeal.main_arg0) = m ((c.tc : Thread Cert.DwMqIdeal.nD Cert.DwMqIdeal.τ).loc Cert.DwMqIdeal.main_arg0)
      ∧ r.2.mem ((c.tc : Thread Cert.DwMqIdeal.nD Cert.DwMqIdeal.τ).loc Cert.DwMqIdeal.main_arg1) = m ((c.tc : Thread Cert.DwMqIdeal.nD Cert.DwMqIdeal.τ).loc Cert.DwMqIdeal.main_arg1))
      ∧ r.2.sem = fun _ => 0)

def quiescent_DwMqRefIdeal [hDwMqRefIdeal : Cert.DwMqRefIdeal.Facts] : Prop :=
  ∀ (m : (ℓ : Loc Cert.DwMqRefIdeal.nD Cert.DwMqRefIdeal.τ Cert.DwMqRefIdeal.sig) → Buf (Elt Ideal) ℓ) (g : Dev Cert.DwMqRefIdeal.nD → PrngReg), Pre_DwMqRefIdeal m →
    θ_run (Cert.DwMqRefIdeal.defs (F := Ideal)) (onTc (τ := Cert.DwMqRefIdeal.τ) (Cert.DwMqRefIdeal.main (F := Ideal))) ⟨m, fun _ => 0, g⟩ (fun r => (∀ c : Dev Cert.DwMqRefIdeal.nD,
      r.2.mem ((c.tc : Thread Cert.DwMqRefIdeal.nD Cert.DwMqRefIdeal.τ).loc Cert.DwMqRefIdeal.main_arg0) = m ((c.tc : Thread Cert.DwMqRefIdeal.nD Cert.DwMqRefIdeal.τ).loc Cert.DwMqRefIdeal.main_arg0)
      ∧ r.2.mem ((c.tc : Thread Cert.DwMqRefIdeal.nD Cert.DwMqRefIdeal.τ).loc Cert.DwMqRefIdeal.main_arg1) = m ((c.tc : Thread Cert.DwMqRefIdeal.nD Cert.DwMqRefIdeal.τ).loc Cert.DwMqRefIdeal.main_arg1))
      ∧ r.2.sem = fun _ => 0)

def quiescent_DwMkv [hDwMkv : Cert.DwMkv.Facts] : Prop :=
  ∀ (m : (ℓ : Loc Cert.DwMkv.nD Cert.DwMkv.τ Cert.DwMkv.sig) → Buf (Elt Bits) ℓ) (g : Dev Cert.DwMkv.nD → PrngReg), Pre_DwMkv m →
    θ_run (Cert.DwMkv.defs (F := Bits)) (onTc (τ := Cert.DwMkv.τ) (Cert.DwMkv.main (F := Bits))) ⟨m, fun _ => 0, g⟩ (fun r => (∀ c : Dev Cert.DwMkv.nD,
      r.2.mem ((c.tc : Thread Cert.DwMkv.nD Cert.DwMkv.τ).loc Cert.DwMkv.main_arg0) = m ((c.tc : Thread Cert.DwMkv.nD Cert.DwMkv.τ).loc Cert.DwMkv.main_arg0)
      ∧ r.2.mem ((c.tc : Thread Cert.DwMkv.nD Cert.DwMkv.τ).loc Cert.DwMkv.main_arg1) = m ((c.tc : Thread Cert.DwMkv.nD Cert.DwMkv.τ).loc Cert.DwMkv.main_arg1))
      ∧ r.2.sem = fun _ => 0)

def quiescent_DwMkvIdeal [hDwMkvIdeal : Cert.DwMkvIdeal.Facts] : Prop :=
  ∀ (m : (ℓ : Loc Cert.DwMkvIdeal.nD Cert.DwMkvIdeal.τ Cert.DwMkvIdeal.sig) → Buf (Elt Ideal) ℓ) (g : Dev Cert.DwMkvIdeal.nD → PrngReg), Pre_DwMkvIdeal m →
    θ_run (Cert.DwMkvIdeal.defs (F := Ideal)) (onTc (τ := Cert.DwMkvIdeal.τ) (Cert.DwMkvIdeal.main (F := Ideal))) ⟨m, fun _ => 0, g⟩ (fun r => (∀ c : Dev Cert.DwMkvIdeal.nD,
      r.2.mem ((c.tc : Thread Cert.DwMkvIdeal.nD Cert.DwMkvIdeal.τ).loc Cert.DwMkvIdeal.main_arg0) = m ((c.tc : Thread Cert.DwMkvIdeal.nD Cert.DwMkvIdeal.τ).loc Cert.DwMkvIdeal.main_arg0)
      ∧ r.2.mem ((c.tc : Thread Cert.DwMkvIdeal.nD Cert.DwMkvIdeal.τ).loc Cert.DwMkvIdeal.main_arg1) = m ((c.tc : Thread Cert.DwMkvIdeal.nD Cert.DwMkvIdeal.τ).loc Cert.DwMkvIdeal.main_arg1))
      ∧ r.2.sem = fun _ => 0)

def quiescent_DwMkvRefIdeal [hDwMkvRefIdeal : Cert.DwMkvRefIdeal.Facts] : Prop :=
  ∀ (m : (ℓ : Loc Cert.DwMkvRefIdeal.nD Cert.DwMkvRefIdeal.τ Cert.DwMkvRefIdeal.sig) → Buf (Elt Ideal) ℓ) (g : Dev Cert.DwMkvRefIdeal.nD → PrngReg), Pre_DwMkvRefIdeal m →
    θ_run (Cert.DwMkvRefIdeal.defs (F := Ideal)) (onTc (τ := Cert.DwMkvRefIdeal.τ) (Cert.DwMkvRefIdeal.main (F := Ideal))) ⟨m, fun _ => 0, g⟩ (fun r => (∀ c : Dev Cert.DwMkvRefIdeal.nD,
      r.2.mem ((c.tc : Thread Cert.DwMkvRefIdeal.nD Cert.DwMkvRefIdeal.τ).loc Cert.DwMkvRefIdeal.main_arg0) = m ((c.tc : Thread Cert.DwMkvRefIdeal.nD Cert.DwMkvRefIdeal.τ).loc Cert.DwMkvRefIdeal.main_arg0)
      ∧ r.2.mem ((c.tc : Thread Cert.DwMkvRefIdeal.nD Cert.DwMkvRefIdeal.τ).loc Cert.DwMkvRefIdeal.main_arg1) = m ((c.tc : Thread Cert.DwMkvRefIdeal.nD Cert.DwMkvRefIdeal.τ).loc Cert.DwMkvRefIdeal.main_arg1))
      ∧ r.2.sem = fun _ => 0)

def quiescent_DwMo [hDwMo : Cert.DwMo.Facts] : Prop :=
  ∀ (m : (ℓ : Loc Cert.DwMo.nD Cert.DwMo.τ Cert.DwMo.sig) → Buf (Elt Bits) ℓ) (g : Dev Cert.DwMo.nD → PrngReg), Pre_DwMo m →
    θ_run (Cert.DwMo.defs (F := Bits)) (onTc (τ := Cert.DwMo.τ) (Cert.DwMo.main (F := Bits))) ⟨m, fun _ => 0, g⟩ (fun r => (∀ c : Dev Cert.DwMo.nD,
      r.2.mem ((c.tc : Thread Cert.DwMo.nD Cert.DwMo.τ).loc Cert.DwMo.main_arg0) = m ((c.tc : Thread Cert.DwMo.nD Cert.DwMo.τ).loc Cert.DwMo.main_arg0)
      ∧ r.2.mem ((c.tc : Thread Cert.DwMo.nD Cert.DwMo.τ).loc Cert.DwMo.main_arg1) = m ((c.tc : Thread Cert.DwMo.nD Cert.DwMo.τ).loc Cert.DwMo.main_arg1))
      ∧ r.2.sem = fun _ => 0)

def quiescent_DwMoIdeal [hDwMoIdeal : Cert.DwMoIdeal.Facts] : Prop :=
  ∀ (m : (ℓ : Loc Cert.DwMoIdeal.nD Cert.DwMoIdeal.τ Cert.DwMoIdeal.sig) → Buf (Elt Ideal) ℓ) (g : Dev Cert.DwMoIdeal.nD → PrngReg), Pre_DwMoIdeal m →
    θ_run (Cert.DwMoIdeal.defs (F := Ideal)) (onTc (τ := Cert.DwMoIdeal.τ) (Cert.DwMoIdeal.main (F := Ideal))) ⟨m, fun _ => 0, g⟩ (fun r => (∀ c : Dev Cert.DwMoIdeal.nD,
      r.2.mem ((c.tc : Thread Cert.DwMoIdeal.nD Cert.DwMoIdeal.τ).loc Cert.DwMoIdeal.main_arg0) = m ((c.tc : Thread Cert.DwMoIdeal.nD Cert.DwMoIdeal.τ).loc Cert.DwMoIdeal.main_arg0)
      ∧ r.2.mem ((c.tc : Thread Cert.DwMoIdeal.nD Cert.DwMoIdeal.τ).loc Cert.DwMoIdeal.main_arg1) = m ((c.tc : Thread Cert.DwMoIdeal.nD Cert.DwMoIdeal.τ).loc Cert.DwMoIdeal.main_arg1))
      ∧ r.2.sem = fun _ => 0)

def quiescent_DwMoRefIdeal [hDwMoRefIdeal : Cert.DwMoRefIdeal.Facts] : Prop :=
  ∀ (m : (ℓ : Loc Cert.DwMoRefIdeal.nD Cert.DwMoRefIdeal.τ Cert.DwMoRefIdeal.sig) → Buf (Elt Ideal) ℓ) (g : Dev Cert.DwMoRefIdeal.nD → PrngReg), Pre_DwMoRefIdeal m →
    θ_run (Cert.DwMoRefIdeal.defs (F := Ideal)) (onTc (τ := Cert.DwMoRefIdeal.τ) (Cert.DwMoRefIdeal.main (F := Ideal))) ⟨m, fun _ => 0, g⟩ (fun r => (∀ c : Dev Cert.DwMoRefIdeal.nD,
      r.2.mem ((c.tc : Thread Cert.DwMoRefIdeal.nD Cert.DwMoRefIdeal.τ).loc Cert.DwMoRefIdeal.main_arg0) = m ((c.tc : Thread Cert.DwMoRefIdeal.nD Cert.DwMoRefIdeal.τ).loc Cert.DwMoRefIdeal.main_arg0)
      ∧ r.2.mem ((c.tc : Thread Cert.DwMoRefIdeal.nD Cert.DwMoRefIdeal.τ).loc Cert.DwMoRefIdeal.main_arg1) = m ((c.tc : Thread Cert.DwMoRefIdeal.nD Cert.DwMoRefIdeal.τ).loc Cert.DwMoRefIdeal.main_arg1))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_BwdMem [hBwdMem : Cert.BwdMem.Facts] : Prop :=
  ∀ (m : (ℓ : Loc Cert.BwdMem.nD Cert.BwdMem.τ Cert.BwdMem.sig) → Buf (Elt Bits) ℓ) (g : Dev Cert.BwdMem.nD → PrngReg), Pre_BwdMem m →
    θ_run (Cert.BwdMem.defs (F := Bits)) (onTc (τ := Cert.BwdMem.τ) (Cert.BwdMem.main (F := Bits))) ⟨m, fun _ => 0, g⟩ (fun r => (∀ c : Dev Cert.BwdMem.nD,
      r.2.mem ((c.tc : Thread Cert.BwdMem.nD Cert.BwdMem.τ).loc Cert.BwdMem.main_arg0) = m ((c.tc : Thread Cert.BwdMem.nD Cert.BwdMem.τ).loc Cert.BwdMem.main_arg0)
      ∧ r.2.mem ((c.tc : Thread Cert.BwdMem.nD Cert.BwdMem.τ).loc Cert.BwdMem.main_arg1) = m ((c.tc : Thread Cert.BwdMem.nD Cert.BwdMem.τ).loc Cert.BwdMem.main_arg1)
      ∧ r.2.mem ((c.tc : Thread Cert.BwdMem.nD Cert.BwdMem.τ).loc Cert.BwdMem.main_arg2) = m ((c.tc : Thread Cert.BwdMem.nD Cert.BwdMem.τ).loc Cert.BwdMem.main_arg2)
      ∧ r.2.mem ((c.tc : Thread Cert.BwdMem.nD Cert.BwdMem.τ).loc Cert.BwdMem.main_arg3) = m ((c.tc : Thread Cert.BwdMem.nD Cert.BwdMem.τ).loc Cert.BwdMem.main_arg3)
      ∧ r.2.mem ((c.tc : Thread Cert.BwdMem.nD Cert.BwdMem.τ).loc Cert.BwdMem.main_arg4) = m ((c.tc : Thread Cert.BwdMem.nD Cert.BwdMem.τ).loc Cert.BwdMem.main_arg4))
      ∧ r.2.sem = fun _ => 0)

def quiescent_BwdMemIdeal [hBwdMemIdeal : Cert.BwdMemIdeal.Facts] : Prop :=
  ∀ (m : (ℓ : Loc Cert.BwdMemIdeal.nD Cert.BwdMemIdeal.τ Cert.BwdMemIdeal.sig) → Buf (Elt Ideal) ℓ) (g : Dev Cert.BwdMemIdeal.nD → PrngReg), Pre_BwdMemIdeal m →
    θ_run (Cert.BwdMemIdeal.defs (F := Ideal)) (onTc (τ := Cert.BwdMemIdeal.τ) (Cert.BwdMemIdeal.main (F := Ideal))) ⟨m, fun _ => 0, g⟩ (fun r => (∀ c : Dev Cert.BwdMemIdeal.nD,
      r.2.mem ((c.tc : Thread Cert.BwdMemIdeal.nD Cert.BwdMemIdeal.τ).loc Cert.BwdMemIdeal.main_arg0) = m ((c.tc : Thread Cert.BwdMemIdeal.nD Cert.BwdMemIdeal.τ).loc Cert.BwdMemIdeal.main_arg0)
      ∧ r.2.mem ((c.tc : Thread Cert.BwdMemIdeal.nD Cert.BwdMemIdeal.τ).loc Cert.BwdMemIdeal.main_arg1) = m ((c.tc : Thread Cert.BwdMemIdeal.nD Cert.BwdMemIdeal.τ).loc Cert.BwdMemIdeal.main_arg1)
      ∧ r.2.mem ((c.tc : Thread Cert.BwdMemIdeal.nD Cert.BwdMemIdeal.τ).loc Cert.BwdMemIdeal.main_arg2) = m ((c.tc : Thread Cert.BwdMemIdeal.nD Cert.BwdMemIdeal.τ).loc Cert.BwdMemIdeal.main_arg2)
      ∧ r.2.mem ((c.tc : Thread Cert.BwdMemIdeal.nD Cert.BwdMemIdeal.τ).loc Cert.BwdMemIdeal.main_arg3) = m ((c.tc : Thread Cert.BwdMemIdeal.nD Cert.BwdMemIdeal.τ).loc Cert.BwdMemIdeal.main_arg3)
      ∧ r.2.mem ((c.tc : Thread Cert.BwdMemIdeal.nD Cert.BwdMemIdeal.τ).loc Cert.BwdMemIdeal.main_arg4) = m ((c.tc : Thread Cert.BwdMemIdeal.nD Cert.BwdMemIdeal.τ).loc Cert.BwdMemIdeal.main_arg4))
      ∧ r.2.sem = fun _ => 0)

def quiescent_BwdMemRefIdeal [hBwdMemRefIdeal : Cert.BwdMemRefIdeal.Facts] : Prop :=
  ∀ (m : (ℓ : Loc Cert.BwdMemRefIdeal.nD Cert.BwdMemRefIdeal.τ Cert.BwdMemRefIdeal.sig) → Buf (Elt Ideal) ℓ) (g : Dev Cert.BwdMemRefIdeal.nD → PrngReg), Pre_BwdMemRefIdeal m →
    θ_run (Cert.BwdMemRefIdeal.defs (F := Ideal)) (onTc (τ := Cert.BwdMemRefIdeal.τ) (Cert.BwdMemRefIdeal.main (F := Ideal))) ⟨m, fun _ => 0, g⟩ (fun r => (∀ c : Dev Cert.BwdMemRefIdeal.nD,
      r.2.mem ((c.tc : Thread Cert.BwdMemRefIdeal.nD Cert.BwdMemRefIdeal.τ).loc Cert.BwdMemRefIdeal.main_arg0) = m ((c.tc : Thread Cert.BwdMemRefIdeal.nD Cert.BwdMemRefIdeal.τ).loc Cert.BwdMemRefIdeal.main_arg0)
      ∧ r.2.mem ((c.tc : Thread Cert.BwdMemRefIdeal.nD Cert.BwdMemRefIdeal.τ).loc Cert.BwdMemRefIdeal.main_arg1) = m ((c.tc : Thread Cert.BwdMemRefIdeal.nD Cert.BwdMemRefIdeal.τ).loc Cert.BwdMemRefIdeal.main_arg1)
      ∧ r.2.mem ((c.tc : Thread Cert.BwdMemRefIdeal.nD Cert.BwdMemRefIdeal.τ).loc Cert.BwdMemRefIdeal.main_arg2) = m ((c.tc : Thread Cert.BwdMemRefIdeal.nD Cert.BwdMemRefIdeal.τ).loc Cert.BwdMemRefIdeal.main_arg2)
      ∧ r.2.mem ((c.tc : Thread Cert.BwdMemRefIdeal.nD Cert.BwdMemRefIdeal.τ).loc Cert.BwdMemRefIdeal.main_arg3) = m ((c.tc : Thread Cert.BwdMemRefIdeal.nD Cert.BwdMemRefIdeal.τ).loc Cert.BwdMemRefIdeal.main_arg3)
      ∧ r.2.mem ((c.tc : Thread Cert.BwdMemRefIdeal.nD Cert.BwdMemRefIdeal.τ).loc Cert.BwdMemRefIdeal.main_arg4) = m ((c.tc : Thread Cert.BwdMemRefIdeal.nD Cert.BwdMemRefIdeal.τ).loc Cert.BwdMemRefIdeal.main_arg4))
      ∧ r.2.sem = fun _ => 0)

def quiescent_FwdFfn [hFwdFfn : Cert.FwdFfn.Facts] : Prop :=
  ∀ (m : (ℓ : Loc Cert.FwdFfn.nD Cert.FwdFfn.τ Cert.FwdFfn.sig) → Buf (Elt Bits) ℓ) (g : Dev Cert.FwdFfn.nD → PrngReg), Pre_FwdFfn m →
    θ_run (Cert.FwdFfn.defs (F := Bits)) (onTc (τ := Cert.FwdFfn.τ) (Cert.FwdFfn.main (F := Bits))) ⟨m, fun _ => 0, g⟩ (fun r => (∀ c : Dev Cert.FwdFfn.nD,
      r.2.mem ((c.tc : Thread Cert.FwdFfn.nD Cert.FwdFfn.τ).loc Cert.FwdFfn.main_arg0) = m ((c.tc : Thread Cert.FwdFfn.nD Cert.FwdFfn.τ).loc Cert.FwdFfn.main_arg0)
      ∧ r.2.mem ((c.tc : Thread Cert.FwdFfn.nD Cert.FwdFfn.τ).loc Cert.FwdFfn.main_arg1) = m ((c.tc : Thread Cert.FwdFfn.nD Cert.FwdFfn.τ).loc Cert.FwdFfn.main_arg1)
      ∧ r.2.mem ((c.tc : Thread Cert.FwdFfn.nD Cert.FwdFfn.τ).loc Cert.FwdFfn.main_arg2) = m ((c.tc : Thread Cert.FwdFfn.nD Cert.FwdFfn.τ).loc Cert.FwdFfn.main_arg2)
      ∧ r.2.mem ((c.tc : Thread Cert.FwdFfn.nD Cert.FwdFfn.τ).loc Cert.FwdFfn.main_arg3) = m ((c.tc : Thread Cert.FwdFfn.nD Cert.FwdFfn.τ).loc Cert.FwdFfn.main_arg3)
      ∧ r.2.mem ((c.tc : Thread Cert.FwdFfn.nD Cert.FwdFfn.τ).loc Cert.FwdFfn.main_arg4) = m ((c.tc : Thread Cert.FwdFfn.nD Cert.FwdFfn.τ).loc Cert.FwdFfn.main_arg4)
      ∧ r.2.mem ((c.tc : Thread Cert.FwdFfn.nD Cert.FwdFfn.τ).loc Cert.FwdFfn.main_arg5) = m ((c.tc : Thread Cert.FwdFfn.nD Cert.FwdFfn.τ).loc Cert.FwdFfn.main_arg5))
      ∧ r.2.sem = fun _ => 0)

def quiescent_FwdFfnIdeal [hFwdFfnIdeal : Cert.FwdFfnIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg), Pre_FwdFfnIdeal m →
    θ_run (Cert.FwdFfnIdeal.defs (F := Ideal)) (onTc (τ := Cert.FwdFfnIdeal.τ) (Cert.FwdFfnIdeal.main (F := Ideal))) ⟨m, fun _ => 0, g⟩ (fun r => (∀ c : Dev Cert.FwdFfnIdeal.nD,
      r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
      ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
      ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
      ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
      ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
      ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5))
      ∧ r.2.sem = fun _ => 0)

def quiescent_FwdFfnRefIdeal [hFwdFfnRefIdeal : Cert.FwdFfnRefIdeal.Facts] : Prop :=
  ∀ (m : (ℓ : Loc Cert.FwdFfnRefIdeal.nD Cert.FwdFfnRefIdeal.τ Cert.FwdFfnRefIdeal.sig) → Buf (Elt Ideal) ℓ) (g : Dev Cert.FwdFfnRefIdeal.nD → PrngReg), Pre_FwdFfnRefIdeal m →
    θ_run (Cert.FwdFfnRefIdeal.defs (F := Ideal)) (onTc (τ := Cert.FwdFfnRefIdeal.τ) (Cert.FwdFfnRefIdeal.main (F := Ideal))) ⟨m, fun _ => 0, g⟩ (fun r => (∀ c : Dev Cert.FwdFfnRefIdeal.nD,
      r.2.mem ((c.tc : Thread Cert.FwdFfnRefIdeal.nD Cert.FwdFfnRefIdeal.τ).loc Cert.FwdFfnRefIdeal.main_arg0) = m ((c.tc : Thread Cert.FwdFfnRefIdeal.nD Cert.FwdFfnRefIdeal.τ).loc Cert.FwdFfnRefIdeal.main_arg0)
      ∧ r.2.mem ((c.tc : Thread Cert.FwdFfnRefIdeal.nD Cert.FwdFfnRefIdeal.τ).loc Cert.FwdFfnRefIdeal.main_arg1) = m ((c.tc : Thread Cert.FwdFfnRefIdeal.nD Cert.FwdFfnRefIdeal.τ).loc Cert.FwdFfnRefIdeal.main_arg1)
      ∧ r.2.mem ((c.tc : Thread Cert.FwdFfnRefIdeal.nD Cert.FwdFfnRefIdeal.τ).loc Cert.FwdFfnRefIdeal.main_arg2) = m ((c.tc : Thread Cert.FwdFfnRefIdeal.nD Cert.FwdFfnRefIdeal.τ).loc Cert.FwdFfnRefIdeal.main_arg2)
      ∧ r.2.mem ((c.tc : Thread Cert.FwdFfnRefIdeal.nD Cert.FwdFfnRefIdeal.τ).loc Cert.FwdFfnRefIdeal.main_arg3) = m ((c.tc : Thread Cert.FwdFfnRefIdeal.nD Cert.FwdFfnRefIdeal.τ).loc Cert.FwdFfnRefIdeal.main_arg3)
      ∧ r.2.mem ((c.tc : Thread Cert.FwdFfnRefIdeal.nD Cert.FwdFfnRefIdeal.τ).loc Cert.FwdFfnRefIdeal.main_arg4) = m ((c.tc : Thread Cert.FwdFfnRefIdeal.nD Cert.FwdFfnRefIdeal.τ).loc Cert.FwdFfnRefIdeal.main_arg4)
      ∧ r.2.mem ((c.tc : Thread Cert.FwdFfnRefIdeal.nD Cert.FwdFfnRefIdeal.τ).loc Cert.FwdFfnRefIdeal.main_arg5) = m ((c.tc : Thread Cert.FwdFfnRefIdeal.nD Cert.FwdFfnRefIdeal.τ).loc Cert.FwdFfnRefIdeal.main_arg5))
      ∧ r.2.sem = fun _ => 0)

def quiescent_BwdFfn [hBwdFfn : Cert.BwdFfn.Facts] : Prop :=
  ∀ (m : (ℓ : Loc Cert.BwdFfn.nD Cert.BwdFfn.τ Cert.BwdFfn.sig) → Buf (Elt Bits) ℓ) (g : Dev Cert.BwdFfn.nD → PrngReg), Pre_BwdFfn m →
    θ_run (Cert.BwdFfn.defs (F := Bits)) (onTc (τ := Cert.BwdFfn.τ) (Cert.BwdFfn.main (F := Bits))) ⟨m, fun _ => 0, g⟩ (fun r => (∀ c : Dev Cert.BwdFfn.nD,
      r.2.mem ((c.tc : Thread Cert.BwdFfn.nD Cert.BwdFfn.τ).loc Cert.BwdFfn.main_arg0) = m ((c.tc : Thread Cert.BwdFfn.nD Cert.BwdFfn.τ).loc Cert.BwdFfn.main_arg0)
      ∧ r.2.mem ((c.tc : Thread Cert.BwdFfn.nD Cert.BwdFfn.τ).loc Cert.BwdFfn.main_arg1) = m ((c.tc : Thread Cert.BwdFfn.nD Cert.BwdFfn.τ).loc Cert.BwdFfn.main_arg1)
      ∧ r.2.mem ((c.tc : Thread Cert.BwdFfn.nD Cert.BwdFfn.τ).loc Cert.BwdFfn.main_arg2) = m ((c.tc : Thread Cert.BwdFfn.nD Cert.BwdFfn.τ).loc Cert.BwdFfn.main_arg2)
      ∧ r.2.mem ((c.tc : Thread Cert.BwdFfn.nD Cert.BwdFfn.τ).loc Cert.BwdFfn.main_arg3) = m ((c.tc : Thread Cert.BwdFfn.nD Cert.BwdFfn.τ).loc Cert.BwdFfn.main_arg3)
      ∧ r.2.mem ((c.tc : Thread Cert.BwdFfn.nD Cert.BwdFfn.τ).loc Cert.BwdFfn.main_arg4) = m ((c.tc : Thread Cert.BwdFfn.nD Cert.BwdFfn.τ).loc Cert.BwdFfn.main_arg4)
      ∧ r.2.mem ((c.tc : Thread Cert.BwdFfn.nD Cert.BwdFfn.τ).loc Cert.BwdFfn.main_arg5) = m ((c.tc : Thread Cert.BwdFfn.nD Cert.BwdFfn.τ).loc Cert.BwdFfn.main_arg5))
      ∧ r.2.sem = fun _ => 0)

def quiescent_BwdFfnIdeal [hBwdFfnIdeal : Cert.BwdFfnIdeal.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg), Pre_BwdFfnIdeal m →
    θ_run (Cert.BwdFfnIdeal.defs (F := Ideal)) (onTc (τ := Cert.BwdFfnIdeal.τ) (Cert.BwdFfnIdeal.main (F := Ideal))) ⟨m, fun _ => 0, g⟩ (fun r => (∀ c : Dev Cert.BwdFfnIdeal.nD,
      r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
      ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
      ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
      ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
      ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4)
      ∧ r.2.mem ((c.tc : Thread Cert.BwdFfnIdeal.nD Cert.BwdFfnIdeal.τ).loc Cert.BwdFfnIdeal.main_arg5) = m ((c.tc : Thread Cert.BwdFfnIdeal.nD Cert.BwdFfnIdeal.τ).loc Cert.BwdFfnIdeal.main_arg5))
      ∧ r.2.sem = fun _ => 0)

def quiescent_BwdFfnRefIdeal [hBwdFfnRefIdeal : Cert.BwdFfnRefIdeal.Facts] : Prop :=
  ∀ (m : (ℓ : Loc Cert.BwdFfnRefIdeal.nD Cert.BwdFfnRefIdeal.τ Cert.BwdFfnRefIdeal.sig) → Buf (Elt Ideal) ℓ) (g : Dev Cert.BwdFfnRefIdeal.nD → PrngReg), Pre_BwdFfnRefIdeal m →
    θ_run (Cert.BwdFfnRefIdeal.defs (F := Ideal)) (onTc (τ := Cert.BwdFfnRefIdeal.τ) (Cert.BwdFfnRefIdeal.main (F := Ideal))) ⟨m, fun _ => 0, g⟩ (fun r => (∀ c : Dev Cert.BwdFfnRefIdeal.nD,
      r.2.mem ((c.tc : Thread Cert.BwdFfnRefIdeal.nD Cert.BwdFfnRefIdeal.τ).loc Cert.BwdFfnRefIdeal.main_arg0) = m ((c.tc : Thread Cert.BwdFfnRefIdeal.nD Cert.BwdFfnRefIdeal.τ).loc Cert.BwdFfnRefIdeal.main_arg0)
      ∧ r.2.mem ((c.tc : Thread Cert.BwdFfnRefIdeal.nD Cert.BwdFfnRefIdeal.τ).loc Cert.BwdFfnRefIdeal.main_arg1) = m ((c.tc : Thread Cert.BwdFfnRefIdeal.nD Cert.BwdFfnRefIdeal.τ).loc Cert.BwdFfnRefIdeal.main_arg1)
      ∧ r.2.mem ((c.tc : Thread Cert.BwdFfnRefIdeal.nD Cert.BwdFfnRefIdeal.τ).loc Cert.BwdFfnRefIdeal.main_arg2) = m ((c.tc : Thread Cert.BwdFfnRefIdeal.nD Cert.BwdFfnRefIdeal.τ).loc Cert.BwdFfnRefIdeal.main_arg2)
      ∧ r.2.mem ((c.tc : Thread Cert.BwdFfnRefIdeal.nD Cert.BwdFfnRefIdeal.τ).loc Cert.BwdFfnRefIdeal.main_arg3) = m ((c.tc : Thread Cert.BwdFfnRefIdeal.nD Cert.BwdFfnRefIdeal.τ).loc Cert.BwdFfnRefIdeal.main_arg3)
      ∧ r.2.mem ((c.tc : Thread Cert.BwdFfnRefIdeal.nD Cert.BwdFfnRefIdeal.τ).loc Cert.BwdFfnRefIdeal.main_arg4) = m ((c.tc : Thread Cert.BwdFfnRefIdeal.nD Cert.BwdFfnRefIdeal.τ).loc Cert.BwdFfnRefIdeal.main_arg4)
      ∧ r.2.mem ((c.tc : Thread Cert.BwdFfnRefIdeal.nD Cert.BwdFfnRefIdeal.τ).loc Cert.BwdFfnRefIdeal.main_arg5) = m ((c.tc : Thread Cert.BwdFfnRefIdeal.nD Cert.BwdFfnRefIdeal.τ).loc Cert.BwdFfnRefIdeal.main_arg5))
      ∧ r.2.sem = fun _ => 0)

def quiescent_FgateBwd [hFgateBwd : Cert.FgateBwd.Facts] : Prop :=
  ∀ (m : (ℓ : Loc Cert.FgateBwd.nD Cert.FgateBwd.τ Cert.FgateBwd.sig) → Buf (Elt Bits) ℓ) (g : Dev Cert.FgateBwd.nD → PrngReg), Pre_FgateBwd m →
    θ_run (Cert.FgateBwd.defs (F := Bits)) (onTc (τ := Cert.FgateBwd.τ) (Cert.FgateBwd.main (F := Bits))) ⟨m, fun _ => 0, g⟩ (fun r => (∀ c : Dev Cert.FgateBwd.nD,
      r.2.mem ((c.tc : Thread Cert.FgateBwd.nD Cert.FgateBwd.τ).loc Cert.FgateBwd.main_arg0) = m ((c.tc : Thread Cert.FgateBwd.nD Cert.FgateBwd.τ).loc Cert.FgateBwd.main_arg0)
      ∧ r.2.mem ((c.tc : Thread Cert.FgateBwd.nD Cert.FgateBwd.τ).loc Cert.FgateBwd.main_arg1) = m ((c.tc : Thread Cert.FgateBwd.nD Cert.FgateBwd.τ).loc Cert.FgateBwd.main_arg1))
      ∧ r.2.sem = fun _ => 0)

def quiescent_FgateBwdIdeal [hFgateBwdIdeal : Cert.FgateBwdIdeal.Facts] : Prop :=
  ∀ (m : (ℓ : Loc Cert.FgateBwdIdeal.nD Cert.FgateBwdIdeal.τ Cert.FgateBwdIdeal.sig) → Buf (Elt Ideal) ℓ) (g : Dev Cert.FgateBwdIdeal.nD → PrngReg), Pre_FgateBwdIdeal m →
    θ_run (Cert.FgateBwdIdeal.defs (F := Ideal)) (onTc (τ := Cert.FgateBwdIdeal.τ) (Cert.FgateBwdIdeal.main (F := Ideal))) ⟨m, fun _ => 0, g⟩ (fun r => (∀ c : Dev Cert.FgateBwdIdeal.nD,
      r.2.mem ((c.tc : Thread Cert.FgateBwdIdeal.nD Cert.FgateBwdIdeal.τ).loc Cert.FgateBwdIdeal.main_arg0) = m ((c.tc : Thread Cert.FgateBwdIdeal.nD Cert.FgateBwdIdeal.τ).loc Cert.FgateBwdIdeal.main_arg0)
      ∧ r.2.mem ((c.tc : Thread Cert.FgateBwdIdeal.nD Cert.FgateBwdIdeal.τ).loc Cert.FgateBwdIdeal.main_arg1) = m ((c.tc : Thread Cert.FgateBwdIdeal.nD Cert.FgateBwdIdeal.τ).loc Cert.FgateBwdIdeal.main_arg1))
      ∧ r.2.sem = fun _ => 0)

def quiescent_FgateBwdRefIdeal [hFgateBwdRefIdeal : Cert.FgateBwdRefIdeal.Facts] : Prop :=
  ∀ (m : (ℓ : Loc Cert.FgateBwdRefIdeal.nD Cert.FgateBwdRefIdeal.τ Cert.FgateBwdRefIdeal.sig) → Buf (Elt Ideal) ℓ) (g : Dev Cert.FgateBwdRefIdeal.nD → PrngReg), Pre_FgateBwdRefIdeal m →
    θ_run (Cert.FgateBwdRefIdeal.defs (F := Ideal)) (onTc (τ := Cert.FgateBwdRefIdeal.τ) (Cert.FgateBwdRefIdeal.main (F := Ideal))) ⟨m, fun _ => 0, g⟩ (fun r => (∀ c : Dev Cert.FgateBwdRefIdeal.nD,
      r.2.mem ((c.tc : Thread Cert.FgateBwdRefIdeal.nD Cert.FgateBwdRefIdeal.τ).loc Cert.FgateBwdRefIdeal.main_arg0) = m ((c.tc : Thread Cert.FgateBwdRefIdeal.nD Cert.FgateBwdRefIdeal.τ).loc Cert.FgateBwdRefIdeal.main_arg0)
      ∧ r.2.mem ((c.tc : Thread Cert.FgateBwdRefIdeal.nD Cert.FgateBwdRefIdeal.τ).loc Cert.FgateBwdRefIdeal.main_arg1) = m ((c.tc : Thread Cert.FgateBwdRefIdeal.nD Cert.FgateBwdRefIdeal.τ).loc Cert.FgateBwdRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_BwdMid [hBwdMid : Cert.BwdMid.Facts] : Prop :=
  ∀ (m : (ℓ : Loc Cert.BwdMid.nD Cert.BwdMid.τ Cert.BwdMid.sig) → Buf (Elt Bits) ℓ) (g : Dev Cert.BwdMid.nD → PrngReg), Pre_BwdMid m →
    θ_run (Cert.BwdMid.defs (F := Bits)) (onTc (τ := Cert.BwdMid.τ) (Cert.BwdMid.main (F := Bits))) ⟨m, fun _ => 0, g⟩ (fun r => (∀ c : Dev Cert.BwdMid.nD,
      r.2.mem ((c.tc : Thread Cert.BwdMid.nD Cert.BwdMid.τ).loc Cert.BwdMid.main_arg0) = m ((c.tc : Thread Cert.BwdMid.nD Cert.BwdMid.τ).loc Cert.BwdMid.main_arg0)
      ∧ r.2.mem ((c.tc : Thread Cert.BwdMid.nD Cert.BwdMid.τ).loc Cert.BwdMid.main_arg1) = m ((c.tc : Thread Cert.BwdMid.nD Cert.BwdMid.τ).loc Cert.BwdMid.main_arg1)
      ∧ r.2.mem ((c.tc : Thread Cert.BwdMid.nD Cert.BwdMid.τ).loc Cert.BwdMid.main_arg2) = m ((c.tc : Thread Cert.BwdMid.nD Cert.BwdMid.τ).loc Cert.BwdMid.main_arg2)
      ∧ r.2.mem ((c.tc : Thread Cert.BwdMid.nD Cert.BwdMid.τ).loc Cert.BwdMid.main_arg3) = m ((c.tc : Thread Cert.BwdMid.nD Cert.BwdMid.τ).loc Cert.BwdMid.main_arg3)
      ∧ r.2.mem ((c.tc : Thread Cert.BwdMid.nD Cert.BwdMid.τ).loc Cert.BwdMid.main_arg4) = m ((c.tc : Thread Cert.BwdMid.nD Cert.BwdMid.τ).loc Cert.BwdMid.main_arg4)
      ∧ r.2.mem ((c.tc : Thread Cert.BwdMid.nD Cert.BwdMid.τ).loc Cert.BwdMid.main_arg5) = m ((c.tc : Thread Cert.BwdMid.nD Cert.BwdMid.τ).loc Cert.BwdMid.main_arg5)
      ∧ r.2.mem ((c.tc : Thread Cert.BwdMid.nD Cert.BwdMid.τ).loc Cert.BwdMid.main_arg6) = m ((c.tc : Thread Cert.BwdMid.nD Cert.BwdMid.τ).loc Cert.BwdMid.main_arg6)
      ∧ r.2.mem ((c.tc : Thread Cert.BwdMid.nD Cert.BwdMid.τ).loc Cert.BwdMid.main_arg7) = m ((c.tc : Thread Cert.BwdMid.nD Cert.BwdMid.τ).loc Cert.BwdMid.main_arg7)
      ∧ r.2.mem ((c.tc : Thread Cert.BwdMid.nD Cert.BwdMid.τ).loc Cert.BwdMid.main_arg8) = m ((c.tc : Thread Cert.BwdMid.nD Cert.BwdMid.τ).loc Cert.BwdMid.main_arg8)
      ∧ r.2.mem ((c.tc : Thread Cert.BwdMid.nD Cert.BwdMid.τ).loc Cert.BwdMid.main_arg9) = m ((c.tc : Thread Cert.BwdMid.nD Cert.BwdMid.τ).loc Cert.BwdMid.main_arg9))
      ∧ r.2.sem = fun _ => 0)

def quiescent_BwdMidIdeal [hBwdMidIdeal : Cert.BwdMidIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
      ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
      ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ r.2.sem = fun _ => 0)

def quiescent_BwdMidIdeal_pre_finite [hBwdMidIdeal : Cert.BwdMidIdeal.Facts] [hPre_finite : Cert.Pre_finite.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal_finite m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
      ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
      ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ r.2.sem = fun _ => 0)

def quiescent_BwdMidRefIdeal [hBwdMidRefIdeal : Cert.BwdMidRefIdeal.Facts] : Prop :=
  ∀ (m : (ℓ : Loc Cert.BwdMidRefIdeal.nD Cert.BwdMidRefIdeal.τ Cert.BwdMidRefIdeal.sig) → Buf (Elt Ideal) ℓ) (g : Dev Cert.BwdMidRefIdeal.nD → PrngReg), Pre_BwdMidRefIdeal m →
    θ_run (Cert.BwdMidRefIdeal.defs (F := Ideal)) (onTc (τ := Cert.BwdMidRefIdeal.τ) (Cert.BwdMidRefIdeal.main (F := Ideal))) ⟨m, fun _ => 0, g⟩ (fun r => (∀ c : Dev Cert.BwdMidRefIdeal.nD,
      r.2.mem ((c.tc : Thread Cert.BwdMidRefIdeal.nD Cert.BwdMidRefIdeal.τ).loc Cert.BwdMidRefIdeal.main_arg0) = m ((c.tc : Thread Cert.BwdMidRefIdeal.nD Cert.BwdMidRefIdeal.τ).loc Cert.BwdMidRefIdeal.main_arg0)
      ∧ r.2.mem ((c.tc : Thread Cert.BwdMidRefIdeal.nD Cert.BwdMidRefIdeal.τ).loc Cert.BwdMidRefIdeal.main_arg1) = m ((c.tc : Thread Cert.BwdMidRefIdeal.nD Cert.BwdMidRefIdeal.τ).loc Cert.BwdMidRefIdeal.main_arg1)
      ∧ r.2.mem ((c.tc : Thread Cert.BwdMidRefIdeal.nD Cert.BwdMidRefIdeal.τ).loc Cert.BwdMidRefIdeal.main_arg2) = m ((c.tc : Thread Cert.BwdMidRefIdeal.nD Cert.BwdMidRefIdeal.τ).loc Cert.BwdMidRefIdeal.main_arg2)
      ∧ r.2.mem ((c.tc : Thread Cert.BwdMidRefIdeal.nD Cert.BwdMidRefIdeal.τ).loc Cert.BwdMidRefIdeal.main_arg3) = m ((c.tc : Thread Cert.BwdMidRefIdeal.nD Cert.BwdMidRefIdeal.τ).loc Cert.BwdMidRefIdeal.main_arg3)
      ∧ r.2.mem ((c.tc : Thread Cert.BwdMidRefIdeal.nD Cert.BwdMidRefIdeal.τ).loc Cert.BwdMidRefIdeal.main_arg4) = m ((c.tc : Thread Cert.BwdMidRefIdeal.nD Cert.BwdMidRefIdeal.τ).loc Cert.BwdMidRefIdeal.main_arg4)
      ∧ r.2.mem ((c.tc : Thread Cert.BwdMidRefIdeal.nD Cert.BwdMidRefIdeal.τ).loc Cert.BwdMidRefIdeal.main_arg5) = m ((c.tc : Thread Cert.BwdMidRefIdeal.nD Cert.BwdMidRefIdeal.τ).loc Cert.BwdMidRefIdeal.main_arg5)
      ∧ r.2.mem ((c.tc : Thread Cert.BwdMidRefIdeal.nD Cert.BwdMidRefIdeal.τ).loc Cert.BwdMidRefIdeal.main_arg6) = m ((c.tc : Thread Cert.BwdMidRefIdeal.nD Cert.BwdMidRefIdeal.τ).loc Cert.BwdMidRefIdeal.main_arg6)
      ∧ r.2.mem ((c.tc : Thread Cert.BwdMidRefIdeal.nD Cert.BwdMidRefIdeal.τ).loc Cert.BwdMidRefIdeal.main_arg7) = m ((c.tc : Thread Cert.BwdMidRefIdeal.nD Cert.BwdMidRefIdeal.τ).loc Cert.BwdMidRefIdeal.main_arg7)
      ∧ r.2.mem ((c.tc : Thread Cert.BwdMidRefIdeal.nD Cert.BwdMidRefIdeal.τ).loc Cert.BwdMidRefIdeal.main_arg8) = m ((c.tc : Thread Cert.BwdMidRefIdeal.nD Cert.BwdMidRefIdeal.τ).loc Cert.BwdMidRefIdeal.main_arg8)
      ∧ r.2.mem ((c.tc : Thread Cert.BwdMidRefIdeal.nD Cert.BwdMidRefIdeal.τ).loc Cert.BwdMidRefIdeal.main_arg9) = m ((c.tc : Thread Cert.BwdMidRefIdeal.nD Cert.BwdMidRefIdeal.τ).loc Cert.BwdMidRefIdeal.main_arg9))
      ∧ r.2.sem = fun _ => 0)

def quiescent_BwdMidRefIdeal_pre_finite [hBwdMidRefIdeal : Cert.BwdMidRefIdeal.Facts] [hPre_finite : Cert.Pre_finite.Facts] : Prop :=
  ∀ (m : (ℓ : Loc Cert.BwdMidRefIdeal.nD Cert.BwdMidRefIdeal.τ Cert.BwdMidRefIdeal.sig) → Buf (Elt Ideal) ℓ) (g : Dev Cert.BwdMidRefIdeal.nD → PrngReg), Pre_BwdMidRefIdeal_finite m →
    θ_run (Cert.BwdMidRefIdeal.defs (F := Ideal)) (onTc (τ := Cert.BwdMidRefIdeal.τ) (Cert.BwdMidRefIdeal.main (F := Ideal))) ⟨m, fun _ => 0, g⟩ (fun r => (∀ c : Dev Cert.BwdMidRefIdeal.nD,
      r.2.mem ((c.tc : Thread Cert.BwdMidRefIdeal.nD Cert.BwdMidRefIdeal.τ).loc Cert.BwdMidRefIdeal.main_arg0) = m ((c.tc : Thread Cert.BwdMidRefIdeal.nD Cert.BwdMidRefIdeal.τ).loc Cert.BwdMidRefIdeal.main_arg0)
      ∧ r.2.mem ((c.tc : Thread Cert.BwdMidRefIdeal.nD Cert.BwdMidRefIdeal.τ).loc Cert.BwdMidRefIdeal.main_arg1) = m ((c.tc : Thread Cert.BwdMidRefIdeal.nD Cert.BwdMidRefIdeal.τ).loc Cert.BwdMidRefIdeal.main_arg1)
      ∧ r.2.mem ((c.tc : Thread Cert.BwdMidRefIdeal.nD Cert.BwdMidRefIdeal.τ).loc Cert.BwdMidRefIdeal.main_arg2) = m ((c.tc : Thread Cert.BwdMidRefIdeal.nD Cert.BwdMidRefIdeal.τ).loc Cert.BwdMidRefIdeal.main_arg2)
      ∧ r.2.mem ((c.tc : Thread Cert.BwdMidRefIdeal.nD Cert.BwdMidRefIdeal.τ).loc Cert.BwdMidRefIdeal.main_arg3) = m ((c.tc : Thread Cert.BwdMidRefIdeal.nD Cert.BwdMidRefIdeal.τ).loc Cert.BwdMidRefIdeal.main_arg3)
      ∧ r.2.mem ((c.tc : Thread Cert.BwdMidRefIdeal.nD Cert.BwdMidRefIdeal.τ).loc Cert.BwdMidRefIdeal.main_arg4) = m ((c.tc : Thread Cert.BwdMidRefIdeal.nD Cert.BwdMidRefIdeal.τ).loc Cert.BwdMidRefIdeal.main_arg4)
      ∧ r.2.mem ((c.tc : Thread Cert.BwdMidRefIdeal.nD Cert.BwdMidRefIdeal.τ).loc Cert.BwdMidRefIdeal.main_arg5) = m ((c.tc : Thread Cert.BwdMidRefIdeal.nD Cert.BwdMidRefIdeal.τ).loc Cert.BwdMidRefIdeal.main_arg5)
      ∧ r.2.mem ((c.tc : Thread Cert.BwdMidRefIdeal.nD Cert.BwdMidRefIdeal.τ).loc Cert.BwdMidRefIdeal.main_arg6) = m ((c.tc : Thread Cert.BwdMidRefIdeal.nD Cert.BwdMidRefIdeal.τ).loc Cert.BwdMidRefIdeal.main_arg6)
      ∧ r.2.mem ((c.tc : Thread Cert.BwdMidRefIdeal.nD Cert.BwdMidRefIdeal.τ).loc Cert.BwdMidRefIdeal.main_arg7) = m ((c.tc : Thread Cert.BwdMidRefIdeal.nD Cert.BwdMidRefIdeal.τ).loc Cert.BwdMidRefIdeal.main_arg7)
      ∧ r.2.mem ((c.tc : Thread Cert.BwdMidRefIdeal.nD Cert.BwdMidRefIdeal.τ).loc Cert.BwdMidRefIdeal.main_arg8) = m ((c.tc : Thread Cert.BwdMidRefIdeal.nD Cert.BwdMidRefIdeal.τ).loc Cert.BwdMidRefIdeal.main_arg8)
      ∧ r.2.mem ((c.tc : Thread Cert.BwdMidRefIdeal.nD Cert.BwdMidRefIdeal.τ).loc Cert.BwdMidRefIdeal.main_arg9) = m ((c.tc : Thread Cert.BwdMidRefIdeal.nD Cert.BwdMidRefIdeal.τ).loc Cert.BwdMidRefIdeal.main_arg9))
      ∧ r.2.sem = fun _ => 0)

def quiescent_FwdMid [hFwdMid : Cert.FwdMid.Facts] : Prop :=
  ∀ (m : (ℓ : Loc Cert.FwdMid.nD Cert.FwdMid.τ Cert.FwdMid.sig) → Buf (Elt Bits) ℓ) (g : Dev Cert.FwdMid.nD → PrngReg), Pre_FwdMid m →
    θ_run (Cert.FwdMid.defs (F := Bits)) (onTc (τ := Cert.FwdMid.τ) (Cert.FwdMid.main (F := Bits))) ⟨m, fun _ => 0, g⟩ (fun r => (∀ c : Dev Cert.FwdMid.nD,
      r.2.mem ((c.tc : Thread Cert.FwdMid.nD Cert.FwdMid.τ).loc Cert.FwdMid.main_arg0) = m ((c.tc : Thread Cert.FwdMid.nD Cert.FwdMid.τ).loc Cert.FwdMid.main_arg0)
      ∧ r.2.mem ((c.tc : Thread Cert.FwdMid.nD Cert.FwdMid.τ).loc Cert.FwdMid.main_arg1) = m ((c.tc : Thread Cert.FwdMid.nD Cert.FwdMid.τ).loc Cert.FwdMid.main_arg1)
      ∧ r.2.mem ((c.tc : Thread Cert.FwdMid.nD Cert.FwdMid.τ).loc Cert.FwdMid.main_arg2) = m ((c.tc : Thread Cert.FwdMid.nD Cert.FwdMid.τ).loc Cert.FwdMid.main_arg2)
      ∧ r.2.mem ((c.tc : Thread Cert.FwdMid.nD Cert.FwdMid.τ).loc Cert.FwdMid.main_arg3) = m ((c.tc : Thread Cert.FwdMid.nD Cert.FwdMid.τ).loc Cert.FwdMid.main_arg3)
      ∧ r.2.mem ((c.tc : Thread Cert.FwdMid.nD Cert.FwdMid.τ).loc Cert.FwdMid.main_arg4) = m ((c.tc : Thread Cert.FwdMid.nD Cert.FwdMid.τ).loc Cert.FwdMid.main_arg4)
      ∧ r.2.mem ((c.tc : Thread Cert.FwdMid.nD Cert.FwdMid.τ).loc Cert.FwdMid.main_arg5) = m ((c.tc : Thread Cert.FwdMid.nD Cert.FwdMid.τ).loc Cert.FwdMid.main_arg5)
      ∧ r.2.mem ((c.tc : Thread Cert.FwdMid.nD Cert.FwdMid.τ).loc Cert.FwdMid.main_arg6) = m ((c.tc : Thread Cert.FwdMid.nD Cert.FwdMid.τ).loc Cert.FwdMid.main_arg6)
      ∧ r.2.mem ((c.tc : Thread Cert.FwdMid.nD Cert.FwdMid.τ).loc Cert.FwdMid.main_arg7) = m ((c.tc : Thread Cert.FwdMid.nD Cert.FwdMid.τ).loc Cert.FwdMid.main_arg7)
      ∧ r.2.mem ((c.tc : Thread Cert.FwdMid.nD Cert.FwdMid.τ).loc Cert.FwdMid.main_arg8) = m ((c.tc : Thread Cert.FwdMid.nD Cert.FwdMid.τ).loc Cert.FwdMid.main_arg8))
      ∧ r.2.sem = fun _ => 0)

def quiescent_FwdMidIdeal [hFwdMidIdeal : Cert.FwdMidIdeal.Facts] : Prop :=
  ∀ (m : (ℓ : Loc Cert.FwdMidIdeal.nD Cert.FwdMidIdeal.τ Cert.FwdMidIdeal.sig) → Buf (Elt Ideal) ℓ) (g : Dev Cert.FwdMidIdeal.nD → PrngReg), Pre_FwdMidIdeal m →
    θ_run (Cert.FwdMidIdeal.defs (F := Ideal)) (onTc (τ := Cert.FwdMidIdeal.τ) (Cert.FwdMidIdeal.main (F := Ideal))) ⟨m, fun _ => 0, g⟩ (fun r => (∀ c : Dev Cert.FwdMidIdeal.nD,
      r.2.mem ((c.tc : Thread Cert.FwdMidIdeal.nD Cert.FwdMidIdeal.τ).loc Cert.FwdMidIdeal.main_arg0) = m ((c.tc : Thread Cert.FwdMidIdeal.nD Cert.FwdMidIdeal.τ).loc Cert.FwdMidIdeal.main_arg0)
      ∧ r.2.mem ((c.tc : Thread Cert.FwdMidIdeal.nD Cert.FwdMidIdeal.τ).loc Cert.FwdMidIdeal.main_arg1) = m ((c.tc : Thread Cert.FwdMidIdeal.nD Cert.FwdMidIdeal.τ).loc Cert.FwdMidIdeal.main_arg1)
      ∧ r.2.mem ((c.tc : Thread Cert.FwdMidIdeal.nD Cert.FwdMidIdeal.τ).loc Cert.FwdMidIdeal.main_arg2) = m ((c.tc : Thread Cert.FwdMidIdeal.nD Cert.FwdMidIdeal.τ).loc Cert.FwdMidIdeal.main_arg2)
      ∧ r.2.mem ((c.tc : Thread Cert.FwdMidIdeal.nD Cert.FwdMidIdeal.τ).loc Cert.FwdMidIdeal.main_arg3) = m ((c.tc : Thread Cert.FwdMidIdeal.nD Cert.FwdMidIdeal.τ).loc Cert.FwdMidIdeal.main_arg3)
      ∧ r.2.mem ((c.tc : Thread Cert.FwdMidIdeal.nD Cert.FwdMidIdeal.τ).loc Cert.FwdMidIdeal.main_arg4) = m ((c.tc : Thread Cert.FwdMidIdeal.nD Cert.FwdMidIdeal.τ).loc Cert.FwdMidIdeal.main_arg4)
      ∧ r.2.mem ((c.tc : Thread Cert.FwdMidIdeal.nD Cert.FwdMidIdeal.τ).loc Cert.FwdMidIdeal.main_arg5) = m ((c.tc : Thread Cert.FwdMidIdeal.nD Cert.FwdMidIdeal.τ).loc Cert.FwdMidIdeal.main_arg5)
      ∧ r.2.mem ((c.tc : Thread Cert.FwdMidIdeal.nD Cert.FwdMidIdeal.τ).loc Cert.FwdMidIdeal.main_arg6) = m ((c.tc : Thread Cert.FwdMidIdeal.nD Cert.FwdMidIdeal.τ).loc Cert.FwdMidIdeal.main_arg6)
      ∧ r.2.mem ((c.tc : Thread Cert.FwdMidIdeal.nD Cert.FwdMidIdeal.τ).loc Cert.FwdMidIdeal.main_arg7) = m ((c.tc : Thread Cert.FwdMidIdeal.nD Cert.FwdMidIdeal.τ).loc Cert.FwdMidIdeal.main_arg7)
      ∧ r.2.mem ((c.tc : Thread Cert.FwdMidIdeal.nD Cert.FwdMidIdeal.τ).loc Cert.FwdMidIdeal.main_arg8) = m ((c.tc : Thread Cert.FwdMidIdeal.nD Cert.FwdMidIdeal.τ).loc Cert.FwdMidIdeal.main_arg8))
      ∧ r.2.sem = fun _ => 0)

def quiescent_FwdMidRefIdeal [hFwdMidRefIdeal : Cert.FwdMidRefIdeal.Facts] : Prop :=
  ∀ (m : (ℓ : Loc Cert.FwdMidRefIdeal.nD Cert.FwdMidRefIdeal.τ Cert.FwdMidRefIdeal.sig) → Buf (Elt Ideal) ℓ) (g : Dev Cert.FwdMidRefIdeal.nD → PrngReg), Pre_FwdMidRefIdeal m →
    θ_run (Cert.FwdMidRefIdeal.defs (F := Ideal)) (onTc (τ := Cert.FwdMidRefIdeal.τ) (Cert.FwdMidRefIdeal.main (F := Ideal))) ⟨m, fun _ => 0, g⟩ (fun r => (∀ c : Dev Cert.FwdMidRefIdeal.nD,
      r.2.mem ((c.tc : Thread Cert.FwdMidRefIdeal.nD Cert.FwdMidRefIdeal.τ).loc Cert.FwdMidRefIdeal.main_arg0) = m ((c.tc : Thread Cert.FwdMidRefIdeal.nD Cert.FwdMidRefIdeal.τ).loc Cert.FwdMidRefIdeal.main_arg0)
      ∧ r.2.mem ((c.tc : Thread Cert.FwdMidRefIdeal.nD Cert.FwdMidRefIdeal.τ).loc Cert.FwdMidRefIdeal.main_arg1) = m ((c.tc : Thread Cert.FwdMidRefIdeal.nD Cert.FwdMidRefIdeal.τ).loc Cert.FwdMidRefIdeal.main_arg1)
      ∧ r.2.mem ((c.tc : Thread Cert.FwdMidRefIdeal.nD Cert.FwdMidRefIdeal.τ).loc Cert.FwdMidRefIdeal.main_arg2) = m ((c.tc : Thread Cert.FwdMidRefIdeal.nD Cert.FwdMidRefIdeal.τ).loc Cert.FwdMidRefIdeal.main_arg2)
      ∧ r.2.mem ((c.tc : Thread Cert.FwdMidRefIdeal.nD Cert.FwdMidRefIdeal.τ).loc Cert.FwdMidRefIdeal.main_arg3) = m ((c.tc : Thread Cert.FwdMidRefIdeal.nD Cert.FwdMidRefIdeal.τ).loc Cert.FwdMidRefIdeal.main_arg3)
      ∧ r.2.mem ((c.tc : Thread Cert.FwdMidRefIdeal.nD Cert.FwdMidRefIdeal.τ).loc Cert.FwdMidRefIdeal.main_arg4) = m ((c.tc : Thread Cert.FwdMidRefIdeal.nD Cert.FwdMidRefIdeal.τ).loc Cert.FwdMidRefIdeal.main_arg4)
      ∧ r.2.mem ((c.tc : Thread Cert.FwdMidRefIdeal.nD Cert.FwdMidRefIdeal.τ).loc Cert.FwdMidRefIdeal.main_arg5) = m ((c.tc : Thread Cert.FwdMidRefIdeal.nD Cert.FwdMidRefIdeal.τ).loc Cert.FwdMidRefIdeal.main_arg5)
      ∧ r.2.mem ((c.tc : Thread Cert.FwdMidRefIdeal.nD Cert.FwdMidRefIdeal.τ).loc Cert.FwdMidRefIdeal.main_arg6) = m ((c.tc : Thread Cert.FwdMidRefIdeal.nD Cert.FwdMidRefIdeal.τ).loc Cert.FwdMidRefIdeal.main_arg6)
      ∧ r.2.mem ((c.tc : Thread Cert.FwdMidRefIdeal.nD Cert.FwdMidRefIdeal.τ).loc Cert.FwdMidRefIdeal.main_arg7) = m ((c.tc : Thread Cert.FwdMidRefIdeal.nD Cert.FwdMidRefIdeal.τ).loc Cert.FwdMidRefIdeal.main_arg7)
      ∧ r.2.mem ((c.tc : Thread Cert.FwdMidRefIdeal.nD Cert.FwdMidRefIdeal.τ).loc Cert.FwdMidRefIdeal.main_arg8) = m ((c.tc : Thread Cert.FwdMidRefIdeal.nD Cert.FwdMidRefIdeal.τ).loc Cert.FwdMidRefIdeal.main_arg8))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![4096, 1024]⟩ ⟨2, ![16384, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_arg0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![4096, 1024]⟩ ⟨2, ![16384, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_arg0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![4, 4096, 1024]⟩ ⟨3, ![32, 4096, 1024]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v8)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨3, ![4, 2048, 1024]⟩ ⟨3, ![32, 2048, 1024]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨3, ![4, 4096, 1024]⟩ ⟨3, ![32, 4096, 1024]⟩ 0 8 c (m' (((0 : Dev Cert.SiblingRef.nD).tc : Thread Cert.SiblingRef.nD Cert.SiblingRef.τ).loc Cert.SiblingRef.main_arg0))) →
    ∃ (v0 : Buf (Elt Bits) (((0 : Dev Cert.SiblingRef.nD).tc : Thread Cert.SiblingRef.nD Cert.SiblingRef.τ).loc Cert.SiblingRef.main_v8)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1) = Layout.block ⟨3, ![4, 2048, 1024]⟩ ⟨3, ![32, 2048, 1024]⟩ 0 8 c v0
          ∧ r.2.mem ((c.tc : Thread Cert.Sibling.nD Cert.Sibling.τ).loc Cert.Sibling.main_arg0) = m ((c.tc : Thread Cert.Sibling.nD Cert.Sibling.τ).loc Cert.Sibling.main_arg0))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v8) = v0
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0))

def preserves_Ici_IciIdeal : Prop :=
  True

def algebraic_IciIdeal_IciRefIdeal [hIciIdeal : Cert.IciIdeal.Facts] [hIciRefIdeal : Cert.IciRefIdeal.Facts] : Prop :=
  ∀ (m : (ℓ : Loc Cert.IciIdeal.nD Cert.IciIdeal.τ Cert.IciIdeal.sig) → Buf (Elt Ideal) ℓ) (g : Dev Cert.IciIdeal.nD → PrngReg)
    (m' : (ℓ : Loc Cert.IciRefIdeal.nD Cert.IciRefIdeal.τ Cert.IciRefIdeal.sig) → Buf (Elt Ideal) ℓ) (g' : Dev Cert.IciRefIdeal.nD → PrngReg), Pre_IciIdeal m →
    (∀ c : Dev Cert.IciIdeal.nD,
      m ((c.tc : Thread Cert.IciIdeal.nD Cert.IciIdeal.τ).loc Cert.IciIdeal.main_arg0) = Layout.block ⟨3, ![4, 2048, 1024]⟩ ⟨3, ![32, 2048, 1024]⟩ 0 8 c (m' (((0 : Dev Cert.IciRefIdeal.nD).tc : Thread Cert.IciRefIdeal.nD Cert.IciRefIdeal.τ).loc Cert.IciRefIdeal.main_arg0))) →
    ∃ (v0 : Buf (Elt Ideal) (((0 : Dev Cert.IciRefIdeal.nD).tc : Thread Cert.IciRefIdeal.nD Cert.IciRefIdeal.τ).loc Cert.IciRefIdeal.main_v75)),
      θ_run (Cert.IciIdeal.defs (F := Ideal)) (onTc (τ := Cert.IciIdeal.τ) (Cert.IciIdeal.main (F := Ideal))) ⟨m, fun _ => 0, g⟩ (fun r => ∀ c : Dev Cert.IciIdeal.nD,
          r.2.mem ((c.tc : Thread Cert.IciIdeal.nD Cert.IciIdeal.τ).loc Cert.IciIdeal.main_v1) = Layout.block ⟨3, ![3, 2048, 1024]⟩ ⟨3, ![24, 2048, 1024]⟩ 0 8 c v0
          ∧ r.2.mem ((c.tc : Thread Cert.IciIdeal.nD Cert.IciIdeal.τ).loc Cert.IciIdeal.main_arg0) = m ((c.tc : Thread Cert.IciIdeal.nD Cert.IciIdeal.τ).loc Cert.IciIdeal.main_arg0))
      ∧ θ_run (Cert.IciRefIdeal.defs (F := Ideal)) (onTc (τ := Cert.IciRefIdeal.τ) (Cert.IciRefIdeal.main (F := Ideal))) ⟨m', fun _ => 0, g'⟩ (fun r =>
          r.2.mem (((0 : Dev Cert.IciRefIdeal.nD).tc : Thread Cert.IciRefIdeal.nD Cert.IciRefIdeal.τ).loc Cert.IciRefIdeal.main_v75) = v0
          ∧ r.2.mem (((0 : Dev Cert.IciRefIdeal.nD).tc : Thread Cert.IciRefIdeal.nD Cert.IciRefIdeal.τ).loc Cert.IciRefIdeal.main_arg0) = m' (((0 : Dev Cert.IciRefIdeal.nD).tc : Thread Cert.IciRefIdeal.nD Cert.IciRefIdeal.τ).loc Cert.IciRefIdeal.main_arg0))

def bitexact_Ici_IciRef [hIci : Cert.Ici.Facts] [hIciRef : Cert.IciRef.Facts] : Prop :=
  ∀ (m : (ℓ : Loc Cert.Ici.nD Cert.Ici.τ Cert.Ici.sig) → Buf (Elt Bits) ℓ) (g : Dev Cert.Ici.nD → PrngReg)
    (m' : (ℓ : Loc Cert.IciRef.nD Cert.IciRef.τ Cert.IciRef.sig) → Buf (Elt Bits) ℓ) (g' : Dev Cert.IciRef.nD → PrngReg), Pre_Ici m →
    (∀ c : Dev Cert.Ici.nD,
      m ((c.tc : Thread Cert.Ici.nD Cert.Ici.τ).loc Cert.Ici.main_arg0) = Layout.block ⟨3, ![4, 2048, 1024]⟩ ⟨3, ![32, 2048, 1024]⟩ 0 8 c (m' (((0 : Dev Cert.IciRef.nD).tc : Thread Cert.IciRef.nD Cert.IciRef.τ).loc Cert.IciRef.main_arg0))) →
    ∃ (v0 : Buf (Elt Bits) (((0 : Dev Cert.IciRef.nD).tc : Thread Cert.IciRef.nD Cert.IciRef.τ).loc Cert.IciRef.main_v75)),
      θ_run (Cert.Ici.defs (F := Bits)) (onTc (τ := Cert.Ici.τ) (Cert.Ici.main (F := Bits))) ⟨m, fun _ => 0, g⟩ (fun r => ∀ c : Dev Cert.Ici.nD,
          r.2.mem ((c.tc : Thread Cert.Ici.nD Cert.Ici.τ).loc Cert.Ici.main_v1) = Layout.block ⟨3, ![3, 2048, 1024]⟩ ⟨3, ![24, 2048, 1024]⟩ 0 8 c v0
          ∧ r.2.mem ((c.tc : Thread Cert.Ici.nD Cert.Ici.τ).loc Cert.Ici.main_arg0) = m ((c.tc : Thread Cert.Ici.nD Cert.Ici.τ).loc Cert.Ici.main_arg0))
      ∧ θ_run (Cert.IciRef.defs (F := Bits)) (onTc (τ := Cert.IciRef.τ) (Cert.IciRef.main (F := Bits))) ⟨m', fun _ => 0, g'⟩ (fun r =>
          r.2.mem (((0 : Dev Cert.IciRef.nD).tc : Thread Cert.IciRef.nD Cert.IciRef.τ).loc Cert.IciRef.main_v75) = v0
          ∧ r.2.mem (((0 : Dev Cert.IciRef.nD).tc : Thread Cert.IciRef.nD Cert.IciRef.τ).loc Cert.IciRef.main_arg0) = m' (((0 : Dev Cert.IciRef.nD).tc : Thread Cert.IciRef.nD Cert.IciRef.τ).loc Cert.IciRef.main_arg0))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![2048, 1024]⟩ ⟨2, ![16384, 1024]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v4)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.block ⟨2, ![4096, 1024]⟩ ⟨2, ![32768, 1024]⟩ 0 8 c v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v4) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![2048, 1024]⟩ ⟨2, ![16384, 1024]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v4)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.block ⟨2, ![4096, 1024]⟩ ⟨2, ![32768, 1024]⟩ 0 8 c v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v4) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOutConv_DwOutConvIdeal : Prop :=
  True

def algebraic_DwOutConvIdeal_DwOutConvRefIdeal [hDwOutConvIdeal : Cert.DwOutConvIdeal.Facts] [hDwOutConvRefIdeal : Cert.DwOutConvRefIdeal.Facts] : Prop :=
  ∀ (m : (ℓ : Loc Cert.DwOutConvIdeal.nD Cert.DwOutConvIdeal.τ Cert.DwOutConvIdeal.sig) → Buf (Elt Ideal) ℓ) (g : Dev Cert.DwOutConvIdeal.nD → PrngReg)
    (m' : (ℓ : Loc Cert.DwOutConvRefIdeal.nD Cert.DwOutConvRefIdeal.τ Cert.DwOutConvRefIdeal.sig) → Buf (Elt Ideal) ℓ) (g' : Dev Cert.DwOutConvRefIdeal.nD → PrngReg), Pre_DwOutConvIdeal m →
    (∀ c : Dev Cert.DwOutConvIdeal.nD,
      m' ((c.tc : Thread Cert.DwOutConvRefIdeal.nD Cert.DwOutConvRefIdeal.τ).loc Cert.DwOutConvRefIdeal.main_arg0) = m ((c.tc : Thread Cert.DwOutConvIdeal.nD Cert.DwOutConvIdeal.τ).loc Cert.DwOutConvIdeal.main_arg0)
      ∧ m' ((c.tc : Thread Cert.DwOutConvRefIdeal.nD Cert.DwOutConvRefIdeal.τ).loc Cert.DwOutConvRefIdeal.main_arg1) = m ((c.tc : Thread Cert.DwOutConvIdeal.nD Cert.DwOutConvIdeal.τ).loc Cert.DwOutConvIdeal.main_arg1)) →
    ∃ (v0 : (c : Dev Cert.DwOutConvIdeal.nD) → Buf (Elt Ideal) ((c.tc : Thread Cert.DwOutConvIdeal.nD Cert.DwOutConvIdeal.τ).loc Cert.DwOutConvIdeal.main_v0)),
      θ_run (Cert.DwOutConvIdeal.defs (F := Ideal)) (onTc (τ := Cert.DwOutConvIdeal.τ) (Cert.DwOutConvIdeal.main (F := Ideal))) ⟨m, fun _ => 0, g⟩ (fun r => ∀ c : Dev Cert.DwOutConvIdeal.nD,
          r.2.mem ((c.tc : Thread Cert.DwOutConvIdeal.nD Cert.DwOutConvIdeal.τ).loc Cert.DwOutConvIdeal.main_v0) = v0 c
          ∧ r.2.mem ((c.tc : Thread Cert.DwOutConvIdeal.nD Cert.DwOutConvIdeal.τ).loc Cert.DwOutConvIdeal.main_arg0) = m ((c.tc : Thread Cert.DwOutConvIdeal.nD Cert.DwOutConvIdeal.τ).loc Cert.DwOutConvIdeal.main_arg0)
          ∧ r.2.mem ((c.tc : Thread Cert.DwOutConvIdeal.nD Cert.DwOutConvIdeal.τ).loc Cert.DwOutConvIdeal.main_arg1) = m ((c.tc : Thread Cert.DwOutConvIdeal.nD Cert.DwOutConvIdeal.τ).loc Cert.DwOutConvIdeal.main_arg1))
      ∧ θ_run (Cert.DwOutConvRefIdeal.defs (F := Ideal)) (onTc (τ := Cert.DwOutConvRefIdeal.τ) (Cert.DwOutConvRefIdeal.main (F := Ideal))) ⟨m', fun _ => 0, g'⟩ (fun r => ∀ c : Dev Cert.DwOutConvRefIdeal.nD,
          r.2.mem ((c.tc : Thread Cert.DwOutConvRefIdeal.nD Cert.DwOutConvRefIdeal.τ).loc Cert.DwOutConvRefIdeal.main_v2) = v0 c
          ∧ r.2.mem ((c.tc : Thread Cert.DwOutConvRefIdeal.nD Cert.DwOutConvRefIdeal.τ).loc Cert.DwOutConvRefIdeal.main_arg0) = m' ((c.tc : Thread Cert.DwOutConvRefIdeal.nD Cert.DwOutConvRefIdeal.τ).loc Cert.DwOutConvRefIdeal.main_arg0)
          ∧ r.2.mem ((c.tc : Thread Cert.DwOutConvRefIdeal.nD Cert.DwOutConvRefIdeal.τ).loc Cert.DwOutConvRefIdeal.main_arg1) = m' ((c.tc : Thread Cert.DwOutConvRefIdeal.nD Cert.DwOutConvRefIdeal.τ).loc Cert.DwOutConvRefIdeal.main_arg1))

def preserves_DwOutFox_DwOutFoxIdeal : Prop :=
  True

def algebraic_DwOutFoxIdeal_DwOutFoxRefIdeal [hDwOutFoxIdeal : Cert.DwOutFoxIdeal.Facts] [hDwOutFoxRefIdeal : Cert.DwOutFoxRefIdeal.Facts] : Prop :=
  ∀ (m : (ℓ : Loc Cert.DwOutFoxIdeal.nD Cert.DwOutFoxIdeal.τ Cert.DwOutFoxIdeal.sig) → Buf (Elt Ideal) ℓ) (g : Dev Cert.DwOutFoxIdeal.nD → PrngReg)
    (m' : (ℓ : Loc Cert.DwOutFoxRefIdeal.nD Cert.DwOutFoxRefIdeal.τ Cert.DwOutFoxRefIdeal.sig) → Buf (Elt Ideal) ℓ) (g' : Dev Cert.DwOutFoxRefIdeal.nD → PrngReg), Pre_DwOutFoxIdeal m →
    (∀ c : Dev Cert.DwOutFoxIdeal.nD,
      m' ((c.tc : Thread Cert.DwOutFoxRefIdeal.nD Cert.DwOutFoxRefIdeal.τ).loc Cert.DwOutFoxRefIdeal.main_arg0) = m ((c.tc : Thread Cert.DwOutFoxIdeal.nD Cert.DwOutFoxIdeal.τ).loc Cert.DwOutFoxIdeal.main_arg0)
      ∧ m' ((c.tc : Thread Cert.DwOutFoxRefIdeal.nD Cert.DwOutFoxRefIdeal.τ).loc Cert.DwOutFoxRefIdeal.main_arg1) = m ((c.tc : Thread Cert.DwOutFoxIdeal.nD Cert.DwOutFoxIdeal.τ).loc Cert.DwOutFoxIdeal.main_arg1)) →
    ∃ (v0 : (c : Dev Cert.DwOutFoxIdeal.nD) → Buf (Elt Ideal) ((c.tc : Thread Cert.DwOutFoxIdeal.nD Cert.DwOutFoxIdeal.τ).loc Cert.DwOutFoxIdeal.main_v0)),
      θ_run (Cert.DwOutFoxIdeal.defs (F := Ideal)) (onTc (τ := Cert.DwOutFoxIdeal.τ) (Cert.DwOutFoxIdeal.main (F := Ideal))) ⟨m, fun _ => 0, g⟩ (fun r => ∀ c : Dev Cert.DwOutFoxIdeal.nD,
          r.2.mem ((c.tc : Thread Cert.DwOutFoxIdeal.nD Cert.DwOutFoxIdeal.τ).loc Cert.DwOutFoxIdeal.main_v0) = v0 c
          ∧ r.2.mem ((c.tc : Thread Cert.DwOutFoxIdeal.nD Cert.DwOutFoxIdeal.τ).loc Cert.DwOutFoxIdeal.main_arg0) = m ((c.tc : Thread Cert.DwOutFoxIdeal.nD Cert.DwOutFoxIdeal.τ).loc Cert.DwOutFoxIdeal.main_arg0)
          ∧ r.2.mem ((c.tc : Thread Cert.DwOutFoxIdeal.nD Cert.DwOutFoxIdeal.τ).loc Cert.DwOutFoxIdeal.main_arg1) = m ((c.tc : Thread Cert.DwOutFoxIdeal.nD Cert.DwOutFoxIdeal.τ).loc Cert.DwOutFoxIdeal.main_arg1))
      ∧ θ_run (Cert.DwOutFoxRefIdeal.defs (F := Ideal)) (onTc (τ := Cert.DwOutFoxRefIdeal.τ) (Cert.DwOutFoxRefIdeal.main (F := Ideal))) ⟨m', fun _ => 0, g'⟩ (fun r => ∀ c : Dev Cert.DwOutFoxRefIdeal.nD,
          r.2.mem ((c.tc : Thread Cert.DwOutFoxRefIdeal.nD Cert.DwOutFoxRefIdeal.τ).loc Cert.DwOutFoxRefIdeal.main_v1) = v0 c
          ∧ r.2.mem ((c.tc : Thread Cert.DwOutFoxRefIdeal.nD Cert.DwOutFoxRefIdeal.τ).loc Cert.DwOutFoxRefIdeal.main_arg0) = m' ((c.tc : Thread Cert.DwOutFoxRefIdeal.nD Cert.DwOutFoxRefIdeal.τ).loc Cert.DwOutFoxRefIdeal.main_arg0)
          ∧ r.2.mem ((c.tc : Thread Cert.DwOutFoxRefIdeal.nD Cert.DwOutFoxRefIdeal.τ).loc Cert.DwOutFoxRefIdeal.main_arg1) = m' ((c.tc : Thread Cert.DwOutFoxRefIdeal.nD Cert.DwOutFoxRefIdeal.τ).loc Cert.DwOutFoxRefIdeal.main_arg1))

def preserves_DwMq_DwMqIdeal : Prop :=
  True

def algebraic_DwMqIdeal_DwMqRefIdeal [hDwMqIdeal : Cert.DwMqIdeal.Facts] [hDwMqRefIdeal : Cert.DwMqRefIdeal.Facts] : Prop :=
  ∀ (m : (ℓ : Loc Cert.DwMqIdeal.nD Cert.DwMqIdeal.τ Cert.DwMqIdeal.sig) → Buf (Elt Ideal) ℓ) (g : Dev Cert.DwMqIdeal.nD → PrngReg)
    (m' : (ℓ : Loc Cert.DwMqRefIdeal.nD Cert.DwMqRefIdeal.τ Cert.DwMqRefIdeal.sig) → Buf (Elt Ideal) ℓ) (g' : Dev Cert.DwMqRefIdeal.nD → PrngReg), Pre_DwMqIdeal m →
    (∀ c : Dev Cert.DwMqIdeal.nD,
      m' ((c.tc : Thread Cert.DwMqRefIdeal.nD Cert.DwMqRefIdeal.τ).loc Cert.DwMqRefIdeal.main_arg0) = m ((c.tc : Thread Cert.DwMqIdeal.nD Cert.DwMqIdeal.τ).loc Cert.DwMqIdeal.main_arg0)
      ∧ m' ((c.tc : Thread Cert.DwMqRefIdeal.nD Cert.DwMqRefIdeal.τ).loc Cert.DwMqRefIdeal.main_arg1) = m ((c.tc : Thread Cert.DwMqIdeal.nD Cert.DwMqIdeal.τ).loc Cert.DwMqIdeal.main_arg1)) →
    ∃ (v0 : (c : Dev Cert.DwMqIdeal.nD) → Buf (Elt Ideal) ((c.tc : Thread Cert.DwMqIdeal.nD Cert.DwMqIdeal.τ).loc Cert.DwMqIdeal.main_v0)),
      θ_run (Cert.DwMqIdeal.defs (F := Ideal)) (onTc (τ := Cert.DwMqIdeal.τ) (Cert.DwMqIdeal.main (F := Ideal))) ⟨m, fun _ => 0, g⟩ (fun r => ∀ c : Dev Cert.DwMqIdeal.nD,
          r.2.mem ((c.tc : Thread Cert.DwMqIdeal.nD Cert.DwMqIdeal.τ).loc Cert.DwMqIdeal.main_v0) = v0 c
          ∧ r.2.mem ((c.tc : Thread Cert.DwMqIdeal.nD Cert.DwMqIdeal.τ).loc Cert.DwMqIdeal.main_arg0) = m ((c.tc : Thread Cert.DwMqIdeal.nD Cert.DwMqIdeal.τ).loc Cert.DwMqIdeal.main_arg0)
          ∧ r.2.mem ((c.tc : Thread Cert.DwMqIdeal.nD Cert.DwMqIdeal.τ).loc Cert.DwMqIdeal.main_arg1) = m ((c.tc : Thread Cert.DwMqIdeal.nD Cert.DwMqIdeal.τ).loc Cert.DwMqIdeal.main_arg1))
      ∧ θ_run (Cert.DwMqRefIdeal.defs (F := Ideal)) (onTc (τ := Cert.DwMqRefIdeal.τ) (Cert.DwMqRefIdeal.main (F := Ideal))) ⟨m', fun _ => 0, g'⟩ (fun r => ∀ c : Dev Cert.DwMqRefIdeal.nD,
          r.2.mem ((c.tc : Thread Cert.DwMqRefIdeal.nD Cert.DwMqRefIdeal.τ).loc Cert.DwMqRefIdeal.main_v3) = v0 c
          ∧ r.2.mem ((c.tc : Thread Cert.DwMqRefIdeal.nD Cert.DwMqRefIdeal.τ).loc Cert.DwMqRefIdeal.main_arg0) = m' ((c.tc : Thread Cert.DwMqRefIdeal.nD Cert.DwMqRefIdeal.τ).loc Cert.DwMqRefIdeal.main_arg0)
          ∧ r.2.mem ((c.tc : Thread Cert.DwMqRefIdeal.nD Cert.DwMqRefIdeal.τ).loc Cert.DwMqRefIdeal.main_arg1) = m' ((c.tc : Thread Cert.DwMqRefIdeal.nD Cert.DwMqRefIdeal.τ).loc Cert.DwMqRefIdeal.main_arg1))

def preserves_DwMkv_DwMkvIdeal : Prop :=
  True

def algebraic_DwMkvIdeal_DwMkvRefIdeal [hDwMkvIdeal : Cert.DwMkvIdeal.Facts] [hDwMkvRefIdeal : Cert.DwMkvRefIdeal.Facts] : Prop :=
  ∀ (m : (ℓ : Loc Cert.DwMkvIdeal.nD Cert.DwMkvIdeal.τ Cert.DwMkvIdeal.sig) → Buf (Elt Ideal) ℓ) (g : Dev Cert.DwMkvIdeal.nD → PrngReg)
    (m' : (ℓ : Loc Cert.DwMkvRefIdeal.nD Cert.DwMkvRefIdeal.τ Cert.DwMkvRefIdeal.sig) → Buf (Elt Ideal) ℓ) (g' : Dev Cert.DwMkvRefIdeal.nD → PrngReg), Pre_DwMkvIdeal m →
    (∀ c : Dev Cert.DwMkvIdeal.nD,
      m' ((c.tc : Thread Cert.DwMkvRefIdeal.nD Cert.DwMkvRefIdeal.τ).loc Cert.DwMkvRefIdeal.main_arg0) = m ((c.tc : Thread Cert.DwMkvIdeal.nD Cert.DwMkvIdeal.τ).loc Cert.DwMkvIdeal.main_arg0)
      ∧ m' ((c.tc : Thread Cert.DwMkvRefIdeal.nD Cert.DwMkvRefIdeal.τ).loc Cert.DwMkvRefIdeal.main_arg1) = m ((c.tc : Thread Cert.DwMkvIdeal.nD Cert.DwMkvIdeal.τ).loc Cert.DwMkvIdeal.main_arg1)) →
    ∃ (v0 : (c : Dev Cert.DwMkvIdeal.nD) → Buf (Elt Ideal) ((c.tc : Thread Cert.DwMkvIdeal.nD Cert.DwMkvIdeal.τ).loc Cert.DwMkvIdeal.main_v0)),
      θ_run (Cert.DwMkvIdeal.defs (F := Ideal)) (onTc (τ := Cert.DwMkvIdeal.τ) (Cert.DwMkvIdeal.main (F := Ideal))) ⟨m, fun _ => 0, g⟩ (fun r => ∀ c : Dev Cert.DwMkvIdeal.nD,
          r.2.mem ((c.tc : Thread Cert.DwMkvIdeal.nD Cert.DwMkvIdeal.τ).loc Cert.DwMkvIdeal.main_v0) = v0 c
          ∧ r.2.mem ((c.tc : Thread Cert.DwMkvIdeal.nD Cert.DwMkvIdeal.τ).loc Cert.DwMkvIdeal.main_arg0) = m ((c.tc : Thread Cert.DwMkvIdeal.nD Cert.DwMkvIdeal.τ).loc Cert.DwMkvIdeal.main_arg0)
          ∧ r.2.mem ((c.tc : Thread Cert.DwMkvIdeal.nD Cert.DwMkvIdeal.τ).loc Cert.DwMkvIdeal.main_arg1) = m ((c.tc : Thread Cert.DwMkvIdeal.nD Cert.DwMkvIdeal.τ).loc Cert.DwMkvIdeal.main_arg1))
      ∧ θ_run (Cert.DwMkvRefIdeal.defs (F := Ideal)) (onTc (τ := Cert.DwMkvRefIdeal.τ) (Cert.DwMkvRefIdeal.main (F := Ideal))) ⟨m', fun _ => 0, g'⟩ (fun r => ∀ c : Dev Cert.DwMkvRefIdeal.nD,
          r.2.mem ((c.tc : Thread Cert.DwMkvRefIdeal.nD Cert.DwMkvRefIdeal.τ).loc Cert.DwMkvRefIdeal.main_v3) = v0 c
          ∧ r.2.mem ((c.tc : Thread Cert.DwMkvRefIdeal.nD Cert.DwMkvRefIdeal.τ).loc Cert.DwMkvRefIdeal.main_arg0) = m' ((c.tc : Thread Cert.DwMkvRefIdeal.nD Cert.DwMkvRefIdeal.τ).loc Cert.DwMkvRefIdeal.main_arg0)
          ∧ r.2.mem ((c.tc : Thread Cert.DwMkvRefIdeal.nD Cert.DwMkvRefIdeal.τ).loc Cert.DwMkvRefIdeal.main_arg1) = m' ((c.tc : Thread Cert.DwMkvRefIdeal.nD Cert.DwMkvRefIdeal.τ).loc Cert.DwMkvRefIdeal.main_arg1))

def preserves_DwMo_DwMoIdeal : Prop :=
  True

def algebraic_DwMoIdeal_DwMoRefIdeal [hDwMoIdeal : Cert.DwMoIdeal.Facts] [hDwMoRefIdeal : Cert.DwMoRefIdeal.Facts] : Prop :=
  ∀ (m : (ℓ : Loc Cert.DwMoIdeal.nD Cert.DwMoIdeal.τ Cert.DwMoIdeal.sig) → Buf (Elt Ideal) ℓ) (g : Dev Cert.DwMoIdeal.nD → PrngReg)
    (m' : (ℓ : Loc Cert.DwMoRefIdeal.nD Cert.DwMoRefIdeal.τ Cert.DwMoRefIdeal.sig) → Buf (Elt Ideal) ℓ) (g' : Dev Cert.DwMoRefIdeal.nD → PrngReg), Pre_DwMoIdeal m →
    (∀ c : Dev Cert.DwMoIdeal.nD,
      m' ((c.tc : Thread Cert.DwMoRefIdeal.nD Cert.DwMoRefIdeal.τ).loc Cert.DwMoRefIdeal.main_arg0) = m ((c.tc : Thread Cert.DwMoIdeal.nD Cert.DwMoIdeal.τ).loc Cert.DwMoIdeal.main_arg0)
      ∧ m' ((c.tc : Thread Cert.DwMoRefIdeal.nD Cert.DwMoRefIdeal.τ).loc Cert.DwMoRefIdeal.main_arg1) = m ((c.tc : Thread Cert.DwMoIdeal.nD Cert.DwMoIdeal.τ).loc Cert.DwMoIdeal.main_arg1)) →
    ∃ (v0 : (c : Dev Cert.DwMoIdeal.nD) → Buf (Elt Ideal) ((c.tc : Thread Cert.DwMoIdeal.nD Cert.DwMoIdeal.τ).loc Cert.DwMoIdeal.main_v0)),
      θ_run (Cert.DwMoIdeal.defs (F := Ideal)) (onTc (τ := Cert.DwMoIdeal.τ) (Cert.DwMoIdeal.main (F := Ideal))) ⟨m, fun _ => 0, g⟩ (fun r => ∀ c : Dev Cert.DwMoIdeal.nD,
          r.2.mem ((c.tc : Thread Cert.DwMoIdeal.nD Cert.DwMoIdeal.τ).loc Cert.DwMoIdeal.main_v0) = v0 c
          ∧ r.2.mem ((c.tc : Thread Cert.DwMoIdeal.nD Cert.DwMoIdeal.τ).loc Cert.DwMoIdeal.main_arg0) = m ((c.tc : Thread Cert.DwMoIdeal.nD Cert.DwMoIdeal.τ).loc Cert.DwMoIdeal.main_arg0)
          ∧ r.2.mem ((c.tc : Thread Cert.DwMoIdeal.nD Cert.DwMoIdeal.τ).loc Cert.DwMoIdeal.main_arg1) = m ((c.tc : Thread Cert.DwMoIdeal.nD Cert.DwMoIdeal.τ).loc Cert.DwMoIdeal.main_arg1))
      ∧ θ_run (Cert.DwMoRefIdeal.defs (F := Ideal)) (onTc (τ := Cert.DwMoRefIdeal.τ) (Cert.DwMoRefIdeal.main (F := Ideal))) ⟨m', fun _ => 0, g'⟩ (fun r => ∀ c : Dev Cert.DwMoRefIdeal.nD,
          r.2.mem ((c.tc : Thread Cert.DwMoRefIdeal.nD Cert.DwMoRefIdeal.τ).loc Cert.DwMoRefIdeal.main_v2) = v0 c
          ∧ r.2.mem ((c.tc : Thread Cert.DwMoRefIdeal.nD Cert.DwMoRefIdeal.τ).loc Cert.DwMoRefIdeal.main_arg0) = m' ((c.tc : Thread Cert.DwMoRefIdeal.nD Cert.DwMoRefIdeal.τ).loc Cert.DwMoRefIdeal.main_arg0)
          ∧ r.2.mem ((c.tc : Thread Cert.DwMoRefIdeal.nD Cert.DwMoRefIdeal.τ).loc Cert.DwMoRefIdeal.main_arg1) = m' ((c.tc : Thread Cert.DwMoRefIdeal.nD Cert.DwMoRefIdeal.τ).loc Cert.DwMoRefIdeal.main_arg1))

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v3) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v38) = v0 c
          ∧ r.2.mem ((c.tc : Thread Cert.BwdInRefIdeal.nD Cert.BwdInRefIdeal.τ).loc Cert.BwdInRefIdeal.main_v21) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_BwdMem_BwdMemIdeal : Prop :=
  True

def algebraic_BwdMemIdeal_BwdMemRefIdeal [hBwdMemIdeal : Cert.BwdMemIdeal.Facts] [hBwdMemRefIdeal : Cert.BwdMemRefIdeal.Facts] : Prop :=
  ∀ (m : (ℓ : Loc Cert.BwdMemIdeal.nD Cert.BwdMemIdeal.τ Cert.BwdMemIdeal.sig) → Buf (Elt Ideal) ℓ) (g : Dev Cert.BwdMemIdeal.nD → PrngReg)
    (m' : (ℓ : Loc Cert.BwdMemRefIdeal.nD Cert.BwdMemRefIdeal.τ Cert.BwdMemRefIdeal.sig) → Buf (Elt Ideal) ℓ) (g' : Dev Cert.BwdMemRefIdeal.nD → PrngReg), Pre_BwdMemIdeal m →
    (∀ c : Dev Cert.BwdMemIdeal.nD,
      m' ((c.tc : Thread Cert.BwdMemRefIdeal.nD Cert.BwdMemRefIdeal.τ).loc Cert.BwdMemRefIdeal.main_arg0) = m ((c.tc : Thread Cert.BwdMemIdeal.nD Cert.BwdMemIdeal.τ).loc Cert.BwdMemIdeal.main_arg0)
      ∧ m' ((c.tc : Thread Cert.BwdMemRefIdeal.nD Cert.BwdMemRefIdeal.τ).loc Cert.BwdMemRefIdeal.main_arg1) = m ((c.tc : Thread Cert.BwdMemIdeal.nD Cert.BwdMemIdeal.τ).loc Cert.BwdMemIdeal.main_arg1)
      ∧ m' ((c.tc : Thread Cert.BwdMemRefIdeal.nD Cert.BwdMemRefIdeal.τ).loc Cert.BwdMemRefIdeal.main_arg2) = m ((c.tc : Thread Cert.BwdMemIdeal.nD Cert.BwdMemIdeal.τ).loc Cert.BwdMemIdeal.main_arg2)
      ∧ m' ((c.tc : Thread Cert.BwdMemRefIdeal.nD Cert.BwdMemRefIdeal.τ).loc Cert.BwdMemRefIdeal.main_arg3) = m ((c.tc : Thread Cert.BwdMemIdeal.nD Cert.BwdMemIdeal.τ).loc Cert.BwdMemIdeal.main_arg3)
      ∧ m' ((c.tc : Thread Cert.BwdMemRefIdeal.nD Cert.BwdMemRefIdeal.τ).loc Cert.BwdMemRefIdeal.main_arg4) = m ((c.tc : Thread Cert.BwdMemIdeal.nD Cert.BwdMemIdeal.τ).loc Cert.BwdMemIdeal.main_arg4)) →
    ∃ (v0 : (c : Dev Cert.BwdMemIdeal.nD) → Buf (Elt Ideal) ((c.tc : Thread Cert.BwdMemIdeal.nD Cert.BwdMemIdeal.τ).loc Cert.BwdMemIdeal.main_v0_0)) (v1 : (c : Dev Cert.BwdMemIdeal.nD) → Buf (Elt Ideal) ((c.tc : Thread Cert.BwdMemIdeal.nD Cert.BwdMemIdeal.τ).loc Cert.BwdMemIdeal.main_v0_1)),
      θ_run (Cert.BwdMemIdeal.defs (F := Ideal)) (onTc (τ := Cert.BwdMemIdeal.τ) (Cert.BwdMemIdeal.main (F := Ideal))) ⟨m, fun _ => 0, g⟩ (fun r => ∀ c : Dev Cert.BwdMemIdeal.nD,
          r.2.mem ((c.tc : Thread Cert.BwdMemIdeal.nD Cert.BwdMemIdeal.τ).loc Cert.BwdMemIdeal.main_v0_0) = v0 c
          ∧ r.2.mem ((c.tc : Thread Cert.BwdMemIdeal.nD Cert.BwdMemIdeal.τ).loc Cert.BwdMemIdeal.main_v0_1) = v1 c
          ∧ r.2.mem ((c.tc : Thread Cert.BwdMemIdeal.nD Cert.BwdMemIdeal.τ).loc Cert.BwdMemIdeal.main_arg0) = m ((c.tc : Thread Cert.BwdMemIdeal.nD Cert.BwdMemIdeal.τ).loc Cert.BwdMemIdeal.main_arg0)
          ∧ r.2.mem ((c.tc : Thread Cert.BwdMemIdeal.nD Cert.BwdMemIdeal.τ).loc Cert.BwdMemIdeal.main_arg1) = m ((c.tc : Thread Cert.BwdMemIdeal.nD Cert.BwdMemIdeal.τ).loc Cert.BwdMemIdeal.main_arg1)
          ∧ r.2.mem ((c.tc : Thread Cert.BwdMemIdeal.nD Cert.BwdMemIdeal.τ).loc Cert.BwdMemIdeal.main_arg2) = m ((c.tc : Thread Cert.BwdMemIdeal.nD Cert.BwdMemIdeal.τ).loc Cert.BwdMemIdeal.main_arg2)
          ∧ r.2.mem ((c.tc : Thread Cert.BwdMemIdeal.nD Cert.BwdMemIdeal.τ).loc Cert.BwdMemIdeal.main_arg3) = m ((c.tc : Thread Cert.BwdMemIdeal.nD Cert.BwdMemIdeal.τ).loc Cert.BwdMemIdeal.main_arg3)
          ∧ r.2.mem ((c.tc : Thread Cert.BwdMemIdeal.nD Cert.BwdMemIdeal.τ).loc Cert.BwdMemIdeal.main_arg4) = m ((c.tc : Thread Cert.BwdMemIdeal.nD Cert.BwdMemIdeal.τ).loc Cert.BwdMemIdeal.main_arg4))
      ∧ θ_run (Cert.BwdMemRefIdeal.defs (F := Ideal)) (onTc (τ := Cert.BwdMemRefIdeal.τ) (Cert.BwdMemRefIdeal.main (F := Ideal))) ⟨m', fun _ => 0, g'⟩ (fun r => ∀ c : Dev Cert.BwdMemRefIdeal.nD,
          r.2.mem ((c.tc : Thread Cert.BwdMemRefIdeal.nD Cert.BwdMemRefIdeal.τ).loc Cert.BwdMemRefIdeal.main_v15) = v0 c
          ∧ r.2.mem ((c.tc : Thread Cert.BwdMemRefIdeal.nD Cert.BwdMemRefIdeal.τ).loc Cert.BwdMemRefIdeal.main_v19) = v1 c
          ∧ r.2.mem ((c.tc : Thread Cert.BwdMemRefIdeal.nD Cert.BwdMemRefIdeal.τ).loc Cert.BwdMemRefIdeal.main_arg0) = m' ((c.tc : Thread Cert.BwdMemRefIdeal.nD Cert.BwdMemRefIdeal.τ).loc Cert.BwdMemRefIdeal.main_arg0)
          ∧ r.2.mem ((c.tc : Thread Cert.BwdMemRefIdeal.nD Cert.BwdMemRefIdeal.τ).loc Cert.BwdMemRefIdeal.main_arg1) = m' ((c.tc : Thread Cert.BwdMemRefIdeal.nD Cert.BwdMemRefIdeal.τ).loc Cert.BwdMemRefIdeal.main_arg1)
          ∧ r.2.mem ((c.tc : Thread Cert.BwdMemRefIdeal.nD Cert.BwdMemRefIdeal.τ).loc Cert.BwdMemRefIdeal.main_arg2) = m' ((c.tc : Thread Cert.BwdMemRefIdeal.nD Cert.BwdMemRefIdeal.τ).loc Cert.BwdMemRefIdeal.main_arg2)
          ∧ r.2.mem ((c.tc : Thread Cert.BwdMemRefIdeal.nD Cert.BwdMemRefIdeal.τ).loc Cert.BwdMemRefIdeal.main_arg3) = m' ((c.tc : Thread Cert.BwdMemRefIdeal.nD Cert.BwdMemRefIdeal.τ).loc Cert.BwdMemRefIdeal.main_arg3)
          ∧ r.2.mem ((c.tc : Thread Cert.BwdMemRefIdeal.nD Cert.BwdMemRefIdeal.τ).loc Cert.BwdMemRefIdeal.main_arg4) = m' ((c.tc : Thread Cert.BwdMemRefIdeal.nD Cert.BwdMemRefIdeal.τ).loc Cert.BwdMemRefIdeal.main_arg4))

def preserves_FwdFfn_FwdFfnIdeal : Prop :=
  True

def algebraic_FwdFfnIdeal_FwdFfnRefIdeal [hFwdFfnIdeal : Cert.FwdFfnIdeal.Facts] [hFwdFfnRefIdeal : Cert.FwdFfnRefIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg)
    (m' : (ℓ : Loc Cert.FwdFfnRefIdeal.nD Cert.FwdFfnRefIdeal.τ Cert.FwdFfnRefIdeal.sig) → Buf (Elt Ideal) ℓ) (g' : Dev Cert.FwdFfnRefIdeal.nD → PrngReg), Pre_FwdFfnIdeal m →
    (∀ c : Dev Cert.FwdFfnIdeal.nD,
      m' ((c.tc : Thread Cert.FwdFfnRefIdeal.nD Cert.FwdFfnRefIdeal.τ).loc Cert.FwdFfnRefIdeal.main_arg0) = m ((c.tc : Thread Cert.FwdFfnIdeal.nD Cert.FwdFfnIdeal.τ).loc Cert.FwdFfnIdeal.main_arg0)
      ∧ m' ((c.tc : Thread Cert.FwdFfnRefIdeal.nD Cert.FwdFfnRefIdeal.τ).loc Cert.FwdFfnRefIdeal.main_arg1) = m ((c.tc : Thread Cert.FwdFfnIdeal.nD Cert.FwdFfnIdeal.τ).loc Cert.FwdFfnIdeal.main_arg1)
      ∧ m' ((c.tc : Thread Cert.FwdFfnRefIdeal.nD Cert.FwdFfnRefIdeal.τ).loc Cert.FwdFfnRefIdeal.main_arg2) = m ((c.tc : Thread Cert.FwdFfnIdeal.nD Cert.FwdFfnIdeal.τ).loc Cert.FwdFfnIdeal.main_arg2)
      ∧ m' ((c.tc : Thread Cert.FwdFfnRefIdeal.nD Cert.FwdFfnRefIdeal.τ).loc Cert.FwdFfnRefIdeal.main_arg3) = m ((c.tc : Thread Cert.FwdFfnIdeal.nD Cert.FwdFfnIdeal.τ).loc Cert.FwdFfnIdeal.main_arg3)
      ∧ m' ((c.tc : Thread Cert.FwdFfnRefIdeal.nD Cert.FwdFfnRefIdeal.τ).loc Cert.FwdFfnRefIdeal.main_arg4) = m ((c.tc : Thread Cert.FwdFfnIdeal.nD Cert.FwdFfnIdeal.τ).loc Cert.FwdFfnIdeal.main_arg4)
      ∧ m' ((c.tc : Thread Cert.FwdFfnRefIdeal.nD Cert.FwdFfnRefIdeal.τ).loc Cert.FwdFfnRefIdeal.main_arg5) = m ((c.tc : Thread Cert.FwdFfnIdeal.nD Cert.FwdFfnIdeal.τ).loc Cert.FwdFfnIdeal.main_arg5)) →
    ∃ (v0 : (c : Dev Cert.FwdFfnIdeal.nD) → Buf (Elt Ideal) ((c.tc : Thread Cert.FwdFfnIdeal.nD Cert.FwdFfnIdeal.τ).loc Cert.FwdFfnIdeal.main_v0_0)) (v1 : (c : Dev Cert.FwdFfnIdeal.nD) → Buf (Elt Ideal) ((c.tc : Thread Cert.FwdFfnIdeal.nD Cert.FwdFfnIdeal.τ).loc Cert.FwdFfnIdeal.main_v0_1)) (v2 : (c : Dev Cert.FwdFfnIdeal.nD) → Buf (Elt Ideal) ((c.tc : Thread Cert.FwdFfnIdeal.nD Cert.FwdFfnIdeal.τ).loc Cert.FwdFfnIdeal.main_v0_2)) (v3 : (c : Dev Cert.FwdFfnIdeal.nD) → Buf (Elt Ideal) ((c.tc : Thread Cert.FwdFfnIdeal.nD Cert.FwdFfnIdeal.τ).loc Cert.FwdFfnIdeal.main_v0_3)) (v4 : (c : Dev Cert.FwdFfnIdeal.nD) → Buf (Elt Ideal) ((c.tc : Thread Cert.FwdFfnIdeal.nD Cert.FwdFfnIdeal.τ).loc Cert.FwdFfnIdeal.main_v0_4)) (v5 : (c : Dev Cert.FwdFfnIdeal.nD) → Buf (Elt Ideal) ((c.tc : Thread Cert.FwdFfnIdeal.nD Cert.FwdFfnIdeal.τ).loc Cert.FwdFfnIdeal.main_v0_5)),
      θ_run (Cert.FwdFfnIdeal.defs (F := Ideal)) (onTc (τ := Cert.FwdFfnIdeal.τ) (Cert.FwdFfnIdeal.main (F := Ideal))) ⟨m, fun _ => 0, g⟩ (fun r => ∀ c : Dev Cert.FwdFfnIdeal.nD,
          r.2.mem ((c.tc : Thread Cert.FwdFfnIdeal.nD Cert.FwdFfnIdeal.τ).loc Cert.FwdFfnIdeal.main_v0_0) = v0 c
          ∧ r.2.mem ((c.tc : Thread Cert.FwdFfnIdeal.nD Cert.FwdFfnIdeal.τ).loc Cert.FwdFfnIdeal.main_v0_1) = v1 c
          ∧ r.2.mem ((c.tc : Thread Cert.FwdFfnIdeal.nD Cert.FwdFfnIdeal.τ).loc Cert.FwdFfnIdeal.main_v0_2) = v2 c
          ∧ r.2.mem ((c.tc : Thread Cert.FwdFfnIdeal.nD Cert.FwdFfnIdeal.τ).loc Cert.FwdFfnIdeal.main_v0_3) = v3 c
          ∧ r.2.mem ((c.tc : Thread Cert.FwdFfnIdeal.nD Cert.FwdFfnIdeal.τ).loc Cert.FwdFfnIdeal.main_v0_4) = v4 c
          ∧ r.2.mem ((c.tc : Thread Cert.FwdFfnIdeal.nD Cert.FwdFfnIdeal.τ).loc Cert.FwdFfnIdeal.main_v0_5) = v5 c
          ∧ r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
          ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
          ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
          ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
          ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
          ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5))
      ∧ θ_run (Cert.FwdFfnRefIdeal.defs (F := Ideal)) (onTc (τ := Cert.FwdFfnRefIdeal.τ) (Cert.FwdFfnRefIdeal.main (F := Ideal))) ⟨m', fun _ => 0, g'⟩ (fun r => ∀ c : Dev Cert.FwdFfnRefIdeal.nD,
          r.2.mem ((c.tc : Thread Cert.FwdFfnRefIdeal.nD Cert.FwdFfnRefIdeal.τ).loc Cert.FwdFfnRefIdeal.main_v70) = v0 c
          ∧ r.2.mem ((c.tc : Thread Cert.FwdFfnRefIdeal.nD Cert.FwdFfnRefIdeal.τ).loc Cert.FwdFfnRefIdeal.main_v13) = v1 c
          ∧ r.2.mem ((c.tc : Thread Cert.FwdFfnRefIdeal.nD Cert.FwdFfnRefIdeal.τ).loc Cert.FwdFfnRefIdeal.main_v71) = v2 c
          ∧ r.2.mem ((c.tc : Thread Cert.FwdFfnRefIdeal.nD Cert.FwdFfnRefIdeal.τ).loc Cert.FwdFfnRefIdeal.main_v69) = v3 c
          ∧ r.2.mem ((c.tc : Thread Cert.FwdFfnRefIdeal.nD Cert.FwdFfnRefIdeal.τ).loc Cert.FwdFfnRefIdeal.main_v72) = v4 c
          ∧ r.2.mem ((c.tc : Thread Cert.FwdFfnRefIdeal.nD Cert.FwdFfnRefIdeal.τ).loc Cert.FwdFfnRefIdeal.main_v53) = v5 c
          ∧ r.2.mem ((c.tc : Thread Cert.FwdFfnRefIdeal.nD Cert.FwdFfnRefIdeal.τ).loc Cert.FwdFfnRefIdeal.main_arg0) = m' ((c.tc : Thread Cert.FwdFfnRefIdeal.nD Cert.FwdFfnRefIdeal.τ).loc Cert.FwdFfnRefIdeal.main_arg0)
          ∧ r.2.mem ((c.tc : Thread Cert.FwdFfnRefIdeal.nD Cert.FwdFfnRefIdeal.τ).loc Cert.FwdFfnRefIdeal.main_arg1) = m' ((c.tc : Thread Cert.FwdFfnRefIdeal.nD Cert.FwdFfnRefIdeal.τ).loc Cert.FwdFfnRefIdeal.main_arg1)
          ∧ r.2.mem ((c.tc : Thread Cert.FwdFfnRefIdeal.nD Cert.FwdFfnRefIdeal.τ).loc Cert.FwdFfnRefIdeal.main_arg2) = m' ((c.tc : Thread Cert.FwdFfnRefIdeal.nD Cert.FwdFfnRefIdeal.τ).loc Cert.FwdFfnRefIdeal.main_arg2)
          ∧ r.2.mem ((c.tc : Thread Cert.FwdFfnRefIdeal.nD Cert.FwdFfnRefIdeal.τ).loc Cert.FwdFfnRefIdeal.main_arg3) = m' ((c.tc : Thread Cert.FwdFfnRefIdeal.nD Cert.FwdFfnRefIdeal.τ).loc Cert.FwdFfnRefIdeal.main_arg3)
          ∧ r.2.mem ((c.tc : Thread Cert.FwdFfnRefIdeal.nD Cert.FwdFfnRefIdeal.τ).loc Cert.FwdFfnRefIdeal.main_arg4) = m' ((c.tc : Thread Cert.FwdFfnRefIdeal.nD Cert.FwdFfnRefIdeal.τ).loc Cert.FwdFfnRefIdeal.main_arg4)
          ∧ r.2.mem ((c.tc : Thread Cert.FwdFfnRefIdeal.nD Cert.FwdFfnRefIdeal.τ).loc Cert.FwdFfnRefIdeal.main_arg5) = m' ((c.tc : Thread Cert.FwdFfnRefIdeal.nD Cert.FwdFfnRefIdeal.τ).loc Cert.FwdFfnRefIdeal.main_arg5))

def preserves_BwdFfn_BwdFfnIdeal : Prop :=
  True

def algebraic_BwdFfnIdeal_BwdFfnRefIdeal [hBwdFfnIdeal : Cert.BwdFfnIdeal.Facts] [hBwdFfnRefIdeal : Cert.BwdFfnRefIdeal.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg)
    (m' : (ℓ : Loc Cert.BwdFfnRefIdeal.nD Cert.BwdFfnRefIdeal.τ Cert.BwdFfnRefIdeal.sig) → Buf (Elt Ideal) ℓ) (g' : Dev Cert.BwdFfnRefIdeal.nD → PrngReg), Pre_BwdFfnIdeal m →
    (∀ c : Dev Cert.BwdFfnIdeal.nD,
      m' ((c.tc : Thread Cert.BwdFfnRefIdeal.nD Cert.BwdFfnRefIdeal.τ).loc Cert.BwdFfnRefIdeal.main_arg0) = m ((c.tc : Thread Cert.BwdFfnIdeal.nD Cert.BwdFfnIdeal.τ).loc Cert.BwdFfnIdeal.main_arg0)
      ∧ m' ((c.tc : Thread Cert.BwdFfnRefIdeal.nD Cert.BwdFfnRefIdeal.τ).loc Cert.BwdFfnRefIdeal.main_arg1) = m ((c.tc : Thread Cert.BwdFfnIdeal.nD Cert.BwdFfnIdeal.τ).loc Cert.BwdFfnIdeal.main_arg1)
      ∧ m' ((c.tc : Thread Cert.BwdFfnRefIdeal.nD Cert.BwdFfnRefIdeal.τ).loc Cert.BwdFfnRefIdeal.main_arg2) = m ((c.tc : Thread Cert.BwdFfnIdeal.nD Cert.BwdFfnIdeal.τ).loc Cert.BwdFfnIdeal.main_arg2)
      ∧ m' ((c.tc : Thread Cert.BwdFfnRefIdeal.nD Cert.BwdFfnRefIdeal.τ).loc Cert.BwdFfnRefIdeal.main_arg3) = m ((c.tc : Thread Cert.BwdFfnIdeal.nD Cert.BwdFfnIdeal.τ).loc Cert.BwdFfnIdeal.main_arg3)
      ∧ m' ((c.tc : Thread Cert.BwdFfnRefIdeal.nD Cert.BwdFfnRefIdeal.τ).loc Cert.BwdFfnRefIdeal.main_arg4) = m ((c.tc : Thread Cert.BwdFfnIdeal.nD Cert.BwdFfnIdeal.τ).loc Cert.BwdFfnIdeal.main_arg4)
      ∧ m' ((c.tc : Thread Cert.BwdFfnRefIdeal.nD Cert.BwdFfnRefIdeal.τ).loc Cert.BwdFfnRefIdeal.main_arg5) = m ((c.tc : Thread Cert.BwdFfnIdeal.nD Cert.BwdFfnIdeal.τ).loc Cert.BwdFfnIdeal.main_arg5)) →
    ∃ (v0 : (c : Dev Cert.BwdFfnIdeal.nD) → Buf (Elt Ideal) ((c.tc : Thread Cert.BwdFfnIdeal.nD Cert.BwdFfnIdeal.τ).loc Cert.BwdFfnIdeal.main_v0_0)) (v1 : (c : Dev Cert.BwdFfnIdeal.nD) → Buf (Elt Ideal) ((c.tc : Thread Cert.BwdFfnIdeal.nD Cert.BwdFfnIdeal.τ).loc Cert.BwdFfnIdeal.main_v0_1)) (v2 : (c : Dev Cert.BwdFfnIdeal.nD) → Buf (Elt Ideal) ((c.tc : Thread Cert.BwdFfnIdeal.nD Cert.BwdFfnIdeal.τ).loc Cert.BwdFfnIdeal.main_v0_2)),
      θ_run (Cert.BwdFfnIdeal.defs (F := Ideal)) (onTc (τ := Cert.BwdFfnIdeal.τ) (Cert.BwdFfnIdeal.main (F := Ideal))) ⟨m, fun _ => 0, g⟩ (fun r => ∀ c : Dev Cert.BwdFfnIdeal.nD,
          r.2.mem ((c.tc : Thread Cert.BwdFfnIdeal.nD Cert.BwdFfnIdeal.τ).loc Cert.BwdFfnIdeal.main_v0_0) = v0 c
          ∧ r.2.mem ((c.tc : Thread Cert.BwdFfnIdeal.nD Cert.BwdFfnIdeal.τ).loc Cert.BwdFfnIdeal.main_v0_1) = v1 c
          ∧ r.2.mem ((c.tc : Thread Cert.BwdFfnIdeal.nD Cert.BwdFfnIdeal.τ).loc Cert.BwdFfnIdeal.main_v0_2) = v2 c
          ∧ r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
          ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
          ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
          ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
          ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4)
          ∧ r.2.mem ((c.tc : Thread Cert.BwdFfnIdeal.nD Cert.BwdFfnIdeal.τ).loc Cert.BwdFfnIdeal.main_arg5) = m ((c.tc : Thread Cert.BwdFfnIdeal.nD Cert.BwdFfnIdeal.τ).loc Cert.BwdFfnIdeal.main_arg5))
      ∧ θ_run (Cert.BwdFfnRefIdeal.defs (F := Ideal)) (onTc (τ := Cert.BwdFfnRefIdeal.τ) (Cert.BwdFfnRefIdeal.main (F := Ideal))) ⟨m', fun _ => 0, g'⟩ (fun r => ∀ c : Dev Cert.BwdFfnRefIdeal.nD,
          r.2.mem ((c.tc : Thread Cert.BwdFfnRefIdeal.nD Cert.BwdFfnRefIdeal.τ).loc Cert.BwdFfnRefIdeal.main_v48) = v0 c
          ∧ r.2.mem ((c.tc : Thread Cert.BwdFfnRefIdeal.nD Cert.BwdFfnRefIdeal.τ).loc Cert.BwdFfnRefIdeal.main_v49) = v1 c
          ∧ r.2.mem ((c.tc : Thread Cert.BwdFfnRefIdeal.nD Cert.BwdFfnRefIdeal.τ).loc Cert.BwdFfnRefIdeal.main_v31) = v2 c
          ∧ r.2.mem ((c.tc : Thread Cert.BwdFfnRefIdeal.nD Cert.BwdFfnRefIdeal.τ).loc Cert.BwdFfnRefIdeal.main_arg0) = m' ((c.tc : Thread Cert.BwdFfnRefIdeal.nD Cert.BwdFfnRefIdeal.τ).loc Cert.BwdFfnRefIdeal.main_arg0)
          ∧ r.2.mem ((c.tc : Thread Cert.BwdFfnRefIdeal.nD Cert.BwdFfnRefIdeal.τ).loc Cert.BwdFfnRefIdeal.main_arg1) = m' ((c.tc : Thread Cert.BwdFfnRefIdeal.nD Cert.BwdFfnRefIdeal.τ).loc Cert.BwdFfnRefIdeal.main_arg1)
          ∧ r.2.mem ((c.tc : Thread Cert.BwdFfnRefIdeal.nD Cert.BwdFfnRefIdeal.τ).loc Cert.BwdFfnRefIdeal.main_arg2) = m' ((c.tc : Thread Cert.BwdFfnRefIdeal.nD Cert.BwdFfnRefIdeal.τ).loc Cert.BwdFfnRefIdeal.main_arg2)
          ∧ r.2.mem ((c.tc : Thread Cert.BwdFfnRefIdeal.nD Cert.BwdFfnRefIdeal.τ).loc Cert.BwdFfnRefIdeal.main_arg3) = m' ((c.tc : Thread Cert.BwdFfnRefIdeal.nD Cert.BwdFfnRefIdeal.τ).loc Cert.BwdFfnRefIdeal.main_arg3)
          ∧ r.2.mem ((c.tc : Thread Cert.BwdFfnRefIdeal.nD Cert.BwdFfnRefIdeal.τ).loc Cert.BwdFfnRefIdeal.main_arg4) = m' ((c.tc : Thread Cert.BwdFfnRefIdeal.nD Cert.BwdFfnRefIdeal.τ).loc Cert.BwdFfnRefIdeal.main_arg4)
          ∧ r.2.mem ((c.tc : Thread Cert.BwdFfnRefIdeal.nD Cert.BwdFfnRefIdeal.τ).loc Cert.BwdFfnRefIdeal.main_arg5) = m' ((c.tc : Thread Cert.BwdFfnRefIdeal.nD Cert.BwdFfnRefIdeal.τ).loc Cert.BwdFfnRefIdeal.main_arg5))

def preserves_FgateBwd_FgateBwdIdeal : Prop :=
  True

def algebraic_FgateBwdIdeal_FgateBwdRefIdeal [hFgateBwdIdeal : Cert.FgateBwdIdeal.Facts] [hFgateBwdRefIdeal : Cert.FgateBwdRefIdeal.Facts] : Prop :=
  ∀ (m : (ℓ : Loc Cert.FgateBwdIdeal.nD Cert.FgateBwdIdeal.τ Cert.FgateBwdIdeal.sig) → Buf (Elt Ideal) ℓ) (g : Dev Cert.FgateBwdIdeal.nD → PrngReg)
    (m' : (ℓ : Loc Cert.FgateBwdRefIdeal.nD Cert.FgateBwdRefIdeal.τ Cert.FgateBwdRefIdeal.sig) → Buf (Elt Ideal) ℓ) (g' : Dev Cert.FgateBwdRefIdeal.nD → PrngReg), Pre_FgateBwdIdeal m →
    (∀ c : Dev Cert.FgateBwdIdeal.nD,
      m' ((c.tc : Thread Cert.FgateBwdRefIdeal.nD Cert.FgateBwdRefIdeal.τ).loc Cert.FgateBwdRefIdeal.main_arg0) = m ((c.tc : Thread Cert.FgateBwdIdeal.nD Cert.FgateBwdIdeal.τ).loc Cert.FgateBwdIdeal.main_arg0)
      ∧ m' ((c.tc : Thread Cert.FgateBwdRefIdeal.nD Cert.FgateBwdRefIdeal.τ).loc Cert.FgateBwdRefIdeal.main_arg1) = m ((c.tc : Thread Cert.FgateBwdIdeal.nD Cert.FgateBwdIdeal.τ).loc Cert.FgateBwdIdeal.main_arg1)) →
    ∃ (v0 : (c : Dev Cert.FgateBwdIdeal.nD) → Buf (Elt Ideal) ((c.tc : Thread Cert.FgateBwdIdeal.nD Cert.FgateBwdIdeal.τ).loc Cert.FgateBwdIdeal.main_v0_0)) (v1 : (c : Dev Cert.FgateBwdIdeal.nD) → Buf (Elt Ideal) ((c.tc : Thread Cert.FgateBwdIdeal.nD Cert.FgateBwdIdeal.τ).loc Cert.FgateBwdIdeal.main_v0_1)),
      θ_run (Cert.FgateBwdIdeal.defs (F := Ideal)) (onTc (τ := Cert.FgateBwdIdeal.τ) (Cert.FgateBwdIdeal.main (F := Ideal))) ⟨m, fun _ => 0, g⟩ (fun r => ∀ c : Dev Cert.FgateBwdIdeal.nD,
          r.2.mem ((c.tc : Thread Cert.FgateBwdIdeal.nD Cert.FgateBwdIdeal.τ).loc Cert.FgateBwdIdeal.main_v0_0) = v0 c
          ∧ r.2.mem ((c.tc : Thread Cert.FgateBwdIdeal.nD Cert.FgateBwdIdeal.τ).loc Cert.FgateBwdIdeal.main_v0_1) = v1 c
          ∧ r.2.mem ((c.tc : Thread Cert.FgateBwdIdeal.nD Cert.FgateBwdIdeal.τ).loc Cert.FgateBwdIdeal.main_arg0) = m ((c.tc : Thread Cert.FgateBwdIdeal.nD Cert.FgateBwdIdeal.τ).loc Cert.FgateBwdIdeal.main_arg0)
          ∧ r.2.mem ((c.tc : Thread Cert.FgateBwdIdeal.nD Cert.FgateBwdIdeal.τ).loc Cert.FgateBwdIdeal.main_arg1) = m ((c.tc : Thread Cert.FgateBwdIdeal.nD Cert.FgateBwdIdeal.τ).loc Cert.FgateBwdIdeal.main_arg1))
      ∧ θ_run (Cert.FgateBwdRefIdeal.defs (F := Ideal)) (onTc (τ := Cert.FgateBwdRefIdeal.τ) (Cert.FgateBwdRefIdeal.main (F := Ideal))) ⟨m', fun _ => 0, g'⟩ (fun r => ∀ c : Dev Cert.FgateBwdRefIdeal.nD,
          r.2.mem ((c.tc : Thread Cert.FgateBwdRefIdeal.nD Cert.FgateBwdRefIdeal.τ).loc Cert.FgateBwdRefIdeal.main_v10) = v0 c
          ∧ r.2.mem ((c.tc : Thread Cert.FgateBwdRefIdeal.nD Cert.FgateBwdRefIdeal.τ).loc Cert.FgateBwdRefIdeal.main_v12) = v1 c
          ∧ r.2.mem ((c.tc : Thread Cert.FgateBwdRefIdeal.nD Cert.FgateBwdRefIdeal.τ).loc Cert.FgateBwdRefIdeal.main_arg0) = m' ((c.tc : Thread Cert.FgateBwdRefIdeal.nD Cert.FgateBwdRefIdeal.τ).loc Cert.FgateBwdRefIdeal.main_arg0)
          ∧ r.2.mem ((c.tc : Thread Cert.FgateBwdRefIdeal.nD Cert.FgateBwdRefIdeal.τ).loc Cert.FgateBwdRefIdeal.main_arg1) = m' ((c.tc : Thread Cert.FgateBwdRefIdeal.nD Cert.FgateBwdRefIdeal.τ).loc Cert.FgateBwdRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)) (v2 : (c : Dev Cert.MemKvIdeal.nD) → Buf (Elt Ideal) ((c.tc : Thread Cert.MemKvIdeal.nD Cert.MemKvIdeal.τ).loc Cert.MemKvIdeal.main_v0_2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_v0_2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_v18) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_BwdMid_BwdMidIdeal : Prop :=
  True

def algebraic_BwdMidIdeal_BwdMidRefIdeal_pre_finite [hBwdMidIdeal : Cert.BwdMidIdeal.Facts] [hBwdMidRefIdeal : Cert.BwdMidRefIdeal.Facts] [hPre_finite : Cert.Pre_finite.Facts] : Prop :=
  ∀ (m : (ℓ : Loc Cert.BwdMidIdeal.nD Cert.BwdMidIdeal.τ Cert.BwdMidIdeal.sig) → Buf (Elt Ideal) ℓ) (g : Dev Cert.BwdMidIdeal.nD → PrngReg)
    (m' : (ℓ : Loc Cert.BwdMidRefIdeal.nD Cert.BwdMidRefIdeal.τ Cert.BwdMidRefIdeal.sig) → Buf (Elt Ideal) ℓ) (g' : Dev Cert.BwdMidRefIdeal.nD → PrngReg), Pre_BwdMidIdeal_finite m →
    (∀ c : Dev Cert.BwdMidIdeal.nD,
      m' ((c.tc : Thread Cert.BwdMidRefIdeal.nD Cert.BwdMidRefIdeal.τ).loc Cert.BwdMidRefIdeal.main_arg0) = m ((c.tc : Thread Cert.BwdMidIdeal.nD Cert.BwdMidIdeal.τ).loc Cert.BwdMidIdeal.main_arg0)
      ∧ m' ((c.tc : Thread Cert.BwdMidRefIdeal.nD Cert.BwdMidRefIdeal.τ).loc Cert.BwdMidRefIdeal.main_arg1) = m ((c.tc : Thread Cert.BwdMidIdeal.nD Cert.BwdMidIdeal.τ).loc Cert.BwdMidIdeal.main_arg1)
      ∧ m' ((c.tc : Thread Cert.BwdMidRefIdeal.nD Cert.BwdMidRefIdeal.τ).loc Cert.BwdMidRefIdeal.main_arg2) = m ((c.tc : Thread Cert.BwdMidIdeal.nD Cert.BwdMidIdeal.τ).loc Cert.BwdMidIdeal.main_arg2)
      ∧ m' ((c.tc : Thread Cert.BwdMidRefIdeal.nD Cert.BwdMidRefIdeal.τ).loc Cert.BwdMidRefIdeal.main_arg3) = m ((c.tc : Thread Cert.BwdMidIdeal.nD Cert.BwdMidIdeal.τ).loc Cert.BwdMidIdeal.main_arg3)
      ∧ m' ((c.tc : Thread Cert.BwdMidRefIdeal.nD Cert.BwdMidRefIdeal.τ).loc Cert.BwdMidRefIdeal.main_arg4) = m ((c.tc : Thread Cert.BwdMidIdeal.nD Cert.BwdMidIdeal.τ).loc Cert.BwdMidIdeal.main_arg4)
      ∧ m' ((c.tc : Thread Cert.BwdMidRefIdeal.nD Cert.BwdMidRefIdeal.τ).loc Cert.BwdMidRefIdeal.main_arg5) = m ((c.tc : Thread Cert.BwdMidIdeal.nD Cert.BwdMidIdeal.τ).loc Cert.BwdMidIdeal.main_arg5)
      ∧ m' ((c.tc : Thread Cert.BwdMidRefIdeal.nD Cert.BwdMidRefIdeal.τ).loc Cert.BwdMidRefIdeal.main_arg6) = m ((c.tc : Thread Cert.BwdMidIdeal.nD Cert.BwdMidIdeal.τ).loc Cert.BwdMidIdeal.main_arg6)
      ∧ m' ((c.tc : Thread Cert.BwdMidRefIdeal.nD Cert.BwdMidRefIdeal.τ).loc Cert.BwdMidRefIdeal.main_arg7) = m ((c.tc : Thread Cert.BwdMidIdeal.nD Cert.BwdMidIdeal.τ).loc Cert.BwdMidIdeal.main_arg7)
      ∧ m' ((c.tc : Thread Cert.BwdMidRefIdeal.nD Cert.BwdMidRefIdeal.τ).loc Cert.BwdMidRefIdeal.main_arg8) = m ((c.tc : Thread Cert.BwdMidIdeal.nD Cert.BwdMidIdeal.τ).loc Cert.BwdMidIdeal.main_arg8)
      ∧ m' ((c.tc : Thread Cert.BwdMidRefIdeal.nD Cert.BwdMidRefIdeal.τ).loc Cert.BwdMidRefIdeal.main_arg9) = m ((c.tc : Thread Cert.BwdMidIdeal.nD Cert.BwdMidIdeal.τ).loc Cert.BwdMidIdeal.main_arg9)) →
    ∃ (v0 : (c : Dev Cert.BwdMidIdeal.nD) → Buf (Elt Ideal) ((c.tc : Thread Cert.BwdMidIdeal.nD Cert.BwdMidIdeal.τ).loc Cert.BwdMidIdeal.main_v0_0)) (v1 : (c : Dev Cert.BwdMidIdeal.nD) → Buf (Elt Ideal) ((c.tc : Thread Cert.BwdMidIdeal.nD Cert.BwdMidIdeal.τ).loc Cert.BwdMidIdeal.main_v0_1)) (v2 : (c : Dev Cert.BwdMidIdeal.nD) → Buf (Elt Ideal) ((c.tc : Thread Cert.BwdMidIdeal.nD Cert.BwdMidIdeal.τ).loc Cert.BwdMidIdeal.main_v0_2)) (v3 : (c : Dev Cert.BwdMidIdeal.nD) → Buf (Elt Ideal) ((c.tc : Thread Cert.BwdMidIdeal.nD Cert.BwdMidIdeal.τ).loc Cert.BwdMidIdeal.main_v0_3)) (v4 : (c : Dev Cert.BwdMidIdeal.nD) → Buf (Elt Ideal) ((c.tc : Thread Cert.BwdMidIdeal.nD Cert.BwdMidIdeal.τ).loc Cert.BwdMidIdeal.main_v0_7)),
      θ_run (Cert.BwdMidIdeal.defs (F := Ideal)) (onTc (τ := Cert.BwdMidIdeal.τ) (Cert.BwdMidIdeal.main (F := Ideal))) ⟨m, fun _ => 0, g⟩ (fun r => ∀ c : Dev Cert.BwdMidIdeal.nD,
          r.2.mem ((c.tc : Thread Cert.BwdMidIdeal.nD Cert.BwdMidIdeal.τ).loc Cert.BwdMidIdeal.main_v0_0) = v0 c
          ∧ r.2.mem ((c.tc : Thread Cert.BwdMidIdeal.nD Cert.BwdMidIdeal.τ).loc Cert.BwdMidIdeal.main_v0_1) = v1 c
          ∧ r.2.mem ((c.tc : Thread Cert.BwdMidIdeal.nD Cert.BwdMidIdeal.τ).loc Cert.BwdMidIdeal.main_v0_2) = v2 c
          ∧ r.2.mem ((c.tc : Thread Cert.BwdMidIdeal.nD Cert.BwdMidIdeal.τ).loc Cert.BwdMidIdeal.main_v0_3) = v3 c
          ∧ r.2.mem ((c.tc : Thread Cert.BwdMidIdeal.nD Cert.BwdMidIdeal.τ).loc Cert.BwdMidIdeal.main_v0_7) = v4 c
          ∧ r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
          ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
          ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
          ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
          ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
          ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
          ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
          ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
          ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
          ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9))
      ∧ θ_run (Cert.BwdMidRefIdeal.defs (F := Ideal)) (onTc (τ := Cert.BwdMidRefIdeal.τ) (Cert.BwdMidRefIdeal.main (F := Ideal))) ⟨m', fun _ => 0, g'⟩ (fun r => ∀ c : Dev Cert.BwdMidRefIdeal.nD,
          r.2.mem ((c.tc : Thread Cert.BwdMidRefIdeal.nD Cert.BwdMidRefIdeal.τ).loc Cert.BwdMidRefIdeal.main_v99) = v0 c
          ∧ r.2.mem ((c.tc : Thread Cert.BwdMidRefIdeal.nD Cert.BwdMidRefIdeal.τ).loc Cert.BwdMidRefIdeal.main_v103) = v1 c
          ∧ r.2.mem ((c.tc : Thread Cert.BwdMidRefIdeal.nD Cert.BwdMidRefIdeal.τ).loc Cert.BwdMidRefIdeal.main_v104) = v2 c
          ∧ r.2.mem ((c.tc : Thread Cert.BwdMidRefIdeal.nD Cert.BwdMidRefIdeal.τ).loc Cert.BwdMidRefIdeal.main_v106) = v3 c
          ∧ r.2.mem ((c.tc : Thread Cert.BwdMidRefIdeal.nD Cert.BwdMidRefIdeal.τ).loc Cert.BwdMidRefIdeal.main_v82) = v4 c
          ∧ r.2.mem ((c.tc : Thread Cert.BwdMidRefIdeal.nD Cert.BwdMidRefIdeal.τ).loc Cert.BwdMidRefIdeal.main_arg0) = m' ((c.tc : Thread Cert.BwdMidRefIdeal.nD Cert.BwdMidRefIdeal.τ).loc Cert.BwdMidRefIdeal.main_arg0)
          ∧ r.2.mem ((c.tc : Thread Cert.BwdMidRefIdeal.nD Cert.BwdMidRefIdeal.τ).loc Cert.BwdMidRefIdeal.main_arg1) = m' ((c.tc : Thread Cert.BwdMidRefIdeal.nD Cert.BwdMidRefIdeal.τ).loc Cert.BwdMidRefIdeal.main_arg1)
          ∧ r.2.mem ((c.tc : Thread Cert.BwdMidRefIdeal.nD Cert.BwdMidRefIdeal.τ).loc Cert.BwdMidRefIdeal.main_arg2) = m' ((c.tc : Thread Cert.BwdMidRefIdeal.nD Cert.BwdMidRefIdeal.τ).loc Cert.BwdMidRefIdeal.main_arg2)
          ∧ r.2.mem ((c.tc : Thread Cert.BwdMidRefIdeal.nD Cert.BwdMidRefIdeal.τ).loc Cert.BwdMidRefIdeal.main_arg3) = m' ((c.tc : Thread Cert.BwdMidRefIdeal.nD Cert.BwdMidRefIdeal.τ).loc Cert.BwdMidRefIdeal.main_arg3)
          ∧ r.2.mem ((c.tc : Thread Cert.BwdMidRefIdeal.nD Cert.BwdMidRefIdeal.τ).loc Cert.BwdMidRefIdeal.main_arg4) = m' ((c.tc : Thread Cert.BwdMidRefIdeal.nD Cert.BwdMidRefIdeal.τ).loc Cert.BwdMidRefIdeal.main_arg4)
          ∧ r.2.mem ((c.tc : Thread Cert.BwdMidRefIdeal.nD Cert.BwdMidRefIdeal.τ).loc Cert.BwdMidRefIdeal.main_arg5) = m' ((c.tc : Thread Cert.BwdMidRefIdeal.nD Cert.BwdMidRefIdeal.τ).loc Cert.BwdMidRefIdeal.main_arg5)
          ∧ r.2.mem ((c.tc : Thread Cert.BwdMidRefIdeal.nD Cert.BwdMidRefIdeal.τ).loc Cert.BwdMidRefIdeal.main_arg6) = m' ((c.tc : Thread Cert.BwdMidRefIdeal.nD Cert.BwdMidRefIdeal.τ).loc Cert.BwdMidRefIdeal.main_arg6)
          ∧ r.2.mem ((c.tc : Thread Cert.BwdMidRefIdeal.nD Cert.BwdMidRefIdeal.τ).loc Cert.BwdMidRefIdeal.main_arg7) = m' ((c.tc : Thread Cert.BwdMidRefIdeal.nD Cert.BwdMidRefIdeal.τ).loc Cert.BwdMidRefIdeal.main_arg7)
          ∧ r.2.mem ((c.tc : Thread Cert.BwdMidRefIdeal.nD Cert.BwdMidRefIdeal.τ).loc Cert.BwdMidRefIdeal.main_arg8) = m' ((c.tc : Thread Cert.BwdMidRefIdeal.nD Cert.BwdMidRefIdeal.τ).loc Cert.BwdMidRefIdeal.main_arg8)
          ∧ r.2.mem ((c.tc : Thread Cert.BwdMidRefIdeal.nD Cert.BwdMidRefIdeal.τ).loc Cert.BwdMidRefIdeal.main_arg9) = m' ((c.tc : Thread Cert.BwdMidRefIdeal.nD Cert.BwdMidRefIdeal.τ).loc Cert.BwdMidRefIdeal.main_arg9))

def preserves_FwdMid_FwdMidIdeal : Prop :=
  True

def algebraic_FwdMidIdeal_FwdMidRefIdeal [hFwdMidIdeal : Cert.FwdMidIdeal.Facts] [hFwdMidRefIdeal : Cert.FwdMidRefIdeal.Facts] : Prop :=
  ∀ (m : (ℓ : Loc Cert.FwdMidIdeal.nD Cert.FwdMidIdeal.τ Cert.FwdMidIdeal.sig) → Buf (Elt Ideal) ℓ) (g : Dev Cert.FwdMidIdeal.nD → PrngReg)
    (m' : (ℓ : Loc Cert.FwdMidRefIdeal.nD Cert.FwdMidRefIdeal.τ Cert.FwdMidRefIdeal.sig) → Buf (Elt Ideal) ℓ) (g' : Dev Cert.FwdMidRefIdeal.nD → PrngReg), Pre_FwdMidIdeal m →
    (∀ c : Dev Cert.FwdMidIdeal.nD,
      m' ((c.tc : Thread Cert.FwdMidRefIdeal.nD Cert.FwdMidRefIdeal.τ).loc Cert.FwdMidRefIdeal.main_arg0) = m ((c.tc : Thread Cert.FwdMidIdeal.nD Cert.FwdMidIdeal.τ).loc Cert.FwdMidIdeal.main_arg0)
      ∧ m' ((c.tc : Thread Cert.FwdMidRefIdeal.nD Cert.FwdMidRefIdeal.τ).loc Cert.FwdMidRefIdeal.main_arg1) = m ((c.tc : Thread Cert.FwdMidIdeal.nD Cert.FwdMidIdeal.τ).loc Cert.FwdMidIdeal.main_arg1)
      ∧ m' ((c.tc : Thread Cert.FwdMidRefIdeal.nD Cert.FwdMidRefIdeal.τ).loc Cert.FwdMidRefIdeal.main_arg2) = m ((c.tc : Thread Cert.FwdMidIdeal.nD Cert.FwdMidIdeal.τ).loc Cert.FwdMidIdeal.main_arg2)
      ∧ m' ((c.tc : Thread Cert.FwdMidRefIdeal.nD Cert.FwdMidRefIdeal.τ).loc Cert.FwdMidRefIdeal.main_arg3) = m ((c.tc : Thread Cert.FwdMidIdeal.nD Cert.FwdMidIdeal.τ).loc Cert.FwdMidIdeal.main_arg3)
      ∧ m' ((c.tc : Thread Cert.FwdMidRefIdeal.nD Cert.FwdMidRefIdeal.τ).loc Cert.FwdMidRefIdeal.main_arg4) = m ((c.tc : Thread Cert.FwdMidIdeal.nD Cert.FwdMidIdeal.τ).loc Cert.FwdMidIdeal.main_arg4)
      ∧ m' ((c.tc : Thread Cert.FwdMidRefIdeal.nD Cert.FwdMidRefIdeal.τ).loc Cert.FwdMidRefIdeal.main_arg5) = m ((c.tc : Thread Cert.FwdMidIdeal.nD Cert.FwdMidIdeal.τ).loc Cert.FwdMidIdeal.main_arg5)
      ∧ m' ((c.tc : Thread Cert.FwdMidRefIdeal.nD Cert.FwdMidRefIdeal.τ).loc Cert.FwdMidRefIdeal.main_arg6) = m ((c.tc : Thread Cert.FwdMidIdeal.nD Cert.FwdMidIdeal.τ).loc Cert.FwdMidIdeal.main_arg6)
      ∧ m' ((c.tc : Thread Cert.FwdMidRefIdeal.nD Cert.FwdMidRefIdeal.τ).loc Cert.FwdMidRefIdeal.main_arg7) = m ((c.tc : Thread Cert.FwdMidIdeal.nD Cert.FwdMidIdeal.τ).loc Cert.FwdMidIdeal.main_arg7)
      ∧ m' ((c.tc : Thread Cert.FwdMidRefIdeal.nD Cert.FwdMidRefIdeal.τ).loc Cert.FwdMidRefIdeal.main_arg8) = m ((c.tc : Thread Cert.FwdMidIdeal.nD Cert.FwdMidIdeal.τ).loc Cert.FwdMidIdeal.main_arg8)) →
    ∃ (v0 : (c : Dev Cert.FwdMidIdeal.nD) → Buf (Elt Ideal) ((c.tc : Thread Cert.FwdMidIdeal.nD Cert.FwdMidIdeal.τ).loc Cert.FwdMidIdeal.main_v0_0)) (v1 : (c : Dev Cert.FwdMidIdeal.nD) → Buf (Elt Ideal) ((c.tc : Thread Cert.FwdMidIdeal.nD Cert.FwdMidIdeal.τ).loc Cert.FwdMidIdeal.main_v0_1)) (v2 : (c : Dev Cert.FwdMidIdeal.nD) → Buf (Elt Ideal) ((c.tc : Thread Cert.FwdMidIdeal.nD Cert.FwdMidIdeal.τ).loc Cert.FwdMidIdeal.main_v0_2)) (v3 : (c : Dev Cert.FwdMidIdeal.nD) → Buf (Elt Ideal) ((c.tc : Thread Cert.FwdMidIdeal.nD Cert.FwdMidIdeal.τ).loc Cert.FwdMidIdeal.main_v0_3)) (v4 : (c : Dev Cert.FwdMidIdeal.nD) → Buf (Elt Ideal) ((c.tc : Thread Cert.FwdMidIdeal.nD Cert.FwdMidIdeal.τ).loc Cert.FwdMidIdeal.main_v0_4)),
      θ_run (Cert.FwdMidIdeal.defs (F := Ideal)) (onTc (τ := Cert.FwdMidIdeal.τ) (Cert.FwdMidIdeal.main (F := Ideal))) ⟨m, fun _ => 0, g⟩ (fun r => ∀ c : Dev Cert.FwdMidIdeal.nD,
          r.2.mem ((c.tc : Thread Cert.FwdMidIdeal.nD Cert.FwdMidIdeal.τ).loc Cert.FwdMidIdeal.main_v0_0) = v0 c
          ∧ r.2.mem ((c.tc : Thread Cert.FwdMidIdeal.nD Cert.FwdMidIdeal.τ).loc Cert.FwdMidIdeal.main_v0_1) = v1 c
          ∧ r.2.mem ((c.tc : Thread Cert.FwdMidIdeal.nD Cert.FwdMidIdeal.τ).loc Cert.FwdMidIdeal.main_v0_2) = v2 c
          ∧ r.2.mem ((c.tc : Thread Cert.FwdMidIdeal.nD Cert.FwdMidIdeal.τ).loc Cert.FwdMidIdeal.main_v0_3) = v3 c
          ∧ r.2.mem ((c.tc : Thread Cert.FwdMidIdeal.nD Cert.FwdMidIdeal.τ).loc Cert.FwdMidIdeal.main_v0_4) = v4 c
          ∧ r.2.mem ((c.tc : Thread Cert.FwdMidIdeal.nD Cert.FwdMidIdeal.τ).loc Cert.FwdMidIdeal.main_arg0) = m ((c.tc : Thread Cert.FwdMidIdeal.nD Cert.FwdMidIdeal.τ).loc Cert.FwdMidIdeal.main_arg0)
          ∧ r.2.mem ((c.tc : Thread Cert.FwdMidIdeal.nD Cert.FwdMidIdeal.τ).loc Cert.FwdMidIdeal.main_arg1) = m ((c.tc : Thread Cert.FwdMidIdeal.nD Cert.FwdMidIdeal.τ).loc Cert.FwdMidIdeal.main_arg1)
          ∧ r.2.mem ((c.tc : Thread Cert.FwdMidIdeal.nD Cert.FwdMidIdeal.τ).loc Cert.FwdMidIdeal.main_arg2) = m ((c.tc : Thread Cert.FwdMidIdeal.nD Cert.FwdMidIdeal.τ).loc Cert.FwdMidIdeal.main_arg2)
          ∧ r.2.mem ((c.tc : Thread Cert.FwdMidIdeal.nD Cert.FwdMidIdeal.τ).loc Cert.FwdMidIdeal.main_arg3) = m ((c.tc : Thread Cert.FwdMidIdeal.nD Cert.FwdMidIdeal.τ).loc Cert.FwdMidIdeal.main_arg3)
          ∧ r.2.mem ((c.tc : Thread Cert.FwdMidIdeal.nD Cert.FwdMidIdeal.τ).loc Cert.FwdMidIdeal.main_arg4) = m ((c.tc : Thread Cert.FwdMidIdeal.nD Cert.FwdMidIdeal.τ).loc Cert.FwdMidIdeal.main_arg4)
          ∧ r.2.mem ((c.tc : Thread Cert.FwdMidIdeal.nD Cert.FwdMidIdeal.τ).loc Cert.FwdMidIdeal.main_arg5) = m ((c.tc : Thread Cert.FwdMidIdeal.nD Cert.FwdMidIdeal.τ).loc Cert.FwdMidIdeal.main_arg5)
          ∧ r.2.mem ((c.tc : Thread Cert.FwdMidIdeal.nD Cert.FwdMidIdeal.τ).loc Cert.FwdMidIdeal.main_arg6) = m ((c.tc : Thread Cert.FwdMidIdeal.nD Cert.FwdMidIdeal.τ).loc Cert.FwdMidIdeal.main_arg6)
          ∧ r.2.mem ((c.tc : Thread Cert.FwdMidIdeal.nD Cert.FwdMidIdeal.τ).loc Cert.FwdMidIdeal.main_arg7) = m ((c.tc : Thread Cert.FwdMidIdeal.nD Cert.FwdMidIdeal.τ).loc Cert.FwdMidIdeal.main_arg7)
          ∧ r.2.mem ((c.tc : Thread Cert.FwdMidIdeal.nD Cert.FwdMidIdeal.τ).loc Cert.FwdMidIdeal.main_arg8) = m ((c.tc : Thread Cert.FwdMidIdeal.nD Cert.FwdMidIdeal.τ).loc Cert.FwdMidIdeal.main_arg8))
      ∧ θ_run (Cert.FwdMidRefIdeal.defs (F := Ideal)) (onTc (τ := Cert.FwdMidRefIdeal.τ) (Cert.FwdMidRefIdeal.main (F := Ideal))) ⟨m', fun _ => 0, g'⟩ (fun r => ∀ c : Dev Cert.FwdMidRefIdeal.nD,
          r.2.mem ((c.tc : Thread Cert.FwdMidRefIdeal.nD Cert.FwdMidRefIdeal.τ).loc Cert.FwdMidRefIdeal.main_v4) = v0 c
          ∧ r.2.mem ((c.tc : Thread Cert.FwdMidRefIdeal.nD Cert.FwdMidRefIdeal.τ).loc Cert.FwdMidRefIdeal.main_v41) = v1 c
          ∧ r.2.mem ((c.tc : Thread Cert.FwdMidRefIdeal.nD Cert.FwdMidRefIdeal.τ).loc Cert.FwdMidRefIdeal.main_v42) = v2 c
          ∧ r.2.mem ((c.tc : Thread Cert.FwdMidRefIdeal.nD Cert.FwdMidRefIdeal.τ).loc Cert.FwdMidRefIdeal.main_v43) = v3 c
          ∧ r.2.mem ((c.tc : Thread Cert.FwdMidRefIdeal.nD Cert.FwdMidRefIdeal.τ).loc Cert.FwdMidRefIdeal.main_v46) = v4 c
          ∧ r.2.mem ((c.tc : Thread Cert.FwdMidRefIdeal.nD Cert.FwdMidRefIdeal.τ).loc Cert.FwdMidRefIdeal.main_arg0) = m' ((c.tc : Thread Cert.FwdMidRefIdeal.nD Cert.FwdMidRefIdeal.τ).loc Cert.FwdMidRefIdeal.main_arg0)
          ∧ r.2.mem ((c.tc : Thread Cert.FwdMidRefIdeal.nD Cert.FwdMidRefIdeal.τ).loc Cert.FwdMidRefIdeal.main_arg1) = m' ((c.tc : Thread Cert.FwdMidRefIdeal.nD Cert.FwdMidRefIdeal.τ).loc Cert.FwdMidRefIdeal.main_arg1)
          ∧ r.2.mem ((c.tc : Thread Cert.FwdMidRefIdeal.nD Cert.FwdMidRefIdeal.τ).loc Cert.FwdMidRefIdeal.main_arg2) = m' ((c.tc : Thread Cert.FwdMidRefIdeal.nD Cert.FwdMidRefIdeal.τ).loc Cert.FwdMidRefIdeal.main_arg2)
          ∧ r.2.mem ((c.tc : Thread Cert.FwdMidRefIdeal.nD Cert.FwdMidRefIdeal.τ).loc Cert.FwdMidRefIdeal.main_arg3) = m' ((c.tc : Thread Cert.FwdMidRefIdeal.nD Cert.FwdMidRefIdeal.τ).loc Cert.FwdMidRefIdeal.main_arg3)
          ∧ r.2.mem ((c.tc : Thread Cert.FwdMidRefIdeal.nD Cert.FwdMidRefIdeal.τ).loc Cert.FwdMidRefIdeal.main_arg4) = m' ((c.tc : Thread Cert.FwdMidRefIdeal.nD Cert.FwdMidRefIdeal.τ).loc Cert.FwdMidRefIdeal.main_arg4)
          ∧ r.2.mem ((c.tc : Thread Cert.FwdMidRefIdeal.nD Cert.FwdMidRefIdeal.τ).loc Cert.FwdMidRefIdeal.main_arg5) = m' ((c.tc : Thread Cert.FwdMidRefIdeal.nD Cert.FwdMidRefIdeal.τ).loc Cert.FwdMidRefIdeal.main_arg5)
          ∧ r.2.mem ((c.tc : Thread Cert.FwdMidRefIdeal.nD Cert.FwdMidRefIdeal.τ).loc Cert.FwdMidRefIdeal.main_arg6) = m' ((c.tc : Thread Cert.FwdMidRefIdeal.nD Cert.FwdMidRefIdeal.τ).loc Cert.FwdMidRefIdeal.main_arg6)
          ∧ r.2.mem ((c.tc : Thread Cert.FwdMidRefIdeal.nD Cert.FwdMidRefIdeal.τ).loc Cert.FwdMidRefIdeal.main_arg7) = m' ((c.tc : Thread Cert.FwdMidRefIdeal.nD Cert.FwdMidRefIdeal.τ).loc Cert.FwdMidRefIdeal.main_arg7)
          ∧ r.2.mem ((c.tc : Thread Cert.FwdMidRefIdeal.nD Cert.FwdMidRefIdeal.τ).loc Cert.FwdMidRefIdeal.main_arg8) = m' ((c.tc : Thread Cert.FwdMidRefIdeal.nD Cert.FwdMidRefIdeal.τ).loc Cert.FwdMidRefIdeal.main_arg8))

def Claim : Prop :=
  ∃ (hGather : Cert.Gather.Facts) (hGatherIdeal : Cert.GatherIdeal.Facts) (hGatherRefIdeal : Cert.GatherRefIdeal.Facts) (hGatherRef : Cert.GatherRef.Facts) (hSibling : Cert.Sibling.Facts) (hSiblingIdeal : Cert.SiblingIdeal.Facts) (hSiblingRefIdeal : Cert.SiblingRefIdeal.Facts) (hSiblingRef : Cert.SiblingRef.Facts) (hIci : Cert.Ici.Facts) (hIciIdeal : Cert.IciIdeal.Facts) (hIciRefIdeal : Cert.IciRefIdeal.Facts) (hIciRef : Cert.IciRef.Facts) (hShare : Cert.Share.Facts) (hShareIdeal : Cert.ShareIdeal.Facts) (hShareRefIdeal : Cert.ShareRefIdeal.Facts) (hShareRef : Cert.ShareRef.Facts) (hAdam : Cert.Adam.Facts) (hAdamIdeal : Cert.AdamIdeal.Facts) (hAdamRefIdeal : Cert.AdamRefIdeal.Facts) (hAdamSmall : Cert.AdamSmall.Facts) (hAdamSmallIdeal : Cert.AdamSmallIdeal.Facts) (hAdamSmallRefIdeal : Cert.AdamSmallRefIdeal.Facts) (hDwIn : Cert.DwIn.Facts) (hDwInIdeal : Cert.DwInIdeal.Facts) (hDwInRefIdeal : Cert.DwInRefIdeal.Facts) (hDwOutConv : Cert.DwOutConv.Facts) (hDwOutConvIdeal : Cert.DwOutConvIdeal.Facts) (hDwOutConvRefIdeal : Cert.DwOutConvRefIdeal.Facts) (hDwOutFox : Cert.DwOutFox.Facts) (hDwOutFoxIdeal : Cert.DwOutFoxIdeal.Facts) (hDwOutFoxRefIdeal : Cert.DwOutFoxRefIdeal.Facts) (hDwMq : Cert.DwMq.Facts) (hDwMqIdeal : Cert.DwMqIdeal.Facts) (hDwMqRefIdeal : Cert.DwMqRefIdeal.Facts) (hDwMkv : Cert.DwMkv.Facts) (hDwMkvIdeal : Cert.DwMkvIdeal.Facts) (hDwMkvRefIdeal : Cert.DwMkvRefIdeal.Facts) (hDwMo : Cert.DwMo.Facts) (hDwMoIdeal : Cert.DwMoIdeal.Facts) (hDwMoRefIdeal : Cert.DwMoRefIdeal.Facts) (hDwGu : Cert.DwGu.Facts) (hDwGuIdeal : Cert.DwGuIdeal.Facts) (hDwGuRefIdeal : Cert.DwGuRefIdeal.Facts) (hDwDown : Cert.DwDown.Facts) (hDwDownIdeal : Cert.DwDownIdeal.Facts) (hDwDownRefIdeal : Cert.DwDownRefIdeal.Facts) (hBwdIn : Cert.BwdIn.Facts) (hBwdInIdeal : Cert.BwdInIdeal.Facts) (hBwdInRefIdeal : Cert.BwdInRefIdeal.Facts) (hBwdMem : Cert.BwdMem.Facts) (hBwdMemIdeal : Cert.BwdMemIdeal.Facts) (hBwdMemRefIdeal : Cert.BwdMemRefIdeal.Facts) (hFwdFfn : Cert.FwdFfn.Facts) (hFwdFfnIdeal : Cert.FwdFfnIdeal.Facts) (hFwdFfnRefIdeal : Cert.FwdFfnRefIdeal.Facts) (hBwdFfn : Cert.BwdFfn.Facts) (hBwdFfnIdeal : Cert.BwdFfnIdeal.Facts) (hBwdFfnRefIdeal : Cert.BwdFfnRefIdeal.Facts) (hFgateBwd : Cert.FgateBwd.Facts) (hFgateBwdIdeal : Cert.FgateBwdIdeal.Facts) (hFgateBwdRefIdeal : Cert.FgateBwdRefIdeal.Facts) (hMemKv : Cert.MemKv.Facts) (hMemKvIdeal : Cert.MemKvIdeal.Facts) (hMemKvRefIdeal : Cert.MemKvRefIdeal.Facts) (hBwdMid : Cert.BwdMid.Facts) (hBwdMidIdeal : Cert.BwdMidIdeal.Facts) (hBwdMidRefIdeal : Cert.BwdMidRefIdeal.Facts) (hFwdMid : Cert.FwdMid.Facts) (hFwdMidIdeal : Cert.FwdMidIdeal.Facts) (hFwdMidRefIdeal : Cert.FwdMidRefIdeal.Facts) (hPre_finite : Cert.Pre_finite.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_Ici (hIci := hIci)
    ∧ quiescent_IciIdeal (hIciIdeal := hIciIdeal)
    ∧ quiescent_IciRefIdeal (hIciRefIdeal := hIciRefIdeal)
    ∧ quiescent_IciRef (hIciRef := hIciRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Adam (hAdam := hAdam)
    ∧ quiescent_AdamIdeal (hAdamIdeal := hAdamIdeal)
    ∧ quiescent_AdamRefIdeal (hAdamRefIdeal := hAdamRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOutConv (hDwOutConv := hDwOutConv)
    ∧ quiescent_DwOutConvIdeal (hDwOutConvIdeal := hDwOutConvIdeal)
    ∧ quiescent_DwOutConvRefIdeal (hDwOutConvRefIdeal := hDwOutConvRefIdeal)
    ∧ quiescent_DwOutFox (hDwOutFox := hDwOutFox)
    ∧ quiescent_DwOutFoxIdeal (hDwOutFoxIdeal := hDwOutFoxIdeal)
    ∧ quiescent_DwOutFoxRefIdeal (hDwOutFoxRefIdeal := hDwOutFoxRefIdeal)
    ∧ quiescent_DwMq (hDwMq := hDwMq)
    ∧ quiescent_DwMqIdeal (hDwMqIdeal := hDwMqIdeal)
    ∧ quiescent_DwMqRefIdeal (hDwMqRefIdeal := hDwMqRefIdeal)
    ∧ quiescent_DwMkv (hDwMkv := hDwMkv)
    ∧ quiescent_DwMkvIdeal (hDwMkvIdeal := hDwMkvIdeal)
    ∧ quiescent_DwMkvRefIdeal (hDwMkvRefIdeal := hDwMkvRefIdeal)
    ∧ quiescent_DwMo (hDwMo := hDwMo)
    ∧ quiescent_DwMoIdeal (hDwMoIdeal := hDwMoIdeal)
    ∧ quiescent_DwMoRefIdeal (hDwMoRefIdeal := hDwMoRefIdeal)
    ∧ quiescent_DwGu (hDwGu := hDwGu)
    ∧ quiescent_DwGuIdeal (hDwGuIdeal := hDwGuIdeal)
    ∧ quiescent_DwGuRefIdeal (hDwGuRefIdeal := hDwGuRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_BwdMem (hBwdMem := hBwdMem)
    ∧ quiescent_BwdMemIdeal (hBwdMemIdeal := hBwdMemIdeal)
    ∧ quiescent_BwdMemRefIdeal (hBwdMemRefIdeal := hBwdMemRefIdeal)
    ∧ quiescent_FwdFfn (hFwdFfn := hFwdFfn)
    ∧ quiescent_FwdFfnIdeal (hFwdFfnIdeal := hFwdFfnIdeal)
    ∧ quiescent_FwdFfnRefIdeal (hFwdFfnRefIdeal := hFwdFfnRefIdeal)
    ∧ quiescent_BwdFfn (hBwdFfn := hBwdFfn)
    ∧ quiescent_BwdFfnIdeal (hBwdFfnIdeal := hBwdFfnIdeal)
    ∧ quiescent_BwdFfnRefIdeal (hBwdFfnRefIdeal := hBwdFfnRefIdeal)
    ∧ quiescent_FgateBwd (hFgateBwd := hFgateBwd)
    ∧ quiescent_FgateBwdIdeal (hFgateBwdIdeal := hFgateBwdIdeal)
    ∧ quiescent_FgateBwdRefIdeal (hFgateBwdRefIdeal := hFgateBwdRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_BwdMid (hBwdMid := hBwdMid)
    ∧ quiescent_BwdMidIdeal (hBwdMidIdeal := hBwdMidIdeal)
    ∧ quiescent_BwdMidIdeal_pre_finite (hBwdMidIdeal := hBwdMidIdeal) (hPre_finite := hPre_finite)
    ∧ quiescent_BwdMidRefIdeal (hBwdMidRefIdeal := hBwdMidRefIdeal)
    ∧ quiescent_BwdMidRefIdeal_pre_finite (hBwdMidRefIdeal := hBwdMidRefIdeal) (hPre_finite := hPre_finite)
    ∧ quiescent_FwdMid (hFwdMid := hFwdMid)
    ∧ quiescent_FwdMidIdeal (hFwdMidIdeal := hFwdMidIdeal)
    ∧ quiescent_FwdMidRefIdeal (hFwdMidRefIdeal := hFwdMidRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Sibling_SiblingIdeal
    ∧ algebraic_SiblingIdeal_SiblingRefIdeal (hSiblingIdeal := hSiblingIdeal) (hSiblingRefIdeal := hSiblingRefIdeal)
    ∧ bitexact_Sibling_SiblingRef (hSibling := hSibling) (hSiblingRef := hSiblingRef)
    ∧ preserves_Ici_IciIdeal
    ∧ algebraic_IciIdeal_IciRefIdeal (hIciIdeal := hIciIdeal) (hIciRefIdeal := hIciRefIdeal)
    ∧ bitexact_Ici_IciRef (hIci := hIci) (hIciRef := hIciRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Adam_AdamIdeal
    ∧ algebraic_AdamIdeal_AdamRefIdeal (hAdamIdeal := hAdamIdeal) (hAdamRefIdeal := hAdamRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_DwIn_DwInIdeal
    ∧ algebraic_DwInIdeal_DwInRefIdeal (hDwInIdeal := hDwInIdeal) (hDwInRefIdeal := hDwInRefIdeal)
    ∧ preserves_DwOutConv_DwOutConvIdeal
    ∧ algebraic_DwOutConvIdeal_DwOutConvRefIdeal (hDwOutConvIdeal := hDwOutConvIdeal) (hDwOutConvRefIdeal := hDwOutConvRefIdeal)
    ∧ preserves_DwOutFox_DwOutFoxIdeal
    ∧ algebraic_DwOutFoxIdeal_DwOutFoxRefIdeal (hDwOutFoxIdeal := hDwOutFoxIdeal) (hDwOutFoxRefIdeal := hDwOutFoxRefIdeal)
    ∧ preserves_DwMq_DwMqIdeal
    ∧ algebraic_DwMqIdeal_DwMqRefIdeal (hDwMqIdeal := hDwMqIdeal) (hDwMqRefIdeal := hDwMqRefIdeal)
    ∧ preserves_DwMkv_DwMkvIdeal
    ∧ algebraic_DwMkvIdeal_DwMkvRefIdeal (hDwMkvIdeal := hDwMkvIdeal) (hDwMkvRefIdeal := hDwMkvRefIdeal)
    ∧ preserves_DwMo_DwMoIdeal
    ∧ algebraic_DwMoIdeal_DwMoRefIdeal (hDwMoIdeal := hDwMoIdeal) (hDwMoRefIdeal := hDwMoRefIdeal)
    ∧ preserves_DwGu_DwGuIdeal
    ∧ algebraic_DwGuIdeal_DwGuRefIdeal (hDwGuIdeal := hDwGuIdeal) (hDwGuRefIdeal := hDwGuRefIdeal)
    ∧ preserves_DwDown_DwDownIdeal
    ∧ algebraic_DwDownIdeal_DwDownRefIdeal (hDwDownIdeal := hDwDownIdeal) (hDwDownRefIdeal := hDwDownRefIdeal)
    ∧ preserves_BwdIn_BwdInIdeal
    ∧ algebraic_BwdInIdeal_BwdInRefIdeal (hBwdInIdeal := hBwdInIdeal) (hBwdInRefIdeal := hBwdInRefIdeal)
    ∧ preserves_BwdMem_BwdMemIdeal
    ∧ algebraic_BwdMemIdeal_BwdMemRefIdeal (hBwdMemIdeal := hBwdMemIdeal) (hBwdMemRefIdeal := hBwdMemRefIdeal)
    ∧ preserves_FwdFfn_FwdFfnIdeal
    ∧ algebraic_FwdFfnIdeal_FwdFfnRefIdeal (hFwdFfnIdeal := hFwdFfnIdeal) (hFwdFfnRefIdeal := hFwdFfnRefIdeal)
    ∧ preserves_BwdFfn_BwdFfnIdeal
    ∧ algebraic_BwdFfnIdeal_BwdFfnRefIdeal (hBwdFfnIdeal := hBwdFfnIdeal) (hBwdFfnRefIdeal := hBwdFfnRefIdeal)
    ∧ preserves_FgateBwd_FgateBwdIdeal
    ∧ algebraic_FgateBwdIdeal_FgateBwdRefIdeal (hFgateBwdIdeal := hFgateBwdIdeal) (hFgateBwdRefIdeal := hFgateBwdRefIdeal)
    ∧ preserves_MemKv_MemKvIdeal
    ∧ algebraic_MemKvIdeal_MemKvRefIdeal (hMemKvIdeal := hMemKvIdeal) (hMemKvRefIdeal := hMemKvRefIdeal)
    ∧ preserves_BwdMid_BwdMidIdeal
    ∧ algebraic_BwdMidIdeal_BwdMidRefIdeal_pre_finite (hBwdMidIdeal := hBwdMidIdeal) (hBwdMidRefIdeal := hBwdMidRefIdeal) (hPre_finite := hPre_finite)
    ∧ preserves_FwdMid_FwdMidIdeal
    ∧ algebraic_FwdMidIdeal_FwdMidRefIdeal (hFwdMidIdeal := hFwdMidIdeal) (hFwdMidRefIdeal := hFwdMidRefIdeal)
-- ==== Pre_finite.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S512x1024 : S_.BroadcastsInDim S512x1024 (![] : Fin 0 → Fin S512x1024.rank)

variable [Facts]

def fn {F : FTy → Type} [FloatOps F] (main_arg0 : FVec F S4096x1024 .f32) (main_arg1 : FVec F S4096x1024 .f32) (main_arg2 : FVec F S4096x1024 .bf16) (main_arg3 : FVec F S512x1024 .bf16) (main_arg4 : FVec F S512x1024 .bf16) (main_arg5 : FVec F S4096x512 .f32) (main_arg6 : FVec F S1024x1024 .bf16) (main_arg7 : FVec F S1024x1024 .bf16) (main_arg8 : FVec F S1024x1024 .bf16) (main_arg9 : FVec F S1x1024 .f32) : IVec S4096x1024 1 × IVec S512x1024 1 :=
  let main_v0 : FVec F S4096x1024 .f32 := (extf .f32 · bitsLt_bf16_f32) main_arg2
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S512x1024 .f32 := (extf .f32 · bitsLt_bf16_f32) main_arg3
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  (main_v3, main_v7)
-- ==== Gather.lean ====
abbrev S4096x1024 : Shape := ⟨2, ![4096, 1024]⟩
abbrev S16384x1024 : Shape := ⟨2, ![16384, 1024]⟩
abbrev S7 : Shape := ⟨1, ![7]⟩
abbrev S_ : Shape := ⟨0, ![]⟩
abbrev S2048x1024 : Shape := ⟨2, ![2048, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S16384x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v14 : BitVec 32 := Scalar.muli v8 c2048_i32
  v14
def k0_mult2 (d0 : Dev nD) : BitVec 32 :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_10 : BitVec 32 := 2048#32
  let v20 : BitVec 32 := Scalar.muli v19 c2048_i32_10
  v20
def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_10 : BitVec 32 := 2048#32
  let v20 : BitVec 32 := Scalar.muli v19 c2048_i32_10
  let v21 : BitVec 32 := v20
  let c0_i32 : BitVec 32 := 0#32
  ![v21.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v14 : BitVec 32 := Scalar.muli v8 c2048_i32
  let v15 : BitVec 32 := v14
  let c0_i32_11 : BitVec 32 := 0#32
  ![v15.toNat, 0]
def k0_mult3 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.muli c2_i32_13 v5
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.addi v26 v8
  let c2048_i32_14 : BitVec 32 := 2048#32
  let v28 : BitVec 32 := Scalar.muli v27 c2048_i32_14
  v28
def k0_mult4 (d0 : Dev nD) : BitVec 32 :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_16 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c2048_i32_17 : BitVec 32 := 2048#32
  let v34 : BitVec 32 := Scalar.muli v33 c2048_i32_17
  v34
def k0_mult5 (d0 : Dev nD) : BitVec 32 :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_19 v5
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c2048_i32_20 : BitVec 32 := 2048#32
  let v40 : BitVec 32 := Scalar.muli v39 c2048_i32_20
  v40
def k0_mult6 (d0 : Dev nD) : BitVec 32 :=
  let c4_i32_21 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c4_i32_21 v2
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_22 v5
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c2048_i32_23 : BitVec 32 := 2048#32
  let v46 : BitVec 32 := Scalar.muli v45 c2048_i32_23
  v46
def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v48 : BitVec 32 := Scalar.muli v2 c4_i32_26
  let v49 : BitVec 32 := Scalar.addi c0_i32_27 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v50 : BitVec 32 := Scalar.muli v5 c2_i32_28
  let v51 : BitVec 32 := Scalar.addi v49 v50
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v52 : BitVec 32 := Scalar.muli v9 c1_i32_29
  let v53 : BitVec 32 := Scalar.addi v51 v52
  v53.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v60 : BitVec 32 := Scalar.muli v10 c4_i32_34
  let v61 : BitVec 32 := Scalar.addi c0_i32_35 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v62 : BitVec 32 := Scalar.muli v5 c2_i32_36
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v64 : BitVec 32 := Scalar.muli v8 c1_i32_37
  let v65 : BitVec 32 := Scalar.addi v63 v64
  v65.toNat
def k0_dev3 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v72 : BitVec 32 := Scalar.muli v2 c4_i32_42
  let v73 : BitVec 32 := Scalar.addi c0_i32_43 v72
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_44 : BitVec 32 := 2#32
  let v74 : BitVec 32 := Scalar.muli v11 c2_i32_44
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v76 : BitVec 32 := Scalar.muli v8 c1_i32_45
  let v77 : BitVec 32 := Scalar.addi v75 v76
  v77.toNat
def k0_dev4 (d0 : Dev nD) : Nat :=
  let c0_i32_50 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_49 : BitVec 32 := 4#32
  let v84 : BitVec 32 := Scalar.muli v12 c4_i32_49
  let v85 : BitVec 32 := Scalar.addi c0_i32_50 v84
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_51 : BitVec 32 := 2#32
  let v86 : BitVec 32 := Scalar.muli v13 c2_i32_51
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v88 : BitVec 32 := Scalar.muli v8 c1_i32_52
  let v89 : BitVec 32 := Scalar.addi v87 v88
  v89.toNat
def k0_mult7 (d0 : Dev nD) : BitVec 32 :=
  let c4_i32_55 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v96 : BitVec 32 := Scalar.muli c4_i32_55 v10
  let c2_i32_56 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.muli c2_i32_56 v5
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v99 : BitVec 32 := Scalar.addi v98 v8
  let c2048_i32_57 : BitVec 32 := 2048#32
  let v100 : BitVec 32 := Scalar.muli v99 c2048_i32_57
  v100
def k0_mult8 (d0 : Dev nD) : BitVec 32 :=
  let c4_i32_58 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v102 : BitVec 32 := Scalar.muli c4_i32_58 v10
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.muli c2_i32_59 v5
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.addi v104 v8
  let c2048_i32_60 : BitVec 32 := 2048#32
  let v106 : BitVec 32 := Scalar.muli v105 c2048_i32_60
  v106
def k0_mult9 (d0 : Dev nD) : BitVec 32 :=
  let c4_i32_61 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v108 : BitVec 32 := Scalar.muli c4_i32_61 v2
  let c2_i32_62 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v109 : BitVec 32 := Scalar.muli c2_i32_62 v11
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v111 : BitVec 32 := Scalar.addi v110 v8
  let c2048_i32_63 : BitVec 32 := 2048#32
  let v112 : BitVec 32 := Scalar.muli v111 c2048_i32_63
  v112
def k0_mult10 (d0 : Dev nD) : BitVec 32 :=
  let c4_i32_64 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.muli c4_i32_64 v2
  let c2_i32_65 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v115 : BitVec 32 := Scalar.muli c2_i32_65 v11
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.addi v116 v8
  let c2048_i32_66 : BitVec 32 := 2048#32
  let v118 : BitVec 32 := Scalar.muli v117 c2048_i32_66
  v118
def k0_mult11 (d0 : Dev nD) : BitVec 32 :=
  let c4_i32_67 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v120 : BitVec 32 := Scalar.muli c4_i32_67 v12
  let c2_i32_68 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v121 : BitVec 32 := Scalar.muli c2_i32_68 v13
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v123 : BitVec 32 := Scalar.addi v122 v8
  let c2048_i32_69 : BitVec 32 := 2048#32
  let v124 : BitVec 32 := Scalar.muli v123 c2048_i32_69
  v124
def k0_mult12 (d0 : Dev nD) : BitVec 32 :=
  let c4_i32_70 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v126 : BitVec 32 := Scalar.muli c4_i32_70 v12
  let c2_i32_71 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v127 : BitVec 32 := Scalar.muli c2_i32_71 v13
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c2048_i32_72 : BitVec 32 := 2048#32
  let v130 : BitVec 32 := Scalar.muli v129 c2048_i32_72
  v130
def k0_mult13 (d0 : Dev nD) : BitVec 32 :=
  let c4_i32_73 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v132 : BitVec 32 := Scalar.muli c4_i32_73 v10
  let c2_i32_74 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v133 : BitVec 32 := Scalar.muli c2_i32_74 v5
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v135 : BitVec 32 := Scalar.addi v134 v8
  let c2048_i32_75 : BitVec 32 := 2048#32
  let v136 : BitVec 32 := Scalar.muli v135 c2048_i32_75
  v136
def k0_mult14 (d0 : Dev nD) : BitVec 32 :=
  let c4_i32_76 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v138 : BitVec 32 := Scalar.muli c4_i32_76 v10
  let c2_i32_77 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v139 : BitVec 32 := Scalar.muli c2_i32_77 v5
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.addi v140 v8
  let c2048_i32_78 : BitVec 32 := 2048#32
  let v142 : BitVec 32 := Scalar.muli v141 c2048_i32_78
  v142
def k0_off3 (d0 : Dev nD) : Fin 2 → Nat :=
  let c4_i32_76 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v138 : BitVec 32 := Scalar.muli c4_i32_76 v10
  let c2_i32_77 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v139 : BitVec 32 := Scalar.muli c2_i32_77 v5
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.addi v140 v8
  let c2048_i32_78 : BitVec 32 := 2048#32
  let v142 : BitVec 32 := Scalar.muli v141 c2048_i32_78
  let v143 : BitVec 32 := v142
  let c0_i32_85 : BitVec 32 := 0#32
  ![v143.toNat, 0]
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v154 : BitVec 32 := Scalar.muli v2 c4_i32_89
  let v155 : BitVec 32 := Scalar.addi c0_i32_90 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v156 : BitVec 32 := Scalar.muli v5 c2_i32_91
  let v157 : BitVec 32 := Scalar.addi v155 v156
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v158 : BitVec 32 := Scalar.muli v9 c1_i32_92
  let v159 : BitVec 32 := Scalar.addi v157 v158
  v159.toNat
def k0_mult15 (d0 : Dev nD) : BitVec 32 :=
  let c4_i32_95 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v166 : BitVec 32 := Scalar.muli c4_i32_95 v2
  let c2_i32_96 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v167 : BitVec 32 := Scalar.muli c2_i32_96 v11
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v169 : BitVec 32 := Scalar.addi v168 v8
  let c2048_i32_97 : BitVec 32 := 2048#32
  let v170 : BitVec 32 := Scalar.muli v169 c2048_i32_97
  v170
def k0_mult16 (d0 : Dev nD) : BitVec 32 :=
  let c4_i32_98 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c4_i32_98 v2
  let c2_i32_99 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v173 : BitVec 32 := Scalar.muli c2_i32_99 v11
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.addi v174 v8
  let c2048_i32_100 : BitVec 32 := 2048#32
  let v176 : BitVec 32 := Scalar.muli v175 c2048_i32_100
  v176
def k0_off4 (d0 : Dev nD) : Fin 2 → Nat :=
  let c4_i32_98 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c4_i32_98 v2
  let c2_i32_99 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v173 : BitVec 32 := Scalar.muli c2_i32_99 v11
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.addi v174 v8
  let c2048_i32_100 : BitVec 32 := 2048#32
  let v176 : BitVec 32 := Scalar.muli v175 c2048_i32_100
  let v177 : BitVec 32 := v176
  let c0_i32_107 : BitVec 32 := 0#32
  ![v177.toNat, 0]
def k0_dev6 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v188 : BitVec 32 := Scalar.muli v2 c4_i32_110
  let v189 : BitVec 32 := Scalar.addi c0_i32_111 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v190 : BitVec 32 := Scalar.muli v5 c2_i32_112
  let v191 : BitVec 32 := Scalar.addi v189 v190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_113 : BitVec 32 := 1#32
  let v192 : BitVec 32 := Scalar.muli v9 c1_i32_113
  let v193 : BitVec 32 := Scalar.addi v191 v192
  v193.toNat
def k0_mult17 (d0 : Dev nD) : BitVec 32 :=
  let c4_i32_116 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v200 : BitVec 32 := Scalar.muli c4_i32_116 v12
  let c2_i32_117 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v201 : BitVec 32 := Scalar.muli c2_i32_117 v13
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v203 : BitVec 32 := Scalar.addi v202 v8
  let c2048_i32_118 : BitVec 32 := 2048#32
  let v204 : BitVec 32 := Scalar.muli v203 c2048_i32_118
  v204
def k0_mult18 (d0 : Dev nD) : BitVec 32 :=
  let c4_i32_119 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v206 : BitVec 32 := Scalar.muli c4_i32_119 v12
  let c2_i32_120 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v207 : BitVec 32 := Scalar.muli c2_i32_120 v13
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v209 : BitVec 32 := Scalar.addi v208 v8
  let c2048_i32_121 : BitVec 32 := 2048#32
  let v210 : BitVec 32 := Scalar.muli v209 c2048_i32_121
  v210
def k0_off5 (d0 : Dev nD) : Fin 2 → Nat :=
  let c4_i32_119 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v206 : BitVec 32 := Scalar.muli c4_i32_119 v12
  let c2_i32_120 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v207 : BitVec 32 := Scalar.muli c2_i32_120 v13
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v209 : BitVec 32 := Scalar.addi v208 v8
  let c2048_i32_121 : BitVec 32 := 2048#32
  let v210 : BitVec 32 := Scalar.muli v209 c2048_i32_121
  let v211 : BitVec 32 := v210
  let c0_i32_128 : BitVec 32 := 0#32
  ![v211.toNat, 0]
def k0_dev7 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v222 : BitVec 32 := Scalar.muli v2 c4_i32_131
  let v223 : BitVec 32 := Scalar.addi c0_i32_132 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v224 : BitVec 32 := Scalar.muli v5 c2_i32_133
  let v225 : BitVec 32 := Scalar.addi v223 v224
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_134 : BitVec 32 := 1#32
  let v226 : BitVec 32 := Scalar.muli v9 c1_i32_134
  let v227 : BitVec 32 := Scalar.addi v225 v226
  v227.toNat
def k0_mult19 (d0 : Dev nD) : BitVec 32 :=
  let c4_i32_137 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v234 : BitVec 32 := Scalar.muli c4_i32_137 v2
  let c2_i32_138 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v235 : BitVec 32 := Scalar.muli c2_i32_138 v5
  let v236 : BitVec 32 := Scalar.addi v234 v235
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v237 : BitVec 32 := Scalar.addi v236 v9
  let c2048_i32_139 : BitVec 32 := 2048#32
  let v238 : BitVec 32 := Scalar.muli v237 c2048_i32_139
  v238
def k0_mult20 (d0 : Dev nD) : BitVec 32 :=
  let c4_i32_140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.muli c4_i32_140 v2
  let c2_i32_141 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.muli c2_i32_141 v5
  let v242 : BitVec 32 := Scalar.addi v240 v241
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v243 : BitVec 32 := Scalar.addi v242 v9
  let c2048_i32_142 : BitVec 32 := 2048#32
  let v244 : BitVec 32 := Scalar.muli v243 c2048_i32_142
  v244
def k0_off6 (d0 : Dev nD) : Fin 2 → Nat :=
  let c4_i32_140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.muli c4_i32_140 v2
  let c2_i32_141 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.muli c2_i32_141 v5
  let v242 : BitVec 32 := Scalar.addi v240 v241
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v243 : BitVec 32 := Scalar.addi v242 v9
  let c2048_i32_142 : BitVec 32 := 2048#32
  let v244 : BitVec 32 := Scalar.muli v243 c2048_i32_142
  let v245 : BitVec 32 := v244
  let c0_i32_149 : BitVec 32 := 0#32
  ![v245.toNat, 0]
def k0_mult21 (d0 : Dev nD) : BitVec 32 :=
  let c4_i32_152 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v257 : BitVec 32 := Scalar.muli c4_i32_152 v10
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v258 : BitVec 32 := Scalar.muli c2_i32_153 v5
  let v259 : BitVec 32 := Scalar.addi v257 v258
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_151 v8
  let v260 : BitVec 32 := Scalar.addi v259 v256
  let c2048_i32_154 : BitVec 32 := 2048#32
  let v261 : BitVec 32 := Scalar.muli v260 c2048_i32_154
  v261
def k0_mult22 (d0 : Dev nD) : BitVec 32 :=
  let c4_i32_155 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v263 : BitVec 32 := Scalar.muli c4_i32_155 v10
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v264 : BitVec 32 := Scalar.muli c2_i32_156 v5
  let v265 : BitVec 32 := Scalar.addi v263 v264
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_151 v8
  let v266 : BitVec 32 := Scalar.addi v265 v256
  let c2048_i32_157 : BitVec 32 := 2048#32
  let v267 : BitVec 32 := Scalar.muli v266 c2048_i32_157
  v267
def k0_off7 (d0 : Dev nD) : Fin 2 → Nat :=
  let c4_i32_155 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v263 : BitVec 32 := Scalar.muli c4_i32_155 v10
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v264 : BitVec 32 := Scalar.muli c2_i32_156 v5
  let v265 : BitVec 32 := Scalar.addi v263 v264
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_151 v8
  let v266 : BitVec 32 := Scalar.addi v265 v256
  let c2048_i32_157 : BitVec 32 := 2048#32
  let v267 : BitVec 32 := Scalar.muli v266 c2048_i32_157
  let v268 : BitVec 32 := v267
  let c0_i32_164 : BitVec 32 := 0#32
  ![v268.toNat, 0]
def k0_mult23 (d0 : Dev nD) : BitVec 32 :=
  let c4_i32_167 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.muli c4_i32_167 v2
  let c2_i32_168 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v281 : BitVec 32 := Scalar.muli c2_i32_168 v11
  let v282 : BitVec 32 := Scalar.addi v280 v281
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v279 : BitVec 32 := Scalar.subi c1_i32_166 v8
  let v283 : BitVec 32 := Scalar.addi v282 v279
  let c2048_i32_169 : BitVec 32 := 2048#32
  let v284 : BitVec 32 := Scalar.muli v283 c2048_i32_169
  v284
def k0_mult24 (d0 : Dev nD) : BitVec 32 :=
  let c4_i32_170 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v286 : BitVec 32 := Scalar.muli c4_i32_170 v2
  let c2_i32_171 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v287 : BitVec 32 := Scalar.muli c2_i32_171 v11
  let v288 : BitVec 32 := Scalar.addi v286 v287
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v279 : BitVec 32 := Scalar.subi c1_i32_166 v8
  let v289 : BitVec 32 := Scalar.addi v288 v279
  let c2048_i32_172 : BitVec 32 := 2048#32
  let v290 : BitVec 32 := Scalar.muli v289 c2048_i32_172
  v290
def k0_off8 (d0 : Dev nD) : Fin 2 → Nat :=
  let c4_i32_170 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v286 : BitVec 32 := Scalar.muli c4_i32_170 v2
  let c2_i32_171 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v287 : BitVec 32 := Scalar.muli c2_i32_171 v11
  let v288 : BitVec 32 := Scalar.addi v286 v287
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v279 : BitVec 32 := Scalar.subi c1_i32_166 v8
  let v289 : BitVec 32 := Scalar.addi v288 v279
  let c2048_i32_172 : BitVec 32 := 2048#32
  let v290 : BitVec 32 := Scalar.muli v289 c2048_i32_172
  let v291 : BitVec 32 := v290
  let c0_i32_179 : BitVec 32 := 0#32
  ![v291.toNat, 0]
def k0_mult25 (d0 : Dev nD) : BitVec 32 :=
  let c4_i32_182 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v303 : BitVec 32 := Scalar.muli c4_i32_182 v12
  let c2_i32_183 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v304 : BitVec 32 := Scalar.muli c2_i32_183 v13
  let v305 : BitVec 32 := Scalar.addi v303 v304
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v302 : BitVec 32 := Scalar.subi c1_i32_181 v8
  let v306 : BitVec 32 := Scalar.addi v305 v302
  let c2048_i32_184 : BitVec 32 := 2048#32
  let v307 : BitVec 32 := Scalar.muli v306 c2048_i32_184
  v307
def k0_mult26 (d0 : Dev nD) : BitVec 32 :=
  let c4_i32_185 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v309 : BitVec 32 := Scalar.muli c4_i32_185 v12
  let c2_i32_186 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v310 : BitVec 32 := Scalar.muli c2_i32_186 v13
  let v311 : BitVec 32 := Scalar.addi v309 v310
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v302 : BitVec 32 := Scalar.subi c1_i32_181 v8
  let v312 : BitVec 32 := Scalar.addi v311 v302
  let c2048_i32_187 : BitVec 32 := 2048#32
  let v313 : BitVec 32 := Scalar.muli v312 c2048_i32_187
  v313
def k0_off9 (d0 : Dev nD) : Fin 2 → Nat :=
  let c4_i32_185 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v309 : BitVec 32 := Scalar.muli c4_i32_185 v12
  let c2_i32_186 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v310 : BitVec 32 := Scalar.muli c2_i32_186 v13
  let v311 : BitVec 32 := Scalar.addi v309 v310
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v302 : BitVec 32 := Scalar.subi c1_i32_181 v8
  let v312 : BitVec 32 := Scalar.addi v311 v302
  let c2048_i32_187 : BitVec 32 := 2048#32
  let v313 : BitVec 32 := Scalar.muli v312 c2048_i32_187
  let v314 : BitVec 32 := v313
  let c0_i32_194 : BitVec 32 := 0#32
  ![v314.toNat, 0]
-- ==== GatherIdeal.lean ====
abbrev S4096x1024 : Shape := ⟨2, ![4096, 1024]⟩
abbrev S16384x1024 : Shape := ⟨2, ![16384, 1024]⟩
abbrev S7 : Shape := ⟨1, ![7]⟩
abbrev S_ : Shape := ⟨0, ![]⟩
abbrev S2048x1024 : Shape := ⟨2, ![2048, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S16384x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v14 : BitVec 32 := Scalar.muli v8 c2048_i32
  v14
def k0_mult2 (d0 : Dev nD) : BitVec 32 :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_10 : BitVec 32 := 2048#32
  let v20 : BitVec 32 := Scalar.muli v19 c2048_i32_10
  v20
def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_10 : BitVec 32 := 2048#32
  let v20 : BitVec 32 := Scalar.muli v19 c2048_i32_10
  let v21 : BitVec 32 := v20
  let c0_i32 : BitVec 32 := 0#32
  ![v21.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v14 : BitVec 32 := Scalar.muli v8 c2048_i32
  let v15 : BitVec 32 := v14
  let c0_i32_11 : BitVec 32 := 0#32
  ![v15.toNat, 0]
def k0_mult3 (d0 : Dev nD) : BitVec 32 :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.muli c2_i32_13 v5
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.addi v26 v8
  let c2048_i32_14 : BitVec 32 := 2048#32
  let v28 : BitVec 32 := Scalar.muli v27 c2048_i32_14
  v28
def k0_mult4 (d0 : Dev nD) : BitVec 32 :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_15 v2
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_16 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c2048_i32_17 : BitVec 32 := 2048#32
  let v34 : BitVec 32 := Scalar.muli v33 c2048_i32_17
  v34
def k0_mult5 (d0 : Dev nD) : BitVec 32 :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_19 v5
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c2048_i32_20 : BitVec 32 := 2048#32
  let v40 : BitVec 32 := Scalar.muli v39 c2048_i32_20
  v40
def k0_mult6 (d0 : Dev nD) : BitVec 32 :=
  let c4_i32_21 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c4_i32_21 v2
  let c2_i32_22 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_22 v5
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c2048_i32_23 : BitVec 32 := 2048#32
  let v46 : BitVec 32 := Scalar.muli v45 c2048_i32_23
  v46
def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v48 : BitVec 32 := Scalar.muli v2 c4_i32_26
  let v49 : BitVec 32 := Scalar.addi c0_i32_27 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v50 : BitVec 32 := Scalar.muli v5 c2_i32_28
  let v51 : BitVec 32 := Scalar.addi v49 v50
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v52 : BitVec 32 := Scalar.muli v9 c1_i32_29
  let v53 : BitVec 32 := Scalar.addi v51 v52
  v53.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v60 : BitVec 32 := Scalar.muli v10 c4_i32_34
  let v61 : BitVec 32 := Scalar.addi c0_i32_35 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v62 : BitVec 32 := Scalar.muli v5 c2_i32_36
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v64 : BitVec 32 := Scalar.muli v8 c1_i32_37
  let v65 : BitVec 32 := Scalar.addi v63 v64
  v65.toNat
def k0_dev3 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v72 : BitVec 32 := Scalar.muli v2 c4_i32_42
  let v73 : BitVec 32 := Scalar.addi c0_i32_43 v72
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_44 : BitVec 32 := 2#32
  let v74 : BitVec 32 := Scalar.muli v11 c2_i32_44
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v76 : BitVec 32 := Scalar.muli v8 c1_i32_45
  let v77 : BitVec 32 := Scalar.addi v75 v76
  v77.toNat
def k0_dev4 (d0 : Dev nD) : Nat :=
  let c0_i32_50 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_49 : BitVec 32 := 4#32
  let v84 : BitVec 32 := Scalar.muli v12 c4_i32_49
  let v85 : BitVec 32 := Scalar.addi c0_i32_50 v84
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_51 : BitVec 32 := 2#32
  let v86 : BitVec 32 := Scalar.muli v13 c2_i32_51
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v88 : BitVec 32 := Scalar.muli v8 c1_i32_52
  let v89 : BitVec 32 := Scalar.addi v87 v88
  v89.toNat
def k0_mult7 (d0 : Dev nD) : BitVec 32 :=
  let c4_i32_55 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v96 : BitVec 32 := Scalar.muli c4_i32_55 v10
  let c2_i32_56 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.muli c2_i32_56 v5
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v99 : BitVec 32 := Scalar.addi v98 v8
  let c2048_i32_57 : BitVec 32 := 2048#32
  let v100 : BitVec 32 := Scalar.muli v99 c2048_i32_57
  v100
def k0_mult8 (d0 : Dev nD) : BitVec 32 :=
  let c4_i32_58 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v102 : BitVec 32 := Scalar.muli c4_i32_58 v10
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.muli c2_i32_59 v5
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.addi v104 v8
  let c2048_i32_60 : BitVec 32 := 2048#32
  let v106 : BitVec 32 := Scalar.muli v105 c2048_i32_60
  v106
def k0_mult9 (d0 : Dev nD) : BitVec 32 :=
  let c4_i32_61 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v108 : BitVec 32 := Scalar.muli c4_i32_61 v2
  let c2_i32_62 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v109 : BitVec 32 := Scalar.muli c2_i32_62 v11
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v111 : BitVec 32 := Scalar.addi v110 v8
  let c2048_i32_63 : BitVec 32 := 2048#32
  let v112 : BitVec 32 := Scalar.muli v111 c2048_i32_63
  v112
def k0_mult10 (d0 : Dev nD) : BitVec 32 :=
  let c4_i32_64 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.muli c4_i32_64 v2
  let c2_i32_65 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v115 : BitVec 32 := Scalar.muli c2_i32_65 v11
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.addi v116 v8
  let c2048_i32_66 : BitVec 32 := 2048#32
  let v118 : BitVec 32 := Scalar.muli v117 c2048_i32_66
  v118
def k0_mult11 (d0 : Dev nD) : BitVec 32 :=
  let c4_i32_67 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v120 : BitVec 32 := Scalar.muli c4_i32_67 v12
  let c2_i32_68 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v121 : BitVec 32 := Scalar.muli c2_i32_68 v13
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v123 : BitVec 32 := Scalar.addi v122 v8
  let c2048_i32_69 : BitVec 32 := 2048#32
  let v124 : BitVec 32 := Scalar.muli v123 c2048_i32_69
  v124
def k0_mult12 (d0 : Dev nD) : BitVec 32 :=
  let c4_i32_70 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v126 : BitVec 32 := Scalar.muli c4_i32_70 v12
  let c2_i32_71 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v127 : BitVec 32 := Scalar.muli c2_i32_71 v13
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.addi v128 v8
  let c2048_i32_72 : BitVec 32 := 2048#32
  let v130 : BitVec 32 := Scalar.muli v129 c2048_i32_72
  v130
def k0_mult13 (d0 : Dev nD) : BitVec 32 :=
  let c4_i32_73 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v132 : BitVec 32 := Scalar.muli c4_i32_73 v10
  let c2_i32_74 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v133 : BitVec 32 := Scalar.muli c2_i32_74 v5
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v135 : BitVec 32 := Scalar.addi v134 v8
  let c2048_i32_75 : BitVec 32 := 2048#32
  let v136 : BitVec 32 := Scalar.muli v135 c2048_i32_75
  v136
def k0_mult14 (d0 : Dev nD) : BitVec 32 :=
  let c4_i32_76 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v138 : BitVec 32 := Scalar.muli c4_i32_76 v10
  let c2_i32_77 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v139 : BitVec 32 := Scalar.muli c2_i32_77 v5
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.addi v140 v8
  let c2048_i32_78 : BitVec 32 := 2048#32
  let v142 : BitVec 32 := Scalar.muli v141 c2048_i32_78
  v142
def k0_off3 (d0 : Dev nD) : Fin 2 → Nat :=
  let c4_i32_76 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v138 : BitVec 32 := Scalar.muli c4_i32_76 v10
  let c2_i32_77 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v139 : BitVec 32 := Scalar.muli c2_i32_77 v5
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v141 : BitVec 32 := Scalar.addi v140 v8
  let c2048_i32_78 : BitVec 32 := 2048#32
  let v142 : BitVec 32 := Scalar.muli v141 c2048_i32_78
  let v143 : BitVec 32 := v142
  let c0_i32_85 : BitVec 32 := 0#32
  ![v143.toNat, 0]
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v154 : BitVec 32 := Scalar.muli v2 c4_i32_89
  let v155 : BitVec 32 := Scalar.addi c0_i32_90 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v156 : BitVec 32 := Scalar.muli v5 c2_i32_91
  let v157 : BitVec 32 := Scalar.addi v155 v156
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v158 : BitVec 32 := Scalar.muli v9 c1_i32_92
  let v159 : BitVec 32 := Scalar.addi v157 v158
  v159.toNat
def k0_mult15 (d0 : Dev nD) : BitVec 32 :=
  let c4_i32_95 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v166 : BitVec 32 := Scalar.muli c4_i32_95 v2
  let c2_i32_96 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v167 : BitVec 32 := Scalar.muli c2_i32_96 v11
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v169 : BitVec 32 := Scalar.addi v168 v8
  let c2048_i32_97 : BitVec 32 := 2048#32
  let v170 : BitVec 32 := Scalar.muli v169 c2048_i32_97
  v170
def k0_mult16 (d0 : Dev nD) : BitVec 32 :=
  let c4_i32_98 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c4_i32_98 v2
  let c2_i32_99 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v173 : BitVec 32 := Scalar.muli c2_i32_99 v11
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.addi v174 v8
  let c2048_i32_100 : BitVec 32 := 2048#32
  let v176 : BitVec 32 := Scalar.muli v175 c2048_i32_100
  v176
def k0_off4 (d0 : Dev nD) : Fin 2 → Nat :=
  let c4_i32_98 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c4_i32_98 v2
  let c2_i32_99 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v173 : BitVec 32 := Scalar.muli c2_i32_99 v11
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.addi v174 v8
  let c2048_i32_100 : BitVec 32 := 2048#32
  let v176 : BitVec 32 := Scalar.muli v175 c2048_i32_100
  let v177 : BitVec 32 := v176
  let c0_i32_107 : BitVec 32 := 0#32
  ![v177.toNat, 0]
def k0_dev6 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v188 : BitVec 32 := Scalar.muli v2 c4_i32_110
  let v189 : BitVec 32 := Scalar.addi c0_i32_111 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v190 : BitVec 32 := Scalar.muli v5 c2_i32_112
  let v191 : BitVec 32 := Scalar.addi v189 v190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_113 : BitVec 32 := 1#32
  let v192 : BitVec 32 := Scalar.muli v9 c1_i32_113
  let v193 : BitVec 32 := Scalar.addi v191 v192
  v193.toNat
def k0_mult17 (d0 : Dev nD) : BitVec 32 :=
  let c4_i32_116 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v200 : BitVec 32 := Scalar.muli c4_i32_116 v12
  let c2_i32_117 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v201 : BitVec 32 := Scalar.muli c2_i32_117 v13
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v203 : BitVec 32 := Scalar.addi v202 v8
  let c2048_i32_118 : BitVec 32 := 2048#32
  let v204 : BitVec 32 := Scalar.muli v203 c2048_i32_118
  v204
def k0_mult18 (d0 : Dev nD) : BitVec 32 :=
  let c4_i32_119 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v206 : BitVec 32 := Scalar.muli c4_i32_119 v12
  let c2_i32_120 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v207 : BitVec 32 := Scalar.muli c2_i32_120 v13
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v209 : BitVec 32 := Scalar.addi v208 v8
  let c2048_i32_121 : BitVec 32 := 2048#32
  let v210 : BitVec 32 := Scalar.muli v209 c2048_i32_121
  v210
def k0_off5 (d0 : Dev nD) : Fin 2 → Nat :=
  let c4_i32_119 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v206 : BitVec 32 := Scalar.muli c4_i32_119 v12
  let c2_i32_120 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v207 : BitVec 32 := Scalar.muli c2_i32_120 v13
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v209 : BitVec 32 := Scalar.addi v208 v8
  let c2048_i32_121 : BitVec 32 := 2048#32
  let v210 : BitVec 32 := Scalar.muli v209 c2048_i32_121
  let v211 : BitVec 32 := v210
  let c0_i32_128 : BitVec 32 := 0#32
  ![v211.toNat, 0]
def k0_dev7 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v222 : BitVec 32 := Scalar.muli v2 c4_i32_131
  let v223 : BitVec 32 := Scalar.addi c0_i32_132 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v224 : BitVec 32 := Scalar.muli v5 c2_i32_133
  let v225 : BitVec 32 := Scalar.addi v223 v224
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_134 : BitVec 32 := 1#32
  let v226 : BitVec 32 := Scalar.muli v9 c1_i32_134
  let v227 : BitVec 32 := Scalar.addi v225 v226
  v227.toNat
def k0_mult19 (d0 : Dev nD) : BitVec 32 :=
  let c4_i32_137 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v234 : BitVec 32 := Scalar.muli c4_i32_137 v2
  let c2_i32_138 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v235 : BitVec 32 := Scalar.muli c2_i32_138 v5
  let v236 : BitVec 32 := Scalar.addi v234 v235
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v237 : BitVec 32 := Scalar.addi v236 v9
  let c2048_i32_139 : BitVec 32 := 2048#32
  let v238 : BitVec 32 := Scalar.muli v237 c2048_i32_139
  v238
def k0_mult20 (d0 : Dev nD) : BitVec 32 :=
  let c4_i32_140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.muli c4_i32_140 v2
  let c2_i32_141 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.muli c2_i32_141 v5
  let v242 : BitVec 32 := Scalar.addi v240 v241
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v243 : BitVec 32 := Scalar.addi v242 v9
  let c2048_i32_142 : BitVec 32 := 2048#32
  let v244 : BitVec 32 := Scalar.muli v243 c2048_i32_142
  v244
def k0_off6 (d0 : Dev nD) : Fin 2 → Nat :=
  let c4_i32_140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.muli c4_i32_140 v2
  let c2_i32_141 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.muli c2_i32_141 v5
  let v242 : BitVec 32 := Scalar.addi v240 v241
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v243 : BitVec 32 := Scalar.addi v242 v9
  let c2048_i32_142 : BitVec 32 := 2048#32
  let v244 : BitVec 32 := Scalar.muli v243 c2048_i32_142
  let v245 : BitVec 32 := v244
  let c0_i32_149 : BitVec 32 := 0#32
  ![v245.toNat, 0]
def k0_mult21 (d0 : Dev nD) : BitVec 32 :=
  let c4_i32_152 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v257 : BitVec 32 := Scalar.muli c4_i32_152 v10
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v258 : BitVec 32 := Scalar.muli c2_i32_153 v5
  let v259 : BitVec 32 := Scalar.addi v257 v258
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_151 v8
  let v260 : BitVec 32 := Scalar.addi v259 v256
  let c2048_i32_154 : BitVec 32 := 2048#32
  let v261 : BitVec 32 := Scalar.muli v260 c2048_i32_154
  v261
def k0_mult22 (d0 : Dev nD) : BitVec 32 :=
  let c4_i32_155 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v263 : BitVec 32 := Scalar.muli c4_i32_155 v10
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v264 : BitVec 32 := Scalar.muli c2_i32_156 v5
  let v265 : BitVec 32 := Scalar.addi v263 v264
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_151 v8
  let v266 : BitVec 32 := Scalar.addi v265 v256
  let c2048_i32_157 : BitVec 32 := 2048#32
  let v267 : BitVec 32 := Scalar.muli v266 c2048_i32_157
  v267
def k0_off7 (d0 : Dev nD) : Fin 2 → Nat :=
  let c4_i32_155 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v263 : BitVec 32 := Scalar.muli c4_i32_155 v10
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v264 : BitVec 32 := Scalar.muli c2_i32_156 v5
  let v265 : BitVec 32 := Scalar.addi v263 v264
  let c1_i32_151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_151 v8
  let v266 : BitVec 32 := Scalar.addi v265 v256
  let c2048_i32_157 : BitVec 32 := 2048#32
  let v267 : BitVec 32 := Scalar.muli v266 c2048_i32_157
  let v268 : BitVec 32 := v267
  let c0_i32_164 : BitVec 32 := 0#32
  ![v268.toNat, 0]
def k0_mult23 (d0 : Dev nD) : BitVec 32 :=
  let c4_i32_167 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.muli c4_i32_167 v2
  let c2_i32_168 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v281 : BitVec 32 := Scalar.muli c2_i32_168 v11
  let v282 : BitVec 32 := Scalar.addi v280 v281
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v279 : BitVec 32 := Scalar.subi c1_i32_166 v8
  let v283 : BitVec 32 := Scalar.addi v282 v279
  let c2048_i32_169 : BitVec 32 := 2048#32
  let v284 : BitVec 32 := Scalar.muli v283 c2048_i32_169
  v284
def k0_mult24 (d0 : Dev nD) : BitVec 32 :=
  let c4_i32_170 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v286 : BitVec 32 := Scalar.muli c4_i32_170 v2
  let c2_i32_171 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v287 : BitVec 32 := Scalar.muli c2_i32_171 v11
  let v288 : BitVec 32 := Scalar.addi v286 v287
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v279 : BitVec 32 := Scalar.subi c1_i32_166 v8
  let v289 : BitVec 32 := Scalar.addi v288 v279
  let c2048_i32_172 : BitVec 32 := 2048#32
  let v290 : BitVec 32 := Scalar.muli v289 c2048_i32_172
  v290
def k0_off8 (d0 : Dev nD) : Fin 2 → Nat :=
  let c4_i32_170 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v286 : BitVec 32 := Scalar.muli c4_i32_170 v2
  let c2_i32_171 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v287 : BitVec 32 := Scalar.muli c2_i32_171 v11
  let v288 : BitVec 32 := Scalar.addi v286 v287
  let c1_i32_166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v279 : BitVec 32 := Scalar.subi c1_i32_166 v8
  let v289 : BitVec 32 := Scalar.addi v288 v279
  let c2048_i32_172 : BitVec 32 := 2048#32
  let v290 : BitVec 32 := Scalar.muli v289 c2048_i32_172
  let v291 : BitVec 32 := v290
  let c0_i32_179 : BitVec 32 := 0#32
  ![v291.toNat, 0]
def k0_mult25 (d0 : Dev nD) : BitVec 32 :=
  let c4_i32_182 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v303 : BitVec 32 := Scalar.muli c4_i32_182 v12
  let c2_i32_183 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v304 : BitVec 32 := Scalar.muli c2_i32_183 v13
  let v305 : BitVec 32 := Scalar.addi v303 v304
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v302 : BitVec 32 := Scalar.subi c1_i32_181 v8
  let v306 : BitVec 32 := Scalar.addi v305 v302
  let c2048_i32_184 : BitVec 32 := 2048#32
  let v307 : BitVec 32 := Scalar.muli v306 c2048_i32_184
  v307
def k0_mult26 (d0 : Dev nD) : BitVec 32 :=
  let c4_i32_185 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v309 : BitVec 32 := Scalar.muli c4_i32_185 v12
  let c2_i32_186 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v310 : BitVec 32 := Scalar.muli c2_i32_186 v13
  let v311 : BitVec 32 := Scalar.addi v309 v310
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v302 : BitVec 32 := Scalar.subi c1_i32_181 v8
  let v312 : BitVec 32 := Scalar.addi v311 v302
  let c2048_i32_187 : BitVec 32 := 2048#32
  let v313 : BitVec 32 := Scalar.muli v312 c2048_i32_187
  v313
def k0_off9 (d0 : Dev nD) : Fin 2 → Nat :=
  let c4_i32_185 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v309 : BitVec 32 := Scalar.muli c4_i32_185 v12
  let c2_i32_186 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v310 : BitVec 32 := Scalar.muli c2_i32_186 v13
  let v311 : BitVec 32 := Scalar.addi v309 v310
  let c1_i32_181 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v302 : BitVec 32 := Scalar.subi c1_i32_181 v8
  let v312 : BitVec 32 := Scalar.addi v311 v302
  let c2048_i32_187 : BitVec 32 := 2048#32
  let v313 : BitVec 32 := Scalar.muli v312 c2048_i32_187
  let v314 : BitVec 32 := v313
  let c0_i32_194 : BitVec 32 := 0#32
  ![v314.toNat, 0]
-- ==== GatherRef.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Sibling.lean ====
abbrev S4x4096x1024 : Shape := ⟨3, ![4, 4096, 1024]⟩
abbrev S4x2048x1024 : Shape := ⟨3, ![4, 2048, 1024]⟩
abbrev S4 : Shape := ⟨1, ![4]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c2048_i32 : BitVec 32 := 2048#32
  let v10 : BitVec 32 := Scalar.muli v9 c2048_i32
  v10
def k0_off1 (d0 : Dev nD) : Fin 3 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c2048_i32 : BitVec 32 := 2048#32
  let v10 : BitVec 32 := Scalar.muli v9 c2048_i32
  let v11 : BitVec 32 := v10
  let c0_i32_14 : BitVec 32 := 0#32
  ![0, v11.toNat, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v13 : BitVec 32 := Scalar.muli v2 c4_i32_8
  let v14 : BitVec 32 := Scalar.addi c0_i32_9 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v15 : BitVec 32 := Scalar.muli v5 c2_i32_10
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_11 : BitVec 32 := 1#32
  let v17 : BitVec 32 := Scalar.muli v12 c1_i32_11
  let v18 : BitVec 32 := Scalar.addi v16 v17
  v18.toNat
def k0_mult2 (d0 : Dev nD) : BitVec 32 :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c2048_i32_16 : BitVec 32 := 2048#32
  let v28 : BitVec 32 := Scalar.muli v27 c2048_i32_16
  v28
def k0_off2 (d0 : Dev nD) : Fin 3 → Nat :=
  let c1_i32_18 : BitVec 32 := 1#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c2048_i32_16 : BitVec 32 := 2048#32
  let v28 : BitVec 32 := Scalar.muli v27 c2048_i32_16
  let v29 : BitVec 32 := v28
  let c0_i32_28 : BitVec 32 := 0#32
  ![1, v29.toNat, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v33 : BitVec 32 := Scalar.muli v5 c2_i32_24
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_25 : BitVec 32 := 1#32
  let v35 : BitVec 32 := Scalar.muli v30 c1_i32_25
  let v36 : BitVec 32 := Scalar.addi v34 v35
  v36.toNat
def k0_mult3 (d0 : Dev nD) : BitVec 32 :=
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_29 v8
  let c2048_i32_30 : BitVec 32 := 2048#32
  let v46 : BitVec 32 := Scalar.muli v45 c2048_i32_30
  v46
def k0_off3 (d0 : Dev nD) : Fin 3 → Nat :=
  let c2_i32_32 : BitVec 32 := 2#32
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_29 v8
  let c2048_i32_30 : BitVec 32 := 2048#32
  let v46 : BitVec 32 := Scalar.muli v45 c2048_i32_30
  let v47 : BitVec 32 := v46
  let c0_i32_42 : BitVec 32 := 0#32
  ![2, v47.toNat, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v49 : BitVec 32 := Scalar.muli v2 c4_i32_36
  let v50 : BitVec 32 := Scalar.addi c0_i32_37 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v51 : BitVec 32 := Scalar.muli v5 c2_i32_38
  let v52 : BitVec 32 := Scalar.addi v50 v51
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c1_i32_39 : BitVec 32 := 1#32
  let v53 : BitVec 32 := Scalar.muli v48 c1_i32_39
  let v54 : BitVec 32 := Scalar.addi v52 v53
  v54.toNat
def k0_mult4 (d0 : Dev nD) : BitVec 32 :=
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_43 v8
  let c2048_i32_44 : BitVec 32 := 2048#32
  let v64 : BitVec 32 := Scalar.muli v63 c2048_i32_44
  v64
def k0_off4 (d0 : Dev nD) : Fin 3 → Nat :=
  let c3_i32 : BitVec 32 := 3#32
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_43 v8
  let c2048_i32_44 : BitVec 32 := 2048#32
  let v64 : BitVec 32 := Scalar.muli v63 c2048_i32_44
  let v65 : BitVec 32 := v64
  let c0_i32_55 : BitVec 32 := 0#32
  ![3, v65.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v67 : BitVec 32 := Scalar.muli v2 c4_i32_49
  let v68 : BitVec 32 := Scalar.addi c0_i32_50 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v69 : BitVec 32 := Scalar.muli v5 c2_i32_51
  let v70 : BitVec 32 := Scalar.addi v68 v69
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_45 v8
  let c1_i32_52 : BitVec 32 := 1#32
  let v71 : BitVec 32 := Scalar.muli v66 c1_i32_52
  let v72 : BitVec 32 := Scalar.addi v70 v71
  v72.toNat
-- ==== SiblingIdeal.lean ====
abbrev S4x4096x1024 : Shape := ⟨3, ![4, 4096, 1024]⟩
abbrev S4x2048x1024 : Shape := ⟨3, ![4, 2048, 1024]⟩
abbrev S4 : Shape := ⟨1, ![4]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c2048_i32 : BitVec 32 := 2048#32
  let v10 : BitVec 32 := Scalar.muli v9 c2048_i32
  v10
def k0_off1 (d0 : Dev nD) : Fin 3 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c2048_i32 : BitVec 32 := 2048#32
  let v10 : BitVec 32 := Scalar.muli v9 c2048_i32
  let v11 : BitVec 32 := v10
  let c0_i32_14 : BitVec 32 := 0#32
  ![0, v11.toNat, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v13 : BitVec 32 := Scalar.muli v2 c4_i32_8
  let v14 : BitVec 32 := Scalar.addi c0_i32_9 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v15 : BitVec 32 := Scalar.muli v5 c2_i32_10
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_11 : BitVec 32 := 1#32
  let v17 : BitVec 32 := Scalar.muli v12 c1_i32_11
  let v18 : BitVec 32 := Scalar.addi v16 v17
  v18.toNat
def k0_mult2 (d0 : Dev nD) : BitVec 32 :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c2048_i32_16 : BitVec 32 := 2048#32
  let v28 : BitVec 32 := Scalar.muli v27 c2048_i32_16
  v28
def k0_off2 (d0 : Dev nD) : Fin 3 → Nat :=
  let c1_i32_18 : BitVec 32 := 1#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c2048_i32_16 : BitVec 32 := 2048#32
  let v28 : BitVec 32 := Scalar.muli v27 c2048_i32_16
  let v29 : BitVec 32 := v28
  let c0_i32_28 : BitVec 32 := 0#32
  ![1, v29.toNat, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v33 : BitVec 32 := Scalar.muli v5 c2_i32_24
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_25 : BitVec 32 := 1#32
  let v35 : BitVec 32 := Scalar.muli v30 c1_i32_25
  let v36 : BitVec 32 := Scalar.addi v34 v35
  v36.toNat
def k0_mult3 (d0 : Dev nD) : BitVec 32 :=
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_29 v8
  let c2048_i32_30 : BitVec 32 := 2048#32
  let v46 : BitVec 32 := Scalar.muli v45 c2048_i32_30
  v46
def k0_off3 (d0 : Dev nD) : Fin 3 → Nat :=
  let c2_i32_32 : BitVec 32 := 2#32
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_29 v8
  let c2048_i32_30 : BitVec 32 := 2048#32
  let v46 : BitVec 32 := Scalar.muli v45 c2048_i32_30
  let v47 : BitVec 32 := v46
  let c0_i32_42 : BitVec 32 := 0#32
  ![2, v47.toNat, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v49 : BitVec 32 := Scalar.muli v2 c4_i32_36
  let v50 : BitVec 32 := Scalar.addi c0_i32_37 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v51 : BitVec 32 := Scalar.muli v5 c2_i32_38
  let v52 : BitVec 32 := Scalar.addi v50 v51
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c1_i32_39 : BitVec 32 := 1#32
  let v53 : BitVec 32 := Scalar.muli v48 c1_i32_39
  let v54 : BitVec 32 := Scalar.addi v52 v53
  v54.toNat
def k0_mult4 (d0 : Dev nD) : BitVec 32 :=
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_43 v8
  let c2048_i32_44 : BitVec 32 := 2048#32
  let v64 : BitVec 32 := Scalar.muli v63 c2048_i32_44
  v64
def k0_off4 (d0 : Dev nD) : Fin 3 → Nat :=
  let c3_i32 : BitVec 32 := 3#32
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_43 v8
  let c2048_i32_44 : BitVec 32 := 2048#32
  let v64 : BitVec 32 := Scalar.muli v63 c2048_i32_44
  let v65 : BitVec 32 := v64
  let c0_i32_55 : BitVec 32 := 0#32
  ![3, v65.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v67 : BitVec 32 := Scalar.muli v2 c4_i32_49
  let v68 : BitVec 32 := Scalar.addi c0_i32_50 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v69 : BitVec 32 := Scalar.muli v5 c2_i32_51
  let v70 : BitVec 32 := Scalar.addi v68 v69
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_45 v8
  let c1_i32_52 : BitVec 32 := 1#32
  let v71 : BitVec 32 := Scalar.muli v66 c1_i32_52
  let v72 : BitVec 32 := Scalar.addi v70 v71
  v72.toNat
-- ==== SiblingRef.lean ====
abbrev S32x4096x1024 : Shape := ⟨3, ![32, 4096, 1024]⟩
abbrev S4x2x4x2x2048x1024 : Shape := ⟨6, ![4, 2, 4, 2, 2048, 1024]⟩
abbrev S4x1x4x1x2048x1024 : Shape := ⟨6, ![4, 1, 4, 1, 2048, 1024]⟩
abbrev S4x4x2048x1024 : Shape := ⟨4, ![4, 4, 2048, 1024]⟩
abbrev S4x1x4x2048x1024 : Shape := ⟨5, ![4, 1, 4, 2048, 1024]⟩
abbrev S4x2x4x2048x1024 : Shape := ⟨5, ![4, 2, 4, 2048, 1024]⟩
abbrev S32x2048x1024 : Shape := ⟨3, ![32, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S4x2x4x2x2048x1024, .f32⟩
  | .hbm, ⟨2, _⟩ => ⟨S4x1x4x1x2048x1024, .f32⟩
  | .hbm, ⟨3, _⟩ => ⟨S4x4x2048x1024, .f32⟩
  | .hbm, ⟨4, _⟩ => ⟨S4x1x4x1x2048x1024, .f32⟩
  | .hbm, ⟨5, _⟩ => ⟨S4x4x2048x1024, .f32⟩
  | .hbm, ⟨6, _⟩ => ⟨S4x1x4x2048x1024, .f32⟩
  | .hbm, ⟨7, _⟩ => ⟨S4x1x4x2048x1024, .f32⟩
  | .hbm, ⟨8, _⟩ => ⟨S4x2x4x2048x1024, .f32⟩
  | .hbm, ⟨9, _⟩ => ⟨S32x2048x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Ici.lean ====
abbrev S4x2048x1024 : Shape := ⟨3, ![4, 2048, 1024]⟩
abbrev S3x2048x1024 : Shape := ⟨3, ![3, 2048, 1024]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_dev1 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v15 : BitVec 32 := Scalar.muli v9 c4_i32_10
  let v16 : BitVec 32 := Scalar.addi c0_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v17 : BitVec 32 := Scalar.muli v5 c2_i32_12
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v19 : BitVec 32 := Scalar.muli v8 c1_i32_13
  let v20 : BitVec 32 := Scalar.addi v18 v19
  v20.toNat
def k0_off2 (d0 : Dev nD) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_18 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v30 : BitVec 32 := Scalar.addi v29 v10
  let c0_i32_28 : BitVec 32 := 0#32
  let c0_i32_29 : BitVec 32 := 0#32
  ![v30.toNat, 0, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v33 : BitVec 32 := Scalar.muli v10 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v35 : BitVec 32 := Scalar.muli v8 c1_i32_25
  let v36 : BitVec 32 := Scalar.addi v34 v35
  v36.toNat
def k0_off3 (d0 : Dev nD) : Fin 3 → Nat :=
  let c2_i32_30 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v45 : BitVec 32 := Scalar.muli c2_i32_30 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v46 : BitVec 32 := Scalar.addi v45 v12
  let c0_i32_40 : BitVec 32 := 0#32
  let c0_i32_41 : BitVec 32 := 0#32
  ![v46.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== IciIdeal.lean ====
abbrev S4x2048x1024 : Shape := ⟨3, ![4, 2048, 1024]⟩
abbrev S3x2048x1024 : Shape := ⟨3, ![3, 2048, 1024]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_dev1 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v15 : BitVec 32 := Scalar.muli v9 c4_i32_10
  let v16 : BitVec 32 := Scalar.addi c0_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v17 : BitVec 32 := Scalar.muli v5 c2_i32_12
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v19 : BitVec 32 := Scalar.muli v8 c1_i32_13
  let v20 : BitVec 32 := Scalar.addi v18 v19
  v20.toNat
def k0_off2 (d0 : Dev nD) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_18 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v30 : BitVec 32 := Scalar.addi v29 v10
  let c0_i32_28 : BitVec 32 := 0#32
  let c0_i32_29 : BitVec 32 := 0#32
  ![v30.toNat, 0, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v33 : BitVec 32 := Scalar.muli v10 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v35 : BitVec 32 := Scalar.muli v8 c1_i32_25
  let v36 : BitVec 32 := Scalar.addi v34 v35
  v36.toNat
def k0_off3 (d0 : Dev nD) : Fin 3 → Nat :=
  let c2_i32_30 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v45 : BitVec 32 := Scalar.muli c2_i32_30 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v46 : BitVec 32 := Scalar.addi v45 v12
  let c0_i32_40 : BitVec 32 := 0#32
  let c0_i32_41 : BitVec 32 := 0#32
  ![v46.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== IciRef.lean ====
abbrev S32x2048x1024 : Shape := ⟨3, ![32, 2048, 1024]⟩
abbrev S2x2x2x2x2x2048x1024 : Shape := ⟨7, ![2, 2, 2, 2, 2, 2048, 1024]⟩
abbrev S1x1x1x1x1x2048x1024 : Shape := ⟨7, ![1, 1, 1, 1, 1, 2048, 1024]⟩
abbrev S2048x1024 : Shape := ⟨2, ![2048, 1024]⟩
abbrev S1x2048x1024 : Shape := ⟨3, ![1, 2048, 1024]⟩
abbrev S16x2048x1024 : Shape := ⟨3, ![16, 2048, 1024]⟩
abbrev S8x2048x1024 : Shape := ⟨3, ![8, 2048, 1024]⟩
abbrev S24x2048x1024 : Shape := ⟨3, ![24, 2048, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S2x2x2x2x2x2048x1024, .bf16⟩
  | .hbm, ⟨2, _⟩ => ⟨S1x1x1x1x1x2048x1024, .bf16⟩
  | .hbm, ⟨3, _⟩ => ⟨S2048x1024, .bf16⟩
  | .hbm, ⟨4, _⟩ => ⟨S1x1x1x1x1x2048x1024, .bf16⟩
  | .hbm, ⟨5, _⟩ => ⟨S2048x1024, .bf16⟩
  | .hbm, ⟨6, _⟩ => ⟨S1x1x1x1x1x2048x1024, .bf16⟩
  | .hbm, ⟨7, _⟩ => ⟨S2048x1024, .bf16⟩
  | .hbm, ⟨8, _⟩ => ⟨S1x1x1x1x1x2048x1024, .bf16⟩
  | .hbm, ⟨9, _⟩ => ⟨S2048x1024, .bf16⟩
  | .hbm, ⟨10, _⟩ => ⟨S1x1x1x1x1x2048x1024, .bf16⟩
  | .hbm, ⟨11, _⟩ => ⟨S2048x1024, .bf16⟩
  | .hbm, ⟨12, _⟩ => ⟨S1x1x1x1x1x2048x1024, .bf16⟩
  | .hbm, ⟨13, _⟩ => ⟨S2048x1024, .bf16⟩
  | .hbm, ⟨14, _⟩ => ⟨S1x1x1x1x1x2048x1024, .bf16⟩
  | .hbm, ⟨15, _⟩ => ⟨S2048x1024, .bf16⟩
  | .hbm, ⟨16, _⟩ => ⟨S1x1x1x1x1x2048x1024, .bf16⟩
  | .hbm, ⟨17, _⟩ => ⟨S2048x1024, .bf16⟩
  | .hbm, ⟨18, _⟩ => ⟨S1x1x1x1x1x2048x1024, .bf16⟩
  | .hbm, ⟨19, _⟩ => ⟨S2048x1024, .bf16⟩
  | .hbm, ⟨20, _⟩ => ⟨S1x1x1x1x1x2048x1024, .bf16⟩
  | .hbm, ⟨21, _⟩ => ⟨S2048x1024, .bf16⟩
  | .hbm, ⟨22, _⟩ => ⟨S1x1x1x1x1x2048x1024, .bf16⟩
  | .hbm, ⟨23, _⟩ => ⟨S2048x1024, .bf16⟩
  | .hbm, ⟨24, _⟩ => ⟨S1x1x1x1x1x2048x1024, .bf16⟩
  | .hbm, ⟨25, _⟩ => ⟨S2048x1024, .bf16⟩
  | .hbm, ⟨26, _⟩ => ⟨S1x1x1x1x1x2048x1024, .bf16⟩
  | .hbm, ⟨27, _⟩ => ⟨S2048x1024, .bf16⟩
  | .hbm, ⟨28, _⟩ => ⟨S1x1x1x1x1x2048x1024, .bf16⟩
  | .hbm, ⟨29, _⟩ => ⟨S2048x1024, .bf16⟩
  | .hbm, ⟨30, _⟩ => ⟨S1x1x1x1x1x2048x1024, .bf16⟩
  | .hbm, ⟨31, _⟩ => ⟨S2048x1024, .bf16⟩
  | .hbm, ⟨32, _⟩ => ⟨S1x1x1x1x1x2048x1024, .bf16⟩
  | .hbm, ⟨33, _⟩ => ⟨S2048x1024, .bf16⟩
  | .hbm, ⟨34, _⟩ => ⟨S1x1x1x1x1x2048x1024, .bf16⟩
  | .hbm, ⟨35, _⟩ => ⟨S2048x1024, .bf16⟩
  | .hbm, ⟨36, _⟩ => ⟨S1x1x1x1x1x2048x1024, .bf16⟩
  | .hbm, ⟨37, _⟩ => ⟨S2048x1024, .bf16⟩
  | .hbm, ⟨38, _⟩ => ⟨S1x1x1x1x1x2048x1024, .bf16⟩
  | .hbm, ⟨39, _⟩ => ⟨S2048x1024, .bf16⟩
  | .hbm, ⟨40, _⟩ => ⟨S1x1x1x1x1x2048x1024, .bf16⟩
  | .hbm, ⟨41, _⟩ => ⟨S2048x1024, .bf16⟩
  | .hbm, ⟨42, _⟩ => ⟨S1x1x1x1x1x2048x1024, .bf16⟩
  | .hbm, ⟨43, _⟩ => ⟨S2048x1024, .bf16⟩
  | .hbm, ⟨44, _⟩ => ⟨S1x1x1x1x1x2048x1024, .bf16⟩
  | .hbm, ⟨45, _⟩ => ⟨S2048x1024, .bf16⟩
  | .hbm, ⟨46, _⟩ => ⟨S1x1x1x1x1x2048x1024, .bf16⟩
  | .hbm, ⟨47, _⟩ => ⟨S2048x1024, .bf16⟩
  | .hbm, ⟨48, _⟩ => ⟨S1x1x1x1x1x2048x1024, .bf16⟩
  | .hbm, ⟨49, _⟩ => ⟨S2048x1024, .bf16⟩
  | .hbm, ⟨50, _⟩ => ⟨S1x2048x1024, .bf16⟩
  | .hbm, ⟨51, _⟩ => ⟨S1x2048x1024, .bf16⟩
  | .hbm, ⟨52, _⟩ => ⟨S1x2048x1024, .bf16⟩
  | .hbm, ⟨53, _⟩ => ⟨S1x2048x1024, .bf16⟩
  | .hbm, ⟨54, _⟩ => ⟨S1x2048x1024, .bf16⟩
  | .hbm, ⟨55, _⟩ => ⟨S1x2048x1024, .bf16⟩
  | .hbm, ⟨56, _⟩ => ⟨S1x2048x1024, .bf16⟩
  | .hbm, ⟨57, _⟩ => ⟨S1x2048x1024, .bf16⟩
  | .hbm, ⟨58, _⟩ => ⟨S1x2048x1024, .bf16⟩
  | .hbm, ⟨59, _⟩ => ⟨S1x2048x1024, .bf16⟩
  | .hbm, ⟨60, _⟩ => ⟨S1x2048x1024, .bf16⟩
  | .hbm, ⟨61, _⟩ => ⟨S1x2048x1024, .bf16⟩
  | .hbm, ⟨62, _⟩ => ⟨S1x2048x1024, .bf16⟩
  | .hbm, ⟨63, _⟩ => ⟨S1x2048x1024, .bf16⟩
  | .hbm, ⟨64, _⟩ => ⟨S1x2048x1024, .bf16⟩
  | .hbm, ⟨65, _⟩ => ⟨S1x2048x1024, .bf16⟩
  | .hbm, ⟨66, _⟩ => ⟨S1x2048x1024, .bf16⟩
  | .hbm, ⟨67, _⟩ => ⟨S1x2048x1024, .bf16⟩
  | .hbm, ⟨68, _⟩ => ⟨S1x2048x1024, .bf16⟩
  | .hbm, ⟨69, _⟩ => ⟨S1x2048x1024, .bf16⟩
  | .hbm, ⟨70, _⟩ => ⟨S1x2048x1024, .bf16⟩
  | .hbm, ⟨71, _⟩ => ⟨S1x2048x1024, .bf16⟩
  | .hbm, ⟨72, _⟩ => ⟨S1x2048x1024, .bf16⟩
  | .hbm, ⟨73, _⟩ => ⟨S1x2048x1024, .bf16⟩
  | .hbm, ⟨74, _⟩ => ⟨S16x2048x1024, .bf16⟩
  | .hbm, ⟨75, _⟩ => ⟨S8x2048x1024, .bf16⟩
  | .hbm, ⟨76, _⟩ => ⟨S24x2048x1024, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩

abbrev nD : Nat := 1
abbrev τ : Topo := Topo.v7x

variable {F : FTy → Type} [FloatOps F]
-- ==== Share.lean ====
abbrev S2048x1024 : Shape := ⟨2, ![2048, 1024]⟩
abbrev S4096x1024 : Shape := ⟨2, ![4096, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v9 : BitVec 32 := Scalar.muli v8 c2048_i32
  v9
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v9 : BitVec 32 := Scalar.muli v8 c2048_i32
  let v10 : BitVec 32 := v9
  let c0_i32 : BitVec 32 := 0#32
  ![v10.toNat, 0]
def k0_dev1 (d0 : Dev nD) : Nat :=
  let c0_i32_5 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v13 : BitVec 32 := Scalar.muli v2 c4_i32_4
  let v14 : BitVec 32 := Scalar.addi c0_i32_5 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
-- ==== ShareIdeal.lean ====
abbrev S2048x1024 : Shape := ⟨2, ![2048, 1024]⟩
abbrev S4096x1024 : Shape := ⟨2, ![4096, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v9 : BitVec 32 := Scalar.muli v8 c2048_i32
  v9
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v9 : BitVec 32 := Scalar.muli v8 c2048_i32
  let v10 : BitVec 32 := v9
  let c0_i32 : BitVec 32 := 0#32
  ![v10.toNat, 0]
def k0_dev1 (d0 : Dev nD) : Nat :=
  let c0_i32_5 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v13 : BitVec 32 := Scalar.muli v2 c4_i32_4
  let v14 : BitVec 32 := Scalar.addi c0_i32_5 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
-- ==== ShareRef.lean ====
abbrev S16384x1024 : Shape := ⟨2, ![16384, 1024]⟩
abbrev S4x4096x1024 : Shape := ⟨3, ![4, 4096, 1024]⟩
abbrev S4x1x4096x1024 : Shape := ⟨4, ![4, 1, 4096, 1024]⟩
abbrev S4x2x4096x1024 : Shape := ⟨4, ![4, 2, 4096, 1024]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S4x1x4096x1024, .f32⟩
  | .hbm, ⟨3, _⟩ => ⟨S4x1x4096x1024, .f32⟩
  | .hbm, ⟨4, _⟩ => ⟨S4x2x4096x1024, .f32⟩
  | .hbm, ⟨5, _⟩ => ⟨S32768x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Adam.lean ====
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S104x128 : Shape := ⟨2, ![104, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S104x128, .f32⟩
  | .hbm, ⟨5, _⟩ => ⟨S104x128, .f32⟩
  | .hbm, ⟨6, _⟩ => ⟨S104x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S104x128 : Shape := ⟨2, ![104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S_, .f32⟩
  | .hbm, ⟨5, _⟩ => ⟨S104x128, .f32⟩
  | .hbm, ⟨6, _⟩ => ⟨S104x128, .f32⟩
  | .hbm, ⟨7, _⟩ => ⟨S_, .f32⟩
  | .hbm, ⟨8, _⟩ => ⟨S104x128, .f32⟩
  | .hbm, ⟨9, _⟩ => ⟨S104x128, .f32⟩
  | .hbm, ⟨10, _⟩ => ⟨S104x128, .f32⟩
  | .hbm, ⟨11, _⟩ => ⟨S_, .f32⟩
  | .hbm, ⟨12, _⟩ => ⟨S104x128, .f32⟩
  | .hbm, ⟨13, _⟩ => ⟨S104x128, .f32⟩
  | .hbm, ⟨14, _⟩ => ⟨S104x128, .f32⟩
  | .hbm, ⟨15, _⟩ => ⟨S_, .f32⟩
  | .hbm, ⟨16, _⟩ => ⟨S104x128, .f32⟩
  | .hbm, ⟨17, _⟩ => ⟨S104x128, .f32⟩
  | .hbm, ⟨18, _⟩ => ⟨S104x128, .f32⟩
  | .hbm, ⟨19, _⟩ => ⟨S_, .f32⟩
  | .hbm, ⟨20, _⟩ => ⟨S104x128, .f32⟩
  | .hbm, ⟨21, _⟩ => ⟨S104x128, .f32⟩
  | .hbm, ⟨22, _⟩ => ⟨S_, .f32⟩
  | .hbm, ⟨23, _⟩ => ⟨S104x128, .f32⟩
  | .hbm, ⟨24, _⟩ => ⟨S104x128, .f32⟩
  | .hbm, ⟨25, _⟩ => ⟨S104x128, .f32⟩
  | .hbm, ⟨26, _⟩ => ⟨S_, .f32⟩
  | .hbm, ⟨27, _⟩ => ⟨S104x128, .f32⟩
  | .hbm, ⟨28, _⟩ => ⟨S104x128, .f32⟩
  | .hbm, ⟨29, _⟩ => ⟨S104x128, .f32⟩
  | .hbm, ⟨30, _⟩ => ⟨S_, .f32⟩
  | .hbm, ⟨31, _⟩ => ⟨S104x128, .f32⟩
  | .hbm, ⟨32, _⟩ => ⟨S104x128, .f32⟩
  | .hbm, ⟨33, _⟩ => ⟨S104x128, .f32⟩
  | .hbm, ⟨34, _⟩ => ⟨S_, .f32⟩
  | .hbm, ⟨35, _⟩ => ⟨S104x128, .f32⟩
  | .hbm, ⟨36, _⟩ => ⟨S104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DwIn.lean ====
abbrev S4096x1024 : Shape := ⟨2, ![4096, 1024]⟩
abbrev S4096x2688 : Shape := ⟨2, ![4096, 2688]⟩
abbrev S1024x2688 : Shape := ⟨2, ![1024, 2688]⟩
abbrev S512x1024 : Shape := ⟨2, ![512, 1024]⟩
abbrev S512x384 : Shape := ⟨2, ![512, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S1024x2688, .f32⟩
  | .local _ .vmem, ⟨0, _⟩ => ⟨S512x1024, .bf16⟩
  | .local _ .vmem, ⟨1, _⟩ => ⟨S512x1024, .bf16⟩
  | .local _ .vmem, ⟨2, _⟩ => ⟨S512x384, .bf16⟩
  | .local _ .vmem, ⟨3, _⟩ => ⟨S512x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInIdeal.lean ====
abbrev S4096x1024 : Shape := ⟨2, ![4096, 1024]⟩
abbrev S4096x2688 : Shape := ⟨2, ![4096, 2688]⟩
abbrev S1024x2688 : Shape := ⟨2, ![1024, 2688]⟩
abbrev S512x1024 : Shape := ⟨2, ![512, 1024]⟩
abbrev S512x384 : Shape := ⟨2, ![512, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S1024x2688, .f32⟩
  | .local _ .vmem, ⟨0, _⟩ => ⟨S512x1024, .bf16⟩
  | .local _ .vmem, ⟨1, _⟩ => ⟨S512x1024, .bf16⟩
  | .local _ .vmem, ⟨2, _⟩ => ⟨S512x384, .bf16⟩
  | .local _ .vmem, ⟨3, _⟩ => ⟨S512x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x2688 : Shape := ⟨2, ![4096, 2688]⟩
abbrev S1024x4096 : Shape := ⟨2, ![1024, 4096]⟩
abbrev S1024x2688 : Shape := ⟨2, ![1024, 2688]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S4096x1024, .f32⟩
  | .hbm, ⟨3, _⟩ => ⟨S1024x4096, .f32⟩
  | .hbm, ⟨4, _⟩ => ⟨S4096x2688, .f32⟩
  | .hbm, ⟨5, _⟩ => ⟨S1024x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwOutConv.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutConvIdeal.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutConvRefIdeal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S4096x512, .f32⟩
  | .hbm, ⟨3, _⟩ => ⟨S512x4096, .f32⟩
  | .hbm, ⟨4, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwOutFox.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutFoxIdeal.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutFoxRefIdeal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S512x4096, .f32⟩
  | .hbm, ⟨3, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwMq.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMqIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMqRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwMkv.lean ====
abbrev S512x1024 : Shape := ⟨2, ![512, 1024]⟩
abbrev S512x2048 : Shape := ⟨2, ![512, 2048]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S1024x2048, .f32⟩
  | .local _ .vmem, ⟨0, _⟩ => ⟨S512x1024, .bf16⟩
  | .local _ .vmem, ⟨1, _⟩ => ⟨S512x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMkvIdeal.lean ====
abbrev S512x1024 : Shape := ⟨2, ![512, 1024]⟩
abbrev S512x2048 : Shape := ⟨2, ![512, 2048]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S1024x2048, .f32⟩
  | .local _ .vmem, ⟨0, _⟩ => ⟨S512x1024, .bf16⟩
  | .local _ .vmem, ⟨1, _⟩ => ⟨S512x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMkvRefIdeal.lean ====
abbrev S512x1024 : Shape := ⟨2, ![512, 1024]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S512x1024, .f32⟩
  | .hbm, ⟨3, _⟩ => ⟨S1024x512, .f32⟩
  | .hbm, ⟨4, _⟩ => ⟨S512x2048, .f32⟩
  | .hbm, ⟨5, _⟩ => ⟨S1024x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwMo.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMoIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMoRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwGu.lean ====
abbrev S4096x1024 : Shape := ⟨2, ![4096, 1024]⟩
abbrev S4096x5632 : Shape := ⟨2, ![4096, 5632]⟩
abbrev S1024x5632 : Shape := ⟨2, ![1024, 5632]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGuIdeal.lean ====
abbrev S4096x1024 : Shape := ⟨2, ![4096, 1024]⟩
abbrev S4096x5632 : Shape := ⟨2, ![4096, 5632]⟩
abbrev S1024x5632 : Shape := ⟨2, ![1024, 5632]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGuRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x512 : Shape := ⟨2, ![512, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x512, .f32⟩
  | .local _ .vmem, ⟨3, _⟩ => ⟨S512x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BwdIn.lean ====
abbrev S4096x2688 : Shape := ⟨2, ![4096, 2688]⟩
abbrev S1024x2688 : Shape := ⟨2, ![1024, 2688]⟩
abbrev S4096x1024 : Shape := ⟨2, ![4096, 1024]⟩
abbrev S1x1024 : Shape := ⟨2, ![1, 1024]⟩
abbrev S512x2688 : Shape := ⟨2, ![512, 2688]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S1024x2688, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInRefIdeal.lean ====
abbrev S4096x2688 : Shape := ⟨2, ![4096, 2688]⟩
abbrev S1024x2688 : Shape := ⟨2, ![1024, 2688]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x2688, .f32⟩
  | .hbm, ⟨25, _⟩ => ⟨S4096x2688, .f32⟩
  | .hbm, ⟨26, _⟩ => ⟨S4096x2688, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== BwdMem.lean ====
abbrev S512x1024 : Shape := ⟨2, ![512, 1024]⟩
abbrev S1024x2048 : Shape := ⟨2, ![1024, 2048]⟩
abbrev S1x1024 : Shape := ⟨2, ![1, 1024]⟩
abbrev S512x2048 : Shape := ⟨2, ![512, 2048]⟩
abbrev S256x1024 : Shape := ⟨2, ![256, 1024]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S1024x2048, .bf16⟩
  | .hbm, ⟨4, _⟩ => ⟨S1x1024, .f32⟩
  | .hbm, ⟨5, _⟩ => ⟨S512x2048, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x2048, .bf16⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdMemRefIdeal.lean ====
abbrev S512x1024 : Shape := ⟨2, ![512, 1024]⟩
abbrev S1024x2048 : Shape := ⟨2, ![1024, 2048]⟩
abbrev S1x1024 : Shape := ⟨2, ![1, 1024]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S1024x2048, .bf16⟩
  | .hbm, ⟨4, _⟩ => ⟨S1x1024, .f32⟩
  | .hbm, ⟨5, _⟩ => ⟨S512x2048, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S1024x2048, .f32⟩
  | .hbm, ⟨22, _⟩ => ⟨S512x2048, .f32⟩
  | .hbm, ⟨23, _⟩ => ⟨S512x2048, .bf16⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S1024, .f32⟩
  | .hbm, ⟨28, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== FwdFfn.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S4096x5632 : Shape := ⟨2, ![4096, 5632]⟩
abbrev S4096x2816 : Shape := ⟨2, ![4096, 2816]⟩
abbrev S1x128 : Shape := ⟨2, ![1, 128]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x5632, .f32⟩
  | .hbm, ⟨8, _⟩ => ⟨S4096x2816, .bf16⟩
  | .hbm, ⟨9, _⟩ => ⟨S4096x1024, .f32⟩
  | .hbm, ⟨10, _⟩ => ⟨S1x128, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x5632, .f32⟩
  | .local _ .vmem, ⟨11, _⟩ => ⟨S256x5632, .f32⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FwdFfnRefIdeal.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x5632, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S2816x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | .hbm, ⟨104, _⟩ => ⟨S4096x2816, .bf16⟩
  | .hbm, ⟨105, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_16 : Ref sig .tc := ⟨.hbm, 93, rfl⟩
abbrev main_v62 : Ref sig .tc := ⟨.hbm, 94, rfl⟩
abbrev main_v63 : Ref sig .tc := ⟨.hbm, 95, rfl⟩
abbrev main_cst_17 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== BwdFfn.lean ====
abbrev S4096x1024 : Shape := ⟨2, ![4096, 1024]⟩
abbrev S4096x5632 : Shape := ⟨2, ![4096, 5632]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S4096x5632, .bf16⟩
  | .hbm, ⟨7, _⟩ => ⟨S4096x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S256x1024, .f32⟩
  | .local _ .vmem, ⟨5, _⟩ => ⟨S256x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdFfnRefIdeal.lean ====
abbrev S4096x1024 : Shape := ⟨2, ![4096, 1024]⟩
abbrev S4096x5632 : Shape := ⟨2, ![4096, 5632]⟩
abbrev S1024x5632 : Shape := ⟨2, ![1024, 5632]⟩
abbrev S2816x1024 : Shape := ⟨2, ![2816, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x5632, .f32⟩
  | .hbm, ⟨54, _⟩ => ⟨S4096x5632, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x5632, .bf16⟩
  | .hbm, ⟨80, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_v6_0 : Ref sig .tc := ⟨.hbm, 26, rfl⟩
abbrev main_call0_v11 : Ref sig .tc := ⟨.hbm, 27, rfl⟩
abbrev main_call0_v12 : Ref sig .tc := ⟨.hbm, 28, rfl⟩
abbrev main_v6_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_0 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩

abbrev nD : Nat := 1
abbrev τ : Topo := Topo.v7x

variable {F : FTy → Type} [FloatOps F]
-- ==== FgateBwd.lean ====
abbrev S4096x128 : Shape := ⟨2, ![4096, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩
abbrev S128 : Shape := ⟨1, ![128]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .bf16⟩
  | .hbm, ⟨3, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S1x128, .f32⟩
  | .local _ .vmem, ⟨7, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== FgateBwdRefIdeal.lean ====
abbrev S4096x128 : Shape := ⟨2, ![4096, 128]⟩
abbrev S4096x8 : Shape := ⟨2, ![4096, 8]⟩
abbrev S2x2048x8 : Shape := ⟨3, ![2, 2048, 8]⟩
abbrev S_ : Shape := ⟨0, ![]⟩
abbrev S128 : Shape := ⟨1, ![128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x8, .f32⟩
  | .hbm, ⟨3, _⟩ => ⟨S2x2048x8, .f32⟩
  | .hbm, ⟨4, _⟩ => ⟨S2x2048x8, .f32⟩
  | .hbm, ⟨5, _⟩ => ⟨S_, .f32⟩
  | .hbm, ⟨6, _⟩ => ⟨S2x2048x8, .f32⟩
  | .hbm, ⟨7, _⟩ => ⟨S2x2048x8, .f32⟩
  | .hbm, ⟨8, _⟩ => ⟨S2x2048x8, .f32⟩
  | .hbm, ⟨9, _⟩ => ⟨S2x2048x8, .f32⟩
  | .hbm, ⟨10, _⟩ => ⟨S2x2048x8, .i1⟩
  | .hbm, ⟨11, _⟩ => ⟨S2x2048x8, .f32⟩
  | .hbm, ⟨12, _⟩ => ⟨S2x2048x8, .f32⟩
  | .hbm, ⟨13, _⟩ => ⟨S2x2048x8, .f32⟩
  | .hbm, ⟨14, _⟩ => ⟨S2x2048x8, .f32⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S_, .f32⟩
  | .hbm, ⟨20, _⟩ => ⟨S2x2048x8, .f32⟩
  | .hbm, ⟨21, _⟩ => ⟨S2x2048x8, .i1⟩
  | .hbm, ⟨22, _⟩ => ⟨S_, .f32⟩
  | .hbm, ⟨23, _⟩ => ⟨S2x2048x8, .f32⟩
  | .hbm, ⟨24, _⟩ => ⟨S2x2048x8, .f32⟩
  | .hbm, ⟨25, _⟩ => ⟨S_, .f32⟩
  | .hbm, ⟨26, _⟩ => ⟨S2x2048x8, .f32⟩
  | .hbm, ⟨27, _⟩ => ⟨S2x2048x8, .i1⟩
  | .hbm, ⟨28, _⟩ => ⟨S_, .f32⟩
  | .hbm, ⟨29, _⟩ => ⟨S2x2048x8, .f32⟩
  | .hbm, ⟨30, _⟩ => ⟨S2x2048x8, .f32⟩
  | .hbm, ⟨31, _⟩ => ⟨S2x2048x8, .f32⟩
  | .hbm, ⟨32, _⟩ => ⟨S2x2048x8, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048x8, .f32⟩
  | .hbm, ⟨41, _⟩ => ⟨S2x2048x8, .i1⟩
  | .hbm, ⟨42, _⟩ => ⟨S_, .f32⟩
  | .hbm, ⟨43, _⟩ => ⟨S2x2048x8, .f32⟩
  | .hbm, ⟨44, _⟩ => ⟨S2x2048x8, .f32⟩
  | .hbm, ⟨45, _⟩ => ⟨S2x2048x8, .f32⟩
  | .hbm, ⟨46, _⟩ => ⟨S2x2048x8, .f32⟩
  | .hbm, ⟨47, _⟩ => ⟨S2x2048x8, .f32⟩
  | .hbm, ⟨48, _⟩ => ⟨S_, .f32⟩
  | .hbm, ⟨49, _⟩ => ⟨S2x2048x8, .f32⟩
  | .hbm, ⟨50, _⟩ => ⟨S2x2048x8, .f32⟩
  | .hbm, ⟨51, _⟩ => ⟨S2x2048x8, .f32⟩
  | .hbm, ⟨52, _⟩ => ⟨S_, .f32⟩
  | .hbm, ⟨53, _⟩ => ⟨S_, .f32⟩
  | .hbm, ⟨54, _⟩ => ⟨S2x2048x8, .f32⟩
  | .hbm, ⟨55, _⟩ => ⟨S4096x8, .f32⟩
  | .hbm, ⟨56, _⟩ => ⟨S2x2048x8, .f32⟩
  | .hbm, ⟨57, _⟩ => ⟨S_, .f32⟩
  | .hbm, ⟨58, _⟩ => ⟨S_, .f32⟩
  | .hbm, ⟨59, _⟩ => ⟨S2x2048x8, .f32⟩
  | .hbm, ⟨60, _⟩ => ⟨S2x2048x8, .f32⟩
  | .hbm, ⟨61, _⟩ => ⟨S2x2048x8, .f32⟩
  | .hbm, ⟨62, _⟩ => ⟨S2x2048x8, .f32⟩
  | .hbm, ⟨63, _⟩ => ⟨S4096x8, .f32⟩
  | .hbm, ⟨64, _⟩ => ⟨S_, .i32⟩
  | .hbm, ⟨65, _⟩ => ⟨S_, .f32⟩
  | .hbm, ⟨66, _⟩ => ⟨S4096x128, .f32⟩
  | .hbm, ⟨67, _⟩ => ⟨S4096x128, .bf16⟩
  | .hbm, ⟨68, _⟩ => ⟨S_, .f32⟩
  | .hbm, ⟨69, _⟩ => ⟨S128, .f32⟩
  | .hbm, ⟨70, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1_0 : Ref sig .tc := ⟨.hbm, 18, rfl⟩
abbrev main_call0_call0_cst_0 : Ref sig .tc := ⟨.hbm, 19, rfl⟩
abbrev main_call0_call0_v13 : Ref sig .tc := ⟨.hbm, 20, rfl⟩
abbrev main_call0_call0_v14 : Ref sig .tc := ⟨.hbm, 21, rfl⟩
abbrev main_call0_call0_cst_1 : Ref sig .tc := ⟨.hbm, 22, rfl⟩
abbrev main_call0_call0_v15 : Ref sig .tc := ⟨.hbm, 23, rfl⟩
abbrev main_call0_call0_v16 : Ref sig .tc := ⟨.hbm, 24, rfl⟩
abbrev main_call0_call0_cst_2 : Ref sig .tc := ⟨.hbm, 25, rfl⟩
abbrev main_call0_call0_v17 : Ref sig .tc := ⟨.hbm, 26, rfl⟩
abbrev main_call0_call0_v18 : Ref sig .tc := ⟨.hbm, 27, rfl⟩
abbrev main_call0_call0_cst_3 : Ref sig .tc := ⟨.hbm, 28, rfl⟩
abbrev main_call0_call0_v19 : Ref sig .tc := ⟨.hbm, 29, rfl⟩
abbrev main_call0_call0_v20 : Ref sig .tc := ⟨.hbm, 30, rfl⟩
abbrev main_call0_call0_v21 : Ref sig .tc := ⟨.hbm, 31, rfl⟩
abbrev main_v2_1 : Ref sig .tc := ⟨.hbm, 32, rfl⟩
abbrev main_call0_call0_cst_4 : Ref sig .tc := ⟨.hbm, 33, rfl⟩
abbrev main_call0_call0_cst_5 : Ref sig .tc := ⟨.hbm, 34, rfl⟩
abbrev main_call0_call0_v23 : Ref sig .tc := ⟨.hbm, 35, rfl⟩
abbrev main_call0_call0_cst_6 : Ref sig .tc := ⟨.hbm, 36, rfl⟩
abbrev main_call0_call0_cst_7 : Ref sig .tc := ⟨.hbm, 37, rfl⟩
abbrev main_call0_call0_v24 : Ref sig .tc := ⟨.hbm, 38, rfl⟩
abbrev main_call0_call0_cst_8 : Ref sig .tc := ⟨.hbm, 39, rfl⟩
abbrev main_call0_call0_v25 : Ref sig .tc := ⟨.hbm, 40, rfl⟩
abbrev main_call0_call0_v26 : Ref sig .tc := ⟨.hbm, 41, rfl⟩
abbrev main_call0_call0_cst_9 : Ref sig .tc := ⟨.hbm, 42, rfl⟩
abbrev main_call0_call0_v27 : Ref sig .tc := ⟨.hbm, 43, rfl⟩
abbrev main_call0_call0_v28 : Ref sig .tc := ⟨.hbm, 44, rfl⟩
abbrev main_call0_call0_v29 : Ref sig .tc := ⟨.hbm, 45, rfl⟩
abbrev main_call0_call0_v30 : Ref sig .tc := ⟨.hbm, 46, rfl⟩
abbrev main_call0_call0_v31 : Ref sig .tc := ⟨.hbm, 47, rfl⟩
abbrev main_call0_call0_cst_10 : Ref sig .tc := ⟨.hbm, 48, rfl⟩
abbrev main_call0_call0_v32 : Ref sig .tc := ⟨.hbm, 49, rfl⟩
abbrev main_v2_2 : Ref sig .tc := ⟨.hbm, 50, rfl⟩
abbrev main_v2_0 : Ref sig .tc := ⟨.hbm, 51, rfl⟩
abbrev main_call1_call0_cst : Ref sig .tc := ⟨.hbm, 52, rfl⟩
abbrev main_call1_call0_v0 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_call2_call0_cst : Ref sig .tc := ⟨.hbm, 57, rfl⟩
abbrev main_call2_call0_v0 : Ref sig .tc := ⟨.hbm, 58, rfl⟩
abbrev main_v6 : Ref sig .tc := ⟨.hbm, 59, rfl⟩
abbrev main_call3_v0 : Ref sig .tc := ⟨.hbm, 60, rfl⟩
abbrev main_call3_v1 : Ref sig .tc := ⟨.hbm, 61, rfl⟩
abbrev main_v7 : Ref sig .tc := ⟨.hbm, 62, rfl⟩
abbrev main_v8 : Ref sig .tc := ⟨.hbm, 63, rfl⟩
abbrev main_c : Ref sig .tc := ⟨.hbm, 64, rfl⟩
abbrev main_call4_v0 : Ref sig .tc := ⟨.hbm, 65, rfl⟩
abbrev main_v9 : Ref sig .tc := ⟨.hbm, 66, rfl⟩
abbrev main_v10 : Ref sig .tc := ⟨.hbm, 67, rfl⟩
abbrev main_cst : Ref sig .tc := ⟨.hbm, 68, rfl⟩
abbrev main_v11 : Ref sig .tc := ⟨.hbm, 69, rfl⟩
abbrev main_v12 : Ref sig .tc := ⟨.hbm, 70, rfl⟩

abbrev nD : Nat := 1
abbrev τ : Topo := Topo.v7x

variable {F : FTy → Type} [FloatOps F]
-- ==== MemKv.lean ====
abbrev S512x1024 : Shape := ⟨2, ![512, 1024]⟩
abbrev S1x1024 : Shape := ⟨2, ![1, 1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .bf16⟩
  | .hbm, ⟨3, _⟩ => ⟨S512x1024, .bf16⟩
  | .hbm, ⟨4, _⟩ => ⟨S512x1024, .bf16⟩
  | .hbm, ⟨5, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S512x1024 : Shape := ⟨2, ![512, 1024]⟩
abbrev S1x1024 : Shape := ⟨2, ![1, 1024]⟩
abbrev S1024x2048 : Shape := ⟨2, ![1024, 2048]⟩
abbrev S_ : Shape := ⟨0, ![]⟩
abbrev S512 : Shape := ⟨1, ![512]⟩
abbrev S512x1 : Shape := ⟨2, ![512, 1]⟩
abbrev S512x2048 : Shape := ⟨2, ![512, 2048]⟩

abbrev nBuf : Space → Nat
  | .hbm => 25
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x2048, .f32⟩
  | .hbm, ⟨19, _⟩ => ⟨S512x2048, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== BwdMid.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1x1024 : Shape := ⟨2, ![1, 1024]⟩
abbrev S256x1024 : Shape := ⟨2, ![256, 1024]⟩
abbrev S512x512 : Shape := ⟨2, ![512, 512]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024 : Shape := ⟨1, ![1024]⟩

abbrev nBuf : Space → Nat
  | .hbm => 18
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S512x1024, .bf16⟩
  | .hbm, ⟨4, _⟩ => ⟨S512x1024, .bf16⟩
  | .hbm, ⟨5, _⟩ => ⟨S4096x512, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x512, .f32⟩
  | .hbm, ⟨13, _⟩ => ⟨S4096x512, .bf16⟩
  | .hbm, ⟨14, _⟩ => ⟨S4096x512, .f32⟩
  | .hbm, ⟨15, _⟩ => ⟨S512x1024, .f32⟩
  | .hbm, ⟨16, _⟩ => ⟨S512x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .f32⟩
  | .local _ .vmem, ⟨11, _⟩ => ⟨S512x512, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== BwdMidRefIdeal.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1x1024 : Shape := ⟨2, ![1, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S4096 : Shape := ⟨1, ![4096]⟩
abbrev S4096x1 : Shape := ⟨2, ![4096, 1]⟩
abbrev S1024 : Shape := ⟨1, ![1024]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .bf16⟩
  | 3 => ⟨S512x1024, .bf16⟩
  | 4 => ⟨S512x1024, .bf16⟩
  | 5 => ⟨S4096x512, .f32⟩
  | 6 => ⟨S1024x1024, .bf16⟩
  | 7 => ⟨S1024x1024, .bf16⟩
  | 8 => ⟨S1024x1024, .bf16⟩
  | 9 => ⟨S1x1024, .f32⟩
  | 10 => ⟨S4096x1024, .f32⟩
  | 11 => ⟨S2x2048x4x256, .f32⟩
  | 12 => ⟨S512x1024, .f32⟩
  | 13 => ⟨S2x256x4x256, .f32⟩
  | 14 => ⟨S512x1024, .f32⟩
  | 15 => ⟨S2x256x4x256, .f32⟩
  | 16 => ⟨S2x4x2048x256, .f32⟩
  | 17 => ⟨S_, .f32⟩
  | 18 => ⟨S2x4x2048x256, .f32⟩
  | 19 => ⟨S2x4x2048x256, .f32⟩
  | 20 => ⟨S_, .f32⟩
  | 21 => ⟨S2x4x2048, .f32⟩
  | 22 => ⟨S2x4x2048x1, .f32⟩
  | 23 => ⟨S2x4x2048x256, .f32⟩
  | 24 => ⟨S2x4x2048x256, .i1⟩
  | 25 => ⟨S2x4x2048x256, .f32⟩
  | 26 => ⟨S_, .f32⟩
  | 27 => ⟨S2x4x2048, .f32⟩
  | 28 => ⟨S_, .f32⟩
  | 29 => ⟨S2x4x2048, .f32⟩
  | 30 => ⟨S2x4x2048, .f32⟩
  | 31 => ⟨S_, .f32⟩
  | 32 => ⟨S2x4x2048, .f32⟩
  | 33 => ⟨S2x4x2048, .i1⟩
  | 34 => ⟨S_, .f32⟩
  | 35 => ⟨S2x4x2048, .f32⟩
  | 36 => ⟨S2x4x2048, .i1⟩
  | 37 => ⟨S_, .f32⟩
  | 38 => ⟨S2x4x2048, .f32⟩
  | 39 => ⟨S_, .f32⟩
  | 40 => ⟨S2x4x2048, .f32⟩
  | 41 => ⟨S_, .f32⟩
  | 42 => ⟨S2x4x2048, .f32⟩
  | 43 => ⟨S2x4x2048, .f32⟩
  | 44 => ⟨S2x4x2048, .f32⟩
  | 45 => ⟨S2x4x2048x1, .f32⟩
  | 46 => ⟨S2x4x2048x256, .f32⟩
  | 47 => ⟨S2x4x2048x256, .f32⟩
  | 48 => ⟨S2x4x2048x256, .f32⟩
  | 49 => ⟨S_, .f32⟩
  | 50 => ⟨S2x4x2048, .f32⟩
  | 51 => ⟨S2x4x2048x1, .f32⟩
  | 52 => ⟨S2x4x2048x256, .f32⟩
  | 53 => ⟨S2x4x2048x256, .f32⟩
  | 54 => ⟨S2x4x2048x1, .f32⟩
  | 55 => ⟨S_, .f32⟩
  | 56 => ⟨S2x4x2048x1, .f32⟩
  | 57 => ⟨S2x4x2048x1, .f32⟩
  | 58 => ⟨S2x4x256x2048, .f32⟩
  | 59 => ⟨S2x2048x4x256, .f32⟩
  | 60 => ⟨S1024x1024, .f32⟩
  | 61 => ⟨S1024x1024, .f32⟩
  | 62 => ⟨S4096x1024, .f32⟩
  | 63 => ⟨S2x2048x4x256, .f32⟩
  | 64 => ⟨S2x4x256x2048, .f32⟩
  | 65 => ⟨S2x4x2048x256, .f32⟩
  | 66 => ⟨S2x4x2048x256, .f32⟩
  | 67 => ⟨S2x4x2048x256, .f32⟩
  | 68 => ⟨S2x4x2048x256, .f32⟩
  | 69 => ⟨S_, .f32⟩
  | 70 => ⟨S2x4x2048, .f32⟩
  | 71 => ⟨S2x4x2048x1, .f32⟩
  | 72 => ⟨S2x4x2048x1, .f32⟩
  | 73 => ⟨S2x4x2048x256, .f32⟩
  | 74 => ⟨S2x4x2048x256, .f32⟩
  | 75 => ⟨S_, .f32⟩
  | 76 => ⟨S2x4x2048, .f32⟩
  | 77 => ⟨S2x4x2048x256, .f32⟩
  | 78 => ⟨S2x4x2048x256, .f32⟩
  | 79 => ⟨S2x4x2048x256, .f32⟩
  | 80 => ⟨S_, .f32⟩
  | 81 => ⟨S2x4x2048x256, .f32⟩
  | 82 => ⟨S2x4x2048x256, .f32⟩
  | 83 => ⟨S2x4x2048x256, .f32⟩
  | 84 => ⟨S2x2048x4x256, .f32⟩
  | 85 => ⟨S4096x1024, .f32⟩
  | 86 => ⟨S4096x1024, .f32⟩
  | 87 => ⟨S_, .f32⟩
  | 88 => ⟨S4096, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x1024, .f32⟩
  | 102 => ⟨S4096x1024, .f32⟩
  | 103 => ⟨S4096x1024, .f32⟩
  | 104 => ⟨S4096x1024, .f32⟩
  | 105 => ⟨S1024x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1024x1024, .f32⟩
  | 5 => ⟨S1024x1024, .f32⟩
  | 6 => ⟨S4096x1024, .f32⟩
  | 7 => ⟨S4096x1024, .bf16⟩
  | 8 => ⟨S4096x512, .f32⟩
  | 9 => ⟨S4096x512, .f32⟩
  | 10 => ⟨S4096x512, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_cst_20 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== FwdMid.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .f32⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FwdMidRefIdeal.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .f32⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S4096x512, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S4096x1024, .f32⟩
  | .hbm, ⟨31, _⟩ => ⟨S2x2048x4x256, .f32⟩
  | .hbm, ⟨32, _⟩ => ⟨S512x1024, .f32⟩
  | .hbm, ⟨33, _⟩ => ⟨S2x256x4x256, .f32⟩
  | .hbm, ⟨34, _⟩ => ⟨S512x1024, .f32⟩
  | .hbm, ⟨35, _⟩ => ⟨S2x256x4x256, .f32⟩
  | .hbm, ⟨36, _⟩ => ⟨S2x4x2048x256, .f32⟩
  | .hbm, ⟨37, _⟩ => ⟨S_, .f32⟩
  | .hbm, ⟨38, _⟩ => ⟨S2x4x2048x256, .f32⟩
  | .hbm, ⟨39, _⟩ => ⟨S2x4x2048x256, .f32⟩
  | .hbm, ⟨40, _⟩ => ⟨S_, .f32⟩
  | .hbm, ⟨41, _⟩ => ⟨S2x4x2048, .f32⟩
  | .hbm, ⟨42, _⟩ => ⟨S_, .f32⟩
  | .hbm, ⟨43, _⟩ => ⟨S2x4x2048, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x256, .f32⟩
  | .hbm, ⟨49, _⟩ => ⟨S_, .f32⟩
  | .hbm, ⟨50, _⟩ => ⟨S2x4x2048, .f32⟩
  | .hbm, ⟨51, _⟩ => ⟨S2x4x2048x1, .f32⟩
  | .hbm, ⟨52, _⟩ => ⟨S2x4x2048x256, .f32⟩
  | .hbm, ⟨53, _⟩ => ⟨S2x4x2048x256, .f32⟩
  | .hbm, ⟨54, _⟩ => ⟨S2x4x256x2048, .f32⟩
  | .hbm, ⟨55, _⟩ => ⟨S2x2048x4x256, .f32⟩
  | .hbm, ⟨56, _⟩ => ⟨S4096x1024, .f32⟩
  | .hbm, ⟨57, _⟩ => ⟨S4096x1024, .bf16⟩
  | .hbm, ⟨58, _⟩ => ⟨S4096x1024, .bf16⟩
  | .hbm, ⟨59, _⟩ => ⟨S4096x1024, .bf16⟩
  | .hbm, ⟨60, _⟩ => ⟨S1024x1024, .f32⟩
  | .hbm, ⟨61, _⟩ => ⟨S4096x1024, .f32⟩
  | .hbm, ⟨62, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Talk.Launch.lean ====
/-
# The launch of a program whose devices owe each other landings

A program whose devices send each other blocks without a handshake needs, before its first step, the landing
buffers of every device dealt to the devices that will fill them. `run_owing` is the launch in that form: one step
over all devices at once (`hstart`) sees every buffer, every semaphore, what every device owes and the credit it is
due, and hands each device its own start. `region_alone` is the step into a kernel region that windows no array.
-/
module

public import Idealize.ShloMosaic.Lib.Pipeline.Launch
public import Idealize.ShloMosaic.Lib.Pipeline.Kit
public import Idealize.ShloMosaic.Lib.Pipeline.Regions
public import Idealize.ShloMosaic.Lib.Rounds
public import Idealize.ShloMosaic.Lib.Tactic

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-! ## Every device at once -/

/-- Every device's rights to assign levels give one assignment for the machine. -/
theorem levels_assigned [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hnone (d : Dev nD) (p : Proc τ) (hp : p ≠ .tc) : (coreLevAts ((d, p) : Thread nD τ) L lv : sProp 𝕄) = BI.emp := by
    unfold coreLevAts
    refine (bigSep_congr (Ψ := fun _ : SemLoc sig => (BI.emp : sProp 𝕄)) fun sm _ => ?_).trans (BI.bigSep_emp_const _)
    rw [hL (((d, p) : Thread nD τ), sm) hp, BI.bigSep_empty]
  have hrest : (bigSep Finset.univ fun d : Dev nD => bigSep (Finset.univ.erase Proc.tc) fun p => (coreLevAts ((d, p) : Thread nD τ) L lv : sProp 𝕄)) = BI.emp :=
    (bigSep_congr (Ψ := fun _ : Dev nD => (BI.emp : sProp 𝕄)) fun d _ =>
      (bigSep_congr (Ψ := fun _ : Proc τ => (BI.emp : sProp 𝕄)) fun p hp => hnone d p (Finset.ne_of_mem_erase hp)).trans (BI.bigSep_emp_const _)).trans
      (BI.bigSep_emp_const _)
  have hall : (levAts L lv : sProp 𝕄) = bigSep Finset.univ fun c : Thread nD τ => coreLevAts c L lv :=
    bigSep_univ_prod fun g : GSem nD τ sig => bigSep (L g) fun ι => levAt g ι (lv g ι)
  refine ((bigSep_mono fun c _ => lev_assign_cells (c.tc : Thread nD τ) L lv).trans (BI.bigSep_bupd _ _)).trans (BI.bupd_mono ?_)
  rw [hall, bigSep_threads (fun c : Thread nD τ => coreLevAts c L lv), hrest]
  have hkeep : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv) ∗ (BI.emp : sProp 𝕄)) := by
    rw [bigSep_sep']
    iintro ⟨-, H⟩
    isplitl [H]; · iexact H
    iempintro
  exact hkeep

/-- What device `c` is dealt at launch, before any step over all the devices. -/
def dealt (m : (ℓ : Loc nD τ sig) → Buf Val ℓ) (O₀ : Dev nD → CellTallies nD τ sig Ix) (c : Dev nD) : sProp 𝕄 :=
  iprop(boundary (c.tc : Thread nD τ) ∗ unscopedBufs c (fun b => m ((c.tc : Thread nD τ).loc b)) ∗ owes (c.tc : Thread nD τ) (O₀ c) ∅ ∗ launchCred O₀ c)

/-- The launch: from one step over all the devices (`hstart`), each device's run (`hrun`) and what its end tells of a
    final memory (`hread`), every fair execution terminates in a memory all of these describe, with every scoped
    counter and every counter of another core at zero. -/
theorem run_owing [Preorder Lvl] [Infinite Name] {Λ : Labels} (𝔻 : Defs nD τ sig Val Λ) (𝕍 : Variants)
    (m : (ℓ : Loc nD τ sig) → Buf Val ℓ) (g : Dev nD → PrngReg)
    (main : Dev nD → Prog (TpuEff nD τ sig Val Λ .tc) PUnit)
    (O₀ : Dev nD → CellTallies nD τ sig Ix)
    (L : GSem nD τ sig → Finset Ix) (lv : GSem nD τ sig → Ix → Lvl) (hL : ∀ g : GSem nD τ sig, g.1.2 ≠ .tc → L g = ∅)
    (u₀ : U) (Start Fin : Dev nD → sProp 𝕄)
    (hstart : iprop((bigSep Finset.univ fun c : Dev nD => dealt m O₀ c) ∗ levAts L lv ∗ ownU u₀) ⊢ |={Set.univ}=> bigSep Finset.univ Start)
    (hrun : ∀ c, Start c ⊢ wp frame (wpE 𝔻 𝕍 (c.tc : Thread nD τ) none) Set.univ (main c) fun _ =>
      iprop((Fin c ∗ scopedSems0 (c.tc : Thread nD τ)) ∗ ∃ W, owes (c.tc : Thread nD τ) (0 : CellTallies nD τ sig Ix) W))
    (QY : Dev nD → MemSt nD τ sig Val → Prop)
    (hread : ∀ c (s' : Phys nD τ sig Val), iprop(Fin c ∗ SI s') ⊢ |={Set.univ}=> iprop(⌜QY c s'.mem⌝ ∗ SI s')) :
    θ_run 𝔻 (onTc main) ⟨m, fun _ => 0, g⟩ fun r => (∀ c, QY c r.2)
      ∧ ∀ g' : GSem nD τ sig, (g'.1.2 ≠ .tc ∨ g'.2.isScoped .tc = true) → r.2.sem g' = 0 := by
  classical
  let fin : Dev nD → sProp 𝕄 := fun c => iprop(Fin c ∗ scopedSems0 (c.tc : Thread nD τ))
  refine (θ_run 𝔻 _ _).mono (Q := fun r => (∀ c : Dev nD, QY c r.2
        ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩)
    (adequate_tpu 𝔻 _ _ _ (reflect_intro_fupd_tc_sems (X := Unit) 𝕍 (owing O₀) 0 (noBookings fun _ => le_rfl) (owing_of_ne O₀) u₀
      (fun _ => Start) (fun _ => fin) (fun _ => iprop(emp)) Set.univ ?_ (fun _ c => ?_) fun _ => ?_))
  · have hone (c : Dev nD) :
        coreInit (Ix := Ix) (Name := Name) (U := U) (Lvl := Lvl) (owing O₀) 0 (⟨m, fun _ => 0, g⟩ : MemSt nD τ sig Val) (c.tc : Thread nD τ)
          ⊢ iprop(dealt m O₀ c ∗ levels0 c) :=
      (coreInit_boundary_owing O₀ m g c).trans (by
        unfold dealt
        iintro ⟨Hb, Hm, -, Ho, Hl, -, Hc⟩
        isplitr [Hl]
        · isplitl [Hb]; · iexact Hb
          isplitl [Hm]; · iexact Hm
          isplitl [Ho] <;> iassumption
        · iexact Hl)
    have hall : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => dealt m O₀ c)
            ∗ (bigSep Finset.univ fun c : Dev nD => levels0 (Ix := Ix) (Val := Val) (Name := Name) (U := U) (Lvl := Lvl) (τ := τ) (sig := sig) c)) :=
      (bigSep_mono fun c _ => hone c).trans (Entails.of_eq (bigSep_sep' _ _ _))
    iintro ⟨Hcores, Hu⟩
    ihave H := hall $$ Hcores
    icases H with ⟨Hd, Hl⟩
    imod (levels_assigned L lv hL) $$ Hl with Hla
    imod hstart $$ [Hd Hla Hu] with HS
    · isplitl [Hd]; · iexact Hd
      isplitl [Hla] <;> iassumption
    imodintro
    iexists ()
    isplitl [HS]; · iexact HS
    iempintro
  · refine (hrun c).trans (Entails.of_eq ?_)
    unfold post
    simp only [liftTc_tc, fin]
  · have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HF, Hss⟩, HSI⟩
      ihave %hz := (tcScoped_read_pers c s') $$ [Hss HSI]
      · isplitl [Hss] <;> iassumption
      imod (hread c s') $$ [HF HSI] with ⟨%hy, HSI⟩
      · isplitl [HF] <;> iassumption
      imodintro
      isplitr; · ipureintro; exact ⟨hy, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

/-! ## A region that windows no array -/

section Region

variable {Λ₀ : Labels} {P : Type} [Fintype P] [DecidableEq P]
variable (cfgs : P → Cfg sig Λ₀) (hinj : Function.Injective (cellOf (nD := nD) (τ := τ) cfgs)) (p : P)
variable (dats : (p : P) → (c : Dev nD) → Dat τ Val Ix Name U Lvl (cfgs p) c) (ι : Ix)
variable (ER : Emb (URounds (GSem nD τ sig) Unit) (MT nD τ sig Ix Val Name U Lvl))
variable (defs₀ : Defs nD τ sig Val Λ₀) (𝒱₀ : Variants)
variable {K : Type} [Fintype K] {osem : K → SemLoc sig}

local notation "𝔻" => Pipeline.defs (fun q => Cfg.toPCfg (Val := Val) (cfgs q)) defs₀
local notation "𝕍" => Variants.lift 𝒱₀

include hinj ER in
/-- Entering a kernel region that windows no array: from its invariant before the only point and what the device owes
    there, the region runs to its invariant after the last point, with the kernel's own semaphores back at zero. -/
theorem region_alone [Preorder Lvl] [∀ e, Nonempty (Val e)] [Infinite Name] (hW : IsEmpty (Fin (cfgs p).W))
    (hw : WinFacts (cfgs p).spec) (ho : OwnSemFacts (cfgs p).spec osem)
    (O₀ : CellTallies nD τ sig Ix) (c : Dev nD)
    (howed₀ : (dats p c).owed 0 = O₀) (howedN : (dats p c).owed (Fin.last _) = 0)
    (hbody : BodyObligationLoose (dats p c) defs₀ 𝒱₀ ι Set.univ)
    (X Y : sProp 𝕄)
    (hin : iprop(X ∗ scopedRest (cfgs p).spec c) ⊢ (dats p c).Φ 0)
    (hout : (dats p c).Φ (Fin.last (cfgs p).N) ⊢ iprop(Y ∗ ownSems0 osem c ∗ scopedRest (cfgs p).spec c)) :
    iprop(X ∗ idleSems0 cfgs hinj p ho c ∗ scopedBufs (c.tc : Thread nD τ) ∗ owes (c.tc : Thread nD τ) O₀ ∅)
      ⊢ wp frame (wpE 𝔻 𝕍 (c.tc : Thread nD τ) none) Set.univ (.op (.customCall (entry p) ()) fun _ => .ret PUnit.unit) fun _ =>
          iprop((Y ∗ scopedSems0 (c.tc : Thread nD τ)) ∗ ∃ W, owes (c.tc : Thread nD τ) (0 : CellTallies nD τ sig Ix) W) := by
  classical
  have hss := scopedSems0_split cfgs hinj p hw.to₀ ho (Ix := Ix) (Val := Val) (Name := Name) (U := U) (Lvl := Lvl) c
  have hsb := scopedBufs_split cfgs p hw.stage_scoped hw.stage_inj (fun w => (hW.false w).elim) c (nD := nD) (τ := τ) (Ix := Ix) (Val := Val) (Name := Name) (U := U) (Lvl := Lvl)
  have hnil (Φ : Fin (cfgs p).W → sProp 𝕄) : bigSep Finset.univ Φ = BI.emp := by
    rw [Finset.univ_eq_empty, BI.bigSep_empty]
  have hout' : iprop((dats p c).Φ (Fin.last (cfgs p).N) ∗ cellsSems0 cfgs p c ∗ Dat.staging (cfgs p) c ∗ idleSems0 cfgs hinj p ho c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hin' : iprop(X ∗ prefHeld (Cfg.toPCfg (Val := Val) (cfgs p)).pre c (fun _ => fullShare.right) ((Cfg.toPCfg_adm (Val := Val) (cfgs p))).1
      ∗ scopedRest (cfgs p).spec c) ⊢ (dats p c).Φ 0 :=
    (show _ ⊢ iprop(X ∗ scopedRest (cfgs p).spec c) from by iintro ⟨HX, -, HR⟩; isplitl [HX] <;> iassumption).trans hin
  have hpre : (owes (c.tc : Thread nD τ) O₀ ∅ : sProp 𝕄) ⊢ EntryPre cfgs dats ι ER (fun _ => Classical.arbitrary Name) p c := by
    unfold EntryPre PerCore.EntryPre Dat.owesAt owesWithin Dat.arrays PerCore.cellsWaits PerCore.cellsInit PerCore.toksInit PerCore.RDat.cellsWaits PerCore.RDat.cellsInit
    simp only [hnil]
    rw [howed₀]
    iintro HO
    isplitr; · iempintro
    isplitl
    · iexists ∅; isplitr; · ipureintro; rw [Finset.coe_empty]; exact Set.empty_subset _
      iexact HO
    isplitr; · iempintro
    isplitr <;> iempintro
  have hpost : EntryPost cfgs dats ι p c ⊢ (∃ W, owes (c.tc : Thread nD τ) (0 : CellTallies nD τ sig Ix) W : sProp 𝕄) := by
    unfold EntryPost PerCore.EntryPost Dat.owesAt owesWithin
    rw [howedN]
    iintro ⟨-, ⟨%W, -, HW⟩⟩
    iexists W; iexact HW
  have hpref : (BI.emp : sProp 𝕄) ⊢ prefHeld (Cfg.toPCfg (Val := Val) (cfgs p)).pre c (fun _ => fullShare.right) ((Cfg.toPCfg_adm (Val := Val) (cfgs p))).1 := by
    unfold prefHeld
    refine Entails.of_eq ?_
    exact BI.bigSep_empty.symm
  iintro ⟨HX, Hidle, Hsc, HO⟩
  iapply (wp_customCall_entry_frame (fun q => Cfg.toPCfg (Val := Val) (cfgs q)) (fun q => Cfg.toPCfg_adm (cfgs q)) dats ι ER (fun _ => Classical.arbitrary Name)
      hinj p defs₀ 𝒱₀ (fun _ => fullShare.right) c Set.univ (fun _ _ => Set.mem_univ _) hbody (fun w => (hW.false w).elim) none (fun u h => nomatch h)
      (X := X) (Y := Y) (R := scopedRest (cfgs p).spec c) (I := idleSems0 cfgs hinj p ho c)
      (Entails.of_eq hsb) hin' hout') $$ [HX Hidle Hsc HO]
  · isplitl [HO]; · iapply hpre; iexact HO
    isplitr; · iapply hpref; iempintro
    isplitl [HX]; · iexact HX
    isplitl [Hidle] <;> iassumption
  iintro ⟨Hpost, HY, Hss2, -⟩
  rw [wp_ret]; imodintro
  isplitr [Hpost]
  · isplitl [HY] <;> iassumption
  iapply hpost; iexact Hpost

end Region

end Cert.Talk

end
-- ==== Proof.Talk.Net.lean ====
/-
# Devices that exchange blocks once

The protocol of a kernel whose devices send each other blocks, every send filling a part of the output that nobody
else writes. A device has one cell per send, one per landing and one per local copy, and each cell gets exactly one
landing. `Net` lists the cells, whom each send goes to, and what each landing hands over; `Net.schedule` is the
protocol, `Net.send`, `Net.copy` and `Net.wait` are its steps, and `Net.run` is the whole launch.
-/
module

public import Idealize.ShloMosaic.Lib.Pipeline.Launch
public import Idealize.ShloMosaic.Lib.Pipeline.Kit
public import Idealize.ShloMosaic.Lib.Pipeline.Regions
public import Idealize.ShloMosaic.Lib.Rounds
public import Idealize.ShloMosaic.Lib.Tactic
public import proofs.«01_k».proof.Proof.Talk.Launch

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

variable {nD : Nat} {τ : Topo} {sig : RefSig} {Val : EltTy → Type}

/-- The protocol's ghost state: the rounds of its cells. -/
abbrev GU (nD : Nat) (τ : Topo) (sig : RefSig) : Type := URounds (GSem nD τ sig) Unit

local notation "𝕄" => MT nD τ sig Unit Val ℕ (GU nD τ sig) ℕ

/-- Where the ghost state lives. -/
abbrev EG : Emb (GU nD τ sig) 𝕄 := emb₁

/-- Contents that read through a view as `w` are, on the view, what writing `w` through it leaves. -/
theorem written {κ : Kind} {sp : Space} {s : Shape} {e : EltTy} (v : View sig κ sp s e) (f g : v.ty.Contents Val) (w : s.Idx → Val e)
    (h : v.read Val g = w) : ∀ i ∈ v.set, v.write Val f w Finset.univ i = g i := fun i hi => by
  obtain ⟨x, -, rfl⟩ := Finset.mem_map.mp hi
  rw [View.write_emb_of_mem _ _ (Finset.mem_univ x), ← h, View.read_apply, cast_cast, cast_eq]

/-- Persistent evidence can stand in every summand. -/
theorem bigSep_keep {I : Type} [DecidableEq I] (S : Finset I) (R : sProp 𝕄) [BI.Persistent R] (Φ Ψ : I → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The same with the summands' parts summed apart. -/
theorem bigSep_keep6 {I : Type} [DecidableEq I] (S : Finset I) (R : sProp 𝕄) [BI.Persistent R] (A B C D E F Ψ : I → sProp 𝕄)
    (h : ∀ i ∈ S, iprop(R ∗ A i ∗ B i ∗ C i ∗ D i ∗ E i ∗ F i) ⊢ Ψ i) :
    iprop(R ∗ bigSep S A ∗ bigSep S B ∗ bigSep S C ∗ bigSep S D ∗ bigSep S E ∗ bigSep S F) ⊢ bigSep S Ψ := by
  have hk := bigSep_keep S R (fun i => iprop(A i ∗ B i ∗ C i ∗ D i ∗ E i ∗ F i)) Ψ h
  rw [bigSep_sep', bigSep_sep', bigSep_sep', bigSep_sep', bigSep_sep'] at hk
  exact hk

theorem bigSep_fin0 (Φ : Fin 0 → sProp 𝕄) : bigSep Finset.univ Φ = BI.emp := bigSep_univ_eq_bigSepL [] (by decide) (by decide) Φ

theorem bigSep_fin1 (Φ : Fin 1 → sProp 𝕄) : bigSep Finset.univ Φ = Φ 0 := bigSep_univ_eq_bigSepL [0] (by decide) (by decide) Φ

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Two whole buffers held are what the memory holds there. -/
theorem read_two (ℓ₁ ℓ₂ : Loc nD τ sig) (f₁ : Buf Val ℓ₁) (f₂ : Buf Val ℓ₂) (s' : Phys nD τ sig Val) :
    iprop(((ℓ₁ ↦[Finset.univ]{fullShare} f₁) ∗ (ℓ₂ ↦[Finset.univ]{fullShare} f₂)) ∗ SI s')
      ⊢ (|={Set.univ}=> iprop(⌜s'.mem.mem ℓ₁ = f₁ ∧ s'.mem.mem ℓ₂ = f₂⌝ ∗ SI s') : sProp 𝕄) := by
  iintro ⟨⟨H1, H2⟩, HS⟩
  ihave H := (persistent_entails_right (SI_pointsTo_agree (st := s') (ℓ := ℓ₁) (I := Finset.univ) (q := fullShare) (f := f₁))) $$ [H1 HS]
  · isplitl [HS] <;> iassumption
  icases H with ⟨%h1, HS, H1⟩
  ihave H := (persistent_entails_right (SI_pointsTo_agree (st := s') (ℓ := ℓ₂) (I := Finset.univ) (q := fullShare) (f := f₂))) $$ [H2 HS]
  · isplitl [HS] <;> iassumption
  icases H with ⟨%h2, HS, H2⟩
  imodintro
  isplitr
  · ipureintro; exact ⟨funext fun i => h1 i (Finset.mem_univ i), funext fun i => h2 i (Finset.mem_univ i)⟩
  iexact HS

/-- A network of sends: `nS` sends and `nL` local copies per device. `pay` says what the landing at a cell hands to the
    device that waits there. -/
structure Net (nD : Nat) (τ : Topo) (sig : RefSig) (Val : EltTy → Type) (nS nL : ℕ) where
  /-- The semaphore of each cell: a send's, a landing's, a local copy's. -/
  sem : Fin nS ⊕ Fin nS ⊕ Fin nL → SemLoc sig
  sem_inj : Function.Injective sem
  /-- The device each send goes to. -/
  peer : Fin nS → Dev nD → Dev nD
  peer_peer : ∀ k c, peer k (peer k c) = c
  /-- The units of every landing. -/
  N : ℕ
  N_pos : 0 < N
  /-- What a landing hands over. -/
  pay : Fin nS ⊕ Fin nS ⊕ Fin nL → Dev nD → sProp (MT nD τ sig Unit Val ℕ (GU nD τ sig) ℕ)
  pay_storable : ∀ i c, BI.Storable (upEmb : UEmb _ (MT nD τ sig Unit Val ℕ (GU nD τ sig) ℕ)) (pay i c)
  /-- The level of each semaphore: a device waits below what it still owes. -/
  lev : SemLoc sig → ℕ

namespace Net

variable {nS nL : ℕ} (T : Net nD τ sig Val nS nL)

/-- The cells of one device. -/
abbrev Cell (nS nL : ℕ) : Type := Fin nS ⊕ Fin nS ⊕ Fin nL

/-- The cell of send `k`. -/
abbrev snd (k : Fin nS) : Cell nS nL := .inl k
/-- The cell where send `k` lands. -/
abbrev rcv (k : Fin nS) : Cell nS nL := .inr (.inl k)
/-- The cell of local copy `l`. -/
abbrev lcl (l : Fin nL) : Cell nS nL := .inr (.inr l)

/-- A device's cell among the cells of the machine. -/
def cell (ck : Dev nD × Cell nS nL) : GSem nD τ sig := ((ck.1.tc : Thread nD τ), T.sem ck.2)

theorem cell_inj : Function.Injective T.cell := fun a b h => by
  have h1 : a.1 = b.1 := congrArg (fun g : GSem nD τ sig => g.1.1) h
  have h2 : a.2 = b.2 := T.sem_inj (congrArg (fun g : GSem nD τ sig => g.2) h)
  exact Prod.ext h1 h2

open Classical in
/-- The protocol: one landing at every cell, handing over `pay`. -/
def schedule : Schedule (GSem nD τ sig) Unit 𝕄 where
  duties g r := if r = 0 ∧ ∃ ck, T.cell ck = g then {()} else ∅
  unitless _ := False
  amount _ _ _ := T.N
  payload g _ _ := if h : ∃ ck, T.cell ck = g then T.pay h.choose.2 h.choose.1 else iprop(emp)
  amount_pos _ _ _ _ := T.N_pos

theorem duties (ck : Dev nD × Cell nS nL) : T.schedule.duties (T.cell ck) 0 = {()} := if_pos ⟨rfl, ck, rfl⟩

theorem duties_later (g : GSem nD τ sig) : ∀ r, 0 + 1 ≤ r → T.schedule.duties g r = ∅ := fun r hr =>
  if_neg fun h => by omega

theorem payload (ck : Dev nD × Cell nS nL) (r : ℕ) (u : Unit) : T.schedule.payload (T.cell ck) r u = T.pay ck.2 ck.1 := by
  have h : ∃ ck', T.cell ck' = T.cell ck := ⟨ck, rfl⟩
  have e : h.choose = ck := T.cell_inj h.choose_spec
  show (if h : ∃ ck', T.cell ck' = T.cell ck then T.pay h.choose.2 h.choose.1 else iprop(emp)) = _
  rw [dif_pos h, e]

theorem expect (ck : Dev nD × Cell nS nL) : T.schedule.expect (T.cell ck) 0 = T.N := by
  unfold Schedule.expect Schedule.amountOf; rw [T.duties ck, Finset.sum_singleton]; rfl

theorem rest (ck : Dev nD × Cell nS nL) :
    bigSep (T.schedule.duties (T.cell ck) 0 \ ∅) (fun d => T.schedule.payload (T.cell ck) 0 d) = T.pay ck.2 ck.1 := by
  rw [Finset.sdiff_empty, T.duties ck, bigSep_singleton, T.payload]

instance storable (g : GSem nD τ sig) (r : ℕ) (d : Unit) :
    BI.Storable (upEmb : UEmb _ 𝕄) (T.schedule.payload g r d) := by
  show BI.Storable _ (if h : ∃ ck, T.cell ck = g then T.pay h.choose.2 h.choose.1 else iprop(emp))
  split
  · exact T.pay_storable _ _
  · infer_instance

/-! ## What is owed -/

/-- What device `c` owes once it has started the sends below `j`. -/
def owed (j : ℕ) (c : Dev nD) : CellTallies nD τ sig Unit :=
  ∑ k ∈ Finset.univ.filter (fun k : Fin nS => j ≤ k.val), tallyAt (T.cell (T.peer k c, rcv k)) () T.N

theorem owed_step (k : Fin nS) (c : Dev nD) :
    T.owed k.val c = T.owed (k.val + 1) c + tallyAt (T.cell (T.peer k c, rcv k)) () T.N := by
  have e : Finset.univ.filter (fun i : Fin nS => k.val ≤ i.val) = insert k (Finset.univ.filter fun i : Fin nS => k.val + 1 ≤ i.val) := by
    ext i; simp only [Finset.mem_filter, Finset.mem_univ, true_and, Finset.mem_insert, Fin.ext_iff]; omega
  unfold owed
  rw [e, Finset.sum_insert (by simp), add_comm]

theorem owed_end (c : Dev nD) : T.owed nS c = 0 := by
  unfold owed
  rw [Finset.filter_false_of_mem fun k _ => by have := k.isLt; omega, Finset.sum_empty]

/-- The cells with a level: those of the running cores. -/
def levels (g : GSem nD τ sig) : Finset Unit := if g.1.2 = .tc then {()} else ∅

/-- Still owing the sends from `j` on, a device may wait at a semaphore that lies below all of them. -/
theorem may_wait (j : ℕ) (c : Dev nD) (sm : SemLoc sig) (h : ∀ k : Fin nS, j ≤ k.val → T.lev sm < T.lev (T.sem (rcv k))) :
    (levAts levels (fun g _ => T.lev g.2) : sProp 𝕄) ⊢ MayWait (c.tc : Thread nD τ) sm () (T.owed j c) := by
  have hO (g : GSem nD τ sig) (u : Unit) (hg : 0 < T.owed j c g u) : ∃ k : Fin nS, j ≤ k.val ∧ g = T.cell (T.peer k c, rcv k) := by
    by_contra hn
    push Not at hn
    apply hg.ne'
    unfold owed
    rw [Finset.sum_apply, Finsupp.finset_sum_apply]
    refine Finset.sum_eq_zero fun k hk => ?_
    rw [tallyAt_ne_cell (hn k (Finset.mem_filter.mp hk).2)]; rfl
  refine MayOwe.of_cut (T.lev sm) (fun p hp => ?_) (fun g u hg => ?_) (fun p hp => ?_) (fun g u hg => ?_)
  · unfold levels; rw [if_pos rfl]; exact Finset.mem_singleton_self _
  · obtain ⟨k, -, rfl⟩ := hO g u hg
    rw [show levels (T.cell (T.peer k c, rcv k)) = {()} from if_pos rfl]; exact Finset.mem_singleton_self _
  · rw [Finset.mem_singleton.mp hp]
  · obtain ⟨k, hk, rfl⟩ := hO g u hg
    exact h k hk

/-- The credit a device is due at launch: every landing of its own. -/
theorem credit (c : Dev nD) :
    (launchCred (T.owed 0) c : sProp 𝕄) ⊢ bigSep Finset.univ fun k : Fin nS => cred (tallyAt (T.cell (c, rcv k)) () T.N) := by
  have e : T.owed 0 = fun d => ∑ k : Fin nS, tallyAt (T.cell (T.peer k d, rcv k)) () T.N := funext fun d => by
    unfold owed; rw [Finset.filter_true_of_mem fun k _ => Nat.zero_le _]
  rw [e, launchCred_sum]
  exact bigSep_mono fun k _ => launchCred_tallyAt (T.sem (rcv k)) (T.peer k) (T.peer k) (T.peer_peer k) (T.peer_peer k) () T.N c

/-! ## The launch of the ghost state -/

/-- Every cell's invariant, under the names `K`, and the start of its round. -/
def records (K : Dev nD × Cell nS nL → ℕ) : sProp 𝕄 :=
  iprop((bigSep Finset.univ fun ck => cellInv EG T.schedule (K ck) (T.cell ck)) ∗ bigSep Finset.univ fun ck => reached EG (T.cell ck) 0)

instance records_persistent (K : Dev nD × Cell nS nL → ℕ) : BI.Persistent (T.records K) := by unfold records; infer_instance

theorem records_inv (K : Dev nD × Cell nS nL → ℕ) (ck : Dev nD × Cell nS nL) :
    T.records K ⊢ cellInv EG T.schedule (K ck) (T.cell ck) := by
  unfold records; iintro ⟨H, -⟩
  iapply (show (bigSep Finset.univ fun ck => (cellInv EG T.schedule (K ck) (T.cell ck) : sProp 𝕄)) ⊢ cellInv EG T.schedule (K ck) (T.cell ck) from
    BI.bigSep_elim (Finset.mem_univ ck))
  iexact H

theorem records_reached (K : Dev nD × Cell nS nL → ℕ) (ck : Dev nD × Cell nS nL) :
    T.records K ⊢ reached EG (T.cell ck) 0 := by
  unfold records; iintro ⟨-, H⟩
  iapply (show (bigSep Finset.univ fun ck => (reached EG (T.cell ck) 0 : sProp 𝕄)) ⊢ reached EG (T.cell ck) 0 from BI.bigSep_elim (Finset.mem_univ ck))
  iexact H

/-- What one device holds of the protocol at its start: its places in its own cells, the right to pay its own sends,
    its sends' landings and its local copies, and the credit for the landings it awaits. -/
def hand (c : Dev nD) : sProp 𝕄 :=
  iprop((bigSep Finset.univ fun i : Cell nS nL => atPos EG (T.cell (c, i)) 0 ∅ 0)
    ∗ (bigSep Finset.univ fun k : Fin nS => dutyTok EG (T.cell (c, snd k)) 0 ())
    ∗ (bigSep Finset.univ fun k : Fin nS => dutyTok EG (T.cell (T.peer k c, rcv k)) 0 ())
    ∗ (bigSep Finset.univ fun l : Fin nL => dutyTok EG (T.cell (c, lcl l)) 0 ())
    ∗ bigSep Finset.univ fun k : Fin nS => cred (tallyAt (T.cell (c, rcv k)) () T.N))

theorem hand_split (c : Dev nD) :
    T.hand c = iprop(((bigSep Finset.univ fun k : Fin nS => atPos EG (T.cell (c, snd k)) 0 ∅ 0)
      ∗ (bigSep Finset.univ fun k : Fin nS => atPos EG (T.cell (c, rcv k)) 0 ∅ 0)
      ∗ (bigSep Finset.univ fun l : Fin nL => atPos EG (T.cell (c, lcl l)) 0 ∅ 0))
    ∗ (bigSep Finset.univ fun k : Fin nS => dutyTok EG (T.cell (c, snd k)) 0 ())
    ∗ (bigSep Finset.univ fun k : Fin nS => dutyTok EG (T.cell (T.peer k c, rcv k)) 0 ())
    ∗ (bigSep Finset.univ fun l : Fin nL => dutyTok EG (T.cell (c, lcl l)) 0 ())
    ∗ bigSep Finset.univ fun k : Fin nS => cred (tallyAt (T.cell (c, rcv k)) () T.N)) := by
  unfold hand
  rw [BI.bigSep_univ_sum, BI.bigSep_univ_sum]; rfl

/-- A device's semaphores at zero, by kind. -/
theorem zeros (c : Dev nD) :
    (ownSems0 T.sem c : sProp 𝕄) = iprop((bigSep Finset.univ fun k : Fin nS => semVal ((c.tc : Thread nD τ), T.sem (snd k)) 0)
      ∗ (bigSep Finset.univ fun k : Fin nS => semVal ((c.tc : Thread nD τ), T.sem (rcv k)) 0)
      ∗ (bigSep Finset.univ fun l : Fin nL => semVal ((c.tc : Thread nD τ), T.sem (lcl l)) 0)) := by
  unfold ownSems0
  rw [BI.bigSep_univ_sum, BI.bigSep_univ_sum]; rfl

/-- What one device starts its body with: the protocol's evidence, its hand, and its part `Mem` of the memory. -/
def given (Mem : Dev nD → sProp 𝕄) (c : Dev nD) : sProp 𝕄 :=
  iprop(∃ K, T.records K ∗ levAts levels (fun g _ => T.lev g.2) ∗ T.hand c ∗ Mem c)

/-- The ghost state at launch. -/
def ghost : GU nD τ sig :=
  initOf (Finset.univ.map ⟨T.cell, T.cell_inj⟩)
    (Finset.univ.map ⟨fun ck : Dev nD × Cell nS nL => (T.cell ck, 0, ()), fun a b h => T.cell_inj (congrArg Prod.fst h)⟩)

/-- The ghost state at launch is every cell's round, start and place, and every landing's right. -/
theorem ghost_split :
    (ownU T.ghost : sProp 𝕄) ⊢ |==> iprop((bigSep Finset.univ fun ck => roundState EG T.schedule (T.cell ck) 0)
      ∗ (bigSep Finset.univ fun ck => reached EG (T.cell ck) 0)
      ∗ (bigSep Finset.univ fun ck => atPos EG (T.cell ck) 0 ∅ 0)
      ∗ bigSep Finset.univ fun ck => dutyTok EG (T.cell ck) 0 ()) := by
  have h := fund (EG : Emb (GU nD τ sig) 𝕄) T.schedule (Finset.univ.map ⟨T.cell, T.cell_inj⟩)
    (Finset.univ.map ⟨fun ck : Dev nD × Cell nS nL => (T.cell ck, 0, ()), fun a b h => T.cell_inj (congrArg Prod.fst h)⟩)
  simp only [BI.bigSep_map] at h
  exact h

/-- What every device holds for each send, seen from the device the send goes to. -/
theorem cross (Φ : Dev nD → Fin nS → sProp 𝕄) :
    (bigSep Finset.univ fun c : Dev nD => bigSep Finset.univ fun k : Fin nS => Φ c k)
      = bigSep Finset.univ fun c : Dev nD => bigSep Finset.univ fun k : Fin nS => Φ (T.peer k c) k := by
  rw [← bigSep_univ_prod fun ck : Dev nD × Fin nS => Φ ck.1 ck.2, ← bigSep_univ_prod fun ck : Dev nD × Fin nS => Φ (T.peer ck.2 ck.1) ck.2]
  let f : Dev nD × Fin nS → Dev nD × Fin nS := fun ck => (T.peer ck.2 ck.1, ck.2)
  have hf (ck : Dev nD × Fin nS) : f (f ck) = ck := Prod.ext (T.peer_peer ck.2 ck.1) rfl
  exact bigSep_univ_equiv ⟨f, f, hf, hf⟩ fun ck : Dev nD × Fin nS => Φ ck.1 ck.2

/-- The rights to the landings, dealt to the devices that pay them. -/
theorem deal_tokens :
    (bigSep Finset.univ fun ck : Dev nD × Cell nS nL => (dutyTok EG (T.cell ck) 0 () : sProp 𝕄))
      ⊢ bigSep Finset.univ fun c : Dev nD => iprop((bigSep Finset.univ fun k : Fin nS => dutyTok EG (T.cell (c, snd k)) 0 ())
        ∗ (bigSep Finset.univ fun k : Fin nS => dutyTok EG (T.cell (T.peer k c, rcv k)) 0 ())
        ∗ (bigSep Finset.univ fun l : Fin nL => dutyTok EG (T.cell (c, lcl l)) 0 ())) := by
  have hswap : (bigSep Finset.univ fun c : Dev nD => bigSep Finset.univ fun k : Fin nS => (dutyTok EG (T.cell (c, rcv k)) 0 () : sProp 𝕄))
      = bigSep Finset.univ fun c : Dev nD => bigSep Finset.univ fun k : Fin nS => dutyTok EG (T.cell (T.peer k c, rcv k)) 0 () :=
    T.cross fun c k => dutyTok EG (T.cell (c, rcv k)) 0 ()
  rw [bigSep_univ_prod, show (fun a : Dev nD => bigSep Finset.univ fun b : Cell nS nL => (dutyTok EG (T.cell (a, b)) 0 () : sProp 𝕄))
    = fun c => iprop((bigSep Finset.univ fun k : Fin nS => dutyTok EG (T.cell (c, snd k)) 0 ())
      ∗ (bigSep Finset.univ fun k : Fin nS => dutyTok EG (T.cell (c, rcv k)) 0 ())
      ∗ (bigSep Finset.univ fun l : Fin nL => dutyTok EG (T.cell (c, lcl l)) 0 ())) from funext fun c => by
    rw [BI.bigSep_univ_sum, BI.bigSep_univ_sum]; rfl, bigSep_sep', bigSep_sep', hswap, ← bigSep_sep', ← bigSep_sep']

/-! ## The steps of a body -/

section Steps

variable {Λ₀ : Labels} {defs₀ : Defs nD τ sig Val Λ₀} (𝒱₀ : Variants)
variable {α : Type} {Q : α → sProp (MT nD τ sig Unit Val ℕ (GU nD τ sig) ℕ)}
variable {sp sp' : Space} {s : Shape} {e : EltTy}
variable (K : Dev nD × Cell nS nL → ℕ) (c : Dev nD)

/-- Send `k` starts: the source and the landing buffer go with it, and the landing is no longer owed. `g` is what the
    other device's output is to hold: on the landing buffer it reads as the source does. -/
theorem send (k : Fin nS) (n : Dev nD) (hn : n = T.peer k c) {src : Memref sig .tc sp s e} {dst : Memref sig .tc sp' s e}
    {hsc : dst.view.ref.isScScratch = false} {sS sem : SemLoc sig} (hS : sS = T.sem (snd k)) (hR : sem = T.sem (rcv k))
    {hsrc : src.view.WordExact} {hdst : dst.view.WordExact} {hsem : DmaTarget.Typed sp sem (.remote (n.tc : Thread nD τ) dst sS hsc)}
    {kk : PUnit → Prog (TpuEff nD τ sig Val Λ₀ .tc) α} {q : PosShare TreeShare}
    {Ss : Finset src.view.ty.Idx} (hSs : src.view.set = Ss) {Sd : Finset dst.view.ty.Idx} (hSd : dst.view.set = Sd)
    {fs : Buf Val (src.view.loc (c.tc : Thread nD τ))} {fd : Buf Val (dst.view.loc (n.tc : Thread nD τ))}
    (g : Buf Val (dst.view.loc (n.tc : Thread nD τ))) (hg : dst.view.read Val g = src.view.read Val fs)
    (hN : dst.view.amount sem = T.N) {O : CellTallies nD τ sig Unit} (O' : CellTallies nD τ sig Unit) (hO : O = T.owed k.val c) (hO' : O' = T.owed (k.val + 1) c)
    (hpay₁ : T.pay (snd k) c = (src.view.loc (c.tc : Thread nD τ) ↦[Ss]{q} fs))
    (hpay₂ : T.pay (rcv k) n = (dst.view.loc (n.tc : Thread nD τ) ↦[Sd]{fullShare} g))
    (hr : τ.routes (c.tc : Thread nD τ) (n.tc : Thread nD τ) = true := by routes) :
    iprop(T.records K ∗ (src.view.loc (c.tc : Thread nD τ) ↦[Ss]{q} fs) ∗ (dst.view.loc (n.tc : Thread nD τ) ↦[Sd]{fullShare} fd)
        ∗ (∃ W, owes (c.tc : Thread nD τ) O W) ∗ dutyTok EG (T.cell (c, snd k)) 0 () ∗ dutyTok EG (T.cell (T.peer k c, rcv k)) 0 ())
      ⊢ iprop(((cred (tallyAt (T.cell (c, snd k)) () T.N) ∗ ∃ W, owes (c.tc : Thread nD τ) O' W)
            -∗ wp frame (wpE defs₀ 𝒱₀ (c.tc : Thread nD τ) none) Set.univ (kk ⟨⟩) Q)
          -∗ wp frame (wpE defs₀ 𝒱₀ (c.tc : Thread nD τ) none) Set.univ
              (.op (.enqueueDma src (.remote (n.tc : Thread nD τ) dst sS hsc) sem hsrc hdst hsem) kk) Q) := by
  subst hn hS hR hO hO' hSs hSd
  iintro ⟨#Hrec, Hs, Hd, ⟨%W, HO⟩, HtS, HtR⟩
  iintro Hk
  ihave #HIs := (T.records_inv K (c, snd k)) $$ Hrec
  ihave #HIr := (T.records_inv K (T.peer k c, rcv k)) $$ Hrec
  ihave #Hrs := (T.records_reached K (c, snd k)) $$ Hrec
  ihave #Hrr := (T.records_reached K (T.peer k c, rcv k)) $$ Hrec
  iapply (Rounds.wp_send_pointsTo 𝒱₀ EG T.schedule (c.tc : Thread nD τ) none (κ₁ := K (c, snd k)) (κ₂ := K (T.peer k c, rcv k))
    (r₁ := 0) (r₂ := 0) (d₁ := ()) (d₂ := ()) (fd := fd)
    ((T.duties (c, snd k)).symm ▸ Finset.mem_singleton_self _) ((T.duties (T.peer k c, rcv k)).symm ▸ Finset.mem_singleton_self _)
    () () T.N hN rfl rfl (T.owed (k.val + 1) c) (T.owed_step k c) (W := W)
    (Entails.of_eq (hpay₁.symm.trans (T.payload (c, snd k) 0 ()).symm))
    (Entails.of_eq ((pointsTo_congr (written dst.view fd g _ hg)).trans (hpay₂.symm.trans (T.payload (T.peer k c, rcv k) 0 ()).symm))) hr) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [Hc]; · iexact Hc
  iexists W; iexact HO

/-- Local copy `l` starts: the source and the destination go with it. `g` is what the output is to hold: on the
    destination it reads as the source does. -/
theorem copy (l : Fin nL) {src : Memref sig .tc sp s e} {dst : Memref sig .tc sp' s e} {sem : SemLoc sig} (hS : sem = T.sem (lcl l))
    {hsrc : src.view.WordExact} {hdst : dst.view.WordExact} {hsem : DmaTarget.Typed (nD := nD) (p := (.tc : Proc τ)) sp sem (.here dst)}
    {kk : PUnit → Prog (TpuEff nD τ sig Val Λ₀ .tc) α} {q : PosShare TreeShare}
    {Ss : Finset src.view.ty.Idx} (hSs : src.view.set = Ss) {Sd : Finset dst.view.ty.Idx} (hSd : dst.view.set = Sd)
    {fs : Buf Val (src.view.loc (c.tc : Thread nD τ))} {fd : Buf Val (dst.view.loc (c.tc : Thread nD τ))}
    (g : Buf Val (dst.view.loc (c.tc : Thread nD τ))) (hg : dst.view.read Val g = src.view.read Val fs)
    (hN : dst.view.amount sem = T.N)
    (hpay : T.pay (lcl l) c = iprop((dst.view.loc (c.tc : Thread nD τ) ↦[Sd]{fullShare} g) ∗ (src.view.loc (c.tc : Thread nD τ) ↦[Ss]{q} fs))) :
    iprop(T.records K ∗ (src.view.loc (c.tc : Thread nD τ) ↦[Ss]{q} fs) ∗ (dst.view.loc (c.tc : Thread nD τ) ↦[Sd]{fullShare} fd)
        ∗ dutyTok EG (T.cell (c, lcl l)) 0 ())
      ⊢ iprop((cred (tallyAt (T.cell (c, lcl l)) () T.N) -∗ wp frame (wpE defs₀ 𝒱₀ (c.tc : Thread nD τ) none) Set.univ (kk ⟨⟩) Q)
          -∗ wp frame (wpE defs₀ 𝒱₀ (c.tc : Thread nD τ) none) Set.univ (.op (.enqueueDma src (.here dst) sem hsrc hdst hsem) kk) Q) := by
  subst hS hSs hSd
  iintro ⟨#Hrec, Hs, Hd, Ht⟩
  ihave #HI := (T.records_inv K (c, lcl l)) $$ Hrec
  ihave #Hr := (T.records_reached K (c, lcl l)) $$ Hrec
  iapply (Rounds.wp_copy_pointsTo 𝒱₀ EG T.schedule (c.tc : Thread nD τ) none (κ := K (c, lcl l)) (r := 0) (d := ()) (fd := fd)
    ((T.duties (c, lcl l)).symm ▸ Finset.mem_singleton_self _) () T.N hN rfl
    (by rw [pointsTo_congr (written dst.view fd g _ hg)]; exact Entails.of_eq (hpay.symm.trans (T.payload (c, lcl l) 0 ()).symm))) $$ [Hs Hd Ht]
  isplitr; · iexact HI
  isplitl [Hs]; · iexact Hs
  isplitl [Hd]; · iexact Hd
  isplitl [Ht]; · iexact Ht
  iexact Hr

/-- A device waits at its cell `i`, gets what the landing hands over, and is done with the cell. -/
theorem wait (i : Cell nS nL) {sm : DmaSem sig} (hS : (SemLoc.dma sm : SemLoc sig) = T.sem i)
    {src : Memref sig .tc sp s e} {dst : Memref sig .tc sp' s e} {hsrc : src.view.WordExact} {hdst : dst.view.WordExact}
    {kk : PUnit → Prog (TpuEff nD τ sig Val Λ₀ .tc) α}
    (hN : dst.view.dmaCredit = T.N) {O : CellTallies nD τ sig Unit} (j : ℕ) (hO : O = T.owed j c)
    (hj : ∀ k : Fin nS, j ≤ k.val → T.lev (T.sem i) < T.lev (T.sem (rcv k))) :
    iprop(T.records K ∗ levAts levels (fun g _ => T.lev g.2) ∗ cred (tallyAt (T.cell (c, i)) () T.N) ∗ (∃ W, owes (c.tc : Thread nD τ) O W)
        ∗ atPos EG (T.cell (c, i)) 0 ∅ 0)
      ⊢ iprop((((∃ W, owes (c.tc : Thread nD τ) O W) ∗ T.pay i c ∗ semVal ((c.tc : Thread nD τ), T.sem i) 0)
            -∗ wp frame (wpE defs₀ 𝒱₀ (c.tc : Thread nD τ) none) Set.univ (kk ⟨⟩) Q)
          -∗ wp frame (wpE defs₀ 𝒱₀ (c.tc : Thread nD τ) none) Set.univ (.op (.waitDma2 sm src dst hsrc hdst) kk) Q) := by
  subst hO
  iintro ⟨#Hrec, #Hlev, Hc, ⟨%W, HO⟩, Hat⟩
  iintro Hk
  ihave #HI := (T.records_inv K (c, i)) $$ Hrec
  iapply (Rounds.wp_wait_rest_token 𝒱₀ EG T.schedule (c.tc : Thread nD τ) none (κ := K (c, i)) (sm := T.sem i) (k' := T.N)
      (by rw [← hS, ← hN]; exact wpE_waitDma2_eq 𝒱₀ (c.tc : Thread nD τ) none Set.univ) (Set.mem_univ _) () (O := T.owed j c) (W := W) (R := 0) (m := 0) (T := ∅)
      (by rw [Nat.zero_add]; exact (T.expect (c, i)).symm)) $$ [Hc HO Hat]
  · isplitr; · iexact HI
    isplitl [Hc]; · iexact Hc
    isplitl [HO]; · iexact HO
    isplitr; · iapply (T.may_wait j c (T.sem i) hj); iexact Hlev
    iexact Hat
  iintro ⟨HO, Hat, -, Hpay⟩
  imod (Rounds.cell_close EG T.schedule (Set.mem_univ (K (c, i))) (fun h => h) (R := 0 + 1) (T.duties_later (T.cell (c, i)))) $$ [Hat] with Hz
  · isplitr; · iexact HI
    iexact Hat
  ihave Hp := (Entails.of_eq (show bigSep (T.schedule.duties ((c.tc : Thread nD τ), T.sem i) 0 \ ∅)
    (fun d => T.schedule.payload ((c.tc : Thread nD τ), T.sem i) 0 d) = T.pay i c from T.rest (c, i))) $$ Hpay
  iapply Hk
  isplitl [HO]; · iexists _; iexact HO
  isplitl [Hp]; · iexact Hp
  iexact Hz

end Steps

/-! ## The whole launch -/

section Run

variable {Λ₀ : Labels} {P : Type} [Fintype P] [DecidableEq P]
variable (cfgs : P → Cfg sig Λ₀) (hinj : Function.Injective (cellOf (nD := nD) (τ := τ) cfgs)) (p : P)
variable (defs₀ : Defs nD τ sig Val Λ₀) (𝒱₀ : Variants)

local notation "𝔻" => Pipeline.defs (fun q => Cfg.toPCfg (Val := Val) (cfgs q)) defs₀
local notation "𝕍" => Variants.lift 𝒱₀

/-- A device's part of the memory: its own, and for each of its sends the part of the other device's output it fills. -/
def part (Own : Dev nD → sProp 𝕄) (Piece : Dev nD → Fin nS → sProp 𝕄) (c : Dev nD) : sProp 𝕄 :=
  iprop(Own c ∗ bigSep Finset.univ fun k : Fin nS => Piece (T.peer k c) k)

/-- The cells of every device, allocated. -/
theorem cells_alloc :
    iprop((bigSep Finset.univ fun ck : Dev nD × Cell nS nL => (semVal (T.cell ck) 0 : sProp 𝕄))
        ∗ bigSep Finset.univ fun ck => roundState EG T.schedule (T.cell ck) 0)
      ⊢ |={Set.univ}=> iprop(∃ K : Dev nD × Cell nS nL → ℕ, bigSep Finset.univ fun ck => cellInv EG T.schedule (K ck) (T.cell ck)) := by
  have h : iprop((bigSep Finset.univ fun ck : Dev nD × Cell nS nL => (semVal (T.cell ck) 0 : sProp 𝕄))
        ∗ bigSep Finset.univ fun ck => roundState EG T.schedule (T.cell ck) 0)
      ⊢ |={Set.univ}=> bigSep Finset.univ fun ck => iprop(∃ κ : ℕ, cellInv EG T.schedule κ (T.cell ck)) := by
    rw [← bigSep_sep']
    exact (bigSep_mono fun ck _ => (Rounds.body_intro EG T.schedule (T.cell ck)).trans inv_alloc).trans (bigSep_fupd _ _)
  exact h.trans (BI.fupd_mono (BI.bigSep_exists_pi Finset.univ fun (ck : Dev nD × Cell nS nL) (κ : ℕ) => (cellInv EG T.schedule κ (T.cell ck) : sProp 𝕄)))

include hinj in
/-- The launch of a program that is one exchanging region alone: from a body proved for every device, the program runs
    to what the devices end with, every semaphore back at zero. -/
theorem run [∀ e, Nonempty (Val e)] (hW : ∀ q, IsEmpty (Fin (cfgs q).W)) (hN : (cfgs p).N = 1)
    (hw : WinFacts (cfgs p).spec) (ho : OwnSemFacts (cfgs p).spec T.sem)
    (hsr : ∀ c : Dev nD, (scopedRest (cfgs p).spec c : sProp 𝕄) = BI.emp)
    (m : (ℓ : Loc nD τ sig) → Buf Val ℓ) (g : Dev nD → PrngReg)
    (main : Dev nD → Prog (TpuEff nD τ sig Val (Pipeline.Sig Λ₀ P fun q => (Cfg.toPCfg (Val := Val) (cfgs q)).Adm) .tc) PUnit)
    (hmain : ∀ c, main c = .op (.customCall (entry p) ()) fun _ => .ret PUnit.unit)
    (Own Y : Dev nD → sProp 𝕄) (Piece : Dev nD → Fin nS → sProp 𝕄)
    (hmem : ∀ c : Dev nD, (unscopedBufs c (fun b => m ((c.tc : Thread nD τ).loc b)) : sProp 𝕄)
      ⊢ iprop(Own c ∗ bigSep Finset.univ fun k : Fin nS => Piece c k))
    (hbody : ∀ (c : Dev nD) (t : Fin (cfgs p).N),
      iprop(T.given (T.part Own Piece) c ∗ ∃ W, owes (c.tc : Thread nD τ) (T.owed 0 c) W)
        ⊢ wp frame (wpE defs₀ 𝒱₀ (c.tc : Thread nD τ) none) Set.univ (defs₀ .tc (cfgs p).body ((cfgs p).bodyArgs t ((cfgs p).slots t))) fun _ =>
          iprop(Y c ∗ ownSems0 T.sem c ∗ ∃ W, owes (c.tc : Thread nD τ) (0 : CellTallies nD τ sig Unit) W))
    (QY : Dev nD → MemSt nD τ sig Val → Prop)
    (hread : ∀ c (s' : Phys nD τ sig Val), iprop(Y c ∗ SI s') ⊢ |={Set.univ}=> iprop(⌜QY c s'.mem⌝ ∗ SI s')) :
    θ_run 𝔻 (onTc main) ⟨m, fun _ => 0, g⟩ fun r => (∀ c, QY c r.2)
      ∧ ∀ g' : GSem nD τ sig, (g'.1.2 ≠ .tc ∨ g'.2.isScoped .tc = true) → r.2.sem g' = 0 := by
  classical
  let dats : (q : P) → (c : Dev nD) → Dat τ Val Unit ℕ (GU nD τ sig) ℕ (cfgs q) c := fun q c =>
    { A := fun w => ((hW q).false w).elim
      after := fun w => ((hW q).false w).elim
      Φ := fun t => if t = 0 then T.given (T.part Own Piece) c else iprop(Y c ∗ ownSems0 T.sem c)
      q := fun w => ((hW q).false w).elim
      owed := fun t => if t = 0 then T.owed 0 c else 0 }
  have hlast : Fin.last (cfgs p).N ≠ 0 := fun h => by
    have := congrArg Fin.val h; rw [Fin.val_last, hN] at this; simp at this
  have hΦ0 (c : Dev nD) : (dats p c).Φ 0 = T.given (T.part Own Piece) c := by dsimp only [dats]; exact if_pos rfl
  have hΦ1 (c : Dev nD) (t : Fin ((cfgs p).N + 1)) (ht : t ≠ 0) : (dats p c).Φ t = iprop(Y c ∗ ownSems0 T.sem c) := by dsimp only [dats]; exact if_neg ht
  have ho0 (c : Dev nD) : (dats p c).owed 0 = T.owed 0 c := by dsimp only [dats]; exact if_pos rfl
  have ho1 (c : Dev nD) (t : Fin ((cfgs p).N + 1)) (ht : t ≠ 0) : (dats p c).owed t = 0 := by dsimp only [dats]; exact if_neg ht
  have hob (c : Dev nD) : BodyObligationLoose (dats p c) defs₀ 𝒱₀ () Set.univ := fun t => by
    have h0 : t.castSucc = 0 := Fin.ext (by have := t.isLt; show t.val = 0; omega)
    rw [h0, hΦ0, hΦ1 c _ (Fin.succ_ne_zero t)]
    unfold Dat.owesAt Pipeline.owesWithin
    rw [ho0, ho1 c _ (Fin.succ_ne_zero t)]
    haveI := hW p
    simp only [Finset.univ_eq_empty, BI.bigSep_empty]
    have hb := hbody c t
    refine BIBase.Entails.trans ?_ (hb.trans (wp_mono _ _ _ ?_))
    · iintro ⟨HG, ⟨%W, -, HO⟩, -⟩
      isplitl [HG]; · iexact HG
      iexists W; iexact HO
    · intro _
      iintro ⟨HY, Hs, ⟨%W, HO⟩⟩
      isplitl [HY Hs]; · isplitl [HY] <;> iassumption
      isplitl [HO]
      · iexists W
        isplitr; · ipureintro; exact fun _ _ => Or.inl trivial
        iexact HO
      iempintro
  have hdeal (c : Dev nD) : (dealt m (T.owed 0) c : sProp 𝕄)
      ⊢ iprop((bigSep Finset.univ fun i : Cell nS nL => semVal (T.cell (c, i)) 0)
        ∗ (bigSep Finset.univ fun k : Fin nS => cred (tallyAt (T.cell (c, rcv k)) () T.N))
        ∗ (Own c ∗ bigSep Finset.univ fun k : Fin nS => Piece c k)
        ∗ (idleSems0 cfgs hinj p ho c ∗ scopedBufs (c.tc : Thread nD τ) ∗ owes (c.tc : Thread nD τ) (T.owed 0 c) ∅)) := by
    have hss := scopedSems0_split cfgs hinj p hw.to₀ ho (Ix := Unit) (Val := Val) (Name := ℕ) (U := GU nD τ sig) (Lvl := ℕ) c
    unfold dealt boundary
    rw [hss]
    iintro ⟨⟨Hsb, ⟨⟨-, Hos⟩, Hid⟩, -⟩, Hmem, HO, Hcr⟩
    ihave Hos := (Entails.of_eq (show (ownSems0 T.sem c : sProp 𝕄) = bigSep Finset.univ fun i : Cell nS nL => semVal (T.cell (c, i)) 0 from rfl)) $$ Hos
    isplitl [Hos]; · iexact Hos
    isplitl [Hcr]; · iapply (T.credit c); iexact Hcr
    isplitl [Hmem]; · iapply (hmem c); iexact Hmem
    isplitl [Hid]; · iexact Hid
    isplitl [Hsb] <;> iassumption
  have hstart : iprop((bigSep Finset.univ fun c : Dev nD => dealt m (T.owed 0) c) ∗ levAts levels (fun g _ => T.lev g.2) ∗ ownU T.ghost)
      ⊢ |={Set.univ}=> bigSep Finset.univ fun c : Dev nD => iprop(T.given (T.part Own Piece) c
        ∗ idleSems0 cfgs hinj p ho c ∗ scopedBufs (c.tc : Thread nD τ) ∗ owes (c.tc : Thread nD τ) (T.owed 0 c) ∅) := by
    have hd := bigSep_mono (s := Finset.univ) fun c (_ : c ∈ Finset.univ) => hdeal c
    rw [bigSep_sep', bigSep_sep', bigSep_sep', bigSep_sep' Finset.univ (fun c => Own c), T.cross Piece,
      ← bigSep_univ_prod fun ck : Dev nD × Cell nS nL => (semVal (T.cell ck) 0 : sProp 𝕄)] at hd
    iintro ⟨Hd, #Hlev, Hu⟩
    ihave Hd := (show _ ⊢ _ from hd) $$ Hd
    icases Hd with ⟨Hsem, Hcr, ⟨Hown, Hpc⟩, Hrest⟩
    imod (T.ghost_split) $$ Hu with ⟨Hst, #Hre, Hat, Htok⟩
    imod (T.cells_alloc) $$ [Hsem Hst] with ⟨%K, #HI⟩
    · isplitl [Hsem] <;> iassumption
    imodintro
    ihave Htok := (T.deal_tokens) $$ Htok
    ihave Hat := (Entails.of_eq (bigSep_univ_prod fun ck : Dev nD × Cell nS nL => (atPos EG (T.cell ck) 0 ∅ 0 : sProp 𝕄))) $$ Hat
    iapply (bigSep_keep6 Finset.univ iprop(T.records K ∗ levAts levels (fun g _ => T.lev g.2))
        (fun c : Dev nD => bigSep Finset.univ fun i : Cell nS nL => atPos EG (T.cell (c, i)) 0 ∅ 0)
        (fun c : Dev nD => iprop((bigSep Finset.univ fun k : Fin nS => dutyTok EG (T.cell (c, snd k)) 0 ())
          ∗ (bigSep Finset.univ fun k : Fin nS => dutyTok EG (T.cell (T.peer k c, rcv k)) 0 ())
          ∗ (bigSep Finset.univ fun l : Fin nL => dutyTok EG (T.cell (c, lcl l)) 0 ())))
        (fun c : Dev nD => bigSep Finset.univ fun k : Fin nS => cred (tallyAt (T.cell (c, rcv k)) () T.N))
        Own (fun c : Dev nD => bigSep Finset.univ fun k : Fin nS => Piece (T.peer k c) k)
        (fun c : Dev nD => iprop(idleSems0 cfgs hinj p ho c ∗ scopedBufs (c.tc : Thread nD τ) ∗ owes (c.tc : Thread nD τ) (T.owed 0 c) ∅))
        (fun c : Dev nD => iprop(T.given (T.part Own Piece) c
          ∗ idleSems0 cfgs hinj p ho c ∗ scopedBufs (c.tc : Thread nD τ) ∗ owes (c.tc : Thread nD τ) (T.owed 0 c) ∅)) fun c _ => by
        iintro ⟨⟨#HR, #HL⟩, Hat, ⟨Hts, Htr, Htl⟩, Hcr, Hown, Hpc, Hrest⟩
        isplitr [Hrest]
        · unfold given hand part
          iexists K
          isplitr; · iexact HR
          isplitr; · iexact HL
          isplitl [Hat Hts Htr Htl Hcr]
          · isplitl [Hat]; · iexact Hat
            isplitl [Hts]; · iexact Hts
            isplitl [Htr]; · iexact Htr
            isplitl [Htl]; · iexact Htl
            iexact Hcr
          isplitl [Hown] <;> iassumption
        iexact Hrest)
    isplitr
    · isplitr
      · unfold records; isplitr; · iexact HI
        iexact Hre
      iexact Hlev
    isplitl [Hat]; · iexact Hat
    isplitl [Htok]; · iexact Htok
    isplitl [Hcr]; · iexact Hcr
    isplitl [Hown]; · iexact Hown
    isplitl [Hpc]; · iexact Hpc
    iexact Hrest
  refine run_owing 𝔻 𝕍 m g main (T.owed 0) levels (fun g _ => T.lev g.2) (fun g hg => if_neg hg) T.ghost _ Y hstart (fun c => ?_) QY hread
  rw [hmain c]
  refine region_alone cfgs hinj p dats () EG defs₀ 𝒱₀ (hW p) hw ho (T.owed 0 c) c (ho0 c) (ho1 c _ hlast) (hob c) (T.given (T.part Own Piece) c) (Y c) ?_ ?_
  · rw [hΦ0]; iintro ⟨H, -⟩; iexact H
  · rw [hΦ1 c _ hlast, hsr c]
    iintro ⟨HY, Hs⟩
    isplitl [HY]; · iexact HY
    isplitl [Hs]; · iexact Hs
    iempintro

end Run

end Net

end Cert.Talk

end
-- ==== Proof.Talk.Blocks.lean ====
/-
# A buffer cut into blocks

A buffer whose indices are numbered by block is the blocks named, and the rest. `carve` takes the named blocks out and
puts them back; `rest_congr` says that a rest holding nothing is of any contents.
-/
module

public import proofs.«01_k».proof.Proof.Talk.Net

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

/-- The indices of block `v`. -/
def cut {ι : Type} [Fintype ι] (blk : ι → ℕ) (v : ℕ) : Finset ι := Finset.univ.filter fun i => blk i = v

theorem mem_cut {ι : Type} [Fintype ι] {blk : ι → ℕ} {v : ℕ} {i : ι} : i ∈ cut blk v ↔ blk i = v := by simp [cut]

theorem cut_disjoint {ι : Type} [Fintype ι] [DecidableEq ι] (blk : ι → ℕ) {v w : ℕ} (h : v ≠ w) : Disjoint (cut blk v) (cut blk w) := by
  rw [Finset.disjoint_left]
  intro i h1 h2
  exact h ((mem_cut.mp h1).symm.trans (mem_cut.mp h2))

variable {nD : ℕ} {τ : Topo} {sig : RefSig} {Val : EltTy → Type}

local notation "𝕄" => MT nD τ sig Unit Val ℕ (GU nD τ sig) ℕ

/-- What no named block holds. -/
def rest {n : ℕ} {ι : Type} [Fintype ι] [DecidableEq ι] (blk : ι → ℕ) (v : Fin n → ℕ) : Finset ι :=
  Finset.univ \ Finset.univ.biUnion fun k => cut blk (v k)

/-- A buffer is its named blocks and the rest. -/
theorem carve {n : ℕ} (ℓ : Loc nD τ sig) (q : PosShare TreeShare) (f : Buf Val ℓ) (blk : Idx ℓ → ℕ) (v : Fin n → ℕ) (hv : Function.Injective v) :
    (ℓ ↦[Finset.univ]{q} f : sProp 𝕄) ⊣⊢ iprop((bigSep Finset.univ fun k => ℓ ↦[cut blk (v k)]{q} f) ∗ ℓ ↦[rest blk v]{q} f) := by
  have hb : (ℓ ↦[Finset.univ.biUnion fun k => cut blk (v k)]{q} f : sProp 𝕄) = bigSep Finset.univ fun k => ℓ ↦[cut blk (v k)]{q} f :=
    pointsTo_biUnion Finset.univ (fun k => cut blk (v k)) (fun t _ t' _ h => cut_disjoint blk (fun e => h (hv e)))
  rw [← hb]
  have hu : (Finset.univ : Finset (Idx ℓ)) = (Finset.univ.biUnion fun k => cut blk (v k)) ∪ rest blk v := by
    unfold rest; rw [Finset.union_sdiff_of_subset (Finset.subset_univ _)]
  conv_lhs => rw [hu]
  exact pointsTo_union Finset.disjoint_sdiff

/-- Where every index is in a named block, the rest is of any contents. -/
theorem rest_congr {n : ℕ} (ℓ : Loc nD τ sig) (q : PosShare TreeShare) (f g : Buf Val ℓ) (blk : Idx ℓ → ℕ) (v : Fin n → ℕ)
    (h : ∀ i, ∃ k, blk i = v k) : (ℓ ↦[rest blk v]{q} f : sProp 𝕄) = (ℓ ↦[rest blk v]{q} g) := by
  refine pointsTo_congr fun i hi => ?_
  obtain ⟨k, hk⟩ := h i
  exact absurd (Finset.mem_biUnion.mpr ⟨k, Finset.mem_univ k, mem_cut.mpr hk⟩) (Finset.mem_sdiff.mp hi).2

end Cert.Talk

end
-- ==== Proof.Exchange.Gather.lean ====
/-
# The gathering of the weights

Device `d` sends its own block of rows, the half of its input that is its core's, to its sibling core and to the core of
its own number on the three other chips, and hands on to its sibling what it gets from those three. `run` is the launch:
every device ends with its input as it was and its output holding every device's block, block `b` device `b`'s.
-/
module

public import proofs.«01_k».proof.Proof.Talk.Blocks
public import proofs.«01_k».proof.Proof.Gen.GatherIdeal.Launch
public import proofs.«01_k».proof.Proof.Gen.GatherIdeal.Skeleton
public import proofs.«01_k».proof.Proof.Gen.GatherIdeal.Points
public import Idealize.ShloMosaic.Lib.Exec.Geometry
public import Idealize.ShloMosaic.Lib.ValueIdxCore

@[expose] public section

noncomputable section

namespace Cert.GatherIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Talk Cert.Talk.Net Cert.GatherIdeal.Gen

variable {F : FTy → Type} [FloatOps F]

local notation "𝕄" => MT nD τ sig Unit (Elt F) ℕ (GU nD τ sig) ℕ

/-! ## Where the blocks go -/

/-- The other core of a device's chip. -/
def sib (c : Dev nD) : Dev nD := ⟨k0_dev1 c, k0_dev1_lt c⟩

/-- The chip opposite in x, at the same core. -/
def flipX (c : Dev nD) : Dev nD := ⟨k0_dev2 c, k0_dev2_lt c⟩

/-- The chip opposite in y, at the same core. -/
def flipY (c : Dev nD) : Dev nD := ⟨k0_dev3 c, k0_dev3_lt c⟩

/-- The chip opposite in both, at the same core. -/
def flipXY (c : Dev nD) : Dev nD := ⟨k0_dev4 c, k0_dev4_lt c⟩

theorem dev1_eq (c : Dev nD) : (⟨k0_dev1 c, k0_dev1_lt c⟩ : Dev nD) = sib c := rfl
theorem dev2_eq (c : Dev nD) : (⟨k0_dev2 c, k0_dev2_lt c⟩ : Dev nD) = flipX c := rfl
theorem dev3_eq (c : Dev nD) : (⟨k0_dev3 c, k0_dev3_lt c⟩ : Dev nD) = flipY c := rfl
theorem dev4_eq (c : Dev nD) : (⟨k0_dev4 c, k0_dev4_lt c⟩ : Dev nD) = flipXY c := rfl
theorem dev5_eq (c : Dev nD) : (⟨k0_dev5 c, k0_dev5_lt c⟩ : Dev nD) = sib c := by revert c; decide
theorem dev6_eq (c : Dev nD) : (⟨k0_dev6 c, k0_dev6_lt c⟩ : Dev nD) = sib c := by revert c; decide
theorem dev7_eq (c : Dev nD) : (⟨k0_dev7 c, k0_dev7_lt c⟩ : Dev nD) = sib c := by revert c; decide

/-- Where send `k` goes. -/
def peer : Fin 7 → Dev nD → Dev nD
  | 0 => sib
  | 1 => flipX
  | 2 => flipY
  | 3 => flipXY
  | 4 => sib
  | 5 => sib
  | 6 => sib

theorem peer_peer (k : Fin 7) (c : Dev nD) : peer k (peer k c) = c := by revert k c; decide

/-- The block send `k` of device `c` carries: its own, or the one it has got from another chip. -/
def sent (c : Dev nD) : Fin 7 → ℕ
  | 0 => c.val
  | 1 => c.val
  | 2 => c.val
  | 3 => c.val
  | 4 => (flipX c).val
  | 5 => (flipY c).val
  | 6 => (flipXY c).val

/-- The blocks of device `c`'s output: the one it fills itself, then those the sends to it fill. -/
def held (c : Dev nD) (k : Fin 8) : ℕ := Fin.cases (motive := fun _ => ℕ) c.val (fun k => sent (peer k c) k) k

theorem held_inj (c : Dev nD) : Function.Injective (held c) := by
  have h : ∀ (c : Dev nD) (a b : Fin 8), held c a = held c b → a = b := by decide
  exact h c

theorem held_all (c : Dev nD) (b : Fin 8) : ∃ k, b.val = held c k := by revert c b; decide

/-- The halves of the input, numbered. -/
def blkIn (i : S4096x1024.Idx) : ℕ := (i 0).val / 2048

/-- The blocks of the output, numbered. -/
def blkOut (i : S16384x1024.Idx) : ℕ := (i 0).val / 2048

theorem off1_at (c : Dev nD) : k0_off1 c = ![2048 * c.val, 0] := by revert c; decide
theorem off2_at (c : Dev nD) : k0_off2 c = ![2048 * (c.val % 2), 0] := by revert c; decide
theorem off3_at (c : Dev nD) : k0_off3 c = ![2048 * (flipX c).val, 0] := by revert c; decide
theorem off4_at (c : Dev nD) : k0_off4 c = ![2048 * (flipY c).val, 0] := by revert c; decide
theorem off5_at (c : Dev nD) : k0_off5 c = ![2048 * (flipXY c).val, 0] := by revert c; decide

/-- A half of the input, as a copy names it. -/
abbrev part (o : Fin 2 → ℕ) (h : ∀ a, o a + S2048x1024.size a ≤ S4096x1024.size a) : Memref sig .tc .hbm S2048x1024 .bf16 :=
  (Memref.whole main_arg0 : Memref sig .tc .hbm S4096x1024 .bf16).slice (Rect.unit (s := S4096x1024) o S2048x1024.size h) (fun _ => rfl)

/-- A block of the output, as a copy names it. -/
abbrev slot (o : Fin 2 → ℕ) (h : ∀ a, o a + S2048x1024.size a ≤ S16384x1024.size a) : Memref sig .tc .hbm S2048x1024 .bf16 :=
  (Memref.whole main_v1 : Memref sig .tc .hbm S16384x1024 .bf16).slice (Rect.unit (s := S16384x1024) o S2048x1024.size h) (fun _ => rfl)

theorem part_set (b : ℕ) (o : Fin 2 → ℕ) (h : ∀ a, o a + S2048x1024.size a ≤ S4096x1024.size a) (ho : o = ![2048 * b, 0]) :
    (part o h).view.set = cut blkIn b := by
  subst ho
  refine (View.set_slice_whole _ _).trans ?_
  ext i
  rw [Rect.mem_set_unit, mem_cut]
  have h1 : (i 1).val < 1024 := (i 1).isLt
  unfold blkIn
  constructor
  · intro h
    have a0 : 2048 * b ≤ (i 0).val ∧ (i 0).val < 2048 * b + 2048 := h 0
    omega
  · intro h a
    match a with
    | 0 => show 2048 * b ≤ (i 0).val ∧ (i 0).val < 2048 * b + 2048; omega
    | 1 => show 0 ≤ (i 1).val ∧ (i 1).val < 0 + 1024; omega

theorem slot_set (b : ℕ) (o : Fin 2 → ℕ) (h : ∀ a, o a + S2048x1024.size a ≤ S16384x1024.size a) (ho : o = ![2048 * b, 0]) :
    (slot o h).view.set = cut blkOut b := by
  subst ho
  refine (View.set_slice_whole _ _).trans ?_
  ext i
  rw [Rect.mem_set_unit, mem_cut]
  have h1 : (i 1).val < 1024 := (i 1).isLt
  unfold blkOut
  constructor
  · intro h
    have a0 : 2048 * b ≤ (i 0).val ∧ (i 0).val < 2048 * b + 2048 := h 0
    omega
  · intro h a
    match a with
    | 0 => show 2048 * b ≤ (i 0).val ∧ (i 0).val < 2048 * b + 2048; omega
    | 1 => show 0 ≤ (i 1).val ∧ (i 1).val < 0 + 1024; omega

variable (m : (ℓ : Loc nD τ sig) → Buf (Elt F) ℓ)

/-- What a device holds at launch. -/
def src (c : Dev nD) : S4096x1024.Idx → Elt F .bf16 := m ((c.tc : Thread nD τ).loc main_arg0)

/-- What every device's output holds at the end: block `b` is the half of device `b`'s input that is its core's. -/
def out : S16384x1024.Idx → Elt F .bf16 := fun i =>
  src m (⟨(i 0).val / 2048, by have : (i 0).val < 16384 := (i 0).isLt; show (i 0).val / 2048 < 8; omega⟩ : Dev nD)
    (ValueIdx.ix2 (⟨2048 * ((i 0).val / 2048 % 2) + (i 0).val % 2048, by omega⟩ : Fin 4096) (i 1))

theorem out_at (c : Dev nD) (i : S16384x1024.Idx) (r : ℕ) (hr : r < 2048) (h : (i 0).val = 2048 * c.val + r) (x : S4096x1024.Idx)
    (h0 : (x 0).val = 2048 * (c.val % 2) + r) (h1 : (x 1).val = (i 1).val) : out m i = src m c x := by
  have hd : (i 0).val / 2048 = c.val := by omega
  have hm : (i 0).val % 2048 = r := by omega
  have e : (⟨(i 0).val / 2048, by have : (i 0).val < 16384 := (i 0).isLt; show (i 0).val / 2048 < 8; omega⟩ : Dev nD) = c := Fin.ext hd
  unfold out
  rw [e]
  congr 1
  funext a
  match a with
  | 0 =>
    apply Fin.ext
    show 2048 * ((i 0).val / 2048 % 2) + (i 0).val % 2048 = (x 0).val
    rw [hd, hm, h0]
  | 1 =>
    apply Fin.ext
    show (i 1).val = (x 1).val
    exact h1.symm

theorem part_read (c : Dev nD) (o o' : Fin 2 → ℕ) (h : ∀ a, o a + S2048x1024.size a ≤ S16384x1024.size a) (ho : o = ![2048 * c.val, 0])
    (h' : ∀ a, o' a + S2048x1024.size a ≤ S4096x1024.size a) (ho' : o' = ![2048 * (c.val % 2), 0]) :
    (slot o h).view.read (Elt F) (out m) = (part o' h').view.read (Elt F) (src m c) := by
  subst ho ho'
  funext x
  have hx : (x 0).val < 2048 := (x 0).isLt
  refine out_at m c ((Rect.unit (s := S16384x1024) ![2048 * c.val, 0] S2048x1024.size h).emb x) (x 0).val hx ?_
    ((Rect.unit (s := S4096x1024) ![2048 * (c.val % 2), 0] S2048x1024.size h').emb x) ?_ ?_
  · show 2048 * c.val + 1 * (x 0).val = 2048 * c.val + (x 0).val; omega
  · show 2048 * (c.val % 2) + 1 * (x 0).val = 2048 * (c.val % 2) + (x 0).val; omega
  · rfl

/-! ## The protocol -/

/-- The five shares of the half a device reads from: four for the sends, one for its own copy. -/
def share : Fin 5 → PosShare TreeShare
  | 0 => fullShare.left
  | 1 => fullShare.right.left
  | 2 => fullShare.right.right.left
  | 3 => fullShare.right.right.right.left
  | 4 => fullShare.right.right.right.right

/-- The half of a device's input that is its core's, in part. -/
abbrev inp (q : PosShare TreeShare) (c : Dev nD) : sProp 𝕄 := ((c.tc : Thread nD τ).loc main_arg0) ↦[cut blkIn (c.val % 2)]{q} src m c

/-- Block `v` of a device's output, at contents `f`. -/
abbrev slab (c : Dev nD) (v : ℕ) (f : S16384x1024.Idx → Elt F .bf16) : sProp 𝕄 := ((c.tc : Thread nD τ).loc main_v1) ↦[cut blkOut v]{fullShare} f

instance inp_storable (q : PosShare TreeShare) (c : Dev nD) : BI.Storable (upEmb : UEmb _ 𝕄) (inp m q c) := by unfold inp; infer_instance

instance slab_storable (c : Dev nD) (v : ℕ) (f : S16384x1024.Idx → Elt F .bf16) : BI.Storable (upEmb : UEmb _ 𝕄) (slab c v f : sProp 𝕄) := by
  unfold slab; infer_instance

/-- What send `k` gives back once it has been read: a share of the input, or a block of the output. -/
def back (d : Dev nD) : Fin 7 → sProp 𝕄
  | 0 => inp m (share 0) d
  | 1 => inp m (share 1) d
  | 2 => inp m (share 2) d
  | 3 => inp m (share 3) d
  | 4 => slab d (sent d 4) (out m)
  | 5 => slab d (sent d 5) (out m)
  | 6 => slab d (sent d 6) (out m)

instance back_storable (d : Dev nD) (k : Fin 7) : BI.Storable (upEmb : UEmb _ 𝕄) (back m d k) := by
  match k with
  | 0 => unfold back; infer_instance
  | 1 => unfold back; infer_instance
  | 2 => unfold back; infer_instance
  | 3 => unfold back; infer_instance
  | 4 => unfold back; infer_instance
  | 5 => unfold back; infer_instance
  | 6 => unfold back; infer_instance

/-- Send semaphore `k`, landing semaphore `k`, the local copy's. -/
def semOf : Cell 7 1 → SemLoc sig
  | .inl k => .dma (((cc0_scratch0.slice (Rect.unit (s := S7) ![k.val] S1.size (by revert k; decide))).squeeze S_ squeezes_S1_S_).sem)
  | .inr (.inl k) => .dma (((cc0_scratch1.slice (Rect.unit (s := S7) ![k.val] S1.size (by revert k; decide))).squeeze S_ squeezes_S1_S_).sem)
  | .inr (.inr _) => .dma cc0_scratch2.sem

/-- The landings from the other chips are awaited while blocks are still to be handed on: they lie below. -/
def level (s : SemLoc sig) : ℕ := if s = semOf (rcv 1) ∨ s = semOf (rcv 2) ∨ s = semOf (rcv 3) then 0 else 1

theorem level_lt (i k : Fin 7) (hi : 1 ≤ i.val ∧ i.val ≤ 3) (h : 4 ≤ k.val) : level (semOf (rcv i)) < level (semOf (rcv k)) := by
  revert i k; decide

/-- The seven sends and the local copy. -/
def net : Net nD τ sig (Elt F) 7 1 where
  sem := semOf
  sem_inj := by decide
  peer := peer
  peer_peer := peer_peer
  N := (slot (k0_off1 0) (k0_off1_inb 0)).view.dmaCredit
  N_pos := View.dmaCredit_pos _ (by decide)
  pay i d := match i with
    | .inl k => back m d k
    | .inr (.inl k) => slab d (sent (peer k d) k) (out m)
    | .inr (.inr _) => iprop(slab d d.val (out m) ∗ inp m (share 4) d)
  pay_storable i d := by
    rcases i with _ | _ | _ <;> dsimp only <;> infer_instance
  lev := level

/-- What a device keeps of the memory: its input, the block of its output it fills itself, and what nobody fills, which is nothing. -/
def own (c : Dev nD) : sProp 𝕄 :=
  iprop((((c.tc : Thread nD τ).loc main_arg0) ↦[Finset.univ]{fullShare} src m c)
    ∗ slab c c.val (m ((c.tc : Thread nD τ).loc main_v1))
    ∗ ((c.tc : Thread nD τ).loc main_v1) ↦[rest blkOut (held c)]{fullShare} m ((c.tc : Thread nD τ).loc main_v1))

/-- What send `k` to a device fills. -/
def piece (c : Dev nD) (k : Fin 7) : sProp 𝕄 := slab c (sent (peer k c) k) (m ((c.tc : Thread nD τ).loc main_v1))

/-- What a device ends with: its input as it was, its output filled. -/
def final (c : Dev nD) : sProp 𝕄 :=
  iprop((((c.tc : Thread nD τ).loc main_arg0) ↦[Finset.univ]{fullShare} src m c) ∗ (((c.tc : Thread nD τ).loc main_v1) ↦[Finset.univ]{fullShare} out m))

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The output is the block its device fills, those the sends to it fill, and nothing more. -/
theorem slabs (c : Dev nD) (f : S16384x1024.Idx → Elt F .bf16) :
    (((c.tc : Thread nD τ).loc main_v1) ↦[Finset.univ]{fullShare} f : sProp 𝕄)
      ⊣⊢ iprop((slab c c.val f ∗ slab c (sent (peer 0 c) 0) f ∗ slab c (sent (peer 1 c) 1) f ∗ slab c (sent (peer 2 c) 2) f ∗ slab c (sent (peer 3 c) 3) f
          ∗ slab c (sent (peer 4 c) 4) f ∗ slab c (sent (peer 5 c) 5) f ∗ slab c (sent (peer 6 c) 6) f)
        ∗ ((c.tc : Thread nD τ).loc main_v1) ↦[rest blkOut (held c)]{fullShare} f) := by
  have h := carve (Val := Elt F) ((c.tc : Thread nD τ).loc main_v1) fullShare f blkOut (held c) (held_inj c)
  rw [bigSep_fin8] at h
  exact h

/-- The input is its core's half, in five shares, and the other half. -/
theorem parts (c : Dev nD) :
    (((c.tc : Thread nD τ).loc main_arg0) ↦[Finset.univ]{fullShare} src m c : sProp 𝕄)
      ⊣⊢ iprop((inp m (share 0) c ∗ inp m (share 1) c ∗ inp m (share 2) c ∗ inp m (share 3) c ∗ inp m (share 4) c)
        ∗ ((c.tc : Thread nD τ).loc main_arg0) ↦[rest blkIn (fun _ : Fin 1 => c.val % 2)]{fullShare} src m c) := by
  have h := carve (Val := Elt F) ((c.tc : Thread nD τ).loc main_arg0) fullShare (src m c) blkIn (fun _ : Fin 1 => c.val % 2) (fun a b _ => Subsingleton.elim a b)
  rw [bigSep_fin1] at h
  have s (q : PosShare TreeShare) : (inp m q c : sProp 𝕄) ⊣⊢ iprop(inp m q.left c ∗ inp m q.right c) := pointsTo_share (PosShare.mem_left_op_right q)
  constructor
  · refine h.1.trans (sep_mono_left ?_)
    refine (s fullShare).1.trans (sep_mono_right ?_)
    refine (s fullShare.right).1.trans (sep_mono_right ?_)
    refine (s fullShare.right.right).1.trans (sep_mono_right ?_)
    exact (s fullShare.right.right.right).1
  · refine BIBase.Entails.trans (sep_mono_left ?_) h.2
    refine BIBase.Entails.trans (sep_mono_right ?_) (s fullShare).2
    refine BIBase.Entails.trans (sep_mono_right ?_) (s fullShare.right).2
    refine BIBase.Entails.trans (sep_mono_right ?_) (s fullShare.right.right).2
    exact (s fullShare.right.right.right).2

/-- The output, once every block is filled. -/
theorem filled (c : Dev nD) (f : S16384x1024.Idx → Elt F .bf16) :
    iprop((slab c c.val (out m) ∗ slab c (sent (peer 0 c) 0) (out m) ∗ slab c (sent (peer 1 c) 1) (out m) ∗ slab c (sent (peer 2 c) 2) (out m)
          ∗ slab c (sent (peer 3 c) 3) (out m) ∗ slab c (sent (peer 4 c) 4) (out m) ∗ slab c (sent (peer 5 c) 5) (out m) ∗ slab c (sent (peer 6 c) 6) (out m))
        ∗ ((c.tc : Thread nD τ).loc main_v1) ↦[rest blkOut (held c)]{fullShare} f)
      ⊢ (((c.tc : Thread nD τ).loc main_v1) ↦[Finset.univ]{fullShare} out m : sProp 𝕄) := by
  have hr := rest_congr (Val := Elt F) ((c.tc : Thread nD τ).loc main_v1) fullShare f (out m) blkOut (held c)
    (fun i => held_all c ⟨blkOut i, by have : (i 0).val < 16384 := (i 0).isLt; unfold blkOut; omega⟩)
  rw [hr]
  exact (slabs c (out m)).2

/-- At launch a device's memory is its own part and the blocks the sends to it fill. -/
theorem launch_mem (c : Dev nD) : (unscopedBufs c (fun b => m ((c.tc : Thread nD τ).loc b)) : sProp 𝕄)
    ⊢ iprop(own m c ∗ bigSep Finset.univ fun k : Fin 7 => piece m c k) := by
  rw [Pipeline.unscopedBufs_split cfgs (0 : Fin 1) (fun w => w.elim0) (fun w => w.elim0) c, unscopedRest0_eq, bigSep_fin7]
  iintro ⟨-, Ha, Hv⟩
  ihave Hv := ((slabs c (m ((c.tc : Thread nD τ).loc main_v1))).1) $$ Hv
  icases Hv with ⟨⟨Ho, Hp⟩, Hr⟩
  unfold own piece
  isplitr [Hp]
  · isplitl [Ha]; · unfold src; iexact Ha
    isplitl [Ho]; · iexact Ho
    iexact Hr
  iexact Hp

/-- A block a device is to fill, as it holds it. -/
theorem their (c : Dev nD) (k : Fin 7) : (piece m (peer k c) k : sProp 𝕄) = slab (peer k c) (sent c k) (m (((peer k c).tc : Thread nD τ).loc main_v1)) := by
  unfold piece; rw [peer_peer]

/-- The blocks a device is to fill, on the devices it sends to. -/
theorem theirs (c : Dev nD) : (bigSep Finset.univ fun k : Fin 7 => (piece m ((net m).peer k c) k : sProp 𝕄))
    = iprop(slab (sib c) (sent c 0) (m (((sib c).tc : Thread nD τ).loc main_v1))
      ∗ slab (flipX c) (sent c 1) (m (((flipX c).tc : Thread nD τ).loc main_v1))
      ∗ slab (flipY c) (sent c 2) (m (((flipY c).tc : Thread nD τ).loc main_v1))
      ∗ slab (flipXY c) (sent c 3) (m (((flipXY c).tc : Thread nD τ).loc main_v1))
      ∗ slab (sib c) (sent c 4) (m (((sib c).tc : Thread nD τ).loc main_v1))
      ∗ slab (sib c) (sent c 5) (m (((sib c).tc : Thread nD τ).loc main_v1))
      ∗ slab (sib c) (sent c 6) (m (((sib c).tc : Thread nD τ).loc main_v1))) := by
  rw [bigSep_fin7]
  show iprop(piece m (peer 0 c) 0 ∗ piece m (peer 1 c) 1 ∗ piece m (peer 2 c) 2 ∗ piece m (peer 3 c) 3 ∗ piece m (peer 4 c) 4 ∗ piece m (peer 5 c) 5
    ∗ piece m (peer 6 c) 6) = _
  rw [their, their, their, their, their, their, their]; rfl

/-- What a send hands to the device it goes to. -/
theorem landing (c : Dev nD) (k : Fin 7) : (net m).pay (rcv k) (peer k c) = slab (peer k c) (sent c k) (out m) := by
  show slab (peer k c) (sent (peer k (peer k c)) k) (out m) = _
  rw [peer_peer]

/-! ## One device's run -/

abbrev 𝒱₀ : Variants := Variants.none

set_option maxHeartbeats 3200000 in
/-- The body of a device, from its hand and its part of the memory to its output filled. -/
theorem body (c : Dev nD) (t : Fin cfg0.N) :
    iprop((net m).given ((net m).part (own m) (piece m)) c ∗ ∃ W, owes (c.tc : Thread nD τ) ((net m).owed 0 c) W)
      ⊢ wp frame (wpE (defs₀ (F := F)) 𝒱₀ (c.tc : Thread nD τ) none) Set.univ (bodyAt0 (F := F) t) fun _ =>
        iprop(final m c ∗ ownSems0 (net m).sem c ∗ ∃ W, owes (c.tc : Thread nD τ) (0 : CellTallies nD τ sig Unit) W) := by
  have hlt (i : Cell 7 1) (j : ℕ) (hj : 7 ≤ j) : ∀ k : Fin 7, j ≤ k.val → (net m).lev ((net m).sem i) < (net m).lev ((net m).sem (rcv k)) :=
    fun k hk => by omega
  iintro ⟨HG, HO⟩
  unfold Net.given
  icases HG with ⟨%K, #HR, #HL, Hh, Hm⟩
  ihave Hh := (Entails.of_eq ((net m).hand_split c)) $$ Hh
  simp only [bigSep_fin7, bigSep_fin1]
  icases Hh with ⟨⟨⟨HaS0, HaS1, HaS2, HaS3, HaS4, HaS5, HaS6⟩, ⟨HaR0, HaR1, HaR2, HaR3, HaR4, HaR5, HaR6⟩, HaL⟩, ⟨HtS0, HtS1, HtS2, HtS3, HtS4, HtS5, HtS6⟩, ⟨HtR0, HtR1, HtR2, HtR3, HtR4, HtR5, HtR6⟩, HtL, HcR0, HcR1, HcR2, HcR3, HcR4, HcR5, HcR6⟩
  unfold Net.part
  icases Hm with ⟨Hown, Hpc⟩
  ihave Hpc := (Entails.of_eq (theirs m c)) $$ Hpc
  icases Hpc with ⟨Hd0, Hd1, Hd2, Hd3, Hd4, Hd5, Hd6⟩
  unfold own
  icases Hown with ⟨Hi, Ho, Hrest⟩
  ihave Hi := ((parts m c).1) $$ Hi
  icases Hi with ⟨⟨Hi0, Hi1, Hi2, Hi3, Hi4⟩, Hir⟩
  unfold bodyAt0
  simp only [cc0_ag_weights_eq_skeleton]
  unfold cc0_ag_weights_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.lift, Prog.bind_op, Prog.bind_ret, Prog.pure_eq_ret, wp_deviceId, dev1_eq, dev2_eq, dev3_eq, dev4_eq, dev5_eq, dev6_eq, dev7_eq]
  iapply ((net m).copy 𝒱₀ K c 0 rfl (src := part (k0_off2 c) (k0_off2_inb c)) (dst := slot (k0_off1 c) (k0_off1_inb c))
    (Ss := cut blkIn (c.val % 2)) (part_set _ _ (k0_off2_inb c) (off2_at c)) (Sd := cut blkOut c.val) (slot_set _ _ (k0_off1_inb c) (off1_at c))
    (q := share 4) (fs := src m c) (fd := m ((c.tc : Thread nD τ).loc main_v1)) (out m)
    (part_read m c _ _ (k0_off1_inb c) (off1_at c) (k0_off2_inb c) (off2_at c)) rfl rfl) $$ [Hi4 Ho HtL]
  · isplitr; · iexact HR
    isplitl [Hi4]; · iexact Hi4
    isplitl [Ho]; · iexact Ho
    iexact HtL
  iintro HcL
  iapply ((net m).send 𝒱₀ K c 0 (sib c) rfl rfl rfl (src := part (k0_off2 c) (k0_off2_inb c)) (dst := slot (k0_off1 c) (k0_off1_inb c))
    (Ss := cut blkIn (c.val % 2)) (part_set _ _ (k0_off2_inb c) (off2_at c)) (Sd := cut blkOut c.val) (slot_set _ _ (k0_off1_inb c) (off1_at c))
    (q := share 0) (fs := src m c) (fd := m (((sib c).tc : Thread nD τ).loc main_v1)) (out m) (part_read m c _ _ (k0_off1_inb c) (off1_at c) (k0_off2_inb c) (off2_at c)) rfl
    ((net m).owed 1 c) rfl rfl rfl (landing m c 0)) $$ [Hi0 Hd0 HO HtS0 HtR0]
  · isplitr; · iexact HR
    isplitl [Hi0]; · iexact Hi0
    isplitl [Hd0]; · iexact Hd0
    isplitl [HO]; · iexact HO
    isplitl [HtS0]; · iexact HtS0
    iexact HtR0
  iintro ⟨HcS0, HO⟩
  iapply ((net m).send 𝒱₀ K c 1 (flipX c) rfl rfl rfl (src := part (k0_off2 c) (k0_off2_inb c)) (dst := slot (k0_off1 c) (k0_off1_inb c))
    (Ss := cut blkIn (c.val % 2)) (part_set _ _ (k0_off2_inb c) (off2_at c)) (Sd := cut blkOut c.val) (slot_set _ _ (k0_off1_inb c) (off1_at c))
    (q := share 1) (fs := src m c) (fd := m (((flipX c).tc : Thread nD τ).loc main_v1)) (out m) (part_read m c _ _ (k0_off1_inb c) (off1_at c) (k0_off2_inb c) (off2_at c)) rfl
    ((net m).owed 2 c) rfl rfl rfl (landing m c 1)) $$ [Hi1 Hd1 HO HtS1 HtR1]
  · isplitr; · iexact HR
    isplitl [Hi1]; · iexact Hi1
    isplitl [Hd1]; · iexact Hd1
    isplitl [HO]; · iexact HO
    isplitl [HtS1]; · iexact HtS1
    iexact HtR1
  iintro ⟨HcS1, HO⟩
  iapply ((net m).send 𝒱₀ K c 2 (flipY c) rfl rfl rfl (src := part (k0_off2 c) (k0_off2_inb c)) (dst := slot (k0_off1 c) (k0_off1_inb c))
    (Ss := cut blkIn (c.val % 2)) (part_set _ _ (k0_off2_inb c) (off2_at c)) (Sd := cut blkOut c.val) (slot_set _ _ (k0_off1_inb c) (off1_at c))
    (q := share 2) (fs := src m c) (fd := m (((flipY c).tc : Thread nD τ).loc main_v1)) (out m) (part_read m c _ _ (k0_off1_inb c) (off1_at c) (k0_off2_inb c) (off2_at c)) rfl
    ((net m).owed 3 c) rfl rfl rfl (landing m c 2)) $$ [Hi2 Hd2 HO HtS2 HtR2]
  · isplitr; · iexact HR
    isplitl [Hi2]; · iexact Hi2
    isplitl [Hd2]; · iexact Hd2
    isplitl [HO]; · iexact HO
    isplitl [HtS2]; · iexact HtS2
    iexact HtR2
  iintro ⟨HcS2, HO⟩
  iapply ((net m).send 𝒱₀ K c 3 (flipXY c) rfl rfl rfl (src := part (k0_off2 c) (k0_off2_inb c)) (dst := slot (k0_off1 c) (k0_off1_inb c))
    (Ss := cut blkIn (c.val % 2)) (part_set _ _ (k0_off2_inb c) (off2_at c)) (Sd := cut blkOut c.val) (slot_set _ _ (k0_off1_inb c) (off1_at c))
    (q := share 3) (fs := src m c) (fd := m (((flipXY c).tc : Thread nD τ).loc main_v1)) (out m) (part_read m c _ _ (k0_off1_inb c) (off1_at c) (k0_off2_inb c) (off2_at c)) rfl
    ((net m).owed 4 c) rfl rfl rfl (landing m c 3)) $$ [Hi3 Hd3 HO HtS3 HtR3]
  · isplitr; · iexact HR
    isplitl [Hi3]; · iexact Hi3
    isplitl [Hd3]; · iexact Hd3
    isplitl [HO]; · iexact HO
    isplitl [HtS3]; · iexact HtS3
    iexact HtR3
  iintro ⟨HcS3, HO⟩
  iapply ((net m).wait 𝒱₀ K c (rcv 1) rfl rfl 4 rfl (fun k hk => level_lt 1 k (by decide) (by omega))) $$ [HcR1 HO HaR1]
  · isplitr; · iexact HR
    isplitr; · iexact HL
    isplitl [HcR1]; · iexact HcR1
    isplitl [HO]; · iexact HO
    iexact HaR1
  iintro ⟨HO, Hf4, HzR1⟩
  ihave Hf4 := (show (net m).pay (rcv 1) c ⊢ slab c (flipX c).val (out m) from Entails.of_eq rfl) $$ Hf4
  iapply ((net m).send 𝒱₀ K c 4 (sib c) rfl rfl rfl (src := slot (k0_off3 c) (k0_off3_inb c)) (dst := slot (k0_off3 c) (k0_off3_inb c))
    (Ss := cut blkOut (flipX c).val) (slot_set _ _ (k0_off3_inb c) (off3_at c)) (Sd := cut blkOut (flipX c).val) (slot_set _ _ (k0_off3_inb c) (off3_at c))
    (q := fullShare) (fs := out m) (fd := m (((sib c).tc : Thread nD τ).loc main_v1)) (out m) (rfl) rfl
    ((net m).owed 5 c) rfl rfl rfl (landing m c 4)) $$ [Hf4 Hd4 HO HtS4 HtR4]
  · isplitr; · iexact HR
    isplitl [Hf4]; · iexact Hf4
    isplitl [Hd4]; · iexact Hd4
    isplitl [HO]; · iexact HO
    isplitl [HtS4]; · iexact HtS4
    iexact HtR4
  iintro ⟨HcS4, HO⟩
  iapply ((net m).wait 𝒱₀ K c (rcv 2) rfl rfl 5 rfl (fun k hk => level_lt 2 k (by decide) (by omega))) $$ [HcR2 HO HaR2]
  · isplitr; · iexact HR
    isplitr; · iexact HL
    isplitl [HcR2]; · iexact HcR2
    isplitl [HO]; · iexact HO
    iexact HaR2
  iintro ⟨HO, Hf5, HzR2⟩
  ihave Hf5 := (show (net m).pay (rcv 2) c ⊢ slab c (flipY c).val (out m) from Entails.of_eq rfl) $$ Hf5
  iapply ((net m).send 𝒱₀ K c 5 (sib c) rfl rfl rfl (src := slot (k0_off4 c) (k0_off4_inb c)) (dst := slot (k0_off4 c) (k0_off4_inb c))
    (Ss := cut blkOut (flipY c).val) (slot_set _ _ (k0_off4_inb c) (off4_at c)) (Sd := cut blkOut (flipY c).val) (slot_set _ _ (k0_off4_inb c) (off4_at c))
    (q := fullShare) (fs := out m) (fd := m (((sib c).tc : Thread nD τ).loc main_v1)) (out m) (rfl) rfl
    ((net m).owed 6 c) rfl rfl rfl (landing m c 5)) $$ [Hf5 Hd5 HO HtS5 HtR5]
  · isplitr; · iexact HR
    isplitl [Hf5]; · iexact Hf5
    isplitl [Hd5]; · iexact Hd5
    isplitl [HO]; · iexact HO
    isplitl [HtS5]; · iexact HtS5
    iexact HtR5
  iintro ⟨HcS5, HO⟩
  iapply ((net m).wait 𝒱₀ K c (rcv 3) rfl rfl 6 rfl (fun k hk => level_lt 3 k (by decide) (by omega))) $$ [HcR3 HO HaR3]
  · isplitr; · iexact HR
    isplitr; · iexact HL
    isplitl [HcR3]; · iexact HcR3
    isplitl [HO]; · iexact HO
    iexact HaR3
  iintro ⟨HO, Hf6, HzR3⟩
  ihave Hf6 := (show (net m).pay (rcv 3) c ⊢ slab c (flipXY c).val (out m) from Entails.of_eq rfl) $$ Hf6
  iapply ((net m).send 𝒱₀ K c 6 (sib c) rfl rfl rfl (src := slot (k0_off5 c) (k0_off5_inb c)) (dst := slot (k0_off5 c) (k0_off5_inb c))
    (Ss := cut blkOut (flipXY c).val) (slot_set _ _ (k0_off5_inb c) (off5_at c)) (Sd := cut blkOut (flipXY c).val) (slot_set _ _ (k0_off5_inb c) (off5_at c))
    (q := fullShare) (fs := out m) (fd := m (((sib c).tc : Thread nD τ).loc main_v1)) (out m) (rfl) rfl
    ((net m).owed 7 c) rfl rfl rfl (landing m c 6)) $$ [Hf6 Hd6 HO HtS6 HtR6]
  · isplitr; · iexact HR
    isplitl [Hf6]; · iexact Hf6
    isplitl [Hd6]; · iexact Hd6
    isplitl [HO]; · iexact HO
    isplitl [HtS6]; · iexact HtS6
    iexact HtR6
  iintro ⟨HcS6, HO⟩
  iapply ((net m).wait 𝒱₀ K c (rcv 0) rfl rfl 7 rfl (hlt _ 7 le_rfl)) $$ [HcR0 HO HaR0]
  · isplitr; · iexact HR
    isplitr; · iexact HL
    isplitl [HcR0]; · iexact HcR0
    isplitl [HO]; · iexact HO
    iexact HaR0
  iintro ⟨HO, Hd0, HzR0⟩
  iapply ((net m).wait 𝒱₀ K c (rcv 4) rfl rfl 7 rfl (hlt _ 7 le_rfl)) $$ [HcR4 HO HaR4]
  · isplitr; · iexact HR
    isplitr; · iexact HL
    isplitl [HcR4]; · iexact HcR4
    isplitl [HO]; · iexact HO
    iexact HaR4
  iintro ⟨HO, Hd4, HzR4⟩
  iapply ((net m).wait 𝒱₀ K c (rcv 5) rfl rfl 7 rfl (hlt _ 7 le_rfl)) $$ [HcR5 HO HaR5]
  · isplitr; · iexact HR
    isplitr; · iexact HL
    isplitl [HcR5]; · iexact HcR5
    isplitl [HO]; · iexact HO
    iexact HaR5
  iintro ⟨HO, Hd5, HzR5⟩
  iapply ((net m).wait 𝒱₀ K c (rcv 6) rfl rfl 7 rfl (hlt _ 7 le_rfl)) $$ [HcR6 HO HaR6]
  · isplitr; · iexact HR
    isplitr; · iexact HL
    isplitl [HcR6]; · iexact HcR6
    isplitl [HO]; · iexact HO
    iexact HaR6
  iintro ⟨HO, Hd6, HzR6⟩
  iapply ((net m).wait 𝒱₀ K c (snd 0) rfl rfl 7 rfl (hlt _ 7 le_rfl)) $$ [HcS0 HO HaS0]
  · isplitr; · iexact HR
    isplitr; · iexact HL
    isplitl [HcS0]; · iexact HcS0
    isplitl [HO]; · iexact HO
    iexact HaS0
  iintro ⟨HO, Hi0, HzS0⟩
  iapply ((net m).wait 𝒱₀ K c (snd 1) rfl rfl 7 rfl (hlt _ 7 le_rfl)) $$ [HcS1 HO HaS1]
  · isplitr; · iexact HR
    isplitr; · iexact HL
    isplitl [HcS1]; · iexact HcS1
    isplitl [HO]; · iexact HO
    iexact HaS1
  iintro ⟨HO, Hi1, HzS1⟩
  iapply ((net m).wait 𝒱₀ K c (snd 2) rfl rfl 7 rfl (hlt _ 7 le_rfl)) $$ [HcS2 HO HaS2]
  · isplitr; · iexact HR
    isplitr; · iexact HL
    isplitl [HcS2]; · iexact HcS2
    isplitl [HO]; · iexact HO
    iexact HaS2
  iintro ⟨HO, Hi2, HzS2⟩
  iapply ((net m).wait 𝒱₀ K c (snd 3) rfl rfl 7 rfl (hlt _ 7 le_rfl)) $$ [HcS3 HO HaS3]
  · isplitr; · iexact HR
    isplitr; · iexact HL
    isplitl [HcS3]; · iexact HcS3
    isplitl [HO]; · iexact HO
    iexact HaS3
  iintro ⟨HO, Hi3, HzS3⟩
  iapply ((net m).wait 𝒱₀ K c (snd 4) rfl rfl 7 rfl (hlt _ 7 le_rfl)) $$ [HcS4 HO HaS4]
  · isplitr; · iexact HR
    isplitr; · iexact HL
    isplitl [HcS4]; · iexact HcS4
    isplitl [HO]; · iexact HO
    iexact HaS4
  iintro ⟨HO, Hf4, HzS4⟩
  iapply ((net m).wait 𝒱₀ K c (snd 5) rfl rfl 7 rfl (hlt _ 7 le_rfl)) $$ [HcS5 HO HaS5]
  · isplitr; · iexact HR
    isplitr; · iexact HL
    isplitl [HcS5]; · iexact HcS5
    isplitl [HO]; · iexact HO
    iexact HaS5
  iintro ⟨HO, Hf5, HzS5⟩
  iapply ((net m).wait 𝒱₀ K c (snd 6) rfl rfl 7 rfl (hlt _ 7 le_rfl)) $$ [HcS6 HO HaS6]
  · isplitr; · iexact HR
    isplitr; · iexact HL
    isplitl [HcS6]; · iexact HcS6
    isplitl [HO]; · iexact HO
    iexact HaS6
  iintro ⟨HO, Hf6, HzS6⟩
  iapply ((net m).wait 𝒱₀ K c (lcl 0) rfl rfl 7 rfl (hlt _ 7 le_rfl)) $$ [HcL HO HaL]
  · isplitr; · iexact HR
    isplitr; · iexact HL
    isplitl [HcL]; · iexact HcL
    isplitl [HO]; · iexact HO
    iexact HaL
  iintro ⟨HO, Hl, HzL⟩
  ihave Hi0 := (show (net m).pay (snd 0) c ⊢ inp m (share 0) c from Entails.of_eq rfl) $$ Hi0
  ihave Hi1 := (show (net m).pay (snd 1) c ⊢ inp m (share 1) c from Entails.of_eq rfl) $$ Hi1
  ihave Hi2 := (show (net m).pay (snd 2) c ⊢ inp m (share 2) c from Entails.of_eq rfl) $$ Hi2
  ihave Hi3 := (show (net m).pay (snd 3) c ⊢ inp m (share 3) c from Entails.of_eq rfl) $$ Hi3
  ihave Hf4 := (show (net m).pay (snd 4) c ⊢ slab c (sent (peer 1 c) 1) (out m) from Entails.of_eq rfl) $$ Hf4
  ihave Hf5 := (show (net m).pay (snd 5) c ⊢ slab c (sent (peer 2 c) 2) (out m) from Entails.of_eq rfl) $$ Hf5
  ihave Hf6 := (show (net m).pay (snd 6) c ⊢ slab c (sent (peer 3 c) 3) (out m) from Entails.of_eq rfl) $$ Hf6
  ihave Hd0 := (show (net m).pay (rcv 0) c ⊢ slab c (sent (peer 0 c) 0) (out m) from Entails.of_eq rfl) $$ Hd0
  ihave Hd4 := (show (net m).pay (rcv 4) c ⊢ slab c (sent (peer 4 c) 4) (out m) from Entails.of_eq rfl) $$ Hd4
  ihave Hd5 := (show (net m).pay (rcv 5) c ⊢ slab c (sent (peer 5 c) 5) (out m) from Entails.of_eq rfl) $$ Hd5
  ihave Hd6 := (show (net m).pay (rcv 6) c ⊢ slab c (sent (peer 6 c) 6) (out m) from Entails.of_eq rfl) $$ Hd6
  ihave Hl := (show (net m).pay (lcl 0) c ⊢ iprop(slab c c.val (out m) ∗ inp m (share 4) c) from Entails.of_eq rfl) $$ Hl
  icases Hl with ⟨Ho, Hi4⟩
  rw [wp_ret]; imodintro
  unfold final
  isplitl [Hi0 Hi1 Hi2 Hi3 Hi4 Hir Ho Hd0 Hf4 Hf5 Hf6 Hd4 Hd5 Hd6 Hrest]
  · isplitl [Hi0 Hi1 Hi2 Hi3 Hi4 Hir]
    · iapply ((parts m c).2)
      isplitr [Hir]
      · isplitl [Hi0]; · iexact Hi0
        isplitl [Hi1]; · iexact Hi1
        isplitl [Hi2]; · iexact Hi2
        isplitl [Hi3]; · iexact Hi3
        iexact Hi4
      iexact Hir
    · iapply (filled m c (m ((c.tc : Thread nD τ).loc main_v1)))
      isplitr [Hrest]
      · isplitl [Ho]; · iexact Ho
        isplitl [Hd0]; · iexact Hd0
        isplitl [Hf4]; · iexact Hf4
        isplitl [Hf5]; · iexact Hf5
        isplitl [Hf6]; · iexact Hf6
        isplitl [Hd4]; · iexact Hd4
        isplitl [Hd5]; · iexact Hd5
        iexact Hd6
      iexact Hrest
  rw [(net m).zeros c]
  simp only [bigSep_fin7, bigSep_fin1]
  isplitr [HO]
  · isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0 HzR1 HzR2 HzR3 HzR4 HzR5 HzR6]
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      iexact HzR6
    iexact HzL
  ihave HO := (show iprop(∃ W, owes (c.tc : Thread nD τ) ((net m).owed 7 c) W) ⊢ (∃ W, owes (c.tc : Thread nD τ) (0 : CellTallies nD τ sig Unit) W : sProp 𝕄) from by
    rw [(net m).owed_end c]) $$ HO
  iexact HO

/-- The launch: every device ends with its input as it was and its output holding every device's block, every semaphore at zero. -/
theorem run (g : Dev nD → PrngReg) :
    θ_run (defs (F := F)) (onTc (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = out m) ∧ r.2.sem = fun _ => 0 := by
  refine (θ_run (defs (F := F)) _ _).mono (fun r h => ⟨h.1, sem_eq_zero_of_scoped (by decide) h.2⟩)
    ((net m).run cfgs cellOf_inj 0 defs₀ 𝒱₀ (fun _ => (inferInstance : IsEmpty (Fin 0))) N_0 winFacts0 ?_ scopedRest0_eq m g main (fun _ => rfl)
      (own m) (final m) (piece m) (launch_mem m) (body m)
      (fun c s' => s'.mem ((c.tc : Thread nD τ).loc main_arg0) = m ((c.tc : Thread nD τ).loc main_arg0)
        ∧ s'.mem ((c.tc : Thread nD τ).loc main_v1) = out m) (fun c s' => read_two _ _ _ _ s'))
  exact ⟨by show ∀ i : Cell 7 1, (semOf i).isScoped .tc = true; decide, (net m).sem_inj, fun _ w => w.elim0⟩

end Cert.GatherIdeal.Exchange

end
-- ==== Proof.Exchange.GatherClaim.lean ====
/-
# The claims about the gathering of the weights

The reference returns the whole array of weights, of which each chip holds its part, the same on both its cores. That
array is what every device of the kernel's run ends with (`value`).
-/
module

public import proofs.«01_k».proof.Defs
public import proofs.«01_k».proof.Proof.Exchange.Gather
public import proofs.«01_k».proof.Proof.Gen.Gather
public import proofs.«01_k».proof.Proof.Gen.GatherRef
public import proofs.«01_k».proof.Proof.Gen.GatherRefIdeal
public import Idealize.ShloMosaic.Lib.StableHlo.Run
public import Idealize.ShloMosaic.Lib.ValueIdxCore

@[expose] public section

noncomputable section

namespace Cert.GatherIdeal.Exchange

open Idealize.ShloMosaic Idealize.ShloMosaic.TcCoe Idealize.SL.Sem

variable {F : FTy → Type} [FloatOps F]

/-- The reference's run leaves its argument, which is its result, as it was. -/
theorem identity_run (m : (ℓ : Loc GatherRefIdeal.nD GatherRefIdeal.τ GatherRefIdeal.sig) → Buf (Elt F) ℓ) (ρ : Dev GatherRefIdeal.nD → PrngReg) :
    θ_run (GatherRefIdeal.defs (F := F)) (onTc (τ := GatherRefIdeal.τ) (GatherRefIdeal.main (F := F))) ⟨m, fun _ => 0, ρ⟩ fun r => ∀ c : Dev GatherRefIdeal.nD,
      r.2.mem ((c.tc : Thread GatherRefIdeal.nD GatherRefIdeal.τ).loc GatherRefIdeal.main_arg0) = m ((c.tc : Thread GatherRefIdeal.nD GatherRefIdeal.τ).loc GatherRefIdeal.main_arg0) :=
  (θ_run GatherRefIdeal.defs _ _).mono (fun _ h c => h c GatherRefIdeal.main_arg0)
    (StableHlo.run_seq (by decide) (by decide) GatherRefIdeal.defs GatherRefIdeal.main (fun _ => []) (fun _ => rfl) (fun _ => trivial) m ρ)

/-- From devices that hold their chips' parts of `x`, each ends with all of it. -/
theorem value (m : (ℓ : Loc GatherIdeal.nD GatherIdeal.τ GatherIdeal.sig) → Buf (Elt F) ℓ) (x : S16384x1024.Idx → Elt F .bf16)
    (hx : ∀ c : Dev GatherIdeal.nD, src m c = Layout.blockN ⟨2, ![4096, 1024]⟩ ⟨2, ![16384, 1024]⟩ (Layout.meshBlock [2, 2, 2] ![[0, 1], []] c) x) :
    out m = x := by
  funext i
  have hi : (i 0).val < 16384 := (i 0).isLt
  have hm : ∀ c : Dev GatherIdeal.nD, ((Layout.meshBlock [2, 2, 2] (![[0, 1], []] : Fin 2 → List ℕ) c) 0).val = c.val / 2 := by decide
  have hz : ∀ c : Dev GatherIdeal.nD, ((Layout.meshBlock [2, 2, 2] (![[0, 1], []] : Fin 2 → List ℕ) c) 1).val = 0 := by decide
  let d : Dev GatherIdeal.nD := ⟨(i 0).val / 2048, by show (i 0).val / 2048 < 8; omega⟩
  show src m d (ValueIdx.ix2 (⟨2048 * ((i 0).val / 2048 % 2) + (i 0).val % 2048, by omega⟩ : Fin 4096) (i 1)) = x i
  rw [hx, Layout.blockN_apply]
  congr 1
  funext a
  match a with
  | 0 =>
    apply Fin.ext
    show ((Layout.meshBlock [2, 2, 2] (![[0, 1], []] : Fin 2 → List ℕ) d) 0).val * 4096 + (2048 * ((i 0).val / 2048 % 2) + (i 0).val % 2048) = (i 0).val
    rw [hm]
    show (i 0).val / 2048 / 2 * 4096 + (2048 * ((i 0).val / 2048 % 2) + (i 0).val % 2048) = (i 0).val
    omega
  | 1 =>
    apply Fin.ext
    show ((Layout.meshBlock [2, 2, 2] (![[0, 1], []] : Fin 2 → List ℕ) d) 1).val * 1024 + (i 1).val = (i 1).val
    rw [hz]
    omega

/-! ## The claims -/

theorem frame_kernel : Cert.quiescent_Gather := fun m ρ _ =>
  (θ_run Cert.GatherIdeal.defs _ _).mono (fun _ h => ⟨fun c => (h.1 c).1, h.2⟩) (run (F := Bits) m ρ)

theorem frame_kernelIdeal : Cert.quiescent_GatherIdeal := fun m ρ _ =>
  (θ_run Cert.GatherIdeal.defs _ _).mono (fun _ h => ⟨fun c => (h.1 c).1, h.2⟩) (run (F := Ideal) m ρ)

theorem frame_ref : Cert.quiescent_GatherRef := fun m ρ _ =>
  (θ_run Cert.GatherRefIdeal.defs _ _).mono (fun r h => ⟨h, sem_eq_zero_of_no_sems (by decide) r.2⟩) (identity_run (F := Bits) m ρ)

theorem frame_refIdeal : Cert.quiescent_GatherRefIdeal := fun m ρ _ =>
  (θ_run Cert.GatherRefIdeal.defs _ _).mono (fun r h => ⟨h, sem_eq_zero_of_no_sems (by decide) r.2⟩) (identity_run (F := Ideal) m ρ)

theorem preserves : Cert.preserves_Gather_GatherIdeal := trivial

/-- In exact arithmetic each device ends with what the reference returns. -/
theorem algebraic : Cert.algebraic_GatherIdeal_GatherRefIdeal := by
  intro m g m' g' _ hx
  refine ⟨m' (((0 : Dev Cert.GatherRefIdeal.nD).tc : Thread Cert.GatherRefIdeal.nD Cert.GatherRefIdeal.τ).loc Cert.GatherRefIdeal.main_arg0), ?_, ?_⟩
  · exact (θ_run Cert.GatherIdeal.defs _ _).mono (fun _ h c => ⟨(h.1 c).2.trans (value (F := Ideal) m _ hx), (h.1 c).1⟩) (run (F := Ideal) m g)
  · exact (θ_run Cert.GatherRefIdeal.defs _ _).mono (fun _ h => ⟨h 0, h 0⟩) (identity_run (F := Ideal) m' g')

/-- The same bit for bit. -/
theorem bitexact : Cert.bitexact_Gather_GatherRef := by
  intro m g m' g' _ hx
  refine ⟨m' (((0 : Dev Cert.GatherRefIdeal.nD).tc : Thread Cert.GatherRefIdeal.nD Cert.GatherRefIdeal.τ).loc Cert.GatherRefIdeal.main_arg0), ?_, ?_⟩
  · exact (θ_run Cert.GatherIdeal.defs _ _).mono (fun _ h c => ⟨(h.1 c).2.trans (value (F := Bits) m _ hx), (h.1 c).1⟩) (run (F := Bits) m g)
  · exact (θ_run Cert.GatherRefIdeal.defs _ _).mono (fun _ h => ⟨h 0, h 0⟩) (identity_run (F := Bits) m' g')

end Cert.GatherIdeal.Exchange

end
-- ==== Proof.Exchange.Sibling.lean ====
/-
# The exchange of half slabs between the two cores of a chip

Of each of its four slabs a device sends its sibling core the half of the rows that is the sibling's. `run` is the
launch: every device ends with its input as it was and its output holding its half of the sibling's four slabs.
-/
module

public import proofs.«01_k».proof.Proof.Talk.Blocks
public import proofs.«01_k».proof.Proof.Gen.SiblingIdeal.Launch
public import proofs.«01_k».proof.Proof.Gen.SiblingIdeal.Skeleton
public import proofs.«01_k».proof.Proof.Gen.SiblingIdeal.Points
public import Idealize.ShloMosaic.Lib.Exec.Geometry
public import Idealize.ShloMosaic.Lib.ValueIdxCore

@[expose] public section

noncomputable section

namespace Cert.SiblingIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Talk Cert.Talk.Net Cert.SiblingIdeal.Gen

variable {F : FTy → Type} [FloatOps F]

local notation "𝕄" => MT nD τ sig Unit (Elt F) ℕ (GU nD τ sig) ℕ

/-! ## Where the slabs go -/

/-- The other core of a device's chip. -/
def sib (c : Dev nD) : Dev nD := ⟨k0_dev1 c, k0_dev1_lt c⟩

theorem sib_sib (c : Dev nD) : sib (sib c) = c := by revert c; decide

theorem dev1_eq (c : Dev nD) : (⟨k0_dev1 c, k0_dev1_lt c⟩ : Dev nD) = sib c := rfl
theorem dev2_eq (c : Dev nD) : (⟨k0_dev2 c, k0_dev2_lt c⟩ : Dev nD) = sib c := by revert c; decide
theorem dev3_eq (c : Dev nD) : (⟨k0_dev3 c, k0_dev3_lt c⟩ : Dev nD) = sib c := by revert c; decide
theorem dev4_eq (c : Dev nD) : (⟨k0_dev4 c, k0_dev4_lt c⟩ : Dev nD) = sib c := by revert c; decide

/-- The half slabs of the input, numbered. -/
def blkIn (i : S4x4096x1024.Idx) : ℕ := 2 * (i 0).val + (i 1).val / 2048

/-- The slabs of the output, numbered. -/
def blkOut (i : S4x2048x1024.Idx) : ℕ := (i 0).val

/-- Which half of slab `k` device `c` sends. -/
def sent (c : Dev nD) (k : Fin 4) : ℕ := 2 * k.val + (1 - c.val % 2)

theorem sent_inj (c : Dev nD) : Function.Injective (sent c) := fun a b h => Fin.ext (by unfold sent at h; omega)

/-- A half slab of the input, as a copy names it. -/
abbrev part (o : Fin 3 → ℕ) (h : ∀ a, o a + S1x2048x1024.size a ≤ S4x4096x1024.size a) : Memref sig .tc .hbm S2048x1024 .f32 :=
  ((Memref.whole main_arg0 : Memref sig .tc .hbm S4x4096x1024 .f32).slice (Rect.unit (s := S4x4096x1024) o S1x2048x1024.size h) (fun _ => rfl)).squeeze
    S2048x1024 squeezes_S1x2048x1024_S2048x1024

/-- A slab of the output, as a copy names it. -/
abbrev slot (o : Fin 3 → ℕ) (h : ∀ a, o a + S1x2048x1024.size a ≤ S4x2048x1024.size a) : Memref sig .tc .hbm S2048x1024 .f32 :=
  ((Memref.whole main_v1 : Memref sig .tc .hbm S4x2048x1024 .f32).slice (Rect.unit (s := S4x2048x1024) o S1x2048x1024.size h) (fun _ => rfl)).squeeze
    S2048x1024 squeezes_S1x2048x1024_S2048x1024

theorem part_set (c : Dev nD) (k : Fin 4) (o : Fin 3 → ℕ) (h : ∀ a, o a + S1x2048x1024.size a ≤ S4x4096x1024.size a) (ho : o = ![k.val, 2048 - 2048 * (c.val % 2), 0]) :
    (part o h).view.set = cut blkIn (sent c k) := by
  subst ho
  refine (Memref.set_view_squeeze _ _).trans ((View.set_slice_whole _ _).trans ?_)
  ext i
  rw [Rect.mem_set_unit, mem_cut]
  have h0 : (i 0).val < 4 := (i 0).isLt
  have h1 : (i 1).val < 4096 := (i 1).isLt
  have h2 : (i 2).val < 1024 := (i 2).isLt
  unfold blkIn sent
  constructor
  · intro h
    have a0 : k.val ≤ (i 0).val ∧ (i 0).val < k.val + 1 := h 0
    have a1 : 2048 - 2048 * (c.val % 2) ≤ (i 1).val ∧ (i 1).val < 2048 - 2048 * (c.val % 2) + 2048 := h 1
    omega
  · intro h a
    match a with
    | 0 => show k.val ≤ (i 0).val ∧ (i 0).val < k.val + 1; omega
    | 1 => show 2048 - 2048 * (c.val % 2) ≤ (i 1).val ∧ (i 1).val < 2048 - 2048 * (c.val % 2) + 2048; omega
    | 2 => show 0 ≤ (i 2).val ∧ (i 2).val < 0 + 1024; omega

theorem slot_set (k : ℕ) (h : ∀ a, (![k, 0, 0] : Fin 3 → ℕ) a + S1x2048x1024.size a ≤ S4x2048x1024.size a) : (slot ![k, 0, 0] h).view.set = cut blkOut k := by
  refine (Memref.set_view_squeeze _ _).trans ((View.set_slice_whole _ _).trans ?_)
  ext i
  rw [Rect.mem_set_unit, mem_cut]
  have h1 : (i 1).val < 2048 := (i 1).isLt
  have h2 : (i 2).val < 1024 := (i 2).isLt
  unfold blkOut
  constructor
  · intro h
    have a0 : k ≤ (i 0).val ∧ (i 0).val < k + 1 := h 0
    omega
  · intro h a
    match a with
    | 0 => show k ≤ (i 0).val ∧ (i 0).val < k + 1; omega
    | 1 => show 0 ≤ (i 1).val ∧ (i 1).val < 0 + 2048; omega
    | 2 => show 0 ≤ (i 2).val ∧ (i 2).val < 0 + 1024; omega

variable (m : (ℓ : Loc nD τ sig) → Buf (Elt F) ℓ)

/-- What a device holds at launch. -/
def src (c : Dev nD) : S4x4096x1024.Idx → Elt F .f32 := m ((c.tc : Thread nD τ).loc main_arg0)

/-- What a device's output holds at the end: its half of each of the sibling's slabs. -/
def out (c : Dev nD) : S4x2048x1024.Idx → Elt F .f32 := fun i =>
  src m (sib c) (ValueIdx.ix3 (i 0) (⟨2048 * (c.val % 2) + (i 1).val, by have : (i 1).val < 2048 := (i 1).isLt; omega⟩ : Fin 4096) (i 2))

theorem part_read (c : Dev nD) (k : ℕ) (o : Fin 3 → ℕ) (h : ∀ a, o a + S1x2048x1024.size a ≤ S4x4096x1024.size a) (ho : o = ![k, 2048 - 2048 * (c.val % 2), 0])
    (h' : ∀ a, (![k, 0, 0] : Fin 3 → ℕ) a + S1x2048x1024.size a ≤ S4x2048x1024.size a) :
    (slot ![k, 0, 0] h').view.read (Elt F) (out m (sib c)) = (part o h).view.read (Elt F) (src m c) := by
  subst ho
  funext x
  let y : S1x2048x1024.Idx := Shape.reshapeEquiv squeezes_S1x2048x1024_S2048x1024.numel_eq x
  show out m (sib c) ((Rect.unit (s := S4x2048x1024) ![k, 0, 0] S1x2048x1024.size h').emb y)
    = src m c ((Rect.unit (s := S4x4096x1024) ![k, 2048 - 2048 * (c.val % 2), 0] S1x2048x1024.size h).emb y)
  unfold out
  rw [sib_sib]
  congr 1
  have hs : ∀ c : Dev nD, (sib c).val % 2 = 1 - c.val % 2 := by decide
  funext a
  match a with
  | 0 => rfl
  | 1 =>
    apply Fin.ext
    show 2048 * ((sib c).val % 2) + (0 + 1 * (y 1).val) = 2048 - 2048 * (c.val % 2) + 1 * (y 1).val
    rw [hs]; omega
  | 2 => rfl

/-! ## The protocol -/

/-- A half slab of a device's input. -/
abbrev inp (c : Dev nD) (v : ℕ) : sProp 𝕄 := ((c.tc : Thread nD τ).loc main_arg0) ↦[cut blkIn v]{fullShare} src m c

/-- Slab `v` of a device's output, at contents `f`. -/
abbrev slab (c : Dev nD) (v : ℕ) (f : S4x2048x1024.Idx → Elt F .f32) : sProp 𝕄 := ((c.tc : Thread nD τ).loc main_v1) ↦[cut blkOut v]{fullShare} f

instance inp_storable (c : Dev nD) (v : ℕ) : BI.Storable (upEmb : UEmb _ 𝕄) (inp m c v) := by unfold inp; infer_instance

instance slab_storable (c : Dev nD) (v : ℕ) (f : S4x2048x1024.Idx → Elt F .f32) : BI.Storable (upEmb : UEmb _ 𝕄) (slab c v f : sProp 𝕄) := by
  unfold slab; infer_instance

/-- Send semaphore `k`, then landing semaphore `k`. -/
def semOf : Cell 4 0 → SemLoc sig
  | .inl k => .dma (((cc0_scratch0.slice (Rect.unit (s := S4) ![k.val] S1.size (by revert k; decide))).squeeze S_ squeezes_S1_S_).sem)
  | .inr (.inl k) => .dma (((cc0_scratch1.slice (Rect.unit (s := S4) ![k.val] S1.size (by revert k; decide))).squeeze S_ squeezes_S1_S_).sem)
  | .inr (.inr l) => l.elim0

/-- The four sends, all to the sibling. -/
def net : Net nD τ sig (Elt F) 4 0 where
  sem := semOf
  sem_inj := by decide
  peer _ := sib
  peer_peer _ := sib_sib
  N := (slot ![0, 0, 0] inb_S4x2048x1024_S1x2048x1024_0_0_0).view.dmaCredit
  N_pos := View.dmaCredit_pos _ (by decide)
  pay i d := match i with
    | .inl k => inp m d (sent d k)
    | .inr (.inl k) => slab d k.val (out m d)
    | .inr (.inr l) => l.elim0
  pay_storable i d := by
    rcases i with _ | _ | l
    · dsimp only; infer_instance
    · dsimp only; infer_instance
    · exact l.elim0
  lev _ := 0

/-- What a device keeps of the memory: its input, and what of its output nobody fills, which is nothing. -/
def own (c : Dev nD) : sProp 𝕄 :=
  iprop((((c.tc : Thread nD τ).loc main_arg0) ↦[Finset.univ]{fullShare} src m c)
    ∗ ((c.tc : Thread nD τ).loc main_v1) ↦[rest blkOut (fun k : Fin 4 => k.val)]{fullShare} m ((c.tc : Thread nD τ).loc main_v1))

/-- What a device's sibling fills by send `k`. -/
def piece (c : Dev nD) (k : Fin 4) : sProp 𝕄 := slab c k.val (m ((c.tc : Thread nD τ).loc main_v1))

/-- What a device ends with: its input as it was, its output filled. -/
def final (c : Dev nD) : sProp 𝕄 :=
  iprop((((c.tc : Thread nD τ).loc main_arg0) ↦[Finset.univ]{fullShare} src m c) ∗ (((c.tc : Thread nD τ).loc main_v1) ↦[Finset.univ]{fullShare} out m c))

theorem slabs (c : Dev nD) (f : S4x2048x1024.Idx → Elt F .f32) :
    (((c.tc : Thread nD τ).loc main_v1) ↦[Finset.univ]{fullShare} f : sProp 𝕄)
      ⊣⊢ iprop((bigSep Finset.univ fun k : Fin 4 => slab c k.val f) ∗ ((c.tc : Thread nD τ).loc main_v1) ↦[rest blkOut (fun k : Fin 4 => k.val)]{fullShare} f) :=
  carve ((c.tc : Thread nD τ).loc main_v1) fullShare f blkOut (fun k : Fin 4 => k.val) Fin.val_injective

theorem parts (c : Dev nD) :
    (((c.tc : Thread nD τ).loc main_arg0) ↦[Finset.univ]{fullShare} src m c : sProp 𝕄)
      ⊣⊢ iprop((inp m c (sent c 0) ∗ inp m c (sent c 1) ∗ inp m c (sent c 2) ∗ inp m c (sent c 3))
        ∗ ((c.tc : Thread nD τ).loc main_arg0) ↦[rest blkIn (sent c)]{fullShare} src m c) := by
  have h := carve (Val := Elt F) ((c.tc : Thread nD τ).loc main_arg0) fullShare (src m c) blkIn (sent c) (sent_inj c)
  rw [bigSep_fin4] at h
  exact h

/-- The output, once every slab is filled. -/
theorem filled (c : Dev nD) (f : S4x2048x1024.Idx → Elt F .f32) :
    iprop((slab c 0 (out m c) ∗ slab c 1 (out m c) ∗ slab c 2 (out m c) ∗ slab c 3 (out m c))
        ∗ ((c.tc : Thread nD τ).loc main_v1) ↦[rest blkOut (fun k : Fin 4 => k.val)]{fullShare} f)
      ⊢ (((c.tc : Thread nD τ).loc main_v1) ↦[Finset.univ]{fullShare} out m c : sProp 𝕄) := by
  have hr := rest_congr (Val := Elt F) ((c.tc : Thread nD τ).loc main_v1) fullShare f (out m c) blkOut (fun k : Fin 4 => k.val) (fun i => ⟨i 0, rfl⟩)
  have h := (slabs (F := F) c (out m c)).2
  rw [bigSep_fin4] at h
  rw [hr]
  exact h

/-- At launch a device's memory is its own part and the slabs its sibling fills. -/
theorem launch_mem (c : Dev nD) : (unscopedBufs c (fun b => m ((c.tc : Thread nD τ).loc b)) : sProp 𝕄)
    ⊢ iprop(own m c ∗ bigSep Finset.univ fun k : Fin 4 => piece m c k) := by
  rw [Pipeline.unscopedBufs_split cfgs (0 : Fin 1) (fun w => w.elim0) (fun w => w.elim0) c, unscopedRest0_eq]
  iintro ⟨-, Ha, Hv⟩
  ihave Hv := ((slabs c (m ((c.tc : Thread nD τ).loc main_v1))).1) $$ Hv
  icases Hv with ⟨Hp, Hr⟩
  unfold own piece
  isplitl [Ha Hr]
  · isplitl [Ha]; · unfold src; iexact Ha
    iexact Hr
  iexact Hp

/-- The slabs a device is to fill, on its sibling. -/
theorem theirs (c : Dev nD) : (bigSep Finset.univ fun k : Fin 4 => (piece m ((net m).peer k c) k : sProp 𝕄))
    = iprop(slab (sib c) 0 (m (((sib c).tc : Thread nD τ).loc main_v1)) ∗ slab (sib c) 1 (m (((sib c).tc : Thread nD τ).loc main_v1))
      ∗ slab (sib c) 2 (m (((sib c).tc : Thread nD τ).loc main_v1)) ∗ slab (sib c) 3 (m (((sib c).tc : Thread nD τ).loc main_v1))) := by
  rw [bigSep_fin4]; rfl

/-! ## One device's run -/

abbrev 𝒱₀ : Variants := Variants.none

set_option maxHeartbeats 1600000 in
/-- The body of a device, from its hand and its part of the memory to its output filled. -/
theorem body (c : Dev nD) (t : Fin cfg0.N) :
    iprop((net m).given ((net m).part (own m) (piece m)) c ∗ ∃ W, owes (c.tc : Thread nD τ) ((net m).owed 0 c) W)
      ⊢ wp frame (wpE (defs₀ (F := F)) 𝒱₀ (c.tc : Thread nD τ) none) Set.univ (bodyAt0 (F := F) t) fun _ =>
        iprop(final m c ∗ ownSems0 (net m).sem c ∗ ∃ W, owes (c.tc : Thread nD τ) (0 : CellTallies nD τ sig Unit) W) := by
  have hlt (i : Cell 4 0) (j : ℕ) (hj : 4 ≤ j) : ∀ k : Fin 4, j ≤ k.val → (net m).lev ((net m).sem i) < (net m).lev ((net m).sem (rcv k)) :=
    fun k hk => by omega
  iintro ⟨HG, HO⟩
  unfold Net.given
  icases HG with ⟨%K, #HR, #HL, Hh, Hm⟩
  ihave Hh := (Entails.of_eq ((net m).hand_split c)) $$ Hh
  simp only [bigSep_fin4, bigSep_fin0]
  icases Hh with ⟨⟨⟨HaS0, HaS1, HaS2, HaS3⟩, ⟨HaR0, HaR1, HaR2, HaR3⟩, -⟩, ⟨HtS0, HtS1, HtS2, HtS3⟩, ⟨HtR0, HtR1, HtR2, HtR3⟩, -, HcR0, HcR1, HcR2, HcR3⟩
  unfold Net.part
  icases Hm with ⟨Hown, Hpc⟩
  ihave Hpc := (Entails.of_eq (theirs m c)) $$ Hpc
  icases Hpc with ⟨Hd0, Hd1, Hd2, Hd3⟩
  unfold own
  icases Hown with ⟨Hi, Hrest⟩
  ihave Hi := ((parts m c).1) $$ Hi
  icases Hi with ⟨⟨Hi0, Hi1, Hi2, Hi3⟩, Hir⟩
  unfold bodyAt0
  simp only [cc0_rs_sibling_eq_skeleton]
  unfold cc0_rs_sibling_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId, dev1_eq, dev2_eq, dev3_eq, dev4_eq]
  iapply ((net m).send 𝒱₀ K c 0 (sib c) rfl rfl rfl (src := part (k0_off1 c) (k0_off1_inb c)) (dst := slot ![0, 0, 0] inb_S4x2048x1024_S1x2048x1024_0_0_0)
    (Ss := cut blkIn (sent c 0)) (part_set c 0 _ (k0_off1_inb c) (k0_off1_eq c)) (Sd := cut blkOut 0) (slot_set 0 inb_S4x2048x1024_S1x2048x1024_0_0_0)
    (q := fullShare) (fs := src m c) (fd := m (((sib c).tc : Thread nD τ).loc main_v1)) (out m (sib c)) (part_read m c 0 _ _ (k0_off1_eq c) _) rfl
    ((net m).owed 1 c) rfl rfl rfl rfl) $$ [Hi0 Hd0 HO HtS0 HtR0]
  · isplitr; · iexact HR
    isplitl [Hi0]; · iexact Hi0
    isplitl [Hd0]; · iexact Hd0
    isplitl [HO]; · iexact HO
    isplitl [HtS0]; · iexact HtS0
    iexact HtR0
  iintro ⟨HcS0, HO⟩
  iapply ((net m).send 𝒱₀ K c 1 (sib c) rfl rfl rfl (src := part (k0_off2 c) (k0_off2_inb c)) (dst := slot ![1, 0, 0] inb_S4x2048x1024_S1x2048x1024_1_0_0)
    (Ss := cut blkIn (sent c 1)) (part_set c 1 _ (k0_off2_inb c) (k0_off2_eq c)) (Sd := cut blkOut 1) (slot_set 1 inb_S4x2048x1024_S1x2048x1024_1_0_0)
    (q := fullShare) (fs := src m c) (fd := m (((sib c).tc : Thread nD τ).loc main_v1)) (out m (sib c)) (part_read m c 1 _ _ (k0_off2_eq c) _) rfl
    ((net m).owed 2 c) rfl rfl rfl rfl) $$ [Hi1 Hd1 HO HtS1 HtR1]
  · isplitr; · iexact HR
    isplitl [Hi1]; · iexact Hi1
    isplitl [Hd1]; · iexact Hd1
    isplitl [HO]; · iexact HO
    isplitl [HtS1]; · iexact HtS1
    iexact HtR1
  iintro ⟨HcS1, HO⟩
  iapply ((net m).send 𝒱₀ K c 2 (sib c) rfl rfl rfl (src := part (k0_off3 c) (k0_off3_inb c)) (dst := slot ![2, 0, 0] inb_S4x2048x1024_S1x2048x1024_2_0_0)
    (Ss := cut blkIn (sent c 2)) (part_set c 2 _ (k0_off3_inb c) (k0_off3_eq c)) (Sd := cut blkOut 2) (slot_set 2 inb_S4x2048x1024_S1x2048x1024_2_0_0)
    (q := fullShare) (fs := src m c) (fd := m (((sib c).tc : Thread nD τ).loc main_v1)) (out m (sib c)) (part_read m c 2 _ _ (k0_off3_eq c) _) rfl
    ((net m).owed 3 c) rfl rfl rfl rfl) $$ [Hi2 Hd2 HO HtS2 HtR2]
  · isplitr; · iexact HR
    isplitl [Hi2]; · iexact Hi2
    isplitl [Hd2]; · iexact Hd2
    isplitl [HO]; · iexact HO
    isplitl [HtS2]; · iexact HtS2
    iexact HtR2
  iintro ⟨HcS2, HO⟩
  iapply ((net m).send 𝒱₀ K c 3 (sib c) rfl rfl rfl (src := part (k0_off4 c) (k0_off4_inb c)) (dst := slot ![3, 0, 0] inb_S4x2048x1024_S1x2048x1024_3_0_0)
    (Ss := cut blkIn (sent c 3)) (part_set c 3 _ (k0_off4_inb c) (k0_off4_eq c)) (Sd := cut blkOut 3) (slot_set 3 inb_S4x2048x1024_S1x2048x1024_3_0_0)
    (q := fullShare) (fs := src m c) (fd := m (((sib c).tc : Thread nD τ).loc main_v1)) (out m (sib c)) (part_read m c 3 _ _ (k0_off4_eq c) _) rfl
    ((net m).owed 4 c) rfl rfl rfl rfl) $$ [Hi3 Hd3 HO HtS3 HtR3]
  · isplitr; · iexact HR
    isplitl [Hi3]; · iexact Hi3
    isplitl [Hd3]; · iexact Hd3
    isplitl [HO]; · iexact HO
    isplitl [HtS3]; · iexact HtS3
    iexact HtR3
  iintro ⟨HcS3, HO⟩
  iapply ((net m).wait 𝒱₀ K c (snd 0) rfl rfl 4 rfl (hlt _ 4 le_rfl)) $$ [HcS0 HO HaS0]
  · isplitr; · iexact HR
    isplitr; · iexact HL
    isplitl [HcS0]; · iexact HcS0
    isplitl [HO]; · iexact HO
    iexact HaS0
  iintro ⟨HO, Hi0, HzS0⟩
  iapply ((net m).wait 𝒱₀ K c (rcv 0) rfl rfl 4 rfl (hlt _ 4 le_rfl)) $$ [HcR0 HO HaR0]
  · isplitr; · iexact HR
    isplitr; · iexact HL
    isplitl [HcR0]; · iexact HcR0
    isplitl [HO]; · iexact HO
    iexact HaR0
  iintro ⟨HO, Hd0, HzR0⟩
  iapply ((net m).wait 𝒱₀ K c (snd 1) rfl rfl 4 rfl (hlt _ 4 le_rfl)) $$ [HcS1 HO HaS1]
  · isplitr; · iexact HR
    isplitr; · iexact HL
    isplitl [HcS1]; · iexact HcS1
    isplitl [HO]; · iexact HO
    iexact HaS1
  iintro ⟨HO, Hi1, HzS1⟩
  iapply ((net m).wait 𝒱₀ K c (rcv 1) rfl rfl 4 rfl (hlt _ 4 le_rfl)) $$ [HcR1 HO HaR1]
  · isplitr; · iexact HR
    isplitr; · iexact HL
    isplitl [HcR1]; · iexact HcR1
    isplitl [HO]; · iexact HO
    iexact HaR1
  iintro ⟨HO, Hd1, HzR1⟩
  iapply ((net m).wait 𝒱₀ K c (snd 2) rfl rfl 4 rfl (hlt _ 4 le_rfl)) $$ [HcS2 HO HaS2]
  · isplitr; · iexact HR
    isplitr; · iexact HL
    isplitl [HcS2]; · iexact HcS2
    isplitl [HO]; · iexact HO
    iexact HaS2
  iintro ⟨HO, Hi2, HzS2⟩
  iapply ((net m).wait 𝒱₀ K c (rcv 2) rfl rfl 4 rfl (hlt _ 4 le_rfl)) $$ [HcR2 HO HaR2]
  · isplitr; · iexact HR
    isplitr; · iexact HL
    isplitl [HcR2]; · iexact HcR2
    isplitl [HO]; · iexact HO
    iexact HaR2
  iintro ⟨HO, Hd2, HzR2⟩
  iapply ((net m).wait 𝒱₀ K c (snd 3) rfl rfl 4 rfl (hlt _ 4 le_rfl)) $$ [HcS3 HO HaS3]
  · isplitr; · iexact HR
    isplitr; · iexact HL
    isplitl [HcS3]; · iexact HcS3
    isplitl [HO]; · iexact HO
    iexact HaS3
  iintro ⟨HO, Hi3, HzS3⟩
  iapply ((net m).wait 𝒱₀ K c (rcv 3) rfl rfl 4 rfl (hlt _ 4 le_rfl)) $$ [HcR3 HO HaR3]
  · isplitr; · iexact HR
    isplitr; · iexact HL
    isplitl [HcR3]; · iexact HcR3
    isplitl [HO]; · iexact HO
    iexact HaR3
  iintro ⟨HO, Hd3, HzR3⟩
  ihave Hi0 := (show (net m).pay (snd 0) c ⊢ inp m c (sent c 0) from Entails.of_eq rfl) $$ Hi0
  ihave Hd0 := (show (net m).pay (rcv 0) c ⊢ slab c 0 (out m c) from Entails.of_eq rfl) $$ Hd0
  ihave Hi1 := (show (net m).pay (snd 1) c ⊢ inp m c (sent c 1) from Entails.of_eq rfl) $$ Hi1
  ihave Hd1 := (show (net m).pay (rcv 1) c ⊢ slab c 1 (out m c) from Entails.of_eq rfl) $$ Hd1
  ihave Hi2 := (show (net m).pay (snd 2) c ⊢ inp m c (sent c 2) from Entails.of_eq rfl) $$ Hi2
  ihave Hd2 := (show (net m).pay (rcv 2) c ⊢ slab c 2 (out m c) from Entails.of_eq rfl) $$ Hd2
  ihave Hi3 := (show (net m).pay (snd 3) c ⊢ inp m c (sent c 3) from Entails.of_eq rfl) $$ Hi3
  ihave Hd3 := (show (net m).pay (rcv 3) c ⊢ slab c 3 (out m c) from Entails.of_eq rfl) $$ Hd3
  rw [wp_ret]; imodintro
  unfold final
  isplitl [Hi0 Hi1 Hi2 Hi3 Hir Hd0 Hd1 Hd2 Hd3 Hrest]
  · isplitl [Hi0 Hi1 Hi2 Hi3 Hir]
    · iapply ((parts m c).2)
      isplitr [Hir]
      · isplitl [Hi0]; · iexact Hi0
        isplitl [Hi1]; · iexact Hi1
        isplitl [Hi2]; · iexact Hi2
        iexact Hi3
      iexact Hir
    · iapply (filled m c (m ((c.tc : Thread nD τ).loc main_v1)))
      isplitr [Hrest]
      · isplitl [Hd0]; · iexact Hd0
        isplitl [Hd1]; · iexact Hd1
        isplitl [Hd2]; · iexact Hd2
        iexact Hd3
      iexact Hrest
  rw [(net m).zeros c]
  simp only [bigSep_fin4, bigSep_fin0]
  isplitr [HO]
  · isplitl [HzS0 HzS1 HzS2 HzS3]
    · isplitl [HzS0]; · iexact HzS0
      isplitl [HzS1]; · iexact HzS1
      isplitl [HzS2]; · iexact HzS2
      iexact HzS3
    isplitl [HzR0 HzR1 HzR2 HzR3]
    · isplitl [HzR0]; · iexact HzR0
      isplitl [HzR1]; · iexact HzR1
      isplitl [HzR2]; · iexact HzR2
      iexact HzR3
    iempintro
  ihave HO := (show iprop(∃ W, owes (c.tc : Thread nD τ) ((net m).owed 4 c) W) ⊢ (∃ W, owes (c.tc : Thread nD τ) (0 : CellTallies nD τ sig Unit) W : sProp 𝕄) from by
    rw [(net m).owed_end c]) $$ HO
  iexact HO

/-- The launch: every device ends with its input as it was and its output holding its half of the sibling's slabs, every semaphore at zero. -/
theorem run (g : Dev nD → PrngReg) :
    θ_run (defs (F := F)) (onTc (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = out m c) ∧ r.2.sem = fun _ => 0 := by
  refine (θ_run (defs (F := F)) _ _).mono (fun r h => ⟨h.1, sem_eq_zero_of_scoped (by decide) h.2⟩)
    ((net m).run cfgs cellOf_inj 0 defs₀ 𝒱₀ (fun _ => (inferInstance : IsEmpty (Fin 0))) N_0 winFacts0 ?_ scopedRest0_eq m g main (fun _ => rfl)
      (own m) (final m) (piece m) (launch_mem m) (body m)
      (fun c s' => s'.mem ((c.tc : Thread nD τ).loc main_arg0) = m ((c.tc : Thread nD τ).loc main_arg0)
        ∧ s'.mem ((c.tc : Thread nD τ).loc main_v1) = out m c) (fun c s' => read_two _ _ _ _ s'))
  exact ⟨by show ∀ i : Cell 4 0, (semOf i).isScoped .tc = true; decide, (net m).sem_inj, fun _ w => w.elim0⟩

end Cert.SiblingIdeal.Exchange

end
-- ==== Proof.Exchange.SiblingClaim.lean ====
/-
# The claims about the exchange of half slabs between the cores of a chip

The reference gives core 0 of a chip the first halves of core 1's slabs, and core 1 the second halves of core 0's. Read
at an index (`swapped_at`) that is what each device of the kernel's run ends with (`value`).
-/
module

public import proofs.«01_k».proof.Defs
public import proofs.«01_k».proof.Proof.Exchange.Sibling
public import proofs.«01_k».proof.Proof.Gen.Sibling
public import proofs.«01_k».proof.Proof.Gen.SiblingRef
public import proofs.«01_k».proof.Proof.Gen.SiblingRefIdeal.Run
public import Idealize.ShloMosaic.Lib.Pipeline.Value
public import Idealize.ShloMosaic.Lib.Pointwise.Index
public import Idealize.ShloMosaic.Lib.Pointwise.Reshape
public import Idealize.ShloMosaic.Lib.ValueIdxCore

@[expose] public section

noncomputable section

namespace Cert.SiblingIdeal.Exchange

open Idealize.ShloMosaic Idealize.ShloMosaic.TcCoe Idealize.SL.Sem
open Cert.SiblingRefIdeal Cert.SiblingRefIdeal.Gen

variable {α : Type}

/-- Half `h` of the slabs of every chip's core `a`, as the reference takes them. -/
def taken (a h : ℕ) (hs : S4x2x4x2x2048x1024.Slices ![0, a, 0, h, 0, 0] S4x1x4x1x2048x1024) (x : S32x4096x1024.Idx → α) : S4x1x4x2048x1024.Idx → α :=
  broadcastInDim S4x1x4x2048x1024 ![0, 2, 3, 4] bcast_S4x4x2048x1024_S4x1x4x2048x1024_0_2_3_4
    (shapeCast _ (extractStridedSlice S4x1x4x1x2048x1024 ![0, a, 0, h, 0, 0] (shapeCast _ x shapeCasts_S32x4096x1024_S4x2x4x2x2048x1024) hs)
      shapeCasts_S4x1x4x1x2048x1024_S4x4x2048x1024)

theorem taken_at (a h : ℕ) (ha : a < 2) (hh : h < 2) (hs : S4x2x4x2x2048x1024.Slices ![0, a, 0, h, 0, 0] S4x1x4x1x2048x1024)
    (x : S32x4096x1024.Idx → α) (q : Fin 4) (u : Fin 1) (k : Fin 4) (r : Fin 2048) (l : Fin 1024) :
    taken a h hs x (ValueIdx.ix5 q u k r l : S4x1x4x2048x1024.Idx)
      = x (ValueIdx.ix3 (⟨(2 * q.val + a) * 4 + k.val, by omega⟩ : Fin 32) (⟨2048 * h + r.val, by omega⟩ : Fin 4096) l) := by
  unfold taken
  refine (broadcastInDim_apply _ _ _ _ (ValueIdx.ix4 q k r l : S4x4x2048x1024.Idx) ?_).trans ?_
  · intro b
    match b with
    | 0 => rfl
    | 1 => rfl
    | 2 => rfl
    | 3 => rfl
  refine (shapeCast_apply _ _ _ (ix6 q (0 : Fin 1) k (0 : Fin 1) r l : S4x1x4x1x2048x1024.Idx) ?_).trans ?_
  · rw [rowMajor_val6 _ 8388608 8388608 2097152 2097152 1024 rfl rfl rfl rfl rfl, rowMajor_val4 _ 8388608 2097152 1024 rfl rfl rfl]
    show q.val * 8388608 + 0 * 8388608 + k.val * 2097152 + 0 * 2097152 + r.val * 1024 + l.val = q.val * 8388608 + k.val * 2097152 + r.val * 1024 + l.val
    omega
  refine (extractStridedSlice_apply _ _ _ _ (ix6 q (⟨a, ha⟩ : Fin 2) k (⟨h, hh⟩ : Fin 2) r l : S4x2x4x2x2048x1024.Idx) ?_).trans ?_
  · intro b
    match b with
    | 0 => show q.val = 0 + q.val; omega
    | 1 => rfl
    | 2 => show k.val = 0 + k.val; omega
    | 3 => rfl
    | 4 => show r.val = 0 + r.val; omega
    | 5 => show l.val = 0 + l.val; omega
  refine shapeCast_apply _ _ _ _ ?_
  rw [rowMajor_val3 _ 4194304 1024 rfl rfl, rowMajor_val6 _ 33554432 16777216 4194304 2097152 1024 rfl rfl rfl rfl rfl]
  show ((2 * q.val + a) * 4 + k.val) * 4194304 + (2048 * h + r.val) * 1024 + l.val
    = q.val * 33554432 + a * 16777216 + k.val * 4194304 + h * 2097152 + r.val * 1024 + l.val
  omega

/-- The reference's result, of the whole array of the devices' slabs. -/
def swapped (x : S32x4096x1024.Idx → α) : S32x2048x1024.Idx → α :=
  shapeCast _ (concatenate S4x2x4x2048x1024 1
    [⟨S4x1x4x2048x1024, taken 1 0 slices_S4x2x4x2x2048x1024_S4x1x4x1x2048x1024_0_1_0_0_0_0 x⟩,
     ⟨S4x1x4x2048x1024, taken 0 1 slices_S4x2x4x2x2048x1024_S4x1x4x1x2048x1024_0_0_0_1_0_0 x⟩]
    concatenates_S4x1x4x2048x1024_S4x1x4x2048x1024_S4x2x4x2048x1024_d1) shapeCasts_S4x2x4x2048x1024_S32x2048x1024

/-- Two arrays set one above the other on the core axis, at an index. -/
theorem two_at (y z : S4x1x4x2048x1024.Idx → α) (q : Fin 4) (s : Fin 2) (k : Fin 4) (r : Fin 2048) (l : Fin 1024) :
    concatenate S4x2x4x2048x1024 1 [⟨S4x1x4x2048x1024, y⟩, ⟨S4x1x4x2048x1024, z⟩] concatenates_S4x1x4x2048x1024_S4x1x4x2048x1024_S4x2x4x2048x1024_d1
        (ValueIdx.ix5 q s k r l : S4x2x4x2048x1024.Idx)
      = (if s.val = 0 then y else z) (ValueIdx.ix5 q (0 : Fin 1) k r l : S4x1x4x2048x1024.Idx) := by
  have h2 : ∀ s : Fin 2, s = 0 ∨ s = 1 := by decide
  rcases h2 s with rfl | rfl
  · rw [if_pos (show (0 : Fin 2).val = 0 from rfl)]
    refine concatenate_pair_apply_left (t := S4x2x4x2048x1024) (s₁ := S4x1x4x2048x1024) (s₂ := S4x1x4x2048x1024) 1 y z _ _ rfl _ ?_
    intro b
    match b with
    | 0 => rfl
    | 1 => rfl
    | 2 => rfl
    | 3 => rfl
    | 4 => rfl
  · rw [if_neg (show ¬ (1 : Fin 2).val = 0 by decide)]
    refine concatenate_pair_apply_right (t := S4x2x4x2048x1024) (s₁ := S4x1x4x2048x1024) (s₂ := S4x1x4x2048x1024) 1 y z _ _ rfl rfl _ ?_ rfl
    intro b hb
    match b, hb with
    | 0, _ => rfl
    | 1, hb => exact absurd rfl hb
    | 2, _ => rfl
    | 3, _ => rfl
    | 4, _ => rfl

/-- The reference's result at a row of slab `k` of core `s` of chip `q`: half `s` of the other core's slab. -/
theorem swapped_at (x : S32x4096x1024.Idx → α) (j : S32x2048x1024.Idx) (q : Fin 4) (s : Fin 2) (k : Fin 4) (r : Fin 2048)
    (hj : (j 0).val = (q.val * 2 + s.val) * 4 + k.val) (hr : (j 1).val = r.val) :
    swapped x j = x (ValueIdx.ix3 (⟨(2 * q.val + (1 - s.val)) * 4 + k.val, by omega⟩ : Fin 32) (⟨2048 * s.val + r.val, by omega⟩ : Fin 4096) (j 2)) := by
  unfold swapped
  refine (shapeCast_apply _ _ _ (ValueIdx.ix5 q s k r (j 2) : S4x2x4x2048x1024.Idx) ?_).trans ((two_at _ _ q s k r (j 2)).trans ?_)
  · rw [rowMajor_val3 _ 2097152 1024 rfl rfl, rowMajor_val5 _ 16777216 8388608 2097152 1024 rfl rfl rfl rfl]
    show q.val * 16777216 + s.val * 8388608 + k.val * 2097152 + r.val * 1024 + (j 2).val = (j 0).val * 2097152 + (j 1).val * 1024 + (j 2).val
    omega
  have h2 : ∀ s : Fin 2, s = 0 ∨ s = 1 := by decide
  rcases h2 s with rfl | rfl
  · exact taken_at 1 0 (by decide) (by decide) _ x q 0 k r (j 2)
  · exact taken_at 0 1 (by decide) (by decide) _ x q 0 k r (j 2)

variable {F : FTy → Type} [FloatOps F]

/-- From devices that hold their slabs of `x`, each ends with its part of the reference's result. -/
theorem value (m : (ℓ : Loc SiblingIdeal.nD SiblingIdeal.τ SiblingIdeal.sig) → Buf (Elt F) ℓ) (x : S32x4096x1024.Idx → Elt F .f32)
    (hx : ∀ c : Dev SiblingIdeal.nD, src m c = Layout.block ⟨3, ![4, 4096, 1024]⟩ ⟨3, ![32, 4096, 1024]⟩ 0 8 c x) (c : Dev SiblingIdeal.nD) :
    out m c = Layout.block ⟨3, ![4, 2048, 1024]⟩ ⟨3, ![32, 2048, 1024]⟩ 0 8 c (swapped x) := by
  funext i
  have hi : (i 0).val < 4 := (i 0).isLt
  have hi1 : (i 1).val < 2048 := (i 1).isLt
  have hs : ∀ c : Dev SiblingIdeal.nD, (sib c).val = 2 * (c.val / 2) + (1 - c.val % 2) := by decide
  have hc := c.isLt
  change c.val < 8 at hc
  rw [Layout.block_apply, swapped_at x _ ⟨c.val / 2, by omega⟩ ⟨c.val % 2, by omega⟩ ⟨(i 0).val, hi⟩ ⟨(i 1).val, hi1⟩
    (by show c.val * 4 + (i 0).val = (c.val / 2 * 2 + c.val % 2) * 4 + (i 0).val; omega) rfl]
  unfold out
  rw [hx, Layout.block_apply]
  congr 1
  funext a
  match a with
  | 0 =>
    apply Fin.ext
    show (sib c).val * 4 + (i 0).val = (2 * (c.val / 2) + (1 - c.val % 2)) * 4 + (i 0).val
    rw [hs c]
  | 1 => rfl
  | 2 => apply Fin.ext; show (i 2).val = (i 2).val; rfl

/-! ## The claims -/

theorem frame_kernel : Cert.quiescent_Sibling := fun m ρ _ =>
  (θ_run Cert.SiblingIdeal.defs _ _).mono (fun _ h => ⟨fun c => (h.1 c).1, h.2⟩) (run (F := Bits) m ρ)

theorem frame_kernelIdeal : Cert.quiescent_SiblingIdeal := fun m ρ _ =>
  (θ_run Cert.SiblingIdeal.defs _ _).mono (fun _ h => ⟨fun c => (h.1 c).1, h.2⟩) (run (F := Ideal) m ρ)

theorem frame_ref : Cert.quiescent_SiblingRef := fun m ρ _ =>
  (θ_run Cert.SiblingRefIdeal.defs _ _).mono (fun r h => ⟨fun c => (h c).2, sem_eq_zero_of_no_sems (by decide) r.2⟩)
    (Cert.SiblingRefIdeal.Value.run (F := Bits) m ρ)

theorem frame_refIdeal : Cert.quiescent_SiblingRefIdeal := fun m ρ _ =>
  (θ_run Cert.SiblingRefIdeal.defs _ _).mono (fun r h => ⟨fun c => (h c).2, sem_eq_zero_of_no_sems (by decide) r.2⟩)
    (Cert.SiblingRefIdeal.Value.run (F := Ideal) m ρ)

theorem preserves : Cert.preserves_Sibling_SiblingIdeal := trivial

/-- In exact arithmetic each device ends with its part of what the reference computes. -/
theorem algebraic : Cert.algebraic_SiblingIdeal_SiblingRefIdeal := by
  intro m g m' g' _ hx
  refine ⟨swapped (m' (((0 : Dev Cert.SiblingRefIdeal.nD).tc : Thread Cert.SiblingRefIdeal.nD Cert.SiblingRefIdeal.τ).loc Cert.SiblingRefIdeal.main_arg0)), ?_, ?_⟩
  · exact (θ_run Cert.SiblingIdeal.defs _ _).mono (fun _ h c => ⟨(h.1 c).2.trans (value (F := Ideal) m _ hx c), (h.1 c).1⟩) (run (F := Ideal) m g)
  · exact (θ_run Cert.SiblingRefIdeal.defs _ _).mono (fun _ h => h 0) (Cert.SiblingRefIdeal.Value.run (F := Ideal) m' g')

/-- The same bit for bit. -/
theorem bitexact : Cert.bitexact_Sibling_SiblingRef := by
  intro m g m' g' _ hx
  refine ⟨swapped (m' (((0 : Dev Cert.SiblingRefIdeal.nD).tc : Thread Cert.SiblingRefIdeal.nD Cert.SiblingRefIdeal.τ).loc Cert.SiblingRefIdeal.main_arg0)), ?_, ?_⟩
  · exact (θ_run Cert.SiblingIdeal.defs _ _).mono (fun _ h c => ⟨(h.1 c).2.trans (value (F := Bits) m _ hx c), (h.1 c).1⟩) (run (F := Bits) m g)
  · exact (θ_run Cert.SiblingRefIdeal.defs _ _).mono (fun _ h => h 0) (Cert.SiblingRefIdeal.Value.run (F := Bits) m' g')

end Cert.SiblingIdeal.Exchange

end
-- ==== Proof.Exchange.Ici.lean ====
/-
# The exchange of slabs between the chips

Slab `g` of a device is meant for chip `g`. A device sends the three other chips' slabs to the core of its own number
there. `run` is the launch: every device ends with its input as it was and its output holding, in this order, the
slabs the chips opposite in x, in y and in both have sent it.
-/
module

public import proofs.«01_k».proof.Proof.Talk.Blocks
public import proofs.«01_k».proof.Proof.Gen.IciIdeal.Launch
public import proofs.«01_k».proof.Proof.Gen.IciIdeal.Skeleton
public import proofs.«01_k».proof.Proof.Gen.IciIdeal.Points
public import Idealize.ShloMosaic.Lib.Exec.Geometry
public import Idealize.ShloMosaic.Lib.ValueIdxCore

@[expose] public section

noncomputable section

namespace Cert.IciIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Talk Cert.Talk.Net Cert.IciIdeal.Gen

variable {F : FTy → Type} [FloatOps F]

local notation "𝕄" => MT nD τ sig Unit (Elt F) ℕ (GU nD τ sig) ℕ

/-! ## Where the slabs go -/

/-- The chip opposite in x, at the same core. -/
def flipX (c : Dev nD) : Dev nD := ⟨k0_dev1 c, k0_dev1_lt c⟩

/-- The chip opposite in y, at the same core. -/
def flipY (c : Dev nD) : Dev nD := ⟨k0_dev2 c, k0_dev2_lt c⟩

/-- The chip opposite in both, at the same core. -/
def flipXY (c : Dev nD) : Dev nD := ⟨k0_dev3 c, k0_dev3_lt c⟩

theorem dev1_eq (c : Dev nD) : (⟨k0_dev1 c, k0_dev1_lt c⟩ : Dev nD) = flipX c := rfl
theorem dev2_eq (c : Dev nD) : (⟨k0_dev2 c, k0_dev2_lt c⟩ : Dev nD) = flipY c := rfl
theorem dev3_eq (c : Dev nD) : (⟨k0_dev3 c, k0_dev3_lt c⟩ : Dev nD) = flipXY c := rfl

/-- Where send `k` goes. -/
def peer : Fin 3 → Dev nD → Dev nD
  | 0 => flipX
  | 1 => flipY
  | 2 => flipXY

theorem peer_peer (k : Fin 3) (c : Dev nD) : peer k (peer k c) = c := by revert k c; decide

/-- The slabs of the input, numbered. -/
def blkIn (i : S4x2048x1024.Idx) : ℕ := (i 0).val

/-- The slabs of the output, numbered. -/
def blkOut (i : S3x2048x1024.Idx) : ℕ := (i 0).val

/-- The slab device `c` sends by send `k`: the number of the chip it goes to. -/
def sent (c : Dev nD) (k : Fin 3) : ℕ := (peer k c).val / 2

theorem sent_inj (c : Dev nD) : Function.Injective (sent c) := by
  have h : ∀ (c : Dev nD) (a b : Fin 3), sent c a = sent c b → a = b := by decide
  exact h c

theorem off1_at (c : Dev nD) : k0_off1 c = ![sent c 0, 0, 0] := by revert c; decide
theorem off2_at (c : Dev nD) : k0_off2 c = ![sent c 1, 0, 0] := by revert c; decide
theorem off3_at (c : Dev nD) : k0_off3 c = ![sent c 2, 0, 0] := by revert c; decide

/-- A slab of the input, as a copy names it. -/
abbrev part (o : Fin 3 → ℕ) (h : ∀ a, o a + S1x2048x1024.size a ≤ S4x2048x1024.size a) : Memref sig .tc .hbm S2048x1024 .bf16 :=
  ((Memref.whole main_arg0 : Memref sig .tc .hbm S4x2048x1024 .bf16).slice (Rect.unit (s := S4x2048x1024) o S1x2048x1024.size h) (fun _ => rfl)).squeeze
    S2048x1024 squeezes_S1x2048x1024_S2048x1024

/-- A slab of the output, as a copy names it. -/
abbrev slot (o : Fin 3 → ℕ) (h : ∀ a, o a + S1x2048x1024.size a ≤ S3x2048x1024.size a) : Memref sig .tc .hbm S2048x1024 .bf16 :=
  ((Memref.whole main_v1 : Memref sig .tc .hbm S3x2048x1024 .bf16).slice (Rect.unit (s := S3x2048x1024) o S1x2048x1024.size h) (fun _ => rfl)).squeeze
    S2048x1024 squeezes_S1x2048x1024_S2048x1024

theorem part_set (c : Dev nD) (k : Fin 3) (o : Fin 3 → ℕ) (h : ∀ a, o a + S1x2048x1024.size a ≤ S4x2048x1024.size a) (ho : o = ![sent c k, 0, 0]) :
    (part o h).view.set = cut blkIn (sent c k) := by
  subst ho
  refine (Memref.set_view_squeeze _ _).trans ((View.set_slice_whole _ _).trans ?_)
  ext i
  rw [Rect.mem_set_unit, mem_cut]
  have h1 : (i 1).val < 2048 := (i 1).isLt
  have h2 : (i 2).val < 1024 := (i 2).isLt
  unfold blkIn
  constructor
  · intro h
    have a0 : sent c k ≤ (i 0).val ∧ (i 0).val < sent c k + 1 := h 0
    omega
  · intro h a
    match a with
    | 0 => show sent c k ≤ (i 0).val ∧ (i 0).val < sent c k + 1; omega
    | 1 => show 0 ≤ (i 1).val ∧ (i 1).val < 0 + 2048; omega
    | 2 => show 0 ≤ (i 2).val ∧ (i 2).val < 0 + 1024; omega

theorem slot_set (k : ℕ) (h : ∀ a, (![k, 0, 0] : Fin 3 → ℕ) a + S1x2048x1024.size a ≤ S3x2048x1024.size a) : (slot ![k, 0, 0] h).view.set = cut blkOut k := by
  refine (Memref.set_view_squeeze _ _).trans ((View.set_slice_whole _ _).trans ?_)
  ext i
  rw [Rect.mem_set_unit, mem_cut]
  have h1 : (i 1).val < 2048 := (i 1).isLt
  have h2 : (i 2).val < 1024 := (i 2).isLt
  unfold blkOut
  constructor
  · intro h
    have a0 : k ≤ (i 0).val ∧ (i 0).val < k + 1 := h 0
    omega
  · intro h a
    match a with
    | 0 => show k ≤ (i 0).val ∧ (i 0).val < k + 1; omega
    | 1 => show 0 ≤ (i 1).val ∧ (i 1).val < 0 + 2048; omega
    | 2 => show 0 ≤ (i 2).val ∧ (i 2).val < 0 + 1024; omega

variable (m : (ℓ : Loc nD τ sig) → Buf (Elt F) ℓ)

/-- What a device holds at launch. -/
def src (c : Dev nD) : S4x2048x1024.Idx → Elt F .bf16 := m ((c.tc : Thread nD τ).loc main_arg0)

/-- What a device's output holds at the end: slab `j` is its own chip's slab of the device send `j` comes from. -/
def out (c : Dev nD) : S3x2048x1024.Idx → Elt F .bf16 := fun i =>
  src m (peer (i 0) c) (ValueIdx.ix3 (⟨c.val / 2, by have : c.val < 8 := c.isLt; omega⟩ : Fin 4) (i 1) (i 2))

theorem part_read (c : Dev nD) (k : Fin 3) (o : Fin 3 → ℕ) (h : ∀ a, o a + S1x2048x1024.size a ≤ S4x2048x1024.size a) (ho : o = ![sent c k, 0, 0])
    (h' : ∀ a, (![k.val, 0, 0] : Fin 3 → ℕ) a + S1x2048x1024.size a ≤ S3x2048x1024.size a) :
    (slot ![k.val, 0, 0] h').view.read (Elt F) (out m (peer k c)) = (part o h).view.read (Elt F) (src m c) := by
  subst ho
  funext x
  let y : S1x2048x1024.Idx := Shape.reshapeEquiv squeezes_S1x2048x1024_S2048x1024.numel_eq x
  show out m (peer k c) ((Rect.unit (s := S3x2048x1024) ![k.val, 0, 0] S1x2048x1024.size h').emb y)
    = src m c ((Rect.unit (s := S4x2048x1024) ![sent c k, 0, 0] S1x2048x1024.size h).emb y)
  have y0 : (y 0).val = 0 := by have : (y 0).val < 1 := (y 0).isLt; omega
  have e : (show Fin 3 from (Rect.unit (s := S3x2048x1024) ![k.val, 0, 0] S1x2048x1024.size h').emb y 0) = k := by
    apply Fin.ext
    show k.val + 1 * (y 0).val = k.val
    omega
  show src m (peer (show Fin 3 from (Rect.unit (s := S3x2048x1024) ![k.val, 0, 0] S1x2048x1024.size h').emb y 0) (peer k c)) _ = _
  rw [e, peer_peer]
  congr 1
  funext a
  match a with
  | 0 =>
    apply Fin.ext
    show sent c k = sent c k + 1 * (y 0).val
    omega
  | 1 => rfl
  | 2 => rfl

/-! ## The protocol -/

/-- Slab `v` of a device's input. -/
abbrev inp (c : Dev nD) (v : ℕ) : sProp 𝕄 := ((c.tc : Thread nD τ).loc main_arg0) ↦[cut blkIn v]{fullShare} src m c

/-- Slab `v` of a device's output, at contents `f`. -/
abbrev slab (c : Dev nD) (v : ℕ) (f : S3x2048x1024.Idx → Elt F .bf16) : sProp 𝕄 := ((c.tc : Thread nD τ).loc main_v1) ↦[cut blkOut v]{fullShare} f

instance inp_storable (c : Dev nD) (v : ℕ) : BI.Storable (upEmb : UEmb _ 𝕄) (inp m c v) := by unfold inp; infer_instance

instance slab_storable (c : Dev nD) (v : ℕ) (f : S3x2048x1024.Idx → Elt F .bf16) : BI.Storable (upEmb : UEmb _ 𝕄) (slab c v f : sProp 𝕄) := by
  unfold slab; infer_instance

/-- Send semaphore `k`, then landing semaphore `k`. -/
def semOf : Cell 3 0 → SemLoc sig
  | .inl k => .dma (((cc0_scratch0.slice (Rect.unit (s := S3) ![k.val] S1.size (by revert k; decide))).squeeze S_ squeezes_S1_S_).sem)
  | .inr (.inl k) => .dma (((cc0_scratch1.slice (Rect.unit (s := S3) ![k.val] S1.size (by revert k; decide))).squeeze S_ squeezes_S1_S_).sem)
  | .inr (.inr l) => l.elim0

/-- The three sends, one to each other chip. -/
def net : Net nD τ sig (Elt F) 3 0 where
  sem := semOf
  sem_inj := by decide
  peer := peer
  peer_peer := peer_peer
  N := (slot ![0, 0, 0] inb_S3x2048x1024_S1x2048x1024_0_0_0).view.dmaCredit
  N_pos := View.dmaCredit_pos _ (by decide)
  pay i d := match i with
    | .inl k => inp m d (sent d k)
    | .inr (.inl k) => slab d k.val (out m d)
    | .inr (.inr l) => l.elim0
  pay_storable i d := by
    rcases i with _ | _ | l
    · dsimp only; infer_instance
    · dsimp only; infer_instance
    · exact l.elim0
  lev _ := 0

/-- What a device keeps of the memory: its input, and what of its output nobody fills, which is nothing. -/
def own (c : Dev nD) : sProp 𝕄 :=
  iprop((((c.tc : Thread nD τ).loc main_arg0) ↦[Finset.univ]{fullShare} src m c)
    ∗ ((c.tc : Thread nD τ).loc main_v1) ↦[rest blkOut (fun k : Fin 3 => k.val)]{fullShare} m ((c.tc : Thread nD τ).loc main_v1))

/-- What send `k` to a device fills. -/
def piece (c : Dev nD) (k : Fin 3) : sProp 𝕄 := slab c k.val (m ((c.tc : Thread nD τ).loc main_v1))

/-- What a device ends with: its input as it was, its output filled. -/
def final (c : Dev nD) : sProp 𝕄 :=
  iprop((((c.tc : Thread nD τ).loc main_arg0) ↦[Finset.univ]{fullShare} src m c) ∗ (((c.tc : Thread nD τ).loc main_v1) ↦[Finset.univ]{fullShare} out m c))

theorem slabs (c : Dev nD) (f : S3x2048x1024.Idx → Elt F .bf16) :
    (((c.tc : Thread nD τ).loc main_v1) ↦[Finset.univ]{fullShare} f : sProp 𝕄)
      ⊣⊢ iprop((bigSep Finset.univ fun k : Fin 3 => slab c k.val f) ∗ ((c.tc : Thread nD τ).loc main_v1) ↦[rest blkOut (fun k : Fin 3 => k.val)]{fullShare} f) :=
  carve ((c.tc : Thread nD τ).loc main_v1) fullShare f blkOut (fun k : Fin 3 => k.val) Fin.val_injective

theorem parts (c : Dev nD) :
    (((c.tc : Thread nD τ).loc main_arg0) ↦[Finset.univ]{fullShare} src m c : sProp 𝕄)
      ⊣⊢ iprop((inp m c (sent c 0) ∗ inp m c (sent c 1) ∗ inp m c (sent c 2))
        ∗ ((c.tc : Thread nD τ).loc main_arg0) ↦[rest blkIn (sent c)]{fullShare} src m c) := by
  have h := carve (Val := Elt F) ((c.tc : Thread nD τ).loc main_arg0) fullShare (src m c) blkIn (sent c) (sent_inj c)
  rw [bigSep_fin3] at h
  exact h

/-- The output, once every slab is filled. -/
theorem filled (c : Dev nD) (f : S3x2048x1024.Idx → Elt F .bf16) :
    iprop((slab c 0 (out m c) ∗ slab c 1 (out m c) ∗ slab c 2 (out m c))
        ∗ ((c.tc : Thread nD τ).loc main_v1) ↦[rest blkOut (fun k : Fin 3 => k.val)]{fullShare} f)
      ⊢ (((c.tc : Thread nD τ).loc main_v1) ↦[Finset.univ]{fullShare} out m c : sProp 𝕄) := by
  have hr := rest_congr (Val := Elt F) ((c.tc : Thread nD τ).loc main_v1) fullShare f (out m c) blkOut (fun k : Fin 3 => k.val) (fun i => ⟨i 0, rfl⟩)
  have h := (slabs (F := F) c (out m c)).2
  rw [bigSep_fin3] at h
  rw [hr]
  exact h

/-- At launch a device's memory is its own part and the slabs the sends to it fill. -/
theorem launch_mem (c : Dev nD) : (unscopedBufs c (fun b => m ((c.tc : Thread nD τ).loc b)) : sProp 𝕄)
    ⊢ iprop(own m c ∗ bigSep Finset.univ fun k : Fin 3 => piece m c k) := by
  rw [Pipeline.unscopedBufs_split cfgs (0 : Fin 1) (fun w => w.elim0) (fun w => w.elim0) c, unscopedRest0_eq]
  iintro ⟨-, Ha, Hv⟩
  ihave Hv := ((slabs c (m ((c.tc : Thread nD τ).loc main_v1))).1) $$ Hv
  icases Hv with ⟨Hp, Hr⟩
  unfold own piece
  isplitl [Ha Hr]
  · isplitl [Ha]; · unfold src; iexact Ha
    iexact Hr
  iexact Hp

/-- The slabs a device is to fill, one on each other chip. -/
theorem theirs (c : Dev nD) : (bigSep Finset.univ fun k : Fin 3 => (piece m ((net m).peer k c) k : sProp 𝕄))
    = iprop(slab (flipX c) 0 (m (((flipX c).tc : Thread nD τ).loc main_v1)) ∗ slab (flipY c) 1 (m (((flipY c).tc : Thread nD τ).loc main_v1))
      ∗ slab (flipXY c) 2 (m (((flipXY c).tc : Thread nD τ).loc main_v1))) := by
  rw [bigSep_fin3]; rfl

/-! ## One device's run -/

abbrev 𝒱₀ : Variants := Variants.none

set_option maxHeartbeats 1600000 in
/-- The body of a device, from its hand and its part of the memory to its output filled. -/
theorem body (c : Dev nD) (t : Fin cfg0.N) :
    iprop((net m).given ((net m).part (own m) (piece m)) c ∗ ∃ W, owes (c.tc : Thread nD τ) ((net m).owed 0 c) W)
      ⊢ wp frame (wpE (defs₀ (F := F)) 𝒱₀ (c.tc : Thread nD τ) none) Set.univ (bodyAt0 (F := F) t) fun _ =>
        iprop(final m c ∗ ownSems0 (net m).sem c ∗ ∃ W, owes (c.tc : Thread nD τ) (0 : CellTallies nD τ sig Unit) W) := by
  have hlt (i : Cell 3 0) (j : ℕ) (hj : 3 ≤ j) : ∀ k : Fin 3, j ≤ k.val → (net m).lev ((net m).sem i) < (net m).lev ((net m).sem (rcv k)) :=
    fun k hk => by omega
  iintro ⟨HG, HO⟩
  unfold Net.given
  icases HG with ⟨%K, #HR, #HL, Hh, Hm⟩
  ihave Hh := (Entails.of_eq ((net m).hand_split c)) $$ Hh
  simp only [bigSep_fin3, bigSep_fin0]
  icases Hh with ⟨⟨⟨HaS0, HaS1, HaS2⟩, ⟨HaR0, HaR1, HaR2⟩, -⟩, ⟨HtS0, HtS1, HtS2⟩, ⟨HtR0, HtR1, HtR2⟩, -, HcR0, HcR1, HcR2⟩
  unfold Net.part
  icases Hm with ⟨Hown, Hpc⟩
  ihave Hpc := (Entails.of_eq (theirs m c)) $$ Hpc
  icases Hpc with ⟨Hd0, Hd1, Hd2⟩
  unfold own
  icases Hown with ⟨Hi, Hrest⟩
  ihave Hi := ((parts m c).1) $$ Hi
  icases Hi with ⟨⟨Hi0, Hi1, Hi2⟩, Hir⟩
  unfold bodyAt0
  simp only [cc0_rs_ici_eq_skeleton]
  unfold cc0_rs_ici_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId, dev1_eq, dev2_eq, dev3_eq]
  iapply ((net m).send 𝒱₀ K c 0 (flipX c) rfl rfl rfl (src := part (k0_off1 c) (k0_off1_inb c)) (dst := slot ![0, 0, 0] inb_S3x2048x1024_S1x2048x1024_0_0_0)
    (Ss := cut blkIn (sent c 0)) (part_set c 0 _ (k0_off1_inb c) (off1_at c)) (Sd := cut blkOut 0) (slot_set 0 inb_S3x2048x1024_S1x2048x1024_0_0_0)
    (q := fullShare) (fs := src m c) (fd := m (((flipX c).tc : Thread nD τ).loc main_v1)) (out m (flipX c)) (part_read m c 0 _ _ (off1_at c) _) rfl
    ((net m).owed 1 c) rfl rfl rfl rfl) $$ [Hi0 Hd0 HO HtS0 HtR0]
  · isplitr; · iexact HR
    isplitl [Hi0]; · iexact Hi0
    isplitl [Hd0]; · iexact Hd0
    isplitl [HO]; · iexact HO
    isplitl [HtS0]; · iexact HtS0
    iexact HtR0
  iintro ⟨HcS0, HO⟩
  iapply ((net m).send 𝒱₀ K c 1 (flipY c) rfl rfl rfl (src := part (k0_off2 c) (k0_off2_inb c)) (dst := slot ![1, 0, 0] inb_S3x2048x1024_S1x2048x1024_1_0_0)
    (Ss := cut blkIn (sent c 1)) (part_set c 1 _ (k0_off2_inb c) (off2_at c)) (Sd := cut blkOut 1) (slot_set 1 inb_S3x2048x1024_S1x2048x1024_1_0_0)
    (q := fullShare) (fs := src m c) (fd := m (((flipY c).tc : Thread nD τ).loc main_v1)) (out m (flipY c)) (part_read m c 1 _ _ (off2_at c) _) rfl
    ((net m).owed 2 c) rfl rfl rfl rfl) $$ [Hi1 Hd1 HO HtS1 HtR1]
  · isplitr; · iexact HR
    isplitl [Hi1]; · iexact Hi1
    isplitl [Hd1]; · iexact Hd1
    isplitl [HO]; · iexact HO
    isplitl [HtS1]; · iexact HtS1
    iexact HtR1
  iintro ⟨HcS1, HO⟩
  iapply ((net m).send 𝒱₀ K c 2 (flipXY c) rfl rfl rfl (src := part (k0_off3 c) (k0_off3_inb c)) (dst := slot ![2, 0, 0] inb_S3x2048x1024_S1x2048x1024_2_0_0)
    (Ss := cut blkIn (sent c 2)) (part_set c 2 _ (k0_off3_inb c) (off3_at c)) (Sd := cut blkOut 2) (slot_set 2 inb_S3x2048x1024_S1x2048x1024_2_0_0)
    (q := fullShare) (fs := src m c) (fd := m (((flipXY c).tc : Thread nD τ).loc main_v1)) (out m (flipXY c)) (part_read m c 2 _ _ (off3_at c) _) rfl
    ((net m).owed 3 c) rfl rfl rfl rfl) $$ [Hi2 Hd2 HO HtS2 HtR2]
  · isplitr; · iexact HR
    isplitl [Hi2]; · iexact Hi2
    isplitl [Hd2]; · iexact Hd2
    isplitl [HO]; · iexact HO
    isplitl [HtS2]; · iexact HtS2
    iexact HtR2
  iintro ⟨HcS2, HO⟩
  iapply ((net m).wait 𝒱₀ K c (snd 0) rfl rfl 3 rfl (hlt _ 3 le_rfl)) $$ [HcS0 HO HaS0]
  · isplitr; · iexact HR
    isplitr; · iexact HL
    isplitl [HcS0]; · iexact HcS0
    isplitl [HO]; · iexact HO
    iexact HaS0
  iintro ⟨HO, Hi0, HzS0⟩
  iapply ((net m).wait 𝒱₀ K c (rcv 0) rfl rfl 3 rfl (hlt _ 3 le_rfl)) $$ [HcR0 HO HaR0]
  · isplitr; · iexact HR
    isplitr; · iexact HL
    isplitl [HcR0]; · iexact HcR0
    isplitl [HO]; · iexact HO
    iexact HaR0
  iintro ⟨HO, Hd0, HzR0⟩
  iapply ((net m).wait 𝒱₀ K c (snd 1) rfl rfl 3 rfl (hlt _ 3 le_rfl)) $$ [HcS1 HO HaS1]
  · isplitr; · iexact HR
    isplitr; · iexact HL
    isplitl [HcS1]; · iexact HcS1
    isplitl [HO]; · iexact HO
    iexact HaS1
  iintro ⟨HO, Hi1, HzS1⟩
  iapply ((net m).wait 𝒱₀ K c (rcv 1) rfl rfl 3 rfl (hlt _ 3 le_rfl)) $$ [HcR1 HO HaR1]
  · isplitr; · iexact HR
    isplitr; · iexact HL
    isplitl [HcR1]; · iexact HcR1
    isplitl [HO]; · iexact HO
    iexact HaR1
  iintro ⟨HO, Hd1, HzR1⟩
  iapply ((net m).wait 𝒱₀ K c (snd 2) rfl rfl 3 rfl (hlt _ 3 le_rfl)) $$ [HcS2 HO HaS2]
  · isplitr; · iexact HR
    isplitr; · iexact HL
    isplitl [HcS2]; · iexact HcS2
    isplitl [HO]; · iexact HO
    iexact HaS2
  iintro ⟨HO, Hi2, HzS2⟩
  iapply ((net m).wait 𝒱₀ K c (rcv 2) rfl rfl 3 rfl (hlt _ 3 le_rfl)) $$ [HcR2 HO HaR2]
  · isplitr; · iexact HR
    isplitr; · iexact HL
    isplitl [HcR2]; · iexact HcR2
    isplitl [HO]; · iexact HO
    iexact HaR2
  iintro ⟨HO, Hd2, HzR2⟩
  ihave Hi0 := (show (net m).pay (snd 0) c ⊢ inp m c (sent c 0) from Entails.of_eq rfl) $$ Hi0
  ihave Hd0 := (show (net m).pay (rcv 0) c ⊢ slab c 0 (out m c) from Entails.of_eq rfl) $$ Hd0
  ihave Hi1 := (show (net m).pay (snd 1) c ⊢ inp m c (sent c 1) from Entails.of_eq rfl) $$ Hi1
  ihave Hd1 := (show (net m).pay (rcv 1) c ⊢ slab c 1 (out m c) from Entails.of_eq rfl) $$ Hd1
  ihave Hi2 := (show (net m).pay (snd 2) c ⊢ inp m c (sent c 2) from Entails.of_eq rfl) $$ Hi2
  ihave Hd2 := (show (net m).pay (rcv 2) c ⊢ slab c 2 (out m c) from Entails.of_eq rfl) $$ Hd2
  rw [wp_ret]; imodintro
  unfold final
  isplitl [Hi0 Hi1 Hi2 Hir Hd0 Hd1 Hd2 Hrest]
  · isplitl [Hi0 Hi1 Hi2 Hir]
    · iapply ((parts m c).2)
      isplitr [Hir]
      · isplitl [Hi0]; · iexact Hi0
        isplitl [Hi1]; · iexact Hi1
        iexact Hi2
      iexact Hir
    · iapply (filled m c (m ((c.tc : Thread nD τ).loc main_v1)))
      isplitr [Hrest]
      · isplitl [Hd0]; · iexact Hd0
        isplitl [Hd1]; · iexact Hd1
        iexact Hd2
      iexact Hrest
  rw [(net m).zeros c]
  simp only [bigSep_fin3, bigSep_fin0]
  isplitr [HO]
  · isplitl [HzS0 HzS1 HzS2]
    · isplitl [HzS0]; · iexact HzS0
      isplitl [HzS1]; · iexact HzS1
      iexact HzS2
    isplitl [HzR0 HzR1 HzR2]
    · isplitl [HzR0]; · iexact HzR0
      isplitl [HzR1]; · iexact HzR1
      iexact HzR2
    iempintro
  ihave HO := (show iprop(∃ W, owes (c.tc : Thread nD τ) ((net m).owed 3 c) W) ⊢ (∃ W, owes (c.tc : Thread nD τ) (0 : CellTallies nD τ sig Unit) W : sProp 𝕄) from by
    rw [(net m).owed_end c]) $$ HO
  iexact HO

/-- The launch: every device ends with its input as it was and its output holding the slabs sent to it, every semaphore at zero. -/
theorem run (g : Dev nD → PrngReg) :
    θ_run (defs (F := F)) (onTc (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = out m c) ∧ r.2.sem = fun _ => 0 := by
  refine (θ_run (defs (F := F)) _ _).mono (fun r h => ⟨h.1, sem_eq_zero_of_scoped (by decide) h.2⟩)
    ((net m).run cfgs cellOf_inj 0 defs₀ 𝒱₀ (fun _ => (inferInstance : IsEmpty (Fin 0))) N_0 winFacts0 ?_ scopedRest0_eq m g main (fun _ => rfl)
      (own m) (final m) (piece m) (launch_mem m) (body m)
      (fun c s' => s'.mem ((c.tc : Thread nD τ).loc main_arg0) = m ((c.tc : Thread nD τ).loc main_arg0)
        ∧ s'.mem ((c.tc : Thread nD τ).loc main_v1) = out m c) (fun c s' => read_two _ _ _ _ s'))
  exact ⟨by show ∀ i : Cell 3 0, (semOf i).isScoped .tc = true; decide, (net m).sem_inj, fun _ w => w.elim0⟩

end Cert.IciIdeal.Exchange

end
-- ==== Proof.Exchange.IciClaim.lean ====
/-
# The claims about the exchange of slabs between the chips

The reference sets the slabs one above the other, owner by owner, for each owner the slab meant for its chip of the chip
opposite in x, in y and in both. Read at an index (`stacked_at`) that is what each device of the kernel's run ends with
(`value`).
-/
module

public import proofs.«01_k».proof.Defs
public import proofs.«01_k».proof.Proof.Exchange.Ici
public import proofs.«01_k».proof.Proof.Gen.Ici
public import proofs.«01_k».proof.Proof.Gen.IciRef
public import proofs.«01_k».proof.Proof.Gen.IciRefIdeal.Run
public import Idealize.ShloMosaic.Lib.Pipeline.Value
public import Idealize.ShloMosaic.Lib.Pointwise.Index
public import Idealize.ShloMosaic.Lib.Pointwise.Reshape
public import Idealize.ShloMosaic.Lib.ValueIdxCore

@[expose] public section

noncomputable section

namespace Cert.IciIdeal.Exchange

open Idealize.ShloMosaic Idealize.ShloMosaic.TcCoe Idealize.SL.Sem
open Cert.IciRefIdeal Cert.IciRefIdeal.Gen

variable {α : Type}

/-- The x coordinate of the chip whose slab the reference's row `n` is: the owner's own at a row of the second kind, else the opposite. -/
def fromX (n : ℕ) : ℕ := if n % 3 = 1 then n / 12 else 1 - n / 12

/-- The y coordinate of the chip whose slab the reference's row `n` is: the owner's own at a row of the first kind, else the opposite. -/
def fromY (n : ℕ) : ℕ := if n % 3 = 0 then n / 6 % 2 else 1 - n / 6 % 2

theorem fromX_lt (n : ℕ) (h : n < 24) : fromX n < 2 := by unfold fromX; split <;> omega
theorem fromY_lt (n : ℕ) : fromY n < 2 := by unfold fromY; split <;> omega

/-- Where the reference reads row `n`: the sender's x, y and core, then the owner's x and y. -/
def off (n : ℕ) : Fin 7 → ℕ := ![fromX n, fromY n, n / 3 % 2, n / 12, n / 6 % 2, 0, 0]

theorem off_slices (n : Fin 24) : S2x2x2x2x2x2048x1024.Slices (off n.val) S1x1x1x1x1x2048x1024 := by revert n; decide

/-- Row `n` of the reference's result, as it takes it. -/
def taken (n : Fin 24) (x : S32x2048x1024.Idx → α) : S1x2048x1024.Idx → α :=
  broadcastInDim S1x2048x1024 ![1, 2] bcast_S2048x1024_S1x2048x1024_1_2
    (shapeCast _ (extractStridedSlice S1x1x1x1x1x2048x1024 (off n.val) (shapeCast _ x shapeCasts_S32x2048x1024_S2x2x2x2x2x2048x1024) (off_slices n))
      shapeCasts_S1x1x1x1x1x2048x1024_S2048x1024)

/-- The number of the slab row `n` is, among all the devices' slabs. -/
def row (n : ℕ) : ℕ := ((fromX n * 2 + fromY n) * 2 + n / 3 % 2) * 4 + n / 12 * 2 + n / 6 % 2

theorem row_lt (n : ℕ) (h : n < 24) : row n < 32 := by
  have := fromX_lt n h; have := fromY_lt n; unfold row; omega

theorem taken_at (n : Fin 24) (x : S32x2048x1024.Idx → α) (u : Fin 1) (r : Fin 2048) (l : Fin 1024) :
    taken n x (ValueIdx.ix3 u r l : S1x2048x1024.Idx) = x (ValueIdx.ix3 (⟨row n.val, row_lt n.val n.isLt⟩ : Fin 32) r l) := by
  unfold taken
  have hn := n.isLt
  have hX := fromX_lt n.val hn
  have hY := fromY_lt n.val
  refine (broadcastInDim_apply _ _ _ _ (ValueIdx.ix2 r l : S2048x1024.Idx) ?_).trans ?_
  · intro b
    match b with
    | 0 => rfl
    | 1 => rfl
  refine (shapeCast_apply _ _ _ (ix7 (0 : Fin 1) (0 : Fin 1) (0 : Fin 1) (0 : Fin 1) (0 : Fin 1) r l : S1x1x1x1x1x2048x1024.Idx) ?_).trans ?_
  · rw [rowMajor_val7 _ 2097152 2097152 2097152 2097152 2097152 1024 rfl rfl rfl rfl rfl rfl, rowMajor_val2 _ 1024 rfl]
    show 0 * 2097152 + 0 * 2097152 + 0 * 2097152 + 0 * 2097152 + 0 * 2097152 + r.val * 1024 + l.val = r.val * 1024 + l.val
    omega
  refine (extractStridedSlice_apply _ _ _ _ (ix7 (⟨fromX n.val, hX⟩ : Fin 2) (⟨fromY n.val, hY⟩ : Fin 2) (⟨n.val / 3 % 2, by omega⟩ : Fin 2)
    (⟨n.val / 12, by omega⟩ : Fin 2) (⟨n.val / 6 % 2, by omega⟩ : Fin 2) r l : S2x2x2x2x2x2048x1024.Idx) ?_).trans ?_
  · intro b
    match b with
    | 0 => rfl
    | 1 => rfl
    | 2 => rfl
    | 3 => rfl
    | 4 => rfl
    | 5 => show r.val = 0 + r.val; omega
    | 6 => show l.val = 0 + l.val; omega
  refine shapeCast_apply _ _ _ _ ?_
  rw [rowMajor_val3 _ 2097152 1024 rfl rfl, rowMajor_val7 _ 33554432 16777216 8388608 4194304 2097152 1024 rfl rfl rfl rfl rfl rfl]
  show row n.val * 2097152 + r.val * 1024 + l.val
    = fromX n.val * 33554432 + fromY n.val * 16777216 + n.val / 3 % 2 * 8388608 + n.val / 12 * 4194304 + n.val / 6 % 2 * 2097152 + r.val * 1024 + l.val
  unfold row
  omega

/-- The first sixteen rows. -/
def low (x : S32x2048x1024.Idx → α) : S16x2048x1024.Idx → α :=
  concatenate S16x2048x1024 0 (List.ofFn fun n : Fin 16 => (⟨S1x2048x1024, taken ⟨n.val, by omega⟩ x⟩ : (s : Shape) × (s.Idx → α)))
    concatenates_S1x2048x1024_S1x2048x1024_S1x2048x1024_S1x2048x1024_S1x2048x1024_S1x2048x1024_S1x2048x1024_S1x2048x1024_S1x2048x1024_S1x2048x1024_S1x2048x1024_S1x2048x1024_S1x2048x1024_S1x2048x1024_S1x2048x1024_S1x2048x1024_S16x2048x1024_d0

/-- The last eight rows. -/
def high (x : S32x2048x1024.Idx → α) : S8x2048x1024.Idx → α :=
  concatenate S8x2048x1024 0 (List.ofFn fun n : Fin 8 => (⟨S1x2048x1024, taken ⟨16 + n.val, by omega⟩ x⟩ : (s : Shape) × (s.Idx → α)))
    concatenates_S1x2048x1024_S1x2048x1024_S1x2048x1024_S1x2048x1024_S1x2048x1024_S1x2048x1024_S1x2048x1024_S1x2048x1024_S8x2048x1024_d0

/-- The reference's result, of the whole array of the devices' slabs. -/
def stacked (x : S32x2048x1024.Idx → α) : S24x2048x1024.Idx → α :=
  concatenate S24x2048x1024 0 [⟨S16x2048x1024, low x⟩, ⟨S8x2048x1024, high x⟩] concatenates_S16x2048x1024_S8x2048x1024_S24x2048x1024_d0

/-- The reference's result at row `n`: the slab it is of the whole array. -/
theorem stacked_at (x : S32x2048x1024.Idx → α) (j : S24x2048x1024.Idx) :
    stacked x j = x (ValueIdx.ix3 (⟨row (j 0).val, row_lt _ (j 0).isLt⟩ : Fin 32) (j 1) (j 2)) := by
  unfold stacked
  have hj : (j 0).val < 24 := (j 0).isLt
  by_cases h : (j 0).val < 16
  · refine (concatenate_pair_apply_left (t := S24x2048x1024) (s₁ := S16x2048x1024) (s₂ := S8x2048x1024) 0 (low x) (high x) _ j rfl
      (ValueIdx.ix3 (⟨(j 0).val, h⟩ : Fin 16) (j 1) (j 2) : S16x2048x1024.Idx) ?_).trans ?_
    · intro b
      match b with
      | 0 => rfl
      | 1 => rfl
      | 2 => rfl
    unfold low
    refine (concatenate_ofFn_unit_apply (t := S16x2048x1024) (s₁ := S1x2048x1024) 0 (fun n : Fin 16 => taken ⟨n.val, by omega⟩ x) _ rfl rfl _ ⟨(j 0).val, h⟩ rfl
      (ValueIdx.ix3 (0 : Fin 1) (j 1) (j 2) : S1x2048x1024.Idx) ?_).trans (taken_at _ x 0 (j 1) (j 2))
    intro b hb
    match b, hb with
    | 0, hb => exact absurd rfl hb
    | 1, _ => rfl
    | 2, _ => rfl
  · refine (concatenate_pair_apply_right (t := S24x2048x1024) (s₁ := S16x2048x1024) (s₂ := S8x2048x1024) 0 (low x) (high x) _ j rfl rfl
      (ValueIdx.ix3 (⟨(j 0).val - 16, by omega⟩ : Fin 8) (j 1) (j 2) : S8x2048x1024.Idx) ?_ ?_).trans ?_
    · intro b hb
      match b, hb with
      | 0, hb => exact absurd rfl hb
      | 1, _ => rfl
      | 2, _ => rfl
    · show (j 0).val - 16 + 16 = (j 0).val
      omega
    unfold high
    refine (concatenate_ofFn_unit_apply (t := S8x2048x1024) (s₁ := S1x2048x1024) 0 (fun n : Fin 8 => taken ⟨16 + n.val, by omega⟩ x) _ rfl rfl _
      ⟨(j 0).val - 16, by omega⟩ rfl (ValueIdx.ix3 (0 : Fin 1) (j 1) (j 2) : S1x2048x1024.Idx) ?_).trans ((taken_at _ x 0 (j 1) (j 2)).trans ?_)
    · intro b hb
      match b, hb with
      | 0, hb => exact absurd rfl hb
      | 1, _ => rfl
      | 2, _ => rfl
    · have e : 16 + ((j 0).val - 16) = (j 0).val := by omega
      congr 2
      apply Fin.ext
      show row (16 + ((j 0).val - 16)) = row (j 0).val
      rw [e]

variable {F : FTy → Type} [FloatOps F]

/-- The reference's run ends with its argument as it was and `stacked` of it in its result. -/
theorem stacked_run (m : (ℓ : Loc IciRefIdeal.nD IciRefIdeal.τ IciRefIdeal.sig) → Buf (Elt F) ℓ) (ρ : Dev IciRefIdeal.nD → PrngReg) :
    θ_run (IciRefIdeal.defs (F := F)) (onTc (τ := IciRefIdeal.τ) (IciRefIdeal.main (F := F))) ⟨m, fun _ => 0, ρ⟩ fun r => ∀ c : Dev IciRefIdeal.nD,
      r.2.mem ((c.tc : Thread IciRefIdeal.nD IciRefIdeal.τ).loc IciRefIdeal.main_v75) = stacked (m ((c.tc : Thread IciRefIdeal.nD IciRefIdeal.τ).loc IciRefIdeal.main_arg0))
      ∧ r.2.mem ((c.tc : Thread IciRefIdeal.nD IciRefIdeal.τ).loc IciRefIdeal.main_arg0) = m ((c.tc : Thread IciRefIdeal.nD IciRefIdeal.τ).loc IciRefIdeal.main_arg0) :=
  (θ_run IciRefIdeal.defs _ _).mono (fun _ h c => ⟨(h c).1.trans (by unfold Cert.IciRefIdeal.Value.res_main_v75; rfl), (h c).2⟩) (Cert.IciRefIdeal.Value.run m ρ)

/-- From devices that hold their slabs of `x`, each ends with its part of the reference's result. -/
theorem value (m : (ℓ : Loc IciIdeal.nD IciIdeal.τ IciIdeal.sig) → Buf (Elt F) ℓ) (x : S32x2048x1024.Idx → Elt F .bf16)
    (hx : ∀ c : Dev IciIdeal.nD, src m c = Layout.block ⟨3, ![4, 2048, 1024]⟩ ⟨3, ![32, 2048, 1024]⟩ 0 8 c x) (c : Dev IciIdeal.nD) :
    out m c = Layout.block ⟨3, ![3, 2048, 1024]⟩ ⟨3, ![24, 2048, 1024]⟩ 0 8 c (stacked x) := by
  funext i
  have hr : ∀ (k : Fin 3) (c : Dev IciIdeal.nD), (peer k c).val * 4 + c.val / 2 = row (c.val * 3 + k.val) := by decide
  rw [Layout.block_apply, stacked_at]
  unfold out
  rw [hx, Layout.block_apply]
  congr 1
  funext a
  match a with
  | 0 =>
    apply Fin.ext
    show (peer (i 0) c).val * 4 + c.val / 2 = row (c.val * 3 + (i 0).val)
    exact hr (i 0) c
  | 1 => apply Fin.ext; show (i 1).val = (i 1).val; rfl
  | 2 => apply Fin.ext; show (i 2).val = (i 2).val; rfl

/-! ## The claims -/

theorem frame_kernel : Cert.quiescent_Ici := fun m ρ _ =>
  (θ_run Cert.IciIdeal.defs _ _).mono (fun _ h => ⟨fun c => (h.1 c).1, h.2⟩) (run (F := Bits) m ρ)

theorem frame_kernelIdeal : Cert.quiescent_IciIdeal := fun m ρ _ =>
  (θ_run Cert.IciIdeal.defs _ _).mono (fun _ h => ⟨fun c => (h.1 c).1, h.2⟩) (run (F := Ideal) m ρ)

theorem frame_ref : Cert.quiescent_IciRef := fun m ρ _ =>
  (θ_run Cert.IciRefIdeal.defs _ _).mono (fun r h => ⟨fun c => (h c).2, sem_eq_zero_of_no_sems (by decide) r.2⟩)
    (Cert.IciRefIdeal.Value.run (F := Bits) m ρ)

theorem frame_refIdeal : Cert.quiescent_IciRefIdeal := fun m ρ _ =>
  (θ_run Cert.IciRefIdeal.defs _ _).mono (fun r h => ⟨fun c => (h c).2, sem_eq_zero_of_no_sems (by decide) r.2⟩)
    (Cert.IciRefIdeal.Value.run (F := Ideal) m ρ)

theorem preserves : Cert.preserves_Ici_IciIdeal := trivial

/-- In exact arithmetic each device ends with its part of what the reference computes. -/
theorem algebraic : Cert.algebraic_IciIdeal_IciRefIdeal := by
  intro m g m' g' _ hx
  refine ⟨stacked (m' (((0 : Dev Cert.IciRefIdeal.nD).tc : Thread Cert.IciRefIdeal.nD Cert.IciRefIdeal.τ).loc Cert.IciRefIdeal.main_arg0)), ?_, ?_⟩
  · exact (θ_run Cert.IciIdeal.defs _ _).mono (fun _ h c => ⟨(h.1 c).2.trans (value (F := Ideal) m _ hx c), (h.1 c).1⟩) (run (F := Ideal) m g)
  · exact (θ_run Cert.IciRefIdeal.defs _ _).mono (fun _ h => h 0) (stacked_run (F := Ideal) m' g')

/-- The same bit for bit. -/
theorem bitexact : Cert.bitexact_Ici_IciRef := by
  intro m g m' g' _ hx
  refine ⟨stacked (m' (((0 : Dev Cert.IciRefIdeal.nD).tc : Thread Cert.IciRefIdeal.nD Cert.IciRefIdeal.τ).loc Cert.IciRefIdeal.main_arg0)), ?_, ?_⟩
  · exact (θ_run Cert.IciIdeal.defs _ _).mono (fun _ h c => ⟨(h.1 c).2.trans (value (F := Bits) m _ hx c), (h.1 c).1⟩) (run (F := Bits) m g)
  · exact (θ_run Cert.IciRefIdeal.defs _ _).mono (fun _ h => h 0) (stacked_run (F := Bits) m' g')

end Cert.IciIdeal.Exchange

end
-- ==== Proof.Exchange.Share.lean ====
/-
# The sharing of reduced halves between the two cores of a chip

Each device copies its half of the rows into its own output and sends it to its sibling core, which fills the other
half there. `run` is the launch: every device ends with its input as it was and its output holding the rows of the
chip's core 0 above those of its core 1.
-/
module

public import proofs.«01_k».proof.Proof.Talk.Net
public import proofs.«01_k».proof.Proof.Gen.ShareIdeal.Launch
public import proofs.«01_k».proof.Proof.Gen.ShareIdeal.Skeleton
public import proofs.«01_k».proof.Proof.Gen.ShareIdeal.Points

@[expose] public section

noncomputable section

namespace Cert.ShareIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Talk Cert.Talk.Net Cert.ShareIdeal.Gen

variable {F : FTy → Type} [FloatOps F]

local notation "𝕄" => MT nD τ sig Unit (Elt F) ℕ (GU nD τ sig) ℕ

/-! ## Where the rows go -/

/-- The other core of a device's chip. -/
def sib (c : Dev nD) : Dev nD := ⟨k0_dev1 c, k0_dev1_lt c⟩

theorem sib_sib (c : Dev nD) : sib (sib c) = c := by revert c; decide

/-- The first row of the half of core `c`. -/
def base (c : Dev nD) : ℕ := 2048 * (c.val % 2)

theorem base_sib (c : Dev nD) : (base c = 0 ∧ base (sib c) = 2048) ∨ (base c = 2048 ∧ base (sib c) = 0) := by
  revert c; decide

/-- The 2048 rows of the output from row `o` on. -/
def rows (o : ℕ) : Finset S4096x1024.Idx := Finset.univ.filter fun i => o ≤ (i 0).val ∧ (i 0).val < o + 2048

theorem rows_disjoint : Disjoint (rows 0) (rows 2048) := by
  rw [Finset.disjoint_left]
  intro i h h'
  have := (Finset.mem_filter.mp h).2; have := (Finset.mem_filter.mp h').2
  omega

theorem rows_cover : rows 0 ∪ rows 2048 = Finset.univ := by
  ext i
  have : (i 0).val < 4096 := (i 0).isLt
  simp only [rows, Finset.mem_union, Finset.mem_filter, Finset.mem_univ, true_and, iff_true]
  omega

/-- The half of the output that core `c` fills, on its own device and on its sibling. -/
abbrev half (c : Dev nD) : Memref sig .tc .hbm S2048x1024 .f32 :=
  (Memref.whole main_v1 : Memref sig .tc .hbm S4096x1024 .f32).slice (Rect.unit (s := S4096x1024) (k0_off1 c) S2048x1024.size (k0_off1_inb c)) (fun _ => rfl)

theorem half_set (c : Dev nD) : (half c).view.set = rows (base c) := by
  have h : (half c).view.set = (Rect.unit (s := S4096x1024) (k0_off1 c) S2048x1024.size (k0_off1_inb c)).set := View.set_slice_whole _ _
  rw [h]
  ext i
  rw [Rect.mem_set_unit, k0_off1_eq]
  simp only [rows, Finset.mem_filter, Finset.mem_univ, true_and]
  constructor
  · intro h; exact h 0
  · intro h a
    match a with
    | 0 => exact h
    | 1 => exact ⟨Nat.zero_le _, (show (i 1).val < 0 + 1024 from by have : (i 1).val < 1024 := (i 1).isLt; omega)⟩

variable (m : (ℓ : Loc nD τ sig) → Buf (Elt F) ℓ)

/-- What a device holds at launch. -/
def src (c : Dev nD) : S2048x1024.Idx → Elt F .f32 := m ((c.tc : Thread nD τ).loc main_arg0)

/-- What a device's output holds at the end: the rows of the chip's core 0, then those of its core 1. -/
def out (c : Dev nD) : S4096x1024.Idx → Elt F .f32 := fun i =>
  src m (if (i 0).val / 2048 = c.val % 2 then c else sib c) (Shape.pair ⟨(i 0).val % 2048, Nat.mod_lt _ (by decide)⟩ (i 1))

theorem out_at (c e : Dev nD) (he : e = c ∨ e = sib c) (i : S4096x1024.Idx) (x : S2048x1024.Idx)
    (h0 : (i 0).val = base e + (x 0).val) (h1 : (i 1).val = (x 1).val) : out m c i = src m e x := by
  have hx : (x 0).val < 2048 := (x 0).isLt
  have hq : (i 0).val / 2048 = e.val % 2 := by rw [h0]; unfold base; omega
  have hr : (i 0).val % 2048 = (x 0).val := by rw [h0]; unfold base; omega
  unfold out
  have hd : (if (i 0).val / 2048 = c.val % 2 then c else sib c) = e := by
    rw [hq]
    rcases he with rfl | rfl
    · exact if_pos rfl
    · have hne : ∀ c : Dev nD, (sib c).val % 2 ≠ c.val % 2 := by decide
      exact if_neg (hne c)
  rw [hd]
  congr 1
  funext a
  match a with
  | 0 => exact Fin.ext hr
  | 1 => exact Fin.ext h1

theorem half_read (c e : Dev nD) (he : e = c ∨ e = sib c) :
    (half e).view.read (Elt F) (out m c) = (Memref.whole main_arg0 : Memref sig .tc .hbm S2048x1024 .f32).view.read (Elt F) (src m e) := by
  funext x
  refine out_at m c e he ((half e).view.emb x) x ?_ ?_
  · show k0_off1 e 0 + 1 * (x 0).val = _
    rw [k0_off1_eq]; show 2048 * (e.val % 2) + 1 * (x 0).val = _; unfold base; omega
  · show k0_off1 e 1 + 1 * (x 1).val = _
    rw [k0_off1_eq]; show 0 + 1 * (x 1).val = _; omega

/-! ## The protocol -/

/-- A device's input, in part. -/
abbrev inp (q : PosShare TreeShare) (c : Dev nD) : sProp 𝕄 := ((c.tc : Thread nD τ).loc main_arg0) ↦[Finset.univ]{q} src m c

/-- The half of device `d`'s output that core `e` fills, at contents `f`. -/
abbrev slab (d e : Dev nD) (f : S4096x1024.Idx → Elt F .f32) : sProp 𝕄 := ((d.tc : Thread nD τ).loc main_v1) ↦[rows (base e)]{fullShare} f

instance inp_storable (q : PosShare TreeShare) (c : Dev nD) : BI.Storable (upEmb : UEmb _ 𝕄) (inp m q c) := by unfold inp; infer_instance

instance slab_storable (d e : Dev nD) (f : S4096x1024.Idx → Elt F .f32) : BI.Storable (upEmb : UEmb _ 𝕄) (slab d e f : sProp 𝕄) := by
  unfold slab; infer_instance

/-- The one send: to the sibling, with half the input; and the one local copy, with the other half. -/
def net : Net nD τ sig (Elt F) 1 1 where
  sem := fun | .inl _ => .dma cc0_scratch0.sem | .inr (.inl _) => .dma cc0_scratch1.sem | .inr (.inr _) => .dma cc0_scratch2.sem
  sem_inj := by decide
  peer _ := sib
  peer_peer _ := sib_sib
  N := (half 0).view.dmaCredit
  N_pos := View.dmaCredit_pos _ (by decide)
  pay i d := match i with
    | .inl _ => inp m fullShare.left d
    | .inr (.inl _) => slab d (sib d) (out m d)
    | .inr (.inr _) => iprop(slab d d (out m d) ∗ inp m fullShare.right d)
  pay_storable i d := by
    rcases i with _ | _ | _ <;> dsimp only <;> infer_instance
  lev _ := 0

/-- What a device keeps of the memory: its input and the half it fills itself. -/
def own (c : Dev nD) : sProp 𝕄 := iprop(inp m fullShare c ∗ slab c c (m ((c.tc : Thread nD τ).loc main_v1)))

/-- What a device's sibling fills. -/
def piece (c : Dev nD) (_ : Fin 1) : sProp 𝕄 := slab c (sib c) (m ((c.tc : Thread nD τ).loc main_v1))

/-- What a device ends with: its input as it was, its output filled. -/
def final (c : Dev nD) : sProp 𝕄 :=
  iprop(inp m fullShare c ∗ (((c.tc : Thread nD τ).loc main_v1) ↦[Finset.univ]{fullShare} out m c))

/-- The two halves are the output. -/
theorem slabs (c : Dev nD) (f : S4096x1024.Idx → Elt F .f32) :
    (((c.tc : Thread nD τ).loc main_v1) ↦[Finset.univ]{fullShare} f : sProp 𝕄) ⊣⊢ iprop(slab c c f ∗ slab c (sib c) f) := by
  unfold slab
  have hu (a b : ℕ) (hd : Disjoint (rows a) (rows b)) (hc : rows a ∪ rows b = Finset.univ) :
      (((c.tc : Thread nD τ).loc main_v1) ↦[Finset.univ]{fullShare} f : sProp 𝕄)
        ⊣⊢ iprop((((c.tc : Thread nD τ).loc main_v1) ↦[rows a]{fullShare} f) ∗ ((c.tc : Thread nD τ).loc main_v1) ↦[rows b]{fullShare} f) := by
    rw [← hc]; exact pointsTo_union hd
  rcases base_sib c with ⟨h, h'⟩ | ⟨h, h'⟩ <;> rw [h, h']
  · exact hu 0 2048 rows_disjoint rows_cover
  · exact hu 2048 0 rows_disjoint.symm (by rw [Finset.union_comm]; exact rows_cover)

/-- At launch a device's memory is its own part and the piece its sibling fills. -/
theorem launch_mem (c : Dev nD) : (unscopedBufs c (fun b => m ((c.tc : Thread nD τ).loc b)) : sProp 𝕄)
    ⊢ iprop(own m c ∗ bigSep Finset.univ fun k : Fin 1 => piece m c k) := by
  rw [Pipeline.unscopedBufs_split cfgs (0 : Fin 1) (fun w => w.elim0) (fun w => w.elim0) c, unscopedRest0_eq]
  have h1 : (bigSep Finset.univ fun k : Fin 1 => (piece m c k : sProp 𝕄)) = piece m c 0 := bigSep_univ_eq_bigSepL [0] (by decide) (by decide) _
  rw [h1]
  iintro ⟨-, Ha, Hv⟩
  ihave Hv := ((slabs c (m ((c.tc : Thread nD τ).loc main_v1))).1) $$ Hv
  icases Hv with ⟨H0, H1⟩
  unfold own piece
  isplitl [Ha H0]
  · isplitl [Ha]; · unfold inp src; iexact Ha
    iexact H0
  iexact H1

/-! ## One device's run -/

abbrev 𝒱₀ : Variants := Variants.none

theorem inp_split (c : Dev nD) : (inp m fullShare c : sProp 𝕄) ⊣⊢ iprop(inp m fullShare.left c ∗ inp m fullShare.right c) := by
  unfold inp; exact pointsTo_share (PosShare.mem_left_op_right fullShare)

theorem whole_set : (Memref.whole main_arg0 : Memref sig .tc .hbm S2048x1024 .f32).view.set = Finset.univ := View.set_whole _

set_option maxHeartbeats 800000 in
/-- The body of a device, from its hand and its part of the memory to its output filled. -/
theorem body (c : Dev nD) (t : Fin cfg0.N) :
    iprop((net m).given ((net m).part (own m) (piece m)) c ∗ ∃ W, owes (c.tc : Thread nD τ) ((net m).owed 0 c) W)
      ⊢ wp frame (wpE (defs₀ (F := F)) 𝒱₀ (c.tc : Thread nD τ) none) Set.univ (bodyAt0 (F := F) t) fun _ =>
        iprop(final m c ∗ ownSems0 (net m).sem c ∗ ∃ W, owes (c.tc : Thread nD τ) (0 : CellTallies nD τ sig Unit) W) := by
  have hlt (i : Cell 1 1) (j : ℕ) (hj : 1 ≤ j) : ∀ k : Fin 1, j ≤ k.val → (net m).lev ((net m).sem i) < (net m).lev ((net m).sem (rcv k)) :=
    fun k hk => by omega
  iintro ⟨HG, HO⟩
  unfold Net.given
  icases HG with ⟨%K, #HR, #HL, Hh, Hm⟩
  ihave Hh := (Entails.of_eq ((net m).hand_split c)) $$ Hh
  rw [bigSep_fin1, bigSep_fin1, bigSep_fin1, bigSep_fin1, bigSep_fin1, bigSep_fin1, bigSep_fin1]
  icases Hh with ⟨⟨HaS, HaR, HaL⟩, HtS, HtR, HtL, HcR⟩
  unfold Net.part
  rw [bigSep_fin1]
  icases Hm with ⟨Hown, Hpc⟩
  unfold own
  icases Hown with ⟨Hi, Hsl⟩
  ihave Hi := ((inp_split m c).1) $$ Hi
  icases Hi with ⟨Hi1, Hi2⟩
  unfold bodyAt0
  simp only [cc0_rs_share_eq_skeleton]
  unfold cc0_rs_share_skel
  simp only [Prog.lift, Prog.bind_op, Prog.bind_ret, Prog.pure_eq_ret, wp_deviceId]
  iapply ((net m).copy 𝒱₀ K c 0 rfl whole_set (half_set c) (q := fullShare.right) (fs := src m c) (fd := m ((c.tc : Thread nD τ).loc main_v1)) (out m c)
    (half_read m c c (Or.inl rfl)) rfl rfl) $$ [Hi2 Hsl HtL]
  · isplitr; · iexact HR
    isplitl [Hi2]; · iexact Hi2
    isplitl [Hsl]; · iexact Hsl
    iexact HtL
  iintro HcL
  iapply ((net m).send 𝒱₀ K c 0 _ rfl rfl rfl whole_set (half_set c) (q := fullShare.left) (fs := src m c) (fd := m (((sib c).tc : Thread nD τ).loc main_v1)) (out m (sib c))
    (half_read m (sib c) c (Or.inr (sib_sib c).symm)) rfl ((net m).owed 1 c) rfl rfl rfl ?_) $$ [Hi1 Hpc HO HtS HtR]
  · show slab (sib c) (sib (sib c)) (out m (sib c)) = slab (sib c) c (out m (sib c)); rw [sib_sib]
  · isplitr; · iexact HR
    isplitl [Hi1]; · iexact Hi1
    isplitl [Hpc]
    · iapply (Entails.of_eq (show (piece m (sib c) 0 : sProp 𝕄) = slab (sib c) c (m (((sib c).tc : Thread nD τ).loc main_v1)) from by unfold piece; rw [sib_sib]))
      iexact Hpc
    isplitl [HO]; · iexact HO
    isplitl [HtS]; · iexact HtS
    iexact HtR
  iintro ⟨HcS, HO⟩
  iapply ((net m).wait 𝒱₀ K c (snd 0) rfl rfl 1 rfl (hlt _ 1 le_rfl)) $$ [HcS HO HaS]
  · isplitr; · iexact HR
    isplitr; · iexact HL
    isplitl [HcS]; · iexact HcS
    isplitl [HO]; · iexact HO
    iexact HaS
  iintro ⟨HO, Hi1, HzS⟩
  iapply ((net m).wait 𝒱₀ K c (rcv 0) rfl rfl 1 rfl (hlt _ 1 le_rfl)) $$ [HcR HO HaR]
  · isplitr; · iexact HR
    isplitr; · iexact HL
    isplitl [HcR]; · iexact HcR
    isplitl [HO]; · iexact HO
    iexact HaR
  iintro ⟨HO, Hs2, HzR⟩
  iapply ((net m).wait 𝒱₀ K c (lcl 0) rfl rfl 1 rfl (hlt _ 1 le_rfl)) $$ [HcL HO HaL]
  · isplitr; · iexact HR
    isplitr; · iexact HL
    isplitl [HcL]; · iexact HcL
    isplitl [HO]; · iexact HO
    iexact HaL
  iintro ⟨HO, Hl, HzL⟩
  rw [wp_ret]; imodintro
  ihave Hl := (show (net m).pay (lcl 0) c ⊢ iprop(slab c c (out m c) ∗ inp m fullShare.right c) from Entails.of_eq rfl) $$ Hl
  ihave Hi1 := (show (net m).pay (snd 0) c ⊢ inp m fullShare.left c from Entails.of_eq rfl) $$ Hi1
  ihave Hs2 := (show (net m).pay (rcv 0) c ⊢ slab c (sib c) (out m c) from Entails.of_eq rfl) $$ Hs2
  icases Hl with ⟨Hs1, Hi2⟩
  unfold final
  isplitl [Hi1 Hi2 Hs1 Hs2]
  · isplitl [Hi1 Hi2]
    · iapply ((inp_split m c).2); isplitl [Hi1] <;> iassumption
    · iapply ((slabs c (out m c)).2); isplitl [Hs1] <;> iassumption
  rw [(net m).zeros c, bigSep_fin1, bigSep_fin1, bigSep_fin1]
  isplitl [HzS HzR HzL]
  · isplitl [HzS]; · iexact HzS
    isplitl [HzR]; · iexact HzR
    iexact HzL
  ihave HO := (show iprop(∃ W, owes (c.tc : Thread nD τ) ((net m).owed 1 c) W) ⊢ (∃ W, owes (c.tc : Thread nD τ) (0 : CellTallies nD τ sig Unit) W : sProp 𝕄) from by
    rw [(net m).owed_end c]) $$ HO
  iexact HO

/-- The launch: every device ends with its input as it was and its output holding the chip's halves, every semaphore at zero. -/
theorem run (g : Dev nD → PrngReg) :
    θ_run (defs (F := F)) (onTc (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = out m c) ∧ r.2.sem = fun _ => 0 := by
  refine (θ_run (defs (F := F)) _ _).mono (fun r h => ⟨h.1, sem_eq_zero_of_scoped (by decide) h.2⟩)
    ((net m).run cfgs cellOf_inj 0 defs₀ 𝒱₀ (fun _ => (inferInstance : IsEmpty (Fin 0))) N_0 winFacts0 ?_ scopedRest0_eq m g main (fun _ => rfl)
      (own m) (final m) (piece m) (launch_mem m) (body m)
      (fun c s' => s'.mem ((c.tc : Thread nD τ).loc main_arg0) = m ((c.tc : Thread nD τ).loc main_arg0)
        ∧ s'.mem ((c.tc : Thread nD τ).loc main_v1) = out m c) (fun c s' => read_two _ _ _ _ s'))
  exact ⟨by show ∀ i : Cell 1 1, _; rintro (k | k | k) <;> rfl, (net m).sem_inj, fun _ w => w.elim0⟩

end Cert.ShareIdeal.Exchange

end
-- ==== Proof.Exchange.ShareClaim.lean ====
/-
# The claims about the sharing of reduced halves

The reference sets, for each chip, the rows of its two cores one above the other, twice: once per core. Read at an
index (`chipRows_at`) that is what each device of the kernel's run ends with (`value`).
-/
module

public import proofs.«01_k».proof.Defs
public import proofs.«01_k».proof.Proof.Exchange.Share
public import proofs.«01_k».proof.Proof.Gen.Share
public import proofs.«01_k».proof.Proof.Gen.ShareRef
public import proofs.«01_k».proof.Proof.Gen.ShareRefIdeal.Run
public import Idealize.ShloMosaic.Lib.Pipeline.Value
public import Idealize.ShloMosaic.Lib.Pointwise.Reshape
public import Idealize.ShloMosaic.Lib.ValueIdxCore

@[expose] public section

noncomputable section

namespace Cert.ShareIdeal.Exchange

open Idealize.ShloMosaic Idealize.ShloMosaic.TcCoe Idealize.SL.Sem
open Cert.ShareRefIdeal Cert.ShareRefIdeal.Gen

variable {α : Type}

/-- The reference's result, of the whole array of the devices' rows. -/
def chipRows (x : S16384x1024.Idx → α) : S32768x1024.Idx → α :=
  shapeCast _ (concatenate S4x2x4096x1024 1
    [⟨S4x1x4096x1024, broadcastInDim S4x1x4096x1024 ![0, 2, 3] bcast_S4x4096x1024_S4x1x4096x1024_0_2_3 (shapeCast _ x shapeCasts_S16384x1024_S4x4096x1024)⟩,
     ⟨S4x1x4096x1024, broadcastInDim S4x1x4096x1024 ![0, 2, 3] bcast_S4x4096x1024_S4x1x4096x1024_0_2_3 (shapeCast _ x shapeCasts_S16384x1024_S4x4096x1024)⟩]
    concatenates_S4x1x4096x1024_S4x1x4096x1024_S4x2x4096x1024_d1) shapeCasts_S4x2x4096x1024_S32768x1024

/-- One chip's rows, at an index. -/
theorem rows_at (x : S16384x1024.Idx → α) (q : Fin 4) (u : Fin 1) (r : Fin 4096) (l : Fin 1024) :
    broadcastInDim S4x1x4096x1024 ![0, 2, 3] bcast_S4x4096x1024_S4x1x4096x1024_0_2_3 (shapeCast _ x shapeCasts_S16384x1024_S4x4096x1024)
        (ValueIdx.ix4 q u r l : S4x1x4096x1024.Idx)
      = x (ValueIdx.ix2 (⟨q.val * 4096 + r.val, by omega⟩ : Fin 16384) l) := by
  refine (broadcastInDim_apply _ _ _ _ (ValueIdx.ix3 q r l : S4x4096x1024.Idx) ?_).trans ?_
  · intro a
    match a with
    | 0 => rfl
    | 1 => rfl
    | 2 => rfl
  · refine shapeCast_apply _ _ _ _ ?_
    rw [rowMajor_val2 _ 1024 rfl, rowMajor_val3 _ 4194304 1024 rfl rfl]
    show (q.val * 4096 + r.val) * 1024 + l.val = q.val * 4194304 + r.val * 1024 + l.val
    omega

/-- Two copies set one above the other on the core axis, at an index. -/
theorem two_at (y : S4x1x4096x1024.Idx → α) (q : Fin 4) (s : Fin 2) (r : Fin 4096) (l : Fin 1024) :
    concatenate S4x2x4096x1024 1 [⟨S4x1x4096x1024, y⟩, ⟨S4x1x4096x1024, y⟩] concatenates_S4x1x4096x1024_S4x1x4096x1024_S4x2x4096x1024_d1
        (ValueIdx.ix4 q s r l : S4x2x4096x1024.Idx)
      = y (ValueIdx.ix4 q (0 : Fin 1) r l : S4x1x4096x1024.Idx) := by
  have h2 : ∀ s : Fin 2, s = 0 ∨ s = 1 := by decide
  rcases h2 s with rfl | rfl
  · refine concatenate_pair_apply_left (t := S4x2x4096x1024) (s₁ := S4x1x4096x1024) (s₂ := S4x1x4096x1024) 1 y y _ _ rfl _ ?_
    intro b
    match b with
    | 0 => rfl
    | 1 => rfl
    | 2 => rfl
    | 3 => rfl
  · refine concatenate_pair_apply_right (t := S4x2x4096x1024) (s₁ := S4x1x4096x1024) (s₂ := S4x1x4096x1024) 1 y y _ _ rfl rfl _ ?_ rfl
    intro b hb
    match b, hb with
    | 0, _ => rfl
    | 1, hb => exact absurd rfl hb
    | 2, _ => rfl
    | 3, _ => rfl

/-- The reference's result at a row of chip `q`, of its core `s`. -/
theorem chipRows_at (x : S16384x1024.Idx → α) (j : S32768x1024.Idx) (q : Fin 4) (s : Fin 2) (r : Fin 4096)
    (hj : (j 0).val = (q.val * 2 + s.val) * 4096 + r.val) :
    chipRows x j = x (ValueIdx.ix2 (⟨q.val * 4096 + r.val, by omega⟩ : Fin 16384) (j 1)) := by
  unfold chipRows
  refine (shapeCast_apply _ _ _ (ValueIdx.ix4 q s r (j 1) : S4x2x4096x1024.Idx) ?_).trans ?_
  · rw [rowMajor_val2 _ 1024 rfl, rowMajor_val4 _ 8388608 4194304 1024 rfl rfl rfl]
    show q.val * 8388608 + s.val * 4194304 + r.val * 1024 + (j 1).val = (j 0).val * 1024 + (j 1).val
    omega
  exact (two_at _ q s r (j 1)).trans (rows_at x q 0 r (j 1))

variable {F : FTy → Type} [FloatOps F]

/-- From devices that hold their rows of `x`, each ends with its part of the reference's result. -/
theorem value (m : (ℓ : Loc ShareIdeal.nD ShareIdeal.τ ShareIdeal.sig) → Buf (Elt F) ℓ) (x : S16384x1024.Idx → Elt F .f32)
    (hx : ∀ c : Dev ShareIdeal.nD, src m c = Layout.block ⟨2, ![2048, 1024]⟩ ⟨2, ![16384, 1024]⟩ 0 8 c x) (c : Dev ShareIdeal.nD) :
    out m c = Layout.block ⟨2, ![4096, 1024]⟩ ⟨2, ![32768, 1024]⟩ 0 8 c (chipRows x) := by
  funext i
  have hi : (i 0).val < 4096 := (i 0).isLt
  have hs : ∀ c : Dev ShareIdeal.nD, (sib c).val + c.val % 2 = 2 * (c.val / 2) + (1 - c.val % 2) + c.val % 2 := by decide
  have hc := c.isLt
  change c.val < 8 at hc
  rw [Layout.block_apply, chipRows_at x _ ⟨c.val / 2, by omega⟩ ⟨c.val % 2, by omega⟩ ⟨(i 0).val, hi⟩
    (by show c.val * 4096 + (i 0).val = (c.val / 2 * 2 + c.val % 2) * 4096 + (i 0).val; omega)]
  unfold out
  rw [hx, Layout.block_apply]
  congr 1
  funext a
  match a with
  | 0 =>
    apply Fin.ext
    show (if (i 0).val / 2048 = c.val % 2 then c else sib c).val * 2048 + (i 0).val % 2048 = c.val / 2 * 4096 + (i 0).val
    have := hs c
    split <;> omega
  | 1 => rfl

/-! ## The claims -/

theorem frame_kernel : Cert.quiescent_Share := fun m ρ _ =>
  (θ_run Cert.ShareIdeal.defs _ _).mono (fun _ h => ⟨fun c => (h.1 c).1, h.2⟩) (run (F := Bits) m ρ)

theorem frame_kernelIdeal : Cert.quiescent_ShareIdeal := fun m ρ _ =>
  (θ_run Cert.ShareIdeal.defs _ _).mono (fun _ h => ⟨fun c => (h.1 c).1, h.2⟩) (run (F := Ideal) m ρ)

theorem frame_ref : Cert.quiescent_ShareRef := fun m ρ _ =>
  (θ_run Cert.ShareRefIdeal.defs _ _).mono (fun r h => ⟨fun c => (h c).2, sem_eq_zero_of_no_sems (by decide) r.2⟩)
    (Cert.ShareRefIdeal.Value.run (F := Bits) m ρ)

theorem frame_refIdeal : Cert.quiescent_ShareRefIdeal := fun m ρ _ =>
  (θ_run Cert.ShareRefIdeal.defs _ _).mono (fun r h => ⟨fun c => (h c).2, sem_eq_zero_of_no_sems (by decide) r.2⟩)
    (Cert.ShareRefIdeal.Value.run (F := Ideal) m ρ)

theorem preserves : Cert.preserves_Share_ShareIdeal := trivial

/-- In exact arithmetic each device ends with its part of what the reference computes. -/
theorem algebraic : Cert.algebraic_ShareIdeal_ShareRefIdeal := by
  intro m g m' g' _ hx
  refine ⟨chipRows (m' (((0 : Dev Cert.ShareRefIdeal.nD).tc : Thread Cert.ShareRefIdeal.nD Cert.ShareRefIdeal.τ).loc Cert.ShareRefIdeal.main_arg0)), ?_, ?_⟩
  · exact (θ_run Cert.ShareIdeal.defs _ _).mono (fun _ h c => ⟨(h.1 c).2.trans (value (F := Ideal) m _ hx c), (h.1 c).1⟩) (run (F := Ideal) m g)
  · exact (θ_run Cert.ShareRefIdeal.defs _ _).mono (fun _ h => h 0) (Cert.ShareRefIdeal.Value.run (F := Ideal) m' g')

/-- The same bit for bit. -/
theorem bitexact : Cert.bitexact_Share_ShareRef := by
  intro m g m' g' _ hx
  refine ⟨chipRows (m' (((0 : Dev Cert.ShareRefIdeal.nD).tc : Thread Cert.ShareRefIdeal.nD Cert.ShareRefIdeal.τ).loc Cert.ShareRefIdeal.main_arg0)), ?_, ?_⟩
  · exact (θ_run Cert.ShareIdeal.defs _ _).mono (fun _ h c => ⟨(h.1 c).2.trans (value (F := Bits) m _ hx c), (h.1 c).1⟩) (run (F := Bits) m g)
  · exact (θ_run Cert.ShareRefIdeal.defs _ _).mono (fun _ h => h 0) (Cert.ShareRefIdeal.Value.run (F := Bits) m' g')

end Cert.ShareIdeal.Exchange

end
-- ==== Proof.Update.Adam.lean ====
/-
# The optimizer's step, over the packed large weights

Each of the three results (the step, the new first moment, the new second moment) is one function of the weight, the gradient
and the two moments, index by index, and in exact arithmetic it is the reference's.
-/
module

public import proofs.«01_k».proof.Defs
public import proofs.«01_k».proof.Proof.Gen.Adam.Frame
public import proofs.«01_k».proof.Proof.Gen.AdamIdeal.Value
public import proofs.«01_k».proof.Proof.Gen.AdamRefIdeal.Run
public import Idealize.ShloMosaic.Lib.Quiescent

@[expose] public section

noncomputable section

namespace Cert.AdamIdeal.Update

open Idealize.ShloMosaic Idealize.ShloMosaic.TcCoe Idealize.SL.Sem

theorem frame_kernel : Cert.quiescent_Adam := fun m ρ _ => Cert.Adam.Gen.frame (F := Bits) m ρ

theorem frame_kernelIdeal : Cert.quiescent_AdamIdeal := fun m ρ _ => Cert.AdamIdeal.Gen.frame (F := Ideal) m ρ

theorem frame_refIdeal : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem preserves : Cert.preserves_Adam_AdamIdeal := trivial

/-- In exact arithmetic the step and the two new moments are the reference's. -/
theorem algebraic : Cert.algebraic_AdamIdeal_AdamRefIdeal := by
  intro m g m' g' _ hx
  refine ⟨_, _, _, Cert.AdamIdeal.Value.run (F := Ideal) m g, ?_⟩
  refine (θ_run Cert.AdamRefIdeal.defs _ _).mono (fun r h c => ?_) (Cert.AdamRefIdeal.Value.run (F := Ideal) m' g')
  obtain ⟨h0, h1, h2, hk⟩ := h c
  obtain ⟨e0, e1, e2, e3⟩ := hx c
  refine ⟨h0.trans ?_, h1.trans ?_, h2.trans ?_, hk⟩
  · rw [e0, e1, e2, e3]; rfl
  · rw [e1, e2]; rfl
  · rw [e1, e3]; rfl

end Cert.AdamIdeal.Update

end
-- ==== Proof.Update.AdamSmall.lean ====
/-
# The optimizer's step, over the packed small weights

Each of the three results (the step, the new first moment, the new second moment) is one function of the weight, the gradient
and the two moments, index by index, and in exact arithmetic it is the reference's.
-/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent

@[expose] public section

noncomputable section

namespace Cert.AdamSmallIdeal.Update

open Idealize.ShloMosaic Idealize.ShloMosaic.TcCoe Idealize.SL.Sem

theorem frame_kernel : Cert.quiescent_AdamSmall := fun m ρ _ => Cert.AdamSmall.Gen.frame (F := Bits) m ρ

theorem frame_kernelIdeal : Cert.quiescent_AdamSmallIdeal := fun m ρ _ => Cert.AdamSmallIdeal.Gen.frame (F := Ideal) m ρ

theorem frame_refIdeal : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

theorem preserves : Cert.preserves_AdamSmall_AdamSmallIdeal := trivial

/-- In exact arithmetic the step and the two new moments are the reference's. -/
theorem algebraic : Cert.algebraic_AdamSmallIdeal_AdamSmallRefIdeal := by
  intro m g m' g' _ hx
  refine ⟨_, _, _, Cert.AdamSmallIdeal.Value.run (F := Ideal) m g, ?_⟩
  refine (θ_run Cert.AdamSmallRefIdeal.defs _ _).mono (fun r h c => ?_) (Cert.AdamSmallRefIdeal.Value.run (F := Ideal) m' g')
  obtain ⟨h0, h1, h2, hk⟩ := h c
  obtain ⟨e0, e1, e2, e3⟩ := hx c
  refine ⟨h0.trans ?_, h1.trans ?_, h2.trans ?_, hk⟩
  · rw [e0, e1, e2, e3]; rfl
  · rw [e1, e2]; rfl
  · rw [e1, e3]; rfl

end Cert.AdamSmallIdeal.Update

end
-- ==== Proof.Grad.Dot.lean ====
/-
# The sum over the tokens

A weight's gradient is the product of the layer's input and of the gradient of its output, summed over the tokens.  The kernel sums
over a block of the tokens at each step; the reference sums over them all.
-/
module

public import Idealize.ShloMosaic.Lib.Quiescent
public import Idealize.ShloMosaic.Lib.Pointwise
public import Idealize.ShloMosaic.Lib.Pipeline.ValueKit

@[expose] public section

noncomputable section

namespace Cert.Grad

open Idealize.ShloMosaic

/-- At `(p, q)`, the sum over the tokens `k` of `x (k, p) * y (k, q)`. -/
def dot {T M N : Nat} (x : (⟨2, ![T, M]⟩ : Shape).Idx → EReal) (y : (⟨2, ![T, N]⟩ : Shape).Idx → EReal) :
    (⟨2, ![M, N]⟩ : Shape).Idx → EReal :=
  fun i => ∑ k : Fin T, x (ix2 k (i 0)) * y (ix2 k (i 1))

/-- A running sum that starts at the first block of tokens and takes one more block at each step holds, after the last block, the sum
over all the tokens. -/
theorem run_eq_dot {G J B T M N P Q : Nat} [NeZero J] (hT : T = J * B)
    {f : (n : Nat) → n < G → (⟨2, ![P, Q]⟩ : Shape).Idx → EReal}
    {x : Fin G → (⟨2, ![B, P]⟩ : Shape).Idx → EReal} {y : Fin G → (⟨2, ![B, Q]⟩ : Shape).Idx → EReal}
    {X : (⟨2, ![T, M]⟩ : Shape).Idx → EReal} {Y : (⟨2, ![T, N]⟩ : Shape).Idx → EReal}
    (h0 : ∀ t : Fin G, t.val % J = 0 → ∀ j, f t.val t.isLt j = 0 + dot (x t) (y t) j)
    (hs : ∀ t : Fin G, ¬t.val % J = 0 → ∀ j, f t.val t.isLt j = f (t.val - 1) (by omega) j + dot (x t) (y t) j)
    (t : Fin G) (hr : t.val % J = J - 1) (j : (⟨2, ![P, Q]⟩ : Shape).Idx) (i : (⟨2, ![M, N]⟩ : Shape).Idx)
    (hb : ∀ (u : Fin G) (k : Fin B) (l : Fin T), u.val / J = t.val / J → l.val = u.val % J * B + k.val →
      x u (ix2 k (j 0)) = X (ix2 l (i 0)) ∧ y u (ix2 k (j 1)) = Y (ix2 l (i 1))) :
    f t.val t.isLt j = dot X Y i := by
  rw [Pipeline.eq_sum_fin_of_reset_step_apply_of_flush f J (fun _ => 0) (fun t => dot (x t) (y t)) h0 hs t hr j, zero_add]
  refine Fin.sum_mul_add_congr (fun s k hl => ?_) hT
  obtain ⟨e, e'⟩ := hb ⟨J * (t.val / J) + s.val, by have := Nat.div_add_mod t.val J; have := t.isLt; have := s.isLt; omega⟩ k ⟨_, hl⟩
    (by rw [Nat.mul_add_div (NeZero.pos J), Nat.div_eq_of_lt s.isLt, Nat.add_zero])
    (by rw [Nat.mul_add_mod, Nat.mod_eq_of_lt s.isLt])
  rw [e, e']

end Cert.Grad

end
-- ==== Proof.Grad.DwIn.lean ====
/-
# The gradient of the input projection's weights
-/
module

public import proofs.«01_k».proof.Defs
public import proofs.«01_k».proof.Proof.Grad.Dot
public import proofs.«01_k».proof.Proof.Gen.DwIn.Frame
public import proofs.«01_k».proof.Proof.Gen.DwInIdeal.Value
public import proofs.«01_k».proof.Proof.Gen.DwInRefIdeal.Run

@[expose] public section

noncomputable section

namespace Cert.DwInIdeal.Grad

open Idealize.ShloMosaic Idealize.ShloMosaic.TcCoe Idealize.SL.Sem Cert.Grad
open Cert.DwInIdeal Cert.DwInIdeal.Gen

theorem frame_kernel : Cert.quiescent_DwIn := fun m ρ _ => Cert.DwIn.Gen.frame (F := Bits) m ρ

theorem frame_kernelIdeal : Cert.quiescent_DwInIdeal := fun m ρ _ => Cert.DwInIdeal.Gen.frame (F := Ideal) m ρ

theorem frame_refIdeal : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem preserves : Cert.preserves_DwIn_DwInIdeal := trivial

/-- The running sum starts at zero. -/
theorem start_apply (j : S1024x384.Idx) : k0_pay1 (F := Ideal) j = 0 := by
  unfold k0_pay1
  pointwise

/-- A step adds its block of tokens. -/
theorem step_apply (acc : Vec Ideal S1024x384 .f32) (x : Vec Ideal S512x1024 .bf16) (y : Vec Ideal S512x384 .bf16)
    (j : S1024x384.Idx) : k0_pay2 acc x y j = acc j + dot x y j := by
  unfold k0_pay2 dot
  pointwise

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S1024x384.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwInIdeal_DwInRefIdeal := by
  intro m g m' g' _ hx
  refine ⟨_, Cert.DwInIdeal.Value.run_blocks (F := Ideal) m g, ?_⟩
  refine (θ_run Cert.DwInRefIdeal.defs _ _).mono (fun r h c => ?_) (Cert.DwInRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwInIdeal.Grad

end
-- ==== Proof.Grad.DwOutConv.lean ====
/-
# The gradient of the output projection's weights, the convolution's rows
-/
module

public import proofs.«01_k».proof.Defs
public import proofs.«01_k».proof.Proof.Grad.Dot
public import proofs.«01_k».proof.Proof.Gen.DwOutConv.Frame
public import proofs.«01_k».proof.Proof.Gen.DwOutConvIdeal.Value
public import proofs.«01_k».proof.Proof.Gen.DwOutConvRefIdeal.Run

@[expose] public section

noncomputable section

namespace Cert.DwOutConvIdeal.Grad

open Idealize.ShloMosaic Idealize.ShloMosaic.TcCoe Idealize.SL.Sem Cert.Grad
open Cert.DwOutConvIdeal Cert.DwOutConvIdeal.Gen

theorem frame_kernel : Cert.quiescent_DwOutConv := fun m ρ _ => Cert.DwOutConv.Gen.frame (F := Bits) m ρ

theorem frame_kernelIdeal : Cert.quiescent_DwOutConvIdeal := fun m ρ _ => Cert.DwOutConvIdeal.Gen.frame (F := Ideal) m ρ

theorem frame_refIdeal : Cert.quiescent_DwOutConvRefIdeal := fun m ρ _ =>
  (θ_run Cert.DwOutConvRefIdeal.defs _ _).mono (fun r h => ⟨fun c => (h c).2, sem_eq_zero_of_no_sems (by decide) r.2⟩)
    (Cert.DwOutConvRefIdeal.Value.run (F := Ideal) m ρ)

theorem preserves : Cert.preserves_DwOutConv_DwOutConvIdeal := trivial

/-- The running sum starts at zero. -/
theorem start_apply (j : S512x512.Idx) : k0_pay1 (F := Ideal) j = 0 := by
  unfold k0_pay1
  pointwise

/-- A step adds its block of tokens. -/
theorem step_apply (acc : Vec Ideal S512x512 .f32) (x : Vec Ideal S512x512 .bf16) (y : Vec Ideal S512x512 .f32)
    (j : S512x512.Idx) : k0_pay2 acc x y j = acc j + dot x y j := by
  unfold k0_pay2 dot
  pointwise

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S512x512.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwOutConvIdeal_DwOutConvRefIdeal := by
  intro m g m' g' _ hx
  refine ⟨_, Cert.DwOutConvIdeal.Value.run_blocks (F := Ideal) m g, ?_⟩
  refine (θ_run Cert.DwOutConvRefIdeal.defs _ _).mono (fun r h c => ?_) (Cert.DwOutConvRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwOutConvIdeal.Grad

end
-- ==== Proof.Grad.DwOutFox.lean ====
/-
# The gradient of the output projection's weights, the attention's rows
-/
module

public import proofs.«01_k».proof.Defs
public import proofs.«01_k».proof.Proof.Grad.Dot
public import proofs.«01_k».proof.Proof.Gen.DwOutFox.Frame
public import proofs.«01_k».proof.Proof.Gen.DwOutFoxIdeal.Value
public import proofs.«01_k».proof.Proof.Gen.DwOutFoxRefIdeal.Run

@[expose] public section

noncomputable section

namespace Cert.DwOutFoxIdeal.Grad

open Idealize.ShloMosaic Idealize.ShloMosaic.TcCoe Idealize.SL.Sem Cert.Grad
open Cert.DwOutFoxIdeal Cert.DwOutFoxIdeal.Gen

theorem frame_kernel : Cert.quiescent_DwOutFox := fun m ρ _ => Cert.DwOutFox.Gen.frame (F := Bits) m ρ

theorem frame_kernelIdeal : Cert.quiescent_DwOutFoxIdeal := fun m ρ _ => Cert.DwOutFoxIdeal.Gen.frame (F := Ideal) m ρ

theorem frame_refIdeal : Cert.quiescent_DwOutFoxRefIdeal := fun m ρ _ =>
  (θ_run Cert.DwOutFoxRefIdeal.defs _ _).mono (fun r h => ⟨fun c => (h c).2, sem_eq_zero_of_no_sems (by decide) r.2⟩)
    (Cert.DwOutFoxRefIdeal.Value.run (F := Ideal) m ρ)

theorem preserves : Cert.preserves_DwOutFox_DwOutFoxIdeal := trivial

/-- The running sum starts at zero. -/
theorem start_apply (j : S512x512.Idx) : k0_pay1 (F := Ideal) j = 0 := by
  unfold k0_pay1
  pointwise

/-- A step adds its block of tokens. -/
theorem step_apply (acc : Vec Ideal S512x512 .f32) (x : Vec Ideal S512x512 .f32) (y : Vec Ideal S512x512 .f32)
    (j : S512x512.Idx) : k0_pay2 acc x y j = acc j + dot x y j := by
  unfold k0_pay2 dot
  pointwise

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S512x512.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwOutFoxIdeal_DwOutFoxRefIdeal := by
  intro m g m' g' _ hx
  refine ⟨_, Cert.DwOutFoxIdeal.Value.run_blocks (F := Ideal) m g, ?_⟩
  refine (θ_run Cert.DwOutFoxRefIdeal.defs _ _).mono (fun r h c => ?_) (Cert.DwOutFoxRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwOutFoxIdeal.Grad

end
-- ==== Proof.Grad.DwMq.lean ====
/-
# The gradient of the memory queries' weights
-/
module

public import proofs.«01_k».proof.Defs
public import proofs.«01_k».proof.Proof.Grad.Dot
public import proofs.«01_k».proof.Proof.Gen.DwMq.Frame
public import proofs.«01_k».proof.Proof.Gen.DwMqIdeal.Value
public import proofs.«01_k».proof.Proof.Gen.DwMqRefIdeal.Run

@[expose] public section

noncomputable section

namespace Cert.DwMqIdeal.Grad

open Idealize.ShloMosaic Idealize.ShloMosaic.TcCoe Idealize.SL.Sem Cert.Grad
open Cert.DwMqIdeal Cert.DwMqIdeal.Gen

theorem frame_kernel : Cert.quiescent_DwMq := fun m ρ _ => Cert.DwMq.Gen.frame (F := Bits) m ρ

theorem frame_kernelIdeal : Cert.quiescent_DwMqIdeal := fun m ρ _ => Cert.DwMqIdeal.Gen.frame (F := Ideal) m ρ

theorem frame_refIdeal : Cert.quiescent_DwMqRefIdeal := fun m ρ _ =>
  (θ_run Cert.DwMqRefIdeal.defs _ _).mono (fun r h => ⟨fun c => (h c).2, sem_eq_zero_of_no_sems (by decide) r.2⟩)
    (Cert.DwMqRefIdeal.Value.run (F := Ideal) m ρ)

theorem preserves : Cert.preserves_DwMq_DwMqIdeal := trivial

/-- The running sum starts at zero. -/
theorem start_apply (j : S1024x512.Idx) : k0_pay1 (F := Ideal) j = 0 := by
  unfold k0_pay1
  pointwise

/-- A step adds its block of tokens. -/
theorem step_apply (acc : Vec Ideal S1024x512 .f32) (x : Vec Ideal S512x1024 .bf16) (y : Vec Ideal S512x512 .bf16)
    (j : S1024x512.Idx) : k0_pay2 acc x y j = acc j + dot x y j := by
  unfold k0_pay2 dot
  pointwise

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S1024x512.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwMqIdeal_DwMqRefIdeal := by
  intro m g m' g' _ hx
  refine ⟨_, Cert.DwMqIdeal.Value.run_blocks (F := Ideal) m g, ?_⟩
  refine (θ_run Cert.DwMqRefIdeal.defs _ _).mono (fun r h c => ?_) (Cert.DwMqRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwMqIdeal.Grad

end
-- ==== Proof.Grad.DwMkv.lean ====
/-
# The gradient of the memory keys' and values' weights
-/
module

public import proofs.«01_k».proof.Defs
public import proofs.«01_k».proof.Proof.Grad.Dot
public import proofs.«01_k».proof.Proof.Gen.DwMkv.Frame
public import proofs.«01_k».proof.Proof.Gen.DwMkvIdeal.Value
public import proofs.«01_k».proof.Proof.Gen.DwMkvRefIdeal.Run

@[expose] public section

noncomputable section

namespace Cert.DwMkvIdeal.Grad

open Idealize.ShloMosaic Idealize.ShloMosaic.TcCoe Idealize.SL.Sem Cert.Grad
open Cert.DwMkvIdeal Cert.DwMkvIdeal.Gen

theorem frame_kernel : Cert.quiescent_DwMkv := fun m ρ _ => Cert.DwMkv.Gen.frame (F := Bits) m ρ

theorem frame_kernelIdeal : Cert.quiescent_DwMkvIdeal := fun m ρ _ => Cert.DwMkvIdeal.Gen.frame (F := Ideal) m ρ

theorem frame_refIdeal : Cert.quiescent_DwMkvRefIdeal := fun m ρ _ =>
  (θ_run Cert.DwMkvRefIdeal.defs _ _).mono (fun r h => ⟨fun c => (h c).2, sem_eq_zero_of_no_sems (by decide) r.2⟩)
    (Cert.DwMkvRefIdeal.Value.run (F := Ideal) m ρ)

theorem preserves : Cert.preserves_DwMkv_DwMkvIdeal := trivial

/-- The running sum starts at zero. -/
theorem start_apply (j : S1024x512.Idx) : k0_pay1 (F := Ideal) j = 0 := by
  unfold k0_pay1
  pointwise

/-- A step adds its block of tokens. -/
theorem step_apply (acc : Vec Ideal S1024x512 .f32) (x : Vec Ideal S512x1024 .bf16) (y : Vec Ideal S512x512 .bf16)
    (j : S1024x512.Idx) : k0_pay2 acc x y j = acc j + dot x y j := by
  unfold k0_pay2 dot
  pointwise

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

variable (m : (ℓ : Loc nD τ sig) → Buf (Elt Ideal) ℓ)

/-- The memory is one block of tokens: a step writes the gradient's columns. -/
theorem out_eq (c : Dev nD) (t : Fin cfg0.N) (j : S1024x512.Idx) :
    outsAt0 m c t j
      = dot (m ((c.tc : Thread nD τ).loc main_arg0)) (m ((c.tc : Thread nD τ).loc main_arg1)) ((win0_2.blk t).view.emb j) := by
  have e : outsAt0 m c t = k0_pay2 (k0_pay1 (F := Ideal)) (iblk m c 0 t) (iblk m c 1 t) := by
    unfold outsAt0
    frame_out
  rw [e, step_apply, start_apply, zero_add]
  unfold dot
  refine Finset.sum_congr rfl fun k _ => ?_
  congr 1
  · simp only [iblk, V]; blk_ext [idx0, idx2]
  · simp only [iblk, V]; blk_ext [idx1, idx2]

theorem algebraic : Cert.algebraic_DwMkvIdeal_DwMkvRefIdeal := by
  intro m g m' g' _ hx
  refine ⟨_, Cert.DwMkvIdeal.Value.run_blocks (F := Ideal) m g, ?_⟩
  refine (θ_run Cert.DwMkvRefIdeal.defs _ _).mono (fun r h c => ?_) (Cert.DwMkvRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  blk_simp
  rw [after0_2, out_eq m c t, e0, e1]
  unfold dot
  pointwise

end Cert.DwMkvIdeal.Grad

end
-- ==== Proof.Grad.DwMo.lean ====
/-
# The gradient of the memory output's weights
-/
module

public import proofs.«01_k».proof.Defs
public import proofs.«01_k».proof.Proof.Grad.Dot
public import proofs.«01_k».proof.Proof.Gen.DwMo.Frame
public import proofs.«01_k».proof.Proof.Gen.DwMoIdeal.Value
public import proofs.«01_k».proof.Proof.Gen.DwMoRefIdeal.Run

@[expose] public section

noncomputable section

namespace Cert.DwMoIdeal.Grad

open Idealize.ShloMosaic Idealize.ShloMosaic.TcCoe Idealize.SL.Sem Cert.Grad
open Cert.DwMoIdeal Cert.DwMoIdeal.Gen

theorem frame_kernel : Cert.quiescent_DwMo := fun m ρ _ => Cert.DwMo.Gen.frame (F := Bits) m ρ

theorem frame_kernelIdeal : Cert.quiescent_DwMoIdeal := fun m ρ _ => Cert.DwMoIdeal.Gen.frame (F := Ideal) m ρ

theorem frame_refIdeal : Cert.quiescent_DwMoRefIdeal := fun m ρ _ =>
  (θ_run Cert.DwMoRefIdeal.defs _ _).mono (fun r h => ⟨fun c => (h c).2, sem_eq_zero_of_no_sems (by decide) r.2⟩)
    (Cert.DwMoRefIdeal.Value.run (F := Ideal) m ρ)

theorem preserves : Cert.preserves_DwMo_DwMoIdeal := trivial

/-- The running sum starts at zero. -/
theorem start_apply (j : S1024x512.Idx) : k0_pay1 (F := Ideal) j = 0 := by
  unfold k0_pay1
  pointwise

/-- A step adds its block of tokens. -/
theorem step_apply (acc : Vec Ideal S1024x512 .f32) (x : Vec Ideal S512x1024 .bf16) (y : Vec Ideal S512x512 .f32)
    (j : S1024x512.Idx) : k0_pay2 acc x y j = acc j + dot x y j := by
  unfold k0_pay2 dot
  pointwise

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S1024x512.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwMoIdeal_DwMoRefIdeal := by
  intro m g m' g' _ hx
  refine ⟨_, Cert.DwMoIdeal.Value.run_blocks (F := Ideal) m g, ?_⟩
  refine (θ_run Cert.DwMoRefIdeal.defs _ _).mono (fun r h c => ?_) (Cert.DwMoRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwMoIdeal.Grad

end
-- ==== Proof.Grad.DwGu.lean ====
/-
# The gradient of the gate's and the up projection's weights
-/
module

public import proofs.«01_k».proof.Defs
public import proofs.«01_k».proof.Proof.Grad.Dot
public import proofs.«01_k».proof.Proof.Gen.DwGu.Frame
public import proofs.«01_k».proof.Proof.Gen.DwGuIdeal.Value
public import proofs.«01_k».proof.Proof.Gen.DwGuRefIdeal.Run

@[expose] public section

noncomputable section

namespace Cert.DwGuIdeal.Grad

open Idealize.ShloMosaic Idealize.ShloMosaic.TcCoe Idealize.SL.Sem Cert.Grad
open Cert.DwGuIdeal Cert.DwGuIdeal.Gen

theorem frame_kernel : Cert.quiescent_DwGu := fun m ρ _ => Cert.DwGu.Gen.frame (F := Bits) m ρ

theorem frame_kernelIdeal : Cert.quiescent_DwGuIdeal := fun m ρ _ => Cert.DwGuIdeal.Gen.frame (F := Ideal) m ρ

theorem frame_refIdeal : Cert.quiescent_DwGuRefIdeal := fun m ρ _ =>
  (θ_run Cert.DwGuRefIdeal.defs _ _).mono (fun r h => ⟨fun c => (h c).2, sem_eq_zero_of_no_sems (by decide) r.2⟩)
    (Cert.DwGuRefIdeal.Value.run (F := Ideal) m ρ)

theorem preserves : Cert.preserves_DwGu_DwGuIdeal := trivial

/-- The running sum starts at zero. -/
theorem start_apply (j : S1024x512.Idx) : k0_pay1 (F := Ideal) j = 0 := by
  unfold k0_pay1
  pointwise

/-- A step adds its block of tokens. -/
theorem step_apply (acc : Vec Ideal S1024x512 .f32) (x : Vec Ideal S512x1024 .bf16) (y : Vec Ideal S512x512 .bf16)
    (j : S1024x512.Idx) : k0_pay2 acc x y j = acc j + dot x y j := by
  unfold k0_pay2 dot
  pointwise

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S1024x512.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwGuIdeal_DwGuRefIdeal := by
  intro m g m' g' _ hx
  refine ⟨_, Cert.DwGuIdeal.Value.run_blocks (F := Ideal) m g, ?_⟩
  refine (θ_run Cert.DwGuRefIdeal.defs _ _).mono (fun r h c => ?_) (Cert.DwGuRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwGuIdeal.Grad

end
-- ==== Proof.Grad.DwDown.lean ====
/-
# The gradient of the down projection's weights
-/
module

public import proofs.«01_k».proof.Defs
public import proofs.«01_k».proof.Proof.Grad.Dot
public import proofs.«01_k».proof.Proof.Gen.DwDown.Frame
public import proofs.«01_k».proof.Proof.Gen.DwDownIdeal.Value
public import proofs.«01_k».proof.Proof.Gen.DwDownRefIdeal.Run

@[expose] public section

noncomputable section

namespace Cert.DwDownIdeal.Grad

open Idealize.ShloMosaic Idealize.ShloMosaic.TcCoe Idealize.SL.Sem Cert.Grad
open Cert.DwDownIdeal Cert.DwDownIdeal.Gen

theorem frame_kernel : Cert.quiescent_DwDown := fun m ρ _ => Cert.DwDown.Gen.frame (F := Bits) m ρ

theorem frame_kernelIdeal : Cert.quiescent_DwDownIdeal := fun m ρ _ => Cert.DwDownIdeal.Gen.frame (F := Ideal) m ρ

theorem frame_refIdeal : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem preserves : Cert.preserves_DwDown_DwDownIdeal := trivial

/-- The running sum starts at zero. -/
theorem start_apply (j : S1408x512.Idx) : k0_pay1 (F := Ideal) j = 0 := by
  unfold k0_pay1
  pointwise

/-- A step adds its block of tokens. -/
theorem step_apply (acc : Vec Ideal S1408x512 .f32) (x : Vec Ideal S512x1408 .bf16) (y : Vec Ideal S512x512 .f32)
    (j : S1408x512.Idx) : k0_pay2 acc x y j = acc j + dot x y j := by
  unfold k0_pay2 dot
  pointwise

theorem idx0 : ∀ t : Fin cfg0.N, win0_0.index t = ![t.val % 8, t.val / 16] := (by decide +kernel : ∀ t : Fin grid0.N, _)
theorem idx1 : ∀ t : Fin cfg0.N, win0_1.index t = ![t.val % 8, t.val / 8 % 2] := (by decide +kernel : ∀ t : Fin grid0.N, _)
theorem idx2 : ∀ t : Fin cfg0.N, win0_2.index t = ![t.val / 16, t.val / 8 % 2] := (by decide +kernel : ∀ t : Fin grid0.N, _)

variable (m : (ℓ : Loc nD τ sig) → Buf (Elt Ideal) ℓ)

/-- The last step of a block of columns writes the running sum. -/
theorem out_eq (c : Dev nD) (t : Fin cfg0.N) (h : t.val % 8 = 7) :
    (outsAt0 m c t.val t.isLt).1 = (outsAt0 m c t.val t.isLt).2 := by
  rw [outsAt0_C m c t (by omega) h]
  frame_out

/-- Which is the gradient there. -/
theorem sum_eq (c : Dev nD) (t : Fin cfg0.N) (h : t.val % 8 = 7) (j : S1408x512.Idx) :
    (outsAt0 m c t.val t.isLt).2 j
      = dot (m ((c.tc : Thread nD τ).loc main_arg0)) (m ((c.tc : Thread nD τ).loc main_arg1)) ((win0_2.blk t).view.emb j) := by
  refine run_eq_dot (J := 8) rfl (f := fun n h => (outsAt0 m c n h).2) (x := iblk m c 0) (y := iblk m c 1)
    (fun t h j => ?_) (fun t h j => ?_) t h j _ (fun u k l hu hl => ⟨?_, ?_⟩)
  · rw [outsAt0_A m c t h (by omega)]; frame_out; rw [step_apply, start_apply]
  · by_cases h7 : t.val % 8 = 7
    · rw [outsAt0_C m c t h h7]; frame_out; rw [step_apply, (Memref.isWhole_whole cc0_scratch0).read_unread]
    · rw [outsAt0_B m c t h h7]; frame_out; rw [step_apply, (Memref.isWhole_whole cc0_scratch0).read_unread]
  · simp only [iblk, V]; blk_ext [idx0, idx2]
  · simp only [iblk, V]; blk_ext [idx1, idx2]

theorem algebraic : Cert.algebraic_DwDownIdeal_DwDownRefIdeal := by
  intro m g m' g' _ hx
  refine ⟨_, Cert.DwDownIdeal.Value.run_blocks (F := Ideal) m g, ?_⟩
  refine (θ_run Cert.DwDownRefIdeal.defs _ _).mono (fun r h c => ?_) (Cert.DwDownRefIdeal.Value.run (F := Ideal) m' g')
  obtain ⟨h0, hk⟩ := h c
  obtain ⟨e0, e1⟩ := hx c
  refine ⟨h0.trans ?_, hk⟩
  refine ((dats m 0 c).arrAt_eq_of_covers 2 _ (by decide +kernel) fun t hf y => ?_).symm
  have ht := (flush0_2 t).1 hf
  blk_simp
  rw [after0_2, out_eq m c t ht, sum_eq m c t ht, e0, e1]
  unfold dot
  pointwise

end Cert.DwDownIdeal.Grad

end
-- ==== Proof.Norm.Rms.lean ====
/-
# The gradient of the RMS norm

Of `y = x * r * g` with `r = 1 / sqrt (mean (x * x) + eps)`.  The kernel takes the mean of the gradient against the normed row; automatic
differentiation follows `r` back through the root and the mean.  Over the extended reals the two agree at every row, the infinite ones
included: then `r = 0` and both are zero.
-/
module

public import Idealize.ShloMosaic.Lib.IdealHost
public import Idealize.ShloMosaic.Lib.Pointwise

@[expose] public section

noncomputable section

namespace Cert.Norm

open Idealize.ShloMosaic

/-- The width of a row, as a float's word. -/
def width : EReal := Ideal.ofBits .f32 0x44800000#32
/-- The epsilon of the norm. -/
def eps : EReal := Ideal.ofBits .f32 0x358637BD#32
/-- Minus one half. -/
def minusHalf : EReal := Ideal.ofBits .f32 0xBF000000#32

theorem width_eq : width = ((1024 : ℝ) : EReal) := by
  simp [width, Ideal.ofBits, Ideal.ieee, -EReal.coe_mul]
  norm_num

theorem minusHalf_eq : minusHalf = ((-(1 / 2) : ℝ) : EReal) := by
  simp [minusHalf, Ideal.ofBits, Ideal.ieee, -EReal.coe_mul, -EReal.coe_neg]
  norm_num

theorem eps_eq : ∃ e : ℝ, 0 < e ∧ eps = (e : EReal) := by
  refine ⟨_, ?_, by simp [eps, Ideal.ofBits, Ideal.ieee]; rfl⟩
  norm_num

/-- Division by the width is a product. -/
theorem div_width (x : EReal) : Ideal.div x width = x * ((1 / 1024 : ℝ) : EReal) := by
  rw [width_eq, Ideal.div, if_neg (by norm_num), ← EReal.coe_inv]
  norm_num

variable {N : Nat}

/-- The mean square of a row, and epsilon. -/
def msq (x : Fin N → EReal) : EReal := Ideal.div (∑ k, x k * x k) width + eps

/-- The factor that norms a row. -/
def rinv (x : Fin N → EReal) : EReal := Ideal.rsqrt (msq x)

theorem mul_self_nonneg (a : EReal) : 0 ≤ a * a := by
  rcases le_total 0 a with h | h
  · exact mul_nonneg h h
  · rw [← neg_mul_neg]; exact mul_nonneg (EReal.neg_nonneg.2 h) (EReal.neg_nonneg.2 h)

theorem msq_pos (x : Fin N → EReal) : 0 < msq x := by
  obtain ⟨e, he, h⟩ := eps_eq
  unfold msq
  rw [h, div_width]
  have h0 : (0 : EReal) ≤ (∑ k, x k * x k) * ((1 / 1024 : ℝ) : EReal) :=
    mul_nonneg (Finset.sum_nonneg fun k _ => mul_self_nonneg _) (by exact_mod_cast (by norm_num : (0 : ℝ) ≤ 1 / 1024))
  exact lt_of_lt_of_le (by exact_mod_cast he) (le_add_of_nonneg_left h0)

/-- The norming factor is zero, at a row with an infinite mean square, or a positive real whose cube is it over the mean square. -/
theorem rinv_cases (x : Fin N → EReal) : (rinv x = 0 ∧ Ideal.div (rinv x) (msq x) = 0) ∨
    ∃ c : ℝ, 0 < c ∧ rinv x = (c : EReal) ∧ Ideal.div (rinv x) (msq x) = ((c * c * c : ℝ) : EReal) := by
  have hp := msq_pos x
  unfold rinv
  generalize msq x = q at hp
  induction q using EReal.rec with
  | bot => exact absurd hp (by simp)
  | top =>
    left
    have h : Ideal.rsqrt ⊤ = 0 := rfl
    rw [h]
    simp [Ideal.div]
  | coe q =>
    right
    have hq : 0 < q := by exact_mod_cast hp
    have h : Ideal.rsqrt (q : EReal) = (((Real.sqrt q)⁻¹ : ℝ) : EReal) := by
      show (if q < 0 then ⊥ else if q = 0 then ⊤ else (((Real.sqrt q)⁻¹ : ℝ) : EReal)) = _
      rw [if_neg (not_lt.2 hq.le), if_neg hq.ne']
    refine ⟨(Real.sqrt q)⁻¹, by positivity, h, ?_⟩
    rw [h, Ideal.div, if_neg (by exact_mod_cast hq.ne'), ← EReal.coe_inv, ← EReal.coe_mul]
    congr 1
    have h2 : Real.sqrt q * Real.sqrt q = q := Real.mul_self_sqrt hq.le
    have h3 : Real.sqrt q ≠ 0 := (Real.sqrt_pos.2 hq).ne'
    have h4 : q⁻¹ = (Real.sqrt q)⁻¹ * (Real.sqrt q)⁻¹ := by rw [← mul_inv, h2]
    rw [h4]; ring

/-- A positive real times a sum. -/
theorem coe_mul_sum (c : ℝ) (hc : 0 ≤ c) (f : Fin N → EReal) : (c : EReal) * ∑ k, f k = ∑ k, (c : EReal) * f k := by
  have h : ∀ s : Finset (Fin N), (c : EReal) * ∑ k ∈ s, f k = ∑ k ∈ s, (c : EReal) * f k := by
    intro s
    induction s using Finset.induction_on with
    | empty => simp
    | insert a s ha ih =>
      rw [Finset.sum_insert ha, Finset.sum_insert ha,
        EReal.left_distrib_of_nonneg_of_ne_top (by exact_mod_cast hc) (EReal.coe_ne_top c), ih]
  exact h _

/-- The kernel's gradient at a place of a row: `t` is the gradient of the normed row. -/
def grad (x t : Fin N → EReal) (j : Fin N) : EReal :=
  rinv x * (t j - x j * rinv x * Ideal.div (∑ k, t k * (x k * rinv x)) width)

/-- What flows back through the norming factor. -/
def back (x t : Fin N → EReal) : EReal := Ideal.div ((∑ k, x k * t k) * (minusHalf * Ideal.div (rinv x) (msq x))) width

/-- The kernel's gradient is the one of automatic differentiation. -/
theorem grad_eq (x t : Fin N → EReal) (j : Fin N) : grad x t j = t j * rinv x + x j * back x t + back x t * x j := by
  unfold grad back
  rcases rinv_cases x with ⟨hr, hd⟩ | ⟨c, hc, hr, hd⟩
  · rw [hd, hr, div_width, div_width]; simp
  · rw [hd, hr, div_width, div_width, minusHalf_eq]
    have hS : (∑ k, t k * (x k * (c : EReal))) = (c : EReal) * ∑ k, x k * t k := by
      rw [coe_mul_sum c hc.le]
      exact Finset.sum_congr rfl fun k _ => by rw [mul_comm (t k), mul_comm (x k) (c : EReal), mul_assoc]
    rw [hS]
    generalize (∑ k, x k * t k) = S
    have e1 : x j * (S * (((-(1 / 2) : ℝ) : EReal) * ((c * c * c : ℝ) : EReal)) * ((1 / 1024 : ℝ) : EReal))
        = ((1 / 2 : ℝ) : EReal) * -(((c * c * c * (1 / 1024) : ℝ) : EReal) * (x j * S)) := by
      have h : ((1 / 2 : ℝ) : EReal) * -(((c * c * c * (1 / 1024) : ℝ) : EReal) * (x j * S))
          = ((-(1 / 2) * (c * c * c) * (1 / 1024) : ℝ) : EReal) * (x j * S) := by
        rw [← neg_mul, ← EReal.coe_neg, ← mul_assoc, ← EReal.coe_mul]
        congr 2
        ring
      rw [h]
      simp only [EReal.coe_mul]
      ac_rfl
    rw [mul_comm (S * _ * _) (x j), e1, add_assoc, ← EReal.right_distrib_of_nonneg (by norm_num) (by norm_num), ← EReal.coe_add]
    have e2 : (c : EReal) * (x j * (c : EReal) * ((c : EReal) * S * ((1 / 1024 : ℝ) : EReal)))
        = ((c * c * c * (1 / 1024) : ℝ) : EReal) * (x j * S) := by
      push_cast
      ac_rfl
    rw [sub_eq_add_neg, EReal.left_distrib_of_nonneg_of_ne_top (by exact_mod_cast hc.le) (EReal.coe_ne_top c), mul_neg, e2,
      mul_comm (c : EReal) (t j)]
    norm_num

/-- A row of an array. -/
def row {T N : Nat} (x : (⟨2, ![T, N]⟩ : Shape).Idx → EReal) (i : Fin T) : Fin N → EReal := fun k => x (ix2 i k)

/-- The gradient of a row of the projection's input. -/
def dh {T N K : Nat} (dz : (⟨2, ![T, K]⟩ : Shape).Idx → EReal) (w : (⟨2, ![N, K]⟩ : Shape).Idx → EReal) (i : Fin T) : Fin N → EReal :=
  fun k => ∑ l : Fin K, dz (ix2 i l) * w (ix2 k l)

/-- The same, times the norm's scale. -/
def dhg {T N K : Nat} (dz : (⟨2, ![T, K]⟩ : Shape).Idx → EReal) (w : (⟨2, ![N, K]⟩ : Shape).Idx → EReal)
    (g : (⟨2, ![1, N]⟩ : Shape).Idx → EReal) (i : Fin T) : Fin N → EReal :=
  fun k => dh dz w i k * g (ix2 0 k)

end Cert.Norm

end
-- ==== Proof.Back.BwdIn.lean ====
/-
# The gradient of the input, and of the first norm's scale
-/
module

public import proofs.«01_k».proof.Defs
public import proofs.«01_k».proof.Proof.Norm.Rms
public import proofs.«01_k».proof.Proof.Gen.BwdIn.Frame
public import proofs.«01_k».proof.Proof.Gen.BwdInIdeal.Value
public import proofs.«01_k».proof.Proof.Gen.BwdInRefIdeal.Run
public import Idealize.ShloMosaic.Lib.Quiescent
public import Idealize.ShloMosaic.Lib.Pipeline.ValueKit

@[expose] public section

noncomputable section

namespace Cert.BwdInIdeal.Back

open Idealize.ShloMosaic Idealize.ShloMosaic.TcCoe Idealize.SL.Sem Cert.Norm
open Cert.BwdInIdeal Cert.BwdInIdeal.Gen

theorem frame_kernel : Cert.quiescent_BwdIn := fun m ρ _ => Cert.BwdIn.Gen.frame (F := Bits) m ρ

theorem frame_kernelIdeal : Cert.quiescent_BwdInIdeal := fun m ρ _ => Cert.BwdInIdeal.Gen.frame (F := Ideal) m ρ

theorem frame_refIdeal : Cert.quiescent_BwdInRefIdeal := fun m ρ _ =>
  (θ_run Cert.BwdInRefIdeal.defs _ _).mono (fun r h => ⟨fun c => (h c).2.2, sem_eq_zero_of_no_sems (by decide) r.2⟩)
    (Cert.BwdInRefIdeal.Value.run (F := Ideal) m ρ)

theorem preserves : Cert.preserves_BwdIn_BwdInIdeal := trivial

theorem pay7_apply (dz : Vec Ideal S512x2688 .bf16) (w : Vec Ideal S1024x2688 .bf16) (x : Vec Ideal S512x1024 .f32)
    (g : Vec Ideal S1x1024 .f32) (d : Vec Ideal S512x1024 .f32) (j : S512x1024.Idx) :
    k0_pay7 dz w x g d j = d j + grad (row x (j 0)) (dhg dz w g (j 0)) (j 1) := by
  unfold k0_pay7 k0_pay5 k0_pay4 k0_pay3 grad rinv msq width eps row dhg dh
  pointwise

theorem pay1_apply (dz : Vec Ideal S512x2688 .bf16) (w : Vec Ideal S1024x2688 .bf16) (x : Vec Ideal S512x1024 .f32)
    (a : Vec Ideal S1x1024 .f32) (j : S1x1024.Idx) :
    k0_pay1 (k0_pay6 dz w x) a j = a j + ∑ i : Fin 512, dh dz w i (j 1) * (x (ix2 i (j 1)) * rinv (row x i)) := by
  unfold k0_pay1 k0_pay6 k0_pay5 k0_pay4 k0_pay3 rinv msq width eps row dh
  pointwise

theorem pay2_apply (j : S1x1024.Idx) : k0_pay2 (F := Ideal) j = 0 := by
  unfold k0_pay2
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

variable (m : (ℓ : Loc nD τ sig) → Buf (Elt Ideal) ℓ)

/-- The gradient of the input at a place. -/
def gradX (c : Dev nD) (i : S4096x1024.Idx) : EReal :=
  row (m ((c.tc : Thread nD τ).loc main_arg3)) (i 0) (i 1)
    + grad (row (m ((c.tc : Thread nD τ).loc main_arg2)) (i 0))
        (dhg (m ((c.tc : Thread nD τ).loc main_arg0)) (m ((c.tc : Thread nD τ).loc main_arg1)) (m ((c.tc : Thread nD τ).loc main_arg4)) (i 0))
        (i 1)

/-- The same with the reciprocal root's own derivative in it. -/
theorem gradX_eq (c : Dev nD) (i : S4096x1024.Idx) :
    gradX m c i = row (m ((c.tc : Thread nD τ).loc main_arg3)) (i 0) (i 1)
      + (fun (x t : Fin 1024 → EReal) (j : Fin 1024) => t j * rinv x + x j * back x t + back x t * x j)
        (row (m ((c.tc : Thread nD τ).loc main_arg2)) (i 0))
        (dhg (m ((c.tc : Thread nD τ).loc main_arg0)) (m ((c.tc : Thread nD τ).loc main_arg1)) (m ((c.tc : Thread nD τ).loc main_arg4)) (i 0))
        (i 1) :=
  congrArg (_ + ·) (grad_eq _ _ _)

/-- A token's part of the gradient of the scale. -/
def part (c : Dev nD) (i : Fin 4096) (j : Fin 1024) : EReal :=
  dh (m ((c.tc : Thread nD τ).loc main_arg0)) (m ((c.tc : Thread nD τ).loc main_arg1)) i j
    * (row (m ((c.tc : Thread nD τ).loc main_arg2)) i j * rinv (row (m ((c.tc : Thread nD τ).loc main_arg2)) i))

/-- The gradient of the scale at a place. -/
def gradG (c : Dev nD) (i : S1x1024.Idx) : EReal := ∑ k : Fin 4096, part m c k (i 1)

/-- The blocks of a step are rows of the arrays. -/
theorem row_x (c : Dev nD) (t : Fin cfg0.N) (i : Fin 512) (l : Fin 4096) (hl : l.val = t.val * 512 + i.val) :
    row (iblk m c 2 t) i = row (m ((c.tc : Thread nD τ).loc main_arg2)) l := by
  funext k
  unfold row
  simp only [iblk, V]; blk_ext [idx2]

theorem dh_blk (c : Dev nD) (t : Fin cfg0.N) (i : Fin 512) (l : Fin 4096) (hl : l.val = t.val * 512 + i.val) :
    dh (iblk m c 0 t) (iblk m c 1 t) i
      = dh (m ((c.tc : Thread nD τ).loc main_arg0)) (m ((c.tc : Thread nD τ).loc main_arg1)) l := by
  funext k
  unfold dh
  refine Finset.sum_congr rfl fun q _ => ?_
  congr 1
  · simp only [iblk, V]; blk_ext [idx0]
  · simp only [iblk, V]; blk_ext [idx1]

theorem scale_blk (c : Dev nD) (t : Fin cfg0.N) (k : Fin 1024) :
    iblk m c 4 t (ix2 (0 : Fin 1) k) = m ((c.tc : Thread nD τ).loc main_arg4) (ix2 (0 : Fin 1) k) := by
  simp only [iblk, V]; blk_ext [idx4]

/-- What a step writes of the gradient of the input. -/
theorem out5_eq (c : Dev nD) (t : Fin cfg0.N) (j : S512x1024.Idx) :
    (outsAt0 m c t.val t.isLt).1 j = gradX m c ((win0_5.blk t).view.emb j) := by
  have e : (outsAt0 m c t.val t.isLt).1 = k0_pay7 (iblk m c 0 t) (iblk m c 1 t) (iblk m c 2 t) (iblk m c 4 t) (iblk m c 3 t) := by
    by_cases h : t.val % 8 = 0
    · rw [outsAt0_A m c t h]; frame_out
    · rw [outsAt0_B m c t h]; frame_out
  have h0 : (((win0_5.blk t).view.emb j) 0).val = t.val * 512 + (j 0).val := by blk_simp [idx5]
  have h1 : ((win0_5.blk t).view.emb j) 1 = j 1 := by ext; blk_simp [idx5]
  rw [e, pay7_apply]
  unfold gradX
  rw [row_x m c t _ _ h0, h1]
  unfold dhg
  rw [dh_blk m c t _ _ h0]
  simp only [scale_blk]
  congr 1
  simp only [iblk, V]; blk_ext [idx3, idx5]

/-- What a step adds to the gradient of the scale. -/
def add (c : Dev nD) (t : Fin cfg0.N) (j : S1x1024.Idx) : EReal :=
  ∑ i : Fin 512, dh (iblk m c 0 t) (iblk m c 1 t) i (j 1) * (row (iblk m c 2 t) i (j 1) * rinv (row (iblk m c 2 t) i))

theorem add_reset (c : Dev nD) (t : Fin cfg0.N) (h : t.val % 8 = 0) (j : S1x1024.Idx) :
    (outsAt0 m c t.val t.isLt).2 j = 0 + add m c t j := by
  have e : (outsAt0 m c t.val t.isLt).2 = k0_pay1 (k0_pay6 (iblk m c 0 t) (iblk m c 1 t) (iblk m c 2 t)) (k0_pay2 (F := Ideal)) := by
    rw [outsAt0_A m c t h]; frame_out
  rw [e, pay1_apply, pay2_apply]
  rfl

theorem add_next (c : Dev nD) (t : Fin cfg0.N) (h : ¬ t.val % 8 = 0) (j : S1x1024.Idx) :
    (outsAt0 m c t.val t.isLt).2 j = (outsAt0 m c (t.val - 1) (by omega)).2 j + add m c t j := by
  have e : (outsAt0 m c t.val t.isLt).2
      = k0_pay1 (k0_pay6 (iblk m c 0 t) (iblk m c 1 t) (iblk m c 2 t)) (outsAt0 m c (t.val - 1) (by omega)).2 := by
    rw [outsAt0_B m c t h]; frame_out
  rw [e, pay1_apply]
  rfl

theorem part_blk (c : Dev nD) (t : Fin cfg0.N) (k : Fin 512) (l : Fin 4096) (hl : l.val = t.val * 512 + k.val) (j : Fin 1024) :
    dh (iblk m c 0 t) (iblk m c 1 t) k j * (row (iblk m c 2 t) k j * rinv (row (iblk m c 2 t) k)) = part m c l j := by
  rw [row_x m c t k l hl, dh_blk m c t k l hl]
  rfl

/-- What the last step leaves of the gradient of the scale. -/
theorem out6_eq (c : Dev nD) (t : Fin cfg0.N) (h : t.val % 8 = 7) (j : S1x1024.Idx) :
    (outsAt0 m c t.val t.isLt).2 j = ∑ i : Fin 4096, part m c i (j 1) := by
  have ht : t.val / 8 = 0 := by have := lt_of_lt_of_eq t.isLt (by decide +kernel : cfg0.N = 8); omega
  have e := Pipeline.eq_sum_fin_of_reset_step_apply_of_flush (fun n h => (outsAt0 m c n h).2) 8 (fun _ => 0) (add m c)
    (add_reset m c) (add_next m c) t h j
  refine e.trans ?_
  rw [zero_add]
  refine Fin.sum_mul_add_congr (f := fun i => part m c i (j 1)) (fun s k hl => ?_) rfl
  exact part_blk m c _ k ⟨_, hl⟩ (by show s.val * 512 + k.val = (8 * (t.val / 8) + s.val) * 512 + k.val; rw [ht]; omega) (j 1)

theorem algebraic : Cert.algebraic_BwdInIdeal_BwdInRefIdeal := by
  intro m g m' g' _ hx
  refine ⟨_, _, Cert.BwdInIdeal.Value.run_blocks (F := Ideal) m g, ?_⟩
  refine (θ_run Cert.BwdInRefIdeal.defs _ _).mono (fun r h c => ?_) (Cert.BwdInRefIdeal.Value.run (F := Ideal) m' g')
  obtain ⟨h0, h1, hk⟩ := h c
  obtain ⟨e0, e1, e2, e3, e4⟩ := hx c
  refine ⟨h0.trans ?_, h1.trans ?_, hk⟩
  · refine Eq.trans ?_ ((dats m 0 c).arrAt_eq_of_covers 5 (gradX m c) (by decide +kernel) fun t hf y => ?_).symm
    · funext i
      refine Eq.trans ?_ (gradX_eq m c i).symm
      unfold Cert.BwdInRefIdeal.Value.res_main_v38
      rw [e0, e1, e2, e3, e4]
      unfold back rinv msq width eps minusHalf row dhg dh
      pointwise
      simp only [Finset.univ_unique, Finset.sum_singleton]
    · blk_simp
      rw [after0_5, out5_eq m c t]
  · refine Eq.trans ?_ ((dats m 0 c).arrAt_eq_of_covers 6 (gradG m c) (by decide +kernel) fun t hf y => ?_).symm
    · funext i
      unfold gradG part rinv msq width eps row dh
      rw [e0, e1, e2]
      pointwise
      exact Finset.sum_congr rfl fun k _ => mul_comm _ _
    · have ht := (flush0_6 t).1 hf
      blk_simp
      rw [after0_6, out6_eq m c t ht]
      have h1 : ((win0_6.blk t).view.emb y) 1 = y 1 := by ext; blk_simp [idx6]
      unfold gradG
      rw [h1]

end Cert.BwdInIdeal.Back

end
-- ==== Proof.Back.BwdMem.lean ====
/-
# The gradients of the memory's keys and values, and of its norm's scale
-/
module

public import proofs.«01_k».proof.Defs
public import proofs.«01_k».proof.Proof.Norm.Rms
public import proofs.«01_k».proof.Proof.Gen.BwdMem.Frame
public import proofs.«01_k».proof.Proof.Gen.BwdMemIdeal.Value
public import proofs.«01_k».proof.Proof.Gen.BwdMemRefIdeal.Run
public import Idealize.ShloMosaic.Lib.Quiescent
public import Idealize.ShloMosaic.Lib.Pipeline.ValueKit

@[expose] public section

noncomputable section

namespace Cert.BwdMemIdeal.Back

open Idealize.ShloMosaic Idealize.ShloMosaic.TcCoe Idealize.SL.Sem Cert.Norm
open Cert.BwdMemIdeal Cert.BwdMemIdeal.Gen

theorem frame_kernel : Cert.quiescent_BwdMem := fun m ρ _ => Cert.BwdMem.Gen.frame (F := Bits) m ρ

theorem frame_kernelIdeal : Cert.quiescent_BwdMemIdeal := fun m ρ _ => Cert.BwdMemIdeal.Gen.frame (F := Ideal) m ρ

theorem frame_refIdeal : Cert.quiescent_BwdMemRefIdeal := fun m ρ _ =>
  (θ_run Cert.BwdMemRefIdeal.defs _ _).mono (fun r h => ⟨fun c => (h c).2.2, sem_eq_zero_of_no_sems (by decide) r.2⟩)
    (Cert.BwdMemRefIdeal.Value.run (F := Ideal) m ρ)

theorem preserves : Cert.preserves_BwdMem_BwdMemIdeal := trivial

/-- The gradient of a row of the memory's projection's input. -/
def dmn {T : Nat} (dk dv : (⟨2, ![T, 1024]⟩ : Shape).Idx → EReal) (w : S1024x2048.Idx → EReal) (i : Fin T) : Fin 1024 → EReal :=
  fun k => ∑ l : Fin 1024, dk (ix2 i l) * w (ix2 k (⟨l.val, by omega⟩ : Fin 2048))
    + ∑ l : Fin 1024, dv (ix2 i l) * w (ix2 k (⟨1024 + l.val, by omega⟩ : Fin 2048))

theorem pay4_apply (dk dv x : Vec Ideal S256x1024 .f32) (w : Vec Ideal S1024x2048 .bf16)
    (a : Vec Ideal S1x1024 .f32) (j : S1x1024.Idx) :
    k0_pay4 dk dv (View.ld w (Rect.unit ![0, 0] ![1024, 1024] inb_S1024x2048_S1024x1024_0_0))
      (View.ld w (Rect.unit ![0, 1024] ![1024, 1024] inb_S1024x2048_S1024x1024_0_1024)) x a j
      = a j + ∑ i : Fin 256, dmn dk dv w i (j 1) * (row x i (j 1) * rinv (row x i)) := by
  unfold k0_pay4 k0_pay2 k0_pay3 rinv msq width eps row dmn
  pointwise

theorem pay1_apply (j : S1x1024.Idx) : k0_pay1 (F := Ideal) j = 0 := by
  unfold k0_pay1
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- Two arrays side by side. -/
def beside {T : Nat} (x y : (⟨2, ![T, 1024]⟩ : Shape).Idx → EReal) (i : (⟨2, ![T, 2048]⟩ : Shape).Idx) : EReal :=
  if h : (i 1).val < 1024 then x (ix2 (i 0) (⟨(i 1).val, h⟩ : Fin 1024))
  else y (ix2 (i 0) (⟨(i 1).val - 1024, by have : (i 1).val < 2048 := (i 1).isLt; omega⟩ : Fin 1024))

variable (m : (ℓ : Loc nD τ sig) → Buf (Elt Ideal) ℓ)

/-- A token's part of the gradient of the scale. -/
def part (c : Dev nD) (i : Fin 512) (j : Fin 1024) : EReal :=
  dmn (m ((c.tc : Thread nD τ).loc main_arg0)) (m ((c.tc : Thread nD τ).loc main_arg1)) (m ((c.tc : Thread nD τ).loc main_arg3)) i j
    * (row (m ((c.tc : Thread nD τ).loc main_arg2)) i j * rinv (row (m ((c.tc : Thread nD τ).loc main_arg2)) i))

/-- The gradient of the scale at a place. -/
def gradG (c : Dev nD) (i : S1x1024.Idx) : EReal := ∑ k : Fin 512, part m c k (i 1)

/-- The blocks of a step are rows of the arrays. -/
theorem row_x (c : Dev nD) (t : Fin cfg0.N) (i : Fin 256) (l : Fin 512) (hl : l.val = t.val * 256 + i.val) :
    row (iblk m c 2 t) i = row (m ((c.tc : Thread nD τ).loc main_arg2)) l := by
  funext k
  unfold row
  simp only [iblk, V]; blk_ext [idx2]

theorem dmn_blk (c : Dev nD) (t : Fin cfg0.N) (i : Fin 256) (l : Fin 512) (hl : l.val = t.val * 256 + i.val) :
    dmn (iblk m c 0 t) (iblk m c 1 t) (iblk m c 3 t) i
      = dmn (m ((c.tc : Thread nD τ).loc main_arg0)) (m ((c.tc : Thread nD τ).loc main_arg1)) (m ((c.tc : Thread nD τ).loc main_arg3)) l := by
  funext k
  unfold dmn
  congr 1
  · refine Finset.sum_congr rfl fun q _ => ?_
    congr 1
    · simp only [iblk, V]; blk_ext [idx0]
    · simp only [iblk, V]; blk_ext [idx3]
  · refine Finset.sum_congr rfl fun q _ => ?_
    congr 1
    · simp only [iblk, V]; blk_ext [idx1]
    · simp only [iblk, V]; blk_ext [idx3]

/-- What a step writes of the gradients of the keys and values. -/
theorem out5_eq (c : Dev nD) (t : Fin cfg0.N) (j : S256x2048.Idx) :
    (outsAt0 m c t.val t.isLt).1 j
      = beside (m ((c.tc : Thread nD τ).loc main_arg0)) (m ((c.tc : Thread nD τ).loc main_arg1)) ((win0_5.blk t).view.emb j) := by
  have e : (outsAt0 m c t.val t.isLt).1 = View.canon
      [⟨Rect.unit ![0, 1024] ![256, 1024] inb_S256x2048_S256x1024_0_1024, k0_pay3 (iblk m c 1 t)⟩,
        ⟨Rect.unit ![0, 0] ![256, 1024] inb_S256x2048_S256x1024_0_0, k0_pay2 (iblk m c 0 t)⟩] := by
    by_cases h : t.val % 2 = 0
    · rw [outsAt0_A m c t h]; frame_out
    · rw [outsAt0_B m c t h]; frame_out
  have h0 : (((win0_5.blk t).view.emb j) 0).val = t.val * 256 + (j 0).val := by blk_simp [idx5]
  have h1 : (((win0_5.blk t).view.emb j) 1).val = (j 1).val := by blk_simp [idx5]
  rw [e]
  unfold beside
  canon_tiles x h
  · rw [dif_neg (by omega)]
    refine (show k0_pay3 (iblk m c 1 t) x = iblk m c 1 t x from rfl).trans ?_
    simp only [iblk, V]
    blk_ext [idx1, idx5]
  · rw [dif_pos (by omega)]
    refine (show k0_pay2 (iblk m c 0 t) x = iblk m c 0 t x from rfl).trans ?_
    simp only [iblk, V]
    blk_ext [idx0, idx5]

/-- What a step adds to the gradient of the scale. -/
def add (c : Dev nD) (t : Fin cfg0.N) (j : S1x1024.Idx) : EReal :=
  ∑ i : Fin 256, dmn (iblk m c 0 t) (iblk m c 1 t) (iblk m c 3 t) i (j 1) * (row (iblk m c 2 t) i (j 1) * rinv (row (iblk m c 2 t) i))

theorem add_reset (c : Dev nD) (t : Fin cfg0.N) (h : t.val % 2 = 0) (j : S1x1024.Idx) :
    (outsAt0 m c t.val t.isLt).2 j = 0 + add m c t j := by
  rw [outsAt0_A m c t h]; frame_out
  rw [pay4_apply, pay1_apply]
  rfl

theorem add_next (c : Dev nD) (t : Fin cfg0.N) (h : ¬ t.val % 2 = 0) (j : S1x1024.Idx) :
    (outsAt0 m c t.val t.isLt).2 j = (outsAt0 m c (t.val - 1) (by omega)).2 j + add m c t j := by
  rw [outsAt0_B m c t h]; frame_out
  rw [pay4_apply]
  rfl

theorem part_blk (c : Dev nD) (t : Fin cfg0.N) (k : Fin 256) (l : Fin 512) (hl : l.val = t.val * 256 + k.val) (j : Fin 1024) :
    dmn (iblk m c 0 t) (iblk m c 1 t) (iblk m c 3 t) k j * (row (iblk m c 2 t) k j * rinv (row (iblk m c 2 t) k)) = part m c l j := by
  rw [row_x m c t k l hl, dmn_blk m c t k l hl]
  rfl

/-- What the last step leaves of the gradient of the scale. -/
theorem out6_eq (c : Dev nD) (t : Fin cfg0.N) (h : t.val % 2 = 1) (j : S1x1024.Idx) :
    (outsAt0 m c t.val t.isLt).2 j = ∑ i : Fin 512, part m c i (j 1) := by
  have ht : t.val / 2 = 0 := by have := lt_of_lt_of_eq t.isLt (by decide +kernel : cfg0.N = 2); omega
  have e := Pipeline.eq_sum_fin_of_reset_step_apply_of_flush (fun n h => (outsAt0 m c n h).2) 2 (fun _ => 0) (add m c)
    (add_reset m c) (add_next m c) t h j
  refine e.trans ?_
  rw [zero_add]
  refine Fin.sum_mul_add_congr (f := fun i => part m c i (j 1)) (fun s k hl => ?_) rfl
  exact part_blk m c _ k ⟨_, hl⟩ (by show s.val * 256 + k.val = (2 * (t.val / 2) + s.val) * 256 + k.val; rw [ht]; omega) (j 1)

theorem algebraic : Cert.algebraic_BwdMemIdeal_BwdMemRefIdeal := by
  intro m g m' g' _ hx
  refine ⟨_, _, Cert.BwdMemIdeal.Value.run_blocks (F := Ideal) m g, ?_⟩
  refine (θ_run Cert.BwdMemRefIdeal.defs _ _).mono (fun r h c => ?_) (Cert.BwdMemRefIdeal.Value.run (F := Ideal) m' g')
  obtain ⟨h0, h1, hk⟩ := h c
  obtain ⟨e0, e1, e2, e3, e4⟩ := hx c
  refine ⟨h0.trans ?_, h1.trans ?_, hk⟩
  · refine Eq.trans ?_ ((dats m 0 c).arrAt_eq_of_covers 5
      (beside (m ((c.tc : Thread nD τ).loc main_arg0)) (m ((c.tc : Thread nD τ).loc main_arg1))) (by decide +kernel) fun t hf y => ?_).symm
    · funext i
      unfold beside
      rw [e0, e1]
      pointwise
    · blk_simp
      rw [after0_5, out5_eq m c t]
  · refine Eq.trans ?_ ((dats m 0 c).arrAt_eq_of_covers 6 (gradG m c) (by decide +kernel) fun t hf y => ?_).symm
    · funext i
      unfold gradG part rinv msq width eps row dmn
      rw [e0, e1, e2, e3]
      pointwise
      exact Finset.sum_congr rfl fun k _ => mul_comm _ _
    · have ht := (flush0_6 t).1 hf
      blk_simp
      rw [after0_6, out6_eq m c t ht]
      have h1 : ((win0_6.blk t).view.emb y) 1 = y 1 := by ext; blk_simp [idx6]
      unfold gradG
      rw [h1]

end Cert.BwdMemIdeal.Back
-- ==== Proof.Back.FwdFfn.lean ====
/-
# The channel mixer, the final norm and the loss
-/
module

public import proofs.«01_k».proof.Defs
public import proofs.«01_k».proof.Proof.Norm.Rms
public import proofs.«01_k».proof.Proof.Gen.FwdFfn.Frame
public import proofs.«01_k».proof.Proof.Gen.FwdFfnIdeal.Value
public import proofs.«01_k».proof.Proof.Gen.FwdFfnRefIdeal.Run
public import Idealize.ShloMosaic.Lib.Quiescent
public import Idealize.ShloMosaic.Lib.Pipeline.ValueKit

@[expose] public section

noncomputable section

namespace Cert.FwdFfnIdeal.Back

open Idealize.ShloMosaic Idealize.ShloMosaic.TcCoe Idealize.SL.Sem Cert.Norm
open Cert.FwdFfnIdeal Cert.FwdFfnIdeal.Gen

theorem frame_kernel : Cert.quiescent_FwdFfn := fun m ρ _ => Cert.FwdFfn.Gen.frame (F := Bits) m ρ

theorem frame_kernelIdeal : Cert.quiescent_FwdFfnIdeal := fun m ρ _ => Cert.FwdFfnIdeal.Gen.frame (F := Ideal) m ρ

theorem frame_refIdeal : Cert.quiescent_FwdFfnRefIdeal := fun m ρ _ =>
  (θ_run Cert.FwdFfnRefIdeal.defs _ _).mono (fun r h => ⟨fun c => (h c).2.2.2.2.2.2, sem_eq_zero_of_no_sems (by decide) r.2⟩)
    (Cert.FwdFfnRefIdeal.Value.run (F := Ideal) m ρ)

theorem preserves : Cert.preserves_FwdFfn_FwdFfnIdeal := trivial

/-- A normed and scaled row. -/
def hn (x : Fin 1024 → EReal) (g : S1x1024.Idx → EReal) : Fin 1024 → EReal := fun k => x k * rinv x * g (ix2 0 k)

/-- Its gate and up projection. -/
def gate (x : Fin 1024 → EReal) (g : S1x1024.Idx → EReal) (w : S1024x5632.Idx → EReal) : Fin 5632 → EReal :=
  fun p => ∑ k : Fin 1024, hn x g k * w (ix2 k p)

/-- The gate times its logistic function, times the up half. -/
def act (u : Fin 5632 → EReal) : Fin 2816 → EReal := fun q =>
  u (⟨q.val, by omega⟩ : Fin 5632) * Ideal.div 1 (1 + Ideal.exp (-u (⟨q.val, by omega⟩ : Fin 5632)))
    * u (⟨2816 + q.val, by omega⟩ : Fin 5632)

/-- The row after the channel mixer. -/
def out (x : Fin 1024 → EReal) (g : S1x1024.Idx → EReal) (w : S1024x5632.Idx → EReal) (d : S2816x1024.Idx → EReal) : Fin 1024 → EReal :=
  fun k => x k + ∑ q : Fin 2816, act (gate x g w) q * d (ix2 q k)

theorem out_split (x : Fin 1024 → EReal) (g : S1x1024.Idx → EReal) (w : S1024x5632.Idx → EReal) (d : S2816x1024.Idx → EReal) (k : Fin 1024) :
    out x g w d k = x k + ∑ q : Fin 1408, act (gate x g w) (⟨q.val, by omega⟩ : Fin 2816) * d (ix2 (⟨q.val, by omega⟩ : Fin 2816) k)
      + ∑ q : Fin 1408, act (gate x g w) (⟨1408 + q.val, by omega⟩ : Fin 2816) * d (ix2 (⟨1408 + q.val, by omega⟩ : Fin 2816) k) := by
  unfold out
  rw [add_assoc]
  exact congrArg (x k + ·) (Fin.sum_univ_add (a := 1408) (b := 1408) fun q : Fin (1408 + 1408) => act (gate x g w) q * d (ix2 q k))

/-- What the final norm is off the target. -/
def err (y t : Fin 1024 → EReal) (g : S1x1024.Idx → EReal) : Fin 1024 → EReal := fun k => y k * rinv y * g (ix2 0 k) - t k

theorem pay4_apply (x : Vec Ideal S256x1024 .f32) (g : Vec Ideal S1x1024 .f32) (j : S256x1024.Idx) :
    k0_pay4 x g j = hn (row x (j 0)) g (j 1) := by
  unfold k0_pay4 hn rinv msq width eps row
  pointwise

theorem pay5_apply (x : Vec Ideal S256x1024 .f32) (g : Vec Ideal S1x1024 .f32) (w : Vec Ideal S1024x1408 .bf16) (j : S256x1408.Idx) :
    k0_pay5 x g w j = ∑ k : Fin 1024, hn (row x (j 0)) g k * w (ix2 k (j 1)) := by
  unfold k0_pay5 k0_pay4 hn rinv msq width eps row
  pointwise

theorem pay9_apply (u v a b : FVec Ideal S256x1408 .f32) (j : S256x1408.Idx) :
    k0_pay9 u v a b j = u j * Ideal.div (b j) (a j) * v j := by
  unfold k0_pay9
  pointwise

theorem pay7_apply (x : Vec Ideal S256x1024 .f32) (g : Vec Ideal S1x1024 .f32) (w : Vec Ideal S1024x1408 .bf16) (j : S256x1408.Idx) :
    k0_pay7 x g w j = 1 + Ideal.exp (-k0_pay5 x g w j) := by
  unfold k0_pay7
  pointwise
  rw [zero_sub]

theorem pay12_apply (h : FVec Ideal S256x1024 .bf16) (w v : Vec Ideal S1024x1408 .bf16) (j : S256x1408.Idx) :
    k0_pay12 h w v j = k0_pay10 h w j * Ideal.div 1 (1 + Ideal.exp (-k0_pay10 h w j)) * k0_pay11 h v j := by
  unfold k0_pay12
  pointwise
  rw [zero_sub]

theorem pay10_apply (h : FVec Ideal S256x1024 .bf16) (w : Vec Ideal S1024x1408 .bf16) (j : S256x1408.Idx) :
    k0_pay10 h w j = ∑ k : Fin 1024, h (ix2 (j 0) k) * w (ix2 k (j 1)) := by
  unfold k0_pay10
  pointwise

theorem pay13_apply (x : Vec Ideal S256x1024 .f32) (h : FVec Ideal S256x1024 .bf16) (u v a b : FVec Ideal S256x1408 .f32)
    (d e : Vec Ideal S1408x1024 .bf16) (w z : Vec Ideal S1024x1408 .bf16) (j : S256x1024.Idx) :
    k0_pay13 x h u v a b d w z e j = x j + ∑ q : Fin 1408, k0_pay9 u v a b (ix2 (j 0) q) * d (ix2 q (j 1))
      + ∑ q : Fin 1408, k0_pay12 h w z (ix2 (j 0) q) * e (ix2 q (j 1)) := by
  unfold k0_pay13
  pointwise

/-- The four products of a step are the four quarters of the gate and up projection. -/
theorem gate0 (x : Vec Ideal S256x1024 .f32) (g : Vec Ideal S1x1024 .f32) (w : Vec Ideal S1024x5632 .bf16) (i : Fin 256) (q : Fin 1408) :
    k0_pay5 x g (View.ld w (Rect.unit ![0, 0] ![1024, 1408] inb_S1024x5632_S1024x1408_0_0)) (ix2 i q)
      = gate (row x i) g w (⟨q.val, by omega⟩ : Fin 5632) := by
  unfold k0_pay5 k0_pay4 gate hn rinv msq width eps row
  pointwise

theorem gate1 (x : Vec Ideal S256x1024 .f32) (g : Vec Ideal S1x1024 .f32) (w : Vec Ideal S1024x5632 .bf16) (i : Fin 256) (q : Fin 1408) :
    k0_pay10 (k0_pay4 x g) (View.ld w (Rect.unit ![0, 1408] ![1024, 1408] inb_S1024x5632_S1024x1408_0_1408)) (ix2 i q)
      = gate (row x i) g w (⟨1408 + q.val, by omega⟩ : Fin 5632) := by
  unfold k0_pay10 k0_pay4 gate hn rinv msq width eps row
  pointwise

theorem gate2 (x : Vec Ideal S256x1024 .f32) (g : Vec Ideal S1x1024 .f32) (w : Vec Ideal S1024x5632 .bf16) (i : Fin 256) (q : Fin 1408) :
    k0_pay6 x g (View.ld w (Rect.unit ![0, 2816] ![1024, 1408] inb_S1024x5632_S1024x1408_0_2816)) (ix2 i q)
      = gate (row x i) g w (⟨2816 + q.val, by omega⟩ : Fin 5632) := by
  unfold k0_pay6 k0_pay4 gate hn rinv msq width eps row
  pointwise

theorem gate3 (x : Vec Ideal S256x1024 .f32) (g : Vec Ideal S1x1024 .f32) (w : Vec Ideal S1024x5632 .bf16) (i : Fin 256) (q : Fin 1408) :
    k0_pay11 (k0_pay4 x g) (View.ld w (Rect.unit ![0, 4224] ![1024, 1408] inb_S1024x5632_S1024x1408_0_4224)) (ix2 i q)
      = gate (row x i) g w (⟨4224 + q.val, by omega⟩ : Fin 5632) := by
  unfold k0_pay11 k0_pay4 gate hn rinv msq width eps row
  pointwise

/-- The first half of the channel mixer's product. -/
def half0 (x : Vec Ideal S256x1024 .f32) (g : Vec Ideal S1x1024 .f32) (w : Vec Ideal S1024x5632 .bf16) : FVec Ideal S256x1408 .bf16 :=
  k0_pay9 (k0_pay5 x g (View.ld w (Rect.unit ![0, 0] ![1024, 1408] inb_S1024x5632_S1024x1408_0_0)))
    (k0_pay6 x g (View.ld w (Rect.unit ![0, 2816] ![1024, 1408] inb_S1024x5632_S1024x1408_0_2816)))
    (k0_pay7 x g (View.ld w (Rect.unit ![0, 0] ![1024, 1408] inb_S1024x5632_S1024x1408_0_0))) k0_pay8

/-- The second half. -/
def half1 (x : Vec Ideal S256x1024 .f32) (g : Vec Ideal S1x1024 .f32) (w : Vec Ideal S1024x5632 .bf16) : FVec Ideal S256x1408 .bf16 :=
  k0_pay12 (k0_pay4 x g) (View.ld w (Rect.unit ![0, 1408] ![1024, 1408] inb_S1024x5632_S1024x1408_0_1408))
    (View.ld w (Rect.unit ![0, 4224] ![1024, 1408] inb_S1024x5632_S1024x1408_0_4224))

theorem half0_apply (x : Vec Ideal S256x1024 .f32) (g : Vec Ideal S1x1024 .f32) (w : Vec Ideal S1024x5632 .bf16) (i : Fin 256) (q : Fin 1408) :
    half0 x g w (ix2 i q) = act (gate (row x i) g w) (⟨q.val, by omega⟩ : Fin 2816) := by
  have h : (k0_pay8 (F := Ideal)) (ix2 i q) = (1 : EReal) := by unfold k0_pay8; pointwise
  unfold half0
  rw [pay9_apply, pay7_apply, gate0, gate2, h]
  rfl

theorem half1_apply (x : Vec Ideal S256x1024 .f32) (g : Vec Ideal S1x1024 .f32) (w : Vec Ideal S1024x5632 .bf16) (i : Fin 256) (q : Fin 1408) :
    half1 x g w (ix2 i q) = act (gate (row x i) g w) (⟨1408 + q.val, by omega⟩ : Fin 2816) := by
  unfold half1 act
  rw [pay12_apply, gate1, gate3]
  exact congrArg (_ * ·) (congrArg (gate (row x i) g w) (Fin.ext (by show 4224 + q.val = 2816 + (1408 + q.val); omega)))

/-- The rows after the channel mixer, as a step makes them. -/
def after (x : Vec Ideal S256x1024 .f32) (g : Vec Ideal S1x1024 .f32) (w : Vec Ideal S1024x5632 .bf16) (d : Vec Ideal S2816x1024 .bf16) :
    FVec Ideal S256x1024 .f32 :=
  k0_pay13 x (k0_pay4 x g) (k0_pay5 x g (View.ld w (Rect.unit ![0, 0] ![1024, 1408] inb_S1024x5632_S1024x1408_0_0)))
    (k0_pay6 x g (View.ld w (Rect.unit ![0, 2816] ![1024, 1408] inb_S1024x5632_S1024x1408_0_2816)))
    (k0_pay7 x g (View.ld w (Rect.unit ![0, 0] ![1024, 1408] inb_S1024x5632_S1024x1408_0_0))) k0_pay8
    (View.ld d (Rect.unit ![0, 0] ![1408, 1024] inb_S2816x1024_S1408x1024_0_0))
    (View.ld w (Rect.unit ![0, 1408] ![1024, 1408] inb_S1024x5632_S1024x1408_0_1408))
    (View.ld w (Rect.unit ![0, 4224] ![1024, 1408] inb_S1024x5632_S1024x1408_0_4224))
    (View.ld d (Rect.unit ![1408, 0] ![1408, 1024] inb_S2816x1024_S1408x1024_1408_0))

theorem ld_top (d : Vec Ideal S2816x1024 .bf16) (q : Fin 1408) (k : Fin 1024) :
    View.ld d (Rect.unit ![0, 0] ![1408, 1024] inb_S2816x1024_S1408x1024_0_0) (ix2 q k) = d (ix2 (⟨q.val, by omega⟩ : Fin 2816) k) := by
  pointwise

theorem ld_bottom (d : Vec Ideal S2816x1024 .bf16) (q : Fin 1408) (k : Fin 1024) :
    View.ld d (Rect.unit ![1408, 0] ![1408, 1024] inb_S2816x1024_S1408x1024_1408_0) (ix2 q k)
      = d (ix2 (⟨1408 + q.val, by omega⟩ : Fin 2816) k) := by
  pointwise

theorem row_after (x : Vec Ideal S256x1024 .f32) (g : Vec Ideal S1x1024 .f32) (w : Vec Ideal S1024x5632 .bf16) (d : Vec Ideal S2816x1024 .bf16)
    (i : Fin 256) : row (after x g w d) i = out (row x i) g w d := by
  funext k
  rw [out_split]
  refine (pay13_apply _ _ _ _ _ _ _ _ _ _ (ix2 i k)).trans ?_
  congr 1
  · congr 1
    exact Finset.sum_congr rfl fun q _ => congrArg₂ _ (half0_apply x g w i q) (ld_top d q k)
  · exact Finset.sum_congr rfl fun q _ => congrArg₂ _ (half1_apply x g w i q) (ld_bottom d q k)

/-- A row's sum of squares. -/
def squares (y : FVec Ideal S256x1024 .f32) : FVec Ideal S256x1 .f32 :=
  shapeCast S256x1 (multiReduction .add [1] S256 (mulf y y) 0x00000000#32 reduces_S256x1024_S256 (.inl rfl) rfl) shapeCasts_S256_S256x1

/-- The width of a row, as the kernel's constant. -/
abbrev cst : Ideal .f32 := FloatOps.ofBits FTy.f32 1149239296#32

theorem pay20_apply (y : FVec Ideal S256x1024 .f32) (g : Vec Ideal S1x1024 .f32) (t : Vec Ideal S256x1024 .f32) (j : S256x1024.Idx) :
    k0_pay20 y (squares y) cst g t j
      = grad (row y (j 0)) (fun k => err (row y (j 0)) (row t (j 0)) g k * Ideal.ofBits .f32 0x3A800000#32 * g (ix2 0 k)) (j 1) := by
  unfold k0_pay20 k0_pay19 k0_pay17 k0_pay16 k0_pay15 squares cst grad err rinv msq width eps row
  pointwise

theorem pay1_apply (y : FVec Ideal S256x1024 .f32) (g : Vec Ideal S1x1024 .f32) (t : Vec Ideal S256x1024 .f32) (a : Vec Ideal S1x1024 .f32)
    (j : S1x1024.Idx) : k0_pay1 (k0_pay21 y (squares y) cst g t) a j
      = a j + ∑ i : Fin 256, err (row y i) (row t i) g (j 1) * Ideal.ofBits .f32 0x3A800000#32 * (row y i (j 1) * rinv (row y i)) := by
  unfold k0_pay1 k0_pay21 k0_pay19 k0_pay17 k0_pay16 k0_pay15 squares cst err rinv msq width eps row
  pointwise

theorem pay18_apply (y : FVec Ideal S256x1024 .f32) (g : Vec Ideal S1x1024 .f32) (t : Vec Ideal S256x1024 .f32) (a : Vec Ideal S1x128 .f32)
    (j : S1x128.Idx) : k0_pay18 y (squares y) cst g t a j
      = a j + (∑ i : Fin 256, ∑ k : Fin 1024, err (row y i) (row t i) g k * err (row y i) (row t i) g k) * Ideal.ofBits .f32 0x3A000000#32 := by
  unfold k0_pay18 k0_pay17 k0_pay16 k0_pay15 squares cst err rinv msq width eps row
  pointwise

/-- The weight of an error in the gradient, as automatic differentiation builds it. -/
def cot (e : EReal) : EReal :=
  Ideal.div (Ideal.ofBits .f32 0x3F000000#32 * 1) width * (Ideal.ofBits .f32 0x40000000#32 * e)

theorem cot_eq (e : EReal) : cot e = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  unfold cot
  rw [h1, h2, h3, div_width, mul_one, ← mul_assoc, ← EReal.coe_mul, ← EReal.coe_mul, mul_comm]
  norm_num

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

variable (m : (ℓ : Loc nD τ sig) → Buf (Elt Ideal) ℓ)

/-- A token's row after the channel mixer. -/
def yAt (c : Dev nD) (i : Fin 4096) : Fin 1024 → EReal :=
  out (row (m ((c.tc : Thread nD τ).loc main_arg0)) i) (m ((c.tc : Thread nD τ).loc main_arg4)) (m ((c.tc : Thread nD τ).loc main_arg2))
    (m ((c.tc : Thread nD τ).loc main_arg3))

/-- What its final norm is off the target. -/
def errAt (c : Dev nD) (i : Fin 4096) : Fin 1024 → EReal :=
  err (yAt m c i) (row (m ((c.tc : Thread nD τ).loc main_arg1)) i) (m ((c.tc : Thread nD τ).loc main_arg5))

/-- The final norm's scale, as a row. -/
def scale (c : Dev nD) : Fin 1024 → EReal := row (m ((c.tc : Thread nD τ).loc main_arg5)) 0

/-- The gradient of the row after the channel mixer. -/
def gradY (c : Dev nD) (i : S4096x1024.Idx) : EReal :=
  grad (yAt m c (i 0)) (fun k => errAt m c (i 0) k * Ideal.ofBits .f32 0x3A800000#32 * scale m c k) (i 1)

/-- The same in the form of automatic differentiation. -/
theorem gradY_eq (c : Dev nD) (i : S4096x1024.Idx) :
    gradY m c i = (fun (x t : Fin 1024 → EReal) (j : Fin 1024) => t j * rinv x + x j * back x t + back x t * x j)
      (yAt m c (i 0)) (fun k => cot (errAt m c (i 0) k) * scale m c k) (i 1) := by
  have h : (fun k => cot (errAt m c (i 0) k) * scale m c k)
      = fun k => errAt m c (i 0) k * Ideal.ofBits .f32 0x3A800000#32 * scale m c k := funext fun k => by rw [cot_eq]
  rw [h]
  exact grad_eq _ _ _

/-- A token's part of the gradient of the final norm's scale. -/
def part (c : Dev nD) (i : Fin 4096) (j : Fin 1024) : EReal :=
  errAt m c i j * Ideal.ofBits .f32 0x3A800000#32 * (yAt m c i j * rinv (yAt m c i))

theorem part_eq (c : Dev nD) (i : Fin 4096) (j : Fin 1024) :
    part m c i j = cot (errAt m c i j) * (yAt m c i j * rinv (yAt m c i)) := by
  unfold part
  rw [cot_eq]

/-- The gradient of the final norm's scale. -/
def gradG (c : Dev nD) (i : S1x1024.Idx) : EReal := ∑ k : Fin 4096, part m c k (i 1)

theorem gradG_eq (c : Dev nD) (i : S1x1024.Idx) :
    gradG m c i = ∑ k : Fin 4096, yAt m c k (i 1) * rinv (yAt m c k) * cot (errAt m c k (i 1)) :=
  Finset.sum_congr rfl fun k _ => (part_eq m c k (i 1)).trans (mul_comm _ _)

/-- A token's part of the loss. -/
def lossPart (c : Dev nD) (i : Fin 4096) : EReal :=
  (∑ k, errAt m c i k * errAt m c i k) * Ideal.ofBits .f32 0x3A000000#32

/-- The loss, the same in each lane. -/
def loss (c : Dev nD) (_ : S1x128.Idx) : EReal := ∑ k : Fin 4096, lossPart m c k

theorem half_width : Ideal.ofBits .f32 0x3A000000#32 = ((1 / 2048 : ℝ) : EReal) := by
  simp [Ideal.ofBits, Ideal.ieee, -EReal.coe_mul]; norm_num

/-- The loss in the form of the reference: half the sum of the means. -/
theorem loss_eq (c : Dev nD) (i : S1x128.Idx) :
    loss m c i = Ideal.ofBits .f32 0x3F000000#32 * ∑ l : Fin 4096, Ideal.div (∑ k, errAt m c l k * errAt m c l k) width := by
  have h1 : Ideal.ofBits .f32 0x3F000000#32 = ((1 / 2 : ℝ) : EReal) := by
    simp [Ideal.ofBits, Ideal.ieee, -EReal.coe_mul]; norm_num
  unfold loss
  rw [h1, coe_mul_sum _ (by norm_num)]
  refine Finset.sum_congr rfl fun l _ => ?_
  unfold lossPart
  rw [half_width, div_width, mul_left_comm, ← EReal.coe_mul]
  norm_num

/-- A token's gate and up projection. -/
def gateAt (c : Dev nD) (i : Fin 4096) : Fin 5632 → EReal :=
  gate (row (m ((c.tc : Thread nD τ).loc main_arg0)) i) (m ((c.tc : Thread nD τ).loc main_arg4)) (m ((c.tc : Thread nD τ).loc main_arg2))

/-- The blocks of a step are rows of the arrays. -/
theorem row_x (c : Dev nD) (t : Fin cfg0.N) (i : Fin 256) (l : Fin 4096) (hl : l.val = t.val * 256 + i.val) :
    row (iblk m c 0 t) i = row (m ((c.tc : Thread nD τ).loc main_arg0)) l := by
  funext k
  unfold row
  simp only [iblk, V]; blk_ext [idx0]

theorem row_t (c : Dev nD) (t : Fin cfg0.N) (i : Fin 256) (l : Fin 4096) (hl : l.val = t.val * 256 + i.val) :
    row (iblk m c 1 t) i = row (m ((c.tc : Thread nD τ).loc main_arg1)) l := by
  funext k
  unfold row
  simp only [iblk, V]; blk_ext [idx1]

theorem whole2 (c : Dev nD) (t : Fin cfg0.N) : iblk m c 2 t = m ((c.tc : Thread nD τ).loc main_arg2) := by
  funext i
  simp only [iblk, V]; blk_ext [idx2]

theorem whole3 (c : Dev nD) (t : Fin cfg0.N) : iblk m c 3 t = m ((c.tc : Thread nD τ).loc main_arg3) := by
  funext i
  simp only [iblk, V]; blk_ext [idx3]

theorem whole4 (c : Dev nD) (t : Fin cfg0.N) : iblk m c 4 t = m ((c.tc : Thread nD τ).loc main_arg4) := by
  funext i
  simp only [iblk, V]; blk_ext [idx4]

theorem whole5 (c : Dev nD) (t : Fin cfg0.N) : iblk m c 5 t = m ((c.tc : Thread nD τ).loc main_arg5) := by
  funext i
  simp only [iblk, V]; blk_ext [idx5]

/-- The rows after the channel mixer in a step. -/
def yBlk (c : Dev nD) (t : Fin cfg0.N) : FVec Ideal S256x1024 .f32 :=
  after (iblk m c 0 t) (iblk m c 4 t) (iblk m c 2 t) (iblk m c 3 t)

theorem row_y (c : Dev nD) (t : Fin cfg0.N) (i : Fin 256) (l : Fin 4096) (hl : l.val = t.val * 256 + i.val) :
    row (yBlk m c t) i = yAt m c l := by
  unfold yBlk yAt
  rw [row_after, row_x m c t i l hl, whole2, whole3, whole4]

theorem err_blk (c : Dev nD) (t : Fin cfg0.N) (i : Fin 256) (l : Fin 4096) (hl : l.val = t.val * 256 + i.val) :
    err (row (yBlk m c t) i) (row (iblk m c 1 t) i) (iblk m c 5 t) = errAt m c l := by
  unfold errAt
  rw [row_y m c t i l hl, row_t m c t i l hl, whole5]

theorem gate_blk (c : Dev nD) (t : Fin cfg0.N) (i : Fin 256) (l : Fin 4096) (hl : l.val = t.val * 256 + i.val) :
    gate (row (iblk m c 0 t) i) (iblk m c 4 t) (iblk m c 2 t) = gateAt m c l := by
  unfold gateAt
  rw [row_x m c t i l hl, whole2, whole4]

/-- The channel mixer's normed input. -/
def hnAt (c : Dev nD) (i : S4096x1024.Idx) : EReal :=
  hn (row (m ((c.tc : Thread nD τ).loc main_arg0)) (i 0)) (m ((c.tc : Thread nD τ).loc main_arg4)) (i 1)

theorem out6_eq (c : Dev nD) (t : Fin cfg0.N) (j : S256x1024.Idx) :
    (outsAt0 m c t.val t.isLt).1 j = hnAt m c ((win0_6.blk t).view.emb j) := by
  have e : (outsAt0 m c t.val t.isLt).1 = k0_pay4 (iblk m c 0 t) (iblk m c 4 t) := by
    by_cases h : t.val % 16 = 0
    · rw [outsAt0_A m c t h]; frame_out
    · rw [outsAt0_B m c t h]; frame_out
  have h0 : (((win0_6.blk t).view.emb j) 0).val = t.val * 256 + (j 0).val := by blk_simp [idx6]
  have h1 : ((win0_6.blk t).view.emb j) 1 = j 1 := by ext; blk_simp [idx6]
  rw [e, pay4_apply]
  unfold hnAt
  rw [row_x m c t _ _ h0, h1, whole4]

/-- What is said of rows and columns holds at a place. -/
theorem at_place {N : Nat} (f : S256x1408.Idx → EReal) (G : Fin 256 → Fin N → EReal) (p : Fin 1408 → Fin N)
    (h : ∀ i q, f (ix2 i q) = G i (p q)) (x : S256x1408.Idx) (i : Fin 256) (l : Fin N) (hi : i.val = (x 0).val)
    (hl : l.val = (p (x 1)).val) : f x = G i l := by
  obtain rfl : i = x 0 := Fin.ext hi
  obtain rfl : l = p (x 1) := Fin.ext hl
  exact (congrArg f (ValueIdx.eq_ix2 x)).trans (h _ _)

/-- The gate and up projections. -/
def guAt (c : Dev nD) (i : S4096x5632.Idx) : EReal := gateAt m c (i 0) (i 1)

theorem out7_blk (c : Dev nD) (t : Fin cfg0.N) (j : S256x5632.Idx) :
    (outsAt0 m c t.val t.isLt).2.1 j = gate (row (iblk m c 0 t) (j 0)) (iblk m c 4 t) (iblk m c 2 t) (j 1) := by
  have e : (outsAt0 m c t.val t.isLt).2.1 = View.canon
      [⟨Rect.unit ![0, 4224] ![256, 1408] inb_S256x5632_S256x1408_0_4224, k0_pay11 (k0_pay4 (iblk m c 0 t) (iblk m c 4 t))
          (View.ld (iblk m c 2 t) (Rect.unit ![0, 4224] ![1024, 1408] inb_S1024x5632_S1024x1408_0_4224))⟩,
        ⟨Rect.unit ![0, 1408] ![256, 1408] inb_S256x5632_S256x1408_0_1408, k0_pay10 (k0_pay4 (iblk m c 0 t) (iblk m c 4 t))
          (View.ld (iblk m c 2 t) (Rect.unit ![0, 1408] ![1024, 1408] inb_S1024x5632_S1024x1408_0_1408))⟩,
        ⟨Rect.unit ![0, 2816] ![256, 1408] inb_S256x5632_S256x1408_0_2816, k0_pay6 (iblk m c 0 t) (iblk m c 4 t)
          (View.ld (iblk m c 2 t) (Rect.unit ![0, 2816] ![1024, 1408] inb_S1024x5632_S1024x1408_0_2816))⟩,
        ⟨Rect.unit ![0, 0] ![256, 1408] inb_S256x5632_S256x1408_0_0, k0_pay5 (iblk m c 0 t) (iblk m c 4 t)
          (View.ld (iblk m c 2 t) (Rect.unit ![0, 0] ![1024, 1408] inb_S1024x5632_S1024x1408_0_0))⟩] := by
    by_cases h : t.val % 16 = 0
    · rw [outsAt0_A m c t h]; frame_out; rfl
    · rw [outsAt0_B m c t h]; frame_out; rfl
  rw [e]
  canon_tiles x h
  · exact at_place _ (fun i => gate (row (iblk m c 0 t) i) (iblk m c 4 t) (iblk m c 2 t)) _ (gate3 _ _ _) x (j 0) (j 1) h0 h1
  · exact at_place _ (fun i => gate (row (iblk m c 0 t) i) (iblk m c 4 t) (iblk m c 2 t)) _ (gate1 _ _ _) x (j 0) (j 1) h0 h1
  · exact at_place _ (fun i => gate (row (iblk m c 0 t) i) (iblk m c 4 t) (iblk m c 2 t)) _ (gate2 _ _ _) x (j 0) (j 1) h0 h1
  · exact at_place _ (fun i => gate (row (iblk m c 0 t) i) (iblk m c 4 t) (iblk m c 2 t)) _ (gate0 _ _ _) x (j 0) (j 1) h0 h1

theorem out7_eq (c : Dev nD) (t : Fin cfg0.N) (j : S256x5632.Idx) :
    (outsAt0 m c t.val t.isLt).2.1 j = guAt m c ((win0_7.blk t).view.emb j) := by
  have h0 : (((win0_7.blk t).view.emb j) 0).val = t.val * 256 + (j 0).val := by blk_simp [idx7]
  have h1 : ((win0_7.blk t).view.emb j) 1 = j 1 := by ext; blk_simp [idx7]
  rw [out7_blk]
  unfold guAt
  rw [gate_blk m c t _ _ h0, h1]

/-- The channel mixer's product. -/
def actAt (c : Dev nD) (i : S4096x2816.Idx) : EReal := act (gateAt m c (i 0)) (i 1)

theorem out8_blk (c : Dev nD) (t : Fin cfg0.N) (j : S256x2816.Idx) :
    (outsAt0 m c t.val t.isLt).2.2.1 j = act (gate (row (iblk m c 0 t) (j 0)) (iblk m c 4 t) (iblk m c 2 t)) (j 1) := by
  have e : (outsAt0 m c t.val t.isLt).2.2.1 = View.canon
      [⟨Rect.unit ![0, 1408] ![256, 1408] inb_S256x2816_S256x1408_0_1408, half1 (iblk m c 0 t) (iblk m c 4 t) (iblk m c 2 t)⟩,
        ⟨Rect.unit ![0, 0] ![256, 1408] inb_S256x2816_S256x1408_0_0, half0 (iblk m c 0 t) (iblk m c 4 t) (iblk m c 2 t)⟩] := by
    by_cases h : t.val % 16 = 0
    · rw [outsAt0_A m c t h]; frame_out; rfl
    · rw [outsAt0_B m c t h]; frame_out; rfl
  rw [e]
  canon_tiles x h
  · exact at_place _ (fun i => act (gate (row (iblk m c 0 t) i) (iblk m c 4 t) (iblk m c 2 t))) _ (half1_apply _ _ _) x (j 0) (j 1) h0 h1
  · exact at_place _ (fun i => act (gate (row (iblk m c 0 t) i) (iblk m c 4 t) (iblk m c 2 t))) _ (half0_apply _ _ _) x (j 0) (j 1) h0 h1

theorem out8_eq (c : Dev nD) (t : Fin cfg0.N) (j : S256x2816.Idx) :
    (outsAt0 m c t.val t.isLt).2.2.1 j = actAt m c ((win0_8.blk t).view.emb j) := by
  have h0 : (((win0_8.blk t).view.emb j) 0).val = t.val * 256 + (j 0).val := by blk_simp [idx8]
  have h1 : ((win0_8.blk t).view.emb j) 1 = j 1 := by ext; blk_simp [idx8]
  rw [out8_blk]
  unfold actAt
  rw [gate_blk m c t _ _ h0, h1]

theorem out9_eq (c : Dev nD) (t : Fin cfg0.N) (j : S256x1024.Idx) :
    (outsAt0 m c t.val t.isLt).2.2.2.1 j = gradY m c ((win0_9.blk t).view.emb j) := by
  have e : (outsAt0 m c t.val t.isLt).2.2.2.1
      = k0_pay20 (yBlk m c t) (squares (yBlk m c t)) cst (iblk m c 5 t) (iblk m c 1 t) := by
    by_cases h : t.val % 16 = 0
    · rw [outsAt0_A m c t h]; frame_out; rfl
    · rw [outsAt0_B m c t h]; frame_out; rfl
  have h0 : (((win0_9.blk t).view.emb j) 0).val = t.val * 256 + (j 0).val := by blk_simp [idx9]
  have h1 : ((win0_9.blk t).view.emb j) 1 = j 1 := by ext; blk_simp [idx9]
  rw [e, pay20_apply]
  unfold gradY
  rw [err_blk m c t _ _ h0, row_y m c t _ _ h0, h1, whole5]
  rfl

/-- What a step adds to the loss. -/
def addL (c : Dev nD) (t : Fin cfg0.N) (_ : S1x128.Idx) : EReal :=
  (∑ i : Fin 256, ∑ k : Fin 1024, err (row (yBlk m c t) i) (row (iblk m c 1 t) i) (iblk m c 5 t) k
    * err (row (yBlk m c t) i) (row (iblk m c 1 t) i) (iblk m c 5 t) k) * Ideal.ofBits .f32 0x3A000000#32

/-- What a step adds to the gradient of the scale. -/
def addG (c : Dev nD) (t : Fin cfg0.N) (j : S1x1024.Idx) : EReal :=
  ∑ i : Fin 256, err (row (yBlk m c t) i) (row (iblk m c 1 t) i) (iblk m c 5 t) (j 1) * Ideal.ofBits .f32 0x3A800000#32
    * (row (yBlk m c t) i (j 1) * rinv (row (yBlk m c t) i))

theorem pay2_apply (j : S1x128.Idx) : k0_pay2 (F := Ideal) j = 0 := by
  unfold k0_pay2
  pointwise

theorem pay3_apply (j : S1x1024.Idx) : k0_pay3 (F := Ideal) j = 0 := by
  unfold k0_pay3
  pointwise

theorem addL_reset (c : Dev nD) (t : Fin cfg0.N) (h : t.val % 16 = 0) (j : S1x128.Idx) :
    (outsAt0 m c t.val t.isLt).2.2.2.2.1 j = 0 + addL m c t j := by
  have e : (outsAt0 m c t.val t.isLt).2.2.2.2.1
      = k0_pay18 (yBlk m c t) (squares (yBlk m c t)) cst (iblk m c 5 t) (iblk m c 1 t) (k0_pay2 (F := Ideal)) := by
    rw [outsAt0_A m c t h]; frame_out; rfl
  rw [e, pay18_apply, pay2_apply]
  rfl

theorem addL_next (c : Dev nD) (t : Fin cfg0.N) (h : ¬ t.val % 16 = 0) (j : S1x128.Idx) :
    (outsAt0 m c t.val t.isLt).2.2.2.2.1 j = (outsAt0 m c (t.val - 1) (by omega)).2.2.2.2.1 j + addL m c t j := by
  have e : (outsAt0 m c t.val t.isLt).2.2.2.2.1
      = k0_pay18 (yBlk m c t) (squares (yBlk m c t)) cst (iblk m c 5 t) (iblk m c 1 t) (outsAt0 m c (t.val - 1) (by omega)).2.2.2.2.1 := by
    rw [outsAt0_B m c t h]; frame_out; rfl
  rw [e, pay18_apply]
  rfl

theorem addG_reset (c : Dev nD) (t : Fin cfg0.N) (h : t.val % 16 = 0) (j : S1x1024.Idx) :
    (outsAt0 m c t.val t.isLt).2.2.2.2.2 j = 0 + addG m c t j := by
  have e : (outsAt0 m c t.val t.isLt).2.2.2.2.2
      = k0_pay1 (k0_pay21 (yBlk m c t) (squares (yBlk m c t)) cst (iblk m c 5 t) (iblk m c 1 t)) (k0_pay3 (F := Ideal)) := by
    rw [outsAt0_A m c t h]; frame_out; rfl
  rw [e, pay1_apply, pay3_apply]
  rfl

theorem addG_next (c : Dev nD) (t : Fin cfg0.N) (h : ¬ t.val % 16 = 0) (j : S1x1024.Idx) :
    (outsAt0 m c t.val t.isLt).2.2.2.2.2 j = (outsAt0 m c (t.val - 1) (by omega)).2.2.2.2.2 j + addG m c t j := by
  have e : (outsAt0 m c t.val t.isLt).2.2.2.2.2
      = k0_pay1 (k0_pay21 (yBlk m c t) (squares (yBlk m c t)) cst (iblk m c 5 t) (iblk m c 1 t))
          (outsAt0 m c (t.val - 1) (by omega)).2.2.2.2.2 := by
    rw [outsAt0_B m c t h]; frame_out; rfl
  rw [e, pay1_apply]
  rfl

theorem loss_blk (c : Dev nD) (t : Fin cfg0.N) (k : Fin 256) (l : Fin 4096) (hl : l.val = t.val * 256 + k.val) :
    (∑ q : Fin 1024, err (row (yBlk m c t) k) (row (iblk m c 1 t) k) (iblk m c 5 t) q
      * err (row (yBlk m c t) k) (row (iblk m c 1 t) k) (iblk m c 5 t) q) * Ideal.ofBits .f32 0x3A000000#32 = lossPart m c l := by
  rw [err_blk m c t k l hl]
  rfl

/-- A step's factor goes into its sum. -/
theorem addL_eq (c : Dev nD) (t : Fin cfg0.N) (j : S1x128.Idx) : addL m c t j
    = ∑ i : Fin 256, (∑ k : Fin 1024, err (row (yBlk m c t) i) (row (iblk m c 1 t) i) (iblk m c 5 t) k
      * err (row (yBlk m c t) i) (row (iblk m c 1 t) i) (iblk m c 5 t) k) * Ideal.ofBits .f32 0x3A000000#32 := by
  unfold addL
  rw [half_width, mul_comm, coe_mul_sum _ (by norm_num)]
  exact Finset.sum_congr rfl fun _ _ => mul_comm _ _

theorem part_blk (c : Dev nD) (t : Fin cfg0.N) (k : Fin 256) (l : Fin 4096) (hl : l.val = t.val * 256 + k.val) (j : Fin 1024) :
    err (row (yBlk m c t) k) (row (iblk m c 1 t) k) (iblk m c 5 t) j * Ideal.ofBits .f32 0x3A800000#32
      * (row (yBlk m c t) k j * rinv (row (yBlk m c t) k)) = part m c l j := by
  rw [err_blk m c t k l hl, row_y m c t k l hl]
  rfl

/-- What the last step leaves of the loss. -/
theorem out10_eq (c : Dev nD) (t : Fin cfg0.N) (h : t.val % 16 = 15) (j : S1x128.Idx) :
    (outsAt0 m c t.val t.isLt).2.2.2.2.1 j = ∑ i : Fin 4096, lossPart m c i := by
  have ht : t.val / 16 = 0 := by have := lt_of_lt_of_eq t.isLt (by decide +kernel : cfg0.N = 16); omega
  have e := Pipeline.eq_sum_fin_of_reset_step_apply_of_flush (fun n h => (outsAt0 m c n h).2.2.2.2.1) 16 (fun _ => 0) (addL m c)
    (addL_reset m c) (addL_next m c) t h j
  refine e.trans ?_
  rw [zero_add]
  refine (Finset.sum_congr rfl fun s _ => addL_eq m c _ j).trans ?_
  refine Fin.sum_mul_add_congr (f := fun i => lossPart m c i) (fun s k hl => ?_) rfl
  exact loss_blk m c _ k ⟨_, hl⟩ (by show s.val * 256 + k.val = (16 * (t.val / 16) + s.val) * 256 + k.val; rw [ht]; omega)

/-- What the last step leaves of the gradient of the scale. -/
theorem out11_eq (c : Dev nD) (t : Fin cfg0.N) (h : t.val % 16 = 15) (j : S1x1024.Idx) :
    (outsAt0 m c t.val t.isLt).2.2.2.2.2 j = ∑ i : Fin 4096, part m c i (j 1) := by
  have ht : t.val / 16 = 0 := by have := lt_of_lt_of_eq t.isLt (by decide +kernel : cfg0.N = 16); omega
  have e := Pipeline.eq_sum_fin_of_reset_step_apply_of_flush (fun n h => (outsAt0 m c n h).2.2.2.2.2) 16 (fun _ => 0) (addG m c)
    (addG_reset m c) (addG_next m c) t h j
  refine e.trans ?_
  rw [zero_add]
  refine Fin.sum_mul_add_congr (f := fun i => part m c i (j 1)) (fun s k hl => ?_) rfl
  exact part_blk m c _ k ⟨_, hl⟩ (by show s.val * 256 + k.val = (16 * (t.val / 16) + s.val) * 256 + k.val; rw [ht]; omega) (j 1)

set_option maxHeartbeats 1600000 in
theorem algebraic : Cert.algebraic_FwdFfnIdeal_FwdFfnRefIdeal := by
  intro m g m' g' _ hx
  refine ⟨_, _, _, _, _, _, Cert.FwdFfnIdeal.Value.run_blocks (F := Ideal) m g, ?_⟩
  refine (θ_run Cert.FwdFfnRefIdeal.defs _ _).mono (fun r h c => ?_) (Cert.FwdFfnRefIdeal.Value.run (F := Ideal) m' g')
  obtain ⟨h0, h1, h2, h3, h4, h5, hk⟩ := h c
  obtain ⟨e0, e1, e2, e3, e4, e5⟩ := hx c
  refine ⟨h0.trans ?_, h1.trans ?_, h2.trans ?_, h3.trans ?_, h4.trans ?_, h5.trans ?_, hk⟩
  · refine Eq.trans ?_ ((dats m 0 c).arrAt_eq_of_covers 6 (hnAt m c) (by decide +kernel) fun t hf y => ?_).symm
    · funext i
      unfold hnAt hn rinv msq width eps row
      rw [e0, e4]
      pointwise
    · blk_simp
      rw [after0_6, out6_eq m c t]
  · refine Eq.trans ?_ ((dats m 0 c).arrAt_eq_of_covers 7 (guAt m c) (by decide +kernel) fun t hf y => ?_).symm
    · funext i
      unfold guAt gateAt gate hn rinv msq width eps row
      rw [e0, e2, e4]
      pointwise
    · blk_simp
      rw [after0_7, out7_eq m c t]
  · refine Eq.trans ?_ ((dats m 0 c).arrAt_eq_of_covers 8 (actAt m c) (by decide +kernel) fun t hf y => ?_).symm
    · funext i
      unfold actAt act gateAt gate hn rinv msq width eps row
      rw [e0, e2, e4]
      pointwise
    · blk_simp
      rw [after0_8, out8_eq m c t]
  · refine Eq.trans ?_ ((dats m 0 c).arrAt_eq_of_covers 9 (gradY m c) (by decide +kernel) fun t hf y => ?_).symm
    · funext i
      refine Eq.trans ?_ (gradY_eq m c i).symm
      unfold Cert.FwdFfnRefIdeal.Value.res_main_v69
      rw [e0, e1, e2, e3, e4, e5]
      unfold back cot scale errAt err yAt out act gate hn rinv msq width eps row minusHalf
      pointwise
      simp only [Finset.univ_unique, Finset.sum_singleton]
    · blk_simp
      rw [after0_9, out9_eq m c t]
  · refine Eq.trans ?_ ((dats m 0 c).arrAt_eq_of_covers 10 (loss m c) (by decide +kernel) fun t hf y => ?_).symm
    · funext i
      refine Eq.trans ?_ (loss_eq m c i).symm
      unfold Cert.FwdFfnRefIdeal.Value.res_main_v72
      rw [e0, e1, e2, e3, e4, e5]
      unfold errAt err yAt out act gate hn rinv msq width eps row
      pointwise
    · have ht := (flush0_10 t).1 hf
      blk_simp
      rw [after0_10, out10_eq m c t ht]
      rfl
  · refine Eq.trans ?_ ((dats m 0 c).arrAt_eq_of_covers 11 (gradG m c) (by decide +kernel) fun t hf y => ?_).symm
    · funext i
      refine Eq.trans ?_ (gradG_eq m c i).symm
      unfold Cert.FwdFfnRefIdeal.Value.res_main_v53
      rw [e0, e1, e2, e3, e4, e5]
      unfold cot errAt err yAt out act gate hn rinv msq width eps row
      pointwise
    · have ht := (flush0_11 t).1 hf
      blk_simp
      rw [after0_11, out11_eq m c t ht]
      have h1 : ((win0_11.blk t).view.emb y) 1 = y 1 := by ext; blk_simp [idx11]
      unfold gradG
      rw [h1]

end Cert.FwdFfnIdeal.Back

end
-- ==== Proof.Back.BwdFfn.lean ====
/-
# Back through the channel mixer: three results

The gradient of the gate and up projection, the gradient of the rows before the norm, and the gradient of the scale.
-/
module

public import proofs.«01_k».proof.Defs
public import proofs.«01_k».proof.Proof.Norm.Rms
public import proofs.«01_k».proof.Proof.Gen.BwdFfn.Frame
public import proofs.«01_k».proof.Proof.Gen.BwdFfnIdeal.Value
public import proofs.«01_k».proof.Proof.Gen.BwdFfnRefIdeal.Run
public import Idealize.ShloMosaic.Lib.Quiescent
public import Idealize.ShloMosaic.Lib.Pipeline.ValueKit

@[expose] public section

noncomputable section

namespace Cert.BwdFfnIdeal.Back

open Idealize.ShloMosaic Idealize.ShloMosaic.TcCoe Idealize.SL.Sem Cert.Norm
open Cert.BwdFfnIdeal Cert.BwdFfnIdeal.Gen

theorem frame_kernel : Cert.quiescent_BwdFfn := fun m ρ _ => Cert.BwdFfn.Gen.frame (F := Bits) m ρ

theorem frame_kernelIdeal : Cert.quiescent_BwdFfnIdeal := fun m ρ _ => Cert.BwdFfnIdeal.Gen.frame (F := Ideal) m ρ

theorem frame_refIdeal : Cert.quiescent_BwdFfnRefIdeal := fun m ρ _ =>
  (θ_run Cert.BwdFfnRefIdeal.defs _ _).mono (fun r h => ⟨fun c => (h c).2.2.2, sem_eq_zero_of_no_sems (by decide) r.2⟩)
    (Cert.BwdFfnRefIdeal.Value.run (F := Ideal) m ρ)

theorem preserves : Cert.preserves_BwdFfn_BwdFfnIdeal := trivial

/-- The gradient of a row of the channel mixer's product. -/
def dact (d : Fin 1024 → EReal) (w : S2816x1024.Idx → EReal) : Fin 2816 → EReal := fun q => ∑ k : Fin 1024, d k * w (ix2 q k)

/-- The logistic function. -/
def sg (x : EReal) : EReal := Ideal.div 1 (1 + Ideal.exp (-x))

/-- The gradient of the gate: `a` is the product's, `u` the up projection, `x` the gate. -/
def ofGate (a u x : EReal) : EReal := a * u * sg x * (1 + x * (1 - sg x))

/-- The gradient of the up projection. -/
def ofUp (a x : EReal) : EReal := a * x * sg x

/-- The gradient of a row's gate. -/
def dgate (d : Fin 1024 → EReal) (u : Fin 5632 → EReal) (w : S2816x1024.Idx → EReal) : Fin 2816 → EReal := fun q =>
  ofGate (dact d w q) (u (⟨2816 + q.val, by omega⟩ : Fin 5632)) (u (⟨q.val, by omega⟩ : Fin 5632))

/-- The gradient of its up projection. -/
def dup (d : Fin 1024 → EReal) (u : Fin 5632 → EReal) (w : S2816x1024.Idx → EReal) : Fin 2816 → EReal := fun q =>
  ofUp (dact d w q) (u (⟨q.val, by omega⟩ : Fin 5632))

/-- Both, side by side. -/
def dgu (d : Fin 1024 → EReal) (u : Fin 5632 → EReal) (w : S2816x1024.Idx → EReal) : Fin 5632 → EReal := fun p =>
  if h : p.val < 2816 then dgate d u w ⟨p.val, h⟩ else dup d u w ⟨p.val - 2816, by omega⟩

theorem sg_cases (x : EReal) : x = ⊥ ∧ sg x = 0 ∨ x = ⊤ ∧ sg x = 1 ∨ ∃ r s : ℝ, x = r ∧ sg x = s := by
  unfold sg
  induction x using EReal.rec with
  | bot =>
    refine .inl ⟨rfl, ?_⟩
    have h : Ideal.exp ⊤ = ⊤ := rfl
    have h' : (1 : EReal) + ⊤ = ⊤ := EReal.coe_add_top 1
    rw [EReal.neg_bot, h, h']
    simp [Ideal.div]
  | top =>
    refine .inr (.inl ⟨rfl, ?_⟩)
    have h : Ideal.exp ⊥ = 0 := rfl
    rw [EReal.neg_top, h]
    simp [Ideal.div]
  | coe r =>
    refine .inr (.inr ⟨r, (1 + Real.exp (-r))⁻¹, rfl, ?_⟩)
    have h : Ideal.exp (-(r : EReal)) = ((Real.exp (-r) : ℝ) : EReal) := rfl
    have hp : (1 + Real.exp (-r)) ≠ 0 := by positivity
    rw [h, Ideal.div, ← EReal.coe_one, ← EReal.coe_add, if_neg (by exact_mod_cast hp), ← EReal.coe_inv, EReal.coe_one, one_mul]

/-- The derivative of `x * sg x`, as automatic differentiation builds it. -/
theorem slope_eq (x : EReal) : 1 * sg x + x * (1 * (sg x * (1 - sg x))) = sg x * (1 + x * (1 - sg x)) := by
  rcases sg_cases x with ⟨h, e⟩ | ⟨h, e⟩ | ⟨r, s, h, e⟩
  · rw [e]; simp
  · rw [e]; simp
  · rw [e, h]
    norm_cast
    ring

theorem ofGate_eq (a u x : EReal) : ofGate a u x = a * u * (1 * sg x + x * (1 * (sg x * (1 - sg x)))) := by
  rw [slope_eq, ← mul_assoc]
  rfl

theorem ofUp_eq (a x : EReal) : ofUp a x = a * (x * sg x) := mul_assoc _ _ _

/-- The four pieces a step writes are the four quarters of the gradient. -/
theorem piece0 (d : Vec Ideal S256x1024 .f32) (u : Vec Ideal S256x5632 .f32) (w : Vec Ideal S2816x1024 .bf16) (i : Fin 256) (q : Fin 1408) :
    k0_pay11 d (View.ld w (Rect.unit ![0, 0] ![1408, 1024] inb_S2816x1024_S1408x1024_0_0))
        (View.ld u (Rect.unit ![0, 0] ![256, 1408] inb_S256x5632_S256x1408_0_0))
        (View.ld u (Rect.unit ![0, 2816] ![256, 1408] inb_S256x5632_S256x1408_0_2816)) (ix2 i q)
      = dgate (row d i) (row u i) w (⟨q.val, by omega⟩ : Fin 2816) := by
  unfold k0_pay11 k0_pay10 k0_pay9 k0_pay7 dgate ofGate sg dact row
  pointwise
  simp only [zero_sub]

theorem piece1 (d : Vec Ideal S256x1024 .f32) (u : Vec Ideal S256x5632 .f32) (w : Vec Ideal S2816x1024 .bf16) (i : Fin 256) (q : Fin 1408) :
    k0_pay15 (k0_pay7 d) (View.ld w (Rect.unit ![1408, 0] ![1408, 1024] inb_S2816x1024_S1408x1024_1408_0))
        (View.ld u (Rect.unit ![0, 1408] ![256, 1408] inb_S256x5632_S256x1408_0_1408))
        (View.ld u (Rect.unit ![0, 4224] ![256, 1408] inb_S256x5632_S256x1408_0_4224)) (ix2 i q)
      = dgate (row d i) (row u i) w (⟨1408 + q.val, by omega⟩ : Fin 2816) := by
  unfold k0_pay15 k0_pay14 k0_pay13 k0_pay7 dgate ofGate sg dact row
  pointwise
  have e : (⟨4224 + q.val, by omega⟩ : Fin 5632) = ⟨2816 + (1408 + q.val), by omega⟩ := Fin.ext (by show 4224 + q.val = 2816 + (1408 + q.val); omega)
  simp only [zero_sub, e]

theorem piece2 (d : Vec Ideal S256x1024 .f32) (u : Vec Ideal S256x5632 .f32) (w : Vec Ideal S2816x1024 .bf16) (i : Fin 256) (q : Fin 1408) :
    k0_pay12 d (View.ld w (Rect.unit ![0, 0] ![1408, 1024] inb_S2816x1024_S1408x1024_0_0))
        (View.ld u (Rect.unit ![0, 0] ![256, 1408] inb_S256x5632_S256x1408_0_0)) (ix2 i q)
      = dup (row d i) (row u i) w (⟨q.val, by omega⟩ : Fin 2816) := by
  unfold k0_pay12 k0_pay10 k0_pay9 k0_pay7 dup ofUp sg dact row
  pointwise
  simp only [zero_sub]

theorem piece3 (d : Vec Ideal S256x1024 .f32) (u : Vec Ideal S256x5632 .f32) (w : Vec Ideal S2816x1024 .bf16) (i : Fin 256) (q : Fin 1408) :
    k0_pay16 (k0_pay7 d) (View.ld w (Rect.unit ![1408, 0] ![1408, 1024] inb_S2816x1024_S1408x1024_1408_0))
        (View.ld u (Rect.unit ![0, 1408] ![256, 1408] inb_S256x5632_S256x1408_0_1408)) (ix2 i q)
      = dup (row d i) (row u i) w (⟨1408 + q.val, by omega⟩ : Fin 2816) := by
  unfold k0_pay16 k0_pay14 k0_pay13 k0_pay7 dup ofUp sg dact row
  pointwise
  simp only [zero_sub]

/-- The gradient of a row of the normed input. -/
def dhn (d : Fin 1024 → EReal) (u : Fin 5632 → EReal) (w : S2816x1024.Idx → EReal) (v : S1024x5632.Idx → EReal) : Fin 1024 → EReal :=
  fun k => ∑ p : Fin 5632, dgu d u w p * v (ix2 k p)

theorem dhn_halves (d : Fin 1024 → EReal) (u : Fin 5632 → EReal) (w : S2816x1024.Idx → EReal) (v : S1024x5632.Idx → EReal) (k : Fin 1024) :
    dhn d u w v k = (∑ q : Fin 2816, dgate d u w q * v (ix2 k (⟨q.val, by omega⟩ : Fin 5632)))
      + ∑ q : Fin 2816, dup d u w q * v (ix2 k (⟨2816 + q.val, by omega⟩ : Fin 5632)) := by
  refine (Fin.sum_univ_add (a := 2816) (b := 2816) fun p : Fin (2816 + 2816) => dgu d u w p * v (ix2 k p)).trans ?_
  refine congrArg₂ (· + ·) ?_ ?_
  · refine Finset.sum_congr rfl fun q _ => ?_
    refine congrArg₂ _ ?_ rfl
    exact dif_pos q.isLt
  · refine Finset.sum_congr rfl fun q _ => ?_
    refine congrArg₂ _ ?_ rfl
    refine (dif_neg (by show ¬ 2816 + q.val < 2816; omega)).trans ?_
    exact congrArg (dup d u w) (Fin.ext (by show 2816 + q.val - 2816 = q.val; omega))

theorem dhn_eq (d : Fin 1024 → EReal) (u : Fin 5632 → EReal) (w : S2816x1024.Idx → EReal) (v : S1024x5632.Idx → EReal) :
    dhn d u w v = fun k => (∑ q : Fin 2816, dgate d u w q * v (ix2 k (⟨q.val, by omega⟩ : Fin 5632)))
      + ∑ q : Fin 2816, dup d u w q * v (ix2 k (⟨2816 + q.val, by omega⟩ : Fin 5632)) :=
  funext (dhn_halves d u w v)

/-- A sum over the channels, by its two chunks. -/
theorem chunks (f : Fin 2816 → EReal) :
    ∑ q, f q = (∑ q : Fin 1408, f ⟨q.val, by omega⟩) + ∑ q : Fin 1408, f ⟨1408 + q.val, by omega⟩ :=
  Fin.sum_univ_add (a := 1408) (b := 1408) fun q : Fin (1408 + 1408) => f q

/-- The same in the order in which a step adds it up. -/
theorem dhn_split (d : Fin 1024 → EReal) (u : Fin 5632 → EReal) (w : S2816x1024.Idx → EReal) (v : S1024x5632.Idx → EReal) (k : Fin 1024) :
    dhn d u w v k = (∑ q : Fin 1408, dgate d u w (⟨q.val, by omega⟩ : Fin 2816) * v (ix2 k (⟨q.val, by omega⟩ : Fin 5632)))
      + (∑ q : Fin 1408, dup d u w (⟨q.val, by omega⟩ : Fin 2816) * v (ix2 k (⟨2816 + q.val, by omega⟩ : Fin 5632)))
      + (∑ q : Fin 1408, dgate d u w (⟨1408 + q.val, by omega⟩ : Fin 2816) * v (ix2 k (⟨1408 + q.val, by omega⟩ : Fin 5632)))
      + ∑ q : Fin 1408, dup d u w (⟨1408 + q.val, by omega⟩ : Fin 2816) * v (ix2 k (⟨2816 + (1408 + q.val), by omega⟩ : Fin 5632)) := by
  rw [dhn_halves, chunks, chunks (fun q => dup d u w q * _)]
  ac_rfl

theorem pay17_apply (x : FVec Ideal S256x1024 .bf16) (a b : FVec Ideal S256x1408 .bf16) (v v' v'' : Vec Ideal S1024x1408 .bf16)
    (w : Vec Ideal S1408x1024 .bf16) (y z : Vec Ideal S256x1408 .f32) (j : S256x1024.Idx) :
    k0_pay17 x k0_pay8 a b v (constant S256x1024 FTy.f32 0#32) v' w y z v'' j
      = (∑ q : Fin 1408, a (ix2 (j 0) q) * v (ix2 (j 1) q)) + (∑ q : Fin 1408, b (ix2 (j 0) q) * v' (ix2 (j 1) q))
        + ∑ q : Fin 1408, k0_pay15 x w y z (ix2 (j 0) q) * v'' (ix2 (j 1) q) := by
  unfold k0_pay17 k0_pay8
  pointwise

theorem pay1_apply (a : FVec Ideal S256x1408 .bf16) (x : FVec Ideal S256x1024 .f32) (v : Vec Ideal S1024x1408 .bf16) (j : S256x1024.Idx) :
    k0_pay1 a x v j = x j + ∑ q : Fin 1408, a (ix2 (j 0) q) * v (ix2 (j 1) q) := by
  unfold k0_pay1
  pointwise

theorem ld0 (v : Vec Ideal S1024x5632 .bf16) (k : Fin 1024) (q : Fin 1408) :
    View.ld v (Rect.unit ![0, 0] ![1024, 1408] inb_S1024x5632_S1024x1408_0_0) (ix2 k q) = v (ix2 k (⟨q.val, by omega⟩ : Fin 5632)) := by
  pointwise

theorem ld1 (v : Vec Ideal S1024x5632 .bf16) (k : Fin 1024) (q : Fin 1408) :
    View.ld v (Rect.unit ![0, 1408] ![1024, 1408] inb_S1024x5632_S1024x1408_0_1408) (ix2 k q)
      = v (ix2 k (⟨1408 + q.val, by omega⟩ : Fin 5632)) := by
  pointwise

theorem ld2 (v : Vec Ideal S1024x5632 .bf16) (k : Fin 1024) (q : Fin 1408) :
    View.ld v (Rect.unit ![0, 2816] ![1024, 1408] inb_S1024x5632_S1024x1408_0_2816) (ix2 k q)
      = v (ix2 k (⟨2816 + q.val, by omega⟩ : Fin 5632)) := by
  pointwise

theorem ld3 (v : Vec Ideal S1024x5632 .bf16) (k : Fin 1024) (q : Fin 1408) :
    View.ld v (Rect.unit ![0, 4224] ![1024, 1408] inb_S1024x5632_S1024x1408_0_4224) (ix2 k q)
      = v (ix2 k (⟨2816 + (1408 + q.val), by omega⟩ : Fin 5632)) := by
  pointwise
  exact congrArg v (congrArg (ix2 k) (Fin.ext (by show 4224 + q.val = 2816 + (1408 + q.val); omega)))

/-- The last piece a step writes. -/
def last (d : Vec Ideal S256x1024 .f32) (u : Vec Ideal S256x5632 .f32) (w : Vec Ideal S2816x1024 .bf16) : FVec Ideal S256x1408 .bf16 :=
  k0_pay16 (k0_pay7 d) (View.ld w (Rect.unit ![1408, 0] ![1408, 1024] inb_S2816x1024_S1408x1024_1408_0))
    (View.ld u (Rect.unit ![0, 1408] ![256, 1408] inb_S256x5632_S256x1408_0_1408))

/-- A step's sum over the other three. -/
def three (d : Vec Ideal S256x1024 .f32) (u : Vec Ideal S256x5632 .f32) (w : Vec Ideal S2816x1024 .bf16) (v : Vec Ideal S1024x5632 .bf16) :
    FVec Ideal S256x1024 .f32 :=
  k0_pay17 (k0_pay7 d) k0_pay8
    (k0_pay11 d (View.ld w (Rect.unit ![0, 0] ![1408, 1024] inb_S2816x1024_S1408x1024_0_0))
      (View.ld u (Rect.unit ![0, 0] ![256, 1408] inb_S256x5632_S256x1408_0_0))
      (View.ld u (Rect.unit ![0, 2816] ![256, 1408] inb_S256x5632_S256x1408_0_2816)))
    (k0_pay12 d (View.ld w (Rect.unit ![0, 0] ![1408, 1024] inb_S2816x1024_S1408x1024_0_0))
      (View.ld u (Rect.unit ![0, 0] ![256, 1408] inb_S256x5632_S256x1408_0_0)))
    (View.ld v (Rect.unit ![0, 0] ![1024, 1408] inb_S1024x5632_S1024x1408_0_0)) (constant S256x1024 FTy.f32 0#32)
    (View.ld v (Rect.unit ![0, 2816] ![1024, 1408] inb_S1024x5632_S1024x1408_0_2816))
    (View.ld w (Rect.unit ![1408, 0] ![1408, 1024] inb_S2816x1024_S1408x1024_1408_0))
    (View.ld u (Rect.unit ![0, 1408] ![256, 1408] inb_S256x5632_S256x1408_0_1408))
    (View.ld u (Rect.unit ![0, 4224] ![256, 1408] inb_S256x5632_S256x1408_0_4224))
    (View.ld v (Rect.unit ![0, 1408] ![1024, 1408] inb_S1024x5632_S1024x1408_0_1408))

/-- A step's gradient of the normed rows. -/
def normed (d : Vec Ideal S256x1024 .f32) (u : Vec Ideal S256x5632 .f32) (w : Vec Ideal S2816x1024 .bf16) (v : Vec Ideal S1024x5632 .bf16) :
    FVec Ideal S256x1024 .f32 :=
  k0_pay1 (last d u w) (three d u w v) (View.ld v (Rect.unit ![0, 4224] ![1024, 1408] inb_S1024x5632_S1024x1408_0_4224))

theorem row_normed (d : Vec Ideal S256x1024 .f32) (u : Vec Ideal S256x5632 .f32) (w : Vec Ideal S2816x1024 .bf16)
    (v : Vec Ideal S1024x5632 .bf16) (i : Fin 256) : row (normed d u w v) i = dhn (row d i) (row u i) w v := by
  funext k
  rw [dhn_split]
  refine (pay1_apply _ _ _ (ix2 i k)).trans ?_
  refine congrArg₂ (· + ·) ((pay17_apply _ _ _ _ _ _ _ _ _ (ix2 i k)).trans ?_) ?_
  · refine congrArg₂ (· + ·) (congrArg₂ (· + ·) ?_ ?_) ?_
    · exact Finset.sum_congr rfl fun q _ => congrArg₂ _ (piece0 d u w i q) (ld0 v k q)
    · exact Finset.sum_congr rfl fun q _ => congrArg₂ _ (piece2 d u w i q) (ld2 v k q)
    · exact Finset.sum_congr rfl fun q _ => congrArg₂ _ (piece1 d u w i q) (ld1 v k q)
  · exact Finset.sum_congr rfl fun q _ => congrArg₂ _ (piece3 d u w i q) (ld3 v k q)

theorem pay4_apply (d : Vec Ideal S256x1024 .f32) (a : FVec Ideal S256x1408 .bf16) (y : FVec Ideal S256x1024 .f32)
    (v : Vec Ideal S1024x1408 .bf16) (x : Vec Ideal S256x1024 .f32) (g : Vec Ideal S1x1024 .f32) (j : S256x1024.Idx) :
    k0_pay4 d a y v x g j = d j + grad (row x (j 0)) (fun k => row (k0_pay1 a y v) (j 0) k * g (ix2 0 k)) (j 1) := by
  unfold k0_pay4 k0_pay3 k0_pay2
  generalize k0_pay1 a y v = z
  unfold grad rinv msq width eps row
  pointwise

theorem pay5_apply (a : FVec Ideal S256x1408 .bf16) (y : FVec Ideal S256x1024 .f32) (v : Vec Ideal S1024x1408 .bf16)
    (x : Vec Ideal S256x1024 .f32) (b : Vec Ideal S1x1024 .f32) (j : S1x1024.Idx) :
    k0_pay5 a y v x b j = b j + ∑ i : Fin 256, row (k0_pay1 a y v) i (j 1) * (row x i (j 1) * rinv (row x i)) := by
  unfold k0_pay5 k0_pay3 k0_pay2
  generalize k0_pay1 a y v = z
  unfold rinv msq width eps row
  pointwise

theorem pay6_apply (j : S1x1024.Idx) : k0_pay6 (F := Ideal) j = 0 := by
  unfold k0_pay6
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)

variable (m : (ℓ : Loc nD τ sig) → Buf (Elt Ideal) ℓ)

/-- A token's gradient of the gate and up projection. -/
def dguAt (c : Dev nD) (i : S4096x5632.Idx) : EReal :=
  dgu (row (m ((c.tc : Thread nD τ).loc main_arg0)) (i 0)) (row (m ((c.tc : Thread nD τ).loc main_arg1)) (i 0))
    (m ((c.tc : Thread nD τ).loc main_arg4)) (i 1)

/-- Its gradient of the normed row. -/
def dhnAt (c : Dev nD) (i : Fin 4096) : Fin 1024 → EReal :=
  dhn (row (m ((c.tc : Thread nD τ).loc main_arg0)) i) (row (m ((c.tc : Thread nD τ).loc main_arg1)) i)
    (m ((c.tc : Thread nD τ).loc main_arg4)) (m ((c.tc : Thread nD τ).loc main_arg3))

/-- A token's row before the norm. -/
def xAt (c : Dev nD) (i : Fin 4096) : Fin 1024 → EReal := row (m ((c.tc : Thread nD τ).loc main_arg2)) i

/-- The norm's scale, as a row. -/
def scale (c : Dev nD) : Fin 1024 → EReal := row (m ((c.tc : Thread nD τ).loc main_arg5)) 0

/-- The gradient of the row before the norm. -/
def gradX (c : Dev nD) (i : S4096x1024.Idx) : EReal :=
  row (m ((c.tc : Thread nD τ).loc main_arg0)) (i 0) (i 1) + grad (xAt m c (i 0)) (fun k => dhnAt m c (i 0) k * scale m c k) (i 1)

/-- The same in the form of automatic differentiation. -/
theorem gradX_eq (c : Dev nD) (i : S4096x1024.Idx) :
    gradX m c i = row (m ((c.tc : Thread nD τ).loc main_arg0)) (i 0) (i 1)
      + (fun (x t : Fin 1024 → EReal) (j : Fin 1024) => t j * rinv x + x j * back x t + back x t * x j)
        (xAt m c (i 0)) (fun k => dhnAt m c (i 0) k * scale m c k) (i 1) :=
  congrArg (_ + ·) (grad_eq _ _ _)

/-- A token's part of the gradient of the scale. -/
def part (c : Dev nD) (i : Fin 4096) (j : Fin 1024) : EReal := dhnAt m c i j * (xAt m c i j * rinv (xAt m c i))

/-- The gradient of the scale. -/
def gradG (c : Dev nD) (i : S1x1024.Idx) : EReal := ∑ k : Fin 4096, part m c k (i 1)

theorem gradG_eq (c : Dev nD) (i : S1x1024.Idx) :
    gradG m c i = ∑ k : Fin 4096, xAt m c k (i 1) * rinv (xAt m c k) * dhnAt m c k (i 1) :=
  Finset.sum_congr rfl fun _ _ => mul_comm _ _

/-- The blocks of a step are rows of the arrays. -/
theorem row_d (c : Dev nD) (t : Fin cfg0.N) (i : Fin 256) (l : Fin 4096) (hl : l.val = t.val * 256 + i.val) :
    row (iblk m c 0 t) i = row (m ((c.tc : Thread nD τ).loc main_arg0)) l := by
  funext k
  unfold row
  simp only [iblk, V]; blk_ext [idx0]

theorem row_u (c : Dev nD) (t : Fin cfg0.N) (i : Fin 256) (l : Fin 4096) (hl : l.val = t.val * 256 + i.val) :
    row (iblk m c 1 t) i = row (m ((c.tc : Thread nD τ).loc main_arg1)) l := by
  funext k
  unfold row
  simp only [iblk, V]; blk_ext [idx1]

theorem row_x (c : Dev nD) (t : Fin cfg0.N) (i : Fin 256) (l : Fin 4096) (hl : l.val = t.val * 256 + i.val) :
    row (iblk m c 2 t) i = xAt m c l := by
  funext k
  unfold xAt row
  simp only [iblk, V]; blk_ext [idx2]

theorem whole3 (c : Dev nD) (t : Fin cfg0.N) : iblk m c 3 t = m ((c.tc : Thread nD τ).loc main_arg3) := by
  funext i
  simp only [iblk, V]; blk_ext [idx3]

theorem whole4 (c : Dev nD) (t : Fin cfg0.N) : iblk m c 4 t = m ((c.tc : Thread nD τ).loc main_arg4) := by
  funext i
  simp only [iblk, V]; blk_ext [idx4]

theorem scale_blk (c : Dev nD) (t : Fin cfg0.N) (k : Fin 1024) : iblk m c 5 t (ix2 (0 : Fin 1) k) = scale m c k := by
  unfold scale row
  simp only [iblk, V]; blk_ext [idx5]

/-- What is said of rows and columns holds at a place. -/
theorem at_place (f : S256x1408.Idx → EReal) (G : Fin 256 → Fin 5632 → EReal) (p : Fin 1408 → Fin 5632)
    (h : ∀ i q, f (ix2 i q) = G i (p q)) (x : S256x1408.Idx) (i : Fin 256) (l : Fin 5632) (hi : i.val = (x 0).val)
    (hl : l.val = (p (x 1)).val) : f x = G i l := by
  obtain rfl : i = x 0 := Fin.ext hi
  obtain rfl : l = p (x 1) := Fin.ext hl
  exact (congrArg f (ValueIdx.eq_ix2 x)).trans (h _ _)

theorem dgu_low (d : Fin 1024 → EReal) (u : Fin 5632 → EReal) (w : S2816x1024.Idx → EReal) (n : Nat) (h : n < 2816) :
    dgate d u w ⟨n, h⟩ = dgu d u w ⟨n, by omega⟩ := by
  refine Eq.symm ?_
  exact dif_pos h

theorem dgu_high (d : Fin 1024 → EReal) (u : Fin 5632 → EReal) (w : S2816x1024.Idx → EReal) (n l : Nat) (h : n < 2816) (hl : l = 2816 + n) :
    dup d u w ⟨n, h⟩ = dgu d u w ⟨l, by omega⟩ := by
  subst hl
  unfold dgu
  refine Eq.trans ?_ (dif_neg (by show ¬ 2816 + n < 2816; omega)).symm
  exact congrArg (dup d u w) (Fin.ext (by show n = 2816 + n - 2816; omega))

theorem out6_blk (c : Dev nD) (t : Fin cfg0.N) (j : S256x5632.Idx) :
    (outsAt0 m c t.val t.isLt).1 j = dgu (row (iblk m c 0 t) (j 0)) (row (iblk m c 1 t) (j 0)) (iblk m c 4 t) (j 1) := by
  have e : (outsAt0 m c t.val t.isLt).1 = View.canon
      [⟨Rect.unit ![0, 4224] ![256, 1408] inb_S256x5632_S256x1408_0_4224, last (iblk m c 0 t) (iblk m c 1 t) (iblk m c 4 t)⟩,
        ⟨Rect.unit ![0, 1408] ![256, 1408] inb_S256x5632_S256x1408_0_1408,
          k0_pay15 (k0_pay7 (iblk m c 0 t))
            (View.ld (iblk m c 4 t) (Rect.unit ![1408, 0] ![1408, 1024] inb_S2816x1024_S1408x1024_1408_0))
            (View.ld (iblk m c 1 t) (Rect.unit ![0, 1408] ![256, 1408] inb_S256x5632_S256x1408_0_1408))
            (View.ld (iblk m c 1 t) (Rect.unit ![0, 4224] ![256, 1408] inb_S256x5632_S256x1408_0_4224))⟩,
        ⟨Rect.unit ![0, 2816] ![256, 1408] inb_S256x5632_S256x1408_0_2816,
          k0_pay12 (iblk m c 0 t)
            (View.ld (iblk m c 4 t) (Rect.unit ![0, 0] ![1408, 1024] inb_S2816x1024_S1408x1024_0_0))
            (View.ld (iblk m c 1 t) (Rect.unit ![0, 0] ![256, 1408] inb_S256x5632_S256x1408_0_0))⟩,
        ⟨Rect.unit ![0, 0] ![256, 1408] inb_S256x5632_S256x1408_0_0,
          k0_pay11 (iblk m c 0 t)
            (View.ld (iblk m c 4 t) (Rect.unit ![0, 0] ![1408, 1024] inb_S2816x1024_S1408x1024_0_0))
            (View.ld (iblk m c 1 t) (Rect.unit ![0, 0] ![256, 1408] inb_S256x5632_S256x1408_0_0))
            (View.ld (iblk m c 1 t) (Rect.unit ![0, 2816] ![256, 1408] inb_S256x5632_S256x1408_0_2816))⟩] := by
    by_cases h : t.val % 16 = 0
    · rw [outsAt0_A m c t h]; frame_out; rfl
    · rw [outsAt0_B m c t h]; frame_out; rfl
  rw [e]
  canon_tiles x h
  · exact at_place _ (fun i => dgu (row (iblk m c 0 t) i) (row (iblk m c 1 t) i) (iblk m c 4 t)) (fun q => ⟨4224 + q.val, by omega⟩)
      (fun i q => (piece3 _ _ _ i q).trans (dgu_high _ _ _ _ (4224 + q.val) _ (by omega))) x (j 0) (j 1) h0 h1
  · exact at_place _ (fun i => dgu (row (iblk m c 0 t) i) (row (iblk m c 1 t) i) (iblk m c 4 t)) (fun q => ⟨1408 + q.val, by omega⟩)
      (fun i q => (piece1 _ _ _ i q).trans (dgu_low _ _ _ _ _)) x (j 0) (j 1) h0 h1
  · exact at_place _ (fun i => dgu (row (iblk m c 0 t) i) (row (iblk m c 1 t) i) (iblk m c 4 t)) (fun q => ⟨2816 + q.val, by omega⟩)
      (fun i q => (piece2 _ _ _ i q).trans (dgu_high _ _ _ _ (2816 + q.val) _ rfl)) x (j 0) (j 1) h0 h1
  · exact at_place _ (fun i => dgu (row (iblk m c 0 t) i) (row (iblk m c 1 t) i) (iblk m c 4 t)) (fun q => ⟨q.val, by omega⟩)
      (fun i q => (piece0 _ _ _ i q).trans (dgu_low _ _ _ _ _)) x (j 0) (j 1) h0 h1

theorem out6_eq (c : Dev nD) (t : Fin cfg0.N) (j : S256x5632.Idx) :
    (outsAt0 m c t.val t.isLt).1 j = dguAt m c ((win0_6.blk t).view.emb j) := by
  have h0 : (((win0_6.blk t).view.emb j) 0).val = t.val * 256 + (j 0).val := by blk_simp [idx6]
  have h1 : ((win0_6.blk t).view.emb j) 1 = j 1 := by ext; blk_simp [idx6]
  rw [out6_blk]
  unfold dguAt
  rw [row_d m c t _ _ h0, row_u m c t _ _ h0, h1, whole4]

/-- The gradient of the normed rows in a step. -/
def blk (c : Dev nD) (t : Fin cfg0.N) : FVec Ideal S256x1024 .f32 :=
  normed (iblk m c 0 t) (iblk m c 1 t) (iblk m c 4 t) (iblk m c 3 t)

theorem row_blk (c : Dev nD) (t : Fin cfg0.N) (i : Fin 256) (l : Fin 4096) (hl : l.val = t.val * 256 + i.val) :
    row (blk m c t) i = dhnAt m c l := by
  unfold blk dhnAt
  rw [row_normed, row_d m c t i l hl, row_u m c t i l hl, whole3, whole4]

/-- What a step writes of the gradient of the rows. -/
theorem out7_eq (c : Dev nD) (t : Fin cfg0.N) (j : S256x1024.Idx) :
    (outsAt0 m c t.val t.isLt).2.1 j = gradX m c ((win0_7.blk t).view.emb j) := by
  have e : (outsAt0 m c t.val t.isLt).2.1
      = k0_pay4 (iblk m c 0 t) (last (iblk m c 0 t) (iblk m c 1 t) (iblk m c 4 t))
          (three (iblk m c 0 t) (iblk m c 1 t) (iblk m c 4 t) (iblk m c 3 t))
          (View.ld (iblk m c 3 t) (Rect.unit ![0, 4224] ![1024, 1408] inb_S1024x5632_S1024x1408_0_4224)) (iblk m c 2 t) (iblk m c 5 t) := by
    by_cases h : t.val % 16 = 0
    · rw [outsAt0_A m c t h]; frame_out; rfl
    · rw [outsAt0_B m c t h]; frame_out; rfl
  have h0 : (((win0_7.blk t).view.emb j) 0).val = t.val * 256 + (j 0).val := by blk_simp [idx7]
  have h1 : ((win0_7.blk t).view.emb j) 1 = j 1 := by ext; blk_simp [idx7]
  rw [e]
  refine (pay4_apply _ _ _ _ _ _ j).trans ?_
  unfold gradX
  rw [h1]
  refine congrArg₂ (· + ·) ?_ ?_
  · exact (congrArg (iblk m c 0 t) (ValueIdx.eq_ix2 j)).trans (congrFun (row_d m c t _ _ h0) (j 1))
  · refine congrArg₂ (fun x f => grad x f (j 1)) (row_x m c t _ _ h0) (funext fun k => ?_)
    exact congrArg₂ (· * ·) (congrFun (row_blk m c t _ _ h0) k) (scale_blk m c t k)

/-- What a step adds to the gradient of the scale. -/
def add (c : Dev nD) (t : Fin cfg0.N) (j : S1x1024.Idx) : EReal :=
  ∑ i : Fin 256, row (blk m c t) i (j 1) * (row (iblk m c 2 t) i (j 1) * rinv (row (iblk m c 2 t) i))

theorem add_reset (c : Dev nD) (t : Fin cfg0.N) (h : t.val % 16 = 0) (j : S1x1024.Idx) :
    (outsAt0 m c t.val t.isLt).2.2 j = 0 + add m c t j := by
  have e : (outsAt0 m c t.val t.isLt).2.2
      = k0_pay5 (last (iblk m c 0 t) (iblk m c 1 t) (iblk m c 4 t)) (three (iblk m c 0 t) (iblk m c 1 t) (iblk m c 4 t) (iblk m c 3 t))
          (View.ld (iblk m c 3 t) (Rect.unit ![0, 4224] ![1024, 1408] inb_S1024x5632_S1024x1408_0_4224)) (iblk m c 2 t)
          (k0_pay6 (F := Ideal)) := by
    rw [outsAt0_A m c t h]; frame_out; rfl
  rw [e]
  exact (pay5_apply _ _ _ _ _ j).trans (congrArg (· + add m c t j) (pay6_apply j))

theorem add_next (c : Dev nD) (t : Fin cfg0.N) (h : ¬ t.val % 16 = 0) (j : S1x1024.Idx) :
    (outsAt0 m c t.val t.isLt).2.2 j = (outsAt0 m c (t.val - 1) (by omega)).2.2 j + add m c t j := by
  have e : (outsAt0 m c t.val t.isLt).2.2
      = k0_pay5 (last (iblk m c 0 t) (iblk m c 1 t) (iblk m c 4 t)) (three (iblk m c 0 t) (iblk m c 1 t) (iblk m c 4 t) (iblk m c 3 t))
          (View.ld (iblk m c 3 t) (Rect.unit ![0, 4224] ![1024, 1408] inb_S1024x5632_S1024x1408_0_4224)) (iblk m c 2 t)
          (outsAt0 m c (t.val - 1) (by omega)).2.2 := by
    rw [outsAt0_B m c t h]; frame_out; rfl
  rw [e]
  exact pay5_apply _ _ _ _ _ j

theorem part_blk (c : Dev nD) (t : Fin cfg0.N) (k : Fin 256) (l : Fin 4096) (hl : l.val = t.val * 256 + k.val) (j : Fin 1024) :
    row (blk m c t) k j * (row (iblk m c 2 t) k j * rinv (row (iblk m c 2 t) k)) = part m c l j := by
  rw [row_x m c t k l hl, row_blk m c t k l hl]
  rfl

/-- What the last step leaves of the gradient of the scale. -/
theorem out8_eq (c : Dev nD) (t : Fin cfg0.N) (h : t.val % 16 = 15) (j : S1x1024.Idx) :
    (outsAt0 m c t.val t.isLt).2.2 j = ∑ i : Fin 4096, part m c i (j 1) := by
  have ht : t.val / 16 = 0 := by have := lt_of_lt_of_eq t.isLt (by decide +kernel : cfg0.N = 16); omega
  have e := Pipeline.eq_sum_fin_of_reset_step_apply_of_flush (fun n h => (outsAt0 m c n h).2.2) 16 (fun _ => 0) (add m c)
    (add_reset m c) (add_next m c) t h j
  refine e.trans ?_
  rw [zero_add]
  refine Fin.sum_mul_add_congr (f := fun i => part m c i (j 1)) (fun s k hl => ?_) rfl
  exact part_blk m c _ k ⟨_, hl⟩ (by show s.val * 256 + k.val = (16 * (t.val / 16) + s.val) * 256 + k.val; rw [ht]; omega) (j 1)

set_option maxHeartbeats 1600000 in
theorem algebraic : Cert.algebraic_BwdFfnIdeal_BwdFfnRefIdeal := by
  intro m g m' g' _ hx
  refine ⟨_, _, _, Cert.BwdFfnIdeal.Value.run_blocks (F := Ideal) m g, ?_⟩
  refine (θ_run Cert.BwdFfnRefIdeal.defs _ _).mono (fun r h c => ?_) (Cert.BwdFfnRefIdeal.Value.run (F := Ideal) m' g')
  obtain ⟨h0, h1, h2, hk⟩ := h c
  obtain ⟨e0, e1, e2, e3, e4, e5⟩ := hx c
  refine ⟨h0.trans ?_, h1.trans ?_, h2.trans ?_, hk⟩
  · refine Eq.trans ?_ ((dats m 0 c).arrAt_eq_of_covers 6 (dguAt m c) (by decide +kernel) fun t hf y => ?_).symm
    · funext i
      unfold dguAt dgu dgate dup
      simp only [ofGate_eq, ofUp_eq]
      unfold sg dact row
      rw [e0, e1, e4]
      pointwise
    · blk_simp
      rw [after0_6, out6_eq m c t]
  · refine Eq.trans ?_ ((dats m 0 c).arrAt_eq_of_covers 7 (gradX m c) (by decide +kernel) fun t hf y => ?_).symm
    · funext i
      refine Eq.trans ?_ (gradX_eq m c i).symm
      unfold Cert.BwdFfnRefIdeal.Value.res_main_v49 dhnAt
      simp only [dhn_eq]
      unfold dgate dup
      simp only [ofGate_eq, ofUp_eq]
      unfold sg dact xAt scale back rinv msq width eps minusHalf row
      rw [e0, e1, e2, e3, e4, e5]
      pointwise
      simp only [Finset.univ_unique, Finset.sum_singleton]
    · blk_simp
      rw [after0_7, out7_eq m c t]
  · refine Eq.trans ?_ ((dats m 0 c).arrAt_eq_of_covers 8 (gradG m c) (by decide +kernel) fun t hf y => ?_).symm
    · funext i
      refine Eq.trans ?_ (gradG_eq m c i).symm
      unfold dhnAt
      simp only [dhn_eq]
      unfold dgate dup
      simp only [ofGate_eq, ofUp_eq]
      unfold sg dact xAt rinv msq width eps row
      rw [e0, e1, e2, e3, e4]
      pointwise
    · have ht := (flush0_8 t).1 hf
      blk_simp
      rw [after0_8, out8_eq m c t ht]
      have h1 : ((win0_8.blk t).view.emb y) 1 = y 1 := by ext; blk_simp [idx8]
      unfold gradG
      rw [h1]

end Cert.BwdFfnIdeal.Back

end
-- ==== Proof.Back.FgateBwd.lean ====
/-
# Back through the forget gate

The reference sums each sequence from its end by a window of the whole sequence; the kernel goes through the blocks of a sequence from the
last to the first and carries the first row of the running sum. Both are the sum over the rest of the sequence, `rest`. The reference takes
the gate's slope by way of the softplus, the kernel as one over one plus an exponential: `slope_eq`.
-/
module

public import proofs.«01_k».proof.Defs
public import proofs.«01_k».proof.Proof.Gen.FgateBwd.Frame
public import proofs.«01_k».proof.Proof.Gen.FgateBwdIdeal.Value
public import proofs.«01_k».proof.Proof.Gen.FgateBwdRefIdeal.Run
public import Idealize.ShloMosaic.Lib.Quiescent
public import Idealize.ShloMosaic.Lib.Pipeline.ValueKit
public import Idealize.ShloMosaic.Lib.Pipeline.ReadBack

@[expose] public section

noncomputable section

namespace Cert.FgateBwdIdeal.Back

open Idealize.ShloMosaic Idealize.ShloMosaic.TcCoe Idealize.SL.Sem
open Cert.FgateBwdIdeal Cert.FgateBwdIdeal.Gen

theorem frame_kernel : Cert.quiescent_FgateBwd := fun m ρ _ => Cert.FgateBwd.Gen.frame (F := Bits) m ρ

theorem frame_kernelIdeal : Cert.quiescent_FgateBwdIdeal := fun m ρ _ => Cert.FgateBwdIdeal.Gen.frame (F := Ideal) m ρ

theorem frame_refIdeal : Cert.quiescent_FgateBwdRefIdeal := fun m ρ _ =>
  (θ_run Cert.FgateBwdRefIdeal.defs _ _).mono (fun r h => ⟨fun c => (h c).2.2, sem_eq_zero_of_no_sems (by decide) r.2⟩)
    (Cert.FgateBwdRefIdeal.Value.run (F := Ideal) m ρ)

theorem preserves : Cert.preserves_FgateBwd_FgateBwdIdeal := trivial

open Cert.FgateBwdRefIdeal (S2x2048x8)

/-- A fold that adds is the sum of the list. -/
theorem fold_add {n : ℕ} (g : Fin n → EReal) : ∀ (l : List (Fin n)) (a : EReal), l.foldl (fun r k => r + g k) a = a + (l.map g).sum
  | [], a => by simp
  | k :: l, a => by simp [fold_add g l, add_assoc]

/-- The same over the places of a window. -/
theorem fold_windows {W : Shape} (g : W.Idx → EReal) :
    (List.finRange W.numel).foldl (fun r n => r + g (W.rowMajor.symm n)) 0 = ∑ i, g i := by
  rw [fold_add (fun n => g (W.rowMajor.symm n)), zero_add, ← Fin.sum_univ_def]
  exact W.rowMajor.symm.sum_comp g

theorem shift_sum (f : ℕ → EReal) (N e s : ℕ) (hs : s ≤ N) :
    ∑ k : Fin N, (if s + k.val < N then f (e + (s + k.val)) else 0) = ∑ k ∈ Finset.Ico (e + s) (e + N), f k := by
  rw [Fin.sum_univ_eq_sum_range (fun n => if s + n < N then f (e + (s + n)) else 0) N, Finset.range_eq_Ico,
    ← Finset.sum_Ico_consecutive _ (Nat.zero_le (N - s)) (Nat.sub_le _ _),
    Finset.sum_congr rfl (fun k hk => if_pos (show s + k < N by have := (Finset.mem_Ico.1 hk).2; omega)),
    Finset.sum_eq_zero (fun k hk => if_neg (show ¬ s + k < N by have := (Finset.mem_Ico.1 hk).1; omega)), add_zero,
    Finset.sum_Ico_eq_sum_range, Finset.sum_Ico_eq_sum_range]
  refine Finset.sum_congr (by congr 1; omega) fun k _ => ?_
  congr 1
  omega

theorem windows_sum {s t : Shape} (window strides lo hi : Fin s.rank → Nat) (h : s.ReduceWindows window strides lo hi t)
    (x : s.Idx → EReal) (j : t.Idx) : Ideal.hostReduceWindowAdd window strides lo hi h x 0 j
      = ∑ w : (⟨s.rank, window⟩ : Shape).Idx,
        if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 := by
  unfold Ideal.hostReduceWindowAdd Host.reduceWindow
  refine Eq.trans ?_ (fold_windows (W := ⟨s.rank, window⟩) _)
  refine congrArg (fun F => List.foldl F 0 (List.finRange _)) (funext fun r => funext fun n => ?_)
  refine congrArg (r + ·) ?_
  congr

/-- The sum of a block from a row on. -/
theorem mask_sum (f : ℕ → EReal) (N e s : ℕ) (hs : s ≤ N) :
    ∑ k : Fin N, (if s ≤ k.val then f (e + k.val) else 0) = ∑ k ∈ Finset.Ico (e + s) (e + N), f k := by
  rw [Fin.sum_univ_eq_sum_range (fun n => if s ≤ n then f (e + n) else 0) N, Finset.range_eq_Ico,
    ← Finset.sum_Ico_consecutive _ (Nat.zero_le s) hs,
    Finset.sum_eq_zero (fun k hk => if_neg (show ¬ s ≤ k by have := (Finset.mem_Ico.1 hk).2; omega)),
    Finset.sum_congr rfl (fun k hk => if_pos (Finset.mem_Ico.1 hk).1), zero_add,
    Finset.sum_Ico_eq_sum_range, Finset.sum_Ico_eq_sum_range]
  refine Finset.sum_congr (by congr 1; omega) fun k _ => ?_
  congr 1
  omega

/-- The blocks in the order they are taken add up to the blocks in order. -/
theorem reverse_sum (A : ℕ → EReal) : ∑ s : Fin 8, A (s.val / 4 * 4 + 3 - s.val % 4) = ∑ s : Fin 8, A s.val := by
  rw [Fin.sum_univ_eight, Fin.sum_univ_eight]
  show A 3 + A 2 + A 1 + A 0 + A 7 + A 6 + A 5 + A 4 = A 0 + A 1 + A 2 + A 3 + A 4 + A 5 + A 6 + A 7
  abel

theorem window_at (x : S2x2048x8.Idx → EReal) (f : ℕ → EReal) (j : S2x2048x8.Idx) (e : ℕ)
    (h : S2x2048x8.ReduceWindows ![1, 2048, 1] ![1, 1, 1] ![0, 0, 0] ![0, 2047, 0] S2x2048x8)
    (hf : ∀ k : Fin 2048, f (e * 2048 + k.val) = x (ix3 (j 0) k (j 2))) (k : Fin 2048) :
    (if hin : ∀ a : Fin S2x2048x8.rank, ![0, 0, 0] a ≤ (j (a.cast h.1.symm)).val * ![1, 1, 1] a + ((ix3 (0 : Fin 1) k (0 : Fin 1)) a).val
        ∧ (j (a.cast h.1.symm)).val * ![1, 1, 1] a + ((ix3 (0 : Fin 1) k (0 : Fin 1)) a).val - ![0, 0, 0] a < S2x2048x8.size a
      then x (fun a => ⟨(j (a.cast h.1.symm)).val * ![1, 1, 1] a + ((ix3 (0 : Fin 1) k (0 : Fin 1)) a).val - ![0, 0, 0] a, (hin a).2⟩) else 0)
      = if (j 1).val + k.val < 2048 then f (e * 2048 + ((j 1).val + k.val)) else 0 := by
  have h0 : (j 0).val < 2 := (j 0).isLt
  have h2 : (j 2).val < 8 := (j 2).isLt
  by_cases hk : (j 1).val + k.val < 2048
  · rw [if_pos hk, hf ⟨(j 1).val + k.val, hk⟩, dif_pos]
    · congr 1
      funext a
      fin_cases a <;> (apply Fin.ext; simp)
    · intro a
      fin_cases a <;> simp <;> omega
  · rw [if_neg hk, dif_neg]
    intro hin
    have := (hin 1).2
    simp at this
    omega

/-- The reference's window: what it sums at a place is the rest of the sequence. -/
theorem window_sum (x : S2x2048x8.Idx → EReal) (f : ℕ → EReal) (j : S2x2048x8.Idx) (e : ℕ)
    (h : S2x2048x8.ReduceWindows ![1, 2048, 1] ![1, 1, 1] ![0, 0, 0] ![0, 2047, 0] S2x2048x8)
    (hf : ∀ k : Fin 2048, f (e * 2048 + k.val) = x (ix3 (j 0) k (j 2))) :
    Ideal.hostReduceWindowAdd ![1, 2048, 1] ![1, 1, 1] ![0, 0, 0] ![0, 2047, 0] h x 0 j
      = ∑ k ∈ Finset.Ico (e * 2048 + (j 1).val) (e * 2048 + 2048), f k := by
  rw [windows_sum]
  refine (sum_idx3 (n0 := 1) (n1 := 2048) (n2 := 1) _).trans ?_
  rw [Fin.sum_univ_one]
  simp only [Fin.sum_univ_one]
  exact (Finset.sum_congr rfl fun k _ => window_at x f j e h hf k).trans (shift_sum f 2048 (e * 2048) (j 1).val (j 1).isLt.le)

theorem mask_apply (x i : Fin 512) : FloatOps.sitofp (F := Ideal) FTy.f32
    (BitVec.setWidth 32 (IntOp.cmpi CmpIPredicate.sge (BitVec.ofNat 32 x.val) (BitVec.ofNat 32 i.val)))
      = if i.val ≤ x.val then 1 else 0 := by
  rw [Idealize.ShloMosaic.WordCmp.cmpi_sge_ofNat (by omega) (by omega)]
  by_cases h : i.val ≤ x.val
  · simp only [h, decide_true, if_true]
    show (((1#32 : BitVec 32).toInt : ℝ) : EReal) = 1
    simp
  · simp only [h, decide_false, if_false]
    show (((0#32 : BitVec 32).toInt : ℝ) : EReal) = 0
    simp

theorem pay6_apply (d : Vec Ideal S512x128 .f32) (v : Vec Ideal S1x128 .f32) (j : S512x128.Idx) :
    k0_pay6 d v j = ∑ x : Fin 512, (if (j 0).val ≤ x.val then d (ix2 x (j 1)) else 0) + v (ix2 (0 : Fin 1) (j 1)) := by
  unfold k0_pay6
  pointwise
  refine congrArg (· + _) (Finset.sum_congr rfl fun x _ => ?_)
  refine (congrArg (· * _) (mask_apply x (j 0))).trans ?_
  simp only [ite_mul, one_mul, zero_mul]

theorem pay9_apply (d : Vec Ideal S512x128 .f32) (v : Vec Ideal S1x128 .f32) (z : Vec Ideal S512x128 .f32) (j : S512x128.Idx) :
    k0_pay1 k0_pay8 (k0_pay9 d v z) j = if (j 1).val < 8 then k0_pay6 d v j * Ideal.div 1 (1 + Ideal.exp (z j)) else 0 := by
  have hj : (j 1).val < 128 := (j 1).isLt
  unfold k0_pay1 k0_pay8 k0_pay9
  pointwise
  rw [Idealize.ShloMosaic.WordCmp.cmpi_slt_ofNat (by omega) (by omega), zero_sub, zero_sub, neg_neg]
  by_cases h : (j 1).val < 8
  · simp [h, Scalar.select]
  · simp [h, Scalar.select]

/-- The slope of the logarithm of the gate. -/
def sg (z : EReal) : EReal := Ideal.div 1 (1 + Ideal.exp z)

theorem top_eq : Ideal.ofBits FTy.f32 2139095040#32 = ⊤ := by
  show Ideal.ieee 8 23 2139095040#32 = ⊤
  unfold Ideal.ieee
  simp

theorem log_exp (s : ℝ) : Ideal.log (1 + Ideal.exp (s : EReal)) = ((Real.log (1 + Real.exp s) : ℝ) : EReal) := by
  have h : ¬ 1 + Real.exp s ≤ 0 := not_le.2 (by positivity)
  have e : (1 : EReal) + Ideal.exp (s : EReal) = ((1 + Real.exp s : ℝ) : EReal) := by rw [Ideal.exp_coe]; push_cast; rfl
  rw [e, Ideal.log_coe, if_neg h]

theorem sg_coe (r : ℝ) : sg r = ((1 / (1 + Real.exp r) : ℝ) : EReal) := by
  have h : (1 + Real.exp r : ℝ) ≠ 0 := by positivity
  have e : (1 : EReal) + Ideal.exp (r : EReal) = ((1 + Real.exp r : ℝ) : EReal) := by rw [Ideal.exp_coe]; push_cast; rfl
  unfold sg Ideal.div
  rw [e, if_neg (by exact_mod_cast h), one_mul, one_div]
  exact (EReal.coe_inv _).symm

/-- The slope of the softplus, as the reference works it out. -/
theorem slope_eq (z : EReal) :
    Ideal.exp ((if -z = Ideal.ofBits FTy.f32 2139095040#32 then 0 else -z) -
      if (if -z ≠ -z then -z else max (-z) 0 + Ideal.log1p (Ideal.exp (-FloatOps.absf (F := Ideal) (φ := .f32) (-z)))) = Ideal.ofBits FTy.f32 2139095040#32
      then 0
      else if -z ≠ -z then -z else max (-z) 0 + Ideal.log1p (Ideal.exp (-FloatOps.absf (F := Ideal) (φ := .f32) (-z)))) = sg z := by
  have ha : FloatOps.absf (F := Ideal) (φ := .f32) (-z) = max (-z) (- -z) := rfl
  rw [top_eq, ha]
  simp only [ne_eq, not_true_eq_false, if_false]
  unfold Ideal.log1p
  have hl : Ideal.log 1 = 0 := by
    show Ideal.log ((1 : ℝ) : EReal) = 0
    rw [Ideal.log_coe, if_neg (by norm_num), Real.log_one]
    rfl
  have he : Ideal.exp 0 = 1 := by
    show Ideal.exp ((0 : ℝ) : EReal) = 1
    rw [Ideal.exp_coe, Real.exp_zero]
    rfl
  have ht : (1 : EReal) + ⊤ = ⊤ := EReal.coe_add_top 1
  induction z using EReal.rec with
  | bot => simp [sg, Ideal.div, hl, he]
  | top => simp [sg, Ideal.div, ht]
  | coe r =>
    rw [sg_coe]
    have hp : (1 + Real.exp r : ℝ) ≠ 0 := by positivity
    have hq : (0 : ℝ) < 1 + Real.exp (-r) := by positivity
    have hq' : (0 : ℝ) < 1 + Real.exp r := by positivity
    have hn : ¬ (-(r : EReal)) = ⊤ := by rw [← EReal.coe_neg]; exact EReal.coe_ne_top _
    rw [if_neg hn, neg_neg, ← EReal.coe_neg]
    rcases le_total 0 r with hr | hr
    · rw [max_eq_right (by exact_mod_cast (by linarith : -r ≤ 0)), max_eq_right (by exact_mod_cast (by linarith : -r ≤ r)), zero_add,
        ← EReal.coe_neg, log_exp, if_neg (EReal.coe_ne_top _), ← EReal.coe_sub, Ideal.exp_coe, Real.exp_sub, Real.exp_log hq]
      congr 1
      rw [Real.exp_neg]
      have := Real.exp_pos r
      field_simp
      ring
    · rw [max_eq_left (by exact_mod_cast (by linarith : 0 ≤ -r)), max_eq_left (by exact_mod_cast (by linarith : r ≤ -r)),
        ← EReal.coe_neg, neg_neg, log_exp, ← EReal.coe_add, if_neg (EReal.coe_ne_top _), ← EReal.coe_sub, Ideal.exp_coe]
      congr 1
      rw [show -r - (-r + Real.log (1 + Real.exp r)) = -Real.log (1 + Real.exp r) by ring, Real.exp_neg, Real.exp_log hq', one_div]

variable (m : (ℓ : Loc nD τ sig) → Buf (Elt Ideal) ℓ)

theorem idx0 : ∀ t : Fin cfg0.N, win0_0.index t = ![t.val / 4 * 4 + 3 - t.val % 4, 0] := (by decide +kernel : ∀ t : Fin grid0.N, _)
theorem idx1 : ∀ t : Fin cfg0.N, win0_1.index t = ![t.val / 4 * 4 + 3 - t.val % 4, 0] := (by decide +kernel : ∀ t : Fin grid0.N, _)
theorem idx2 : ∀ t : Fin cfg0.N, win0_2.index t = ![t.val / 4 * 4 + 3 - t.val % 4, 0] := (by decide +kernel : ∀ t : Fin grid0.N, _)
theorem idx3 : ∀ t : Fin cfg0.N, win0_3.index t = ![0, 0] := (by decide +kernel : ∀ t : Fin grid0.N, _)

/-- The first row of the scratch. -/
abbrev top : Rect S8x128 := Rect.unit (s := S8x128) ![0, 0] ![1, 128] inb_S8x128_S1x128_0_0

theorem ld_fill (j : S1x128.Idx) : View.ld (Val := Elt Ideal) (e' := .f32) (k0_pay5 (F := Ideal)) top j = 0 := by
  unfold k0_pay5
  pointwise

/-- The sum a step starts from: nothing at the end of a sequence, else what the step before left. -/
def carry (c : Dev nD) (t : Fin cfg0.N) : Vec Ideal S1x128 .f32 := fun j =>
  if t.val % 4 = 0 then 0 else View.ld (Val := Elt Ideal) (e' := .f32) (outsAt0 m c (t.val - 1) (by omega)).2.2 top j

/-- What a step leaves, over the blocks it reads and the carried sum. -/
theorem outs (c : Dev nD) (t : Fin cfg0.N) :
    (outsAt0 m c t.val t.isLt).1 = k0_pay2 k0_pay8 (k0_pay9 (iblk m c 0 t) (carry m c t) (iblk m c 1 t))
    ∧ (outsAt0 m c t.val t.isLt).2.1 = k0_pay3 k0_pay8 (k0_pay9 (iblk m c 0 t) (carry m c t) (iblk m c 1 t))
        (if t.val % 8 = 0 then k0_pay4 (F := Ideal) else (outsAt0 m c (t.val - 1) (by omega)).2.1)
    ∧ ∀ j : S1x128.Idx, (outsAt0 m c t.val t.isLt).2.2 (top.emb j) = k0_pay7 (iblk m c 0 t) (carry m c t) j := by
  by_cases h1 : t.val % 4 = 0
  · have e : carry m c t = View.ld (Val := Elt Ideal) (e' := .f32) (k0_pay5 (F := Ideal)) top := by
      funext j
      refine Eq.trans ?_ (ld_fill j).symm
      exact if_pos h1
    rw [e]
    by_cases h0 : t.val % 8 = 0
    · rw [outsAt0_A m c t h0 h1, if_pos h0]
      refine ⟨?_, ?_, fun j => ?_⟩
      · frame_out
        rw [View.readCov_fill _ _ _ _ _ (by decide)]
      · frame_out
        rw [View.readCov_fill _ _ _ _ _ (by decide)]
      · frame_out
        rw [View.readCov_fill _ _ _ _ _ (by decide)]
        exact View.canon_cons_emb (Val := Elt Ideal) (e := .f32) top _ _ j
    · rw [outsAt0_C m c t h0 h1, if_neg h0]
      refine ⟨?_, ?_, fun j => ?_⟩
      · frame_out
        rw [View.readCov_fill _ _ _ _ _ (by decide)]
      · frame_out
        rw [View.readCov_fill _ _ _ _ _ (by decide)]
      · frame_out
        rw [View.readCov_fill _ _ _ _ _ (by decide)]
        exact View.canon_cons_emb (Val := Elt Ideal) (e := .f32) top _ _ j
  · have h0 : ¬ t.val % 8 = 0 := by omega
    rw [outsAt0_B m c t h0 h1, if_neg h0]
    have e : carry m c t = View.ld (Val := Elt Ideal) (e' := .f32) (outsAt0 m c (t.val - 1) (by omega)).2.2 top := by
      funext j
      exact if_neg h1
    rw [e]
    refine ⟨?_, ?_, fun j => ?_⟩
    · frame_out
      rw [read_unread_whole]
    · frame_out
      rw [read_unread_whole]
    · frame_out
      rw [read_unread_whole]
      exact View.read_writes_cons_emb (View.whole cc0_scratch0) _ top _ [] j

/-- A lane of an array, by the number of the token. -/
def col (a : Vec Ideal S4096x128 .f32) (l : Fin 128) (k : ℕ) : EReal := if h : k < 4096 then a (ix2 ⟨k, h⟩ l) else 0

/-- The sum over the rest of a token's sequence. -/
def rest (a : Vec Ideal S4096x128 .f32) (l : Fin 128) (k : ℕ) : EReal := ∑ i ∈ Finset.Ico k (k / 2048 * 2048 + 2048), col a l i

/-- The gradient of a pre-activation of the gate. -/
def dz (c : Dev nD) (i : S4096x128.Idx) : EReal :=
  if (i 1).val < 8 then rest (m ((c.tc : Thread nD τ).loc main_arg0)) (i 1) (i 0).val * sg (m ((c.tc : Thread nD τ).loc main_arg1) i) else 0

/-- The gradient of the bias. -/
def db (c : Dev nD) (i : S1x128.Idx) : EReal := ∑ k : Fin 4096, dz m c (ix2 k (i 1))

/-- The first token of a step's block. -/
def base (t : ℕ) : ℕ := (t / 4 * 4 + 3 - t % 4) * 512

theorem lt8 (t : Fin cfg0.N) : t.val < 8 := lt_of_lt_of_eq t.isLt (by decide +kernel : cfg0.N = 8)

/-- A block of the first argument. -/
theorem blk_col (c : Dev nD) (t : Fin cfg0.N) (x : Fin 512) (l : Fin 128) :
    iblk m c 0 t (ix2 x l) = col (m ((c.tc : Thread nD τ).loc main_arg0)) l (base t.val + x.val) := by
  have h : base t.val + x.val < 4096 := by have := lt8 t; unfold base; omega
  unfold col
  rw [dif_pos h]
  unfold base
  simp only [iblk, V]; blk_ext [idx0]

/-- The running sum in a block, over what is carried into it. -/
theorem pay6_blk (c : Dev nD) (t : Fin cfg0.N) (j : S512x128.Idx)
    (hc : ∀ l : Fin 128, carry m c t (ix2 (0 : Fin 1) l)
      = ∑ i ∈ Finset.Ico (base t.val + 512) (t.val / 4 * 2048 + 2048), col (m ((c.tc : Thread nD τ).loc main_arg0)) l i) :
    k0_pay6 (iblk m c 0 t) (carry m c t) j
      = ∑ i ∈ Finset.Ico (base t.val + (j 0).val) (t.val / 4 * 2048 + 2048), col (m ((c.tc : Thread nD τ).loc main_arg0)) (j 1) i := by
  have h := lt8 t
  have hj : (j 0).val < 512 := (j 0).isLt
  have hb : base t.val + 512 ≤ t.val / 4 * 2048 + 2048 := by unfold base; omega
  rw [pay6_apply, hc (j 1), ← Finset.sum_Ico_consecutive _ (show base t.val + (j 0).val ≤ base t.val + 512 by omega) hb,
    ← mask_sum _ _ _ _ hj.le]
  refine congrArg (· + _) (Finset.sum_congr rfl fun x _ => ?_)
  rw [blk_col m c t x (j 1)]

/-- What is carried into a block is the sum of the sequence after it. -/
theorem carry_eq (c : Dev nD) : ∀ (n : ℕ) (hn : n < cfg0.N) (l : Fin 128), carry m c ⟨n, hn⟩ (ix2 (0 : Fin 1) l)
    = ∑ i ∈ Finset.Ico (base n + 512) (n / 4 * 2048 + 2048), col (m ((c.tc : Thread nD τ).loc main_arg0)) l i := by
  intro n
  induction n with
  | zero =>
    intro hn l
    refine (if_pos rfl).trans ?_
    rfl
  | succ n ih =>
    intro hn l
    have h8 := lt8 ⟨n + 1, hn⟩
    by_cases h : (n + 1) % 4 = 0
    · refine (if_pos h).trans ?_
      have e : base (n + 1) + 512 = (n + 1) / 4 * 2048 + 2048 := by unfold base; omega
      rw [e, Finset.Ico_self, Finset.sum_empty]
    · refine (if_neg h).trans ?_
      have hn' : n < cfg0.N := by omega
      refine ((outs m c ⟨n, hn'⟩).2.2 (ix2 (0 : Fin 1) l)).trans ?_
      have e : k0_pay7 (iblk m c 0 ⟨n, hn'⟩) (carry m c ⟨n, hn'⟩) (ix2 (0 : Fin 1) l)
          = k0_pay6 (iblk m c 0 ⟨n, hn'⟩) (carry m c ⟨n, hn'⟩) (ix2 (0 : Fin 512) l) := by
        unfold k0_pay7
        pointwise
      rw [e, pay6_blk m c ⟨n, hn'⟩ (ix2 (0 : Fin 512) l) (ih hn')]
      have e1 : base n + 0 = base (n + 1) + 512 := by unfold base; omega
      have e2 : n / 4 * 2048 + 2048 = (n + 1) / 4 * 2048 + 2048 := by omega
      show ∑ i ∈ Finset.Ico (base n + 0) (n / 4 * 2048 + 2048), col (m ((c.tc : Thread nD τ).loc main_arg0)) l i = _
      rw [e1, e2]

/-- A step's block of the gradient of the pre-activations. -/
theorem blk_dz (c : Dev nD) (t : Fin cfg0.N) (j : S512x128.Idx) (i : S4096x128.Idx) (h0 : (i 0).val = base t.val + (j 0).val) (h1 : i 1 = j 1) :
    k0_pay1 k0_pay8 (k0_pay9 (iblk m c 0 t) (carry m c t) (iblk m c 1 t)) j = dz m c i := by
  have h8 := lt8 t
  have hj : (j 0).val < 512 := (j 0).isLt
  have hz : iblk m c 1 t j = m ((c.tc : Thread nD τ).loc main_arg1) i := by
    have h1' : (i 1).val = (j 1).val := congrArg Fin.val h1
    rw [eq_ix2 j, eq_ix2 i]
    unfold base at h0
    simp only [iblk, V]; blk_ext [idx1]
  have e : (base t.val + (j 0).val) / 2048 * 2048 = t.val / 4 * 2048 := by unfold base; omega
  rw [pay9_apply, pay6_blk m c t j (carry_eq m c t.val t.isLt)]
  unfold dz rest sg
  rw [h0, h1, e, hz]

theorem out2_eq (c : Dev nD) (t : Fin cfg0.N) (j : S512x128.Idx) :
    (outsAt0 m c t.val t.isLt).1 j = dz m c ((win0_2.blk t).view.emb j) := by
  rw [(outs m c t).1]
  refine blk_dz m c t j _ ?_ ?_
  · unfold base
    blk_simp [idx2]
  · ext; blk_simp [idx2]

/-- What a step adds to the gradient of the bias. -/
def add (c : Dev nD) (t : Fin cfg0.N) (j : S1x128.Idx) : EReal :=
  ∑ i : Fin 512, k0_pay1 k0_pay8 (k0_pay9 (iblk m c 0 t) (carry m c t) (iblk m c 1 t)) (ix2 i (j 1))

theorem pay3_apply (v : IVec S512x128 1) (x : FVec Ideal S512x128 .f32) (a : Vec Ideal S1x128 .f32) (j : S1x128.Idx) :
    k0_pay3 v x a j = a j + ∑ i : Fin 512, k0_pay1 v x (ix2 i (j 1)) := by
  unfold k0_pay3
  pointwise

theorem pay4_apply (j : S1x128.Idx) : k0_pay4 (F := Ideal) j = 0 := by
  unfold k0_pay4
  pointwise

theorem add_reset (c : Dev nD) (t : Fin cfg0.N) (h : t.val % 8 = 0) (j : S1x128.Idx) :
    (outsAt0 m c t.val t.isLt).2.1 j = 0 + add m c t j := by
  rw [(outs m c t).2.1, pay3_apply, if_pos h, pay4_apply]
  rfl

theorem add_next (c : Dev nD) (t : Fin cfg0.N) (h : ¬ t.val % 8 = 0) (j : S1x128.Idx) :
    (outsAt0 m c t.val t.isLt).2.1 j = (outsAt0 m c (t.val - 1) (by omega)).2.1 j + add m c t j := by
  rw [(outs m c t).2.1, pay3_apply, if_neg h]
  rfl

/-- What the last step leaves of the gradient of the bias. -/
theorem out3_eq (c : Dev nD) (t : Fin cfg0.N) (h : t.val % 8 = 7) (j : S1x128.Idx) :
    (outsAt0 m c t.val t.isLt).2.1 j = ∑ i : Fin 4096, dz m c (ix2 i (j 1)) := by
  have h8 := lt8 t
  have ht : t.val / 8 = 0 := by omega
  have e := Pipeline.eq_sum_fin_of_reset_step_apply_of_flush (fun n h => (outsAt0 m c n h).2.1) 8 (fun _ => 0) (add m c)
    (add_reset m c) (add_next m c) t h j
  refine e.trans ?_
  rw [zero_add]
  have hA := reverse_sum fun b => ∑ k : Fin 512, if hk : b * 512 + k.val < 4096 then dz m c (ix2 ⟨b * 512 + k.val, hk⟩ (j 1)) else 0
  refine Eq.trans (Finset.sum_congr rfl fun s _ => ?_) (hA.trans ?_)
  · refine Finset.sum_congr rfl fun k _ => ?_
    have hk : (s.val / 4 * 4 + 3 - s.val % 4) * 512 + k.val < 4096 := by omega
    rw [dif_pos hk]
    refine blk_dz m c _ (ix2 k (j 1)) _ ?_ rfl
    show (s.val / 4 * 4 + 3 - s.val % 4) * 512 + k.val = base (8 * (t.val / 8) + s.val) + k.val
    rw [ht]
    unfold base
    omega
  · refine Fin.sum_mul_add_congr (f := fun i => dz m c (ix2 i (j 1))) (fun s k hl => ?_) rfl
    exact dif_pos hl

theorem back_eq {r e R S : EReal} (hr : r = R) (he : e = S) : -(-r * e) = R * S := by
  rw [hr, he, neg_mul, neg_neg]

/-- The reference's window, at a token. -/
theorem window_host {u : Shape} (a : Vec Ideal S4096x128 .f32) (i : S4096x128.Idx) (x : S2x2048x8.Idx → EReal) (v : u.Idx → EReal)
    (j : S2x2048x8.Idx) (h : S2x2048x8.ReduceWindows ![1, 2048, 1] ![1, 1, 1] ![0, 0, 0] ![0, 2047, 0] S2x2048x8) (hu : 0 < u.numel)
    (hv : v (Shape.Idx.first hu) = 0) (hj : (j 1).val = (i 0).val % 2048)
    (hx : ∀ k : Fin 2048, col a (i 1) ((i 0).val / 2048 * 2048 + k.val) = x (ix3 (j 0) k (j 2))) :
    Host.reduceWindowAdd (F := Ideal) (φ := .f32) ![1, 2048, 1] ![1, 1, 1] ![0, 0, 0] ![0, 2047, 0] x v h hu j = rest a (i 1) (i 0).val := by
  show Ideal.hostReduceWindowAdd ![1, 2048, 1] ![1, 1, 1] ![0, 0, 0] ![0, 2047, 0] h x (v (Shape.Idx.first hu)) j = _
  rw [hv, window_sum x (col a (i 1)) j ((i 0).val / 2048) h hx, hj]
  unfold rest
  rw [show (i 0).val / 2048 * 2048 + (i 0).val % 2048 = (i 0).val by omega]

/-- A lane of the first eight, as the reference lays it out. -/
theorem col_slice (a : Vec Ideal S4096x128 .f32) (l : Fin 128) (e : Fin 2) (k : Fin 2048) (q : Fin 8) (h : q.val = l.val) :
    col a l (e.val * 2048 + k.val)
      = shapeCast S2x2048x8 (extractStridedSlice Cert.FgateBwdRefIdeal.S4096x8 ![0, 0] a Cert.FgateBwdRefIdeal.Gen.slices_S4096x128_S4096x8_0_0)
        Cert.FgateBwdRefIdeal.Gen.shapeCasts_S4096x8_S2x2048x8 (ix3 e k q) := by
  unfold col
  rw [dif_pos (show e.val * 2048 + k.val < 4096 by omega)]
  pointwise
  exact congrArg (fun x => a (ix2 _ x)) (Fin.ext h.symm)

/-- Both results: the gradient of the pre-activations, and its sum over the tokens. -/
theorem algebraic : Cert.algebraic_FgateBwdIdeal_FgateBwdRefIdeal := by
  intro m g m' g' _ hx
  refine ⟨_, _, Cert.FgateBwdIdeal.Value.run_blocks (F := Ideal) m g, ?_⟩
  refine (θ_run Cert.FgateBwdRefIdeal.defs _ _).mono (fun r h c => ?_) (Cert.FgateBwdRefIdeal.Value.run (F := Ideal) m' g')
  obtain ⟨h0, h1, hk⟩ := h c
  obtain ⟨e0, e1⟩ := hx c
  refine ⟨h0.trans ?_, h1.trans ?_, hk⟩
  · refine Eq.trans ?_ ((dats m 0 c).arrAt_eq_of_covers 2 (dz m c) (by decide +kernel) fun t hf y => ?_).symm
    · funext i
      rw [e0, e1]
      pointwise
      have hi : (i 0).val < 4096 := (i 0).isLt
      clear h0 h1 hk hx e0 e1 h
      unfold dz
      by_cases h8 : (i 1).val < 8
      · rw [dif_pos h8, if_pos h8]
        refine back_eq (window_host _ i _ _ _ _ _ ?_ rfl fun k => ?_) (slope_eq _)
        · pointwise
        · exact col_slice _ (i 1) ⟨(i 0).val / 2048, by omega⟩ k ⟨(i 1).val, h8⟩ rfl
      · rw [dif_neg h8, if_neg h8]
        show (((0#32 : BitVec 32).toInt : ℝ) : EReal) = 0
        simp
    · blk_simp
      rw [after0_2, out2_eq m c t]
  · refine Eq.trans ?_ ((dats m 0 c).arrAt_eq_of_covers 3 (db m c) (by decide +kernel) fun t hf y => ?_).symm
    · funext i
      unfold Cert.FgateBwdRefIdeal.Value.res_main_v12
      rw [e0, e1]
      unfold db
      pointwise
      refine Finset.sum_congr (M := EReal) rfl fun k _ => ?_
      have hi : k.val < 4096 := k.isLt
      clear h0 h1 hk hx e0 e1 h
      unfold dz
      by_cases h8 : (i 1).val < 8
      · refine (dif_pos h8).trans (Eq.trans ?_ (if_pos h8).symm)
        refine back_eq (window_host _ (ix2 k (i 1)) _ _ _ _ _ ?_ rfl fun x => ?_) (slope_eq _)
        · pointwise
        · exact col_slice _ (i 1) ⟨k.val / 2048, by omega⟩ x ⟨(i 1).val, h8⟩ rfl
      · refine (dif_neg h8).trans (Eq.trans ?_ (if_neg h8).symm)
        show (((0#32 : BitVec 32).toInt : ℝ) : EReal) = 0
        simp
    · have ht := (flush0_3 t).1 hf
      blk_simp
      rw [after0_3, out3_eq m c t ht]
      have h1 : ((win0_3.blk t).view.emb y) 1 = y 1 := by ext; blk_simp [idx3]
      unfold db
      rw [h1]

end Cert.FgateBwdIdeal.Back

end
-- ==== Proof.Back.MemKv.lean ====
/-
# The normed memory, its keys and its values
-/
module

public import proofs.«01_k».proof.Defs
public import proofs.«01_k».proof.Proof.Norm.Rms
public import proofs.«01_k».proof.Proof.Gen.MemKv.Frame
public import proofs.«01_k».proof.Proof.Gen.MemKvIdeal.Value
public import proofs.«01_k».proof.Proof.Gen.MemKvRefIdeal.Run
public import Idealize.ShloMosaic.Lib.Quiescent
public import Idealize.ShloMosaic.Lib.Pipeline.ValueKit

@[expose] public section

noncomputable section

namespace Cert.MemKvIdeal.Back

open Idealize.ShloMosaic Idealize.ShloMosaic.TcCoe Idealize.SL.Sem Cert.Norm
open Cert.MemKvIdeal Cert.MemKvIdeal.Gen

theorem frame_kernel : Cert.quiescent_MemKv := fun m ρ _ => Cert.MemKv.Gen.frame (F := Bits) m ρ

theorem frame_kernelIdeal : Cert.quiescent_MemKvIdeal := fun m ρ _ => Cert.MemKvIdeal.Gen.frame (F := Ideal) m ρ

theorem frame_refIdeal : Cert.quiescent_MemKvRefIdeal := fun m ρ _ =>
  (θ_run Cert.MemKvRefIdeal.defs _ _).mono (fun r h => ⟨fun c => (h c).2.2.2, sem_eq_zero_of_no_sems (by decide) r.2⟩)
    (Cert.MemKvRefIdeal.Value.run (F := Ideal) m ρ)

theorem preserves : Cert.preserves_MemKv_MemKvIdeal := trivial

/-- A normed and scaled row. -/
def hn (x : Fin 1024 → EReal) (g : S1x1024.Idx → EReal) : Fin 1024 → EReal := fun k => x k * rinv x * g (ix2 0 k)

/-- A row's projection. -/
def kv (x : Fin 1024 → EReal) (g : S1x1024.Idx → EReal) (w : S1024x2048.Idx → EReal) (p : Fin 2048) : EReal :=
  ∑ k : Fin 1024, hn x g k * w (ix2 k p)

theorem pay1_apply (x : Vec Ideal S256x1024 .f32) (g : Vec Ideal S1x1024 .f32) (j : S256x1024.Idx) :
    k0_pay1 x g j = hn (row x (j 0)) g (j 1) := by
  unfold k0_pay1 hn rinv msq width eps row
  pointwise

theorem pay2_apply (x : Vec Ideal S256x1024 .f32) (g : Vec Ideal S1x1024 .f32) (w : Vec Ideal S1024x1024 .bf16) (j : S256x1024.Idx) :
    k0_pay2 x g w j = ∑ k : Fin 1024, hn (row x (j 0)) g k * w (ix2 k (j 1)) := by
  unfold k0_pay2 k0_pay1 hn rinv msq width eps row
  pointwise

theorem pay3_apply (x : Vec Ideal S256x1024 .f32) (g : Vec Ideal S1x1024 .f32) (w : Vec Ideal S1024x1024 .bf16) (j : S256x1024.Idx) :
    k0_pay3 x g w j = ∑ k : Fin 1024, hn (row x (j 0)) g k * w (ix2 k (j 1)) := by
  unfold k0_pay3 k0_pay1 hn rinv msq width eps row
  pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem out3 (x : Vec Ideal S256x1024 .f32) (g : Vec Ideal S1x1024 .f32) (w : Vec Ideal S1024x2048 .bf16) : out0_3 x g w = k0_pay1 x g := by
  unfold out0_3
  frame_out

theorem out4 (x : Vec Ideal S256x1024 .f32) (g : Vec Ideal S1x1024 .f32) (w : Vec Ideal S1024x2048 .bf16) :
    out0_4 x g w = k0_pay2 x g (View.ld w (Rect.unit ![0, 0] ![1024, 1024] inb_S1024x2048_S1024x1024_0_0)) := by
  unfold out0_4
  frame_out

theorem out5 (x : Vec Ideal S256x1024 .f32) (g : Vec Ideal S1x1024 .f32) (w : Vec Ideal S1024x2048 .bf16) :
    out0_5 x g w = k0_pay3 x g (View.ld w (Rect.unit ![0, 1024] ![1024, 1024] inb_S1024x2048_S1024x1024_0_1024)) := by
  unfold out0_5
  frame_out

theorem ld_lo (w : Vec Ideal S1024x2048 .bf16) (k q : Fin 1024) :
    View.ld w (Rect.unit ![0, 0] ![1024, 1024] inb_S1024x2048_S1024x1024_0_0) (ix2 k q) = w (ix2 k (⟨q.val, by omega⟩ : Fin 2048)) := by
  pointwise

theorem ld_hi (w : Vec Ideal S1024x2048 .bf16) (k q : Fin 1024) :
    View.ld w (Rect.unit ![0, 1024] ![1024, 1024] inb_S1024x2048_S1024x1024_0_1024) (ix2 k q)
      = w (ix2 k (⟨1024 + q.val, by omega⟩ : Fin 2048)) := by
  pointwise

variable (m : (ℓ : Loc nD τ sig) → Buf (Elt Ideal) ℓ)

theorem row_x (c : Dev nD) (t : Fin cfg0.N) (i : Fin 256) (l : Fin 512) (hl : l.val = t.val * 256 + i.val) :
    row (iblk m c 0 t) i = row (m ((c.tc : Thread nD τ).loc main_arg0)) l := by
  funext k
  unfold row
  simp only [iblk, V]; blk_ext [idx0]

theorem whole1 (c : Dev nD) (t : Fin cfg0.N) : iblk m c 1 t = m ((c.tc : Thread nD τ).loc main_arg1) := by
  funext i
  simp only [iblk, V]; blk_ext [idx1]

theorem whole2 (c : Dev nD) (t : Fin cfg0.N) : iblk m c 2 t = m ((c.tc : Thread nD τ).loc main_arg2) := by
  funext i
  simp only [iblk, V]; blk_ext [idx2]

/-- The normed memory at a place. -/
def normed (c : Dev nD) (i : S512x1024.Idx) : EReal :=
  hn (row (m ((c.tc : Thread nD τ).loc main_arg0)) (i 0)) (m ((c.tc : Thread nD τ).loc main_arg1)) (i 1)

/-- Its projection, from a column on. -/
def proj (c : Dev nD) (o : ℕ) (ho : o ≤ 1024) (i : S512x1024.Idx) : EReal :=
  kv (row (m ((c.tc : Thread nD τ).loc main_arg0)) (i 0)) (m ((c.tc : Thread nD τ).loc main_arg1)) (m ((c.tc : Thread nD τ).loc main_arg2))
    (⟨o + (i 1).val, by have : (i 1).val < 1024 := (i 1).isLt; omega⟩ : Fin 2048)

theorem algebraic : Cert.algebraic_MemKvIdeal_MemKvRefIdeal := by
  intro m g m' g' _ hx
  refine ⟨_, _, _, Cert.MemKvIdeal.Value.run_blocks (F := Ideal) m g, ?_⟩
  refine (θ_run Cert.MemKvRefIdeal.defs _ _).mono (fun r h c => ?_) (Cert.MemKvRefIdeal.Value.run (F := Ideal) m' g')
  obtain ⟨h0, h1, h2, hk⟩ := h c
  obtain ⟨e0, e1, e2⟩ := hx c
  refine ⟨h0.trans ?_, h1.trans ?_, h2.trans ?_, hk⟩
  · refine Eq.trans ?_ ((dats m 0 c).arrAt_eq_of_covers 3 (normed m c) (by decide +kernel) fun t hf y => ?_).symm
    · funext i
      unfold normed hn rinv msq width eps row
      rw [e0, e1]
      pointwise
    · have h0 : (((win0_3.blk t).view.emb y) 0).val = t.val * 256 + (y 0).val := by blk_simp [idx3]
      have h1 : ((win0_3.blk t).view.emb y) 1 = y 1 := by ext; blk_simp [idx3]
      blk_simp
      rw [after0_3, out3]
      unfold normed
      refine (pay1_apply _ _ y).trans ?_
      rw [row_x m c t _ _ h0, whole1, h1]
  · refine Eq.trans ?_ ((dats m 0 c).arrAt_eq_of_covers 4 (proj m c 0 (by omega)) (by decide +kernel) fun t hf y => ?_).symm
    · funext i
      unfold proj kv hn rinv msq width eps row
      rw [e0, e1, e2]
      pointwise
    · have h0 : (((win0_4.blk t).view.emb y) 0).val = t.val * 256 + (y 0).val := by blk_simp [idx4]
      have h1 : (((win0_4.blk t).view.emb y) 1) = y 1 := by ext; blk_simp [idx4]
      blk_simp
      rw [after0_4, out4]
      unfold proj kv
      refine (pay2_apply _ _ _ y).trans ?_
      rw [row_x m c t _ _ h0, whole1, whole2]
      refine Finset.sum_congr rfl fun k _ => congrArg (HMul.hMul (α := EReal) _) ?_
      refine (ld_lo _ k (y 1)).trans ?_
      simp only [h1, Nat.zero_add]
  · refine Eq.trans ?_ ((dats m 0 c).arrAt_eq_of_covers 5 (proj m c 1024 le_rfl) (by decide +kernel) fun t hf y => ?_).symm
    · funext i
      unfold proj kv hn rinv msq width eps row
      rw [e0, e1, e2]
      pointwise
    · have h0 : (((win0_5.blk t).view.emb y) 0).val = t.val * 256 + (y 0).val := by blk_simp [idx5]
      have h1 : (((win0_5.blk t).view.emb y) 1) = y 1 := by ext; blk_simp [idx5]
      blk_simp
      rw [after0_5, out5]
      unfold proj kv
      refine (pay3_apply _ _ _ y).trans ?_
      rw [row_x m c t _ _ h0, whole1, whole2]
      refine Finset.sum_congr rfl fun k _ => congrArg (HMul.hMul (α := EReal) _) ?_
      refine (ld_hi _ k (y 1)).trans ?_
      simp only [h1]

end Cert.MemKvIdeal.Back

end
-- ==== Proof.Attend.Softmax.lean ====
/-
# The gradient of softmax

Of a row of real logits.  The kernel multiplies the probability by the difference of the gradient and its mean under the probabilities;
automatic differentiation follows the exponential and the sum of the exponentials apart.  At real logits the exponentials and their sum are
positive reals, so the two agree at every gradient, the infinite ones included.  At a logit of +∞ every exponential is zero, and the kernel's
quotient of zero by zero has no value to agree with.
-/
module

public import proofs.«01_k».proof.Proof.Norm.Rms

@[expose] public section

noncomputable section

namespace Cert.Attend

open Idealize.ShloMosaic Cert.Norm

/-- The scale of the logits, as a float's word: one sixteenth. -/
def scale : EReal := Ideal.ofBits .f32 0x3D800000#32

/-- Its reciprocal. -/
def unscale : EReal := Ideal.ofBits .f32 0x41800000#32

theorem scale_eq : scale = ((1 / 16 : ℝ) : EReal) := by
  simp [scale, Ideal.ofBits, Ideal.ieee, -EReal.coe_mul]
  norm_num

theorem unscale_eq : unscale = ((16 : ℝ) : EReal) := by
  simp [unscale, Ideal.ofBits, Ideal.ieee, -EReal.coe_mul]
  norm_num

/-- Division by sixteen is the product with one sixteenth. -/
theorem div_unscale (x : EReal) : Ideal.div x unscale = x * scale := by
  rw [unscale_eq, scale_eq, Ideal.div, if_neg (by norm_num), ← EReal.coe_inv]
  norm_num

variable {N E : Nat}

/-- Where a row's maximum starts: minus infinity, as a float's word. -/
def least : EReal := Ideal.ofBits .f32 0xFF800000#32

theorem least_eq : least = ⊥ := by
  simp [least, Ideal.ofBits, Ideal.ieee]

/-- The greatest of a row of logits. -/
def top (l : Fin N → EReal) : EReal := Finset.univ.fold max least l

/-- The exponential of a logit less the greatest. -/
def ex (l : Fin N → EReal) (i : Fin N) : EReal := Ideal.exp (l i - top l)

/-- The probability. -/
def prob (l : Fin N → EReal) (i : Fin N) : EReal := Ideal.div (ex l i) (∑ j, ex l j)

/-- The kernel's gradient of a logit, `p` the row's gradient of the probabilities. -/
def dlogit (l p : Fin N → EReal) (i : Fin N) : EReal := prob l i * (p i - ∑ j, prob l j * p j)

/-- That of automatic differentiation. -/
def dlogitAuto (l p : Fin N → EReal) (i : Fin N) : EReal :=
  (Ideal.div (p i) (∑ j, ex l j) + -(∑ j, p j * Ideal.div 1 ((∑ j, ex l j) * ∑ j, ex l j) * ex l j)) * ex l i

theorem top_real [NeZero N] (l : Fin N → EReal) (h : ∀ i, ∃ r : ℝ, l i = (r : EReal)) : ∃ r : ℝ, top l = (r : EReal) := by
  unfold top
  rw [least_eq]
  have hs : ∀ s : Finset (Fin N), (s.fold max ⊥ l = ⊥ ∧ s = ∅) ∨ ∃ r : ℝ, s.fold max ⊥ l = (r : EReal) := by
    intro s
    induction s using Finset.induction_on with
    | empty => exact .inl ⟨Finset.fold_empty, rfl⟩
    | insert a s ha ih =>
      right
      rw [Finset.fold_insert ha]
      obtain ⟨r, hr⟩ := h a
      rcases ih with ⟨e, _⟩ | ⟨q, e⟩
      · exact ⟨r, by rw [e, hr]; exact max_eq_left bot_le⟩
      · exact ⟨max r q, by rw [e, hr]; exact (EReal.coe_strictMono.monotone.map_max).symm⟩
  rcases hs Finset.univ with ⟨_, e⟩ | h
  · exact absurd (e ▸ Finset.mem_univ (0 : Fin N)) (Finset.notMem_empty _)
  · exact h

/-- A maximum taken once more with minus infinity. -/
theorem max_top (l : Fin N → EReal) : max least (top l) = top l := by
  rw [least_eq]
  exact max_eq_right bot_le

theorem ex_real [NeZero N] (l : Fin N → EReal) (h : ∀ i, ∃ r : ℝ, l i = (r : EReal)) : ∃ r : Fin N → ℝ, (∀ i, 0 < r i) ∧ ∀ i, ex l i = (r i : EReal) := by
  obtain ⟨M, hM⟩ := top_real l h
  choose r hr using h
  refine ⟨fun i => Real.exp (r i - M), fun i => Real.exp_pos _, fun i => ?_⟩
  unfold ex
  rw [hM, hr, ← EReal.coe_sub]
  rfl

theorem coe_sum (r : Fin N → ℝ) : (∑ i, (r i : EReal)) = ((∑ i, r i : ℝ) : EReal) := by
  have h : ∀ s : Finset (Fin N), (∑ i ∈ s, (r i : EReal)) = ((∑ i ∈ s, r i : ℝ) : EReal) := by
    intro s
    induction s using Finset.induction_on with
    | empty => simp
    | insert a s ha ih => rw [Finset.sum_insert ha, Finset.sum_insert ha, ih, EReal.coe_add]
  exact h _

/-- At real logits the two gradients are equal. -/
theorem dlogit_eq [NeZero N] (l p : Fin N → EReal) (h : ∀ i, ∃ r : ℝ, l i = (r : EReal)) (i : Fin N) : dlogit l p i = dlogitAuto l p i := by
  obtain ⟨r, hr, he⟩ := ex_real l h
  have hS : 0 < ∑ j, r j := Finset.sum_pos (fun j _ => hr j) ⟨0, Finset.mem_univ _⟩
  have hsum : ∑ j, ex l j = ((∑ j, r j : ℝ) : EReal) := (Finset.sum_congr rfl fun j _ => he j).trans (coe_sum r)
  unfold dlogit dlogitAuto prob
  rw [hsum]
  generalize (∑ j, r j) = S at hS
  have hd : ∀ x : EReal, Ideal.div x (S : EReal) = x * ((S⁻¹ : ℝ) : EReal) := fun x => by
    rw [Ideal.div, if_neg (by exact_mod_cast hS.ne'), ← EReal.coe_inv]
  have hq : Ideal.div 1 ((S : EReal) * S) = ((S⁻¹ : ℝ) : EReal) * ((S⁻¹ : ℝ) : EReal) := by
    rw [← EReal.coe_mul, Ideal.div, if_neg (by exact_mod_cast (mul_pos hS hS).ne'), ← EReal.coe_inv, one_mul, mul_inv, EReal.coe_mul]
  have hc : 0 ≤ S⁻¹ := (inv_pos.2 hS).le
  rw [hq]
  simp only [hd, he]
  have hT : (∑ j, p j * (((S⁻¹ : ℝ) : EReal) * ((S⁻¹ : ℝ) : EReal)) * (r j : EReal))
      = ((S⁻¹ : ℝ) : EReal) * ∑ j, (r j : EReal) * ((S⁻¹ : ℝ) : EReal) * p j := by
    rw [coe_mul_sum _ hc]
    exact Finset.sum_congr rfl fun j _ => by ac_rfl
  rw [hT]
  generalize (∑ j, (r j : EReal) * ((S⁻¹ : ℝ) : EReal) * p j) = T
  rw [sub_eq_add_neg, ← mul_neg, mul_comm (p i), ← EReal.left_distrib_of_nonneg_of_ne_top (by exact_mod_cast hc) (EReal.coe_ne_top _)]
  ac_rfl

/-- A logit: a query against a key, one head's part of each. -/
def logit (q : Fin E → EReal) (k : Fin N → Fin E → EReal) (i : Fin N) : EReal := (∑ e, q e * k i e) * scale

theorem logit_real (q : Fin E → EReal) (k : Fin N → Fin E → EReal) (hq : ∀ e, ∃ r : ℝ, q e = (r : EReal))
    (hk : ∀ i e, ∃ r : ℝ, k i e = (r : EReal)) (i : Fin N) : ∃ r : ℝ, logit q k i = (r : EReal) := by
  choose a ha using hq
  choose b hb using hk
  refine ⟨(∑ e, a e * b i e) * (1 / 16), ?_⟩
  unfold logit
  rw [scale_eq, EReal.coe_mul, ← coe_sum]
  refine congrArg (· * _) (Finset.sum_congr rfl fun e _ => ?_)
  rw [ha, hb, EReal.coe_mul]

/-- The kernel's gradient of a query, `p` the row's gradient of the probabilities. -/
def dquery (q : Fin E → EReal) (k : Fin N → Fin E → EReal) (p : Fin N → EReal) (e : Fin E) : EReal :=
  (∑ i, dlogit (logit q k) p i * k i e) * scale

/-- That of automatic differentiation. -/
theorem dquery_eq [NeZero N] (q : Fin E → EReal) (k : Fin N → Fin E → EReal) (p : Fin N → EReal) (hq : ∀ e, ∃ r : ℝ, q e = (r : EReal))
    (hk : ∀ i e, ∃ r : ℝ, k i e = (r : EReal)) (e : Fin E) :
    dquery q k p e = ∑ i, Ideal.div (dlogitAuto (fun i => Ideal.div (∑ e, q e * k i e) unscale) p i) unscale * k i e := by
  unfold dquery
  have hl : (fun i => Ideal.div (∑ e, q e * k i e) unscale) = logit q k := funext fun i => div_unscale _
  rw [hl, mul_comm, scale_eq, coe_mul_sum _ (by norm_num), ← scale_eq]
  refine Finset.sum_congr rfl fun i _ => ?_
  rw [dlogit_eq _ _ (logit_real q k hq hk), div_unscale]
  ac_rfl

end Cert.Attend

end
-- ==== Proof.Attend.Heads.lean ====
/-
# Memory attention, back to its queries, row by row

Four heads of 256 columns. A token attends to the 256 places of its sequence's memory.
-/
module

public import proofs.«01_k».proof.Proof.Attend.Softmax

@[expose] public section

noncomputable section

namespace Cert.Attend

open Idealize.ShloMosaic Cert.Norm

/-- A head's part of a row. -/
def cut (o : Nat) (ho : o + 256 ≤ 1024) (f : Fin 1024 → EReal) : Fin 256 → EReal := fun e => f ⟨o + e.val, by omega⟩

/-- A head's gradient of a query: `q` is the row of queries, `a` the gradient of the heads' outputs. -/
def headBack (o : Nat) (ho : o + 256 ≤ 1024) (q a : Fin 1024 → EReal) (k v : Fin 256 → Fin 1024 → EReal) : Fin 256 → EReal :=
  dquery (cut o ho q) (fun j => cut o ho (k j)) fun j => ∑ e : Fin 256, cut o ho a e * cut o ho (v j) e

/-- The gradient of a row of the attention's output. -/
def dout (d : Fin 1024 → EReal) (w : (⟨2, ![1024, 1024]⟩ : Shape).Idx → EReal) : Fin 1024 → EReal := fun c => ∑ l : Fin 1024, d l * w (ix2 c l)

/-- The gradient of a row of queries, the heads side by side. -/
def dqueries (q a : Fin 1024 → EReal) (k v : Fin 256 → Fin 1024 → EReal) : Fin 1024 → EReal := fun c =>
  headBack (c.val / 256 * 256) (by omega) q a k v (⟨c.val % 256, by omega⟩ : Fin 256)

theorem head_place (q a : Fin 1024 → EReal) (k v : Fin 256 → Fin 1024 → EReal) (n o : Nat) (ho : o = n * 256) (hn : o + 256 ≤ 1024) (e : Fin 256)
    (c : Fin 1024) (hc : c.val = o + e.val) : headBack o hn q a k v e = dqueries q a k v c := by
  subst ho
  have h1 : c.val / 256 = n := by omega
  have h2 : (⟨c.val % 256, by omega⟩ : Fin 256) = e := Fin.ext (by show c.val % 256 = e.val; omega)
  unfold dqueries
  rw [h2]
  simp only [h1]

/-- The gradient of the normed row. -/
def dnormed (q : Fin 1024 → EReal) (w : (⟨2, ![1024, 1024]⟩ : Shape).Idx → EReal) : Fin 1024 → EReal := fun c => ∑ l : Fin 1024, q l * w (ix2 c l)

/-- A row of the gradient of the queries. -/
def qRow (d q : (⟨2, ![4096, 1024]⟩ : Shape).Idx → EReal) (k v : (⟨2, ![512, 1024]⟩ : Shape).Idx → EReal)
    (w : (⟨2, ![1024, 1024]⟩ : Shape).Idx → EReal) (t : Fin 4096) : Fin 1024 → EReal :=
  dqueries (row q t) (dout (row d t) w) (fun j => row k (⟨t.val / 2048 * 256 + j.val, by omega⟩ : Fin 512))
    (fun j => row v (⟨t.val / 2048 * 256 + j.val, by omega⟩ : Fin 512))

/-- The gradient of the norm's input, and what came in from above. -/
def dinput (d x z : Fin 1024 → EReal) (w : (⟨2, ![1024, 1024]⟩ : Shape).Idx → EReal) (g : Fin 1024 → EReal) : Fin 1024 → EReal := fun c =>
  d c + grad x (fun k => dnormed z w k * g k) c

/-- A value that compares as finite is a real. -/
theorem real_of_finite (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

end Cert.Attend

end
-- ==== Proof.Back.BwdMidRef.lean ====
/-
# The reference of the way back through the memory attention
-/
module

public import proofs.«01_k».proof.Defs
public import proofs.«01_k».proof.Proof.Attend.Heads
public import proofs.«01_k».proof.Proof.Gen.BwdMidRefIdeal.Run
public import Idealize.ShloMosaic.Lib.Pipeline.ValueKit

@[expose] public section

noncomputable section

namespace Cert.BwdMidRefIdeal.Back

open Idealize.ShloMosaic Idealize.ShloMosaic.TcCoe Idealize.SL.Sem Cert.Norm Cert.Attend
open Cert.BwdMidRefIdeal Cert.BwdMidRefIdeal.Value Cert.BwdMidRefIdeal.Gen

variable {F : FTy → Type} [FloatOps F]

/-- The reference's logits: queries against keys, over sixteen. -/
def rLogits (q : FVec F S4096x1024 .bf16) (k : FVec F S512x1024 .bf16) : FVec F S2x4x2048x256 .f32 :=
  Host.divf (Host.dotGeneral dot_S2x2048x4x256_S2x256x4x256_S2x4x2048x256_3_3_1_1_02_02 none (shapeCast _ (extf .f32 q bitsLt_bf16_f32) shapeCasts_S4096x1024_S2x2048x4x256) (shapeCast _ (extf .f32 k bitsLt_bf16_f32) shapeCasts_S512x1024_S2x256x4x256)) (broadcastInDim S2x4x2048x256 ![] bcast_S_S2x4x2048x256 (constant S_ .f32 0x41800000#32))

/-- The greatest logit of a row. -/
def rTop (L : FVec F S2x4x2048x256 .f32) : FVec F S2x4x2048 .f32 :=
  Host.reduce FloatOps.maximumf L (constant S_ .f32 0xFF800000#32) reducesTo_S2x4x2048x256_S2x4x2048_d3 h_S_

/-- The greatest logit of a row, not below the least value. -/
def rMax (M : FVec F S2x4x2048 .f32) : FVec F S2x4x2048 .f32 :=
  maximumf (broadcastInDim S2x4x2048 ![] bcast_S_S2x4x2048 (constant S_ .f32 0xFF800000#32)) M

/-- Their exponentials, the greatest taken off first. -/
def rExp (L : FVec F S2x4x2048x256 .f32) (M : FVec F S2x4x2048 .f32) : FVec F S2x4x2048x256 .f32 :=
  Host.exp (subf L (broadcastInDim S2x4x2048x256 ![0, 1, 2, 3] bcast_S2x4x2048x1_S2x4x2048x256_0_1_2_3 (broadcastInDim S2x4x2048x1 ![0, 1, 2] bcast_S2x4x2048_S2x4x2048x1_0_1_2 M)))

/-- The gradient of the probabilities. -/
def rProbs (d : FVec F S4096x1024 .f32) (w : FVec F S1024x1024 .bf16) (v : FVec F S512x1024 .bf16) : FVec F S2x4x2048x256 .f32 :=
  Host.dotGeneral dot_S2x4x256x2048_S2x256x4x256_S2x4x2048x256_2_3_3_1_01_02 none (transpose S2x4x256x2048 [0, 2, 3, 1] (shapeCast _ (Host.dotGeneral dot_S4096x1024_S1024x1024_S4096x1024_1_0_0_1_n_n none d (transpose S1024x1024 [1, 0] (extf .f32 w bitsLt_bf16_f32) transposes_S1024x1024_S1024x1024_1_0)) shapeCasts_S4096x1024_S2x2048x4x256) transposes_S2x2048x4x256_S2x4x256x2048_0_2_3_1) (shapeCast _ (extf .f32 v bitsLt_bf16_f32) shapeCasts_S512x1024_S2x256x4x256)

/-- The sum of a row's exponentials. -/
def rSum (E : FVec F S2x4x2048x256 .f32) : FVec F S2x4x2048x1 .f32 :=
  broadcastInDim S2x4x2048x1 ![0, 1, 2] bcast_S2x4x2048_S2x4x2048x1_0_1_2 (Host.reduceAdd E (constant S_ .f32 0x00000000#32) reducesTo_S2x4x2048x256_S2x4x2048_d3 h_S_)

/-- The gradient of the logits, over sixteen. -/
def rBack (E P : FVec F S2x4x2048x256 .f32) (S : FVec F S2x4x2048x1 .f32) : FVec F S2x4x2048x256 .f32 :=
  Host.divf (mulf (addf (Host.divf P (broadcastInDim S2x4x2048x256 ![0, 1, 2, 3] bcast_S2x4x2048x1_S2x4x2048x256_0_1_2_3 S)) (broadcastInDim S2x4x2048x256 ![0, 1, 2] bcast_S2x4x2048_S2x4x2048x256_0_1_2 (Host.reduceAdd (Host.negf (shapeCast _ (Host.reduceAdd (mulf (mulf P (broadcastInDim S2x4x2048x256 ![0, 1, 2, 3] bcast_S2x4x2048x1_S2x4x2048x256_0_1_2_3 (Host.divf (broadcastInDim S2x4x2048x1 ![] bcast_S_S2x4x2048x1 (constant S_ .f32 0x3F800000#32)) (mulf S S)))) E) (constant S_ .f32 0x00000000#32) reducesTo_S2x4x2048x256_S2x4x2048_d3 h_S_) shapeCasts_S2x4x2048_S2x4x2048x1)) (constant S_ .f32 0x00000000#32) reducesTo_S2x4x2048x1_S2x4x2048_d3 h_S_))) E) (broadcastInDim S2x4x2048x256 ![] bcast_S_S2x4x2048x256 (constant S_ .f32 0x41800000#32))

/-- The gradient of the queries. -/
def rQuery (B : FVec F S2x4x2048x256 .f32) (k : FVec F S512x1024 .bf16) : FVec F S4096x1024 .f32 :=
  shapeCast _ (transpose S2x2048x4x256 [0, 2, 1, 3] (Host.dotGeneral dot_S2x4x2048x256_S2x256x4x256_S2x4x2048x256_3_1_2_3_01_02 none B (shapeCast _ (extf .f32 k bitsLt_bf16_f32) shapeCasts_S512x1024_S2x256x4x256)) transposes_S2x4x2048x256_S2x2048x4x256_0_2_1_3) shapeCasts_S2x2048x4x256_S4096x1024

/-- The gradient of the normed rows. -/
def rNormed (z : FVec F S4096x1024 .f32) (w : FVec F S1024x1024 .bf16) : FVec F S4096x1024 .f32 :=
  Host.dotGeneral dot_S4096x1024_S1024x1024_S4096x1024_1_1_0_0_n_n none z (extf .f32 w bitsLt_bf16_f32)

/-- The gradient through the norm. -/
def rNorm (h x : FVec F S4096x1024 .f32) (g : FVec F S1x1024 .f32) : FVec F S4096x1024 .f32 :=
  addf (addf (mulf (mulf h (broadcastInDim S4096x1024 ![0, 1] bcast_S1x1024_S4096x1024_0_1 g)) (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x (broadcastInDim S4096x1024 ![0] bcast_S4096_S4096x1024_0 (Host.reduceAdd (Host.divf (mulf (shapeCast _ (Host.reduceAdd (mulf x (mulf h (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf h (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x)

/-- The gradient of the norm's scale. -/
def rScale (h x : FVec F S4096x1024 .f32) : FVec F S1x1024 .f32 :=
  shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) h) (constant S_ .f32 0x00000000#32) reducesTo_S4096x1024_S1024_d0 h_S_) shapeCasts_S1024_S1x1024

/-- A token of a sequence. -/
def tok (b : Fin 2) (i : Fin 2048) : Fin 4096 := ⟨b.val * 2048 + i.val, by omega⟩
/-- A place of a sequence's memory. -/
def mrow (b : Fin 2) (j : Fin 256) : Fin 512 := ⟨b.val * 256 + j.val, by omega⟩
/-- A head's column. -/
def col (h : Fin 4) (e : Fin 256) : Fin 1024 := ⟨h.val * 256 + e.val, by omega⟩

theorem rLogits_apply (q : FVec Ideal S4096x1024 .bf16) (k : FVec Ideal S512x1024 .bf16) (b : Fin 2) (h : Fin 4) (i : Fin 2048) (j : Fin 256) :
    rLogits q k (ix4 b h i j) = Ideal.div (∑ e : Fin 256, q (ix2 (tok b i) (col h e)) * k (ix2 (mrow b j) (col h e))) unscale := by
  unfold rLogits unscale tok mrow col
  pointwise

theorem rTop_apply (L : FVec Ideal S2x4x2048x256 .f32) (b : Fin 2) (h : Fin 4) (i : Fin 2048) :
    rTop L (ix3 b h i) = top (fun j : Fin 256 => L (ix4 b h i j)) := by
  unfold rTop top least
  pointwise

theorem rMax_apply (M : FVec Ideal S2x4x2048 .f32) (j : S2x4x2048.Idx) : rMax M j = max least (M j) := rfl

theorem rExp_apply (L : FVec Ideal S2x4x2048x256 .f32) (M : FVec Ideal S2x4x2048 .f32) (b : Fin 2) (h : Fin 4) (i : Fin 2048) (j : Fin 256) :
    rExp L M (ix4 b h i j) = Ideal.exp (L (ix4 b h i j) - M (ix3 b h i)) := by
  unfold rExp
  pointwise

theorem ex_apply (L : FVec Ideal S2x4x2048x256 .f32) (b : Fin 2) (h : Fin 4) (i : Fin 2048) (j : Fin 256) :
    rExp L (rMax (rTop L)) (ix4 b h i j) = ex (fun j => L (ix4 b h i j)) j := by
  rw [rExp_apply, rMax_apply, rTop_apply, max_top]
  rfl

theorem rProbs_apply (d : FVec Ideal S4096x1024 .f32) (w : FVec Ideal S1024x1024 .bf16) (v : FVec Ideal S512x1024 .bf16) (b : Fin 2) (h : Fin 4)
    (i : Fin 2048) (j : Fin 256) : rProbs d w v (ix4 b h i j)
      = ∑ e : Fin 256, (∑ l : Fin 1024, d (ix2 (tok b i) l) * w (ix2 (col h e) l)) * v (ix2 (mrow b j) (col h e)) := by
  unfold rProbs tok mrow col
  pointwise

theorem rSum_apply (E : FVec Ideal S2x4x2048x256 .f32) (b : Fin 2) (h : Fin 4) (i : Fin 2048) :
    rSum E (ix4 b h i 0) = ∑ j : Fin 256, E (ix4 b h i j) := by
  unfold rSum
  pointwise

theorem rBack_apply (E P : FVec Ideal S2x4x2048x256 .f32) (S : FVec Ideal S2x4x2048x1 .f32) (b : Fin 2) (h : Fin 4) (i : Fin 2048) (j : Fin 256) :
    rBack E P S (ix4 b h i j) = Ideal.div ((Ideal.div (P (ix4 b h i j)) (S (ix4 b h i 0))
      + -(∑ j : Fin 256, P (ix4 b h i j) * Ideal.div 1 (S (ix4 b h i 0) * S (ix4 b h i 0)) * E (ix4 b h i j))) * E (ix4 b h i j)) unscale := by
  unfold rBack unscale
  pointwise
  simp only [Finset.univ_unique, Finset.sum_singleton]

theorem rQuery_apply (B : FVec Ideal S2x4x2048x256 .f32) (k : FVec Ideal S512x1024 .bf16) (b : Fin 2) (h : Fin 4) (i : Fin 2048) (e : Fin 256) :
    rQuery B k (ix2 (tok b i) (col h e)) = ∑ j : Fin 256, B (ix4 b h i j) * k (ix2 (mrow b j) (col h e)) := by
  unfold rQuery tok mrow col
  pointwise

theorem rNormed_apply (z : FVec Ideal S4096x1024 .f32) (w : FVec Ideal S1024x1024 .bf16) (j : S4096x1024.Idx) :
    rNormed z w j = ∑ l : Fin 1024, z (ix2 (j 0) l) * w (ix2 (j 1) l) := by
  unfold rNormed
  pointwise

theorem rNorm_apply (h x : FVec Ideal S4096x1024 .f32) (g : FVec Ideal S1x1024 .f32) (j : S4096x1024.Idx) :
    rNorm h x g j = grad (row x (j 0)) (fun k => h (ix2 (j 0) k) * g (ix2 0 k)) (j 1) := by
  refine Eq.trans ?_ (grad_eq _ _ _).symm
  unfold rNorm back rinv msq width eps minusHalf row
  pointwise
  simp only [Finset.univ_unique, Finset.sum_singleton]

theorem rScale_apply (h x : FVec Ideal S4096x1024 .f32) (j : S1x1024.Idx) :
    rScale h x j = ∑ i : Fin 4096, row x i (j 1) * rinv (row x i) * h (ix2 i (j 1)) := by
  unfold rScale rinv msq width eps row
  pointwise

/-- The gradient of the queries, from the arguments. -/
def refQ (d : FVec Ideal S4096x1024 .f32) (q : FVec Ideal S4096x1024 .bf16) (k v : FVec Ideal S512x1024 .bf16) (w : FVec Ideal S1024x1024 .bf16) :
    FVec Ideal S4096x1024 .f32 :=
  rQuery (rBack (rExp (rLogits q k) (rMax (rTop (rLogits q k)))) (rProbs d w v) (rSum (rExp (rLogits q k) (rMax (rTop (rLogits q k)))))) k

variable (d : FVec Ideal S4096x1024 .f32) (q : FVec Ideal S4096x1024 .bf16) (k v : FVec Ideal S512x1024 .bf16) (w : FVec Ideal S1024x1024 .bf16)

theorem refQ_place (hq : ∀ j, ∃ r : ℝ, q j = (r : EReal)) (hk : ∀ j, ∃ r : ℝ, k j = (r : EReal)) (b : Fin 2) (h : Fin 4) (i : Fin 2048)
    (e : Fin 256) : refQ d q k v w (ix2 (tok b i) (col h e)) = dquery (fun e => q (ix2 (tok b i) (col h e)))
      (fun j e => k (ix2 (mrow b j) (col h e))) (fun j => ∑ e : Fin 256, dout (row d (tok b i)) w (col h e) * v (ix2 (mrow b j) (col h e))) e := by
  rw [dquery_eq _ _ _ (fun e => hq _) (fun j e => hk _)]
  unfold refQ
  rw [rQuery_apply]
  refine Finset.sum_congr rfl fun j _ => congrArg (HMul.hMul (α := EReal) · _) ?_
  rw [rBack_apply, rSum_apply]
  simp only [ex_apply, rLogits_apply, rProbs_apply]
  rfl

theorem refQ_eq (hq : ∀ j, ∃ r : ℝ, q j = (r : EReal)) (hk : ∀ j, ∃ r : ℝ, k j = (r : EReal)) (t : Fin 4096) (l : Fin 1024) :
    refQ d q k v w (ix2 t l) = qRow d q k v w t l := by
  have ht : tok (⟨t.val / 2048, by omega⟩ : Fin 2) (⟨t.val % 2048, by omega⟩ : Fin 2048) = t :=
    Fin.ext (by show t.val / 2048 * 2048 + t.val % 2048 = t.val; omega)
  have hl : col (⟨l.val / 256, by omega⟩ : Fin 4) (⟨l.val % 256, by omega⟩ : Fin 256) = l :=
    Fin.ext (by show l.val / 256 * 256 + l.val % 256 = l.val; omega)
  have h := refQ_place d q k v w hq hk ⟨t.val / 2048, by omega⟩ ⟨l.val / 256, by omega⟩ ⟨t.val % 2048, by omega⟩ ⟨l.val % 256, by omega⟩
  rw [hl] at h
  simp only [ht] at h
  exact h

/-- The product with the transposed output projection. -/
def rOut {F : FTy → Type} [FloatOps F] (y : FVec F S4096x1024 .f32) (w : FVec F S1024x1024 .bf16) : FVec F S4096x1024 .f32 :=
  Host.dotGeneral dot_S4096x1024_S1024x1024_S4096x1024_1_0_0_1_n_n none y
    (transpose S1024x1024 [1, 0] (extf .f32 w bitsLt_bf16_f32) transposes_S1024x1024_S1024x1024_1_0)

theorem rOut_lo (y : FVec Ideal S4096x1024 .f32) (w : FVec Ideal S1024x1024 .bf16) (t : Fin 4096) (o : Fin 512) :
    extractStridedSlice S4096x512 ![0, 0] (rOut y w) slices_S4096x1024_S4096x512_0_0 (ix2 t o)
      = ∑ l : Fin 1024, y (ix2 t l) * w (ix2 (⟨o.val, by omega⟩ : Fin 1024) l) := by
  unfold rOut
  pointwise

theorem rOut_hi (y : FVec Ideal S4096x1024 .f32) (w : FVec Ideal S1024x1024 .bf16) (t : Fin 4096) (o : Fin 512) :
    extractStridedSlice S4096x512 ![0, 512] (rOut y w) slices_S4096x1024_S4096x512_0_512 (ix2 t o)
      = ∑ l : Fin 1024, y (ix2 t l) * w (ix2 (⟨512 + o.val, by omega⟩ : Fin 1024) l) := by
  unfold rOut
  pointwise

variable (m : (ℓ : Loc nD τ sig) → Buf (Elt Ideal) ℓ) (c : Dev nD)

/-- The gradient of the queries on a device. -/
def devQ : FVec Ideal S4096x1024 .f32 :=
  refQ (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg6))

/-- The gradient of the norm's input on a device, and what came in from above. -/
def devX : FVec Ideal S4096x1024 .f32 :=
  addf (m ((c.tc : Thread nD τ).loc main_arg0))
    (rNorm (rNormed (devQ m c) (m ((c.tc : Thread nD τ).loc main_arg7))) (m ((c.tc : Thread nD τ).loc main_arg1)) (m ((c.tc : Thread nD τ).loc main_arg9)))

theorem out1_eq : res_out1 m c = truncf .bf16 (devQ m c) bitsLt_bf16_f32 := rfl

theorem out0_eq : res_out0 m c = devX m c := rfl

theorem out4_eq : res_out4 m c = rScale (rNormed (devQ m c) (m ((c.tc : Thread nD τ).loc main_arg7))) (m ((c.tc : Thread nD τ).loc main_arg1)) := rfl

theorem out2_eq : res_out2 m c = extractStridedSlice S4096x512 ![0, 0] (rOut (devX m c) (m ((c.tc : Thread nD τ).loc main_arg8))) slices_S4096x1024_S4096x512_0_0 := rfl

theorem out3_eq : res_out3 m c
    = truncf .bf16 (extractStridedSlice S4096x512 ![0, 512] (rOut (devX m c) (m ((c.tc : Thread nD τ).loc main_arg8))) slices_S4096x1024_S4096x512_0_512) bitsLt_bf16_f32 := rfl

end Cert.BwdMidRefIdeal.Back

end
-- ==== Proof.Back.BwdMid.lean ====
/-
# Back through the memory attention
-/
module

public import proofs.«01_k».proof.Defs
public import proofs.«01_k».proof.Proof.Attend.Heads
public import proofs.«01_k».proof.Proof.Back.BwdMidRef
public import proofs.«01_k».proof.Proof.Gen.BwdMid.Frame
public import proofs.«01_k».proof.Proof.Gen.BwdMidIdeal.Value
public import proofs.«01_k».proof.Proof.Gen.BwdMidRefIdeal.Run
public import proofs.«01_k».proof.Proof.Gen.Pre_finite
public import Idealize.ShloMosaic.Lib.Quiescent
public import Idealize.ShloMosaic.Lib.Pipeline.ValueKit

@[expose] public section

noncomputable section

namespace Cert.BwdMidIdeal.Back

open Idealize.ShloMosaic Idealize.ShloMosaic.TcCoe Idealize.SL.Sem Cert.Norm Cert.Attend
open Cert.BwdMidIdeal Cert.BwdMidIdeal.Gen

theorem frame_kernel : Cert.quiescent_BwdMid := fun m ρ _ => Cert.BwdMid.Gen.frame (F := Bits) m ρ

theorem frame_kernelIdeal : Cert.quiescent_BwdMidIdeal := fun m ρ _ => Cert.BwdMidIdeal.Gen.frame (F := Ideal) m ρ

theorem frame_refIdeal : Cert.quiescent_BwdMidRefIdeal := fun m ρ _ =>
  (θ_run Cert.BwdMidRefIdeal.defs _ _).mono (fun r h => ⟨fun c => (h c).2.2.2.2.2, sem_eq_zero_of_no_sems (by decide) r.2⟩)
    (Cert.BwdMidRefIdeal.Value.run (F := Ideal) m ρ)

theorem preserves : Cert.preserves_BwdMid_BwdMidIdeal := trivial

theorem frame_kernelIdeal_pre : Cert.quiescent_BwdMidIdeal_pre_finite := fun m ρ _ => Cert.BwdMidIdeal.Gen.frame (F := Ideal) m ρ

theorem frame_refIdeal_pre : Cert.quiescent_BwdMidRefIdeal_pre_finite := fun m ρ _ =>
  (θ_run Cert.BwdMidRefIdeal.defs _ _).mono (fun r h => ⟨fun c => (h c).2.2.2.2.2, sem_eq_zero_of_no_sems (by decide) r.2⟩)
    (Cert.BwdMidRefIdeal.Value.run (F := Ideal) m ρ)

theorem row_pay5 (d : Vec Ideal S512x1024 .f32) (w : Vec Ideal S1024x1024 .bf16) (i : Fin 512) : row (k0_pay5 d w) i = dout (row d i) w := by
  funext c
  unfold k0_pay5 dout row
  pointwise

theorem head0 (a q : FVec Ideal S512x1024 .bf16) (k v : Vec Ideal S256x1024 .bf16) (i : Fin 512) (e : Fin 256) :
    k0_pay13 k (k0_pay12 a v (k0_pay6 q k)) (ix2 i e) = headBack 0 (by omega) (row q i) (row a i) (row k) (row v) e := by
  unfold k0_pay13 k0_pay12 k0_pay6 headBack dquery dlogit prob ex logit top least scale cut row
  pointwise

theorem head1 (a q : FVec Ideal S512x1024 .bf16) (k v : Vec Ideal S256x1024 .bf16) (i : Fin 512) (e : Fin 256) :
    k0_pay17 a k v (k0_pay9 (k0_pay7 q k) k0_pay8) (ix2 i e) = headBack 256 (by omega) (row q i) (row a i) (row k) (row v) e := by
  unfold k0_pay17 k0_pay16 k0_pay9 k0_pay7 k0_pay8 headBack dquery dlogit prob ex logit top least scale cut row
  pointwise

theorem head2 (a q : FVec Ideal S512x1024 .bf16) (k v : Vec Ideal S256x1024 .bf16) (i : Fin 512) (e : Fin 256) :
    k0_pay21 a k v (k0_pay10 q k) (ix2 i e) = headBack 512 (by omega) (row q i) (row a i) (row k) (row v) e := by
  unfold k0_pay21 k0_pay20 k0_pay10 headBack dquery dlogit prob ex logit top least scale cut row
  pointwise

theorem head3 (a q : FVec Ideal S512x1024 .bf16) (k v : Vec Ideal S256x1024 .bf16) (i : Fin 512) (e : Fin 256) :
    k0_pay27 a k v (k0_pay11 q k) (ix2 i e) = headBack 768 (by omega) (row q i) (row a i) (row k) (row v) e := by
  unfold k0_pay27 k0_pay26 k0_pay11 headBack dquery dlogit prob ex logit top least scale cut row
  pointwise

theorem pay34_apply (d : Vec Ideal S512x1024 .f32) (z : Vec Ideal S512x1024 .bf16) (w : Vec Ideal S1024x1024 .bf16)
    (x : Vec Ideal S512x1024 .f32) (g : Vec Ideal S1x1024 .f32) (j : S512x1024.Idx) :
    k0_pay34 d z w x g j = d j + grad (row x (j 0)) (fun k => dnormed (row z (j 0)) w k * g (ix2 0 k)) (j 1) := by
  unfold k0_pay34 k0_pay32 k0_pay31 k0_pay30 grad rinv msq width eps dnormed row
  pointwise

theorem pay35_apply (z : Vec Ideal S512x1024 .bf16) (w : Vec Ideal S1024x1024 .bf16) (x : Vec Ideal S512x1024 .f32)
    (b : Vec Ideal S1x1024 .f32) (j : S1x1024.Idx) :
    k0_pay35 (k0_pay33 z w x) b j = b j + ∑ i : Fin 512, dnormed (row z i) w (j 1) * (row x i (j 1) * rinv (row x i)) := by
  unfold k0_pay35 k0_pay33 k0_pay32 k0_pay31 k0_pay30 rinv msq width eps dnormed row
  pointwise

theorem pay2_apply (j : S1x1024.Idx) : k0_pay2 (F := Ideal) j = 0 := by
  unfold k0_pay2
  pointwise

theorem pay37_apply (x : FVec Ideal S512x1024 .f32) (w : Vec Ideal S512x1024 .bf16) (j : S512x512.Idx) :
    k0_pay37 x w j = ∑ l : Fin 1024, row x (j 0) l * row w (j 1) l := by
  unfold k0_pay37 k0_pay36 row
  pointwise

theorem pay38_apply (x : FVec Ideal S512x1024 .f32) (w : Vec Ideal S512x1024 .bf16) (j : S512x512.Idx) :
    k0_pay38 x w j = ∑ l : Fin 1024, row x (j 0) l * row w (j 1) l := by
  unfold k0_pay38 k0_pay36 row
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx17 : ∀ t : Fin cfg0.N, win0_17.index t = ![0, 0] := (by decide +kernel : ∀ t : Fin grid0.N, _)

variable (m : (ℓ : Loc nD τ sig) → Buf (Elt Ideal) ℓ)

/-- What is said of rows and columns holds at a place. -/
theorem at_place (f : S512x256.Idx → EReal) (G : Fin 512 → Fin 1024 → EReal) (p : Fin 256 → Fin 1024)
    (h : ∀ i q, f (ix2 i q) = G i (p q)) (x : S512x256.Idx) (i : Fin 512) (l : Fin 1024) (hi : i.val = (x 0).val)
    (hl : l.val = (p (x 1)).val) : f x = G i l := by
  obtain rfl : i = x 0 := Fin.ext hi
  obtain rfl : l = p (x 1) := Fin.ext hl
  exact (congrArg f (ValueIdx.eq_ix2 x)).trans (h _ _)

/-- A step's gradient of the queries, row by row. -/
def qBlk (c : Dev nD) (t : Fin cfg0.N) (i : Fin 512) : Fin 1024 → EReal :=
  dqueries (row (iblk m c 2 t) i) (dout (row (iblk m c 0 t) i) (iblk m c 6 t)) (row (iblk m c 3 t)) (row (iblk m c 4 t))

/-- The four pieces in which a step writes it. -/
def pieces (c : Dev nD) (t : Fin cfg0.N) : List (View.Piece (Elt Ideal) S512x1024 .bf16) :=
  [⟨Rect.unit ![0, 768] ![512, 256] inb_S512x1024_S512x256_0_768,
      k0_pay27 (k0_pay5 (iblk m c 0 t) (iblk m c 6 t)) (iblk m c 3 t) (iblk m c 4 t) (k0_pay11 (iblk m c 2 t) (iblk m c 3 t))⟩,
    ⟨Rect.unit ![0, 512] ![512, 256] inb_S512x1024_S512x256_0_512,
      k0_pay21 (k0_pay5 (iblk m c 0 t) (iblk m c 6 t)) (iblk m c 3 t) (iblk m c 4 t) (k0_pay10 (iblk m c 2 t) (iblk m c 3 t))⟩,
    ⟨Rect.unit ![0, 256] ![512, 256] inb_S512x1024_S512x256_0_256,
      k0_pay17 (k0_pay5 (iblk m c 0 t) (iblk m c 6 t)) (iblk m c 3 t) (iblk m c 4 t) (k0_pay9 (k0_pay7 (iblk m c 2 t) (iblk m c 3 t)) k0_pay8)⟩,
    ⟨Rect.unit ![0, 0] ![512, 256] inb_S512x1024_S512x256_0_0,
      k0_pay13 (iblk m c 3 t) (k0_pay12 (k0_pay5 (iblk m c 0 t) (iblk m c 6 t)) (iblk m c 4 t) (k0_pay6 (iblk m c 2 t) (iblk m c 3 t)))⟩]

theorem pieces_eq (c : Dev nD) (t : Fin cfg0.N) (j : S512x1024.Idx) : View.canon (pieces m c t) j = qBlk m c t (j 0) (j 1) := by
  have hG : qBlk m c t = fun i => dqueries (row (iblk m c 2 t) i) (row (k0_pay5 (iblk m c 0 t) (iblk m c 6 t)) i) (row (iblk m c 3 t))
      (row (iblk m c 4 t)) := funext fun i => by unfold qBlk; rw [row_pay5]
  rw [hG]
  unfold pieces
  canon_tiles x h
  · exact at_place _ _ (fun q => ⟨768 + q.val, by omega⟩)
      (fun i q => (head3 _ _ _ _ i q).trans (head_place _ _ _ _ 3 768 rfl _ q _ rfl)) x (j 0) (j 1) h0 h1
  · exact at_place _ _ (fun q => ⟨512 + q.val, by omega⟩)
      (fun i q => (head2 _ _ _ _ i q).trans (head_place _ _ _ _ 2 512 rfl _ q _ rfl)) x (j 0) (j 1) h0 h1
  · exact at_place _ _ (fun q => ⟨256 + q.val, by omega⟩)
      (fun i q => (head1 _ _ _ _ i q).trans (head_place _ _ _ _ 1 256 rfl _ q _ rfl)) x (j 0) (j 1) h0 h1
  · exact at_place _ _ (fun q => ⟨q.val, by omega⟩)
      (fun i q => (head0 _ _ _ _ i q).trans (head_place _ _ _ _ 0 0 rfl _ q _ (Nat.zero_add _).symm)) x (j 0) (j 1) h0 h1

theorem out11_blk (c : Dev nD) (t : Fin cfg0.N) : (outsAt0 m c t.val t.isLt).2.1 = View.canon (pieces m c t) := by
  unfold pieces
  by_cases h0 : t.val % 8 = 0
  · rw [outsAt0_A m c t h0 (by omega)]; frame_out
  · by_cases h1 : t.val % 4 = 0
    · rw [outsAt0_C m c t h0 h1]; frame_out
    · rw [outsAt0_B m c t h0 h1]; frame_out

theorem read_pieces (c : Dev nD) (t : Fin cfg0.N) (v : View sig .tc .vmem S512x1024 .bf16) : v.readCov (Val := Elt Ideal) (pieces m c t)
    (Rect.unit ![0, 0] ![512, 1024] inb_S512x1024_S512x1024_0_0).toLoadRect = View.canon (pieces m c t) := by
  rw [View.readCov_eq_canon']
  exact View.ld_unit_lit' _ _ (by decide)

theorem out10_blk (c : Dev nD) (t : Fin cfg0.N) : (outsAt0 m c t.val t.isLt).1
    = k0_pay34 (iblk m c 0 t) (View.canon (pieces m c t)) (iblk m c 7 t) (iblk m c 1 t) (iblk m c 9 t) := by
  by_cases h0 : t.val % 8 = 0
  · rw [outsAt0_A m c t h0 (by omega)]; frame_out; exact congrArg (fun z => k0_pay34 (iblk m c 0 t) z (iblk m c 7 t) (iblk m c 1 t) (iblk m c 9 t)) (read_pieces m c t _)
  · by_cases h1 : t.val % 4 = 0
    · rw [outsAt0_C m c t h0 h1]; frame_out; exact congrArg (fun z => k0_pay34 (iblk m c 0 t) z (iblk m c 7 t) (iblk m c 1 t) (iblk m c 9 t)) (read_pieces m c t _)
    · rw [outsAt0_B m c t h0 h1]; frame_out; exact congrArg (fun z => k0_pay34 (iblk m c 0 t) z (iblk m c 7 t) (iblk m c 1 t) (iblk m c 9 t)) (read_pieces m c t _)

/-- A token's row of the gradient of the queries. -/
def aQ (c : Dev nD) (l : Fin 4096) : Fin 1024 → EReal :=
  qRow (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg6)) l

/-- A token's row of the gradient of the norm's input. -/
def aX (c : Dev nD) (l : Fin 4096) : Fin 1024 → EReal :=
  dinput (row (m ((c.tc : Thread nD τ).loc main_arg0)) l) (row (m ((c.tc : Thread nD τ).loc main_arg1)) l) (aQ m c l)
    (m ((c.tc : Thread nD τ).loc main_arg7)) (row (m ((c.tc : Thread nD τ).loc main_arg9)) 0)

/-- A token's row of the gradient before the output projection. -/
def aY (c : Dev nD) (l : Fin 4096) (o : Fin 1024) : EReal :=
  ∑ k : Fin 1024, aX m c l k * row (m ((c.tc : Thread nD τ).loc main_arg8)) o k

/-- The gradient at the convolution's output: the first half of the columns. -/
def dcoAt (c : Dev nD) : FVec Ideal S4096x512 .f32 := fun i => aY m c (i 0) ((fun o : Fin 512 => (⟨o.val, by omega⟩ : Fin 1024)) (i 1))

/-- The gradient at the attention's output: the second half. -/
def doAt (c : Dev nD) : FVec Ideal S4096x512 .bf16 := fun i => aY m c (i 0) ((fun o : Fin 512 => (⟨512 + o.val, by omega⟩ : Fin 1024)) (i 1))

/-- A token's part of the gradient of the norm's scale. -/
def part (c : Dev nD) (l : Fin 4096) (j : Fin 1024) : EReal :=
  dnormed (aQ m c l) (m ((c.tc : Thread nD τ).loc main_arg7)) j
    * (row (m ((c.tc : Thread nD τ).loc main_arg1)) l j * rinv (row (m ((c.tc : Thread nD τ).loc main_arg1)) l))

/-- The gradient of the norm's scale. -/
def gradG (c : Dev nD) : FVec Ideal S1x1024 .f32 := fun i => ∑ l : Fin 4096, part m c l (i 1)

/-- The blocks of a step are rows of the arrays. -/
theorem row_d (c : Dev nD) (t : Fin cfg0.N) (i : Fin 512) (l : Fin 4096) (hl : l.val = t.val * 512 + i.val) :
    row (iblk m c 0 t) i = row (m ((c.tc : Thread nD τ).loc main_arg0)) l := by
  funext k
  unfold row
  simp only [iblk, V]; blk_ext [idx0]

theorem row_x (c : Dev nD) (t : Fin cfg0.N) (i : Fin 512) (l : Fin 4096) (hl : l.val = t.val * 512 + i.val) :
    row (iblk m c 1 t) i = row (m ((c.tc : Thread nD τ).loc main_arg1)) l := by
  funext k
  unfold row
  simp only [iblk, V]; blk_ext [idx1]

theorem row_q (c : Dev nD) (t : Fin cfg0.N) (i : Fin 512) (l : Fin 4096) (hl : l.val = t.val * 512 + i.val) :
    row (iblk m c 2 t) i = row (m ((c.tc : Thread nD τ).loc main_arg2)) l := by
  funext k
  unfold row
  simp only [iblk, V]; blk_ext [idx2]

theorem row_k (c : Dev nD) (t : Fin cfg0.N) (i : Fin 256) (l : Fin 512) (hl : l.val = t.val / 4 * 256 + i.val) :
    row (iblk m c 3 t) i = row (m ((c.tc : Thread nD τ).loc main_arg3)) l := by
  funext k
  unfold row
  simp only [iblk, V]; blk_ext [idx3]

theorem row_v (c : Dev nD) (t : Fin cfg0.N) (i : Fin 256) (l : Fin 512) (hl : l.val = t.val / 4 * 256 + i.val) :
    row (iblk m c 4 t) i = row (m ((c.tc : Thread nD τ).loc main_arg4)) l := by
  funext k
  unfold row
  simp only [iblk, V]; blk_ext [idx4]

theorem whole6 (c : Dev nD) (t : Fin cfg0.N) : iblk m c 6 t = m ((c.tc : Thread nD τ).loc main_arg6) := by
  funext i
  simp only [iblk, V]; blk_ext [idx6]

theorem whole7 (c : Dev nD) (t : Fin cfg0.N) : iblk m c 7 t = m ((c.tc : Thread nD τ).loc main_arg7) := by
  funext i
  simp only [iblk, V]; blk_ext [idx7]

theorem whole8 (c : Dev nD) (t : Fin cfg0.N) : iblk m c 8 t = m ((c.tc : Thread nD τ).loc main_arg8) := by
  funext i
  simp only [iblk, V]; blk_ext [idx8]

theorem whole9 (c : Dev nD) (t : Fin cfg0.N) : iblk m c 9 t = m ((c.tc : Thread nD τ).loc main_arg9) := by
  funext i
  simp only [iblk, V]; blk_ext [idx9]

theorem row_qBlk (c : Dev nD) (t : Fin cfg0.N) (i : Fin 512) (l : Fin 4096) (hl : l.val = t.val * 512 + i.val) : qBlk m c t i = aQ m c l := by
  unfold qBlk aQ qRow
  have hb : l.val / 2048 = t.val / 4 := by omega
  have hk : row (iblk m c 3 t) = fun j : Fin 256 => row (m ((c.tc : Thread nD τ).loc main_arg3)) (⟨l.val / 2048 * 256 + j.val, by omega⟩ : Fin 512) :=
    funext fun j => row_k m c t j _ (by show l.val / 2048 * 256 + j.val = _; rw [hb])
  have hv : row (iblk m c 4 t) = fun j : Fin 256 => row (m ((c.tc : Thread nD τ).loc main_arg4)) (⟨l.val / 2048 * 256 + j.val, by omega⟩ : Fin 512) :=
    funext fun j => row_v m c t j _ (by show l.val / 2048 * 256 + j.val = _; rw [hb])
  rw [hk, hv, row_d m c t i l hl, row_q m c t i l hl, whole6]

theorem row_pieces (c : Dev nD) (t : Fin cfg0.N) (i : Fin 512) : row (View.canon (pieces m c t)) i = qBlk m c t i :=
  funext fun k => pieces_eq m c t (ix2 i k)

/-- A step's gradient of the norm's input. -/
def xBlk (c : Dev nD) (t : Fin cfg0.N) : FVec Ideal S512x1024 .f32 :=
  k0_pay34 (iblk m c 0 t) (View.canon (pieces m c t)) (iblk m c 7 t) (iblk m c 1 t) (iblk m c 9 t)

theorem dn_blk (c : Dev nD) (t : Fin cfg0.N) (i : Fin 512) (l : Fin 4096) (hl : l.val = t.val * 512 + i.val) :
    dnormed (row (View.canon (pieces m c t)) i) (iblk m c 7 t) = dnormed (aQ m c l) (m ((c.tc : Thread nD τ).loc main_arg7)) := by
  rw [row_pieces, row_qBlk m c t i l hl, whole7]

theorem xBlk_apply (c : Dev nD) (t : Fin cfg0.N) (j : S512x1024.Idx) (l : Fin 4096) (hl : l.val = t.val * 512 + (j 0).val) :
    xBlk m c t j = aX m c l (j 1) := by
  unfold xBlk aX dinput
  refine (pay34_apply _ _ _ _ _ j).trans (congrArg₂ (· + ·) ?_ ?_)
  · exact (congrArg (iblk m c 0 t) (ValueIdx.eq_ix2 j)).trans (congrFun (row_d m c t _ _ hl) (j 1))
  · refine congrArg₂ (fun x f => grad x f (j 1)) (row_x m c t _ _ hl) (funext fun k => ?_)
    exact congrArg₂ (· * ·) (congrFun (dn_blk m c t _ _ hl) k) (congrFun (whole9 m c t) (ix2 0 k))

theorem row_xBlk (c : Dev nD) (t : Fin cfg0.N) (i : Fin 512) (l : Fin 4096) (hl : l.val = t.val * 512 + i.val) : row (xBlk m c t) i = aX m c l :=
  funext fun k => xBlk_apply m c t (ix2 i k) l hl

theorem out10_eq (c : Dev nD) (t : Fin cfg0.N) (j : S512x1024.Idx) :
    (outsAt0 m c t.val t.isLt).1 j = aX m c (((win0_10.blk t).view.emb j) 0) (((win0_10.blk t).view.emb j) 1) := by
  have h0 : (((win0_10.blk t).view.emb j) 0).val = t.val * 512 + (j 0).val := by blk_simp [idx10]
  have h1 : ((win0_10.blk t).view.emb j) 1 = j 1 := by ext; blk_simp [idx10]
  rw [out10_blk, h1]
  exact xBlk_apply m c t j _ h0

theorem out11_eq (c : Dev nD) (t : Fin cfg0.N) (j : S512x1024.Idx) :
    (outsAt0 m c t.val t.isLt).2.1 j = aQ m c (((win0_11.blk t).view.emb j) 0) (((win0_11.blk t).view.emb j) 1) := by
  have h0 : (((win0_11.blk t).view.emb j) 0).val = t.val * 512 + (j 0).val := by blk_simp [idx11]
  have h1 : ((win0_11.blk t).view.emb j) 1 = j 1 := by ext; blk_simp [idx11]
  rw [out11_blk, h1]
  exact (pieces_eq m c t j).trans (congrFun (row_qBlk m c t _ _ h0) (j 1))

/-- The two halves of the output projection. -/
theorem row_lo (w : Vec Ideal S1024x1024 .bf16) (o : Fin 512) :
    row (View.ld w (Rect.unit ![0, 0] ![512, 1024] inb_S1024x1024_S512x1024_0_0)) o = row w (⟨o.val, by omega⟩ : Fin 1024) := by
  funext k
  unfold row
  pointwise

theorem row_hi (w : Vec Ideal S1024x1024 .bf16) (o : Fin 512) :
    row (View.ld w (Rect.unit ![512, 0] ![512, 1024] inb_S1024x1024_S512x1024_512_0)) o = row w (⟨512 + o.val, by omega⟩ : Fin 1024) := by
  funext k
  unfold row
  pointwise

theorem out12_blk (c : Dev nD) (t : Fin cfg0.N) : (outsAt0 m c t.val t.isLt).2.2.1
    = k0_pay37 (xBlk m c t) (View.ld (iblk m c 8 t) (Rect.unit ![0, 0] ![512, 1024] inb_S1024x1024_S512x1024_0_0)) := by
  by_cases h0 : t.val % 8 = 0
  · rw [outsAt0_A m c t h0 (by omega)]; frame_out; exact congrArg (fun z => k0_pay37 (k0_pay34 (iblk m c 0 t) z (iblk m c 7 t) (iblk m c 1 t) (iblk m c 9 t)) (View.ld (iblk m c 8 t) (Rect.unit ![0, 0] ![512, 1024] inb_S1024x1024_S512x1024_0_0))) (read_pieces m c t _)
  · by_cases h1 : t.val % 4 = 0
    · rw [outsAt0_C m c t h0 h1]; frame_out; exact congrArg (fun z => k0_pay37 (k0_pay34 (iblk m c 0 t) z (iblk m c 7 t) (iblk m c 1 t) (iblk m c 9 t)) (View.ld (iblk m c 8 t) (Rect.unit ![0, 0] ![512, 1024] inb_S1024x1024_S512x1024_0_0))) (read_pieces m c t _)
    · rw [outsAt0_B m c t h0 h1]; frame_out; exact congrArg (fun z => k0_pay37 (k0_pay34 (iblk m c 0 t) z (iblk m c 7 t) (iblk m c 1 t) (iblk m c 9 t)) (View.ld (iblk m c 8 t) (Rect.unit ![0, 0] ![512, 1024] inb_S1024x1024_S512x1024_0_0))) (read_pieces m c t _)

theorem out13_blk (c : Dev nD) (t : Fin cfg0.N) : (outsAt0 m c t.val t.isLt).2.2.2.1
    = k0_pay38 (xBlk m c t) (View.ld (iblk m c 8 t) (Rect.unit ![512, 0] ![512, 1024] inb_S1024x1024_S512x1024_512_0)) := by
  by_cases h0 : t.val % 8 = 0
  · rw [outsAt0_A m c t h0 (by omega)]; frame_out; exact congrArg (fun z => k0_pay38 (k0_pay34 (iblk m c 0 t) z (iblk m c 7 t) (iblk m c 1 t) (iblk m c 9 t)) (View.ld (iblk m c 8 t) (Rect.unit ![512, 0] ![512, 1024] inb_S1024x1024_S512x1024_512_0))) (read_pieces m c t _)
  · by_cases h1 : t.val % 4 = 0
    · rw [outsAt0_C m c t h0 h1]; frame_out; exact congrArg (fun z => k0_pay38 (k0_pay34 (iblk m c 0 t) z (iblk m c 7 t) (iblk m c 1 t) (iblk m c 9 t)) (View.ld (iblk m c 8 t) (Rect.unit ![512, 0] ![512, 1024] inb_S1024x1024_S512x1024_512_0))) (read_pieces m c t _)
    · rw [outsAt0_B m c t h0 h1]; frame_out; exact congrArg (fun z => k0_pay38 (k0_pay34 (iblk m c 0 t) z (iblk m c 7 t) (iblk m c 1 t) (iblk m c 9 t)) (View.ld (iblk m c 8 t) (Rect.unit ![512, 0] ![512, 1024] inb_S1024x1024_S512x1024_512_0))) (read_pieces m c t _)

theorem y_lo (c : Dev nD) (t : Fin cfg0.N) (i o : Fin 512) (l : Fin 4096) (hl : l.val = t.val * 512 + i.val) :
    ∑ k : Fin 1024, row (xBlk m c t) i k * row (View.ld (iblk m c 8 t) (Rect.unit ![0, 0] ![512, 1024] inb_S1024x1024_S512x1024_0_0)) o k = aY m c l (⟨o.val, by omega⟩ : Fin 1024) := by
  rw [row_xBlk m c t i l hl, row_lo, whole8]
  rfl

theorem out12_eq (c : Dev nD) (t : Fin cfg0.N) (j : S512x512.Idx) :
    (outsAt0 m c t.val t.isLt).2.2.1 j
      = dcoAt m c ((win0_12.blk t).view.emb j) := by
  have h0 : (((win0_12.blk t).view.emb j) 0).val = t.val * 512 + (j 0).val := by blk_simp [idx12]
  have h1 : ((win0_12.blk t).view.emb j) 1 = j 1 := by ext; blk_simp [idx12]
  unfold dcoAt
  rw [out12_blk, h1]
  exact (pay37_apply _ _ j).trans (y_lo m c t _ _ _ h0)

theorem y_hi (c : Dev nD) (t : Fin cfg0.N) (i o : Fin 512) (l : Fin 4096) (hl : l.val = t.val * 512 + i.val) :
    ∑ k : Fin 1024, row (xBlk m c t) i k * row (View.ld (iblk m c 8 t) (Rect.unit ![512, 0] ![512, 1024] inb_S1024x1024_S512x1024_512_0)) o k = aY m c l (⟨512 + o.val, by omega⟩ : Fin 1024) := by
  rw [row_xBlk m c t i l hl, row_hi, whole8]
  rfl

theorem out13_eq (c : Dev nD) (t : Fin cfg0.N) (j : S512x512.Idx) :
    (outsAt0 m c t.val t.isLt).2.2.2.1 j
      = doAt m c ((win0_13.blk t).view.emb j) := by
  have h0 : (((win0_13.blk t).view.emb j) 0).val = t.val * 512 + (j 0).val := by blk_simp [idx13]
  have h1 : ((win0_13.blk t).view.emb j) 1 = j 1 := by ext; blk_simp [idx13]
  unfold doAt
  rw [out13_blk, h1]
  exact (pay38_apply _ _ j).trans (y_hi m c t _ _ _ h0)

/-- What a step adds to the gradient of the norm's scale. -/
def add (c : Dev nD) (t : Fin cfg0.N) (j : S1x1024.Idx) : EReal :=
  ∑ i : Fin 512, dnormed (row (View.canon (pieces m c t)) i) (iblk m c 7 t) (j 1) * (row (iblk m c 1 t) i (j 1) * rinv (row (iblk m c 1 t) i))

theorem add_reset (c : Dev nD) (t : Fin cfg0.N) (h : t.val % 8 = 0) (j : S1x1024.Idx) :
    (outsAt0 m c t.val t.isLt).2.2.2.2.2.2.2 j = 0 + add m c t j := by
  have e : (outsAt0 m c t.val t.isLt).2.2.2.2.2.2.2
      = k0_pay35 (k0_pay33 (View.canon (pieces m c t)) (iblk m c 7 t) (iblk m c 1 t)) (k0_pay2 (F := Ideal)) := by
    rw [outsAt0_A m c t h (by omega)]; frame_out; exact congrArg (fun z => k0_pay35 (k0_pay33 z (iblk m c 7 t) (iblk m c 1 t)) (k0_pay2 (F := Ideal))) (read_pieces m c t _)
  rw [e]
  exact (pay35_apply _ _ _ _ j).trans (congrArg (· + add m c t j) (pay2_apply j))

theorem add_next (c : Dev nD) (t : Fin cfg0.N) (h : ¬ t.val % 8 = 0) (j : S1x1024.Idx) :
    (outsAt0 m c t.val t.isLt).2.2.2.2.2.2.2 j = (outsAt0 m c (t.val - 1) (by omega)).2.2.2.2.2.2.2 j + add m c t j := by
  have e : (outsAt0 m c t.val t.isLt).2.2.2.2.2.2.2
      = k0_pay35 (k0_pay33 (View.canon (pieces m c t)) (iblk m c 7 t) (iblk m c 1 t)) (outsAt0 m c (t.val - 1) (by omega)).2.2.2.2.2.2.2 := by
    by_cases h1 : t.val % 4 = 0
    · rw [outsAt0_C m c t h h1]; frame_out; exact congrArg (fun z => k0_pay35 (k0_pay33 z (iblk m c 7 t) (iblk m c 1 t)) (outsAt0 m c (t.val - 1) (by omega)).2.2.2.2.2.2.2) (read_pieces m c t _)
    · rw [outsAt0_B m c t h h1]; frame_out; exact congrArg (fun z => k0_pay35 (k0_pay33 z (iblk m c 7 t) (iblk m c 1 t)) (outsAt0 m c (t.val - 1) (by omega)).2.2.2.2.2.2.2) (read_pieces m c t _)
  rw [e]
  exact pay35_apply _ _ _ _ j

theorem part_blk (c : Dev nD) (t : Fin cfg0.N) (k : Fin 512) (l : Fin 4096) (hl : l.val = t.val * 512 + k.val) (j : Fin 1024) :
    dnormed (row (View.canon (pieces m c t)) k) (iblk m c 7 t) j * (row (iblk m c 1 t) k j * rinv (row (iblk m c 1 t) k)) = part m c l j := by
  rw [row_x m c t k l hl, row_pieces, row_qBlk m c t k l hl, whole7]
  rfl

/-- What the last step leaves of the gradient of the scale. -/
theorem out17_eq (c : Dev nD) (t : Fin cfg0.N) (h : t.val % 8 = 7) (j : S1x1024.Idx) :
    (outsAt0 m c t.val t.isLt).2.2.2.2.2.2.2 j = ∑ i : Fin 4096, part m c i (j 1) := by
  have ht : t.val / 8 = 0 := by have := lt_of_lt_of_eq t.isLt (by decide +kernel : cfg0.N = 8); omega
  have e := Pipeline.eq_sum_fin_of_reset_step_apply_of_flush (fun n h => (outsAt0 m c n h).2.2.2.2.2.2.2) 8 (fun _ => 0) (add m c)
    (add_reset m c) (add_next m c) t h j
  refine e.trans ?_
  rw [zero_add]
  refine Fin.sum_mul_add_congr (f := fun i => part m c i (j 1)) (fun s k hl => ?_) rfl
  exact part_blk m c _ k ⟨_, hl⟩ (by show s.val * 512 + k.val = (8 * (t.val / 8) + s.val) * 512 + k.val; rw [ht]; omega) (j 1)

/-- The queries and the keys hold reals where the precondition holds. -/
theorem real_args (hp : Cert.Pre_BwdMidIdeal_finite m) (c : Dev nD) :
    (∀ j, ∃ r : ℝ, m ((c.tc : Thread nD τ).loc main_arg2) j = (r : EReal)) ∧ (∀ j, ∃ r : ℝ, m ((c.tc : Thread nD τ).loc main_arg3) j = (r : EReal)) :=
  ⟨fun j => real_of_finite _ (congrFun (hp c).1 j), fun j => real_of_finite _ (congrFun (hp c).2 j)⟩

open Cert.BwdMidRefIdeal.Back in
set_option maxHeartbeats 1600000 in
/-- The call's first four results and its eighth are the reference's, for real queries and keys. -/
theorem algebraic : Cert.algebraic_BwdMidIdeal_BwdMidRefIdeal_pre_finite := by
  intro m g m' g' hp hx
  refine ⟨_, _, _, _, _, (θ_run Cert.BwdMidIdeal.defs _ _).mono
    (fun r h c => ⟨(h c).1, (h c).2.1, (h c).2.2.1, (h c).2.2.2.1, (h c).2.2.2.2.2.2.2.1, (h c).2.2.2.2.2.2.2.2⟩)
    (Cert.BwdMidIdeal.Value.run_blocks (F := Ideal) m g), ?_⟩
  refine (θ_run Cert.BwdMidRefIdeal.defs _ _).mono (fun r h c => ?_) (Cert.BwdMidRefIdeal.Value.run (F := Ideal) m' g')
  obtain ⟨h0, h1, h2, h3, h4, hk⟩ := h c
  obtain ⟨e0, e1, e2, e3, e4, -, e6, e7, e8, e9⟩ := hx c
  obtain ⟨rq, rk⟩ := real_args m hp c
  have Q : ∀ l k, devQ m' c (ix2 l k) = aQ m c l k := by
    intro l k
    unfold devQ
    rw [e0, e2, e3, e4, e6]
    exact refQ_eq _ _ _ _ _ rq rk l k
  have N : ∀ l k, rNormed (devQ m' c) (m' ((c.tc : Thread nD τ).loc Cert.BwdMidRefIdeal.main_arg7)) (ix2 l k)
      = dnormed (aQ m c l) (m ((c.tc : Thread nD τ).loc main_arg7)) k := by
    intro l k
    rw [e7]
    exact (rNormed_apply _ _ _).trans (Finset.sum_congr rfl fun z _ => congrArg (· * _) (Q l z))
  have X : ∀ l k, devX m' c (ix2 l k) = aX m c l k := by
    intro l k
    refine congrArg₂ (· + ·) (congrFun e0 (ix2 l k)) ((rNorm_apply _ _ _ _).trans ?_)
    rw [e1, e9]
    exact congrArg (fun f => grad (row (m ((c.tc : Thread nD τ).loc main_arg1)) l) f k) (funext fun z => congrArg (· * _) (N l z))
  have Y : ∀ l (o : Fin 1024), ∑ k : Fin 1024, devX m' c (ix2 l k) * m' ((c.tc : Thread nD τ).loc Cert.BwdMidRefIdeal.main_arg8) (ix2 o k) = aY m c l o := by
    intro l o
    rw [e8]
    exact Finset.sum_congr rfl fun k _ => congrArg (· * _) (X l k)
  refine ⟨h0.trans ?_, h1.trans ?_, h2.trans ?_, h3.trans ?_, h4.trans ?_, hk⟩
  · refine Eq.trans ?_ ((dats m 0 c).arrAt_eq_of_covers 10 (fun i => aX m c (i 0) (i 1)) (by decide +kernel) fun t hf y => ?_).symm
    · funext i
      exact (congrFun (out0_eq m' c) i).trans ((congrArg (devX m' c) (ValueIdx.eq_ix2 i)).trans (X _ _))
    · blk_simp
      rw [after0_10, out10_eq m c t]
  · refine Eq.trans ?_ ((dats m 0 c).arrAt_eq_of_covers 11 (fun i => aQ m c (i 0) (i 1)) (by decide +kernel) fun t hf y => ?_).symm
    · funext i
      exact (congrFun (out1_eq m' c) i).trans ((congrArg (devQ m' c) (ValueIdx.eq_ix2 i)).trans (Q _ _))
    · blk_simp
      rw [after0_11, out11_eq m c t]
  · refine Eq.trans ?_ ((dats m 0 c).arrAt_eq_of_covers 12 (dcoAt m c) (by decide +kernel) fun t hf y => ?_).symm
    · funext i
      exact (congrFun (out2_eq m' c) i).trans ((congrArg _ (ValueIdx.eq_ix2 i)).trans ((rOut_lo _ _ _ _).trans (Y _ _)))
    · blk_simp
      rw [after0_12, out12_eq m c t]
  · refine Eq.trans ?_ ((dats m 0 c).arrAt_eq_of_covers 13 (doAt m c) (by decide +kernel) fun t hf y => ?_).symm
    · funext i
      exact (congrFun (out3_eq m' c) i).trans ((congrArg _ (ValueIdx.eq_ix2 i)).trans ((rOut_hi _ _ _ _).trans (Y _ _)))
    · blk_simp
      rw [after0_13, out13_eq m c t]
  · refine Eq.trans ?_ ((dats m 0 c).arrAt_eq_of_covers 17 (gradG m c) (by decide +kernel) fun t hf y => ?_).symm
    · funext i
      refine (congrFun (out4_eq m' c) i).trans ((rScale_apply _ _ _).trans ?_)
      rw [e1]
      refine Finset.sum_congr rfl fun l _ => (mul_comm _ _).trans ?_
      exact congrArg (· * _) (N l (i 1))
    · have ht := (flush0_17 t).1 hf
      have h1 : ((win0_17.blk t).view.emb y) 1 = y 1 := by ext; blk_simp [idx17]
      blk_simp
      rw [after0_17, out17_eq m c t ht]
      unfold gradG
      rw [h1]

end Cert.BwdMidIdeal.Back

end
-- ==== Proof.Attend.Forward.lean ====
/-
# Through the memory attention, row by row
-/
module

public import proofs.«01_k».proof.Proof.Attend.Heads

@[expose] public section

noncomputable section

namespace Cert.Attend

open Idealize.ShloMosaic Cert.Norm

/-- A row with the output projection of the convolution's and the attention's rows added. -/
def mixed (x : Fin 1024 → EReal) (c o : Fin 512 → EReal) (w : (⟨2, ![1024, 1024]⟩ : Shape).Idx → EReal) : Fin 1024 → EReal := fun k =>
  x k + ∑ l : Fin 512, c l * w (ix2 (⟨l.val, by omega⟩ : Fin 1024) k) + ∑ l : Fin 512, o l * w (ix2 (⟨512 + l.val, by omega⟩ : Fin 1024) k)

/-- The normed row. -/
def normed (x g : Fin 1024 → EReal) : Fin 1024 → EReal := fun k => x k * rinv x * g k

/-- A row's product with an array. -/
def proj (h : Fin 1024 → EReal) (w : (⟨2, ![1024, 1024]⟩ : Shape).Idx → EReal) : Fin 1024 → EReal := fun k => ∑ l : Fin 1024, h l * w (ix2 l k)

/-- A head's output. -/
def headOut (o : Nat) (ho : o + 256 ≤ 1024) (q : Fin 1024 → EReal) (k v : Fin 256 → Fin 1024 → EReal) : Fin 256 → EReal := fun e =>
  ∑ j : Fin 256, prob (logit (cut o ho q) (fun j => cut o ho (k j))) j * cut o ho (v j) e

/-- A row of the attention's output, the heads side by side. -/
def heads (q : Fin 1024 → EReal) (k v : Fin 256 → Fin 1024 → EReal) : Fin 1024 → EReal := fun c =>
  headOut (c.val / 256 * 256) (by omega) q k v (⟨c.val % 256, by omega⟩ : Fin 256)

theorem out_place (q : Fin 1024 → EReal) (k v : Fin 256 → Fin 1024 → EReal) (n o : Nat) (ho : o = n * 256) (hn : o + 256 ≤ 1024) (e : Fin 256)
    (c : Fin 1024) (hc : c.val = o + e.val) : headOut o hn q k v e = heads q k v c := by
  subst ho
  have h1 : c.val / 256 = n := by omega
  have h2 : (⟨c.val % 256, by omega⟩ : Fin 256) = e := Fin.ext (by show c.val % 256 = e.val; omega)
  unfold heads
  rw [h2]
  simp only [h1]

end Cert.Attend

end
-- ==== Proof.Back.FwdMidRef.lean ====
/-
# The reference of the way through the memory attention
-/
module

public import proofs.«01_k».proof.Defs
public import proofs.«01_k».proof.Proof.Attend.Forward
public import proofs.«01_k».proof.Proof.Back.BwdMidRef
public import proofs.«01_k».proof.Proof.Gen.FwdMidRefIdeal.Run
public import Idealize.ShloMosaic.Lib.Pipeline.ValueKit

@[expose] public section

noncomputable section

namespace Cert.FwdMidRefIdeal.Back

open Idealize.ShloMosaic Idealize.ShloMosaic.TcCoe Idealize.SL.Sem Cert.Norm Cert.Attend
open Cert.FwdMidRefIdeal Cert.FwdMidRefIdeal.Value Cert.FwdMidRefIdeal.Gen
open Cert.BwdMidRefIdeal.Back (rTop rMax rExp rSum rSum_apply ex_apply tok mrow col)

variable {F : FTy → Type} [FloatOps F]

/-- The input with the output projection added. -/
def fMix (x : FVec F S4096x1024 .f32) (co : FVec F S4096x512 .bf16) (o : FVec F S4096x512 .f32) (w : FVec F S1024x1024 .bf16) : FVec F S4096x1024 .f32 :=
  addf x (Host.dotGeneral dot_S4096x1024_S1024x1024_S4096x1024_1_0_0_1_n_n none (concatenate S4096x1024 1 [⟨S4096x512, (extf .f32 co bitsLt_bf16_f32)⟩, ⟨S4096x512, o⟩] concatenates_S4096x512_S4096x512_S4096x1024_d1) (extf .f32 w bitsLt_bf16_f32))

/-- The norm. -/
def fNorm (x : FVec F S4096x1024 .f32) (g : FVec F S1x1024 .f32) : FVec F S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)

/-- The product with a weight. -/
def fProd (h : FVec F S4096x1024 .f32) (w : FVec F S1024x1024 .bf16) : FVec F S4096x1024 .f32 :=
  Host.dotGeneral dot_S4096x1024_S1024x1024_S4096x1024_1_0_0_1_n_n none h (extf .f32 w bitsLt_bf16_f32)

/-- The logits: queries against keys, over sixteen. -/
def fLogits (q : FVec F S4096x1024 .f32) (k : FVec F S512x1024 .bf16) : FVec F S2x4x2048x256 .f32 :=
  Host.divf (Host.dotGeneral dot_S2x2048x4x256_S2x256x4x256_S2x4x2048x256_3_3_1_1_02_02 none (shapeCast _ q shapeCasts_S4096x1024_S2x2048x4x256) (shapeCast _ (extf .f32 k bitsLt_bf16_f32) shapeCasts_S512x1024_S2x256x4x256)) (broadcastInDim S2x4x2048x256 ![] bcast_S_S2x4x2048x256 (constant S_ .f32 0x41800000#32))

/-- The probabilities, from the exponentials and their sums. -/
def fProb (E : FVec F S2x4x2048x256 .f32) (S : FVec F S2x4x2048x1 .f32) : FVec F S2x4x2048x256 .f32 :=
  Host.divf E (broadcastInDim S2x4x2048x256 ![0, 1, 2, 3] bcast_S2x4x2048x1_S2x4x2048x256_0_1_2_3 S)

/-- The heads' outputs, side by side. -/
def fHeads (P : FVec F S2x4x2048x256 .f32) (v : FVec F S512x1024 .bf16) : FVec F S4096x1024 .f32 :=
  shapeCast _ (transpose S2x2048x4x256 [0, 3, 1, 2] (Host.dotGeneral dot_S2x256x4x256_S2x4x2048x256_S2x4x256x2048_1_3_3_2_02_01 none (shapeCast _ (extf .f32 v bitsLt_bf16_f32) shapeCasts_S512x1024_S2x256x4x256) P) transposes_S2x4x256x2048_S2x2048x4x256_0_3_1_2) shapeCasts_S2x2048x4x256_S4096x1024

/-- The attention's output, from the queries. -/
def fOut (q : FVec F S4096x1024 .f32) (k v : FVec F S512x1024 .bf16) : FVec F S4096x1024 .f32 :=
  fHeads (fProb (rExp (fLogits q k) (rMax (rTop (fLogits q k)))) (rSum (rExp (fLogits q k) (rMax (rTop (fLogits q k)))))) v

theorem fMix_eq (x : FVec Ideal S4096x1024 .f32) (co : FVec Ideal S4096x512 .bf16) (o : FVec Ideal S4096x512 .f32) (w : FVec Ideal S1024x1024 .bf16)
    (t : Fin 4096) : row (fMix x co o w) t = mixed (row x t) (row co t) (row o t) w := by
  funext k
  have h : row (fMix x co o w) t k = x (ix2 t k) + ∑ l : Fin 1024, (concatenate S4096x1024 1 [⟨S4096x512, (extf .f32 co bitsLt_bf16_f32)⟩, ⟨S4096x512, o⟩] concatenates_S4096x512_S4096x512_S4096x1024_d1 : FVec Ideal S4096x1024 .f32) (ix2 t l) * w (ix2 l k) := by
    unfold fMix row
    pointwise
  rw [h]
  unfold mixed row
  rw [add_assoc, Fin.sum_univ_add (a := 512) (b := 512)]
  refine congrArg (x (ix2 t k) + ·) (congrArg₂ (· + ·) (Finset.sum_congr rfl fun l _ => ?_) (Finset.sum_congr rfl fun l _ => ?_))
  · refine congrArg (HMul.hMul (α := EReal) · _) ?_
    pointwise
    exact dif_pos (show l.val < 512 from l.isLt)
  · refine congrArg (HMul.hMul (α := EReal) · _) ?_
    pointwise
    refine (dif_neg (show ¬ 512 + l.val < 512 by omega)).trans (congrArg (fun z : Fin 512 => o (ix2 t z)) (Fin.ext ?_))
    show 512 + l.val - 512 = l.val
    omega

theorem fNorm_eq (x : FVec Ideal S4096x1024 .f32) (g : FVec Ideal S1x1024 .f32) (t : Fin 4096) :
    row (fNorm x g) t = normed (row x t) (row g 0) := by
  funext k
  unfold fNorm normed rinv msq width eps row
  pointwise

theorem fProd_eq (h : FVec Ideal S4096x1024 .f32) (w : FVec Ideal S1024x1024 .bf16) (t : Fin 4096) :
    row (fProd h w) t = proj (row h t) w := by
  funext k
  unfold fProd proj row
  pointwise

theorem fLogits_apply (q : FVec Ideal S4096x1024 .f32) (k : FVec Ideal S512x1024 .bf16) (b : Fin 2) (h : Fin 4) (i : Fin 2048) (j : Fin 256) :
    fLogits q k (ix4 b h i j) = logit (fun e : Fin 256 => q (ix2 (tok b i) (col h e))) (fun (j e : Fin 256) => k (ix2 (mrow b j) (col h e))) j := by
  unfold logit
  rw [← div_unscale]
  unfold fLogits unscale tok mrow col
  pointwise

theorem fProb_apply (E : FVec Ideal S2x4x2048x256 .f32) (S : FVec Ideal S2x4x2048x1 .f32) (b : Fin 2) (h : Fin 4) (i : Fin 2048) (j : Fin 256) :
    fProb E S (ix4 b h i j) = Ideal.div (E (ix4 b h i j)) (S (ix4 b h i 0)) := by
  unfold fProb
  pointwise

theorem fHeads_apply (P : FVec Ideal S2x4x2048x256 .f32) (v : FVec Ideal S512x1024 .bf16) (b : Fin 2) (h : Fin 4) (i : Fin 2048) (e : Fin 256) :
    fHeads P v (ix2 (tok b i) (col h e)) = ∑ j : Fin 256, v (ix2 (mrow b j) (col h e)) * P (ix4 b h i j) := by
  unfold fHeads tok mrow col
  pointwise

/-- A head's output at a token, from the arrays. -/
def headAt (q : FVec Ideal S4096x1024 .f32) (k v : FVec Ideal S512x1024 .bf16) (b : Fin 2) (h : Fin 4) (i : Fin 2048) (e : Fin 256) : EReal :=
  ∑ j : Fin 256, prob (logit (fun e : Fin 256 => q (ix2 (tok b i) (col h e))) (fun (j e : Fin 256) => k (ix2 (mrow b j) (col h e)))) j
    * v (ix2 (mrow b j) (col h e))

theorem fOut_place (q : FVec Ideal S4096x1024 .f32) (k v : FVec Ideal S512x1024 .bf16) (b : Fin 2) (h : Fin 4) (i : Fin 2048) (e : Fin 256) :
    fOut q k v (ix2 (tok b i) (col h e)) = headAt q k v b h i e := by
  unfold fOut
  rw [fHeads_apply]
  refine Finset.sum_congr rfl fun j _ => (mul_comm _ _).trans (congrArg (HMul.hMul (α := EReal) · _) ?_)
  rw [fProb_apply, rSum_apply]
  unfold prob
  simp only [ex_apply, fLogits_apply]

theorem fOut_eq (q : FVec Ideal S4096x1024 .f32) (k v : FVec Ideal S512x1024 .bf16) (t : Fin 4096) :
    row (fOut q k v) t = heads (row q t) (fun j => row k (⟨t.val / 2048 * 256 + j.val, by omega⟩ : Fin 512))
      (fun j => row v (⟨t.val / 2048 * 256 + j.val, by omega⟩ : Fin 512)) := by
  funext l
  have ht : tok (⟨t.val / 2048, by omega⟩ : Fin 2) (⟨t.val % 2048, by omega⟩ : Fin 2048) = t :=
    Fin.ext (by show t.val / 2048 * 2048 + t.val % 2048 = t.val; omega)
  have hl : col (⟨l.val / 256, by omega⟩ : Fin 4) (⟨l.val % 256, by omega⟩ : Fin 256) = l :=
    Fin.ext (by show l.val / 256 * 256 + l.val % 256 = l.val; omega)
  have h := fOut_place q k v ⟨t.val / 2048, by omega⟩ ⟨l.val / 256, by omega⟩ ⟨t.val % 2048, by omega⟩ ⟨l.val % 256, by omega⟩
  rw [hl, ht] at h
  refine h.trans ?_
  unfold headAt
  simp only [ht]
  rfl

/-- The reference's sum of the input and the output projection, from the arguments. -/
def refX (m : (ℓ : Loc nD τ sig) → Buf (Elt F) ℓ) (c : Dev nD) : FVec F S4096x1024 .f32 :=
  fMix (m ((c.tc : Thread nD τ).loc main_arg0)) (m ((c.tc : Thread nD τ).loc main_arg1)) (m ((c.tc : Thread nD τ).loc main_arg2))
    (m ((c.tc : Thread nD τ).loc main_arg5))

/-- Its normed rows. -/
def refH (m : (ℓ : Loc nD τ sig) → Buf (Elt F) ℓ) (c : Dev nD) : FVec F S4096x1024 .f32 :=
  fNorm (refX m c) (m ((c.tc : Thread nD τ).loc main_arg8))

/-- Its queries. -/
def refQ (m : (ℓ : Loc nD τ sig) → Buf (Elt F) ℓ) (c : Dev nD) : FVec F S4096x1024 .f32 :=
  fProd (refH m c) (m ((c.tc : Thread nD τ).loc main_arg6))

/-- Its attention. -/
def refO (m : (ℓ : Loc nD τ sig) → Buf (Elt F) ℓ) (c : Dev nD) : FVec F S4096x1024 .f32 :=
  fOut (refQ m c) (m ((c.tc : Thread nD τ).loc main_arg3)) (m ((c.tc : Thread nD τ).loc main_arg4))

/-- Its last result. -/
def refY (m : (ℓ : Loc nD τ sig) → Buf (Elt F) ℓ) (c : Dev nD) : FVec F S4096x1024 .f32 :=
  addf (refX m c) (fProd (refO m c) (m ((c.tc : Thread nD τ).loc main_arg7)))

theorem v43_eq (m : (ℓ : Loc nD τ sig) → Buf (Elt F) ℓ) (c : Dev nD) : res_main_v43 m c = truncf .bf16 (refO m c) bitsLt_bf16_f32 := by
  unfold res_main_v43
  rfl

theorem v46_eq (m : (ℓ : Loc nD τ sig) → Buf (Elt F) ℓ) (c : Dev nD) : res_main_v46 m c = refY m c := by
  unfold res_main_v46
  rfl

end Cert.FwdMidRefIdeal.Back

end
-- ==== Proof.Back.FwdMid.lean ====
/-
# Through the memory attention
-/
module

public import proofs.«01_k».proof.Defs
public import proofs.«01_k».proof.Proof.Attend.Forward
public import proofs.«01_k».proof.Proof.Back.FwdMidRef
public import proofs.«01_k».proof.Proof.Gen.FwdMid.Frame
public import proofs.«01_k».proof.Proof.Gen.FwdMidIdeal.Value
public import proofs.«01_k».proof.Proof.Gen.FwdMidRefIdeal.Run
public import Idealize.ShloMosaic.Lib.Quiescent
public import Idealize.ShloMosaic.Lib.Pipeline.ValueKit

@[expose] public section

noncomputable section

namespace Cert.FwdMidIdeal.Back

open Idealize.ShloMosaic Idealize.ShloMosaic.TcCoe Idealize.SL.Sem Cert.Norm Cert.Attend
open Cert.FwdMidIdeal Cert.FwdMidIdeal.Gen

theorem frame_kernel : Cert.quiescent_FwdMid := fun m ρ _ => Cert.FwdMid.Gen.frame (F := Bits) m ρ

theorem frame_kernelIdeal : Cert.quiescent_FwdMidIdeal := fun m ρ _ => Cert.FwdMidIdeal.Gen.frame (F := Ideal) m ρ

theorem frame_refIdeal : Cert.quiescent_FwdMidRefIdeal := fun m ρ _ =>
  (θ_run Cert.FwdMidRefIdeal.defs _ _).mono (fun r h => ⟨fun c => (h c).2.2.2.2.2, sem_eq_zero_of_no_sems (by decide) r.2⟩)
    (Cert.FwdMidRefIdeal.Value.run (F := Ideal) m ρ)

theorem preserves : Cert.preserves_FwdMid_FwdMidIdeal := trivial

theorem row_pay2 (x : Vec Ideal S512x1024 .f32) (co : Vec Ideal S512x512 .bf16) (a : Vec Ideal S512x1024 .bf16) (o : Vec Ideal S512x512 .f32)
    (b : Vec Ideal S512x1024 .bf16) (i : Fin 512) : row (k0_pay2 x co a o b) i
      = fun k => row x i k + ∑ l : Fin 512, row co i l * row a l k + ∑ l : Fin 512, row o i l * row b l k := by
  funext k
  unfold k0_pay2 row
  pointwise

theorem row_pay3 (x : Vec Ideal S512x1024 .f32) (co : Vec Ideal S512x512 .bf16) (a : Vec Ideal S512x1024 .bf16) (o : Vec Ideal S512x512 .f32)
    (b : Vec Ideal S512x1024 .bf16) (g : Vec Ideal S1x1024 .f32) (i : Fin 512) : row (k0_pay3 x co a o b g) i
      = normed (row (k0_pay2 x co a o b) i) (row g 0) := by
  funext k
  unfold k0_pay3
  generalize k0_pay2 x co a o b = z
  unfold normed rinv msq width eps row
  pointwise

theorem row_pay4 (x : Vec Ideal S512x1024 .f32) (co : Vec Ideal S512x512 .bf16) (a : Vec Ideal S512x1024 .bf16) (o : Vec Ideal S512x512 .f32)
    (b : Vec Ideal S512x1024 .bf16) (g : Vec Ideal S1x1024 .f32) (w : Vec Ideal S1024x1024 .bf16) (i : Fin 512) : row (k0_pay4 x co a o b g w) i
      = proj (row (k0_pay3 x co a o b g) i) w := by
  funext k
  unfold k0_pay4
  generalize k0_pay3 x co a o b g = z
  unfold proj row
  pointwise

theorem row_pay1 (x : FVec Ideal S512x1024 .f32) (z : Vec Ideal S512x1024 .bf16) (w : Vec Ideal S1024x1024 .bf16) (i : Fin 512) :
    row (k0_pay1 x (k0_pay14 z) w) i = fun k => row x i k + proj (row z i) w k := by
  funext k
  unfold k0_pay1 k0_pay14 proj row
  pointwise

theorem head0 (q : FVec Ideal S512x1024 .bf16) (k v : Vec Ideal S256x1024 .bf16) (i : Fin 512) (e : Fin 256) :
    k0_pay10 (k0_pay5 q k) v (ix2 i e) = headOut 0 (by omega) (row q i) (row k) (row v) e := by
  unfold k0_pay10 k0_pay5 headOut prob ex logit top least scale cut row
  pointwise

theorem head1 (q : FVec Ideal S512x1024 .bf16) (k v : Vec Ideal S256x1024 .bf16) (i : Fin 512) (e : Fin 256) :
    k0_pay11 (k0_pay6 q k) v (ix2 i e) = headOut 256 (by omega) (row q i) (row k) (row v) e := by
  unfold k0_pay11 k0_pay6 headOut prob ex logit top least scale cut row
  pointwise

theorem head2 (q : FVec Ideal S512x1024 .bf16) (k v : Vec Ideal S256x1024 .bf16) (i : Fin 512) (e : Fin 256) :
    k0_pay12 (k0_pay7 q k) v (ix2 i e) = headOut 512 (by omega) (row q i) (row k) (row v) e := by
  unfold k0_pay12 k0_pay7 headOut prob ex logit top least scale cut row
  pointwise

theorem head3 (q : FVec Ideal S512x1024 .bf16) (k v : Vec Ideal S256x1024 .bf16) (i : Fin 512) (e : Fin 256) :
    k0_pay13 (k0_pay8 q) (k0_pay9 k) v (ix2 i e) = headOut 768 (by omega) (row q i) (row k) (row v) e := by
  unfold k0_pay13 k0_pay8 k0_pay9 headOut prob ex logit top least scale cut row
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

variable (m : (ℓ : Loc nD τ sig) → Buf (Elt Ideal) ℓ)

/-- What is said of rows and columns holds at a place. -/
theorem at_place (f : S512x256.Idx → EReal) (G : Fin 512 → Fin 1024 → EReal) (p : Fin 256 → Fin 1024)
    (h : ∀ i q, f (ix2 i q) = G i (p q)) (x : S512x256.Idx) (i : Fin 512) (l : Fin 1024) (hi : i.val = (x 0).val)
    (hl : l.val = (p (x 1)).val) : f x = G i l := by
  obtain rfl : i = x 0 := Fin.ext hi
  obtain rfl : l = p (x 1) := Fin.ext hl
  exact (congrArg f (ValueIdx.eq_ix2 x)).trans (h _ _)

/-- A step's upper half of the output projection. -/
def lo (c : Dev nD) (t : Fin cfg0.N) : Vec Ideal S512x1024 .bf16 := View.ld (iblk m c 5 t) (Rect.unit ![0, 0] ![512, 1024] inb_S1024x1024_S512x1024_0_0)

/-- The lower half. -/
def hi (c : Dev nD) (t : Fin cfg0.N) : Vec Ideal S512x1024 .bf16 := View.ld (iblk m c 5 t) (Rect.unit ![512, 0] ![512, 1024] inb_S1024x1024_S512x1024_512_0)

/-- A step's queries. -/
def qBlk (c : Dev nD) (t : Fin cfg0.N) : FVec Ideal S512x1024 .bf16 :=
  k0_pay4 (iblk m c 0 t) (iblk m c 1 t) (lo m c t) (iblk m c 2 t) (hi m c t) (iblk m c 8 t) (iblk m c 6 t)

/-- The four pieces in which a step writes the attention's output. -/
def pieces (c : Dev nD) (t : Fin cfg0.N) : List (View.Piece (Elt Ideal) S512x1024 .bf16) :=
  [⟨Rect.unit ![0, 768] ![512, 256] inb_S512x1024_S512x256_0_768, k0_pay13 (k0_pay8 (qBlk m c t)) (k0_pay9 (iblk m c 3 t)) (iblk m c 4 t)⟩,
    ⟨Rect.unit ![0, 512] ![512, 256] inb_S512x1024_S512x256_0_512, k0_pay12 (k0_pay7 (qBlk m c t) (iblk m c 3 t)) (iblk m c 4 t)⟩,
    ⟨Rect.unit ![0, 256] ![512, 256] inb_S512x1024_S512x256_0_256, k0_pay11 (k0_pay6 (qBlk m c t) (iblk m c 3 t)) (iblk m c 4 t)⟩,
    ⟨Rect.unit ![0, 0] ![512, 256] inb_S512x1024_S512x256_0_0, k0_pay10 (k0_pay5 (qBlk m c t) (iblk m c 3 t)) (iblk m c 4 t)⟩]

theorem pieces_eq (c : Dev nD) (t : Fin cfg0.N) (j : S512x1024.Idx) : View.canon (pieces m c t) j
    = (fun i : Fin 512 => heads (row (qBlk m c t) i) (row (iblk m c 3 t)) (row (iblk m c 4 t))) (j 0) (j 1) := by
  unfold pieces
  canon_tiles x h
  · exact at_place _ (fun i : Fin 512 => heads (row (qBlk m c t) i) (row (iblk m c 3 t)) (row (iblk m c 4 t))) (fun q => ⟨768 + q.val, by omega⟩)
      (fun i q => (head3 _ _ _ i q).trans (out_place _ _ _ 3 768 rfl _ q _ rfl)) x (j 0) (j 1) h0 h1
  · exact at_place _ (fun i : Fin 512 => heads (row (qBlk m c t) i) (row (iblk m c 3 t)) (row (iblk m c 4 t))) (fun q => ⟨512 + q.val, by omega⟩)
      (fun i q => (head2 _ _ _ i q).trans (out_place _ _ _ 2 512 rfl _ q _ rfl)) x (j 0) (j 1) h0 h1
  · exact at_place _ (fun i : Fin 512 => heads (row (qBlk m c t) i) (row (iblk m c 3 t)) (row (iblk m c 4 t))) (fun q => ⟨256 + q.val, by omega⟩)
      (fun i q => (head1 _ _ _ i q).trans (out_place _ _ _ 1 256 rfl _ q _ rfl)) x (j 0) (j 1) h0 h1
  · exact at_place _ (fun i : Fin 512 => heads (row (qBlk m c t) i) (row (iblk m c 3 t)) (row (iblk m c 4 t))) (fun q => ⟨q.val, by omega⟩)
      (fun i q => (head0 _ _ _ i q).trans (out_place _ _ _ 0 0 rfl _ q _ (Nat.zero_add _).symm)) x (j 0) (j 1) h0 h1

theorem out9_blk (c : Dev nD) (t : Fin cfg0.N) : (outsAt0 m c t).1
    = k0_pay2 (iblk m c 0 t) (iblk m c 1 t) (lo m c t) (iblk m c 2 t) (hi m c t) := by
  unfold lo hi
  frame_out
  rfl

theorem out10_blk (c : Dev nD) (t : Fin cfg0.N) : (outsAt0 m c t).2.1
    = k0_pay3 (iblk m c 0 t) (iblk m c 1 t) (lo m c t) (iblk m c 2 t) (hi m c t) (iblk m c 8 t) := by
  unfold lo hi
  frame_out
  rfl

theorem out11_blk (c : Dev nD) (t : Fin cfg0.N) : (outsAt0 m c t).2.2.1 = qBlk m c t := by
  unfold qBlk lo hi
  frame_out
  rfl

theorem out12_blk (c : Dev nD) (t : Fin cfg0.N) : (outsAt0 m c t).2.2.2.1 = View.canon (pieces m c t) := by
  unfold pieces qBlk lo hi
  frame_out
  rfl

theorem read_pieces (c : Dev nD) (t : Fin cfg0.N) (v : View sig .tc .vmem S512x1024 .bf16) : v.readCov (Val := Elt Ideal) (pieces m c t)
    (Rect.unit ![0, 0] ![512, 1024] inb_S512x1024_S512x1024_0_0).toLoadRect = View.canon (pieces m c t) := by
  rw [View.readCov_eq_canon']
  exact View.ld_unit_lit' _ _ (by decide)

theorem out13_blk (c : Dev nD) (t : Fin cfg0.N) : (outsAt0 m c t).2.2.2.2
    = k0_pay1 (k0_pay2 (iblk m c 0 t) (iblk m c 1 t) (lo m c t) (iblk m c 2 t) (hi m c t)) (k0_pay14 (View.canon (pieces m c t))) (iblk m c 7 t) := by
  frame_out
  exact congrArg (fun z => k0_pay1 (k0_pay2 (iblk m c 0 t) (iblk m c 1 t) (lo m c t) (iblk m c 2 t) (hi m c t)) (k0_pay14 z) (iblk m c 7 t))
    (read_pieces m c t _)

/-- A token's row of the sum of the input and the output projection. -/
def aX (c : Dev nD) (l : Fin 4096) : Fin 1024 → EReal :=
  mixed (row (m ((c.tc : Thread nD τ).loc main_arg0)) l) (row (m ((c.tc : Thread nD τ).loc main_arg1)) l)
    (row (m ((c.tc : Thread nD τ).loc main_arg2)) l) (m ((c.tc : Thread nD τ).loc main_arg5))

/-- Normed. -/
def aH (c : Dev nD) (l : Fin 4096) : Fin 1024 → EReal := normed (aX m c l) (row (m ((c.tc : Thread nD τ).loc main_arg8)) 0)

/-- Its queries. -/
def aQ (c : Dev nD) (l : Fin 4096) : Fin 1024 → EReal := proj (aH m c l) (m ((c.tc : Thread nD τ).loc main_arg6))

/-- Its attention. -/
def aO (c : Dev nD) (l : Fin 4096) : Fin 1024 → EReal :=
  heads (aQ m c l) (fun j => row (m ((c.tc : Thread nD τ).loc main_arg3)) (⟨l.val / 2048 * 256 + j.val, by omega⟩ : Fin 512))
    (fun j => row (m ((c.tc : Thread nD τ).loc main_arg4)) (⟨l.val / 2048 * 256 + j.val, by omega⟩ : Fin 512))

/-- The row that goes on. -/
def aY (c : Dev nD) (l : Fin 4096) : Fin 1024 → EReal := fun k => aX m c l k + proj (aO m c l) (m ((c.tc : Thread nD τ).loc main_arg7)) k

/-- The blocks of a step are rows of the arrays. -/
theorem row_x (c : Dev nD) (t : Fin cfg0.N) (i : Fin 512) (l : Fin 4096) (hl : l.val = t.val * 512 + i.val) :
    row (iblk m c 0 t) i = row (m ((c.tc : Thread nD τ).loc main_arg0)) l := by
  funext k
  unfold row
  simp only [iblk, V]; blk_ext [idx0]

theorem row_co (c : Dev nD) (t : Fin cfg0.N) (i : Fin 512) (l : Fin 4096) (hl : l.val = t.val * 512 + i.val) :
    row (iblk m c 1 t) i = row (m ((c.tc : Thread nD τ).loc main_arg1)) l := by
  funext k
  unfold row
  simp only [iblk, V]; blk_ext [idx1]

theorem row_o (c : Dev nD) (t : Fin cfg0.N) (i : Fin 512) (l : Fin 4096) (hl : l.val = t.val * 512 + i.val) :
    row (iblk m c 2 t) i = row (m ((c.tc : Thread nD τ).loc main_arg2)) l := by
  funext k
  unfold row
  simp only [iblk, V]; blk_ext [idx2]

theorem row_k (c : Dev nD) (t : Fin cfg0.N) (i : Fin 256) (l : Fin 512) (hl : l.val = t.val / 4 * 256 + i.val) :
    row (iblk m c 3 t) i = row (m ((c.tc : Thread nD τ).loc main_arg3)) l := by
  funext k
  unfold row
  simp only [iblk, V]; blk_ext [idx3]

theorem row_v (c : Dev nD) (t : Fin cfg0.N) (i : Fin 256) (l : Fin 512) (hl : l.val = t.val / 4 * 256 + i.val) :
    row (iblk m c 4 t) i = row (m ((c.tc : Thread nD τ).loc main_arg4)) l := by
  funext k
  unfold row
  simp only [iblk, V]; blk_ext [idx4]

theorem whole5 (c : Dev nD) (t : Fin cfg0.N) : iblk m c 5 t = m ((c.tc : Thread nD τ).loc main_arg5) := by
  funext i
  simp only [iblk, V]; blk_ext [idx5]

theorem whole6 (c : Dev nD) (t : Fin cfg0.N) : iblk m c 6 t = m ((c.tc : Thread nD τ).loc main_arg6) := by
  funext i
  simp only [iblk, V]; blk_ext [idx6]

theorem whole7 (c : Dev nD) (t : Fin cfg0.N) : iblk m c 7 t = m ((c.tc : Thread nD τ).loc main_arg7) := by
  funext i
  simp only [iblk, V]; blk_ext [idx7]

theorem whole8 (c : Dev nD) (t : Fin cfg0.N) : iblk m c 8 t = m ((c.tc : Thread nD τ).loc main_arg8) := by
  funext i
  simp only [iblk, V]; blk_ext [idx8]

theorem row_lo (w : Vec Ideal S1024x1024 .bf16) (o : Fin 512) :
    row (View.ld w (Rect.unit ![0, 0] ![512, 1024] inb_S1024x1024_S512x1024_0_0)) o = row w (⟨o.val, by omega⟩ : Fin 1024) := by
  funext k
  unfold row
  pointwise

theorem row_hi (w : Vec Ideal S1024x1024 .bf16) (o : Fin 512) :
    row (View.ld w (Rect.unit ![512, 0] ![512, 1024] inb_S1024x1024_S512x1024_512_0)) o = row w (⟨512 + o.val, by omega⟩ : Fin 1024) := by
  funext k
  unfold row
  pointwise

theorem x_blk (c : Dev nD) (t : Fin cfg0.N) (i : Fin 512) (l : Fin 4096) (hl : l.val = t.val * 512 + i.val) :
    row (k0_pay2 (iblk m c 0 t) (iblk m c 1 t) (lo m c t) (iblk m c 2 t) (hi m c t)) i = aX m c l := by
  rw [row_pay2, row_x m c t i l hl, row_co m c t i l hl, row_o m c t i l hl]
  unfold lo hi
  simp only [row_lo, row_hi, whole5]
  rfl

theorem h_blk (c : Dev nD) (t : Fin cfg0.N) (i : Fin 512) (l : Fin 4096) (hl : l.val = t.val * 512 + i.val) :
    row (k0_pay3 (iblk m c 0 t) (iblk m c 1 t) (lo m c t) (iblk m c 2 t) (hi m c t) (iblk m c 8 t)) i = aH m c l := by
  rw [row_pay3, x_blk m c t i l hl, whole8]
  rfl

theorem q_blk (c : Dev nD) (t : Fin cfg0.N) (i : Fin 512) (l : Fin 4096) (hl : l.val = t.val * 512 + i.val) : row (qBlk m c t) i = aQ m c l := by
  unfold qBlk
  rw [row_pay4, h_blk m c t i l hl, whole6]
  rfl

theorem o_blk (c : Dev nD) (t : Fin cfg0.N) (i : Fin 512) (l : Fin 4096) (hl : l.val = t.val * 512 + i.val) :
    row (View.canon (pieces m c t)) i = aO m c l := by
  have hb : l.val / 2048 = t.val / 4 := by omega
  have hk : row (iblk m c 3 t) = fun j : Fin 256 => row (m ((c.tc : Thread nD τ).loc main_arg3)) (⟨l.val / 2048 * 256 + j.val, by omega⟩ : Fin 512) :=
    funext fun j => row_k m c t j _ (by show l.val / 2048 * 256 + j.val = _; rw [hb])
  have hv : row (iblk m c 4 t) = fun j : Fin 256 => row (m ((c.tc : Thread nD τ).loc main_arg4)) (⟨l.val / 2048 * 256 + j.val, by omega⟩ : Fin 512) :=
    funext fun j => row_v m c t j _ (by show l.val / 2048 * 256 + j.val = _; rw [hb])
  have h : row (View.canon (pieces m c t)) i = heads (row (qBlk m c t) i) (row (iblk m c 3 t)) (row (iblk m c 4 t)) :=
    funext fun k => pieces_eq m c t (ix2 i k)
  rw [h, hk, hv, q_blk m c t i l hl]
  rfl

theorem y_blk (c : Dev nD) (t : Fin cfg0.N) (i : Fin 512) (l : Fin 4096) (hl : l.val = t.val * 512 + i.val) :
    row (k0_pay1 (k0_pay2 (iblk m c 0 t) (iblk m c 1 t) (lo m c t) (iblk m c 2 t) (hi m c t)) (k0_pay14 (View.canon (pieces m c t))) (iblk m c 7 t)) i
      = aY m c l := by
  rw [row_pay1, x_blk m c t i l hl, o_blk m c t i l hl, whole7]
  rfl

/-- Where a row's values are known, so are the block's. -/
theorem of_row (f : S512x1024.Idx → EReal) (r : Fin 4096 → Fin 1024 → EReal) (j : S512x1024.Idx) (l : Fin 4096) (h : row f (j 0) = r l) :
    f j = r l (j 1) := (congrArg f (ValueIdx.eq_ix2 j)).trans (congrFun h (j 1))

theorem out9_eq (c : Dev nD) (t : Fin cfg0.N) (j : S512x1024.Idx) :
    (outsAt0 m c t).1 j = aX m c (((win0_9.blk t).view.emb j) 0) (((win0_9.blk t).view.emb j) 1) := by
  have h0 : (((win0_9.blk t).view.emb j) 0).val = t.val * 512 + (j 0).val := by blk_simp [idx9]
  have h1 : ((win0_9.blk t).view.emb j) 1 = j 1 := by ext; blk_simp [idx9]
  rw [out9_blk, h1]
  exact of_row _ (aX m c) j _ (x_blk m c t _ _ h0)

theorem out10_eq (c : Dev nD) (t : Fin cfg0.N) (j : S512x1024.Idx) :
    (outsAt0 m c t).2.1 j = aH m c (((win0_10.blk t).view.emb j) 0) (((win0_10.blk t).view.emb j) 1) := by
  have h0 : (((win0_10.blk t).view.emb j) 0).val = t.val * 512 + (j 0).val := by blk_simp [idx10]
  have h1 : ((win0_10.blk t).view.emb j) 1 = j 1 := by ext; blk_simp [idx10]
  rw [out10_blk, h1]
  exact of_row _ (aH m c) j _ (h_blk m c t _ _ h0)

theorem out11_eq (c : Dev nD) (t : Fin cfg0.N) (j : S512x1024.Idx) :
    (outsAt0 m c t).2.2.1 j = aQ m c (((win0_11.blk t).view.emb j) 0) (((win0_11.blk t).view.emb j) 1) := by
  have h0 : (((win0_11.blk t).view.emb j) 0).val = t.val * 512 + (j 0).val := by blk_simp [idx11]
  have h1 : ((win0_11.blk t).view.emb j) 1 = j 1 := by ext; blk_simp [idx11]
  rw [out11_blk, h1]
  exact of_row _ (aQ m c) j _ (q_blk m c t _ _ h0)

theorem out12_eq (c : Dev nD) (t : Fin cfg0.N) (j : S512x1024.Idx) :
    (outsAt0 m c t).2.2.2.1 j = aO m c (((win0_12.blk t).view.emb j) 0) (((win0_12.blk t).view.emb j) 1) := by
  have h0 : (((win0_12.blk t).view.emb j) 0).val = t.val * 512 + (j 0).val := by blk_simp [idx12]
  have h1 : ((win0_12.blk t).view.emb j) 1 = j 1 := by ext; blk_simp [idx12]
  rw [out12_blk, h1]
  exact of_row _ (aO m c) j _ (o_blk m c t _ _ h0)

theorem out13_eq (c : Dev nD) (t : Fin cfg0.N) (j : S512x1024.Idx) :
    (outsAt0 m c t).2.2.2.2 j = aY m c (((win0_13.blk t).view.emb j) 0) (((win0_13.blk t).view.emb j) 1) := by
  have h0 : (((win0_13.blk t).view.emb j) 0).val = t.val * 512 + (j 0).val := by blk_simp [idx13]
  have h1 : ((win0_13.blk t).view.emb j) 1 = j 1 := by ext; blk_simp [idx13]
  rw [out13_blk, h1]
  exact of_row _ (aY m c) j _ (y_blk m c t _ _ h0)

open Cert.FwdMidRefIdeal.Back in
/-- The call's five results are the reference's. -/
theorem algebraic : Cert.algebraic_FwdMidIdeal_FwdMidRefIdeal := by
  intro m g m' g' _ hx
  refine ⟨_, _, _, _, _, (θ_run Cert.FwdMidIdeal.defs _ _).mono (fun r h c => h c) (Cert.FwdMidIdeal.Value.run_blocks (F := Ideal) m g), ?_⟩
  refine (θ_run Cert.FwdMidRefIdeal.defs _ _).mono (fun r h c => ?_) (Cert.FwdMidRefIdeal.Value.run (F := Ideal) m' g')
  obtain ⟨h0, h1, h2, h3, h4, hk⟩ := h c
  obtain ⟨e0, e1, e2, e3, e4, e5, e6, e7, e8⟩ := hx c
  have X : ∀ l, row (refX m' c) l = aX m c l := by
    intro l
    unfold refX
    rw [e0, e1, e2, e5]
    exact fMix_eq _ _ _ _ l
  have H : ∀ l, row (refH m' c) l = aH m c l := by
    intro l
    refine (fNorm_eq _ _ l).trans ?_
    rw [X, e8]
    rfl
  have Q : ∀ l, row (refQ m' c) l = aQ m c l := by
    intro l
    refine (fProd_eq _ _ l).trans ?_
    rw [H, e6]
    rfl
  have O : ∀ l, row (refO m' c) l = aO m c l := by
    intro l
    refine (fOut_eq _ _ _ l).trans ?_
    rw [Q, e3, e4]
    rfl
  have Y : ∀ l, row (refY m' c) l = aY m c l := by
    intro l
    funext k
    refine congrArg₂ (· + ·) (congrFun (X l) k) ((congrFun (fProd_eq _ _ l) k).trans ?_)
    rw [O, e7]
  refine ⟨h0.trans ?_, h1.trans ?_, h2.trans ?_, h3.trans ?_, h4.trans ?_, hk⟩
  · refine Eq.trans ?_ ((dats m 0 c).arrAt_eq_of_covers 9 (fun i => aX m c (i 0) (i 1)) (by decide +kernel) fun t hf y => ?_).symm
    · funext i
      exact ((congrArg (refX m' c) (ValueIdx.eq_ix2 i)).trans (congrFun (X _) _))
    · blk_simp
      rw [after0_9, out9_eq m c t]
  · refine Eq.trans ?_ ((dats m 0 c).arrAt_eq_of_covers 10 (fun i => aH m c (i 0) (i 1)) (by decide +kernel) fun t hf y => ?_).symm
    · funext i
      exact ((congrArg (refH m' c) (ValueIdx.eq_ix2 i)).trans (congrFun (H _) _))
    · blk_simp
      rw [after0_10, out10_eq m c t]
  · refine Eq.trans ?_ ((dats m 0 c).arrAt_eq_of_covers 11 (fun i => aQ m c (i 0) (i 1)) (by decide +kernel) fun t hf y => ?_).symm
    · funext i
      exact ((congrArg (refQ m' c) (ValueIdx.eq_ix2 i)).trans (congrFun (Q _) _))
    · blk_simp
      rw [after0_11, out11_eq m c t]
  · refine Eq.trans ?_ ((dats m 0 c).arrAt_eq_of_covers 12 (fun i => aO m c (i 0) (i 1)) (by decide +kernel) fun t hf y => ?_).symm
    · funext i
      exact (congrFun (v43_eq m' c) i).trans ((congrArg (refO m' c) (ValueIdx.eq_ix2 i)).trans (congrFun (O _) _))
    · blk_simp
      rw [after0_12, out12_eq m c t]
  · refine Eq.trans ?_ ((dats m 0 c).arrAt_eq_of_covers 13 (fun i => aY m c (i 0) (i 1)) (by decide +kernel) fun t hf y => ?_).symm
    · funext i
      exact (congrFun (v46_eq m' c) i).trans ((congrArg (refY m' c) (ValueIdx.eq_ix2 i)).trans (congrFun (Y _) _))
    · blk_simp
      rw [after0_13, out13_eq m c t]

end Cert.FwdMidIdeal.Back

end
-- ==== Proof.lean ====
module

public import proofs.«01_k».proof.Defs
public import proofs.«01_k».proof.Proof.Gen.Gather
public import proofs.«01_k».proof.Proof.Gen.GatherIdeal
public import proofs.«01_k».proof.Proof.Gen.GatherRefIdeal
public import proofs.«01_k».proof.Proof.Gen.GatherRef
public import proofs.«01_k».proof.Proof.Gen.Sibling
public import proofs.«01_k».proof.Proof.Gen.SiblingIdeal
public import proofs.«01_k».proof.Proof.Gen.SiblingRefIdeal
public import proofs.«01_k».proof.Proof.Gen.SiblingRef
public import proofs.«01_k».proof.Proof.Gen.Ici
public import proofs.«01_k».proof.Proof.Gen.IciIdeal
public import proofs.«01_k».proof.Proof.Gen.IciRefIdeal
public import proofs.«01_k».proof.Proof.Gen.IciRef
public import proofs.«01_k».proof.Proof.Gen.Share
public import proofs.«01_k».proof.Proof.Gen.ShareIdeal
public import proofs.«01_k».proof.Proof.Gen.ShareRefIdeal
public import proofs.«01_k».proof.Proof.Gen.ShareRef
public import proofs.«01_k».proof.Proof.Gen.Adam
public import proofs.«01_k».proof.Proof.Gen.AdamIdeal
public import proofs.«01_k».proof.Proof.Gen.AdamRefIdeal
public import proofs.«01_k».proof.Proof.Gen.AdamSmall
public import proofs.«01_k».proof.Proof.Gen.AdamSmallIdeal
public import proofs.«01_k».proof.Proof.Gen.AdamSmallRefIdeal
public import proofs.«01_k».proof.Proof.Gen.DwIn
public import proofs.«01_k».proof.Proof.Gen.DwInIdeal
public import proofs.«01_k».proof.Proof.Gen.DwInRefIdeal
public import proofs.«01_k».proof.Proof.Gen.DwOutConv
public import proofs.«01_k».proof.Proof.Gen.DwOutConvIdeal
public import proofs.«01_k».proof.Proof.Gen.DwOutConvRefIdeal
public import proofs.«01_k».proof.Proof.Gen.DwOutFox
public import proofs.«01_k».proof.Proof.Gen.DwOutFoxIdeal
public import proofs.«01_k».proof.Proof.Gen.DwOutFoxRefIdeal
public import proofs.«01_k».proof.Proof.Gen.DwMq
public import proofs.«01_k».proof.Proof.Gen.DwMqIdeal
public import proofs.«01_k».proof.Proof.Gen.DwMqRefIdeal
public import proofs.«01_k».proof.Proof.Gen.DwMkv
public import proofs.«01_k».proof.Proof.Gen.DwMkvIdeal
public import proofs.«01_k».proof.Proof.Gen.DwMkvRefIdeal
public import proofs.«01_k».proof.Proof.Gen.DwMo
public import proofs.«01_k».proof.Proof.Gen.DwMoIdeal
public import proofs.«01_k».proof.Proof.Gen.DwMoRefIdeal
public import proofs.«01_k».proof.Proof.Gen.DwGu
public import proofs.«01_k».proof.Proof.Gen.DwGuIdeal
public import proofs.«01_k».proof.Proof.Gen.DwGuRefIdeal
public import proofs.«01_k».proof.Proof.Gen.DwDown
public import proofs.«01_k».proof.Proof.Gen.DwDownIdeal
public import proofs.«01_k».proof.Proof.Gen.DwDownRefIdeal
public import proofs.«01_k».proof.Proof.Gen.BwdIn
public import proofs.«01_k».proof.Proof.Gen.BwdInIdeal
public import proofs.«01_k».proof.Proof.Gen.BwdInRefIdeal
public import proofs.«01_k».proof.Proof.Gen.BwdMem
public import proofs.«01_k».proof.Proof.Gen.BwdMemIdeal
public import proofs.«01_k».proof.Proof.Gen.BwdMemRefIdeal
public import proofs.«01_k».proof.Proof.Gen.FwdFfn
public import proofs.«01_k».proof.Proof.Gen.FwdFfnIdeal
public import proofs.«01_k».proof.Proof.Gen.FwdFfnRefIdeal
public import proofs.«01_k».proof.Proof.Gen.BwdFfn
public import proofs.«01_k».proof.Proof.Gen.BwdFfnIdeal
public import proofs.«01_k».proof.Proof.Gen.BwdFfnRefIdeal
public import proofs.«01_k».proof.Proof.Gen.FgateBwd
public import proofs.«01_k».proof.Proof.Gen.FgateBwdIdeal
public import proofs.«01_k».proof.Proof.Gen.FgateBwdRefIdeal
public import proofs.«01_k».proof.Proof.Gen.MemKv
public import proofs.«01_k».proof.Proof.Gen.MemKvIdeal
public import proofs.«01_k».proof.Proof.Gen.MemKvRefIdeal
public import proofs.«01_k».proof.Proof.Gen.BwdMid
public import proofs.«01_k».proof.Proof.Gen.BwdMidIdeal
public import proofs.«01_k».proof.Proof.Gen.BwdMidRefIdeal
public import proofs.«01_k».proof.Proof.Gen.FwdMid
public import proofs.«01_k».proof.Proof.Gen.FwdMidIdeal
public import proofs.«01_k».proof.Proof.Gen.FwdMidRefIdeal
public import proofs.«01_k».proof.Proof.Gen.Pre_finite
public import proofs.«01_k».proof.Proof.Exchange.GatherClaim
public import proofs.«01_k».proof.Proof.Exchange.SiblingClaim
public import proofs.«01_k».proof.Proof.Exchange.IciClaim
public import proofs.«01_k».proof.Proof.Exchange.ShareClaim
public import proofs.«01_k».proof.Proof.Update.Adam
public import proofs.«01_k».proof.Proof.Update.AdamSmall
public import proofs.«01_k».proof.Proof.Grad.DwIn
public import proofs.«01_k».proof.Proof.Grad.DwOutConv
public import proofs.«01_k».proof.Proof.Grad.DwOutFox
public import proofs.«01_k».proof.Proof.Grad.DwMq
public import proofs.«01_k».proof.Proof.Grad.DwMkv
public import proofs.«01_k».proof.Proof.Grad.DwMo
public import proofs.«01_k».proof.Proof.Grad.DwGu
public import proofs.«01_k».proof.Proof.Grad.DwDown
public import proofs.«01_k».proof.Proof.Back.BwdIn
public import proofs.«01_k».proof.Proof.Back.BwdMem
public import proofs.«01_k».proof.Proof.Back.FwdFfn
public import proofs.«01_k».proof.Proof.Back.BwdFfn
public import proofs.«01_k».proof.Proof.Back.FgateBwd
public import proofs.«01_k».proof.Proof.Back.MemKv
public import proofs.«01_k».proof.Proof.Back.BwdMid
public import proofs.«01_k».proof.Proof.Back.FwdMid

@[expose] public section

namespace Cert.Proof

open Idealize.ShloMosaic Idealize.SL.Sem

/-- The claims about all the calls together, after the facts the programs state. -/
theorem claim : Cert.Claim := ⟨Cert.Gather.Gen.facts, Cert.GatherIdeal.Gen.facts, Cert.GatherRefIdeal.Gen.facts, Cert.GatherRef.Gen.facts,
  Cert.Sibling.Gen.facts, Cert.SiblingIdeal.Gen.facts, Cert.SiblingRefIdeal.Gen.facts, Cert.SiblingRef.Gen.facts,
  Cert.Ici.Gen.facts, Cert.IciIdeal.Gen.facts, Cert.IciRefIdeal.Gen.facts, Cert.IciRef.Gen.facts,
  Cert.Share.Gen.facts, Cert.ShareIdeal.Gen.facts, Cert.ShareRefIdeal.Gen.facts, Cert.ShareRef.Gen.facts,
  Cert.Adam.Gen.facts, Cert.AdamIdeal.Gen.facts, Cert.AdamRefIdeal.Gen.facts,
  Cert.AdamSmall.Gen.facts, Cert.AdamSmallIdeal.Gen.facts, Cert.AdamSmallRefIdeal.Gen.facts,
  Cert.DwIn.Gen.facts, Cert.DwInIdeal.Gen.facts, Cert.DwInRefIdeal.Gen.facts,
  Cert.DwOutConv.Gen.facts, Cert.DwOutConvIdeal.Gen.facts, Cert.DwOutConvRefIdeal.Gen.facts,
  Cert.DwOutFox.Gen.facts, Cert.DwOutFoxIdeal.Gen.facts, Cert.DwOutFoxRefIdeal.Gen.facts,
  Cert.DwMq.Gen.facts, Cert.DwMqIdeal.Gen.facts, Cert.DwMqRefIdeal.Gen.facts,
  Cert.DwMkv.Gen.facts, Cert.DwMkvIdeal.Gen.facts, Cert.DwMkvRefIdeal.Gen.facts,
  Cert.DwMo.Gen.facts, Cert.DwMoIdeal.Gen.facts, Cert.DwMoRefIdeal.Gen.facts,
  Cert.DwGu.Gen.facts, Cert.DwGuIdeal.Gen.facts, Cert.DwGuRefIdeal.Gen.facts,
  Cert.DwDown.Gen.facts, Cert.DwDownIdeal.Gen.facts, Cert.DwDownRefIdeal.Gen.facts,
  Cert.BwdIn.Gen.facts, Cert.BwdInIdeal.Gen.facts, Cert.BwdInRefIdeal.Gen.facts,
  Cert.BwdMem.Gen.facts, Cert.BwdMemIdeal.Gen.facts, Cert.BwdMemRefIdeal.Gen.facts,
  Cert.FwdFfn.Gen.facts, Cert.FwdFfnIdeal.Gen.facts, Cert.FwdFfnRefIdeal.Gen.facts,
  Cert.BwdFfn.Gen.facts, Cert.BwdFfnIdeal.Gen.facts, Cert.BwdFfnRefIdeal.Gen.facts,
  Cert.FgateBwd.Gen.facts, Cert.FgateBwdIdeal.Gen.facts, Cert.FgateBwdRefIdeal.Gen.facts,
  Cert.MemKv.Gen.facts, Cert.MemKvIdeal.Gen.facts, Cert.MemKvRefIdeal.Gen.facts,
  Cert.BwdMid.Gen.facts, Cert.BwdMidIdeal.Gen.facts, Cert.BwdMidRefIdeal.Gen.facts,
  Cert.FwdMid.Gen.facts, Cert.FwdMidIdeal.Gen.facts, Cert.FwdMidRefIdeal.Gen.facts,
  Cert.Pre_finite.Gen.facts,
  Cert.GatherIdeal.Exchange.frame_kernel, Cert.GatherIdeal.Exchange.frame_kernelIdeal, Cert.GatherIdeal.Exchange.frame_refIdeal, Cert.GatherIdeal.Exchange.frame_ref,
  Cert.SiblingIdeal.Exchange.frame_kernel, Cert.SiblingIdeal.Exchange.frame_kernelIdeal, Cert.SiblingIdeal.Exchange.frame_refIdeal, Cert.SiblingIdeal.Exchange.frame_ref,
  Cert.IciIdeal.Exchange.frame_kernel, Cert.IciIdeal.Exchange.frame_kernelIdeal, Cert.IciIdeal.Exchange.frame_refIdeal, Cert.IciIdeal.Exchange.frame_ref,
  Cert.ShareIdeal.Exchange.frame_kernel, Cert.ShareIdeal.Exchange.frame_kernelIdeal, Cert.ShareIdeal.Exchange.frame_refIdeal, Cert.ShareIdeal.Exchange.frame_ref,
  Cert.AdamIdeal.Update.frame_kernel, Cert.AdamIdeal.Update.frame_kernelIdeal, Cert.AdamIdeal.Update.frame_refIdeal,
  Cert.AdamSmallIdeal.Update.frame_kernel, Cert.AdamSmallIdeal.Update.frame_kernelIdeal, Cert.AdamSmallIdeal.Update.frame_refIdeal,
  Cert.DwInIdeal.Grad.frame_kernel, Cert.DwInIdeal.Grad.frame_kernelIdeal, Cert.DwInIdeal.Grad.frame_refIdeal,
  Cert.DwOutConvIdeal.Grad.frame_kernel, Cert.DwOutConvIdeal.Grad.frame_kernelIdeal, Cert.DwOutConvIdeal.Grad.frame_refIdeal,
  Cert.DwOutFoxIdeal.Grad.frame_kernel, Cert.DwOutFoxIdeal.Grad.frame_kernelIdeal, Cert.DwOutFoxIdeal.Grad.frame_refIdeal,
  Cert.DwMqIdeal.Grad.frame_kernel, Cert.DwMqIdeal.Grad.frame_kernelIdeal, Cert.DwMqIdeal.Grad.frame_refIdeal,
  Cert.DwMkvIdeal.Grad.frame_kernel, Cert.DwMkvIdeal.Grad.frame_kernelIdeal, Cert.DwMkvIdeal.Grad.frame_refIdeal,
  Cert.DwMoIdeal.Grad.frame_kernel, Cert.DwMoIdeal.Grad.frame_kernelIdeal, Cert.DwMoIdeal.Grad.frame_refIdeal,
  Cert.DwGuIdeal.Grad.frame_kernel, Cert.DwGuIdeal.Grad.frame_kernelIdeal, Cert.DwGuIdeal.Grad.frame_refIdeal,
  Cert.DwDownIdeal.Grad.frame_kernel, Cert.DwDownIdeal.Grad.frame_kernelIdeal, Cert.DwDownIdeal.Grad.frame_refIdeal,
  Cert.BwdInIdeal.Back.frame_kernel, Cert.BwdInIdeal.Back.frame_kernelIdeal, Cert.BwdInIdeal.Back.frame_refIdeal,
  Cert.BwdMemIdeal.Back.frame_kernel, Cert.BwdMemIdeal.Back.frame_kernelIdeal, Cert.BwdMemIdeal.Back.frame_refIdeal,
  Cert.FwdFfnIdeal.Back.frame_kernel, Cert.FwdFfnIdeal.Back.frame_kernelIdeal, Cert.FwdFfnIdeal.Back.frame_refIdeal,
  Cert.BwdFfnIdeal.Back.frame_kernel, Cert.BwdFfnIdeal.Back.frame_kernelIdeal, Cert.BwdFfnIdeal.Back.frame_refIdeal,
  Cert.FgateBwdIdeal.Back.frame_kernel, Cert.FgateBwdIdeal.Back.frame_kernelIdeal, Cert.FgateBwdIdeal.Back.frame_refIdeal,
  Cert.MemKvIdeal.Back.frame_kernel, Cert.MemKvIdeal.Back.frame_kernelIdeal, Cert.MemKvIdeal.Back.frame_refIdeal,
  Cert.BwdMidIdeal.Back.frame_kernel, Cert.BwdMidIdeal.Back.frame_kernelIdeal, Cert.BwdMidIdeal.Back.frame_kernelIdeal_pre, Cert.BwdMidIdeal.Back.frame_refIdeal, Cert.BwdMidIdeal.Back.frame_refIdeal_pre,
  Cert.FwdMidIdeal.Back.frame_kernel, Cert.FwdMidIdeal.Back.frame_kernelIdeal, Cert.FwdMidIdeal.Back.frame_refIdeal,
  Cert.GatherIdeal.Exchange.preserves, Cert.GatherIdeal.Exchange.algebraic, Cert.GatherIdeal.Exchange.bitexact,
  Cert.SiblingIdeal.Exchange.preserves, Cert.SiblingIdeal.Exchange.algebraic, Cert.SiblingIdeal.Exchange.bitexact,
  Cert.IciIdeal.Exchange.preserves, Cert.IciIdeal.Exchange.algebraic, Cert.IciIdeal.Exchange.bitexact,
  Cert.ShareIdeal.Exchange.preserves, Cert.ShareIdeal.Exchange.algebraic, Cert.ShareIdeal.Exchange.bitexact,
  Cert.AdamIdeal.Update.preserves, Cert.AdamIdeal.Update.algebraic,
  Cert.AdamSmallIdeal.Update.preserves, Cert.AdamSmallIdeal.Update.algebraic,
  Cert.DwInIdeal.Grad.preserves, Cert.DwInIdeal.Grad.algebraic,
  Cert.DwOutConvIdeal.Grad.preserves, Cert.DwOutConvIdeal.Grad.algebraic,
  Cert.DwOutFoxIdeal.Grad.preserves, Cert.DwOutFoxIdeal.Grad.algebraic,
  Cert.DwMqIdeal.Grad.preserves, Cert.DwMqIdeal.Grad.algebraic,
  Cert.DwMkvIdeal.Grad.preserves, Cert.DwMkvIdeal.Grad.algebraic,
  Cert.DwMoIdeal.Grad.preserves, Cert.DwMoIdeal.Grad.algebraic,
  Cert.DwGuIdeal.Grad.preserves, Cert.DwGuIdeal.Grad.algebraic,
  Cert.DwDownIdeal.Grad.preserves, Cert.DwDownIdeal.Grad.algebraic,
  Cert.BwdInIdeal.Back.preserves, Cert.BwdInIdeal.Back.algebraic,
  Cert.BwdMemIdeal.Back.preserves, Cert.BwdMemIdeal.Back.algebraic,
  Cert.FwdFfnIdeal.Back.preserves, Cert.FwdFfnIdeal.Back.algebraic,
  Cert.BwdFfnIdeal.Back.preserves, Cert.BwdFfnIdeal.Back.algebraic,
  Cert.FgateBwdIdeal.Back.preserves, Cert.FgateBwdIdeal.Back.algebraic,
  Cert.MemKvIdeal.Back.preserves, Cert.MemKvIdeal.Back.algebraic,
  Cert.BwdMidIdeal.Back.preserves, Cert.BwdMidIdeal.Back.algebraic,
  Cert.FwdMidIdeal.Back.preserves, Cert.FwdMidIdeal.Back.algebraic⟩

end Cert.Proof

end
